-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_on_latent_rows_pre_finite_queries_and_keys [hKernelIdeal : Cert.KernelIdeal.Facts] [hReferenceIdeal : Cert.ReferenceIdeal.Facts] [hPre_finite_queries_and_keys : Cert.Pre_finite_queries_and_keys.Facts] [hOn_latent_rows : Cert.On_latent_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8704, 4096]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v5) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8704, 4096]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.ReferenceIdeal.nD Cert.ReferenceIdeal.τ).loc Cert.ReferenceIdeal.main_v65) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v11) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_queries_and_keys : Cert.Pre_finite_queries_and_keys.Facts) (hOn_latent_rows : Cert.On_latent_rows.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_on_latent_rows_pre_finite_queries_and_keys (hKernelIdeal := hKernelIdeal) (hReferenceIdeal := hReferenceIdeal) (hPre_finite_queries_and_keys := hPre_finite_queries_and_keys) (hOn_latent_rows := hOn_latent_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== On_latent_rows.lean ====
abbrev S8704x12288 : Shape := ⟨2, ![8704, 12288]⟩
abbrev S128 : Shape := ⟨1, ![128]⟩
abbrev S256 : Shape := ⟨1, ![256]⟩
abbrev S8704x4096 : Shape := ⟨2, ![8704, 4096]⟩
abbrev S_ : Shape := ⟨0, ![]⟩

class Facts : Prop where
  bcast_S_S8704x4096 : S_.BroadcastsInDim S8704x4096 (![] : Fin 0 → Fin S8704x4096.rank)

variable [Facts]

def fn {F : FTy → Type} [FloatOps F] (main_arg0 : FVec F S8704x12288 .bf16) (main_arg1 : FVec F S128 .f32) (main_arg2 : FVec F S128 .f32) (main_arg3 : FVec F S128 .f32) (main_arg4 : FVec F S128 .f32) (main_arg5 : FVec F S256 .f32) : IVec S8704x4096 1 :=
  let main_v0 : IVec S8704x4096 32 := iotaInDim S8704x4096 32 0
  let main_c : IVec S_ 32 := constantI S_ 32 8192#32
  let main_v1 : IVec S8704x4096 32 := broadcastInDim S8704x4096 ![] bcast_S_S8704x4096 main_c
  let main_v2 : IVec S8704x4096 1 := cmpi .slt main_v0 main_v1
  main_v2
-- ==== Pre_finite_queries_and_keys.lean ====
abbrev S8704x12288 : Shape := ⟨2, ![8704, 12288]⟩
abbrev S128 : Shape := ⟨1, ![128]⟩
abbrev S256 : Shape := ⟨1, ![256]⟩
abbrev S8704x8192 : Shape := ⟨2, ![8704, 8192]⟩
abbrev S_ : Shape := ⟨0, ![]⟩

class Facts : Prop where
  slices_S8704x12288_S8704x8192_0_0 : S8704x12288.Slices ![0, 0] S8704x8192
  bitsLt_bf16_f32 : FTy.bits .bf16 < FTy.bits .f32
  bcast_S_S8704x8192 : S_.BroadcastsInDim S8704x8192 (![] : Fin 0 → Fin S8704x8192.rank)

variable [Facts]

def fn {F : FTy → Type} [FloatOps F] (main_arg0 : FVec F S8704x12288 .bf16) (main_arg1 : FVec F S128 .f32) (main_arg2 : FVec F S128 .f32) (main_arg3 : FVec F S128 .f32) (main_arg4 : FVec F S128 .f32) (main_arg5 : FVec F S256 .f32) : IVec S8704x8192 1 :=
  let main_v0 : FVec F S8704x8192 .bf16 := (extractStridedSlice S8704x8192 ![0, 0] · slices_S8704x12288_S8704x8192_0_0) main_arg0
  let main_v1 : FVec F S8704x8192 .f32 := (extf .f32 · bitsLt_bf16_f32) main_v0
  let main_v2 : FVec F S8704x8192 .f32 := Host.absf main_v1
  let main_cst : FVec F S_ .f32 := constant S_ .f32 0x7F800000#32
  let main_v3 : FVec F S8704x8192 .f32 := broadcastInDim S8704x8192 ![] bcast_S_S8704x8192 main_cst
  let main_v4 : IVec S8704x8192 1 := cmpf .olt main_v2 main_v3
  main_v4
-- ==== Kernel.lean ====
abbrev S8704x12288 : Shape := ⟨2, ![8704, 12288]⟩
abbrev S128 : Shape := ⟨1, ![128]⟩
abbrev S256 : Shape := ⟨1, ![256]⟩
abbrev S1x128 : Shape := ⟨2, ![1, 128]⟩
abbrev S1x256 : Shape := ⟨2, ![1, 256]⟩
abbrev S8704x4096 : Shape := ⟨2, ![8704, 4096]⟩
abbrev S1024x256 : Shape := ⟨2, ![1024, 256]⟩
abbrev S4096x256 : Shape := ⟨2, ![4096, 256]⟩
abbrev S256x256 : Shape := ⟨2, ![256, 256]⟩
abbrev S2x1024x4352 : Shape := ⟨3, ![2, 1024, 4352]⟩
abbrev S1 : Shape := ⟨1, ![1]⟩
abbrev S1x1 : Shape := ⟨2, ![1, 1]⟩
abbrev S256x128 : Shape := ⟨2, ![256, 128]⟩
abbrev S256x1 : Shape := ⟨2, ![256, 1]⟩
abbrev S1024x128 : Shape := ⟨2, ![1024, 128]⟩
abbrev S256x1024 : Shape := ⟨2, ![256, 1024]⟩
abbrev S1x256x1024 : Shape := ⟨3, ![1, 256, 1024]⟩
abbrev S1x256x256 : Shape := ⟨3, ![1, 256, 256]⟩

abbrev nBuf : Space → Nat
  | .hbm => 12
  | .vmem => 18
  | .smem => 0
  | _ => 0

abbrev bufTy : (tb : Table) → Fin (tcTables nBuf tb) → BufTy
  | .hbm, ⟨0, _⟩ => ⟨S8704x12288, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S1x256, .f32⟩
  | .hbm, ⟨11, _⟩ => ⟨S8704x4096, .bf16⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x256, .f32⟩
  | .local _ .vmem, ⟨5, _⟩ => ⟨S1024x256, .bf16⟩
  | .local _ .vmem, ⟨6, _⟩ => ⟨S1024x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S1024x256, .bf16⟩
  | .local _ .vmem, ⟨16, _⟩ => ⟨S1024x256, .bf16⟩
  | .local _ .vmem, ⟨17, _⟩ => ⟨S2x1024x4352, .f32⟩
  | _, _ => ⟨S8704x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c16_i32 : BitVec 32 := 16#32
  let v1 : BitVec 32 := Scalar.addi c16_i32 arg1
  let c0_i32 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c32_i32_0 : BitVec 32 := 32#32
  let v1 : BitVec 32 := Scalar.addi c32_i32_0 arg1
  let c0_i32 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S8704x12288 : Shape := ⟨2, ![8704, 12288]⟩
abbrev S128 : Shape := ⟨1, ![128]⟩
abbrev S256 : Shape := ⟨1, ![256]⟩
abbrev S8192x12288 : Shape := ⟨2, ![8192, 12288]⟩
abbrev S2x4096x12288 : Shape := ⟨3, ![2, 4096, 12288]⟩
abbrev S512x12288 : Shape := ⟨2, ![512, 12288]⟩
abbrev S2x256x12288 : Shape := ⟨3, ![2, 256, 12288]⟩
abbrev S2x4096x4096 : Shape := ⟨3, ![2, 4096, 4096]⟩
abbrev S2x4096x16x2x128 : Shape := ⟨5, ![2, 4096, 16, 2, 128]⟩
abbrev S2x256x4096 : Shape := ⟨3, ![2, 256, 4096]⟩
abbrev S2x4352x4096 : Shape := ⟨3, ![2, 4352, 4096]⟩
abbrev S2x4352x16x2x128 : Shape := ⟨5, ![2, 4352, 16, 2, 128]⟩
abbrev S2x4352x16x256 : Shape := ⟨4, ![2, 4352, 16, 256]⟩
abbrev S_ : Shape := ⟨0, ![]⟩
abbrev S2x16x2x4096x4352 : Shape := ⟨5, ![2, 16, 2, 4096, 4352]⟩
abbrev S2x16x2x4096 : Shape := ⟨4, ![2, 16, 2, 4096]⟩
abbrev S2x16x2x4096x1 : Shape := ⟨5, ![2, 16, 2, 4096, 1]⟩
abbrev S2x16x1x4096x4352 : Shape := ⟨5, ![2, 16, 1, 4096, 4352]⟩
abbrev S2x16x4096x4352 : Shape := ⟨4, ![2, 16, 4096, 4352]⟩
abbrev S2x16x256x4096 : Shape := ⟨4, ![2, 16, 256, 4096]⟩
abbrev S2x4096x16x256 : Shape := ⟨4, ![2, 4096, 16, 256]⟩
abbrev S2x4096x16 : Shape := ⟨3, ![2, 4096, 16]⟩
abbrev S2x4096x16x1 : Shape := ⟨4, ![2, 4096, 16, 1]⟩
abbrev S1x1x1x256 : Shape := ⟨4, ![1, 1, 1, 256]⟩
abbrev S8192x4096 : Shape := ⟨2, ![8192, 4096]⟩
abbrev S512x4096 : Shape := ⟨2, ![512, 4096]⟩
abbrev S8704x4096 : Shape := ⟨2, ![8704, 4096]⟩

abbrev nBuf : Space → Nat
  | .hbm => 84
  | .vmem => 0
  | .smem => 0
  | _ => 0

abbrev bufTy : (tb : Table) → Fin (tcTables nBuf tb) → BufTy
  | .hbm, ⟨0, _⟩ => ⟨S8704x12288, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256, .f32⟩
  | .hbm, ⟨6, _⟩ => ⟨S8704x12288, .f32⟩
  | .hbm, ⟨7, _⟩ => ⟨S8192x12288, .f32⟩
  | .hbm, ⟨8, _⟩ => ⟨S2x4096x12288, .f32⟩
  | .hbm, ⟨9, _⟩ => ⟨S512x12288, .f32⟩
  | .hbm, ⟨10, _⟩ => ⟨S2x256x12288, .f32⟩
  | .hbm, ⟨11, _⟩ => ⟨S2x4096x4096, .f32⟩
  | .hbm, ⟨12, _⟩ => ⟨S2x4096x16x2x128, .f32⟩
  | .hbm, ⟨13, _⟩ => ⟨S2x4096x4096, .f32⟩
  | .hbm, ⟨14, _⟩ => ⟨S2x256x4096, .f32⟩
  | .hbm, ⟨15, _⟩ => ⟨S2x4352x4096, .f32⟩
  | .hbm, ⟨16, _⟩ => ⟨S2x4352x16x2x128, .f32⟩
  | .hbm, ⟨17, _⟩ => ⟨S2x4096x4096, .f32⟩
  | .hbm, ⟨18, _⟩ => ⟨S2x256x4096, .f32⟩
  | .hbm, ⟨19, _⟩ => ⟨S2x4352x4096, .f32⟩
  | .hbm, ⟨20, _⟩ => ⟨S2x4352x16x256, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x16x2x4096x4352, .f32⟩
  | .hbm, ⟨33, _⟩ => ⟨S_, .f32⟩
  | .hbm, ⟨34, _⟩ => ⟨S_, .f32⟩
  | .hbm, ⟨35, _⟩ => ⟨S2x16x2x4096x4352, .f32⟩
  | .hbm, ⟨36, _⟩ => ⟨S2x16x2x4096x4352, .f32⟩
  | .hbm, ⟨37, _⟩ => ⟨S_, .f32⟩
  | .hbm, ⟨38, _⟩ => ⟨S2x16x2x4096, .f32⟩
  | .hbm, ⟨39, _⟩ => ⟨S_, .f32⟩
  | .hbm, ⟨40, _⟩ => ⟨S2x16x2x4096, .f32⟩
  | .hbm, ⟨41, _⟩ => ⟨S2x16x2x4096, .f32⟩
  | .hbm, ⟨42, _⟩ => ⟨S2x16x2x4096x1, .f32⟩
  | .hbm, ⟨43, _⟩ => ⟨S2x16x2x4096x4352, .f32⟩
  | .hbm, ⟨44, _⟩ => ⟨S2x16x2x4096x4352, .f32⟩
  | .hbm, ⟨45, _⟩ => ⟨S2x16x2x4096x4352, .f32⟩
  | .hbm, ⟨46, _⟩ => ⟨S_, .f32⟩
  | .hbm, ⟨47, _⟩ => ⟨S2x16x2x4096, .f32⟩
  | .hbm, ⟨48, _⟩ => ⟨S2x16x2x4096x1, .f32⟩
  | .hbm, ⟨49, _⟩ => ⟨S2x16x2x4096x4352, .f32⟩
  | .hbm, ⟨50, _⟩ => ⟨S2x16x2x4096x4352, .f32⟩
  | .hbm, ⟨51, _⟩ => ⟨S2x16x1x4096x4352, .f32⟩
  | .hbm, ⟨52, _⟩ => ⟨S2x16x4096x4352, .f32⟩
  | .hbm, ⟨53, _⟩ => ⟨S2x16x1x4096x4352, .f32⟩
  | .hbm, ⟨54, _⟩ => ⟨S2x16x4096x4352, .f32⟩
  | .hbm, ⟨55, _⟩ => ⟨S2x16x4096x4352, .f32⟩
  | .hbm, ⟨56, _⟩ => ⟨S2x16x4096x4352, .f32⟩
  | .hbm, ⟨57, _⟩ => ⟨S2x16x4096x4352, .f32⟩
  | .hbm, ⟨58, _⟩ => ⟨S2x16x256x4096, .f32⟩
  | .hbm, ⟨59, _⟩ => ⟨S2x4096x16x256, .f32⟩
  | .hbm, ⟨60, _⟩ => ⟨S2x4096x16x256, .f32⟩
  | .hbm, ⟨61, _⟩ => ⟨S_, .f32⟩
  | .hbm, ⟨62, _⟩ => ⟨S2x4096x16, .f32⟩
  | .hbm, ⟨63, _⟩ => ⟨S2x4096x16x1, .f32⟩
  | .hbm, ⟨64, _⟩ => ⟨S_, .f32⟩
  | .hbm, ⟨65, _⟩ => ⟨S2x4096x16x1, .f32⟩
  | .hbm, ⟨66, _⟩ => ⟨S2x4096x16x1, .f32⟩
  | .hbm, ⟨67, _⟩ => ⟨S_, .f32⟩
  | .hbm, ⟨68, _⟩ => ⟨S2x4096x16x1, .f32⟩
  | .hbm, ⟨69, _⟩ => ⟨S2x4096x16x1, .f32⟩
  | .hbm, ⟨70, _⟩ => ⟨S2x4096x16x1, .f32⟩
  | .hbm, ⟨71, _⟩ => ⟨S2x4096x16x256, .f32⟩
  | .hbm, ⟨72, _⟩ => ⟨S2x4096x16x256, .f32⟩
  | .hbm, ⟨73, _⟩ => ⟨S1x1x1x256, .f32⟩
  | .hbm, ⟨74, _⟩ => ⟨S2x4096x16x256, .f32⟩
  | .hbm, ⟨75, _⟩ => ⟨S2x4096x16x256, .f32⟩
  | .hbm, ⟨76, _⟩ => ⟨S_, .f32⟩
  | .hbm, ⟨77, _⟩ => ⟨S2x4096x16x256, .f32⟩
  | .hbm, ⟨78, _⟩ => ⟨S2x4096x16x256, .f32⟩
  | .hbm, ⟨79, _⟩ => ⟨S8192x4096, .f32⟩
  | .hbm, ⟨80, _⟩ => ⟨S8192x4096, .bf16⟩
  | .hbm, ⟨81, _⟩ => ⟨S_, .bf16⟩
  | .hbm, ⟨82, _⟩ => ⟨S512x4096, .bf16⟩
  | .hbm, ⟨83, _⟩ => ⟨S8704x4096, .bf16⟩
  | _, _ => ⟨S8704x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel2.lean ====
abbrev S8704x4096 : Shape := ⟨2, ![8704, 4096]⟩
abbrev S2x8x4096x2048 : Shape := ⟨4, ![2, 8, 4096, 2048]⟩
abbrev S8704x128 : Shape := ⟨2, ![8704, 128]⟩
abbrev S8704x16384 : Shape := ⟨2, ![8704, 16384]⟩
abbrev S1088x4096 : Shape := ⟨2, ![1088, 4096]⟩
abbrev S1x1x512x512 : Shape := ⟨4, ![1, 1, 512, 512]⟩
abbrev S1088x128 : Shape := ⟨2, ![1088, 128]⟩
abbrev S1088x512 : Shape := ⟨2, ![1088, 512]⟩
abbrev S2x4096x512 : Shape := ⟨3, ![2, 4096, 512]⟩
abbrev S512x512 : Shape := ⟨2, ![512, 512]⟩
abbrev S1x512x512 : Shape := ⟨3, ![1, 512, 512]⟩
abbrev S544x4096 : Shape := ⟨2, ![544, 4096]⟩
abbrev S1x4096x512 : Shape := ⟨3, ![1, 4096, 512]⟩
abbrev S4096x512 : Shape := ⟨2, ![4096, 512]⟩
abbrev S544x512 : Shape := ⟨2, ![544, 512]⟩
abbrev S544x128 : Shape := ⟨2, ![544, 128]⟩
abbrev S544 : Shape := ⟨1, ![544]⟩
abbrev S544x1 : Shape := ⟨2, ![544, 1]⟩

abbrev nBuf : Space → Nat
  | .hbm => 5
  | .vmem => 12
  | .smem => 0
  | _ => 0

abbrev bufTy : (tb : Table) → Fin (tcTables nBuf tb) → BufTy
  | .hbm, ⟨0, _⟩ => ⟨S8704x4096, .bf16⟩
  | .hbm, ⟨1, _⟩ => ⟨S2x8x4096x2048, .f32⟩
  | .hbm, ⟨2, _⟩ => ⟨S2x8x4096x2048, .f32⟩
  | .hbm, ⟨3, _⟩ => ⟨S8704x128, .f32⟩
  | .hbm, ⟨4, _⟩ => ⟨S8704x16384, .bf16⟩
  | .local _ .vmem, ⟨0, _⟩ => ⟨S1088x4096, .bf16⟩
  | .local _ .vmem, ⟨1, _⟩ => ⟨S1088x4096, .bf16⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1088x128, .f32⟩
  | .local _ .vmem, ⟨7, _⟩ => ⟨S1088x128, .f32⟩
  | .local _ .vmem, ⟨8, _⟩ => ⟨S1088x512, .bf16⟩
  | .local _ .vmem, ⟨9, _⟩ => ⟨S1088x512, .bf16⟩
  | .local _ .vmem, ⟨10, _⟩ => ⟨S2x4096x512, .bf16⟩
  | .local _ .vmem, ⟨11, _⟩ => ⟨S2x4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![33, 8], ![false, false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c512_i32 : BitVec 32 := 512#32
  let v22 : BitVec 32 := Scalar.muli arg1 c512_i32
  v22
def k0_off1 (i : grid0.Coords) : Fin 3 → Nat :=
  let arg0 : BitVec 32 := BitVec.ofNat 32 (i 0).val
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v24 : Index := Scalar.indexCast v21
  let arg1 : BitVec 32 := BitVec.ofNat 32 (i 1).val
  let c512_i32 : BitVec 32 := 512#32
  let v22 : BitVec 32 := Scalar.muli arg1 c512_i32
  let v23 : BitVec 32 := v22
  let v25 : Index := Scalar.indexCast v23
  let c0_11 : Index := 0#32
  ![v24.toNat, v25.toNat, 0]
def k0_cond2 (i : grid0.Coords) : BitVec 1 :=
  let arg0 : BitVec 32 := BitVec.ofNat 32 (i 0).val
  let c32_i32_0 : BitVec 32 := 32#32
  let v3 : BitVec 1 := Scalar.cmpi .slt arg0 c32_i32_0
  let v4 : BitVec 32 := Scalar.extui v3
  let c0_i32_1 : BitVec 32 := 0#32
  let v5 : BitVec 1 := Scalar.cmpi .ne v4 c0_i32_1
  v5

def k0_mult2 (i : grid0.Coords) : BitVec 32 :=
  let arg1 : BitVec 32 := BitVec.ofNat 32 (i 1).val
  let c512_i32 : BitVec 32 := 512#32
  let v22 : BitVec 32 := Scalar.muli arg1 c512_i32
  v22
def k0_off2 (i : grid0.Coords) : Fin 3 → Nat :=
  let arg0 : BitVec 32 := BitVec.ofNat 32 (i 0).val
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v24 : Index := Scalar.indexCast v21
  let arg1 : BitVec 32 := BitVec.ofNat 32 (i 1).val
  let c512_i32 : BitVec 32 := 512#32
  let v22 : BitVec 32 := Scalar.muli arg1 c512_i32
  let v23 : BitVec 32 := v22
  let v25 : Index := Scalar.indexCast v23
  let c0_11 : Index := 0#32
  ![v24.toNat, v25.toNat, 0]
def k0_cond3 (i : grid0.Coords) : BitVec 1 :=
  let arg0 : BitVec 32 := BitVec.ofNat 32 (i 0).val
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .ne v7 c0_i32_3
  v8

def k0_off3 (i : grid0.Coords) : Fin 3 → Nat :=
  let arg0 : BitVec 32 := BitVec.ofNat 32 (i 0).val
  let c1_i32 : BitVec 32 := 1#32
  let v9 : BitVec 32 := Scalar.subi arg0 c1_i32
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v31 : Index := Scalar.indexCast v19
  let c0_16 : Index := 0#32
  let c0_17 : Index := 0#32
  ![v31.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![c0_i32_11.toNat, v17.toNat, arg1.toNat, v28.toNat]

def cc0_transform_2 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![c0_i32_11.toNat, v17.toNat, arg1.toNat, v28.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8704x4096 : Shape := ⟨2, ![8704, 4096]⟩
abbrev S2x8x4096x2048 : Shape := ⟨4, ![2, 8, 4096, 2048]⟩
abbrev S8704x128 : Shape := ⟨2, ![8704, 128]⟩
abbrev S1x8x4096x2048 : Shape := ⟨4, ![1, 8, 4096, 2048]⟩
abbrev S8x4096x2048 : Shape := ⟨3, ![8, 4096, 2048]⟩
abbrev S8704x8x2048 : Shape := ⟨3, ![8704, 8, 2048]⟩
abbrev S8704x8 : Shape := ⟨2, ![8704, 8]⟩
abbrev S8704x8x1 : Shape := ⟨3, ![8704, 8, 1]⟩
abbrev S_ : Shape := ⟨0, ![]⟩
abbrev S8704x16384 : Shape := ⟨2, ![8704, 16384]⟩

abbrev nBuf : Space → Nat
  | .hbm => 27
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x8x4096x2048, .f32⟩
  | .hbm, ⟨2, _⟩ => ⟨S2x8x4096x2048, .f32⟩
  | .hbm, ⟨3, _⟩ => ⟨S8704x128, .f32⟩
  | .hbm, ⟨4, _⟩ => ⟨S8704x4096, .f32⟩
  | .hbm, ⟨5, _⟩ => ⟨S1x8x4096x2048, .f32⟩
  | .hbm, ⟨6, _⟩ => ⟨S8x4096x2048, .f32⟩
  | .hbm, ⟨7, _⟩ => ⟨S8704x8x2048, .f32⟩
  | .hbm, ⟨8, _⟩ => ⟨S1x8x4096x2048, .f32⟩
  | .hbm, ⟨9, _⟩ => ⟨S8x4096x2048, .f32⟩
  | .hbm, ⟨10, _⟩ => ⟨S8704x8x2048, .f32⟩
  | .hbm, ⟨11, _⟩ => ⟨S8704x8, .f32⟩
  | .hbm, ⟨12, _⟩ => ⟨S8704x8x1, .f32⟩
  | .hbm, ⟨13, _⟩ => ⟨S8704x8x2048, .f32⟩
  | .hbm, ⟨14, _⟩ => ⟨S8704x8x2048, .f32⟩
  | .hbm, ⟨15, _⟩ => ⟨S_, .f32⟩
  | .hbm, ⟨16, _⟩ => ⟨S8704x8x2048, .f32⟩
  | .hbm, ⟨17, _⟩ => ⟨S8704x8x2048, .f32⟩
  | .hbm, ⟨18, _⟩ => ⟨S_, .f32⟩
  | .hbm, ⟨19, _⟩ => ⟨S8704x8x2048, .f32⟩
  | .hbm, ⟨20, _⟩ => ⟨S8704x8x2048, .f32⟩
  | .hbm, ⟨21, _⟩ => ⟨S8704x8x2048, .f32⟩
  | .hbm, ⟨22, _⟩ => ⟨S8704x8x2048, .f32⟩
  | .hbm, ⟨23, _⟩ => ⟨S8704x8x2048, .f32⟩
  | .hbm, ⟨24, _⟩ => ⟨S8704x8x2048, .f32⟩
  | .hbm, ⟨25, _⟩ => ⟨S8704x16384, .f32⟩
  | .hbm, ⟨26, _⟩ => ⟨S8704x16384, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Kernel3.lean ====
abbrev S8704x4096 : Shape := ⟨2, ![8704, 4096]⟩
abbrev S2x4096x8192 : Shape := ⟨3, ![2, 4096, 8192]⟩
abbrev S2x1x4096x8192 : Shape := ⟨4, ![2, 1, 4096, 8192]⟩
abbrev S8704x8192 : Shape := ⟨2, ![8704, 8192]⟩
abbrev S1088x4096 : Shape := ⟨2, ![1088, 4096]⟩
abbrev S1x1x512x512 : Shape := ⟨4, ![1, 1, 512, 512]⟩
abbrev S1088x512 : Shape := ⟨2, ![1088, 512]⟩
abbrev S2x4096x512 : Shape := ⟨3, ![2, 4096, 512]⟩
abbrev S512x512 : Shape := ⟨2, ![512, 512]⟩
abbrev S1x512x512 : Shape := ⟨3, ![1, 512, 512]⟩
abbrev S544x4096 : Shape := ⟨2, ![544, 4096]⟩
abbrev S1x4096x512 : Shape := ⟨3, ![1, 4096, 512]⟩
abbrev S4096x512 : Shape := ⟨2, ![4096, 512]⟩
abbrev S544x512 : Shape := ⟨2, ![544, 512]⟩

abbrev nBuf : Space → Nat
  | .hbm => 6
  | .vmem => 10
  | .smem => 0
  | _ => 0

abbrev bufTy : (tb : Table) → Fin (tcTables nBuf tb) → BufTy
  | .hbm, ⟨0, _⟩ => ⟨S8704x4096, .bf16⟩
  | .hbm, ⟨1, _⟩ => ⟨S2x4096x8192, .f32⟩
  | .hbm, ⟨2, _⟩ => ⟨S2x4096x8192, .f32⟩
  | .hbm, ⟨3, _⟩ => ⟨S2x1x4096x8192, .f32⟩
  | .hbm, ⟨4, _⟩ => ⟨S2x1x4096x8192, .f32⟩
  | .hbm, ⟨5, _⟩ => ⟨S8704x8192, .bf16⟩
  | .local _ .vmem, ⟨0, _⟩ => ⟨S1088x4096, .bf16⟩
  | .local _ .vmem, ⟨1, _⟩ => ⟨S1088x4096, .bf16⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1088x512, .bf16⟩
  | .local _ .vmem, ⟨7, _⟩ => ⟨S1088x512, .bf16⟩
  | .local _ .vmem, ⟨8, _⟩ => ⟨S2x4096x512, .bf16⟩
  | .local _ .vmem, ⟨9, _⟩ => ⟨S2x4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c512_i32 : BitVec 32 := 512#32
  let v22 : BitVec 32 := Scalar.muli arg1 c512_i32
  v22
def k0_off1 (i : grid0.Coords) : Fin 3 → Nat :=
  let arg0 : BitVec 32 := BitVec.ofNat 32 (i 0).val
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v24 : Index := Scalar.indexCast v21
  let arg1 : BitVec 32 := BitVec.ofNat 32 (i 1).val
  let c512_i32 : BitVec 32 := 512#32
  let v22 : BitVec 32 := Scalar.muli arg1 c512_i32
  let v23 : BitVec 32 := v22
  let v25 : Index := Scalar.indexCast v23
  let c0_11 : Index := 0#32
  ![v24.toNat, v25.toNat, 0]
def k0_cond2 (i : grid0.Coords) : BitVec 1 :=
  let arg0 : BitVec 32 := BitVec.ofNat 32 (i 0).val
  let c16_i32_0 : BitVec 32 := 16#32
  let v3 : BitVec 1 := Scalar.cmpi .slt arg0 c16_i32_0
  let v4 : BitVec 32 := Scalar.extui v3
  let c0_i32_1 : BitVec 32 := 0#32
  let v5 : BitVec 1 := Scalar.cmpi .ne v4 c0_i32_1
  v5

def k0_mult2 (i : grid0.Coords) : BitVec 32 :=
  let arg1 : BitVec 32 := BitVec.ofNat 32 (i 1).val
  let c512_i32 : BitVec 32 := 512#32
  let v22 : BitVec 32 := Scalar.muli arg1 c512_i32
  v22
def k0_off2 (i : grid0.Coords) : Fin 3 → Nat :=
  let arg0 : BitVec 32 := BitVec.ofNat 32 (i 0).val
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v24 : Index := Scalar.indexCast v21
  let arg1 : BitVec 32 := BitVec.ofNat 32 (i 1).val
  let c512_i32 : BitVec 32 := 512#32
  let v22 : BitVec 32 := Scalar.muli arg1 c512_i32
  let v23 : BitVec 32 := v22
  let v25 : Index := Scalar.indexCast v23
  let c0_11 : Index := 0#32
  ![v24.toNat, v25.toNat, 0]
def k0_cond3 (i : grid0.Coords) : BitVec 1 :=
  let arg0 : BitVec 32 := BitVec.ofNat 32 (i 0).val
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .ne v7 c0_i32_3
  v8

def k0_off3 (i : grid0.Coords) : Fin 3 → Nat :=
  let arg0 : BitVec 32 := BitVec.ofNat 32 (i 0).val
  let c1_i32 : BitVec 32 := 1#32
  let v9 : BitVec 32 := Scalar.subi arg0 c1_i32
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v31 : Index := Scalar.indexCast v19
  let c0_16 : Index := 0#32
  let c0_17 : Index := 0#32
  ![v31.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![c0_i32_11.toNat, v17.toNat, arg1.toNat, v28.toNat]

def cc0_transform_2 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![c0_i32_11.toNat, v17.toNat, arg1.toNat, v28.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8704x4096 : Shape := ⟨2, ![8704, 4096]⟩
abbrev S2x4096x8192 : Shape := ⟨3, ![2, 4096, 8192]⟩
abbrev S1x4096x8192 : Shape := ⟨3, ![1, 4096, 8192]⟩
abbrev S4096x8192 : Shape := ⟨2, ![4096, 8192]⟩
abbrev S8704x8192 : Shape := ⟨2, ![8704, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x8192, .f32⟩
  | .hbm, ⟨2, _⟩ => ⟨S2x4096x8192, .f32⟩
  | .hbm, ⟨3, _⟩ => ⟨S8704x4096, .f32⟩
  | .hbm, ⟨4, _⟩ => ⟨S1x4096x8192, .f32⟩
  | .hbm, ⟨5, _⟩ => ⟨S4096x8192, .f32⟩
  | .hbm, ⟨6, _⟩ => ⟨S8704x8192, .f32⟩
  | .hbm, ⟨7, _⟩ => ⟨S8704x8192, .f32⟩
  | .hbm, ⟨8, _⟩ => ⟨S8704x8192, .f32⟩
  | .hbm, ⟨9, _⟩ => ⟨S_, .f32⟩
  | .hbm, ⟨10, _⟩ => ⟨S8704x8192, .f32⟩
  | .hbm, ⟨11, _⟩ => ⟨S8704x8192, .f32⟩
  | .hbm, ⟨12, _⟩ => ⟨S_, .f32⟩
  | .hbm, ⟨13, _⟩ => ⟨S8704x8192, .f32⟩
  | .hbm, ⟨14, _⟩ => ⟨S8704x8192, .f32⟩
  | .hbm, ⟨15, _⟩ => ⟨S8704x8192, .f32⟩
  | .hbm, ⟨16, _⟩ => ⟨S1x4096x8192, .f32⟩
  | .hbm, ⟨17, _⟩ => ⟨S4096x8192, .f32⟩
  | .hbm, ⟨18, _⟩ => ⟨S8704x8192, .f32⟩
  | .hbm, ⟨19, _⟩ => ⟨S8704x8192, .f32⟩
  | .hbm, ⟨20, _⟩ => ⟨S8704x8192, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel4.lean ====
abbrev S8192x4096 : Shape := ⟨2, ![8192, 4096]⟩
abbrev S2x8x4096x2048 : Shape := ⟨4, ![2, 8, 4096, 2048]⟩
abbrev S8192x128 : Shape := ⟨2, ![8192, 128]⟩
abbrev S8192x16384 : Shape := ⟨2, ![8192, 16384]⟩
abbrev S1024x4096 : Shape := ⟨2, ![1024, 4096]⟩
abbrev S1x1x512x512 : Shape := ⟨4, ![1, 1, 512, 512]⟩
abbrev S1024x128 : Shape := ⟨2, ![1024, 128]⟩
abbrev S1024x512 : Shape := ⟨2, ![1024, 512]⟩
abbrev S2x4096x512 : Shape := ⟨3, ![2, 4096, 512]⟩
abbrev S512x512 : Shape := ⟨2, ![512, 512]⟩
abbrev S1x512x512 : Shape := ⟨3, ![1, 512, 512]⟩
abbrev S512x4096 : Shape := ⟨2, ![512, 4096]⟩
abbrev S1x4096x512 : Shape := ⟨3, ![1, 4096, 512]⟩
abbrev S4096x512 : Shape := ⟨2, ![4096, 512]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S2x8x4096x2048, .f32⟩
  | .hbm, ⟨2, _⟩ => ⟨S2x8x4096x2048, .f32⟩
  | .hbm, ⟨3, _⟩ => ⟨S8192x128, .f32⟩
  | .hbm, ⟨4, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | .local _ .vmem, ⟨10, _⟩ => ⟨S2x4096x512, .bf16⟩
  | .local _ .vmem, ⟨11, _⟩ => ⟨S2x4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![33, 8], ![false, false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c512_i32 : BitVec 32 := 512#32
  let v22 : BitVec 32 := Scalar.muli arg1 c512_i32
  v22
def k0_off1 (i : grid0.Coords) : Fin 3 → Nat :=
  let arg0 : BitVec 32 := BitVec.ofNat 32 (i 0).val
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v24 : Index := Scalar.indexCast v21
  let arg1 : BitVec 32 := BitVec.ofNat 32 (i 1).val
  let c512_i32 : BitVec 32 := 512#32
  let v22 : BitVec 32 := Scalar.muli arg1 c512_i32
  let v23 : BitVec 32 := v22
  let v25 : Index := Scalar.indexCast v23
  let c0_11 : Index := 0#32
  ![v24.toNat, v25.toNat, 0]
def k0_cond2 (i : grid0.Coords) : BitVec 1 :=
  let arg0 : BitVec 32 := BitVec.ofNat 32 (i 0).val
  let c32_i32_0 : BitVec 32 := 32#32
  let v3 : BitVec 1 := Scalar.cmpi .slt arg0 c32_i32_0
  let v4 : BitVec 32 := Scalar.extui v3
  let c0_i32_1 : BitVec 32 := 0#32
  let v5 : BitVec 1 := Scalar.cmpi .ne v4 c0_i32_1
  v5

def k0_mult2 (i : grid0.Coords) : BitVec 32 :=
  let arg1 : BitVec 32 := BitVec.ofNat 32 (i 1).val
  let c512_i32 : BitVec 32 := 512#32
  let v22 : BitVec 32 := Scalar.muli arg1 c512_i32
  v22
def k0_off2 (i : grid0.Coords) : Fin 3 → Nat :=
  let arg0 : BitVec 32 := BitVec.ofNat 32 (i 0).val
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v24 : Index := Scalar.indexCast v21
  let arg1 : BitVec 32 := BitVec.ofNat 32 (i 1).val
  let c512_i32 : BitVec 32 := 512#32
  let v22 : BitVec 32 := Scalar.muli arg1 c512_i32
  let v23 : BitVec 32 := v22
  let v25 : Index := Scalar.indexCast v23
  let c0_11 : Index := 0#32
  ![v24.toNat, v25.toNat, 0]
def k0_cond3 (i : grid0.Coords) : BitVec 1 :=
  let arg0 : BitVec 32 := BitVec.ofNat 32 (i 0).val
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .ne v7 c0_i32_3
  v8

def k0_off3 (i : grid0.Coords) : Fin 3 → Nat :=
  let arg0 : BitVec 32 := BitVec.ofNat 32 (i 0).val
  let c1_i32 : BitVec 32 := 1#32
  let v9 : BitVec 32 := Scalar.subi arg0 c1_i32
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v31 : Index := Scalar.indexCast v19
  let c0_16 : Index := 0#32
  let c0_17 : Index := 0#32
  ![v31.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let c0_i32_12 : BitVec 32 := 0#32
  ![c1_i32_11.toNat, v17.toNat, arg1.toNat, v28.toNat]

def cc0_transform_2 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let c0_i32_12 : BitVec 32 := 0#32
  ![c1_i32_11.toNat, v17.toNat, arg1.toNat, v28.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x4096 : Shape := ⟨2, ![8192, 4096]⟩
abbrev S2x8x4096x2048 : Shape := ⟨4, ![2, 8, 4096, 2048]⟩
abbrev S8192x128 : Shape := ⟨2, ![8192, 128]⟩
abbrev S1x8x4096x2048 : Shape := ⟨4, ![1, 8, 4096, 2048]⟩
abbrev S8x4096x2048 : Shape := ⟨3, ![8, 4096, 2048]⟩
abbrev S8192x8x2048 : Shape := ⟨3, ![8192, 8, 2048]⟩
abbrev S8192x8 : Shape := ⟨2, ![8192, 8]⟩
abbrev S8192x8x1 : Shape := ⟨3, ![8192, 8, 1]⟩
abbrev S_ : Shape := ⟨0, ![]⟩
abbrev S8192x16384 : Shape := ⟨2, ![8192, 16384]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x8x4096x2048, .f32⟩
  | .hbm, ⟨2, _⟩ => ⟨S2x8x4096x2048, .f32⟩
  | .hbm, ⟨3, _⟩ => ⟨S8192x128, .f32⟩
  | .hbm, ⟨4, _⟩ => ⟨S8192x4096, .f32⟩
  | .hbm, ⟨5, _⟩ => ⟨S1x8x4096x2048, .f32⟩
  | .hbm, ⟨6, _⟩ => ⟨S8x4096x2048, .f32⟩
  | .hbm, ⟨7, _⟩ => ⟨S8192x8x2048, .f32⟩
  | .hbm, ⟨8, _⟩ => ⟨S1x8x4096x2048, .f32⟩
  | .hbm, ⟨9, _⟩ => ⟨S8x4096x2048, .f32⟩
  | .hbm, ⟨10, _⟩ => ⟨S8192x8x2048, .f32⟩
  | .hbm, ⟨11, _⟩ => ⟨S8192x8, .f32⟩
  | .hbm, ⟨12, _⟩ => ⟨S8192x8x1, .f32⟩
  | .hbm, ⟨13, _⟩ => ⟨S8192x8x2048, .f32⟩
  | .hbm, ⟨14, _⟩ => ⟨S8192x8x2048, .f32⟩
  | .hbm, ⟨15, _⟩ => ⟨S_, .f32⟩
  | .hbm, ⟨16, _⟩ => ⟨S8192x8x2048, .f32⟩
  | .hbm, ⟨17, _⟩ => ⟨S8192x8x2048, .f32⟩
  | .hbm, ⟨18, _⟩ => ⟨S_, .f32⟩
  | .hbm, ⟨19, _⟩ => ⟨S8192x8x2048, .f32⟩
  | .hbm, ⟨20, _⟩ => ⟨S8192x8x2048, .f32⟩
  | .hbm, ⟨21, _⟩ => ⟨S8192x8x2048, .f32⟩
  | .hbm, ⟨22, _⟩ => ⟨S8192x8x2048, .f32⟩
  | .hbm, ⟨23, _⟩ => ⟨S8192x8x2048, .f32⟩
  | .hbm, ⟨24, _⟩ => ⟨S8192x8x2048, .f32⟩
  | .hbm, ⟨25, _⟩ => ⟨S8192x16384, .f32⟩
  | .hbm, ⟨26, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Kernel5.lean ====
abbrev S8192x16384 : Shape := ⟨2, ![8192, 16384]⟩
abbrev S2x8x2048x4096 : Shape := ⟨4, ![2, 8, 2048, 4096]⟩
abbrev S8192x4096 : Shape := ⟨2, ![8192, 4096]⟩
abbrev S8x24576 : Shape := ⟨2, ![8, 24576]⟩
abbrev S2x16384x4096 : Shape := ⟨3, ![2, 16384, 4096]⟩
abbrev S1024x4096 : Shape := ⟨2, ![1024, 4096]⟩
abbrev S1x1024x512 : Shape := ⟨3, ![1, 1024, 512]⟩
abbrev S1024x512 : Shape := ⟨2, ![1024, 512]⟩
abbrev S8x512 : Shape := ⟨2, ![8, 512]⟩
abbrev S2x4096x512 : Shape := ⟨3, ![2, 4096, 512]⟩
abbrev S4096x512 : Shape := ⟨2, ![4096, 512]⟩
abbrev S512x4096 : Shape := ⟨2, ![512, 4096]⟩
abbrev S1x4096x512 : Shape := ⟨3, ![1, 4096, 512]⟩
abbrev S512x512 : Shape := ⟨2, ![512, 512]⟩
abbrev S512x1 : Shape := ⟨2, ![512, 1]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x16384, .bf16⟩
  | .hbm, ⟨1, _⟩ => ⟨S2x8x2048x4096, .f32⟩
  | .hbm, ⟨2, _⟩ => ⟨S8192x4096, .f32⟩
  | .hbm, ⟨3, _⟩ => ⟨S8x24576, .f32⟩
  | .hbm, ⟨4, _⟩ => ⟨S2x16384x4096, .f32⟩
  | .hbm, ⟨5, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x512, .f32⟩
  | .local _ .vmem, ⟨3, _⟩ => ⟨S1x1024x512, .f32⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | .local _ .vmem, ⟨10, _⟩ => ⟨S2x4096x512, .bf16⟩
  | .local _ .vmem, ⟨11, _⟩ => ⟨S4096x512, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 33, 4], ![false, false, false]⟩

def k0_cond1 (i : grid0.Coords) : BitVec 1 :=
  let arg1 : BitVec 32 := BitVec.ofNat 32 (i 1).val
  let c32_i32 : BitVec 32 := 32#32
  let v0 : BitVec 1 := Scalar.cmpi .slt arg1 c32_i32
  let v1 : BitVec 32 := Scalar.extui v0
  let c0_i32 : BitVec 32 := 0#32
  let v2 : BitVec 1 := Scalar.cmpi .ne v1 c0_i32
  v2

def k0_mult1 (i : grid0.Coords) : BitVec 32 :=
  let arg2 : BitVec 32 := BitVec.ofNat 32 (i 2).val
  let c1024_i32 : BitVec 32 := 1024#32
  let v19 : BitVec 32 := Scalar.muli arg2 c1024_i32
  v19
def k0_off1 (i : grid0.Coords) : Fin 3 → Nat :=
  let arg1 : BitVec 32 := BitVec.ofNat 32 (i 1).val
  let c2_i32 : BitVec 32 := 2#32
  let c0_i32_4 : BitVec 32 := 0#32
  let v9 : BitVec 1 := Scalar.cmpi .eq c2_i32 c0_i32_4
  let c1_i32 : BitVec 32 := 1#32
  let v10 : BitVec 32 := Scalar.select v9 c1_i32 c2_i32
  let v11 : BitVec 32 := Scalar.remsi arg1 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v21 : Index := Scalar.indexCast v18
  let arg2 : BitVec 32 := BitVec.ofNat 32 (i 2).val
  let c1024_i32 : BitVec 32 := 1024#32
  let v19 : BitVec 32 := Scalar.muli arg2 c1024_i32
  let v20 : BitVec 32 := v19
  let v22 : Index := Scalar.indexCast v20
  let c0_8 : Index := 0#32
  ![v21.toNat, v22.toNat, 0]
def k0_cond2 (i : grid0.Coords) : BitVec 1 :=
  let arg1 : BitVec 32 := BitVec.ofNat 32 (i 1).val
  let c0_i32_0 : BitVec 32 := 0#32
  let v3 : BitVec 1 := Scalar.cmpi .sgt arg1 c0_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c1_i32_7 : BitVec 32 := 1#32
  let v17 : BitVec 32 := Scalar.subi arg1 c1_i32_7
  let c4_i32 : BitVec 32 := 4#32
  let c0_i32_8 : BitVec 32 := 0#32
  let v18 : BitVec 1 := Scalar.cmpi .eq c4_i32 c0_i32_8
  let c1_i32_9 : BitVec 32 := 1#32
  let v19 : BitVec 32 := Scalar.select v18 c1_i32_9 c4_i32
  let v20 : BitVec 32 := Scalar.remsi v17 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_13 : BitVec 32 := 0#32
  let v28 : BitVec 1 := Scalar.cmpi .eq v27 c0_i32_13
  let v29 : BitVec 32 := Scalar.extui v28
  let c0_i32_14 : BitVec 32 := 0#32
  let v30 : BitVec 1 := Scalar.cmpi .ne v29 c0_i32_14
  v30

def k0_off2 (i : grid0.Coords) : Fin 3 → Nat :=
  let arg1 : BitVec 32 := BitVec.ofNat 32 (i 1).val
  let c1_i32 : BitVec 32 := 1#32
  let v6 : BitVec 32 := Scalar.subi arg1 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v40 : Index := Scalar.indexCast v16
  let c0_20 : Index := 0#32
  let c0_21 : Index := 0#32
  ![v40.toNat, 0, 0]
def k0_mult2 (i : grid0.Coords) : BitVec 32 :=
  let arg2 : BitVec 32 := BitVec.ofNat 32 (i 2).val
  let c1024_i32 : BitVec 32 := 1024#32
  let v44 : BitVec 32 := Scalar.muli arg2 c1024_i32
  let c0_i32_22 : BitVec 32 := 0#32
  let v45 : BitVec 32 := Scalar.addi v44 c0_i32_22
  v45
def k0_off3 (i : grid0.Coords) (c0_i32_22 : BitVec 32) : Fin 2 → Nat :=
  let arg2 : BitVec 32 := BitVec.ofNat 32 (i 2).val
  let c1024_i32 : BitVec 32 := 1024#32
  let v44 : BitVec 32 := Scalar.muli arg2 c1024_i32
  let v45 : BitVec 32 := Scalar.addi v44 c0_i32_22
  let v46 : BitVec 32 := v45
  let v47 : Index := Scalar.indexCast v46
  let c0_23 : Index := 0#32
  ![v47.toNat, 0]
def k0_mult3 (i : grid0.Coords) : BitVec 32 :=
  let arg2 : BitVec 32 := BitVec.ofNat 32 (i 2).val
  let c1024_i32_28 : BitVec 32 := 1024#32
  let v56 : BitVec 32 := Scalar.muli arg2 c1024_i32_28
  let c512_i32 : BitVec 32 := 512#32
  let v57 : BitVec 32 := Scalar.addi v56 c512_i32
  v57
def k0_cond4 (i : grid0.Coords) : BitVec 1 :=
  let arg1 : BitVec 32 := BitVec.ofNat 32 (i 1).val
  let c1_i32_7 : BitVec 32 := 1#32
  let v17 : BitVec 32 := Scalar.subi arg1 c1_i32_7
  let c4_i32 : BitVec 32 := 4#32
  let c0_i32_8 : BitVec 32 := 0#32
  let v18 : BitVec 1 := Scalar.cmpi .eq c4_i32 c0_i32_8
  let c1_i32_9 : BitVec 32 := 1#32
  let v19 : BitVec 32 := Scalar.select v18 c1_i32_9 c4_i32
  let v20 : BitVec 32 := Scalar.remsi v17 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_15 : BitVec 32 := 0#32
  let v31 : BitVec 1 := Scalar.cmpi .sgt v27 c0_i32_15
  let c3_i32 : BitVec 32 := 3#32
  let v32 : BitVec 1 := Scalar.cmpi .slt v27 c3_i32
  let v33 : BitVec 1 := Scalar.andi v31 v32
  let v34 : BitVec 32 := Scalar.extui v33
  let c0_i32_16 : BitVec 32 := 0#32
  let v35 : BitVec 1 := Scalar.cmpi .ne v34 c0_i32_16
  v35

def k0_mult4 (i : grid0.Coords) : BitVec 32 :=
  let arg2 : BitVec 32 := BitVec.ofNat 32 (i 2).val
  let c1024_i32 : BitVec 32 := 1024#32
  let v39 : BitVec 32 := Scalar.muli arg2 c1024_i32
  let c0_i32_19 : BitVec 32 := 0#32
  let v40 : BitVec 32 := Scalar.addi v39 c0_i32_19
  v40
def k0_off4 (i : grid0.Coords) (c0_i32_19 : BitVec 32) : Fin 2 → Nat :=
  let arg2 : BitVec 32 := BitVec.ofNat 32 (i 2).val
  let c1024_i32 : BitVec 32 := 1024#32
  let v39 : BitVec 32 := Scalar.muli arg2 c1024_i32
  let v40 : BitVec 32 := Scalar.addi v39 c0_i32_19
  let v41 : BitVec 32 := v40
  let v42 : Index := Scalar.indexCast v41
  let c0 : Index := 0#32
  ![v42.toNat, 0]
def k0_off5 (i : grid0.Coords) : Fin 3 → Nat :=
  let arg1 : BitVec 32 := BitVec.ofNat 32 (i 1).val
  let c1_i32 : BitVec 32 := 1#32
  let v6 : BitVec 32 := Scalar.subi arg1 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v45 : Index := Scalar.indexCast v16
  let c0_22 : Index := 0#32
  let c0_23 : Index := 0#32
  ![v45.toNat, 0, 0]
def k0_mult5 (i : grid0.Coords) : BitVec 32 :=
  let arg2 : BitVec 32 := BitVec.ofNat 32 (i 2).val
  let c1024_i32_25 : BitVec 32 := 1024#32
  let v54 : BitVec 32 := Scalar.muli arg2 c1024_i32_25
  let c512_i32 : BitVec 32 := 512#32
  let v55 : BitVec 32 := Scalar.addi v54 c512_i32
  v55
def k0_cond5 (i : grid0.Coords) : BitVec 1 :=
  let arg1 : BitVec 32 := BitVec.ofNat 32 (i 1).val
  let c1_i32_7 : BitVec 32 := 1#32
  let v17 : BitVec 32 := Scalar.subi arg1 c1_i32_7
  let c4_i32 : BitVec 32 := 4#32
  let c0_i32_8 : BitVec 32 := 0#32
  let v18 : BitVec 1 := Scalar.cmpi .eq c4_i32 c0_i32_8
  let c1_i32_9 : BitVec 32 := 1#32
  let v19 : BitVec 32 := Scalar.select v18 c1_i32_9 c4_i32
  let v20 : BitVec 32 := Scalar.remsi v17 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c3_i32_17 : BitVec 32 := 3#32
  let v36 : BitVec 1 := Scalar.cmpi .eq v27 c3_i32_17
  let v37 : BitVec 32 := Scalar.extui v36
  let c0_i32_18 : BitVec 32 := 0#32
  let v38 : BitVec 1 := Scalar.cmpi .ne v37 c0_i32_18
  v38

def k0_mult6 (i : grid0.Coords) : BitVec 32 :=
  let arg2 : BitVec 32 := BitVec.ofNat 32 (i 2).val
  let c1024_i32 : BitVec 32 := 1024#32
  let v39 : BitVec 32 := Scalar.muli arg2 c1024_i32
  let c0_i32_19 : BitVec 32 := 0#32
  let v40 : BitVec 32 := Scalar.addi v39 c0_i32_19
  v40
def k0_off6 (i : grid0.Coords) (c0_i32_19 : BitVec 32) : Fin 2 → Nat :=
  let arg2 : BitVec 32 := BitVec.ofNat 32 (i 2).val
  let c1024_i32 : BitVec 32 := 1024#32
  let v39 : BitVec 32 := Scalar.muli arg2 c1024_i32
  let v40 : BitVec 32 := Scalar.addi v39 c0_i32_19
  let v41 : BitVec 32 := v40
  let v42 : Index := Scalar.indexCast v41
  let c0 : Index := 0#32
  ![v42.toNat, 0]
def k0_off7 (i : grid0.Coords) : Fin 3 → Nat :=
  let arg1 : BitVec 32 := BitVec.ofNat 32 (i 1).val
  let c1_i32 : BitVec 32 := 1#32
  let v6 : BitVec 32 := Scalar.subi arg1 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v45 : Index := Scalar.indexCast v16
  let c0_22 : Index := 0#32
  let c0_23 : Index := 0#32
  ![v45.toNat, 0, 0]
def k0_mult7 (i : grid0.Coords) : BitVec 32 :=
  let arg2 : BitVec 32 := BitVec.ofNat 32 (i 2).val
  let c1024_i32_35 : BitVec 32 := 1024#32
  let v80 : BitVec 32 := Scalar.muli arg2 c1024_i32_35
  let c512_i32 : BitVec 32 := 512#32
  let v81 : BitVec 32 := Scalar.addi v80 c512_i32
  v81
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 1 := Scalar.cmpi .eq arg1 c0_i32
  let c0_i32_0 : BitVec 32 := 0#32
  let v2 : BitVec 32 := Scalar.select v1 c0_i32_0 arg2
  let v3 : BitVec 32 := Scalar.addi v0 v2
  let c1_i32 : BitVec 32 := 1#32
  let v4 : BitVec 32 := Scalar.subi arg1 c1_i32
  let c0_i32_1 : BitVec 32 := 0#32
  let v5 : BitVec 32 := Scalar.maxsi v4 c0_i32_1
  let c4_i32_2 : BitVec 32 := 4#32
  let c0_i32_3 : BitVec 32 := 0#32
  let v6 : BitVec 1 := Scalar.cmpi .eq c4_i32_2 c0_i32_3
  let c1_i32_4 : BitVec 32 := 1#32
  let v7 : BitVec 32 := Scalar.select v6 c1_i32_4 c4_i32_2
  let v8 : BitVec 32 := Scalar.remsi v5 v7
  let c0_i32_5 : BitVec 32 := 0#32
  let v9 : BitVec 1 := Scalar.cmpi .ne v8 c0_i32_5
  let c0_i32_6 : BitVec 32 := 0#32
  let v10 : BitVec 1 := Scalar.cmpi .slt v8 c0_i32_6
  let c0_i32_7 : BitVec 32 := 0#32
  let v11 : BitVec 1 := Scalar.cmpi .slt v7 c0_i32_7
  let v12 : BitVec 1 := Scalar.xori v10 v11
  let v13 : BitVec 1 := Scalar.andi v12 v9
  let v14 : BitVec 32 := Scalar.addi v8 v7
  let v15 : BitVec 32 := Scalar.select v13 v14 v8
  let c0_i32_8 : BitVec 32 := 0#32
  ![v3.toNat, v15.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.minsi arg1 c31_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.muli v10 c4_i32_3
  let v12 : BitVec 32 := Scalar.addi v11 arg2
  let c31_i32_4 : BitVec 32 := 31#32
  let v13 : BitVec 32 := Scalar.minsi arg1 c31_i32_4
  let c4_i32_5 : BitVec 32 := 4#32
  let v14 : BitVec 32 := Scalar.divsi v13 c4_i32_5
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v13 c4_i32_5
  let c0_i32_10 : BitVec 32 := 0#32
  let v27 : BitVec 1 := Scalar.cmpi .ne v26 c0_i32_10
  let v28 : BitVec 1 := Scalar.andi v25 v27
  let c1_i32_11 : BitVec 32 := 1#32
  let v29 : BitVec 32 := Scalar.subi v14 c1_i32_11
  let v30 : BitVec 32 := Scalar.select v28 v29 v14
  let c1_i32_12 : BitVec 32 := 1#32
  let c0_i32_13 : BitVec 32 := 0#32
  ![c1_i32_12.toNat, v12.toNat, v30.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 1 := Scalar.cmpi .sgt arg1 c0_i32
  let c1_i32 : BitVec 32 := 1#32
  let v2 : BitVec 32 := Scalar.subi arg1 c1_i32
  let c0_i32_0 : BitVec 32 := 0#32
  let v3 : BitVec 32 := Scalar.maxsi v2 c0_i32_0
  let c4_i32_1 : BitVec 32 := 4#32
  let c0_i32_2 : BitVec 32 := 0#32
  let v4 : BitVec 1 := Scalar.cmpi .eq c4_i32_1 c0_i32_2
  let c1_i32_3 : BitVec 32 := 1#32
  let v5 : BitVec 32 := Scalar.select v4 c1_i32_3 c4_i32_1
  let v6 : BitVec 32 := Scalar.remsi v3 v5
  let c0_i32_4 : BitVec 32 := 0#32
  let v7 : BitVec 1 := Scalar.cmpi .ne v6 c0_i32_4
  let c0_i32_5 : BitVec 32 := 0#32
  let v8 : BitVec 1 := Scalar.cmpi .slt v6 c0_i32_5
  let c0_i32_6 : BitVec 32 := 0#32
  let v9 : BitVec 1 := Scalar.cmpi .slt v5 c0_i32_6
  let v10 : BitVec 1 := Scalar.xori v8 v9
  let v11 : BitVec 1 := Scalar.andi v10 v7
  let v12 : BitVec 32 := Scalar.addi v6 v5
  let v13 : BitVec 32 := Scalar.select v11 v12 v6
  let c3_i32 : BitVec 32 := 3#32
  let v14 : BitVec 1 := Scalar.cmpi .eq v13 c3_i32
  let v15 : BitVec 1 := Scalar.andi v1 v14
  let c0_i32_7 : BitVec 32 := 0#32
  let v16 : BitVec 32 := Scalar.select v15 arg2 c0_i32_7
  let v17 : BitVec 32 := Scalar.addi v0 v16
  let c1_i32_8 : BitVec 32 := 1#32
  let v18 : BitVec 32 := Scalar.subi arg1 c1_i32_8
  let c0_i32_9 : BitVec 32 := 0#32
  let v19 : BitVec 32 := Scalar.maxsi v18 c0_i32_9
  let c4_i32_10 : BitVec 32 := 4#32
  let v20 : BitVec 32 := Scalar.divsi v19 c4_i32_10
  let c0_i32_11 : BitVec 32 := 0#32
  let v21 : BitVec 1 := Scalar.cmpi .sgt v19 c0_i32_11
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c0_i32_13 : BitVec 32 := 0#32
  let v26 : BitVec 1 := Scalar.cmpi .sgt c4_i32_10 c0_i32_13
  let v27 : BitVec 32 := Scalar.extui v26
  let c0_i32_14 : BitVec 32 := 0#32
  let v28 : BitVec 1 := Scalar.cmpi .slt c4_i32_10 c0_i32_14
  let v29 : BitVec 32 := Scalar.extui v28
  let v30 : BitVec 32 := Scalar.subi v27 v29
  let v31 : BitVec 1 := Scalar.cmpi .ne v25 v30
  let v32 : BitVec 32 := Scalar.remsi v19 c4_i32_10
  let c0_i32_15 : BitVec 32 := 0#32
  let v33 : BitVec 1 := Scalar.cmpi .ne v32 c0_i32_15
  let v34 : BitVec 1 := Scalar.andi v31 v33
  let c1_i32_16 : BitVec 32 := 1#32
  let v35 : BitVec 32 := Scalar.subi v20 c1_i32_16
  let v36 : BitVec 32 := Scalar.select v34 v35 v20
  let c0_i32_17 : BitVec 32 := 0#32
  ![v17.toNat, v36.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c40_i32 : BitVec 32 := 40#32
  let v19 : BitVec 32 := Scalar.addi c40_i32 v18
  let c0_i32_6 : BitVec 32 := 0#32
  let c0_i32_7 : BitVec 32 := 0#32
  ![c0_i32_6.toNat, v19.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 1 := Scalar.cmpi .sgt arg1 c0_i32
  let c1_i32 : BitVec 32 := 1#32
  let v2 : BitVec 32 := Scalar.subi arg1 c1_i32
  let c0_i32_0 : BitVec 32 := 0#32
  let v3 : BitVec 32 := Scalar.maxsi v2 c0_i32_0
  let c4_i32_1 : BitVec 32 := 4#32
  let c0_i32_2 : BitVec 32 := 0#32
  let v4 : BitVec 1 := Scalar.cmpi .eq c4_i32_1 c0_i32_2
  let c1_i32_3 : BitVec 32 := 1#32
  let v5 : BitVec 32 := Scalar.select v4 c1_i32_3 c4_i32_1
  let v6 : BitVec 32 := Scalar.remsi v3 v5
  let c0_i32_4 : BitVec 32 := 0#32
  let v7 : BitVec 1 := Scalar.cmpi .ne v6 c0_i32_4
  let c0_i32_5 : BitVec 32 := 0#32
  let v8 : BitVec 1 := Scalar.cmpi .slt v6 c0_i32_5
  let c0_i32_6 : BitVec 32 := 0#32
  let v9 : BitVec 1 := Scalar.cmpi .slt v5 c0_i32_6
  let v10 : BitVec 1 := Scalar.xori v8 v9
  let v11 : BitVec 1 := Scalar.andi v10 v7
  let v12 : BitVec 32 := Scalar.addi v6 v5
  let v13 : BitVec 32 := Scalar.select v11 v12 v6
  let c3_i32 : BitVec 32 := 3#32
  let v14 : BitVec 1 := Scalar.cmpi .eq v13 c3_i32
  let v15 : BitVec 1 := Scalar.andi v1 v14
  let c0_i32_7 : BitVec 32 := 0#32
  let v16 : BitVec 32 := Scalar.select v15 arg2 c0_i32_7
  let v17 : BitVec 32 := Scalar.addi v0 v16
  let c1_i32_8 : BitVec 32 := 1#32
  let v18 : BitVec 32 := Scalar.subi arg1 c1_i32_8
  let c0_i32_9 : BitVec 32 := 0#32
  let v19 : BitVec 32 := Scalar.maxsi v18 c0_i32_9
  let c4_i32_10 : BitVec 32 := 4#32
  let v20 : BitVec 32 := Scalar.divsi v19 c4_i32_10
  let c0_i32_11 : BitVec 32 := 0#32
  let v21 : BitVec 1 := Scalar.cmpi .sgt v19 c0_i32_11
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c0_i32_13 : BitVec 32 := 0#32
  let v26 : BitVec 1 := Scalar.cmpi .sgt c4_i32_10 c0_i32_13
  let v27 : BitVec 32 := Scalar.extui v26
  let c0_i32_14 : BitVec 32 := 0#32
  let v28 : BitVec 1 := Scalar.cmpi .slt c4_i32_10 c0_i32_14
  let v29 : BitVec 32 := Scalar.extui v28
  let v30 : BitVec 32 := Scalar.subi v27 v29
  let v31 : BitVec 1 := Scalar.cmpi .ne v25 v30
  let v32 : BitVec 32 := Scalar.remsi v19 c4_i32_10
  let c0_i32_15 : BitVec 32 := 0#32
  let v33 : BitVec 1 := Scalar.cmpi .ne v32 c0_i32_15
  let v34 : BitVec 1 := Scalar.andi v31 v33
  let c1_i32_16 : BitVec 32 := 1#32
  let v35 : BitVec 32 := Scalar.subi v20 c1_i32_16
  let v36 : BitVec 32 := Scalar.select v34 v35 v20
  let c0_i32_17 : BitVec 32 := 0#32
  ![v17.toNat, v36.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference5Ideal.lean ====
abbrev S8192x16384 : Shape := ⟨2, ![8192, 16384]⟩
abbrev S2x8x2048x4096 : Shape := ⟨4, ![2, 8, 2048, 4096]⟩
abbrev S8192x4096 : Shape := ⟨2, ![8192, 4096]⟩
abbrev S8x24576 : Shape := ⟨2, ![8, 24576]⟩
abbrev S1x8x2048x4096 : Shape := ⟨4, ![1, 8, 2048, 4096]⟩
abbrev S8x2048x4096 : Shape := ⟨3, ![8, 2048, 4096]⟩
abbrev S16384x4096 : Shape := ⟨2, ![16384, 4096]⟩
abbrev S2x4096 : Shape := ⟨2, ![2, 4096]⟩
abbrev S2x1x4096 : Shape := ⟨3, ![2, 1, 4096]⟩
abbrev S2x4096x4096 : Shape := ⟨3, ![2, 4096, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S2x8x2048x4096, .f32⟩
  | .hbm, ⟨2, _⟩ => ⟨S8192x4096, .f32⟩
  | .hbm, ⟨3, _⟩ => ⟨S8x24576, .f32⟩
  | .hbm, ⟨4, _⟩ => ⟨S8192x16384, .f32⟩
  | .hbm, ⟨5, _⟩ => ⟨S1x8x2048x4096, .f32⟩
  | .hbm, ⟨6, _⟩ => ⟨S8x2048x4096, .f32⟩
  | .hbm, ⟨7, _⟩ => ⟨S16384x4096, .f32⟩
  | .hbm, ⟨8, _⟩ => ⟨S8192x4096, .f32⟩
  | .hbm, ⟨9, _⟩ => ⟨S2x4096, .f32⟩
  | .hbm, ⟨10, _⟩ => ⟨S2x1x4096, .f32⟩
  | .hbm, ⟨11, _⟩ => ⟨S2x4096x4096, .f32⟩
  | .hbm, ⟨12, _⟩ => ⟨S2x4096x4096, .f32⟩
  | .hbm, ⟨13, _⟩ => ⟨S2x4096x4096, .f32⟩
  | .hbm, ⟨14, _⟩ => ⟨S2x4096x4096, .f32⟩
  | .hbm, ⟨15, _⟩ => ⟨S2x4096x4096, .f32⟩
  | .hbm, ⟨16, _⟩ => ⟨S8192x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel6.lean ====
abbrev S8704x16384 : Shape := ⟨2, ![8704, 16384]⟩
abbrev S2x8x2048x4096 : Shape := ⟨4, ![2, 8, 2048, 4096]⟩
abbrev S8704x4096 : Shape := ⟨2, ![8704, 4096]⟩
abbrev S8x24576 : Shape := ⟨2, ![8, 24576]⟩
abbrev S2x16384x4096 : Shape := ⟨3, ![2, 16384, 4096]⟩
abbrev S1088x4096 : Shape := ⟨2, ![1088, 4096]⟩
abbrev S1x1024x512 : Shape := ⟨3, ![1, 1024, 512]⟩
abbrev S1088x512 : Shape := ⟨2, ![1088, 512]⟩
abbrev S8x512 : Shape := ⟨2, ![8, 512]⟩
abbrev S2x4096x512 : Shape := ⟨3, ![2, 4096, 512]⟩
abbrev S4352x512 : Shape := ⟨2, ![4352, 512]⟩
abbrev S1024x512 : Shape := ⟨2, ![1024, 512]⟩
abbrev S544x4096 : Shape := ⟨2, ![544, 4096]⟩
abbrev S1x4096x512 : Shape := ⟨3, ![1, 4096, 512]⟩
abbrev S4096x512 : Shape := ⟨2, ![4096, 512]⟩
abbrev S544x512 : Shape := ⟨2, ![544, 512]⟩
abbrev S544x1 : Shape := ⟨2, ![544, 1]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8704x16384, .bf16⟩
  | .hbm, ⟨1, _⟩ => ⟨S2x8x2048x4096, .f32⟩
  | .hbm, ⟨2, _⟩ => ⟨S8704x4096, .f32⟩
  | .hbm, ⟨3, _⟩ => ⟨S8x24576, .f32⟩
  | .hbm, ⟨4, _⟩ => ⟨S2x16384x4096, .f32⟩
  | .hbm, ⟨5, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S1x1024x512, .f32⟩
  | .local _ .vmem, ⟨3, _⟩ => ⟨S1x1024x512, .f32⟩
  | .local _ .vmem, ⟨4, _⟩ => ⟨S1088x512, .f32⟩
  | .local _ .vmem, ⟨5, _⟩ => ⟨S1088x512, .f32⟩
  | .local _ .vmem, ⟨6, _⟩ => ⟨S8x512, .f32⟩
  | .local _ .vmem, ⟨7, _⟩ => ⟨S8x512, .f32⟩
  | .local _ .vmem, ⟨8, _⟩ => ⟨S1088x512, .f32⟩
  | .local _ .vmem, ⟨9, _⟩ => ⟨S1088x512, .f32⟩
  | .local _ .vmem, ⟨10, _⟩ => ⟨S2x4096x512, .bf16⟩
  | .local _ .vmem, ⟨11, _⟩ => ⟨S4352x512, .f32⟩
  | _, _ => ⟨S8704x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 33, 4], ![false, false, false]⟩

def k0_cond1 (i : grid0.Coords) : BitVec 1 :=
  let arg1 : BitVec 32 := BitVec.ofNat 32 (i 1).val
  let c32_i32 : BitVec 32 := 32#32
  let v0 : BitVec 1 := Scalar.cmpi .slt arg1 c32_i32
  let v1 : BitVec 32 := Scalar.extui v0
  let c0_i32 : BitVec 32 := 0#32
  let v2 : BitVec 1 := Scalar.cmpi .ne v1 c0_i32
  v2

def k0_mult1 (i : grid0.Coords) : BitVec 32 :=
  let arg2 : BitVec 32 := BitVec.ofNat 32 (i 2).val
  let c1024_i32 : BitVec 32 := 1024#32
  let v19 : BitVec 32 := Scalar.muli arg2 c1024_i32
  v19
def k0_off1 (i : grid0.Coords) : Fin 3 → Nat :=
  let arg1 : BitVec 32 := BitVec.ofNat 32 (i 1).val
  let c2_i32 : BitVec 32 := 2#32
  let c0_i32_4 : BitVec 32 := 0#32
  let v9 : BitVec 1 := Scalar.cmpi .eq c2_i32 c0_i32_4
  let c1_i32 : BitVec 32 := 1#32
  let v10 : BitVec 32 := Scalar.select v9 c1_i32 c2_i32
  let v11 : BitVec 32 := Scalar.remsi arg1 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v21 : Index := Scalar.indexCast v18
  let arg2 : BitVec 32 := BitVec.ofNat 32 (i 2).val
  let c1024_i32 : BitVec 32 := 1024#32
  let v19 : BitVec 32 := Scalar.muli arg2 c1024_i32
  let v20 : BitVec 32 := v19
  let v22 : Index := Scalar.indexCast v20
  let c0_8 : Index := 0#32
  ![v21.toNat, v22.toNat, 0]
def k0_cond2 (i : grid0.Coords) : BitVec 1 :=
  let arg1 : BitVec 32 := BitVec.ofNat 32 (i 1).val
  let c0_i32_0 : BitVec 32 := 0#32
  let v3 : BitVec 1 := Scalar.cmpi .sgt arg1 c0_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c1_i32_7 : BitVec 32 := 1#32
  let v17 : BitVec 32 := Scalar.subi arg1 c1_i32_7
  let c4_i32 : BitVec 32 := 4#32
  let c0_i32_8 : BitVec 32 := 0#32
  let v18 : BitVec 1 := Scalar.cmpi .eq c4_i32 c0_i32_8
  let c1_i32_9 : BitVec 32 := 1#32
  let v19 : BitVec 32 := Scalar.select v18 c1_i32_9 c4_i32
  let v20 : BitVec 32 := Scalar.remsi v17 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_13 : BitVec 32 := 0#32
  let v28 : BitVec 1 := Scalar.cmpi .eq v27 c0_i32_13
  let v29 : BitVec 32 := Scalar.extui v28
  let c0_i32_14 : BitVec 32 := 0#32
  let v30 : BitVec 1 := Scalar.cmpi .ne v29 c0_i32_14
  v30

def k0_off2 (i : grid0.Coords) : Fin 3 → Nat :=
  let arg1 : BitVec 32 := BitVec.ofNat 32 (i 1).val
  let c1_i32 : BitVec 32 := 1#32
  let v6 : BitVec 32 := Scalar.subi arg1 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v40 : Index := Scalar.indexCast v16
  let c0_20 : Index := 0#32
  let c0_21 : Index := 0#32
  ![v40.toNat, 0, 0]
def k0_mult2 (i : grid0.Coords) : BitVec 32 :=
  let arg2 : BitVec 32 := BitVec.ofNat 32 (i 2).val
  let c1088_i32 : BitVec 32 := 1088#32
  let v44 : BitVec 32 := Scalar.muli arg2 c1088_i32
  let c0_i32_22 : BitVec 32 := 0#32
  let v45 : BitVec 32 := Scalar.addi v44 c0_i32_22
  v45
def k0_off3 (i : grid0.Coords) (c0_i32_22 : BitVec 32) : Fin 2 → Nat :=
  let arg2 : BitVec 32 := BitVec.ofNat 32 (i 2).val
  let c1088_i32 : BitVec 32 := 1088#32
  let v44 : BitVec 32 := Scalar.muli arg2 c1088_i32
  let v45 : BitVec 32 := Scalar.addi v44 c0_i32_22
  let v46 : BitVec 32 := v45
  let v47 : Index := Scalar.indexCast v46
  let c0_23 : Index := 0#32
  ![v47.toNat, 0]
def k0_mult3 (i : grid0.Coords) : BitVec 32 :=
  let arg2 : BitVec 32 := BitVec.ofNat 32 (i 2).val
  let c1088_i32_28 : BitVec 32 := 1088#32
  let v56 : BitVec 32 := Scalar.muli arg2 c1088_i32_28
  let c544_i32 : BitVec 32 := 544#32
  let v57 : BitVec 32 := Scalar.addi v56 c544_i32
  v57
def k0_cond4 (i : grid0.Coords) : BitVec 1 :=
  let arg1 : BitVec 32 := BitVec.ofNat 32 (i 1).val
  let c1_i32_7 : BitVec 32 := 1#32
  let v17 : BitVec 32 := Scalar.subi arg1 c1_i32_7
  let c4_i32 : BitVec 32 := 4#32
  let c0_i32_8 : BitVec 32 := 0#32
  let v18 : BitVec 1 := Scalar.cmpi .eq c4_i32 c0_i32_8
  let c1_i32_9 : BitVec 32 := 1#32
  let v19 : BitVec 32 := Scalar.select v18 c1_i32_9 c4_i32
  let v20 : BitVec 32 := Scalar.remsi v17 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_15 : BitVec 32 := 0#32
  let v31 : BitVec 1 := Scalar.cmpi .sgt v27 c0_i32_15
  let c3_i32 : BitVec 32 := 3#32
  let v32 : BitVec 1 := Scalar.cmpi .slt v27 c3_i32
  let v33 : BitVec 1 := Scalar.andi v31 v32
  let v34 : BitVec 32 := Scalar.extui v33
  let c0_i32_16 : BitVec 32 := 0#32
  let v35 : BitVec 1 := Scalar.cmpi .ne v34 c0_i32_16
  v35

def k0_mult4 (i : grid0.Coords) : BitVec 32 :=
  let arg2 : BitVec 32 := BitVec.ofNat 32 (i 2).val
  let c1088_i32 : BitVec 32 := 1088#32
  let v39 : BitVec 32 := Scalar.muli arg2 c1088_i32
  let c0_i32_19 : BitVec 32 := 0#32
  let v40 : BitVec 32 := Scalar.addi v39 c0_i32_19
  v40
def k0_off4 (i : grid0.Coords) (c0_i32_19 : BitVec 32) : Fin 2 → Nat :=
  let arg2 : BitVec 32 := BitVec.ofNat 32 (i 2).val
  let c1088_i32 : BitVec 32 := 1088#32
  let v39 : BitVec 32 := Scalar.muli arg2 c1088_i32
  let v40 : BitVec 32 := Scalar.addi v39 c0_i32_19
  let v41 : BitVec 32 := v40
  let v42 : Index := Scalar.indexCast v41
  let c0 : Index := 0#32
  ![v42.toNat, 0]
def k0_off5 (i : grid0.Coords) : Fin 3 → Nat :=
  let arg1 : BitVec 32 := BitVec.ofNat 32 (i 1).val
  let c1_i32 : BitVec 32 := 1#32
  let v6 : BitVec 32 := Scalar.subi arg1 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v45 : Index := Scalar.indexCast v16
  let c0_22 : Index := 0#32
  let c0_23 : Index := 0#32
  ![v45.toNat, 0, 0]
def k0_mult5 (i : grid0.Coords) : BitVec 32 :=
  let arg2 : BitVec 32 := BitVec.ofNat 32 (i 2).val
  let c1088_i32_25 : BitVec 32 := 1088#32
  let v54 : BitVec 32 := Scalar.muli arg2 c1088_i32_25
  let c544_i32 : BitVec 32 := 544#32
  let v55 : BitVec 32 := Scalar.addi v54 c544_i32
  v55
def k0_cond5 (i : grid0.Coords) : BitVec 1 :=
  let arg1 : BitVec 32 := BitVec.ofNat 32 (i 1).val
  let c1_i32_7 : BitVec 32 := 1#32
  let v17 : BitVec 32 := Scalar.subi arg1 c1_i32_7
  let c4_i32 : BitVec 32 := 4#32
  let c0_i32_8 : BitVec 32 := 0#32
  let v18 : BitVec 1 := Scalar.cmpi .eq c4_i32 c0_i32_8
  let c1_i32_9 : BitVec 32 := 1#32
  let v19 : BitVec 32 := Scalar.select v18 c1_i32_9 c4_i32
  let v20 : BitVec 32 := Scalar.remsi v17 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c3_i32_17 : BitVec 32 := 3#32
  let v36 : BitVec 1 := Scalar.cmpi .eq v27 c3_i32_17
  let v37 : BitVec 32 := Scalar.extui v36
  let c0_i32_18 : BitVec 32 := 0#32
  let v38 : BitVec 1 := Scalar.cmpi .ne v37 c0_i32_18
  v38

def k0_mult6 (i : grid0.Coords) : BitVec 32 :=
  let arg2 : BitVec 32 := BitVec.ofNat 32 (i 2).val
  let c1088_i32 : BitVec 32 := 1088#32
  let v39 : BitVec 32 := Scalar.muli arg2 c1088_i32
  let c0_i32_19 : BitVec 32 := 0#32
  let v40 : BitVec 32 := Scalar.addi v39 c0_i32_19
  v40
def k0_off6 (i : grid0.Coords) (c0_i32_19 : BitVec 32) : Fin 2 → Nat :=
  let arg2 : BitVec 32 := BitVec.ofNat 32 (i 2).val
  let c1088_i32 : BitVec 32 := 1088#32
  let v39 : BitVec 32 := Scalar.muli arg2 c1088_i32
  let v40 : BitVec 32 := Scalar.addi v39 c0_i32_19
  let v41 : BitVec 32 := v40
  let v42 : Index := Scalar.indexCast v41
  let c0 : Index := 0#32
  ![v42.toNat, 0]
def k0_off7 (i : grid0.Coords) : Fin 3 → Nat :=
  let arg1 : BitVec 32 := BitVec.ofNat 32 (i 1).val
  let c1_i32 : BitVec 32 := 1#32
  let v6 : BitVec 32 := Scalar.subi arg1 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v45 : Index := Scalar.indexCast v16
  let c0_22 : Index := 0#32
  let c0_23 : Index := 0#32
  ![v45.toNat, 0, 0]
def k0_mult7 (i : grid0.Coords) : BitVec 32 :=
  let arg2 : BitVec 32 := BitVec.ofNat 32 (i 2).val
  let c1088_i32_35 : BitVec 32 := 1088#32
  let v80 : BitVec 32 := Scalar.muli arg2 c1088_i32_35
  let c544_i32 : BitVec 32 := 544#32
  let v81 : BitVec 32 := Scalar.addi v80 c544_i32
  v81
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 1 := Scalar.cmpi .eq arg1 c0_i32
  let c0_i32_0 : BitVec 32 := 0#32
  let v2 : BitVec 32 := Scalar.select v1 c0_i32_0 arg2
  let v3 : BitVec 32 := Scalar.addi v0 v2
  let c1_i32 : BitVec 32 := 1#32
  let v4 : BitVec 32 := Scalar.subi arg1 c1_i32
  let c0_i32_1 : BitVec 32 := 0#32
  let v5 : BitVec 32 := Scalar.maxsi v4 c0_i32_1
  let c4_i32_2 : BitVec 32 := 4#32
  let c0_i32_3 : BitVec 32 := 0#32
  let v6 : BitVec 1 := Scalar.cmpi .eq c4_i32_2 c0_i32_3
  let c1_i32_4 : BitVec 32 := 1#32
  let v7 : BitVec 32 := Scalar.select v6 c1_i32_4 c4_i32_2
  let v8 : BitVec 32 := Scalar.remsi v5 v7
  let c0_i32_5 : BitVec 32 := 0#32
  let v9 : BitVec 1 := Scalar.cmpi .ne v8 c0_i32_5
  let c0_i32_6 : BitVec 32 := 0#32
  let v10 : BitVec 1 := Scalar.cmpi .slt v8 c0_i32_6
  let c0_i32_7 : BitVec 32 := 0#32
  let v11 : BitVec 1 := Scalar.cmpi .slt v7 c0_i32_7
  let v12 : BitVec 1 := Scalar.xori v10 v11
  let v13 : BitVec 1 := Scalar.andi v12 v9
  let v14 : BitVec 32 := Scalar.addi v8 v7
  let v15 : BitVec 32 := Scalar.select v13 v14 v8
  let c0_i32_8 : BitVec 32 := 0#32
  ![v3.toNat, v15.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.minsi arg1 c31_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.muli v10 c4_i32_3
  let v12 : BitVec 32 := Scalar.addi v11 arg2
  let c31_i32_4 : BitVec 32 := 31#32
  let v13 : BitVec 32 := Scalar.minsi arg1 c31_i32_4
  let c4_i32_5 : BitVec 32 := 4#32
  let v14 : BitVec 32 := Scalar.divsi v13 c4_i32_5
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v13 c4_i32_5
  let c0_i32_10 : BitVec 32 := 0#32
  let v27 : BitVec 1 := Scalar.cmpi .ne v26 c0_i32_10
  let v28 : BitVec 1 := Scalar.andi v25 v27
  let c1_i32_11 : BitVec 32 := 1#32
  let v29 : BitVec 32 := Scalar.subi v14 c1_i32_11
  let v30 : BitVec 32 := Scalar.select v28 v29 v14
  let c0_i32_12 : BitVec 32 := 0#32
  let c0_i32_13 : BitVec 32 := 0#32
  ![c0_i32_12.toNat, v12.toNat, v30.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 1 := Scalar.cmpi .sgt arg1 c0_i32
  let c1_i32 : BitVec 32 := 1#32
  let v2 : BitVec 32 := Scalar.subi arg1 c1_i32
  let c0_i32_0 : BitVec 32 := 0#32
  let v3 : BitVec 32 := Scalar.maxsi v2 c0_i32_0
  let c4_i32_1 : BitVec 32 := 4#32
  let c0_i32_2 : BitVec 32 := 0#32
  let v4 : BitVec 1 := Scalar.cmpi .eq c4_i32_1 c0_i32_2
  let c1_i32_3 : BitVec 32 := 1#32
  let v5 : BitVec 32 := Scalar.select v4 c1_i32_3 c4_i32_1
  let v6 : BitVec 32 := Scalar.remsi v3 v5
  let c0_i32_4 : BitVec 32 := 0#32
  let v7 : BitVec 1 := Scalar.cmpi .ne v6 c0_i32_4
  let c0_i32_5 : BitVec 32 := 0#32
  let v8 : BitVec 1 := Scalar.cmpi .slt v6 c0_i32_5
  let c0_i32_6 : BitVec 32 := 0#32
  let v9 : BitVec 1 := Scalar.cmpi .slt v5 c0_i32_6
  let v10 : BitVec 1 := Scalar.xori v8 v9
  let v11 : BitVec 1 := Scalar.andi v10 v7
  let v12 : BitVec 32 := Scalar.addi v6 v5
  let v13 : BitVec 32 := Scalar.select v11 v12 v6
  let c3_i32 : BitVec 32 := 3#32
  let v14 : BitVec 1 := Scalar.cmpi .eq v13 c3_i32
  let v15 : BitVec 1 := Scalar.andi v1 v14
  let c0_i32_7 : BitVec 32 := 0#32
  let v16 : BitVec 32 := Scalar.select v15 arg2 c0_i32_7
  let v17 : BitVec 32 := Scalar.addi v0 v16
  let c1_i32_8 : BitVec 32 := 1#32
  let v18 : BitVec 32 := Scalar.subi arg1 c1_i32_8
  let c0_i32_9 : BitVec 32 := 0#32
  let v19 : BitVec 32 := Scalar.maxsi v18 c0_i32_9
  let c4_i32_10 : BitVec 32 := 4#32
  let v20 : BitVec 32 := Scalar.divsi v19 c4_i32_10
  let c0_i32_11 : BitVec 32 := 0#32
  let v21 : BitVec 1 := Scalar.cmpi .sgt v19 c0_i32_11
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c0_i32_13 : BitVec 32 := 0#32
  let v26 : BitVec 1 := Scalar.cmpi .sgt c4_i32_10 c0_i32_13
  let v27 : BitVec 32 := Scalar.extui v26
  let c0_i32_14 : BitVec 32 := 0#32
  let v28 : BitVec 1 := Scalar.cmpi .slt c4_i32_10 c0_i32_14
  let v29 : BitVec 32 := Scalar.extui v28
  let v30 : BitVec 32 := Scalar.subi v27 v29
  let v31 : BitVec 1 := Scalar.cmpi .ne v25 v30
  let v32 : BitVec 32 := Scalar.remsi v19 c4_i32_10
  let c0_i32_15 : BitVec 32 := 0#32
  let v33 : BitVec 1 := Scalar.cmpi .ne v32 c0_i32_15
  let v34 : BitVec 1 := Scalar.andi v31 v33
  let c1_i32_16 : BitVec 32 := 1#32
  let v35 : BitVec 32 := Scalar.subi v20 c1_i32_16
  let v36 : BitVec 32 := Scalar.select v34 v35 v20
  let c0_i32_17 : BitVec 32 := 0#32
  ![v17.toNat, v36.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c40_i32 : BitVec 32 := 40#32
  let v19 : BitVec 32 := Scalar.addi c40_i32 v18
  let c0_i32_6 : BitVec 32 := 0#32
  let c0_i32_7 : BitVec 32 := 0#32
  ![c0_i32_6.toNat, v19.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 1 := Scalar.cmpi .sgt arg1 c0_i32
  let c1_i32 : BitVec 32 := 1#32
  let v2 : BitVec 32 := Scalar.subi arg1 c1_i32
  let c0_i32_0 : BitVec 32 := 0#32
  let v3 : BitVec 32 := Scalar.maxsi v2 c0_i32_0
  let c4_i32_1 : BitVec 32 := 4#32
  let c0_i32_2 : BitVec 32 := 0#32
  let v4 : BitVec 1 := Scalar.cmpi .eq c4_i32_1 c0_i32_2
  let c1_i32_3 : BitVec 32 := 1#32
  let v5 : BitVec 32 := Scalar.select v4 c1_i32_3 c4_i32_1
  let v6 : BitVec 32 := Scalar.remsi v3 v5
  let c0_i32_4 : BitVec 32 := 0#32
  let v7 : BitVec 1 := Scalar.cmpi .ne v6 c0_i32_4
  let c0_i32_5 : BitVec 32 := 0#32
  let v8 : BitVec 1 := Scalar.cmpi .slt v6 c0_i32_5
  let c0_i32_6 : BitVec 32 := 0#32
  let v9 : BitVec 1 := Scalar.cmpi .slt v5 c0_i32_6
  let v10 : BitVec 1 := Scalar.xori v8 v9
  let v11 : BitVec 1 := Scalar.andi v10 v7
  let v12 : BitVec 32 := Scalar.addi v6 v5
  let v13 : BitVec 32 := Scalar.select v11 v12 v6
  let c3_i32 : BitVec 32 := 3#32
  let v14 : BitVec 1 := Scalar.cmpi .eq v13 c3_i32
  let v15 : BitVec 1 := Scalar.andi v1 v14
  let c0_i32_7 : BitVec 32 := 0#32
  let v16 : BitVec 32 := Scalar.select v15 arg2 c0_i32_7
  let v17 : BitVec 32 := Scalar.addi v0 v16
  let c1_i32_8 : BitVec 32 := 1#32
  let v18 : BitVec 32 := Scalar.subi arg1 c1_i32_8
  let c0_i32_9 : BitVec 32 := 0#32
  let v19 : BitVec 32 := Scalar.maxsi v18 c0_i32_9
  let c4_i32_10 : BitVec 32 := 4#32
  let v20 : BitVec 32 := Scalar.divsi v19 c4_i32_10
  let c0_i32_11 : BitVec 32 := 0#32
  let v21 : BitVec 1 := Scalar.cmpi .sgt v19 c0_i32_11
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c0_i32_13 : BitVec 32 := 0#32
  let v26 : BitVec 1 := Scalar.cmpi .sgt c4_i32_10 c0_i32_13
  let v27 : BitVec 32 := Scalar.extui v26
  let c0_i32_14 : BitVec 32 := 0#32
  let v28 : BitVec 1 := Scalar.cmpi .slt c4_i32_10 c0_i32_14
  let v29 : BitVec 32 := Scalar.extui v28
  let v30 : BitVec 32 := Scalar.subi v27 v29
  let v31 : BitVec 1 := Scalar.cmpi .ne v25 v30
  let v32 : BitVec 32 := Scalar.remsi v19 c4_i32_10
  let c0_i32_15 : BitVec 32 := 0#32
  let v33 : BitVec 1 := Scalar.cmpi .ne v32 c0_i32_15
  let v34 : BitVec 1 := Scalar.andi v31 v33
  let c1_i32_16 : BitVec 32 := 1#32
  let v35 : BitVec 32 := Scalar.subi v20 c1_i32_16
  let v36 : BitVec 32 := Scalar.select v34 v35 v20
  let c0_i32_17 : BitVec 32 := 0#32
  ![v17.toNat, v36.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1088x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference6Ideal.lean ====
abbrev S8704x16384 : Shape := ⟨2, ![8704, 16384]⟩
abbrev S2x8x2048x4096 : Shape := ⟨4, ![2, 8, 2048, 4096]⟩
abbrev S8704x4096 : Shape := ⟨2, ![8704, 4096]⟩
abbrev S8x24576 : Shape := ⟨2, ![8, 24576]⟩
abbrev S1x8x2048x4096 : Shape := ⟨4, ![1, 8, 2048, 4096]⟩
abbrev S8x2048x4096 : Shape := ⟨3, ![8, 2048, 4096]⟩
abbrev S16384x4096 : Shape := ⟨2, ![16384, 4096]⟩
abbrev S2x4096 : Shape := ⟨2, ![2, 4096]⟩
abbrev S2x1x4096 : Shape := ⟨3, ![2, 1, 4096]⟩
abbrev S1x4096 : Shape := ⟨2, ![1, 4096]⟩
abbrev S4096 : Shape := ⟨1, ![4096]⟩
abbrev S8192x4096 : Shape := ⟨2, ![8192, 4096]⟩
abbrev S2x4096x4096 : Shape := ⟨3, ![2, 4096, 4096]⟩
abbrev S512x4096 : Shape := ⟨2, ![512, 4096]⟩
abbrev S2x256x4096 : Shape := ⟨3, ![2, 256, 4096]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8704x16384, .bf16⟩
  | .hbm, ⟨1, _⟩ => ⟨S2x8x2048x4096, .f32⟩
  | .hbm, ⟨2, _⟩ => ⟨S8704x4096, .f32⟩
  | .hbm, ⟨3, _⟩ => ⟨S8x24576, .f32⟩
  | .hbm, ⟨4, _⟩ => ⟨S8704x16384, .f32⟩
  | .hbm, ⟨5, _⟩ => ⟨S1x8x2048x4096, .f32⟩
  | .hbm, ⟨6, _⟩ => ⟨S8x2048x4096, .f32⟩
  | .hbm, ⟨7, _⟩ => ⟨S16384x4096, .f32⟩
  | .hbm, ⟨8, _⟩ => ⟨S8704x4096, .f32⟩
  | .hbm, ⟨9, _⟩ => ⟨S2x4096, .f32⟩
  | .hbm, ⟨10, _⟩ => ⟨S2x1x4096, .f32⟩
  | .hbm, ⟨11, _⟩ => ⟨S1x4096, .f32⟩
  | .hbm, ⟨12, _⟩ => ⟨S4096, .f32⟩
  | .hbm, ⟨13, _⟩ => ⟨S8192x4096, .f32⟩
  | .hbm, ⟨14, _⟩ => ⟨S2x4096x4096, .f32⟩
  | .hbm, ⟨15, _⟩ => ⟨S8192x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S512x4096, .f32⟩
  | .hbm, ⟨21, _⟩ => ⟨S2x256x4096, .f32⟩
  | .hbm, ⟨22, _⟩ => ⟨S512x4096, .f32⟩
  | .hbm, ⟨23, _⟩ => ⟨S2x256x4096, .f32⟩
  | .hbm, ⟨24, _⟩ => ⟨S1x1x4096, .f32⟩
  | .hbm, ⟨25, _⟩ => ⟨S2x256x4096, .f32⟩
  | .hbm, ⟨26, _⟩ => ⟨S2x256x4096, .f32⟩
  | .hbm, ⟨27, _⟩ => ⟨S2x256x4096, .f32⟩
  | .hbm, ⟨28, _⟩ => ⟨S8192x4096, .f32⟩
  | .hbm, ⟨29, _⟩ => ⟨S512x4096, .f32⟩
  | .hbm, ⟨30, _⟩ => ⟨S8704x4096, .f32⟩
  | _, _ => ⟨S8704x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== Kernel7.lean ====
abbrev S8704x8192 : Shape := ⟨2, ![8704, 8192]⟩
abbrev S2x8192x4096 : Shape := ⟨3, ![2, 8192, 4096]⟩
abbrev S8704x4096 : Shape := ⟨2, ![8704, 4096]⟩
abbrev S8x24576 : Shape := ⟨2, ![8, 24576]⟩
abbrev S1088x4096 : Shape := ⟨2, ![1088, 4096]⟩
abbrev S1x1024x512 : Shape := ⟨3, ![1, 1024, 512]⟩
abbrev S1088x512 : Shape := ⟨2, ![1088, 512]⟩
abbrev S8x512 : Shape := ⟨2, ![8, 512]⟩
abbrev S2x4096x512 : Shape := ⟨3, ![2, 4096, 512]⟩
abbrev S4352x512 : Shape := ⟨2, ![4352, 512]⟩
abbrev S1024x512 : Shape := ⟨2, ![1024, 512]⟩
abbrev S544x4096 : Shape := ⟨2, ![544, 4096]⟩
abbrev S1x4096x512 : Shape := ⟨3, ![1, 4096, 512]⟩
abbrev S4096x512 : Shape := ⟨2, ![4096, 512]⟩
abbrev S544x512 : Shape := ⟨2, ![544, 512]⟩
abbrev S544x1 : Shape := ⟨2, ![544, 1]⟩
abbrev S1x512 : Shape := ⟨2, ![1, 512]⟩

abbrev nBuf : Space → Nat
  | .hbm => 5
  | .vmem => 12
  | .smem => 0
  | _ => 0

abbrev bufTy : (tb : Table) → Fin (tcTables nBuf tb) → BufTy
  | .hbm, ⟨0, _⟩ => ⟨S8704x8192, .bf16⟩
  | .hbm, ⟨1, _⟩ => ⟨S2x8192x4096, .f32⟩
  | .hbm, ⟨2, _⟩ => ⟨S8704x4096, .f32⟩
  | .hbm, ⟨3, _⟩ => ⟨S8x24576, .f32⟩
  | .hbm, ⟨4, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S1x1024x512, .f32⟩
  | .local _ .vmem, ⟨3, _⟩ => ⟨S1x1024x512, .f32⟩
  | .local _ .vmem, ⟨4, _⟩ => ⟨S1088x512, .f32⟩
  | .local _ .vmem, ⟨5, _⟩ => ⟨S1088x512, .f32⟩
  | .local _ .vmem, ⟨6, _⟩ => ⟨S8x512, .f32⟩
  | .local _ .vmem, ⟨7, _⟩ => ⟨S8x512, .f32⟩
  | .local _ .vmem, ⟨8, _⟩ => ⟨S1088x512, .f32⟩
  | .local _ .vmem, ⟨9, _⟩ => ⟨S1088x512, .f32⟩
  | .local _ .vmem, ⟨10, _⟩ => ⟨S2x4096x512, .bf16⟩
  | .local _ .vmem, ⟨11, _⟩ => ⟨S4352x512, .f32⟩
  | _, _ => ⟨S8704x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 17, 4], ![false, false, false]⟩

def k0_cond1 (i : grid0.Coords) : BitVec 1 :=
  let arg1 : BitVec 32 := BitVec.ofNat 32 (i 1).val
  let c16_i32 : BitVec 32 := 16#32
  let v0 : BitVec 1 := Scalar.cmpi .slt arg1 c16_i32
  let v1 : BitVec 32 := Scalar.extui v0
  let c0_i32 : BitVec 32 := 0#32
  let v2 : BitVec 1 := Scalar.cmpi .ne v1 c0_i32
  v2

def k0_mult1 (i : grid0.Coords) : BitVec 32 :=
  let arg2 : BitVec 32 := BitVec.ofNat 32 (i 2).val
  let c1024_i32 : BitVec 32 := 1024#32
  let v19 : BitVec 32 := Scalar.muli arg2 c1024_i32
  v19
def k0_off1 (i : grid0.Coords) : Fin 3 → Nat :=
  let arg1 : BitVec 32 := BitVec.ofNat 32 (i 1).val
  let c2_i32 : BitVec 32 := 2#32
  let c0_i32_4 : BitVec 32 := 0#32
  let v9 : BitVec 1 := Scalar.cmpi .eq c2_i32 c0_i32_4
  let c1_i32 : BitVec 32 := 1#32
  let v10 : BitVec 32 := Scalar.select v9 c1_i32 c2_i32
  let v11 : BitVec 32 := Scalar.remsi arg1 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v21 : Index := Scalar.indexCast v18
  let arg2 : BitVec 32 := BitVec.ofNat 32 (i 2).val
  let c1024_i32 : BitVec 32 := 1024#32
  let v19 : BitVec 32 := Scalar.muli arg2 c1024_i32
  let v20 : BitVec 32 := v19
  let v22 : Index := Scalar.indexCast v20
  let c0_8 : Index := 0#32
  ![v21.toNat, v22.toNat, 0]
def k0_cond2 (i : grid0.Coords) : BitVec 1 :=
  let arg1 : BitVec 32 := BitVec.ofNat 32 (i 1).val
  let c0_i32_0 : BitVec 32 := 0#32
  let v3 : BitVec 1 := Scalar.cmpi .sgt arg1 c0_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c1_i32_7 : BitVec 32 := 1#32
  let v17 : BitVec 32 := Scalar.subi arg1 c1_i32_7
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c0_i32_14 : BitVec 32 := 0#32
  let v28 : BitVec 1 := Scalar.cmpi .eq v27 c0_i32_14
  let v29 : BitVec 32 := Scalar.extui v28
  let c0_i32_15 : BitVec 32 := 0#32
  let v30 : BitVec 1 := Scalar.cmpi .ne v29 c0_i32_15
  v30

def k0_off2 (i : grid0.Coords) : Fin 3 → Nat :=
  let arg1 : BitVec 32 := BitVec.ofNat 32 (i 1).val
  let c1_i32 : BitVec 32 := 1#32
  let v6 : BitVec 32 := Scalar.subi arg1 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v40 : Index := Scalar.indexCast v16
  let c0_22 : Index := 0#32
  let c0_23 : Index := 0#32
  ![v40.toNat, 0, 0]
def k0_mult2 (i : grid0.Coords) : BitVec 32 :=
  let arg2 : BitVec 32 := BitVec.ofNat 32 (i 2).val
  let c1088_i32 : BitVec 32 := 1088#32
  let v44 : BitVec 32 := Scalar.muli arg2 c1088_i32
  let c0_i32_24 : BitVec 32 := 0#32
  let v45 : BitVec 32 := Scalar.addi v44 c0_i32_24
  v45
def k0_off3 (i : grid0.Coords) (c0_i32_24 : BitVec 32) : Fin 2 → Nat :=
  let arg2 : BitVec 32 := BitVec.ofNat 32 (i 2).val
  let c1088_i32 : BitVec 32 := 1088#32
  let v44 : BitVec 32 := Scalar.muli arg2 c1088_i32
  let v45 : BitVec 32 := Scalar.addi v44 c0_i32_24
  let v46 : BitVec 32 := v45
  let v47 : Index := Scalar.indexCast v46
  let c0_25 : Index := 0#32
  ![v47.toNat, 0]
def k0_mult3 (i : grid0.Coords) : BitVec 32 :=
  let arg2 : BitVec 32 := BitVec.ofNat 32 (i 2).val
  let c1088_i32_30 : BitVec 32 := 1088#32
  let v56 : BitVec 32 := Scalar.muli arg2 c1088_i32_30
  let c544_i32 : BitVec 32 := 544#32
  let v57 : BitVec 32 := Scalar.addi v56 c544_i32
  v57
def k0_cond4 (i : grid0.Coords) : BitVec 1 :=
  let arg1 : BitVec 32 := BitVec.ofNat 32 (i 1).val
  let c1_i32_7 : BitVec 32 := 1#32
  let v17 : BitVec 32 := Scalar.subi arg1 c1_i32_7
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c0_i32_16 : BitVec 32 := 0#32
  let v31 : BitVec 1 := Scalar.cmpi .sgt v27 c0_i32_16
  let c1_i32_17 : BitVec 32 := 1#32
  let v32 : BitVec 1 := Scalar.cmpi .slt v27 c1_i32_17
  let v33 : BitVec 1 := Scalar.andi v31 v32
  let v34 : BitVec 32 := Scalar.extui v33
  let c0_i32_18 : BitVec 32 := 0#32
  let v35 : BitVec 1 := Scalar.cmpi .ne v34 c0_i32_18
  v35

def k0_mult4 (i : grid0.Coords) : BitVec 32 :=
  let arg2 : BitVec 32 := BitVec.ofNat 32 (i 2).val
  let c1088_i32 : BitVec 32 := 1088#32
  let v39 : BitVec 32 := Scalar.muli arg2 c1088_i32
  let c0_i32_21 : BitVec 32 := 0#32
  let v40 : BitVec 32 := Scalar.addi v39 c0_i32_21
  v40
def k0_off4 (i : grid0.Coords) (c0_i32_21 : BitVec 32) : Fin 2 → Nat :=
  let arg2 : BitVec 32 := BitVec.ofNat 32 (i 2).val
  let c1088_i32 : BitVec 32 := 1088#32
  let v39 : BitVec 32 := Scalar.muli arg2 c1088_i32
  let v40 : BitVec 32 := Scalar.addi v39 c0_i32_21
  let v41 : BitVec 32 := v40
  let v42 : Index := Scalar.indexCast v41
  let c0 : Index := 0#32
  ![v42.toNat, 0]
def k0_off5 (i : grid0.Coords) : Fin 3 → Nat :=
  let arg1 : BitVec 32 := BitVec.ofNat 32 (i 1).val
  let c1_i32 : BitVec 32 := 1#32
  let v6 : BitVec 32 := Scalar.subi arg1 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v45 : Index := Scalar.indexCast v16
  let c0_24 : Index := 0#32
  let c0_25 : Index := 0#32
  ![v45.toNat, 0, 0]
def k0_mult5 (i : grid0.Coords) : BitVec 32 :=
  let arg2 : BitVec 32 := BitVec.ofNat 32 (i 2).val
  let c1088_i32_27 : BitVec 32 := 1088#32
  let v54 : BitVec 32 := Scalar.muli arg2 c1088_i32_27
  let c544_i32 : BitVec 32 := 544#32
  let v55 : BitVec 32 := Scalar.addi v54 c544_i32
  v55
def k0_cond5 (i : grid0.Coords) : BitVec 1 :=
  let arg1 : BitVec 32 := BitVec.ofNat 32 (i 1).val
  let c1_i32_7 : BitVec 32 := 1#32
  let v17 : BitVec 32 := Scalar.subi arg1 c1_i32_7
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_19 : BitVec 32 := 1#32
  let v36 : BitVec 1 := Scalar.cmpi .eq v27 c1_i32_19
  let v37 : BitVec 32 := Scalar.extui v36
  let c0_i32_20 : BitVec 32 := 0#32
  let v38 : BitVec 1 := Scalar.cmpi .ne v37 c0_i32_20
  v38

def k0_mult6 (i : grid0.Coords) : BitVec 32 :=
  let arg2 : BitVec 32 := BitVec.ofNat 32 (i 2).val
  let c1088_i32 : BitVec 32 := 1088#32
  let v39 : BitVec 32 := Scalar.muli arg2 c1088_i32
  let c0_i32_21 : BitVec 32 := 0#32
  let v40 : BitVec 32 := Scalar.addi v39 c0_i32_21
  v40
def k0_off6 (i : grid0.Coords) (c0_i32_21 : BitVec 32) : Fin 2 → Nat :=
  let arg2 : BitVec 32 := BitVec.ofNat 32 (i 2).val
  let c1088_i32 : BitVec 32 := 1088#32
  let v39 : BitVec 32 := Scalar.muli arg2 c1088_i32
  let v40 : BitVec 32 := Scalar.addi v39 c0_i32_21
  let v41 : BitVec 32 := v40
  let v42 : Index := Scalar.indexCast v41
  let c0 : Index := 0#32
  ![v42.toNat, 0]
def k0_off7 (i : grid0.Coords) : Fin 3 → Nat :=
  let arg1 : BitVec 32 := BitVec.ofNat 32 (i 1).val
  let c1_i32 : BitVec 32 := 1#32
  let v6 : BitVec 32 := Scalar.subi arg1 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v45 : Index := Scalar.indexCast v16
  let c0_24 : Index := 0#32
  let c0_25 : Index := 0#32
  ![v45.toNat, 0, 0]
def k0_mult7 (i : grid0.Coords) : BitVec 32 :=
  let arg2 : BitVec 32 := BitVec.ofNat 32 (i 2).val
  let c1088_i32_36 : BitVec 32 := 1088#32
  let v80 : BitVec 32 := Scalar.muli arg2 c1088_i32_36
  let c544_i32 : BitVec 32 := 544#32
  let v81 : BitVec 32 := Scalar.addi v80 c544_i32
  v81
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 1 := Scalar.cmpi .eq arg1 c0_i32
  let c0_i32_0 : BitVec 32 := 0#32
  let v2 : BitVec 32 := Scalar.select v1 c0_i32_0 arg2
  let v3 : BitVec 32 := Scalar.addi v0 v2
  let c1_i32 : BitVec 32 := 1#32
  let v4 : BitVec 32 := Scalar.subi arg1 c1_i32
  let c0_i32_1 : BitVec 32 := 0#32
  let v5 : BitVec 32 := Scalar.maxsi v4 c0_i32_1
  let c2_i32 : BitVec 32 := 2#32
  let c0_i32_2 : BitVec 32 := 0#32
  let v6 : BitVec 1 := Scalar.cmpi .eq c2_i32 c0_i32_2
  let c1_i32_3 : BitVec 32 := 1#32
  let v7 : BitVec 32 := Scalar.select v6 c1_i32_3 c2_i32
  let v8 : BitVec 32 := Scalar.remsi v5 v7
  let c0_i32_4 : BitVec 32 := 0#32
  let v9 : BitVec 1 := Scalar.cmpi .ne v8 c0_i32_4
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let v13 : BitVec 1 := Scalar.andi v12 v9
  let v14 : BitVec 32 := Scalar.addi v8 v7
  let v15 : BitVec 32 := Scalar.select v13 v14 v8
  let c0_i32_7 : BitVec 32 := 0#32
  ![v3.toNat, v15.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg1 c15_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32 : BitVec 32 := 4#32
  let v11 : BitVec 32 := Scalar.muli v10 c4_i32
  let v12 : BitVec 32 := Scalar.addi v11 arg2
  let c15_i32_3 : BitVec 32 := 15#32
  let v13 : BitVec 32 := Scalar.minsi arg1 c15_i32_3
  let c2_i32_4 : BitVec 32 := 2#32
  let v14 : BitVec 32 := Scalar.divsi v13 c2_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c0_i32_7 : BitVec 32 := 0#32
  let v20 : BitVec 1 := Scalar.cmpi .sgt c2_i32_4 c0_i32_7
  let v21 : BitVec 32 := Scalar.extui v20
  let c0_i32_8 : BitVec 32 := 0#32
  let v22 : BitVec 1 := Scalar.cmpi .slt c2_i32_4 c0_i32_8
  let v23 : BitVec 32 := Scalar.extui v22
  let v24 : BitVec 32 := Scalar.subi v21 v23
  let v25 : BitVec 1 := Scalar.cmpi .ne v19 v24
  let v26 : BitVec 32 := Scalar.remsi v13 c2_i32_4
  let c0_i32_9 : BitVec 32 := 0#32
  let v27 : BitVec 1 := Scalar.cmpi .ne v26 c0_i32_9
  let v28 : BitVec 1 := Scalar.andi v25 v27
  let c1_i32_10 : BitVec 32 := 1#32
  let v29 : BitVec 32 := Scalar.subi v14 c1_i32_10
  let v30 : BitVec 32 := Scalar.select v28 v29 v14
  let c0_i32_11 : BitVec 32 := 0#32
  let c0_i32_12 : BitVec 32 := 0#32
  ![c0_i32_11.toNat, v12.toNat, v30.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 1 := Scalar.cmpi .sgt arg1 c0_i32
  let c1_i32 : BitVec 32 := 1#32
  let v2 : BitVec 32 := Scalar.subi arg1 c1_i32
  let c0_i32_0 : BitVec 32 := 0#32
  let v3 : BitVec 32 := Scalar.maxsi v2 c0_i32_0
  let c2_i32 : BitVec 32 := 2#32
  let c0_i32_1 : BitVec 32 := 0#32
  let v4 : BitVec 1 := Scalar.cmpi .eq c2_i32 c0_i32_1
  let c1_i32_2 : BitVec 32 := 1#32
  let v5 : BitVec 32 := Scalar.select v4 c1_i32_2 c2_i32
  let v6 : BitVec 32 := Scalar.remsi v3 v5
  let c0_i32_3 : BitVec 32 := 0#32
  let v7 : BitVec 1 := Scalar.cmpi .ne v6 c0_i32_3
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v1 v14
  let c0_i32_7 : BitVec 32 := 0#32
  let v16 : BitVec 32 := Scalar.select v15 arg2 c0_i32_7
  let v17 : BitVec 32 := Scalar.addi v0 v16
  let c1_i32_8 : BitVec 32 := 1#32
  let v18 : BitVec 32 := Scalar.subi arg1 c1_i32_8
  let c0_i32_9 : BitVec 32 := 0#32
  let v19 : BitVec 32 := Scalar.maxsi v18 c0_i32_9
  let c2_i32_10 : BitVec 32 := 2#32
  let v20 : BitVec 32 := Scalar.divsi v19 c2_i32_10
  let c0_i32_11 : BitVec 32 := 0#32
  let v21 : BitVec 1 := Scalar.cmpi .sgt v19 c0_i32_11
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c0_i32_13 : BitVec 32 := 0#32
  let v26 : BitVec 1 := Scalar.cmpi .sgt c2_i32_10 c0_i32_13
  let v27 : BitVec 32 := Scalar.extui v26
  let c0_i32_14 : BitVec 32 := 0#32
  let v28 : BitVec 1 := Scalar.cmpi .slt c2_i32_10 c0_i32_14
  let v29 : BitVec 32 := Scalar.extui v28
  let v30 : BitVec 32 := Scalar.subi v27 v29
  let v31 : BitVec 1 := Scalar.cmpi .ne v25 v30
  let v32 : BitVec 32 := Scalar.remsi v19 c2_i32_10
  let c0_i32_15 : BitVec 32 := 0#32
  let v33 : BitVec 1 := Scalar.cmpi .ne v32 c0_i32_15
  let v34 : BitVec 1 := Scalar.andi v31 v33
  let c1_i32_16 : BitVec 32 := 1#32
  let v35 : BitVec 32 := Scalar.subi v20 c1_i32_16
  let v36 : BitVec 32 := Scalar.select v34 v35 v20
  let c0_i32_17 : BitVec 32 := 0#32
  ![v17.toNat, v36.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c40_i32 : BitVec 32 := 40#32
  let v19 : BitVec 32 := Scalar.addi c40_i32 v18
  let c0_i32_6 : BitVec 32 := 0#32
  let c0_i32_7 : BitVec 32 := 0#32
  ![c0_i32_6.toNat, v19.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 1 := Scalar.cmpi .sgt arg1 c0_i32
  let c1_i32 : BitVec 32 := 1#32
  let v2 : BitVec 32 := Scalar.subi arg1 c1_i32
  let c0_i32_0 : BitVec 32 := 0#32
  let v3 : BitVec 32 := Scalar.maxsi v2 c0_i32_0
  let c2_i32 : BitVec 32 := 2#32
  let c0_i32_1 : BitVec 32 := 0#32
  let v4 : BitVec 1 := Scalar.cmpi .eq c2_i32 c0_i32_1
  let c1_i32_2 : BitVec 32 := 1#32
  let v5 : BitVec 32 := Scalar.select v4 c1_i32_2 c2_i32
  let v6 : BitVec 32 := Scalar.remsi v3 v5
  let c0_i32_3 : BitVec 32 := 0#32
  let v7 : BitVec 1 := Scalar.cmpi .ne v6 c0_i32_3
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v1 v14
  let c0_i32_7 : BitVec 32 := 0#32
  let v16 : BitVec 32 := Scalar.select v15 arg2 c0_i32_7
  let v17 : BitVec 32 := Scalar.addi v0 v16
  let c1_i32_8 : BitVec 32 := 1#32
  let v18 : BitVec 32 := Scalar.subi arg1 c1_i32_8
  let c0_i32_9 : BitVec 32 := 0#32
  let v19 : BitVec 32 := Scalar.maxsi v18 c0_i32_9
  let c2_i32_10 : BitVec 32 := 2#32
  let v20 : BitVec 32 := Scalar.divsi v19 c2_i32_10
  let c0_i32_11 : BitVec 32 := 0#32
  let v21 : BitVec 1 := Scalar.cmpi .sgt v19 c0_i32_11
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c0_i32_13 : BitVec 32 := 0#32
  let v26 : BitVec 1 := Scalar.cmpi .sgt c2_i32_10 c0_i32_13
  let v27 : BitVec 32 := Scalar.extui v26
  let c0_i32_14 : BitVec 32 := 0#32
  let v28 : BitVec 1 := Scalar.cmpi .slt c2_i32_10 c0_i32_14
  let v29 : BitVec 32 := Scalar.extui v28
  let v30 : BitVec 32 := Scalar.subi v27 v29
  let v31 : BitVec 1 := Scalar.cmpi .ne v25 v30
  let v32 : BitVec 32 := Scalar.remsi v19 c2_i32_10
  let c0_i32_15 : BitVec 32 := 0#32
  let v33 : BitVec 1 := Scalar.cmpi .ne v32 c0_i32_15
  let v34 : BitVec 1 := Scalar.andi v31 v33
  let c1_i32_16 : BitVec 32 := 1#32
  let v35 : BitVec 32 := Scalar.subi v20 c1_i32_16
  let v36 : BitVec 32 := Scalar.select v34 v35 v20
  let c0_i32_17 : BitVec 32 := 0#32
  ![v17.toNat, v36.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1088x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference7Ideal.lean ====
abbrev S8704x8192 : Shape := ⟨2, ![8704, 8192]⟩
abbrev S2x8192x4096 : Shape := ⟨3, ![2, 8192, 4096]⟩
abbrev S8704x4096 : Shape := ⟨2, ![8704, 4096]⟩
abbrev S8x24576 : Shape := ⟨2, ![8, 24576]⟩
abbrev S1x8192x4096 : Shape := ⟨3, ![1, 8192, 4096]⟩
abbrev S8192x4096 : Shape := ⟨2, ![8192, 4096]⟩
abbrev S2x4096 : Shape := ⟨2, ![2, 4096]⟩
abbrev S2x1x4096 : Shape := ⟨3, ![2, 1, 4096]⟩
abbrev S1x4096 : Shape := ⟨2, ![1, 4096]⟩
abbrev S4096 : Shape := ⟨1, ![4096]⟩
abbrev S2x4096x4096 : Shape := ⟨3, ![2, 4096, 4096]⟩
abbrev S512x4096 : Shape := ⟨2, ![512, 4096]⟩
abbrev S2x256x4096 : Shape := ⟨3, ![2, 256, 4096]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8704x8192, .bf16⟩
  | .hbm, ⟨1, _⟩ => ⟨S2x8192x4096, .f32⟩
  | .hbm, ⟨2, _⟩ => ⟨S8704x4096, .f32⟩
  | .hbm, ⟨3, _⟩ => ⟨S8x24576, .f32⟩
  | .hbm, ⟨4, _⟩ => ⟨S8704x8192, .f32⟩
  | .hbm, ⟨5, _⟩ => ⟨S1x8192x4096, .f32⟩
  | .hbm, ⟨6, _⟩ => ⟨S8192x4096, .f32⟩
  | .hbm, ⟨7, _⟩ => ⟨S8704x4096, .f32⟩
  | .hbm, ⟨8, _⟩ => ⟨S2x4096, .f32⟩
  | .hbm, ⟨9, _⟩ => ⟨S2x1x4096, .f32⟩
  | .hbm, ⟨10, _⟩ => ⟨S1x4096, .f32⟩
  | .hbm, ⟨11, _⟩ => ⟨S4096, .f32⟩
  | .hbm, ⟨12, _⟩ => ⟨S8192x4096, .f32⟩
  | .hbm, ⟨13, _⟩ => ⟨S2x4096x4096, .f32⟩
  | .hbm, ⟨14, _⟩ => ⟨S8192x4096, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S512x4096, .f32⟩
  | .hbm, ⟨20, _⟩ => ⟨S2x256x4096, .f32⟩
  | .hbm, ⟨21, _⟩ => ⟨S512x4096, .f32⟩
  | .hbm, ⟨22, _⟩ => ⟨S2x256x4096, .f32⟩
  | .hbm, ⟨23, _⟩ => ⟨S1x1x4096, .f32⟩
  | .hbm, ⟨24, _⟩ => ⟨S2x256x4096, .f32⟩
  | .hbm, ⟨25, _⟩ => ⟨S2x256x4096, .f32⟩
  | .hbm, ⟨26, _⟩ => ⟨S2x256x4096, .f32⟩
  | .hbm, ⟨27, _⟩ => ⟨S8192x4096, .f32⟩
  | .hbm, ⟨28, _⟩ => ⟨S512x4096, .f32⟩
  | .hbm, ⟨29, _⟩ => ⟨S8704x4096, .f32⟩
  | _, _ => ⟨S8704x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Kernel8.lean ====
abbrev S8704x4096 : Shape := ⟨2, ![8704, 4096]⟩
abbrev S2x4096x12288 : Shape := ⟨3, ![2, 4096, 12288]⟩
abbrev S128 : Shape := ⟨1, ![128]⟩
abbrev S_ : Shape := ⟨0, ![]⟩
abbrev S1x128 : Shape := ⟨2, ![1, 128]⟩
abbrev S32x128 : Shape := ⟨2, ![32, 128]⟩
abbrev S4096 : Shape := ⟨1, ![4096]⟩
abbrev S12288 : Shape := ⟨1, ![12288]⟩
abbrev S1x12288 : Shape := ⟨2, ![1, 12288]⟩
abbrev S8704x12288 : Shape := ⟨2, ![8704, 12288]⟩
abbrev S1088x4096 : Shape := ⟨2, ![1088, 4096]⟩
abbrev S1x512x1024 : Shape := ⟨3, ![1, 512, 1024]⟩
abbrev S1x1024 : Shape := ⟨2, ![1, 1024]⟩
abbrev S1088x1024 : Shape := ⟨2, ![1088, 1024]⟩
abbrev S2x4096x1024 : Shape := ⟨3, ![2, 4096, 1024]⟩
abbrev S512x1024 : Shape := ⟨2, ![512, 1024]⟩
abbrev S272x4096 : Shape := ⟨2, ![272, 4096]⟩
abbrev S1x4096x1024 : Shape := ⟨3, ![1, 4096, 1024]⟩
abbrev S4096x1024 : Shape := ⟨2, ![4096, 1024]⟩
abbrev S272x1024 : Shape := ⟨2, ![272, 1024]⟩
abbrev S272x128 : Shape := ⟨2, ![272, 128]⟩
abbrev S272 : Shape := ⟨1, ![272]⟩
abbrev S272x1 : Shape := ⟨2, ![272, 1]⟩

abbrev nBuf : Space → Nat
  | .hbm => 18
  | .vmem => 9
  | .smem => 0
  | _ => 0

abbrev bufTy : (tb : Table) → Fin (tcTables nBuf tb) → BufTy
  | .hbm, ⟨0, _⟩ => ⟨S8704x4096, .bf16⟩
  | .hbm, ⟨1, _⟩ => ⟨S2x4096x12288, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S1x128, .f32⟩
  | .hbm, ⟨8, _⟩ => ⟨S32x128, .f32⟩
  | .hbm, ⟨9, _⟩ => ⟨S4096, .f32⟩
  | .hbm, ⟨10, _⟩ => ⟨S1x128, .f32⟩
  | .hbm, ⟨11, _⟩ => ⟨S32x128, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S12288, .f32⟩
  | .hbm, ⟨16, _⟩ => ⟨S1x12288, .f32⟩
  | .hbm, ⟨17, _⟩ => ⟨S8704x12288, .bf16⟩
  | .local _ .vmem, ⟨0, _⟩ => ⟨S1088x4096, .bf16⟩
  | .local _ .vmem, ⟨1, _⟩ => ⟨S1088x4096, .bf16⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024, .f32⟩
  | .local _ .vmem, ⟨6, _⟩ => ⟨S1088x1024, .bf16⟩
  | .local _ .vmem, ⟨7, _⟩ => ⟨S1088x1024, .bf16⟩
  | .local _ .vmem, ⟨8, _⟩ => ⟨S2x4096x1024, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 8], ![false, false]⟩

def k0_cond1 (i : grid0.Coords) : BitVec 1 :=
  let arg0 : BitVec 32 := BitVec.ofNat 32 (i 0).val
  let c12_i32 : BitVec 32 := 12#32
  let v0 : BitVec 1 := Scalar.cmpi .slt arg0 c12_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c512_i32 : BitVec 32 := 512#32
  let v28 : BitVec 32 := Scalar.muli arg1 c512_i32
  v28
def k0_off1 (i : grid0.Coords) : Fin 3 → Nat :=
  let arg0 : BitVec 32 := BitVec.ofNat 32 (i 0).val
  let c2_i32 : BitVec 32 := 2#32
  let c0_i32_8 : BitVec 32 := 0#32
  let v18 : BitVec 1 := Scalar.cmpi .eq c2_i32 c0_i32_8
  let c1_i32_9 : BitVec 32 := 1#32
  let v19 : BitVec 32 := Scalar.select v18 c1_i32_9 c2_i32
  let v20 : BitVec 32 := Scalar.remsi arg0 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let v30 : Index := Scalar.indexCast v27
  let arg1 : BitVec 32 := BitVec.ofNat 32 (i 1).val
  let c512_i32 : BitVec 32 := 512#32
  let v28 : BitVec 32 := Scalar.muli arg1 c512_i32
  let v29 : BitVec 32 := v28
  let v31 : Index := Scalar.indexCast v29
  let c0_13 : Index := 0#32
  ![v30.toNat, v31.toNat, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let c1_i32 : BitVec 32 := 1#32
  let v4 : BitVec 32 := Scalar.subi arg0 c1_i32
  let c8_i32 : BitVec 32 := 8#32
  let v5 : BitVec 1 := Scalar.cmpi .slt v4 c8_i32
  let v6 : BitVec 1 := Scalar.andi v3 v5
  let v7 : BitVec 32 := Scalar.extui v6
  let c0_i32_1 : BitVec 32 := 0#32
  let v8 : BitVec 1 := Scalar.cmpi .ne v7 c0_i32_1
  v8

def k0_off2 (i : grid0.Coords) : Fin 3 → Nat :=
  let arg0 : BitVec 32 := BitVec.ofNat 32 (i 0).val
  let c1_i32_6 : BitVec 32 := 1#32
  let v15 : BitVec 32 := Scalar.subi arg0 c1_i32_6
  let c2_i32 : BitVec 32 := 2#32
  let c0_i32_7 : BitVec 32 := 0#32
  let v16 : BitVec 1 := Scalar.cmpi .eq c2_i32 c0_i32_7
  let c1_i32_8 : BitVec 32 := 1#32
  let v17 : BitVec 32 := Scalar.select v16 c1_i32_8 c2_i32
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let v27 : Index := Scalar.indexCast v25
  let c0_13 : Index := 0#32
  let c0_14 : Index := 0#32
  ![v27.toNat, 0, 0]
def k0_cond3 (i : grid0.Coords) : BitVec 1 :=
  let arg0 : BitVec 32 := BitVec.ofNat 32 (i 0).val
  let c0_i32_2 : BitVec 32 := 0#32
  let v9 : BitVec 1 := Scalar.cmpi .sgt arg0 c0_i32_2
  let c1_i32_3 : BitVec 32 := 1#32
  let v10 : BitVec 32 := Scalar.subi arg0 c1_i32_3
  let c8_i32_4 : BitVec 32 := 8#32
  let v11 : BitVec 1 := Scalar.cmpi .sge v10 c8_i32_4
  let v12 : BitVec 1 := Scalar.andi v9 v11
  let v13 : BitVec 32 := Scalar.extui v12
  let c0_i32_5 : BitVec 32 := 0#32
  let v14 : BitVec 1 := Scalar.cmpi .ne v13 c0_i32_5
  v14

def k0_off3 (i : grid0.Coords) : Fin 3 → Nat :=
  let arg0 : BitVec 32 := BitVec.ofNat 32 (i 0).val
  let c1_i32_7 : BitVec 32 := 1#32
  let v16 : BitVec 32 := Scalar.subi arg0 c1_i32_7
  let c2_i32 : BitVec 32 := 2#32
  let c0_i32_8 : BitVec 32 := 0#32
  let v17 : BitVec 1 := Scalar.cmpi .eq c2_i32 c0_i32_8
  let c1_i32_9 : BitVec 32 := 1#32
  let v18 : BitVec 32 := Scalar.select v17 c1_i32_9 c2_i32
  let v19 : BitVec 32 := Scalar.remsi v16 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v27 : Index := Scalar.indexCast v26
  let c0_13 : Index := 0#32
  let c0_14 : Index := 0#32
  ![v27.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  ![c0_i32.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8704x4096 : Shape := ⟨2, ![8704, 4096]⟩
abbrev S2x4096x12288 : Shape := ⟨3, ![2, 4096, 12288]⟩
abbrev S128 : Shape := ⟨1, ![128]⟩
abbrev S1x4096x12288 : Shape := ⟨3, ![1, 4096, 12288]⟩
abbrev S4096x12288 : Shape := ⟨2, ![4096, 12288]⟩
abbrev S8704x12288 : Shape := ⟨2, ![8704, 12288]⟩
abbrev S8704x32x128 : Shape := ⟨3, ![8704, 32, 128]⟩
abbrev S_ : Shape := ⟨0, ![]⟩
abbrev S8704x32 : Shape := ⟨2, ![8704, 32]⟩
abbrev S8704x32x1 : Shape := ⟨3, ![8704, 32, 1]⟩
abbrev S1x1x128 : Shape := ⟨3, ![1, 1, 128]⟩

abbrev nBuf : Space → Nat
  | .hbm => 52
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x12288, .f32⟩
  | .hbm, ⟨2, _⟩ => ⟨S128, .f32⟩
  | .hbm, ⟨3, _⟩ => ⟨S128, .f32⟩
  | .hbm, ⟨4, _⟩ => ⟨S8704x4096, .f32⟩
  | .hbm, ⟨5, _⟩ => ⟨S1x4096x12288, .f32⟩
  | .hbm, ⟨6, _⟩ => ⟨S4096x12288, .f32⟩
  | .hbm, ⟨7, _⟩ => ⟨S8704x12288, .f32⟩
  | .hbm, ⟨8, _⟩ => ⟨S8704x4096, .f32⟩
  | .hbm, ⟨9, _⟩ => ⟨S8704x32x128, .f32⟩
  | .hbm, ⟨10, _⟩ => ⟨S8704x32x128, .f32⟩
  | .hbm, ⟨11, _⟩ => ⟨S_, .f32⟩
  | .hbm, ⟨12, _⟩ => ⟨S8704x32, .f32⟩
  | .hbm, ⟨13, _⟩ => ⟨S8704x32x1, .f32⟩
  | .hbm, ⟨14, _⟩ => ⟨S_, .f32⟩
  | .hbm, ⟨15, _⟩ => ⟨S8704x32x1, .f32⟩
  | .hbm, ⟨16, _⟩ => ⟨S8704x32x1, .f32⟩
  | .hbm, ⟨17, _⟩ => ⟨S_, .f32⟩
  | .hbm, ⟨18, _⟩ => ⟨S8704x32x1, .f32⟩
  | .hbm, ⟨19, _⟩ => ⟨S8704x32x1, .f32⟩
  | .hbm, ⟨20, _⟩ => ⟨S8704x32x1, .f32⟩
  | .hbm, ⟨21, _⟩ => ⟨S8704x32x128, .f32⟩
  | .hbm, ⟨22, _⟩ => ⟨S8704x32x128, .f32⟩
  | .hbm, ⟨23, _⟩ => ⟨S1x1x128, .f32⟩
  | .hbm, ⟨24, _⟩ => ⟨S8704x32x128, .f32⟩
  | .hbm, ⟨25, _⟩ => ⟨S8704x32x128, .f32⟩
  | .hbm, ⟨26, _⟩ => ⟨S8704x4096, .f32⟩
  | .hbm, ⟨27, _⟩ => ⟨S_, .f32⟩
  | .hbm, ⟨28, _⟩ => ⟨S8704x4096, .f32⟩
  | .hbm, ⟨29, _⟩ => ⟨S8704x4096, .f32⟩
  | .hbm, ⟨30, _⟩ => ⟨S8704x4096, .f32⟩
  | .hbm, ⟨31, _⟩ => ⟨S8704x32x128, .f32⟩
  | .hbm, ⟨32, _⟩ => ⟨S8704x32x128, .f32⟩
  | .hbm, ⟨33, _⟩ => ⟨S_, .f32⟩
  | .hbm, ⟨34, _⟩ => ⟨S8704x32, .f32⟩
  | .hbm, ⟨35, _⟩ => ⟨S8704x32x1, .f32⟩
  | .hbm, ⟨36, _⟩ => ⟨S_, .f32⟩
  | .hbm, ⟨37, _⟩ => ⟨S8704x32x1, .f32⟩
  | .hbm, ⟨38, _⟩ => ⟨S8704x32x1, .f32⟩
  | .hbm, ⟨39, _⟩ => ⟨S_, .f32⟩
  | .hbm, ⟨40, _⟩ => ⟨S8704x32x1, .f32⟩
  | .hbm, ⟨41, _⟩ => ⟨S8704x32x1, .f32⟩
  | .hbm, ⟨42, _⟩ => ⟨S8704x32x1, .f32⟩
  | .hbm, ⟨43, _⟩ => ⟨S8704x32x128, .f32⟩
  | .hbm, ⟨44, _⟩ => ⟨S8704x32x128, .f32⟩
  | .hbm, ⟨45, _⟩ => ⟨S1x1x128, .f32⟩
  | .hbm, ⟨46, _⟩ => ⟨S8704x32x128, .f32⟩
  | .hbm, ⟨47, _⟩ => ⟨S8704x32x128, .f32⟩
  | .hbm, ⟨48, _⟩ => ⟨S8704x4096, .f32⟩
  | .hbm, ⟨49, _⟩ => ⟨S8704x4096, .f32⟩
  | .hbm, ⟨50, _⟩ => ⟨S8704x12288, .f32⟩
  | .hbm, ⟨51, _⟩ => ⟨S8704x12288, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel9.lean ====
abbrev S8704x4096 : Shape := ⟨2, ![8704, 4096]⟩
abbrev S1x4096x4096 : Shape := ⟨3, ![1, 4096, 4096]⟩
abbrev S8x24576 : Shape := ⟨2, ![8, 24576]⟩
abbrev S1088x4096 : Shape := ⟨2, ![1088, 4096]⟩
abbrev S1x512x512 : Shape := ⟨3, ![1, 512, 512]⟩
abbrev S1088x512 : Shape := ⟨2, ![1088, 512]⟩
abbrev S8x512 : Shape := ⟨2, ![8, 512]⟩
abbrev S2x4096x512 : Shape := ⟨3, ![2, 4096, 512]⟩
abbrev S512x512 : Shape := ⟨2, ![512, 512]⟩
abbrev S544x4096 : Shape := ⟨2, ![544, 4096]⟩
abbrev S1x4096x512 : Shape := ⟨3, ![1, 4096, 512]⟩
abbrev S4096x512 : Shape := ⟨2, ![4096, 512]⟩
abbrev S544x512 : Shape := ⟨2, ![544, 512]⟩
abbrev S544x1 : Shape := ⟨2, ![544, 1]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S8704x4096, .bf16⟩
  | .hbm, ⟨1, _⟩ => ⟨S1x4096x4096, .f32⟩
  | .hbm, ⟨2, _⟩ => ⟨S8704x4096, .f32⟩
  | .hbm, ⟨3, _⟩ => ⟨S8x24576, .f32⟩
  | .hbm, ⟨4, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S1x512x512, .f32⟩
  | .local _ .vmem, ⟨3, _⟩ => ⟨S1x512x512, .f32⟩
  | .local _ .vmem, ⟨4, _⟩ => ⟨S1088x512, .f32⟩
  | .local _ .vmem, ⟨5, _⟩ => ⟨S1088x512, .f32⟩
  | .local _ .vmem, ⟨6, _⟩ => ⟨S8x512, .f32⟩
  | .local _ .vmem, ⟨7, _⟩ => ⟨S8x512, .f32⟩
  | .local _ .vmem, ⟨8, _⟩ => ⟨S1088x512, .f32⟩
  | .local _ .vmem, ⟨9, _⟩ => ⟨S1088x512, .f32⟩
  | .local _ .vmem, ⟨10, _⟩ => ⟨S2x4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 9, 8], ![false, false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg2 : BitVec 32 := BitVec.ofNat 32 (i 2).val
  let c512_i32 : BitVec 32 := 512#32
  let v19 : BitVec 32 := Scalar.muli arg2 c512_i32
  v19
def k0_off1 (i : grid0.Coords) : Fin 3 → Nat :=
  let arg1 : BitVec 32 := BitVec.ofNat 32 (i 1).val
  let c2_i32 : BitVec 32 := 2#32
  let c0_i32_4 : BitVec 32 := 0#32
  let v9 : BitVec 1 := Scalar.cmpi .eq c2_i32 c0_i32_4
  let c1_i32 : BitVec 32 := 1#32
  let v10 : BitVec 32 := Scalar.select v9 c1_i32 c2_i32
  let v11 : BitVec 32 := Scalar.remsi arg1 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v21 : Index := Scalar.indexCast v18
  let arg2 : BitVec 32 := BitVec.ofNat 32 (i 2).val
  let c512_i32 : BitVec 32 := 512#32
  let v19 : BitVec 32 := Scalar.muli arg2 c512_i32
  let v20 : BitVec 32 := v19
  let v22 : Index := Scalar.indexCast v20
  let c0_8 : Index := 0#32
  ![v21.toNat, v22.toNat, 0]
def k0_cond2 (i : grid0.Coords) : BitVec 1 :=
  let arg1 : BitVec 32 := BitVec.ofNat 32 (i 1).val
  let c0_i32_0 : BitVec 32 := 0#32
  let v3 : BitVec 1 := Scalar.cmpi .sgt arg1 c0_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg1 : BitVec 32 := BitVec.ofNat 32 (i 1).val
  let c1_i32 : BitVec 32 := 1#32
  let v6 : BitVec 32 := Scalar.subi arg1 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v18 : Index := Scalar.indexCast v16
  let c0_8 : Index := 0#32
  let c0_9 : Index := 0#32
  ![v18.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 1 := Scalar.cmpi .eq arg1 c0_i32
  let c0_i32_0 : BitVec 32 := 0#32
  let v2 : BitVec 32 := Scalar.select v1 c0_i32_0 arg2
  let v3 : BitVec 32 := Scalar.addi v0 v2
  let c1_i32 : BitVec 32 := 1#32
  let v4 : BitVec 32 := Scalar.subi arg1 c1_i32
  let c0_i32_1 : BitVec 32 := 0#32
  let v5 : BitVec 32 := Scalar.maxsi v4 c0_i32_1
  let c1_i32_2 : BitVec 32 := 1#32
  let c0_i32_3 : BitVec 32 := 0#32
  let v6 : BitVec 1 := Scalar.cmpi .eq c1_i32_2 c0_i32_3
  let c1_i32_4 : BitVec 32 := 1#32
  let v7 : BitVec 32 := Scalar.select v6 c1_i32_4 c1_i32_2
  let v8 : BitVec 32 := Scalar.remsi v5 v7
  let c0_i32_5 : BitVec 32 := 0#32
  let v9 : BitVec 1 := Scalar.cmpi .ne v8 c0_i32_5
  let c0_i32_6 : BitVec 32 := 0#32
  let v10 : BitVec 1 := Scalar.cmpi .slt v8 c0_i32_6
  let c0_i32_7 : BitVec 32 := 0#32
  let v11 : BitVec 1 := Scalar.cmpi .slt v7 c0_i32_7
  let v12 : BitVec 1 := Scalar.xori v10 v11
  let v13 : BitVec 1 := Scalar.andi v12 v9
  let v14 : BitVec 32 := Scalar.addi v8 v7
  let v15 : BitVec 32 := Scalar.select v13 v14 v8
  let c0_i32_8 : BitVec 32 := 0#32
  ![v3.toNat, v15.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg1 c7_i32
  let c1_i32 : BitVec 32 := 1#32
  let c0_i32 : BitVec 32 := 0#32
  let v1 : BitVec 1 := Scalar.cmpi .eq c1_i32 c0_i32
  let c1_i32_0 : BitVec 32 := 1#32
  let v2 : BitVec 32 := Scalar.select v1 c1_i32_0 c1_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c8_i32 : BitVec 32 := 8#32
  let v11 : BitVec 32 := Scalar.muli v10 c8_i32
  let v12 : BitVec 32 := Scalar.addi v11 arg2
  let c7_i32_4 : BitVec 32 := 7#32
  let v13 : BitVec 32 := Scalar.minsi arg1 c7_i32_4
  let c1_i32_5 : BitVec 32 := 1#32
  let v14 : BitVec 32 := Scalar.divsi v13 c1_i32_5
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c0_i32_8 : BitVec 32 := 0#32
  let v20 : BitVec 1 := Scalar.cmpi .sgt c1_i32_5 c0_i32_8
  let v21 : BitVec 32 := Scalar.extui v20
  let c0_i32_9 : BitVec 32 := 0#32
  let v22 : BitVec 1 := Scalar.cmpi .slt c1_i32_5 c0_i32_9
  let v23 : BitVec 32 := Scalar.extui v22
  let v24 : BitVec 32 := Scalar.subi v21 v23
  let v25 : BitVec 1 := Scalar.cmpi .ne v19 v24
  let v26 : BitVec 32 := Scalar.remsi v13 c1_i32_5
  let c0_i32_10 : BitVec 32 := 0#32
  let v27 : BitVec 1 := Scalar.cmpi .ne v26 c0_i32_10
  let v28 : BitVec 1 := Scalar.andi v25 v27
  let c1_i32_11 : BitVec 32 := 1#32
  let v29 : BitVec 32 := Scalar.subi v14 c1_i32_11
  let v30 : BitVec 32 := Scalar.select v28 v29 v14
  let c0_i32_12 : BitVec 32 := 0#32
  let c0_i32_13 : BitVec 32 := 0#32
  ![c0_i32_12.toNat, v12.toNat, v30.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 1 := Scalar.cmpi .sgt arg1 c0_i32
  let c1_i32 : BitVec 32 := 1#32
  let v2 : BitVec 32 := Scalar.subi arg1 c1_i32
  let c0_i32_0 : BitVec 32 := 0#32
  let v3 : BitVec 32 := Scalar.maxsi v2 c0_i32_0
  let c1_i32_1 : BitVec 32 := 1#32
  let c0_i32_2 : BitVec 32 := 0#32
  let v4 : BitVec 1 := Scalar.cmpi .eq c1_i32_1 c0_i32_2
  let c1_i32_3 : BitVec 32 := 1#32
  let v5 : BitVec 32 := Scalar.select v4 c1_i32_3 c1_i32_1
  let v6 : BitVec 32 := Scalar.remsi v3 v5
  let c0_i32_4 : BitVec 32 := 0#32
  let v7 : BitVec 1 := Scalar.cmpi .ne v6 c0_i32_4
  let c0_i32_5 : BitVec 32 := 0#32
  let v8 : BitVec 1 := Scalar.cmpi .slt v6 c0_i32_5
  let c0_i32_6 : BitVec 32 := 0#32
  let v9 : BitVec 1 := Scalar.cmpi .slt v5 c0_i32_6
  let v10 : BitVec 1 := Scalar.xori v8 v9
  let v11 : BitVec 1 := Scalar.andi v10 v7
  let v12 : BitVec 32 := Scalar.addi v6 v5
  let v13 : BitVec 32 := Scalar.select v11 v12 v6
  let c0_i32_7 : BitVec 32 := 0#32
  let v14 : BitVec 1 := Scalar.cmpi .eq v13 c0_i32_7
  let v15 : BitVec 1 := Scalar.andi v1 v14
  let c0_i32_8 : BitVec 32 := 0#32
  let v16 : BitVec 32 := Scalar.select v15 arg2 c0_i32_8
  let v17 : BitVec 32 := Scalar.addi v0 v16
  let c1_i32_9 : BitVec 32 := 1#32
  let v18 : BitVec 32 := Scalar.subi arg1 c1_i32_9
  let c0_i32_10 : BitVec 32 := 0#32
  let v19 : BitVec 32 := Scalar.maxsi v18 c0_i32_10
  let c1_i32_11 : BitVec 32 := 1#32
  let v20 : BitVec 32 := Scalar.divsi v19 c1_i32_11
  let c0_i32_12 : BitVec 32 := 0#32
  let v21 : BitVec 1 := Scalar.cmpi .sgt v19 c0_i32_12
  let v22 : BitVec 32 := Scalar.extui v21
  let c0_i32_13 : BitVec 32 := 0#32
  let v23 : BitVec 1 := Scalar.cmpi .slt v19 c0_i32_13
  let v24 : BitVec 32 := Scalar.extui v23
  let v25 : BitVec 32 := Scalar.subi v22 v24
  let c0_i32_14 : BitVec 32 := 0#32
  let v26 : BitVec 1 := Scalar.cmpi .sgt c1_i32_11 c0_i32_14
  let v27 : BitVec 32 := Scalar.extui v26
  let c0_i32_15 : BitVec 32 := 0#32
  let v28 : BitVec 1 := Scalar.cmpi .slt c1_i32_11 c0_i32_15
  let v29 : BitVec 32 := Scalar.extui v28
  let v30 : BitVec 32 := Scalar.subi v27 v29
  let v31 : BitVec 1 := Scalar.cmpi .ne v25 v30
  let v32 : BitVec 32 := Scalar.remsi v19 c1_i32_11
  let c0_i32_16 : BitVec 32 := 0#32
  let v33 : BitVec 1 := Scalar.cmpi .ne v32 c0_i32_16
  let v34 : BitVec 1 := Scalar.andi v31 v33
  let c1_i32_17 : BitVec 32 := 1#32
  let v35 : BitVec 32 := Scalar.subi v20 c1_i32_17
  let v36 : BitVec 32 := Scalar.select v34 v35 v20
  let c0_i32_18 : BitVec 32 := 0#32
  ![v17.toNat, v36.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c16_i32 : BitVec 32 := 16#32
  let v19 : BitVec 32 := Scalar.addi c16_i32 v18
  let c0_i32_7 : BitVec 32 := 0#32
  let c0_i32_8 : BitVec 32 := 0#32
  ![c0_i32_7.toNat, v19.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 1 := Scalar.cmpi .sgt arg1 c0_i32
  let c1_i32 : BitVec 32 := 1#32
  let v2 : BitVec 32 := Scalar.subi arg1 c1_i32
  let c0_i32_0 : BitVec 32 := 0#32
  let v3 : BitVec 32 := Scalar.maxsi v2 c0_i32_0
  let c1_i32_1 : BitVec 32 := 1#32
  let c0_i32_2 : BitVec 32 := 0#32
  let v4 : BitVec 1 := Scalar.cmpi .eq c1_i32_1 c0_i32_2
  let c1_i32_3 : BitVec 32 := 1#32
  let v5 : BitVec 32 := Scalar.select v4 c1_i32_3 c1_i32_1
  let v6 : BitVec 32 := Scalar.remsi v3 v5
  let c0_i32_4 : BitVec 32 := 0#32
  let v7 : BitVec 1 := Scalar.cmpi .ne v6 c0_i32_4
  let c0_i32_5 : BitVec 32 := 0#32
  let v8 : BitVec 1 := Scalar.cmpi .slt v6 c0_i32_5
  let c0_i32_6 : BitVec 32 := 0#32
  let v9 : BitVec 1 := Scalar.cmpi .slt v5 c0_i32_6
  let v10 : BitVec 1 := Scalar.xori v8 v9
  let v11 : BitVec 1 := Scalar.andi v10 v7
  let v12 : BitVec 32 := Scalar.addi v6 v5
  let v13 : BitVec 32 := Scalar.select v11 v12 v6
  let c0_i32_7 : BitVec 32 := 0#32
  let v14 : BitVec 1 := Scalar.cmpi .eq v13 c0_i32_7
  let v15 : BitVec 1 := Scalar.andi v1 v14
  let c0_i32_8 : BitVec 32 := 0#32
  let v16 : BitVec 32 := Scalar.select v15 arg2 c0_i32_8
  let v17 : BitVec 32 := Scalar.addi v0 v16
  let c1_i32_9 : BitVec 32 := 1#32
  let v18 : BitVec 32 := Scalar.subi arg1 c1_i32_9
  let c0_i32_10 : BitVec 32 := 0#32
  let v19 : BitVec 32 := Scalar.maxsi v18 c0_i32_10
  let c1_i32_11 : BitVec 32 := 1#32
  let v20 : BitVec 32 := Scalar.divsi v19 c1_i32_11
  let c0_i32_12 : BitVec 32 := 0#32
  let v21 : BitVec 1 := Scalar.cmpi .sgt v19 c0_i32_12
  let v22 : BitVec 32 := Scalar.extui v21
  let c0_i32_13 : BitVec 32 := 0#32
  let v23 : BitVec 1 := Scalar.cmpi .slt v19 c0_i32_13
  let v24 : BitVec 32 := Scalar.extui v23
  let v25 : BitVec 32 := Scalar.subi v22 v24
  let c0_i32_14 : BitVec 32 := 0#32
  let v26 : BitVec 1 := Scalar.cmpi .sgt c1_i32_11 c0_i32_14
  let v27 : BitVec 32 := Scalar.extui v26
  let c0_i32_15 : BitVec 32 := 0#32
  let v28 : BitVec 1 := Scalar.cmpi .slt c1_i32_11 c0_i32_15
  let v29 : BitVec 32 := Scalar.extui v28
  let v30 : BitVec 32 := Scalar.subi v27 v29
  let v31 : BitVec 1 := Scalar.cmpi .ne v25 v30
  let v32 : BitVec 32 := Scalar.remsi v19 c1_i32_11
  let c0_i32_16 : BitVec 32 := 0#32
  let v33 : BitVec 1 := Scalar.cmpi .ne v32 c0_i32_16
  let v34 : BitVec 1 := Scalar.andi v31 v33
  let c1_i32_17 : BitVec 32 := 1#32
  let v35 : BitVec 32 := Scalar.subi v20 c1_i32_17
  let v36 : BitVec 32 := Scalar.select v34 v35 v20
  let c0_i32_18 : BitVec 32 := 0#32
  ![v17.toNat, v36.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1088x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference9Ideal.lean ====
abbrev S8704x4096 : Shape := ⟨2, ![8704, 4096]⟩
abbrev S1x4096x4096 : Shape := ⟨3, ![1, 4096, 4096]⟩
abbrev S8x24576 : Shape := ⟨2, ![8, 24576]⟩
abbrev S4096x4096 : Shape := ⟨2, ![4096, 4096]⟩
abbrev S2x4096 : Shape := ⟨2, ![2, 4096]⟩
abbrev S2x1x4096 : Shape := ⟨3, ![2, 1, 4096]⟩
abbrev S1x4096 : Shape := ⟨2, ![1, 4096]⟩
abbrev S4096 : Shape := ⟨1, ![4096]⟩
abbrev S8192x4096 : Shape := ⟨2, ![8192, 4096]⟩
abbrev S2x4096x4096 : Shape := ⟨3, ![2, 4096, 4096]⟩
abbrev S512x4096 : Shape := ⟨2, ![512, 4096]⟩
abbrev S2x256x4096 : Shape := ⟨3, ![2, 256, 4096]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S1x4096x4096, .f32⟩
  | .hbm, ⟨2, _⟩ => ⟨S8704x4096, .f32⟩
  | .hbm, ⟨3, _⟩ => ⟨S8x24576, .f32⟩
  | .hbm, ⟨4, _⟩ => ⟨S8704x4096, .f32⟩
  | .hbm, ⟨5, _⟩ => ⟨S4096x4096, .f32⟩
  | .hbm, ⟨6, _⟩ => ⟨S8704x4096, .f32⟩
  | .hbm, ⟨7, _⟩ => ⟨S2x4096, .f32⟩
  | .hbm, ⟨8, _⟩ => ⟨S2x1x4096, .f32⟩
  | .hbm, ⟨9, _⟩ => ⟨S1x4096, .f32⟩
  | .hbm, ⟨10, _⟩ => ⟨S4096, .f32⟩
  | .hbm, ⟨11, _⟩ => ⟨S8192x4096, .f32⟩
  | .hbm, ⟨12, _⟩ => ⟨S2x4096x4096, .f32⟩
  | .hbm, ⟨13, _⟩ => ⟨S8192x4096, .f32⟩
  | .hbm, ⟨14, _⟩ => ⟨S2x4096x4096, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S512x4096, .f32⟩
  | .hbm, ⟨19, _⟩ => ⟨S2x256x4096, .f32⟩
  | .hbm, ⟨20, _⟩ => ⟨S512x4096, .f32⟩
  | .hbm, ⟨21, _⟩ => ⟨S2x256x4096, .f32⟩
  | .hbm, ⟨22, _⟩ => ⟨S1x1x4096, .f32⟩
  | .hbm, ⟨23, _⟩ => ⟨S2x256x4096, .f32⟩
  | .hbm, ⟨24, _⟩ => ⟨S2x256x4096, .f32⟩
  | .hbm, ⟨25, _⟩ => ⟨S2x256x4096, .f32⟩
  | .hbm, ⟨26, _⟩ => ⟨S8192x4096, .f32⟩
  | .hbm, ⟨27, _⟩ => ⟨S512x4096, .f32⟩
  | .hbm, ⟨28, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

/-! # One stretch of 256 query rows, as the kernel computes it -/

namespace Cert.Proof.Block

open Cert.KernelIdeal Cert.KernelIdeal.Gen Idealize.ShloMosaic Idealize.ShloMosaic.TcCoe Idealize.SL.Sem
open Cert.KernelIdeal.Facts

section
variable {F : FTy → Type} [FloatOps F]

/-- The running maximum's start. -/
def neg : FVec F S256x1 .f32 := broadcast S256x1 (Scalar.ofBits .f32 0xFF800000#32 : F .f32)

/-- The running sum's start. -/
def nil : FVec F S256x1 .f32 := broadcast S256x1 (Scalar.ofBits .f32 0x00000000#32 : F .f32)

/-- Scores against 1024 latent keys. -/
def sX (q : FVec F S256x128 .bf16) (k : FVec F S1024x128 .bf16) : FVec F S256x1024 .f32 :=
  matmul dot_S256x128_S1024x128_S256x1024_1_1_0_0_n_n none q k (constant S256x1024 .f32 0x00000000#32)

/-- Scores against the 256 context keys. -/
def sC (q k : FVec F S256x128 .bf16) : FVec F S256x256 .f32 :=
  matmul dot_S256x128_S256x128_S256x256_1_1_0_0_n_n none q k (constant S256x256 .f32 0x00000000#32)

/-- The running maximum after 1024 more scores. -/
def mX (m : FVec F S256x1 .f32) (s : FVec F S256x1024 .f32) : FVec F S256x1 .f32 :=
  maximumf m (shapeCast S256x1 (multiReduction .maximumf [1] S256 s 0xFF800000#32 reduces_S256x1024_S256 (.inl rfl) rfl) shapeCasts_S256_S256x1)

/-- … after 256 more. -/
def mC (m : FVec F S256x1 .f32) (s : FVec F S256x256 .f32) : FVec F S256x1 .f32 :=
  maximumf m (shapeCast S256x1 (multiReduction .maximumf [1] S256 s 0xFF800000#32 reduces_S256x256_S256 (.inl rfl) rfl) shapeCasts_S256_S256x1)

/-- Powers of two of the scores less a maximum. -/
def eX (m : FVec F S256x1 .f32) (s : FVec F S256x1024 .f32) : FVec F S256x1024 .f32 :=
  exp2 (subf s (broadcastTo S256x1024 m broadcasts_S256x1_S256x1024))

def eC (m : FVec F S256x1 .f32) (s : FVec F S256x256 .f32) : FVec F S256x256 .f32 :=
  exp2 (subf s (broadcastTo S256x256 m broadcasts_S256x1_S256x256))

/-- The running sum, rescaled from maximum `m'` to `m`, with 1024 more powers. -/
def lX (l m' m : FVec F S256x1 .f32) (e : FVec F S256x1024 .f32) : FVec F S256x1 .f32 :=
  addf (mulf l (exp2 (subf m' m))) (shapeCast S256x1 (multiReduction .add [1] S256 e 0x00000000#32 reduces_S256x1024_S256 (.inl rfl) rfl) shapeCasts_S256_S256x1)

def lC (l m' m : FVec F S256x1 .f32) (e : FVec F S256x256 .f32) : FVec F S256x1 .f32 :=
  addf (mulf l (exp2 (subf m' m))) (shapeCast S256x1 (multiReduction .add [1] S256 e 0x00000000#32 reduces_S256x256_S256 (.inl rfl) rfl) shapeCasts_S256_S256x1)

/-- The factor of one chunk's powers: its maximum against the last one, over the sum. -/
def cf (mc M l : FVec F S256x1 .f32) : FVec F S256x1 .f32 :=
  mulf (exp2 (subf mc M)) (divf (broadcast S256x1 (Scalar.ofBits .f32 0x3F800000#32 : F .f32)) l)

/-- The weights of one chunk: the first map's less the second's weighted. -/
def pX (lam : FVec F S1x1 .f32) (e0 e1 : FVec F S256x1024 .f32) (c0 c1 : FVec F S256x1 .f32) : FVec F S256x1024 .bf16 :=
  truncf .bf16 (subf (mulf (shapeCast S256x1024 (shapeCast S1x256x1024 e0 shapeCasts_S256x1024_S1x256x1024) shapeCasts_S1x256x1024_S256x1024) (broadcastTo S256x1024 c0 broadcasts_S256x1_S256x1024))
    (mulf (shapeCast S256x1024 (shapeCast S1x256x1024 e1 shapeCasts_S256x1024_S1x256x1024) shapeCasts_S1x256x1024_S256x1024) (broadcastTo S256x1024 (mulf (broadcastTo S256x1 lam broadcasts_S1x1_S256x1) c1) broadcasts_S256x1_S256x1024))) bitsLt_bf16_f32

def pC (lam : FVec F S1x1 .f32) (e0 e1 : FVec F S256x256 .f32) (c0 c1 : FVec F S256x1 .f32) : FVec F S256x256 .bf16 :=
  truncf .bf16 (subf (mulf (shapeCast S256x256 (shapeCast S1x256x256 e0 shapeCasts_S256x256_S1x256x256) shapeCasts_S1x256x256_S256x256) (broadcastTo S256x256 c0 broadcasts_S256x1_S256x256))
    (mulf (shapeCast S256x256 (shapeCast S1x256x256 e1 shapeCasts_S256x256_S1x256x256) shapeCasts_S1x256x256_S256x256) (broadcastTo S256x256 (mulf (broadcastTo S256x1 lam broadcasts_S1x1_S256x1) c1) broadcasts_S256x1_S256x256))) bitsLt_bf16_f32

/-- One chunk's values mixed in. -/
def aX (a : FVec F S256x256 .f32) (p : FVec F S256x1024 .bf16) (v : FVec F S1024x256 .bf16) : FVec F S256x256 .f32 :=
  addf a (matmul dot_S256x1024_S1024x256_S256x256_1_0_0_1_n_n none p v (constant S256x256 .f32 0x00000000#32))

def aC (a : FVec F S256x256 .f32) (p v : FVec F S256x256 .bf16) : FVec F S256x256 .f32 :=
  addf a (matmul dot_S256x256_S256x256_S256x256_1_0_0_1_n_n none p v (constant S256x256 .f32 0x00000000#32))

/-- The normalization, the gain and the constant. -/
def fin (a : FVec F S256x256 .f32) (g : FVec F S1x256 .f32) : FVec F S256x256 .bf16 :=
  truncf .bf16 (mulf (mulf (mulf a (broadcastTo S256x256 (rsqrt (addf (divf (shapeCast S256x1 (multiReduction .add [1] S256 (mulf a a) 0x00000000#32 reduces_S256x256_S256 (.inl rfl) rfl) shapeCasts_S256_S256x1)
      (broadcast S256x1 (Scalar.ofBits .f32 0x43800000#32 : F .f32))) (broadcast S256x1 (Scalar.ofBits .f32 0x358637BD#32 : F .f32)))) broadcasts_S256x1_S256x256))
    (broadcastTo S256x256 (shapeCast S1x256 g shapeCasts_S1x256_S1x256) broadcasts_S1x256_S256x256)) (broadcast S256x256 (Scalar.ofBits .f32 0x3F24FD5C#32 : F .f32))) bitsLt_bf16_f32

variable (q : FVec F S256x128 .bf16) (k0 k1 k2 k3 : FVec F S1024x128 .bf16) (k4 : FVec F S256x128 .bf16)

def m0 : FVec F S256x1 .f32 := mX neg (sX q k0)
def m1 : FVec F S256x1 .f32 := mX (m0 q k0) (sX q k1)
def m2 : FVec F S256x1 .f32 := mX (m1 q k0 k1) (sX q k2)
def m3 : FVec F S256x1 .f32 := mX (m2 q k0 k1 k2) (sX q k3)
def m4 : FVec F S256x1 .f32 := mC (m3 q k0 k1 k2 k3) (sC q k4)

def e0 : FVec F S256x1024 .f32 := eX (m0 q k0) (sX q k0)
def e1 : FVec F S256x1024 .f32 := eX (m1 q k0 k1) (sX q k1)
def e2 : FVec F S256x1024 .f32 := eX (m2 q k0 k1 k2) (sX q k2)
def e3 : FVec F S256x1024 .f32 := eX (m3 q k0 k1 k2 k3) (sX q k3)
def e4 : FVec F S256x256 .f32 := eC (m4 q k0 k1 k2 k3 k4) (sC q k4)

def l0 : FVec F S256x1 .f32 := lX nil neg (m0 q k0) (e0 q k0)
def l1 : FVec F S256x1 .f32 := lX (l0 q k0) (m0 q k0) (m1 q k0 k1) (e1 q k0 k1)
def l2 : FVec F S256x1 .f32 := lX (l1 q k0 k1) (m1 q k0 k1) (m2 q k0 k1 k2) (e2 q k0 k1 k2)
def l3 : FVec F S256x1 .f32 := lX (l2 q k0 k1 k2) (m2 q k0 k1 k2) (m3 q k0 k1 k2 k3) (e3 q k0 k1 k2 k3)
def l4 : FVec F S256x1 .f32 := lC (l3 q k0 k1 k2 k3) (m3 q k0 k1 k2 k3) (m4 q k0 k1 k2 k3 k4) (e4 q k0 k1 k2 k3 k4)

def c0 : FVec F S256x1 .f32 := cf (m0 q k0) (m4 q k0 k1 k2 k3 k4) (l4 q k0 k1 k2 k3 k4)
def c1 : FVec F S256x1 .f32 := cf (m1 q k0 k1) (m4 q k0 k1 k2 k3 k4) (l4 q k0 k1 k2 k3 k4)
def c2 : FVec F S256x1 .f32 := cf (m2 q k0 k1 k2) (m4 q k0 k1 k2 k3 k4) (l4 q k0 k1 k2 k3 k4)
def c3 : FVec F S256x1 .f32 := cf (m3 q k0 k1 k2 k3) (m4 q k0 k1 k2 k3 k4) (l4 q k0 k1 k2 k3 k4)
def c4 : FVec F S256x1 .f32 := cf (m4 q k0 k1 k2 k3 k4) (m4 q k0 k1 k2 k3 k4) (l4 q k0 k1 k2 k3 k4)

variable (q' : FVec F S256x128 .bf16) (k0' k1' k2' k3' : FVec F S1024x128 .bf16) (k4' : FVec F S256x128 .bf16)

/-- The mixed values of one stretch of rows. -/
def mix (lam : FVec F S1x1 .f32) (v0 v1 v2 v3 : FVec F S1024x256 .bf16) (v4 : FVec F S256x256 .bf16) : FVec F S256x256 .f32 :=
  aC (aX (aX (aX (aX (broadcast S256x256 (Scalar.ofBits .f32 0x00000000#32 : F .f32))
    (pX lam (e0 q k0) (e0 q' k0') (c0 q k0 k1 k2 k3 k4) (c0 q' k0' k1' k2' k3' k4')) v0)
    (pX lam (e1 q k0 k1) (e1 q' k0' k1') (c1 q k0 k1 k2 k3 k4) (c1 q' k0' k1' k2' k3' k4')) v1)
    (pX lam (e2 q k0 k1 k2) (e2 q' k0' k1' k2') (c2 q k0 k1 k2 k3 k4) (c2 q' k0' k1' k2' k3' k4')) v2)
    (pX lam (e3 q k0 k1 k2 k3) (e3 q' k0' k1' k2' k3') (c3 q k0 k1 k2 k3 k4) (c3 q' k0' k1' k2' k3' k4')) v3)
    (pC lam (e4 q k0 k1 k2 k3 k4) (e4 q' k0' k1' k2' k3' k4') (c4 q k0 k1 k2 k3 k4) (c4 q' k0' k1' k2' k3' k4')) v4

end

end Cert.Proof.Block

end
-- ==== Proof.Point.lean ====
module

public import proofs.«01_k».proof.Proof.Block

@[expose] public section

set_option maxRecDepth 16384

noncomputable section

/-! # What a grid point leaves in the output block -/

namespace Cert.Proof.Point

open Cert.KernelIdeal Cert.KernelIdeal.Gen Idealize.ShloMosaic Idealize.ShloMosaic.TcCoe Idealize.SL.Sem
open Cert.KernelIdeal.Facts

/-- One stretch of rows, from the blocks. -/
def row {F : FTy → Type} [FloatOps F] (x0 x1 x2 x3 : FVec F S1x128 .f32) (x4 : FVec F S1x256 .f32) (q q' : FVec F S256x128 .bf16) (x6 x7 : FVec F S4096x256 .bf16) (x8 x9 : FVec F S256x256 .bf16) :
    FVec F S256x256 .bf16 :=
  Block.fin (Block.mix q
    (View.ld (Val := Elt F) (e' := .bf16) x6 (Rect.unit ![0, 0] ![1024, 128] inb_S4096x256_S1024x128_0_0))
    (View.ld (Val := Elt F) (e' := .bf16) x6 (Rect.unit ![1024, 0] ![1024, 128] inb_S4096x256_S1024x128_1024_0))
    (View.ld (Val := Elt F) (e' := .bf16) x6 (Rect.unit ![2048, 0] ![1024, 128] inb_S4096x256_S1024x128_2048_0))
    (View.ld (Val := Elt F) (e' := .bf16) x6 (Rect.unit ![3072, 0] ![1024, 128] inb_S4096x256_S1024x128_3072_0))
    (View.ld (Val := Elt F) (e' := .bf16) x8 (Rect.unit ![0, 0] ![256, 128] inb_S256x256_S256x128_0_0))
    q'
    (View.ld (Val := Elt F) (e' := .bf16) x6 (Rect.unit ![0, 128] ![1024, 128] inb_S4096x256_S1024x128_0_128))
    (View.ld (Val := Elt F) (e' := .bf16) x6 (Rect.unit ![1024, 128] ![1024, 128] inb_S4096x256_S1024x128_1024_128))
    (View.ld (Val := Elt F) (e' := .bf16) x6 (Rect.unit ![2048, 128] ![1024, 128] inb_S4096x256_S1024x128_2048_128))
    (View.ld (Val := Elt F) (e' := .bf16) x6 (Rect.unit ![3072, 128] ![1024, 128] inb_S4096x256_S1024x128_3072_128))
    (View.ld (Val := Elt F) (e' := .bf16) x8 (Rect.unit ![0, 128] ![256, 128] inb_S256x256_S256x128_0_128))
    (k0_pay2 x0 x1 x2 x3)
    (View.ld (Val := Elt F) (e' := .bf16) x7 (Rect.unit ![0, 0] ![1024, 256] inb_S4096x256_S1024x256_0_0))
    (View.ld (Val := Elt F) (e' := .bf16) x7 (Rect.unit ![1024, 0] ![1024, 256] inb_S4096x256_S1024x256_1024_0))
    (View.ld (Val := Elt F) (e' := .bf16) x7 (Rect.unit ![2048, 0] ![1024, 256] inb_S4096x256_S1024x256_2048_0))
    (View.ld (Val := Elt F) (e' := .bf16) x7 (Rect.unit ![3072, 0] ![1024, 256] inb_S4096x256_S1024x256_3072_0)) x9) x4

/-- The queries of stretch `n`, map `u`. -/
def qs {F : FTy → Type} (x5 : FVec F S1024x256 .bf16) (n : Fin 4) (u : Fin 2) : FVec F S256x128 .bf16 := fun j =>
  x5 (ix2 ⟨256 * n + (j 0 : ℕ), by have : (j 0 : ℕ) < 256 := (j 0).isLt; omega⟩ ⟨128 * u + (j 1 : ℕ), by have : (j 1 : ℕ) < 128 := (j 1).isLt; omega⟩)

theorem out_at (c : Dev nD) (i : grid0.Coords) (a3 : Memref sig .tc .vmem S1x128 .f32) (h3) (a4 : Memref sig .tc .vmem S1x128 .f32) (h4) (a5 : Memref sig .tc .vmem S1x128 .f32) (h5) (a6 : Memref sig .tc .vmem S1x128 .f32) (h6)
    (a7 : Memref sig .tc .vmem S1x256 .f32) (h7) (a8 : Memref sig .tc .vmem S1024x256 .bf16) (h8) (a9 : Memref sig .tc .vmem S4096x256 .bf16) (h9) (a10 : Memref sig .tc .vmem S4096x256 .bf16) (h10)
    (a11 : Memref sig .tc .vmem S256x256 .bf16) (h11) (a12 : Memref sig .tc .vmem S256x256 .bf16) (h12) (a13 : Memref sig .tc .vmem S1024x256 .bf16) (h13)
    (x0 x1 x2 x3 : FVec Ideal S1x128 .f32) (x4 : FVec Ideal S1x256 .f32) (x5 : FVec Ideal S1024x256 .bf16) (x6 x7 : FVec Ideal S4096x256 .bf16) (x8 x9 : FVec Ideal S256x256 .bf16) (y : S1024x256.Idx)
    (x : S256x256.Idx) (n : Fin 4) (hx0 : (y 0 : ℕ) = 256 * n + x 0) (hx1 : (y 1 : ℕ) = x 1) :
    out0_A_10 (F := Ideal) c i a3 h3 a4 h4 a5 h5 a6 h6 a7 h7 a8 h8 a9 h9 a10 h10 a11 h11 a12 h12 a13 h13 scM0_0 (Memref.isWhole_whole _) x0 x1 x2 x3 x4 x5 x6 x7 x8 x9 y
      = row (F := Ideal) x0 x1 x2 x3 x4 (qs x5 n 0) (qs x5 n 1) x6 x7 x8 x9 x := by
  frame_out
  canon_tiles z h
  case piece3 =>
    obtain rfl : n = 0 := Fin.ext (by have a0 : (x 0 : ℕ) < 256 := (x 0).isLt; show (n : ℕ) = 0; omega)
    obtain rfl : z = x := by funext a; fin_cases a <;> apply Fin.ext <;> simp at hx0 ⊢ <;> omega
    have e : qs (F := Ideal) x5 0 0 = View.ld (Val := Elt Ideal) (e' := .bf16) x5 (Rect.unit ![0, 0] ![256, 128] inb_S1024x256_S256x128_0_0) := by
      funext j; unfold qs; blk_ext <;> simp [Rect.unit, LoadRect.idx] <;> omega
    have e' : qs (F := Ideal) x5 0 1 = View.ld (Val := Elt Ideal) (e' := .bf16) x5 (Rect.unit ![0, 128] ![256, 128] inb_S1024x256_S256x128_0_128) := by
      funext j; unfold qs; blk_ext <;> simp [Rect.unit, LoadRect.idx] <;> omega
    rw [e, e']
    simp (disch := decide) only [↓View.readCov_skip, View.readCov_cons_toLoadRect]
    rfl
  case piece2 =>
    obtain rfl : n = 1 := Fin.ext (by have a0 : (x 0 : ℕ) < 256 := (x 0).isLt; show (n : ℕ) = 1; omega)
    obtain rfl : z = x := by funext a; fin_cases a <;> apply Fin.ext <;> simp at hx0 ⊢ <;> omega
    have e : qs (F := Ideal) x5 1 0 = View.ld (Val := Elt Ideal) (e' := .bf16) x5 (Rect.unit ![256, 0] ![256, 128] inb_S1024x256_S256x128_256_0) := by
      funext j; unfold qs; blk_ext <;> simp [Rect.unit, LoadRect.idx] <;> omega
    have e' : qs (F := Ideal) x5 1 1 = View.ld (Val := Elt Ideal) (e' := .bf16) x5 (Rect.unit ![256, 128] ![256, 128] inb_S1024x256_S256x128_256_128) := by
      funext j; unfold qs; blk_ext <;> simp [Rect.unit, LoadRect.idx] <;> omega
    rw [e, e']
    simp (disch := decide) only [↓View.readCov_skip, View.readCov_cons_toLoadRect]
    rfl
  case piece1 =>
    obtain rfl : n = 2 := Fin.ext (by have a0 : (x 0 : ℕ) < 256 := (x 0).isLt; show (n : ℕ) = 2; omega)
    obtain rfl : z = x := by funext a; fin_cases a <;> apply Fin.ext <;> simp at hx0 ⊢ <;> omega
    have e : qs (F := Ideal) x5 2 0 = View.ld (Val := Elt Ideal) (e' := .bf16) x5 (Rect.unit ![512, 0] ![256, 128] inb_S1024x256_S256x128_512_0) := by
      funext j; unfold qs; blk_ext <;> simp [Rect.unit, LoadRect.idx] <;> omega
    have e' : qs (F := Ideal) x5 2 1 = View.ld (Val := Elt Ideal) (e' := .bf16) x5 (Rect.unit ![512, 128] ![256, 128] inb_S1024x256_S256x128_512_128) := by
      funext j; unfold qs; blk_ext <;> simp [Rect.unit, LoadRect.idx] <;> omega
    rw [e, e']
    simp (disch := decide) only [↓View.readCov_skip, View.readCov_cons_toLoadRect]
    rfl
  case piece0 =>
    obtain rfl : n = 3 := Fin.ext (by have a0 : (x 0 : ℕ) < 256 := (x 0).isLt; show (n : ℕ) = 3; omega)
    obtain rfl : z = x := by funext a; fin_cases a <;> apply Fin.ext <;> simp at hx0 ⊢ <;> omega
    have e : qs (F := Ideal) x5 3 0 = View.ld (Val := Elt Ideal) (e' := .bf16) x5 (Rect.unit ![768, 0] ![256, 128] inb_S1024x256_S256x128_768_0) := by
      funext j; unfold qs; blk_ext <;> simp [Rect.unit, LoadRect.idx] <;> omega
    have e' : qs (F := Ideal) x5 3 1 = View.ld (Val := Elt Ideal) (e' := .bf16) x5 (Rect.unit ![768, 128] ![256, 128] inb_S1024x256_S256x128_768_128) := by
      funext j; unfold qs; blk_ext <;> simp [Rect.unit, LoadRect.idx] <;> omega
    rw [e, e']
    simp (disch := decide) only [↓View.readCov_skip, View.readCov_cons_toLoadRect]
    rfl

end Cert.Proof.Point

end
-- ==== Proof.Soft.lean ====
module

public import proofs.«01_k».proof.Proof.Gen.KernelIdeal.Value
public import Idealize.ShloMosaic.Lib.Pipeline.ValueKit

@[expose] public section

noncomputable section

/-! # Weights of a softmax over the reals

Whatever shifts the exponents, the weight of key `j` is `2 ^ s j / ∑ 2 ^ s`. -/

namespace Cert.Proof.Soft

open Idealize.ShloMosaic

/-- The powers of two. -/
def two (r : ℝ) : ℝ := Real.rpow 2 r

theorem two_pos (r : ℝ) : 0 < two r := Real.rpow_pos_of_pos (by norm_num) r

theorem two_add (a b : ℝ) : two (a + b) = two a * two b := Real.rpow_add (by norm_num) a b

theorem two_sub (a b : ℝ) : two (a - b) = two a * two (-b) := by rw [sub_eq_add_neg, two_add]

theorem two_neg (a : ℝ) : two a * two (-a) = 1 := by
  rw [← two_add, add_neg_cancel]; exact Real.rpow_zero 2

theorem exp2_coe (r : ℝ) : Ideal.exp2 (r : EReal) = ((two r : ℝ) : EReal) := rfl

theorem exp_coe (r : ℝ) : Ideal.exp (r : EReal) = ((Real.exp r : ℝ) : EReal) := rfl

theorem exp_log (r : ℝ) : Real.exp (r * Real.log 2) = two r := by
  rw [two]; exact (by rw [mul_comm, ← Real.rpow_def_of_pos (by norm_num)]; rfl)

theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

theorem fold_real {n : ℕ} [NeZero n] (f : Fin n → ℝ) : ∃ a : ℝ, Finset.fold max (⊥ : EReal) (fun x => (f x : EReal)) Finset.univ = a := by
  obtain ⟨i, -, hi⟩ := Finset.exists_mem_eq_sup (Finset.univ : Finset (Fin n)) ⟨0, Finset.mem_univ _⟩ (fun x => (f x : EReal))
  exact ⟨f i, hi⟩

theorem max_real (a b : ℝ) : ∃ c : ℝ, max (a : EReal) (b : EReal) = c := by
  rcases max_choice (a : EReal) (b : EReal) with h | h
  · exact ⟨a, h⟩
  · exact ⟨b, h⟩

theorem div_coe (a b : ℝ) (h : 0 < b) : Ideal.div (a : EReal) (b : EReal) = ((a / b : ℝ) : EReal) := by
  have hb : (b : EReal) ≠ 0 := by exact_mod_cast h.ne'
  rw [Ideal.div, if_neg hb, div_eq_mul_inv, EReal.coe_mul, EReal.coe_inv]

theorem sum_pos {n : ℕ} [NeZero n] (s : Fin n → ℝ) : 0 < ∑ x, two (s x) :=
  Finset.sum_pos (fun x _ => two_pos _) ⟨0, Finset.mem_univ _⟩

/-- A running sum moved to the next shift. -/
theorem step {n : ℕ} (A μ' μ : ℝ) (s : Fin n → ℝ) :
    ((A * two (-μ') : ℝ) : EReal) * Ideal.exp2 ((μ' : EReal) - μ) + ∑ x, ((two (s x - μ) : ℝ) : EReal) = (((A + ∑ x, two (s x)) * two (-μ) : ℝ) : EReal) := by
  rw [← EReal.coe_sub, exp2_coe, coe_sum, ← EReal.coe_mul, ← EReal.coe_add]
  congr 1
  have h := two_neg μ'
  simp only [two_sub, ← Finset.sum_mul]
  linear_combination (A * two (-μ)) * h

/-- One weight of a chunk. -/
theorem weight (s μc μ S : ℝ) (hS : 0 < S) :
    ((two (s - μc) : ℝ) : EReal) * (Ideal.exp2 ((μc : EReal) - μ) * Ideal.div 1 ((S * two (-μ) : ℝ) : EReal)) = ((two s / S : ℝ) : EReal) := by
  have hμ := two_pos (-μ)
  rw [← EReal.coe_sub, exp2_coe, ← EReal.coe_one, div_coe _ _ (by positivity), ← EReal.coe_mul, ← EReal.coe_mul]
  congr 1
  have h := two_neg μc
  rw [two_sub, two_sub]
  field_simp
  linear_combination (two s) * h

/-- One weight of a softmax by exponentials of the scores times `log 2`. -/
theorem soft {n : ℕ} [NeZero n] (s : Fin n → ℝ) (μ : ℝ) (j : Fin n) :
    Ideal.div (Ideal.exp (((s j * Real.log 2 : ℝ) : EReal) - μ)) (∑ x, Ideal.exp (((s x * Real.log 2 : ℝ) : EReal) - μ)) = ((two (s j) / ∑ x, two (s x) : ℝ) : EReal) := by
  have hx : ∀ x, Ideal.exp (((s x * Real.log 2 : ℝ) : EReal) - μ) = ((two (s x) * Real.exp (-μ) : ℝ) : EReal) := fun x => by
    rw [← EReal.coe_sub, exp_coe, sub_eq_add_neg, Real.exp_add, exp_log]
  simp only [hx]
  have hS := sum_pos s
  have hμ := Real.exp_pos (-μ)
  rw [coe_sum, ← Finset.sum_mul, div_coe _ _ (by positivity)]
  congr 1
  field_simp

/-- A sum over all keys, chunk by chunk. -/
theorem sum_split {α : Type} [AddCommMonoid α] (f : Fin 4352 → α) :
    ∑ j, f j = ∑ x : Fin 1024, f ⟨x, by omega⟩ + ∑ x : Fin 1024, f ⟨1024 + x, by omega⟩ + ∑ x : Fin 1024, f ⟨2048 + x, by omega⟩ + ∑ x : Fin 1024, f ⟨3072 + x, by omega⟩
      + ∑ x : Fin 256, f ⟨4096 + x, by omega⟩ := by
  rw [Fin.sum_univ_add (a := 4096) (b := 256) f, Fin.sum_univ_add (a := 3072) (b := 1024), Fin.sum_univ_add (a := 2048) (b := 1024), Fin.sum_univ_add (a := 1024) (b := 1024)]
  rfl

end Cert.Proof.Soft

end
-- ==== Proof.BlockAt.lean ====
module

public import proofs.«01_k».proof.Proof.Block
public import proofs.«01_k».proof.Proof.Soft

@[expose] public section

set_option maxRecDepth 16384

noncomputable section

/-! # The values of one stretch of rows

With real scores, each chunk's weights are those of the softmax over all keys. -/

namespace Cert.Proof.Block

open Cert.KernelIdeal Cert.KernelIdeal.Gen Idealize.ShloMosaic Idealize.ShloMosaic.TcCoe Idealize.SL.Sem
open Cert.KernelIdeal.Facts Cert.Proof.Soft

theorem ninf : Ideal.ofBits FTy.f32 4286578688#32 = ⊥ := by simp [Ideal.ofBits, Ideal.ieee]

theorem neg_at (r : Fin 256) : neg (F := Ideal) (ix2 r 0) = (⊥ : EReal) := by
  pointwise [neg]
  exact ninf

theorem nil_at (r : Fin 256) : nil (F := Ideal) (ix2 r 0) = (0 : EReal) := by
  pointwise [nil]

theorem cf_at (mc M l : FVec Ideal S256x1 .f32) (r : Fin 256) :
    cf (F := Ideal) mc M l (ix2 r 0) = Ideal.exp2 (mc (ix2 r 0) - M (ix2 r 0)) * Ideal.div 1 (l (ix2 r 0)) := by
  pointwise [cf]
  rfl

theorem cf_real (mc M l : FVec Ideal S256x1 .f32) (r : Fin 256) (s μc μ S : ℝ) (hS : 0 < S) (e : EReal) (he : e = ((two (s - μc) : ℝ) : EReal)) (hc : mc (ix2 r 0) = (μc : EReal)) (hM : M (ix2 r 0) = (μ : EReal))
    (hl : l (ix2 r 0) = ((S * two (-μ) : ℝ) : EReal)) : e * cf (F := Ideal) mc M l (ix2 r 0) = ((two s / S : ℝ) : EReal) := by
  rw [cf_at, he, hc, hM, hl]
  exact weight s μc μ S hS

theorem fin_at (a : FVec Ideal S256x256 .f32) (g : FVec Ideal S1x256 .f32) (r d : Fin 256) :
    fin (F := Ideal) a g (ix2 r d) = a (ix2 r d) * Ideal.rsqrt (Ideal.div (∑ x : Fin 256, a (ix2 r x) * a (ix2 r x)) (Ideal.ofBits FTy.f32 0x43800000#32) + Ideal.ofBits FTy.f32 0x358637BD#32) * g (ix2 0 d) * Ideal.ofBits FTy.f32 0x3F24FD5C#32 := by
  pointwise [fin]

theorem sX_at (q : FVec Ideal S256x128 .bf16) (k : FVec Ideal S1024x128 .bf16) (r : Fin 256) (x : Fin 1024) :
    sX (F := Ideal) q k (ix2 r x) = ∑ t : Fin 128, q (ix2 r t) * k (ix2 x t) := by
  pointwise [sX]

theorem mX_real (m : FVec Ideal S256x1 .f32) (s : FVec Ideal S256x1024 .f32) (r : Fin 256) (σ : Fin 1024 → ℝ)
    (hs : ∀ x, s (ix2 r x) = (σ x : EReal)) (hm : m (ix2 r 0) = (⊥ : EReal) ∨ ∃ a : ℝ, m (ix2 r 0) = (a : EReal)) : ∃ a : ℝ, mX (F := Ideal) m s (ix2 r 0) = (a : EReal) := by
  have h : mX (F := Ideal) m s (ix2 r 0) = max (m (ix2 r 0)) (Finset.fold max (⊥ : EReal) (fun x : Fin 1024 => (σ x : EReal)) Finset.univ) := by
    simp only [← hs, ← ninf]
    pointwise [mX]
  obtain ⟨b, hb⟩ := fold_real σ
  rw [h, hb]
  rcases hm with hm | ⟨a, hm⟩
  · exact ⟨b, by rw [hm]; exact max_eq_right bot_le⟩
  · rw [hm]; exact max_real a b

theorem eX_real (m : FVec Ideal S256x1 .f32) (s : FVec Ideal S256x1024 .f32) (r : Fin 256) (σ : Fin 1024 → ℝ) (μ : ℝ)
    (hs : ∀ x, s (ix2 r x) = (σ x : EReal)) (hm : m (ix2 r 0) = (μ : EReal)) (x : Fin 1024) : eX (F := Ideal) m s (ix2 r x) = ((two (σ x - μ) : ℝ) : EReal) := by
  have h : eX (F := Ideal) m s (ix2 r x) = Ideal.exp2 (s (ix2 r x) - m (ix2 r 0)) := by
    pointwise [eX]
    rfl
  rw [h, hs, hm, ← EReal.coe_sub, exp2_coe]

theorem lX_at (l m' m : FVec Ideal S256x1 .f32) (e : FVec Ideal S256x1024 .f32) (r : Fin 256) :
    lX (F := Ideal) l m' m e (ix2 r 0) = l (ix2 r 0) * Ideal.exp2 (m' (ix2 r 0) - m (ix2 r 0)) + ∑ x : Fin 1024, e (ix2 r x) := by
  pointwise [lX]
  rfl

theorem lX_real (l m' m : FVec Ideal S256x1 .f32) (e : FVec Ideal S256x1024 .f32) (r : Fin 256) (A μ' μ : ℝ) (σ : Fin 1024 → ℝ)
    (hl : l (ix2 r 0) = ((A * two (-μ') : ℝ) : EReal)) (hm' : m' (ix2 r 0) = (μ' : EReal)) (hm : m (ix2 r 0) = (μ : EReal)) (he : ∀ x, e (ix2 r x) = ((two (σ x - μ) : ℝ) : EReal)) :
    lX (F := Ideal) l m' m e (ix2 r 0) = (((A + ∑ x, two (σ x)) * two (-μ) : ℝ) : EReal) := by
  rw [lX_at, hl, hm', hm]
  simp only [he]
  exact step A μ' μ σ

theorem aX_at (lam : FVec Ideal S1x1 .f32) (a : FVec Ideal S256x256 .f32) (e e' : FVec Ideal S256x1024 .f32) (c c' : FVec Ideal S256x1 .f32) (v : FVec Ideal S1024x256 .bf16) (r d : Fin 256)
    (w w' : Fin 1024 → ℝ) (hw : ∀ x, e (ix2 r x) * c (ix2 r 0) = (w x : EReal)) (hw' : ∀ x, e' (ix2 r x) * c' (ix2 r 0) = (w' x : EReal)) :
    aX (F := Ideal) a (pX lam e e' c c') v (ix2 r d) = a (ix2 r d) + ∑ x : Fin 1024, ((w x : EReal) - lam (ix2 0 0) * (w' x : EReal)) * v (ix2 x d) := by
  have h : aX (F := Ideal) a (pX lam e e' c c') v (ix2 r d) = a (ix2 r d) + ∑ x : Fin 1024, (e (ix2 r x) * c (ix2 r 0) - e' (ix2 r x) * (lam (ix2 0 0) * c' (ix2 r 0))) * v (ix2 x d) := by
    pointwise [aX, pX]
  rw [h]
  congr 1
  refine Finset.sum_congr rfl fun x _ => ?_
  rw [← hw, ← hw', mul_left_comm]

theorem sC_at (q : FVec Ideal S256x128 .bf16) (k : FVec Ideal S256x128 .bf16) (r : Fin 256) (x : Fin 256) :
    sC (F := Ideal) q k (ix2 r x) = ∑ t : Fin 128, q (ix2 r t) * k (ix2 x t) := by
  pointwise [sC]

theorem mC_real (m : FVec Ideal S256x1 .f32) (s : FVec Ideal S256x256 .f32) (r : Fin 256) (σ : Fin 256 → ℝ)
    (hs : ∀ x, s (ix2 r x) = (σ x : EReal)) (hm : m (ix2 r 0) = (⊥ : EReal) ∨ ∃ a : ℝ, m (ix2 r 0) = (a : EReal)) : ∃ a : ℝ, mC (F := Ideal) m s (ix2 r 0) = (a : EReal) := by
  have h : mC (F := Ideal) m s (ix2 r 0) = max (m (ix2 r 0)) (Finset.fold max (⊥ : EReal) (fun x : Fin 256 => (σ x : EReal)) Finset.univ) := by
    simp only [← hs, ← ninf]
    pointwise [mC]
  obtain ⟨b, hb⟩ := fold_real σ
  rw [h, hb]
  rcases hm with hm | ⟨a, hm⟩
  · exact ⟨b, by rw [hm]; exact max_eq_right bot_le⟩
  · rw [hm]; exact max_real a b

theorem eC_real (m : FVec Ideal S256x1 .f32) (s : FVec Ideal S256x256 .f32) (r : Fin 256) (σ : Fin 256 → ℝ) (μ : ℝ)
    (hs : ∀ x, s (ix2 r x) = (σ x : EReal)) (hm : m (ix2 r 0) = (μ : EReal)) (x : Fin 256) : eC (F := Ideal) m s (ix2 r x) = ((two (σ x - μ) : ℝ) : EReal) := by
  have h : eC (F := Ideal) m s (ix2 r x) = Ideal.exp2 (s (ix2 r x) - m (ix2 r 0)) := by
    pointwise [eC]
    rfl
  rw [h, hs, hm, ← EReal.coe_sub, exp2_coe]

theorem lC_at (l m' m : FVec Ideal S256x1 .f32) (e : FVec Ideal S256x256 .f32) (r : Fin 256) :
    lC (F := Ideal) l m' m e (ix2 r 0) = l (ix2 r 0) * Ideal.exp2 (m' (ix2 r 0) - m (ix2 r 0)) + ∑ x : Fin 256, e (ix2 r x) := by
  pointwise [lC]
  rfl

theorem lC_real (l m' m : FVec Ideal S256x1 .f32) (e : FVec Ideal S256x256 .f32) (r : Fin 256) (A μ' μ : ℝ) (σ : Fin 256 → ℝ)
    (hl : l (ix2 r 0) = ((A * two (-μ') : ℝ) : EReal)) (hm' : m' (ix2 r 0) = (μ' : EReal)) (hm : m (ix2 r 0) = (μ : EReal)) (he : ∀ x, e (ix2 r x) = ((two (σ x - μ) : ℝ) : EReal)) :
    lC (F := Ideal) l m' m e (ix2 r 0) = (((A + ∑ x, two (σ x)) * two (-μ) : ℝ) : EReal) := by
  rw [lC_at, hl, hm', hm]
  simp only [he]
  exact step A μ' μ σ

theorem aC_at (lam : FVec Ideal S1x1 .f32) (a : FVec Ideal S256x256 .f32) (e e' : FVec Ideal S256x256 .f32) (c c' : FVec Ideal S256x1 .f32) (v : FVec Ideal S256x256 .bf16) (r d : Fin 256)
    (w w' : Fin 256 → ℝ) (hw : ∀ x, e (ix2 r x) * c (ix2 r 0) = (w x : EReal)) (hw' : ∀ x, e' (ix2 r x) * c' (ix2 r 0) = (w' x : EReal)) :
    aC (F := Ideal) a (pC lam e e' c c') v (ix2 r d) = a (ix2 r d) + ∑ x : Fin 256, ((w x : EReal) - lam (ix2 0 0) * (w' x : EReal)) * v (ix2 x d) := by
  have h : aC (F := Ideal) a (pC lam e e' c c') v (ix2 r d) = a (ix2 r d) + ∑ x : Fin 256, (e (ix2 r x) * c (ix2 r 0) - e' (ix2 r x) * (lam (ix2 0 0) * c' (ix2 r 0))) * v (ix2 x d) := by
    pointwise [aC, pC]
  rw [h]
  congr 1
  refine Finset.sum_congr rfl fun x _ => ?_
  rw [← hw, ← hw', mul_left_comm]

/-- One map's weights: its maxima, powers and sum along the chunks. -/
theorem weights (q : FVec Ideal S256x128 .bf16) (k0 k1 k2 k3 : FVec Ideal S1024x128 .bf16) (k4 : FVec Ideal S256x128 .bf16) (r : Fin 256) (σ : Fin 4352 → ℝ)
    (h0 : ∀ x : Fin 1024, sX (F := Ideal) q k0 (ix2 r x) = (σ ⟨x, by omega⟩ : EReal)) (h1 : ∀ x : Fin 1024, sX (F := Ideal) q k1 (ix2 r x) = (σ ⟨1024 + x, by omega⟩ : EReal))
    (h2 : ∀ x : Fin 1024, sX (F := Ideal) q k2 (ix2 r x) = (σ ⟨2048 + x, by omega⟩ : EReal)) (h3 : ∀ x : Fin 1024, sX (F := Ideal) q k3 (ix2 r x) = (σ ⟨3072 + x, by omega⟩ : EReal))
    (h4 : ∀ x : Fin 256, sC (F := Ideal) q k4 (ix2 r x) = (σ ⟨4096 + x, by omega⟩ : EReal)) :
    (∀ x : Fin 1024, e0 (F := Ideal) q k0 (ix2 r x) * c0 (F := Ideal) q k0 k1 k2 k3 k4 (ix2 r 0) = ((two (σ ⟨x, by omega⟩) / ∑ j, two (σ j) : ℝ) : EReal))
    ∧ (∀ x : Fin 1024, e1 (F := Ideal) q k0 k1 (ix2 r x) * c1 (F := Ideal) q k0 k1 k2 k3 k4 (ix2 r 0) = ((two (σ ⟨1024 + x, by omega⟩) / ∑ j, two (σ j) : ℝ) : EReal))
    ∧ (∀ x : Fin 1024, e2 (F := Ideal) q k0 k1 k2 (ix2 r x) * c2 (F := Ideal) q k0 k1 k2 k3 k4 (ix2 r 0) = ((two (σ ⟨2048 + x, by omega⟩) / ∑ j, two (σ j) : ℝ) : EReal))
    ∧ (∀ x : Fin 1024, e3 (F := Ideal) q k0 k1 k2 k3 (ix2 r x) * c3 (F := Ideal) q k0 k1 k2 k3 k4 (ix2 r 0) = ((two (σ ⟨3072 + x, by omega⟩) / ∑ j, two (σ j) : ℝ) : EReal))
    ∧ (∀ x : Fin 256, e4 (F := Ideal) q k0 k1 k2 k3 k4 (ix2 r x) * c4 (F := Ideal) q k0 k1 k2 k3 k4 (ix2 r 0) = ((two (σ ⟨4096 + x, by omega⟩) / ∑ j, two (σ j) : ℝ) : EReal)) := by
  obtain ⟨μ0, hm0⟩ := mX_real neg (sX q k0) r _ h0 (.inl (neg_at r))
  obtain ⟨μ1, hm1⟩ := mX_real (m0 q k0) (sX q k1) r _ h1 (.inr ⟨μ0, hm0⟩)
  obtain ⟨μ2, hm2⟩ := mX_real (m1 q k0 k1) (sX q k2) r _ h2 (.inr ⟨μ1, hm1⟩)
  obtain ⟨μ3, hm3⟩ := mX_real (m2 q k0 k1 k2) (sX q k3) r _ h3 (.inr ⟨μ2, hm2⟩)
  obtain ⟨μ4, hm4⟩ := mC_real (m3 q k0 k1 k2 k3) (sC q k4) r _ h4 (.inr ⟨μ3, hm3⟩)
  have he0 := eX_real (m0 q k0) (sX q k0) r _ μ0 h0 hm0
  have he1 := eX_real (m1 q k0 k1) (sX q k1) r _ μ1 h1 hm1
  have he2 := eX_real (m2 q k0 k1 k2) (sX q k2) r _ μ2 h2 hm2
  have he3 := eX_real (m3 q k0 k1 k2 k3) (sX q k3) r _ μ3 h3 hm3
  have he4 := eC_real (m4 q k0 k1 k2 k3 k4) (sC q k4) r _ μ4 h4 hm4
  have hl0 : l0 (F := Ideal) q k0 (ix2 r 0) = (((∑ x : Fin 1024, two (σ ⟨x, by omega⟩)) * two (-μ0) : ℝ) : EReal) := by
    rw [l0, lX_at, nil_at, zero_mul, zero_add]
    refine (Finset.sum_congr rfl fun x _ => he0 x).trans ?_
    rw [coe_sum]
    simp only [two_sub, ← Finset.sum_mul]
  have hl1 := lX_real (l0 q k0) (m0 q k0) (m1 q k0 k1) (e1 q k0 k1) r _ μ0 μ1 _ hl0 hm0 hm1 he1
  have hl2 := lX_real (l1 q k0 k1) (m1 q k0 k1) (m2 q k0 k1 k2) (e2 q k0 k1 k2) r _ μ1 μ2 _ hl1 hm1 hm2 he2
  have hl3 := lX_real (l2 q k0 k1 k2) (m2 q k0 k1 k2) (m3 q k0 k1 k2 k3) (e3 q k0 k1 k2 k3) r _ μ2 μ3 _ hl2 hm2 hm3 he3
  have hl4 := lC_real (l3 q k0 k1 k2 k3) (m3 q k0 k1 k2 k3) (m4 q k0 k1 k2 k3 k4) (e4 q k0 k1 k2 k3 k4) r _ μ3 μ4 _ hl3 hm3 hm4 he4
  rw [← sum_split (fun j => two (σ j))] at hl4
  have hS := sum_pos σ
  exact ⟨fun x => cf_real _ _ _ r _ μ0 μ4 _ hS _ (he0 x) hm0 hm4 hl4, fun x => cf_real _ _ _ r _ μ1 μ4 _ hS _ (he1 x) hm1 hm4 hl4, fun x => cf_real _ _ _ r _ μ2 μ4 _ hS _ (he2 x) hm2 hm4 hl4,
    fun x => cf_real _ _ _ r _ μ3 μ4 _ hS _ (he3 x) hm3 hm4 hl4, fun x => cf_real _ _ _ r _ μ4 μ4 _ hS _ (he4 x) hm4 hm4 hl4⟩

/-- The mixed values, as one sum over all keys. -/
theorem mix_at (q : FVec Ideal S256x128 .bf16) (k0 k1 k2 k3 : FVec Ideal S1024x128 .bf16) (k4 : FVec Ideal S256x128 .bf16) (q' : FVec Ideal S256x128 .bf16) (k0' k1' k2' k3' : FVec Ideal S1024x128 .bf16) (k4' : FVec Ideal S256x128 .bf16)
    (lam : FVec Ideal S1x1 .f32) (v0 v1 v2 v3 : FVec Ideal S1024x256 .bf16) (v4 : FVec Ideal S256x256 .bf16) (r d : Fin 256) (σ σ' : Fin 4352 → ℝ) (V : Fin 4352 → EReal)
    (h0 : ∀ x : Fin 1024, sX (F := Ideal) q k0 (ix2 r x) = (σ ⟨x, by omega⟩ : EReal)) (h1 : ∀ x : Fin 1024, sX (F := Ideal) q k1 (ix2 r x) = (σ ⟨1024 + x, by omega⟩ : EReal))
    (h2 : ∀ x : Fin 1024, sX (F := Ideal) q k2 (ix2 r x) = (σ ⟨2048 + x, by omega⟩ : EReal)) (h3 : ∀ x : Fin 1024, sX (F := Ideal) q k3 (ix2 r x) = (σ ⟨3072 + x, by omega⟩ : EReal))
    (h4 : ∀ x : Fin 256, sC (F := Ideal) q k4 (ix2 r x) = (σ ⟨4096 + x, by omega⟩ : EReal))
    (h0' : ∀ x : Fin 1024, sX (F := Ideal) q' k0' (ix2 r x) = (σ' ⟨x, by omega⟩ : EReal)) (h1' : ∀ x : Fin 1024, sX (F := Ideal) q' k1' (ix2 r x) = (σ' ⟨1024 + x, by omega⟩ : EReal))
    (h2' : ∀ x : Fin 1024, sX (F := Ideal) q' k2' (ix2 r x) = (σ' ⟨2048 + x, by omega⟩ : EReal)) (h3' : ∀ x : Fin 1024, sX (F := Ideal) q' k3' (ix2 r x) = (σ' ⟨3072 + x, by omega⟩ : EReal))
    (h4' : ∀ x : Fin 256, sC (F := Ideal) q' k4' (ix2 r x) = (σ' ⟨4096 + x, by omega⟩ : EReal))
    (hv0 : ∀ x : Fin 1024, v0 (ix2 x d) = V ⟨x, by omega⟩) (hv1 : ∀ x : Fin 1024, v1 (ix2 x d) = V ⟨1024 + x, by omega⟩) (hv2 : ∀ x : Fin 1024, v2 (ix2 x d) = V ⟨2048 + x, by omega⟩)
    (hv3 : ∀ x : Fin 1024, v3 (ix2 x d) = V ⟨3072 + x, by omega⟩) (hv4 : ∀ x : Fin 256, v4 (ix2 x d) = V ⟨4096 + x, by omega⟩) :
    mix (F := Ideal) q k0 k1 k2 k3 k4 q' k0' k1' k2' k3' k4' lam v0 v1 v2 v3 v4 (ix2 r d)
      = ∑ j : Fin 4352, (((two (σ j) / ∑ i, two (σ i) : ℝ) : EReal) - lam (ix2 0 0) * ((two (σ' j) / ∑ i, two (σ' i) : ℝ) : EReal)) * V j := by
  obtain ⟨w0, w1, w2, w3, w4⟩ := weights q k0 k1 k2 k3 k4 r σ h0 h1 h2 h3 h4
  obtain ⟨w0', w1', w2', w3', w4'⟩ := weights q' k0' k1' k2' k3' k4' r σ' h0' h1' h2' h3' h4'
  rw [mix, aC_at _ _ _ _ _ _ _ r d _ _ w4 w4', aX_at _ _ _ _ _ _ _ r d _ _ w3 w3', aX_at _ _ _ _ _ _ _ r d _ _ w2 w2', aX_at _ _ _ _ _ _ _ r d _ _ w1 w1', aX_at _ _ _ _ _ _ _ r d _ _ w0 w0',
    sum_split (fun j => (((two (σ j) / ∑ i, two (σ i) : ℝ) : EReal) - lam (ix2 0 0) * ((two (σ' j) / ∑ i, two (σ' i) : ℝ) : EReal)) * V j)]
  have hz : (broadcast S256x256 (Scalar.ofBits .f32 0x00000000#32 : Ideal .f32) : FVec Ideal S256x256 .f32) (ix2 r d) = (0 : EReal) := by pointwise []
  rw [hz, zero_add]
  simp only [hv0, hv1, hv2, hv3, hv4]

end Cert.Proof.Block

end
-- ==== Proof.Spec.lean ====
module

public import Idealize.ShloMosaic.Lib.Pipeline.ValueKit
public import proofs.«01_k».proof.Proof.Soft

@[expose] public section

noncomputable section

/-! # The differential attention, entry by entry -/

namespace Cert.Proof.Spec

open Idealize.ShloMosaic Cert.Proof.Soft

/-- An array of `a` rows and `b` columns. -/
abbrev Mat (a b : ℕ) := FVec Ideal (⟨2, ![a, b]⟩ : Shape) .bf16

/-- A vector. -/
abbrev Row (a : ℕ) := FVec Ideal (⟨1, ![a]⟩ : Shape) .f32

/-- The row of key `j` of batch `b`: the latent tokens' rows, then the context tokens'. -/
def kr (b : Fin 2) (j : Fin 4352) : Fin 8704 :=
  if h : j.val < 4096 then ⟨b * 4096 + j, by omega⟩ else ⟨8192 + (b * 256 + (j - 4096)), by omega⟩

/-- The row of query `s` of batch `b`. -/
def qr (b : Fin 2) (s : Fin 4096) : Fin 8704 := ⟨b * 4096 + s, by omega⟩

def qc (h : Fin 16) (u : Fin 2) (t : Fin 128) : Fin 12288 := ⟨h * 256 + u * 128 + t, by omega⟩

def kc (h : Fin 16) (u : Fin 2) (t : Fin 128) : Fin 12288 := ⟨4096 + (h * 256 + u * 128 + t), by omega⟩

def vc (h : Fin 16) (d : Fin 256) : Fin 12288 := ⟨8192 + (h * 256 + d), by omega⟩

/-- The score of query `s` and key `j` in map `u` of head `h`. -/
def score (X : Mat 8704 12288) (b : Fin 2) (s : Fin 4096) (h : Fin 16) (u : Fin 2) (j : Fin 4352) : ℝ :=
  ∑ t : Fin 128, EReal.toReal (X (ix2 (qr b s) (qc h u t))) * EReal.toReal (X (ix2 (kr b j) (kc h u t)))

/-- The weight of key `j` in one map. -/
def wt (X : Mat 8704 12288) (b : Fin 2) (s : Fin 4096) (h : Fin 16) (u : Fin 2) (j : Fin 4352) : ℝ :=
  two (score X b s h u j) / ∑ i, two (score X b s h u i)

/-- The learned weight of the second map. -/
def lam (a1 a2 a3 a4 : Row 128) : EReal :=
  Ideal.exp (∑ x : Fin 128, a1 (ix1 x) * a2 (ix1 x)) - Ideal.exp (∑ x : Fin 128, a3 (ix1 x) * a4 (ix1 x)) + Ideal.ofBits FTy.f32 0x3EB60549#32

/-- The mixed values. -/
def mix (X : Mat 8704 12288) (l : EReal) (b : Fin 2) (s : Fin 4096) (h : Fin 16) (d : Fin 256) : EReal :=
  ∑ j : Fin 4352, ((wt X b s h 0 j : EReal) - l * (wt X b s h 1 j : EReal)) * X (ix2 (kr b j) (vc h d))

/-- The normalized output. -/
def out (X : Mat 8704 12288) (l : EReal) (g : Row 256) (b : Fin 2) (s : Fin 4096) (h : Fin 16) (d : Fin 256) : EReal :=
  mix X l b s h d * Ideal.rsqrt (Ideal.div (∑ x : Fin 256, mix X l b s h x * mix X l b s h x) (Ideal.ofBits FTy.f32 0x43800000#32) + Ideal.ofBits FTy.f32 0x358637BD#32) * g (ix1 d) * Ideal.ofBits FTy.f32 0x3F24FD5C#32

/-- Finite queries and keys. -/
def Fin' (X : Mat 8704 12288) : Prop :=
  ∀ (r : Fin 8704) (x : Fin 12288), x.val < 8192 → X (ix2 r x) ≠ (⊤ : EReal) ∧ X (ix2 r x) ≠ (⊥ : EReal)

theorem coe_toReal {X : Mat 8704 12288} (hX : Fin' X) (r : Fin 8704) (x : Fin 12288) (hx : x.val < 8192) : X (ix2 r x) = ((EReal.toReal (X (ix2 r x)) : ℝ) : EReal) :=
  (EReal.coe_toReal (hX r x hx).1 (hX r x hx).2).symm

theorem score_coe {X : Mat 8704 12288} (hX : Fin' X) (b : Fin 2) (s : Fin 4096) (h : Fin 16) (u : Fin 2) (j : Fin 4352) :
    (∑ t : Fin 128, X (ix2 (qr b s) (qc h u t)) * X (ix2 (kr b j) (kc h u t)) : EReal) = (score X b s h u j : EReal) := by
  rw [score, ← coe_sum]
  refine Finset.sum_congr rfl fun t _ => ?_
  rw [EReal.coe_mul, ← coe_toReal hX _ _ (by unfold qc; simp only; omega), ← coe_toReal hX _ _ (by unfold kc; simp only; omega)]

end Cert.Proof.Spec

end
-- ==== Proof.Blocks.lean ====
module

public import proofs.«01_k».proof.Proof.Point
public import proofs.«01_k».proof.Proof.BlockAt
public import proofs.«01_k».proof.Proof.Spec

@[expose] public section

set_option maxRecDepth 16384

noncomputable section

/-! # The blocks of a grid point, as entries of the arguments -/

namespace Cert.Proof.Blocks

open Cert.KernelIdeal Cert.KernelIdeal.Gen Idealize.ShloMosaic Idealize.ShloMosaic.TcCoe Idealize.SL.Sem
open Cert.KernelIdeal.Facts

theorem idx : ∀ t : Fin cfg0.N, win0_5.index t = ![t.val / 64 * 4 + t.val % 4, t.val / 4 % 16] ∧ win0_6.index t = ![t.val / 64, 16 + t.val / 4 % 16] ∧ win0_7.index t = ![t.val / 64, 32 + t.val / 4 % 16]
    ∧ win0_8.index t = ![32 + t.val / 64, 16 + t.val / 4 % 16] ∧ win0_9.index t = ![32 + t.val / 64, 32 + t.val / 4 % 16] ∧ win0_10.index t = ![t.val / 64 * 4 + t.val % 4, t.val / 4 % 16] :=
  (by decide +kernel : ∀ t : Fin grid0.N, _)

theorem idx0 : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

variable (m : (ℓ : Loc nD τ sig) → Buf (Elt Ideal) ℓ) (c : Dev nD) (t : Fin cfg0.N)

theorem lt : t.val < 128 := t.isLt

/-- The queries', keys' and values' array. -/
def qkv : FVec Ideal S8704x12288 .bf16 := m ((c.tc : Thread nD τ).loc main_arg0)

theorem blk5 (y : Fin 1024) (x : Fin 256) : (X0_5 (F := Ideal) m c t : FVec Ideal S1024x256 .bf16) (ix2 y x)
    = qkv m c (ix2 ⟨1024 * (t.val / 64 * 4 + t.val % 4) + y, by have := lt t; omega⟩ ⟨256 * (t.val / 4 % 16) + x, by omega⟩) := by
  unfold X0_5 Pipeline.Window.fill
  rw [dif_pos (moved0_5 t _)]
  unfold qkv
  blk_ext [iblk, V, idx t]

theorem blk6 (y : Fin 4096) (x : Fin 256) : (X0_6 (F := Ideal) m c t : FVec Ideal S4096x256 .bf16) (ix2 y x)
    = qkv m c (ix2 ⟨4096 * (t.val / 64) + y, by have := lt t; omega⟩ ⟨256 * (16 + t.val / 4 % 16) + x, by omega⟩) := by
  unfold X0_6 Pipeline.Window.fill
  rw [dif_pos (moved0_6 t _)]
  unfold qkv
  blk_ext [iblk, V, idx t]

theorem blk7 (y : Fin 4096) (x : Fin 256) : (X0_7 (F := Ideal) m c t : FVec Ideal S4096x256 .bf16) (ix2 y x)
    = qkv m c (ix2 ⟨4096 * (t.val / 64) + y, by have := lt t; omega⟩ ⟨256 * (32 + t.val / 4 % 16) + x, by omega⟩) := by
  unfold X0_7 Pipeline.Window.fill
  rw [dif_pos (moved0_7 t _)]
  unfold qkv
  blk_ext [iblk, V, idx t]

theorem blk8 (y : Fin 256) (x : Fin 256) : (iblk (F := Ideal) m c 8 t : FVec Ideal S256x256 .bf16) (ix2 y x)
    = qkv m c (ix2 ⟨256 * (32 + t.val / 64) + y, by have := lt t; omega⟩ ⟨256 * (16 + t.val / 4 % 16) + x, by omega⟩) := by
  unfold qkv
  blk_ext [iblk, V, idx t]

theorem blk9 (y : Fin 256) (x : Fin 256) : (iblk (F := Ideal) m c 9 t : FVec Ideal S256x256 .bf16) (ix2 y x)
    = qkv m c (ix2 ⟨256 * (32 + t.val / 64) + y, by have := lt t; omega⟩ ⟨256 * (32 + t.val / 4 % 16) + x, by omega⟩) := by
  unfold qkv
  blk_ext [iblk, V, idx t]

theorem blk0 (x : Fin 128) : (iblk (F := Ideal) m c 0 t : FVec Ideal S1x128 .f32) (ix2 0 x) = (m ((c.tc : Thread nD τ).loc main_arg1) : FVec Ideal S128 .f32) (ix1 x) := by
  blk_simp [iblk]
  entry_read
  pointwise []
  blk_ext [idx0 t]

theorem blk1 (x : Fin 128) : (iblk (F := Ideal) m c 1 t : FVec Ideal S1x128 .f32) (ix2 0 x) = (m ((c.tc : Thread nD τ).loc main_arg2) : FVec Ideal S128 .f32) (ix1 x) := by
  blk_simp [iblk]
  entry_read
  pointwise []
  blk_ext [idx0 t]

theorem blk2 (x : Fin 128) : (iblk (F := Ideal) m c 2 t : FVec Ideal S1x128 .f32) (ix2 0 x) = (m ((c.tc : Thread nD τ).loc main_arg3) : FVec Ideal S128 .f32) (ix1 x) := by
  blk_simp [iblk]
  entry_read
  pointwise []
  blk_ext [idx0 t]

theorem blk3 (x : Fin 128) : (iblk (F := Ideal) m c 3 t : FVec Ideal S1x128 .f32) (ix2 0 x) = (m ((c.tc : Thread nD τ).loc main_arg4) : FVec Ideal S128 .f32) (ix1 x) := by
  blk_simp [iblk]
  entry_read
  pointwise []
  blk_ext [idx0 t]

theorem blk4 (x : Fin 256) : (iblk (F := Ideal) m c 4 t : FVec Ideal S1x256 .f32) (ix2 0 x) = (m ((c.tc : Thread nD τ).loc main_arg5) : FVec Ideal S256 .f32) (ix1 x) := by
  blk_simp [iblk]
  entry_read
  pointwise []
  blk_ext [idx0 t]

theorem lam_at : k0_pay2 (F := Ideal) (iblk m c 0 t) (iblk m c 1 t) (iblk m c 2 t) (iblk m c 3 t) (ix2 0 0)
    = Spec.lam (m ((c.tc : Thread nD τ).loc main_arg1)) (m ((c.tc : Thread nD τ).loc main_arg2)) (m ((c.tc : Thread nD τ).loc main_arg3)) (m ((c.tc : Thread nD τ).loc main_arg4)) := by
  have h : ∀ a b c d : FVec Ideal S1x128 .f32, k0_pay2 (F := Ideal) a b c d (ix2 0 0)
      = Ideal.exp (∑ x : Fin 128, a (ix2 0 x) * b (ix2 0 x)) - Ideal.exp (∑ x : Fin 128, c (ix2 0 x) * d (ix2 0 x)) + Ideal.ofBits FTy.f32 0x3EB60549#32 := by
    intro a b c d
    pointwise [k0_pay2]
  rw [h]
  simp only [blk0, blk1, blk2, blk3]
  rfl

end Cert.Proof.Blocks

end
-- ==== Proof.Array.lean ====
module

public import proofs.«01_k».proof.Proof.Blocks

@[expose] public section

set_option maxRecDepth 16384

noncomputable section

/-! # The kernel's result, entry by entry -/

namespace Cert.Proof.Array

open Cert.KernelIdeal Cert.KernelIdeal.Gen Idealize.ShloMosaic Idealize.ShloMosaic.TcCoe Idealize.SL.Sem
open Cert.KernelIdeal.Facts Cert.Proof.Soft Cert.Proof.Spec Cert.Proof.Blocks

theorem k0_0 (x6 : FVec Ideal S4096x256 .bf16) (x : Fin 1024) (t : Fin 128) :
    View.ld (Val := Elt Ideal) (e' := .bf16) x6 (Rect.unit ![0, 0] ![1024, 128] inb_S4096x256_S1024x128_0_0) (ix2 x t) = x6 (ix2 ⟨0 + x, by omega⟩ ⟨128 * 0 + t, by omega⟩) := by
  symm
  blk_ext <;> simp [Rect.unit, LoadRect.idx] <;> omega

theorem k0_1 (x6 : FVec Ideal S4096x256 .bf16) (x : Fin 1024) (t : Fin 128) :
    View.ld (Val := Elt Ideal) (e' := .bf16) x6 (Rect.unit ![0, 128] ![1024, 128] inb_S4096x256_S1024x128_0_128) (ix2 x t) = x6 (ix2 ⟨0 + x, by omega⟩ ⟨128 * 1 + t, by omega⟩) := by
  symm
  blk_ext <;> simp [Rect.unit, LoadRect.idx] <;> omega

theorem v0 (x7 : FVec Ideal S4096x256 .bf16) (x : Fin 1024) (d : Fin 256) :
    View.ld (Val := Elt Ideal) (e' := .bf16) x7 (Rect.unit ![0, 0] ![1024, 256] inb_S4096x256_S1024x256_0_0) (ix2 x d) = x7 (ix2 ⟨0 + x, by omega⟩ d) := by
  symm
  blk_ext <;> simp [Rect.unit, LoadRect.idx] <;> omega

theorem k1_0 (x6 : FVec Ideal S4096x256 .bf16) (x : Fin 1024) (t : Fin 128) :
    View.ld (Val := Elt Ideal) (e' := .bf16) x6 (Rect.unit ![1024, 0] ![1024, 128] inb_S4096x256_S1024x128_1024_0) (ix2 x t) = x6 (ix2 ⟨1024 + x, by omega⟩ ⟨128 * 0 + t, by omega⟩) := by
  symm
  blk_ext <;> simp [Rect.unit, LoadRect.idx] <;> omega

theorem k1_1 (x6 : FVec Ideal S4096x256 .bf16) (x : Fin 1024) (t : Fin 128) :
    View.ld (Val := Elt Ideal) (e' := .bf16) x6 (Rect.unit ![1024, 128] ![1024, 128] inb_S4096x256_S1024x128_1024_128) (ix2 x t) = x6 (ix2 ⟨1024 + x, by omega⟩ ⟨128 * 1 + t, by omega⟩) := by
  symm
  blk_ext <;> simp [Rect.unit, LoadRect.idx] <;> omega

theorem v1 (x7 : FVec Ideal S4096x256 .bf16) (x : Fin 1024) (d : Fin 256) :
    View.ld (Val := Elt Ideal) (e' := .bf16) x7 (Rect.unit ![1024, 0] ![1024, 256] inb_S4096x256_S1024x256_1024_0) (ix2 x d) = x7 (ix2 ⟨1024 + x, by omega⟩ d) := by
  symm
  blk_ext <;> simp [Rect.unit, LoadRect.idx] <;> omega

theorem k2_0 (x6 : FVec Ideal S4096x256 .bf16) (x : Fin 1024) (t : Fin 128) :
    View.ld (Val := Elt Ideal) (e' := .bf16) x6 (Rect.unit ![2048, 0] ![1024, 128] inb_S4096x256_S1024x128_2048_0) (ix2 x t) = x6 (ix2 ⟨2048 + x, by omega⟩ ⟨128 * 0 + t, by omega⟩) := by
  symm
  blk_ext <;> simp [Rect.unit, LoadRect.idx] <;> omega

theorem k2_1 (x6 : FVec Ideal S4096x256 .bf16) (x : Fin 1024) (t : Fin 128) :
    View.ld (Val := Elt Ideal) (e' := .bf16) x6 (Rect.unit ![2048, 128] ![1024, 128] inb_S4096x256_S1024x128_2048_128) (ix2 x t) = x6 (ix2 ⟨2048 + x, by omega⟩ ⟨128 * 1 + t, by omega⟩) := by
  symm
  blk_ext <;> simp [Rect.unit, LoadRect.idx] <;> omega

theorem v2 (x7 : FVec Ideal S4096x256 .bf16) (x : Fin 1024) (d : Fin 256) :
    View.ld (Val := Elt Ideal) (e' := .bf16) x7 (Rect.unit ![2048, 0] ![1024, 256] inb_S4096x256_S1024x256_2048_0) (ix2 x d) = x7 (ix2 ⟨2048 + x, by omega⟩ d) := by
  symm
  blk_ext <;> simp [Rect.unit, LoadRect.idx] <;> omega

theorem k3_0 (x6 : FVec Ideal S4096x256 .bf16) (x : Fin 1024) (t : Fin 128) :
    View.ld (Val := Elt Ideal) (e' := .bf16) x6 (Rect.unit ![3072, 0] ![1024, 128] inb_S4096x256_S1024x128_3072_0) (ix2 x t) = x6 (ix2 ⟨3072 + x, by omega⟩ ⟨128 * 0 + t, by omega⟩) := by
  symm
  blk_ext <;> simp [Rect.unit, LoadRect.idx] <;> omega

theorem k3_1 (x6 : FVec Ideal S4096x256 .bf16) (x : Fin 1024) (t : Fin 128) :
    View.ld (Val := Elt Ideal) (e' := .bf16) x6 (Rect.unit ![3072, 128] ![1024, 128] inb_S4096x256_S1024x128_3072_128) (ix2 x t) = x6 (ix2 ⟨3072 + x, by omega⟩ ⟨128 * 1 + t, by omega⟩) := by
  symm
  blk_ext <;> simp [Rect.unit, LoadRect.idx] <;> omega

theorem v3 (x7 : FVec Ideal S4096x256 .bf16) (x : Fin 1024) (d : Fin 256) :
    View.ld (Val := Elt Ideal) (e' := .bf16) x7 (Rect.unit ![3072, 0] ![1024, 256] inb_S4096x256_S1024x256_3072_0) (ix2 x d) = x7 (ix2 ⟨3072 + x, by omega⟩ d) := by
  symm
  blk_ext <;> simp [Rect.unit, LoadRect.idx] <;> omega

theorem k4_0 (x8 : FVec Ideal S256x256 .bf16) (x : Fin 256) (t : Fin 128) :
    View.ld (Val := Elt Ideal) (e' := .bf16) x8 (Rect.unit ![0, 0] ![256, 128] inb_S256x256_S256x128_0_0) (ix2 x t) = x8 (ix2 x ⟨128 * 0 + t, by omega⟩) := by
  symm
  blk_ext <;> simp [Rect.unit, LoadRect.idx] <;> omega

theorem k4_1 (x8 : FVec Ideal S256x256 .bf16) (x : Fin 256) (t : Fin 128) :
    View.ld (Val := Elt Ideal) (e' := .bf16) x8 (Rect.unit ![0, 128] ![256, 128] inb_S256x256_S256x128_0_128) (ix2 x t) = x8 (ix2 x ⟨128 * 1 + t, by omega⟩) := by
  symm
  blk_ext <;> simp [Rect.unit, LoadRect.idx] <;> omega

theorem qs_at (x5 : FVec Ideal S1024x256 .bf16) (n : Fin 4) (u : Fin 2) (r : Fin 256) (k : Fin 128) :
    Point.qs (F := Ideal) x5 n u (ix2 r k) = x5 (ix2 ⟨256 * n + r, by omega⟩ ⟨128 * u + k, by omega⟩) := rfl

/-- One stretch's entries, when its blocks are the argument's entries. -/
theorem row_at (x0 x1 x2 x3 : FVec Ideal S1x128 .f32) (x4 : FVec Ideal S1x256 .f32) (q : Fin 2 → FVec Ideal S256x128 .bf16) (x6 x7 : FVec Ideal S4096x256 .bf16) (x8 x9 : FVec Ideal S256x256 .bf16)
    (X : Mat 8704 12288) (hX : Fin' X) (l : EReal) (g : Row 256) (b : Fin 2) (s : Fin 4096) (h : Fin 16) (r d : Fin 256)
    (hq : ∀ (u : Fin 2) (t : Fin 128), q u (ix2 r t) = X (ix2 (qr b s) (qc h u t)))
    (hk : ∀ (y : Fin 4096) (u : Fin 2) (t : Fin 128), x6 (ix2 y ⟨128 * u + t, by omega⟩) = X (ix2 (kr b ⟨y, by omega⟩) (kc h u t)))
    (hv : ∀ (y : Fin 4096) (d : Fin 256), x7 (ix2 y d) = X (ix2 (kr b ⟨y, by omega⟩) (vc h d)))
    (hk4 : ∀ (y : Fin 256) (u : Fin 2) (t : Fin 128), x8 (ix2 y ⟨128 * u + t, by omega⟩) = X (ix2 (kr b ⟨4096 + y, by omega⟩) (kc h u t)))
    (hv4 : ∀ (y d : Fin 256), x9 (ix2 y d) = X (ix2 (kr b ⟨4096 + y, by omega⟩) (vc h d)))
    (hl : k0_pay2 (F := Ideal) x0 x1 x2 x3 (ix2 0 0) = l) (hg : ∀ d : Fin 256, x4 (ix2 0 d) = g (ix1 d)) :
    Point.row (F := Ideal) x0 x1 x2 x3 x4 (q 0) (q 1) x6 x7 x8 x9 (ix2 r d) = Spec.out X l g b s h d := by
  have hm := fun d : Fin 256 => Block.mix_at (q 0) (View.ld (Val := Elt Ideal) (e' := .bf16) x6 (Rect.unit ![0, 0] ![1024, 128] inb_S4096x256_S1024x128_0_0))
      (View.ld (Val := Elt Ideal) (e' := .bf16) x6 (Rect.unit ![1024, 0] ![1024, 128] inb_S4096x256_S1024x128_1024_0))
      (View.ld (Val := Elt Ideal) (e' := .bf16) x6 (Rect.unit ![2048, 0] ![1024, 128] inb_S4096x256_S1024x128_2048_0))
      (View.ld (Val := Elt Ideal) (e' := .bf16) x6 (Rect.unit ![3072, 0] ![1024, 128] inb_S4096x256_S1024x128_3072_0))
      (View.ld (Val := Elt Ideal) (e' := .bf16) x8 (Rect.unit ![0, 0] ![256, 128] inb_S256x256_S256x128_0_0)) (q 1) (View.ld (Val := Elt Ideal) (e' := .bf16) x6 (Rect.unit ![0, 128] ![1024, 128] inb_S4096x256_S1024x128_0_128))
      (View.ld (Val := Elt Ideal) (e' := .bf16) x6 (Rect.unit ![1024, 128] ![1024, 128] inb_S4096x256_S1024x128_1024_128))
      (View.ld (Val := Elt Ideal) (e' := .bf16) x6 (Rect.unit ![2048, 128] ![1024, 128] inb_S4096x256_S1024x128_2048_128))
      (View.ld (Val := Elt Ideal) (e' := .bf16) x6 (Rect.unit ![3072, 128] ![1024, 128] inb_S4096x256_S1024x128_3072_128))
      (View.ld (Val := Elt Ideal) (e' := .bf16) x8 (Rect.unit ![0, 128] ![256, 128] inb_S256x256_S256x128_0_128)) (k0_pay2 (F := Ideal) x0 x1 x2 x3)
      (View.ld (Val := Elt Ideal) (e' := .bf16) x7 (Rect.unit ![0, 0] ![1024, 256] inb_S4096x256_S1024x256_0_0))
      (View.ld (Val := Elt Ideal) (e' := .bf16) x7 (Rect.unit ![1024, 0] ![1024, 256] inb_S4096x256_S1024x256_1024_0))
      (View.ld (Val := Elt Ideal) (e' := .bf16) x7 (Rect.unit ![2048, 0] ![1024, 256] inb_S4096x256_S1024x256_2048_0))
      (View.ld (Val := Elt Ideal) (e' := .bf16) x7 (Rect.unit ![3072, 0] ![1024, 256] inb_S4096x256_S1024x256_3072_0)) x9 r d (score X b s h 0) (score X b s h 1) (fun j => X (ix2 (kr b j) (vc h d)))
      (fun x => by rw [Block.sX_at, ← score_coe hX]; refine Finset.sum_congr rfl fun t _ => ?_; rw [hq, k0_0]; congr 1; exact (hk ⟨0 + x, by omega⟩ 0 t).trans (by congr 3; ext; simp))
      (fun x => by rw [Block.sX_at, ← score_coe hX]; refine Finset.sum_congr rfl fun t _ => ?_; rw [hq, k1_0]; congr 1; exact (hk ⟨1024 + x, by omega⟩ 0 t).trans (by rfl))
      (fun x => by rw [Block.sX_at, ← score_coe hX]; refine Finset.sum_congr rfl fun t _ => ?_; rw [hq, k2_0]; congr 1; exact (hk ⟨2048 + x, by omega⟩ 0 t).trans (by rfl))
      (fun x => by rw [Block.sX_at, ← score_coe hX]; refine Finset.sum_congr rfl fun t _ => ?_; rw [hq, k3_0]; congr 1; exact (hk ⟨3072 + x, by omega⟩ 0 t).trans (by rfl))
      (fun x => by rw [Block.sC_at, ← score_coe hX]; refine Finset.sum_congr rfl fun t _ => ?_; rw [hq, k4_0]; congr 1; exact (hk4 x 0 t).trans (by rfl))
      (fun x => by rw [Block.sX_at, ← score_coe hX]; refine Finset.sum_congr rfl fun t _ => ?_; rw [hq, k0_1]; congr 1; exact (hk ⟨0 + x, by omega⟩ 1 t).trans (by congr 3; ext; simp))
      (fun x => by rw [Block.sX_at, ← score_coe hX]; refine Finset.sum_congr rfl fun t _ => ?_; rw [hq, k1_1]; congr 1; exact (hk ⟨1024 + x, by omega⟩ 1 t).trans (by rfl))
      (fun x => by rw [Block.sX_at, ← score_coe hX]; refine Finset.sum_congr rfl fun t _ => ?_; rw [hq, k2_1]; congr 1; exact (hk ⟨2048 + x, by omega⟩ 1 t).trans (by rfl))
      (fun x => by rw [Block.sX_at, ← score_coe hX]; refine Finset.sum_congr rfl fun t _ => ?_; rw [hq, k3_1]; congr 1; exact (hk ⟨3072 + x, by omega⟩ 1 t).trans (by rfl))
      (fun x => by rw [Block.sC_at, ← score_coe hX]; refine Finset.sum_congr rfl fun t _ => ?_; rw [hq, k4_1]; congr 1; exact (hk4 x 1 t).trans (by rfl))
      (fun x => (v0 x7 x d).trans ((hv ⟨0 + x, by omega⟩ d).trans (by congr 3; ext; simp)))
      (fun x => (v1 x7 x d).trans ((hv ⟨1024 + x, by omega⟩ d).trans (by rfl)))
      (fun x => (v2 x7 x d).trans ((hv ⟨2048 + x, by omega⟩ d).trans (by rfl)))
      (fun x => (v3 x7 x d).trans ((hv ⟨3072 + x, by omega⟩ d).trans (by rfl)))
      (fun x => hv4 x d)
  rw [Point.row, Block.fin_at, Spec.out, hg]
  simp only [hm, hl]
  rfl

variable (m : (ℓ : Loc nD τ sig) → Buf (Elt Ideal) ℓ) (c : Dev nD)

/-- The second map's learned weight, of the arguments. -/
def lamv : EReal :=
  Spec.lam (m ((c.tc : Thread nD τ).loc main_arg1)) (m ((c.tc : Thread nD τ).loc main_arg2)) (m ((c.tc : Thread nD τ).loc main_arg3)) (m ((c.tc : Thread nD τ).loc main_arg4))

/-- What a point leaves in the output block. -/
theorem point (hX : Fin' (qkv m c)) (t : Fin cfg0.N) (y : Fin 1024) (d : Fin 256) :
    (outsAt0 (F := Ideal) m c t : FVec Ideal S1024x256 .bf16) (ix2 y d)
      = Spec.out (qkv m c) (lamv m c) (m ((c.tc : Thread nD τ).loc main_arg5)) ⟨t.val / 64, by have := lt t; omega⟩ ⟨1024 * (t.val % 4) + y, by omega⟩ ⟨t.val / 4 % 16, by omega⟩ d := by
  have ht := lt t
  unfold outsAt0
  refine (Point.out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (X0_5 m c t) (X0_6 m c t) (X0_7 m c t) (iblk m c 8 t) (iblk m c 9 t) (ix2 y d)
    (ix2 ⟨y % 256, by omega⟩ d) ⟨y / 256, by omega⟩ (show y.val = 256 * (y.val / 256) + y.val % 256 by omega) rfl).trans ?_
  refine row_at (iblk m c 0 t) (iblk m c 1 t) (iblk m c 2 t) (iblk m c 3 t) (iblk m c 4 t) (Point.qs (F := Ideal) (X0_5 m c t) ⟨y / 256, by omega⟩) (X0_6 m c t) (X0_7 m c t) (iblk m c 8 t) (iblk m c 9 t)
    (qkv m c) hX (lamv m c) (m ((c.tc : Thread nD τ).loc main_arg5)) ⟨t.val / 64, by omega⟩ ⟨1024 * (t.val % 4) + y, by omega⟩ ⟨t.val / 4 % 16, by omega⟩ ⟨y % 256, by omega⟩ d
    (fun u k => ?_) (fun y u k => ?_) (fun y d => ?_) (fun y u k => ?_) (fun y d => ?_) (lam_at m c t) (blk4 m c t)
  · refine (qs_at _ _ _ _ _).trans ((blk5 m c t _ _).trans (congrArg (qkv m c) ?_))
    unfold qr qc
    congr 1 <;> ext <;> simp only <;> omega
  · refine (blk6 m c t _ _).trans (congrArg (qkv m c) ?_)
    unfold kr kc
    rw [dif_pos y.isLt]
    congr 1 <;> ext <;> simp only <;> omega
  · refine (blk7 m c t _ _).trans (congrArg (qkv m c) ?_)
    unfold kr vc
    rw [dif_pos y.isLt]
    congr 1 <;> ext <;> simp only <;> omega
  · refine (blk8 m c t _ _).trans (congrArg (qkv m c) ?_)
    unfold kr kc
    congr 1 <;> ext <;> simp <;> omega
  · refine (blk9 m c t _ _).trans (congrArg (qkv m c) ?_)
    unfold kr vc
    congr 1 <;> ext <;> simp <;> omega

/-- The result's entries, had every row been a latent token's. -/
def G : FVec Ideal S8704x4096 .bf16 := fun i =>
  Spec.out (qkv m c) (lamv m c) (m ((c.tc : Thread nD τ).loc main_arg5)) ⟨(i 0 : ℕ) / 4096 % 2, by omega⟩ ⟨(i 0 : ℕ) % 4096, by omega⟩
    ⟨(i 1 : ℕ) / 256 % 16, by omega⟩ ⟨(i 1 : ℕ) % 256, by omega⟩

/-- The rows of latent tokens, after the run. -/
theorem final (hX : Fin' (qkv m c)) (i : S8704x4096.Idx) (hi : (i 0 : ℕ) < 8192) : (dats m 0 c).arrAt 10 (cfgs 0).N i = G m c i := by
  refine ((dats m 0 c).arrAt_apply_of_coversWhere 10 (G m c) (P := fun i : S8704x4096.Idx => (i 0 : ℕ) < 8192) (fun β => β 0 < 8) (by decide +kernel) (fun t hf y => ?_)
    (fun j => by blk_simp [Pipeline.Window.cell_apply]; omega) i).trans (if_pos hi)
  blk_simp
  rw [after0_10]
  have ht := lt t
  have l0 : (y 0 : ℕ) < 1024 := ((cfg0.win 10).xinj (cfg0.grid.coords t) y 0).isLt
  have l1 : (y 1 : ℕ) < 256 := ((cfg0.win 10).xinj (cfg0.grid.coords t) y 1).isLt
  have e : (cfg0.win 10).xinj (cfg0.grid.coords t) y = (ix2 ⟨y 0, l0⟩ ⟨y 1, l1⟩ : S1024x256.Idx) := by
    funext a; fin_cases a <;> rfl
  have g0 : (((win0_10.blk t).view.emb y : S8704x4096.Idx) 0 : ℕ) = 1024 * (t.val / 64 * 4 + t.val % 4) + y 0 := by blk_simp [idx t]; ring
  have g1 : (((win0_10.blk t).view.emb y : S8704x4096.Idx) 1 : ℕ) = 256 * (t.val / 4 % 16) + y 1 := by blk_simp [idx t]; ring
  refine (congrArg (outsAt0 m c t) e).trans ((point m c hX t _ _).trans ?_)
  unfold G
  congr 1 <;> ext <;> simp only [g0, g1] <;> omega

end Cert.Proof.Array

end
-- ==== Proof.Ref.lean ====
module

public import proofs.«01_k».proof.Proof.Gen.ReferenceIdeal.Run
public import Idealize.ShloMosaic.Lib.Pipeline.ValueKit

@[expose] public section

set_option maxRecDepth 16384

noncomputable section

/-! # The reference's result, named stage by stage -/

namespace Cert.Proof.Ref

open Cert.ReferenceIdeal Cert.ReferenceIdeal.Gen Cert.ReferenceIdeal.Value Idealize.ShloMosaic Idealize.ShloMosaic.TcCoe Idealize.SL.Sem
open Cert.ReferenceIdeal.Facts

section
variable {F : FTy → Type} [FloatOps F]

/-- The latent tokens' rows. -/
def lat (X : FVec F S8704x12288 .bf16) : FVec F S2x4096x12288 .f32 :=
  shapeCast _ (extractStridedSlice S8192x12288 ![0, 0] (extf .f32 X bitsLt_bf16_f32) slices_S8704x12288_S8192x12288_0_0) shapeCasts_S8192x12288_S2x4096x12288

/-- The context tokens' rows. -/
def con (X : FVec F S8704x12288 .bf16) : FVec F S2x256x12288 .f32 :=
  shapeCast _ (extractStridedSlice S512x12288 ![8192, 0] (extf .f32 X bitsLt_bf16_f32) slices_S8704x12288_S512x12288_8192_0) shapeCasts_S512x12288_S2x256x12288

/-- The queries. -/
def qq (X : FVec F S8704x12288 .bf16) : FVec F S2x4096x16x2x128 .f32 :=
  shapeCast _ (extractStridedSlice S2x4096x4096 ![0, 0, 0] (lat X) slices_S2x4096x12288_S2x4096x4096_0_0_0) shapeCasts_S2x4096x4096_S2x4096x16x2x128

/-- The keys, latent then context. -/
def kk (X : FVec F S8704x12288 .bf16) : FVec F S2x4352x16x2x128 .f32 :=
  shapeCast _ (concatenate S2x4352x4096 1 [⟨S2x4096x4096, extractStridedSlice S2x4096x4096 ![0, 0, 4096] (lat X) slices_S2x4096x12288_S2x4096x4096_0_0_4096⟩, ⟨S2x256x4096, extractStridedSlice S2x256x4096 ![0, 0, 4096] (con X) slices_S2x256x12288_S2x256x4096_0_0_4096⟩] concatenates_S2x4096x4096_S2x256x4096_S2x4352x4096_d1) shapeCasts_S2x4352x4096_S2x4352x16x2x128

/-- The values, latent then context. -/
def vv (X : FVec F S8704x12288 .bf16) : FVec F S2x4352x16x256 .f32 :=
  shapeCast _ (concatenate S2x4352x4096 1 [⟨S2x4096x4096, extractStridedSlice S2x4096x4096 ![0, 0, 8192] (lat X) slices_S2x4096x12288_S2x4096x4096_0_0_8192⟩, ⟨S2x256x4096, extractStridedSlice S2x256x4096 ![0, 0, 8192] (con X) slices_S2x256x12288_S2x256x4096_0_0_8192⟩] concatenates_S2x4096x4096_S2x256x4096_S2x4352x4096_d1) shapeCasts_S2x4352x4096_S2x4352x16x256

/-- The learned weight of the second softmax. -/
def lam (a b c d : FVec F S128 .f32) : FVec F S_ .f32 :=
  addf (subf (Host.exp (Host.reduceAdd (mulf a b) (constant S_ .f32 0x00000000#32) reducesTo_S128_S_d0 h_S_)) (Host.exp (Host.reduceAdd (mulf c d) (constant S_ .f32 0x00000000#32) reducesTo_S128_S_d0 h_S_))) (constant S_ .f32 0x3EB60549#32)

/-- The scores times `log 2`. -/
def sc (q : FVec F S2x4096x16x2x128 .f32) (k : FVec F S2x4352x16x2x128 .f32) : FVec F S2x16x2x4096x4352 .f32 :=
  mulf (Host.dotGeneral dot_S2x4096x16x2x128_S2x4352x16x2x128_S2x16x2x4096x4352_4_4_1_1_023_023 none q k) (broadcastInDim S2x16x2x4096x4352 ![] bcast_S_S2x16x2x4096x4352 (Host.log (constant S_ .f32 0x40000000#32)))

/-- The greatest score of a row. -/
def mx (s : FVec F S2x16x2x4096x4352 .f32) : FVec F S2x16x2x4096 .f32 :=
  maximumf (broadcastInDim S2x16x2x4096 ![] bcast_S_S2x16x2x4096 (constant S_ .f32 0xFF800000#32)) (Host.reduce FloatOps.maximumf s (constant S_ .f32 0xFF800000#32) reducesTo_S2x16x2x4096x4352_S2x16x2x4096_d4 h_S_)

/-- The exponentials. -/
def ex (s : FVec F S2x16x2x4096x4352 .f32) (M : FVec F S2x16x2x4096 .f32) : FVec F S2x16x2x4096x4352 .f32 :=
  Host.exp (subf s (broadcastInDim S2x16x2x4096x4352 ![0, 1, 2, 3, 4] bcast_S2x16x2x4096x1_S2x16x2x4096x4352_0_1_2_3_4 (broadcastInDim S2x16x2x4096x1 ![0, 1, 2, 3] bcast_S2x16x2x4096_S2x16x2x4096x1_0_1_2_3 M)))

/-- The softmax. -/
def pr (e : FVec F S2x16x2x4096x4352 .f32) : FVec F S2x16x2x4096x4352 .f32 :=
  Host.divf e (broadcastInDim S2x16x2x4096x4352 ![0, 1, 2, 3, 4] bcast_S2x16x2x4096x1_S2x16x2x4096x4352_0_1_2_3_4 (broadcastInDim S2x16x2x4096x1 ![0, 1, 2, 3] bcast_S2x16x2x4096_S2x16x2x4096x1_0_1_2_3 (Host.reduceAdd e (constant S_ .f32 0x00000000#32) reducesTo_S2x16x2x4096x4352_S2x16x2x4096_d4 h_S_)))

/-- The first softmax less the second's weighted. -/
def df (p : FVec F S2x16x2x4096x4352 .f32) (l : FVec F S_ .f32) : FVec F S2x16x4096x4352 .f32 :=
  subf (shapeCast _ (extractStridedSlice S2x16x1x4096x4352 ![0, 0, 0, 0, 0] p slices_S2x16x2x4096x4352_S2x16x1x4096x4352_0_0_0_0_0) shapeCasts_S2x16x1x4096x4352_S2x16x4096x4352)
    (mulf (broadcastInDim S2x16x4096x4352 ![] bcast_S_S2x16x4096x4352 l) (shapeCast _ (extractStridedSlice S2x16x1x4096x4352 ![0, 0, 1, 0, 0] p slices_S2x16x2x4096x4352_S2x16x1x4096x4352_0_0_1_0_0) shapeCasts_S2x16x1x4096x4352_S2x16x4096x4352))

/-- The mixed values. -/
def oo (v : FVec F S2x4352x16x256 .f32) (p : FVec F S2x16x4096x4352 .f32) : FVec F S2x4096x16x256 .f32 :=
  transpose S2x4096x16x256 [0, 3, 1, 2] (Host.dotGeneral dot_S2x4352x16x256_S2x16x4096x4352_S2x16x256x4096_1_3_3_2_02_01 none v p) transposes_S2x16x256x4096_S2x4096x16x256_0_3_1_2

/-- The normalized output. -/
def yy (o : FVec F S2x4096x16x256 .f32) (g : FVec F S256 .f32) : FVec F S8704x4096 .bf16 :=
  concatenate S8704x4096 0 [⟨S8192x4096, truncf .bf16 (shapeCast _ (mulf (mulf (mulf o (broadcastInDim S2x4096x16x256 ![0, 1, 2, 3] bcast_S2x4096x16x1_S2x4096x16x256_0_1_2_3 (Host.rsqrt (addf (Host.divf (broadcastInDim S2x4096x16x1 ![0, 1, 2] bcast_S2x4096x16_S2x4096x16x1_0_1_2 (Host.reduceAdd (mulf o o) (constant S_ .f32 0x00000000#32) reducesTo_S2x4096x16x256_S2x4096x16_d3 h_S_)) (broadcastInDim S2x4096x16x1 ![] bcast_S_S2x4096x16x1 (constant S_ .f32 0x43800000#32))) (broadcastInDim S2x4096x16x1 ![] bcast_S_S2x4096x16x1 (constant S_ .f32 0x358637BD#32)))))) (broadcastInDim S2x4096x16x256 ![0, 1, 2, 3] bcast_S1x1x1x256_S2x4096x16x256_0_1_2_3 (broadcastInDim S1x1x1x256 ![3] bcast_S256_S1x1x1x256_3 g))) (broadcastInDim S2x4096x16x256 ![] bcast_S_S2x4096x16x256 (constant S_ .f32 0x3F24FD5C#32))) shapeCasts_S2x4096x16x256_S8192x4096) bitsLt_bf16_f32⟩, ⟨S512x4096, broadcastInDim S512x4096 ![] bcast_S_S512x4096 (constant S_ .bf16 0x0000#16)⟩] concatenates_S8192x4096_S512x4096_S8704x4096_d0

theorem res_eq (m : (ℓ : Loc nD τ sig) → Buf (Elt F) ℓ) (c : Dev nD) :
    res_main_v65 m c = yy (oo (vv (m ((c.tc : Thread nD τ).loc main_arg0))) (df (pr (ex (sc (qq (m ((c.tc : Thread nD τ).loc main_arg0))) (kk (m ((c.tc : Thread nD τ).loc main_arg0)))) (mx (sc (qq (m ((c.tc : Thread nD τ).loc main_arg0))) (kk (m ((c.tc : Thread nD τ).loc main_arg0))))))) (lam (m ((c.tc : Thread nD τ).loc main_arg1)) (m ((c.tc : Thread nD τ).loc main_arg2)) (m ((c.tc : Thread nD τ).loc main_arg3)) (m ((c.tc : Thread nD τ).loc main_arg4))))) (m ((c.tc : Thread nD τ).loc main_arg5)) := rfl

end

end Cert.Proof.Ref

end
-- ==== Proof.RefAt.lean ====
module

public import proofs.«01_k».proof.Proof.Ref
public import proofs.«01_k».proof.Proof.Spec

@[expose] public section

set_option maxRecDepth 16384

noncomputable section

/-! # The reference's result, entry by entry -/

namespace Cert.Proof.Ref

open Cert.ReferenceIdeal Cert.ReferenceIdeal.Gen Cert.ReferenceIdeal.Value Idealize.ShloMosaic Idealize.ShloMosaic.TcCoe Idealize.SL.Sem
open Cert.ReferenceIdeal.Facts Cert.Proof.Soft Cert.Proof.Spec

theorem qq_at (X : FVec Ideal S8704x12288 .bf16) (b : Fin 2) (s : Fin 4096) (h : Fin 16) (u : Fin 2) (t : Fin 128) :
    qq (F := Ideal) X (ix5 b s h u t) = X (ix2 (qr b s) (qc h u t)) := by
  pointwise [qq, lat]
  rfl

theorem kk_at (X : FVec Ideal S8704x12288 .bf16) (b : Fin 2) (j : Fin 4352) (h : Fin 16) (u : Fin 2) (t : Fin 128) :
    kk (F := Ideal) X (ix5 b j h u t) = X (ix2 (kr b j) (kc h u t)) := by
  pointwise [kk, lat, con]
  unfold kr
  split <;> rfl

theorem vv_at (X : FVec Ideal S8704x12288 .bf16) (b : Fin 2) (j : Fin 4352) (h : Fin 16) (d : Fin 256) :
    vv (F := Ideal) X (ix4 b j h d) = X (ix2 (kr b j) (vc h d)) := by
  pointwise [vv, lat, con]
  unfold kr
  split <;> rfl

theorem sc_at (q : FVec Ideal S2x4096x16x2x128 .f32) (k : FVec Ideal S2x4352x16x2x128 .f32) (b : Fin 2) (h : Fin 16) (u : Fin 2) (s : Fin 4096) (j : Fin 4352) :
    sc (F := Ideal) q k (ix5 b h u s j) = (∑ t : Fin 128, q (ix5 b s h u t) * k (ix5 b j h u t)) * Ideal.log (Ideal.ofBits .f32 1073741824#32) := by
  pointwise [sc]

theorem ex_at (s : FVec Ideal S2x16x2x4096x4352 .f32) (M : FVec Ideal S2x16x2x4096 .f32) (b : Fin 2) (h : Fin 16) (u : Fin 2) (q : Fin 4096) (j : Fin 4352) :
    ex (F := Ideal) s M (ix5 b h u q j) = Ideal.exp (s (ix5 b h u q j) - M (ix4 b h u q)) := by
  pointwise [ex]

theorem pr_at (e : FVec Ideal S2x16x2x4096x4352 .f32) (b : Fin 2) (h : Fin 16) (u : Fin 2) (q : Fin 4096) (j : Fin 4352) :
    pr (F := Ideal) e (ix5 b h u q j) = Ideal.div (e (ix5 b h u q j)) (∑ x : Fin 4352, e (ix5 b h u q x)) := by
  pointwise [pr]

theorem df_at (p : FVec Ideal S2x16x2x4096x4352 .f32) (l : FVec Ideal S_ .f32) (b : Fin 2) (h : Fin 16) (q : Fin 4096) (j : Fin 4352) :
    df (F := Ideal) p l (ix4 b h q j) = p (ix5 b h 0 q j) - l ix0 * p (ix5 b h 1 q j) := by
  pointwise [df]

theorem oo_at (v : FVec Ideal S2x4352x16x256 .f32) (p : FVec Ideal S2x16x4096x4352 .f32) (b : Fin 2) (q : Fin 4096) (h : Fin 16) (d : Fin 256) :
    oo (F := Ideal) v p (ix4 b q h d) = ∑ j : Fin 4352, v (ix4 b j h d) * p (ix4 b h q j) := by
  pointwise [oo]

theorem lam_at (a b c d : FVec Ideal S128 .f32) : lam (F := Ideal) a b c d ix0 = Spec.lam a b c d := by
  unfold Spec.lam
  pointwise [lam]

theorem yy_at (o : FVec Ideal S2x4096x16x256 .f32) (g : FVec Ideal S256 .f32) (i : S8704x4096.Idx) (hi : (i 0 : ℕ) < 8192) (b : Fin 2) (q : Fin 4096) (h : Fin 16) (d : Fin 256)
    (e0 : (i 0 : ℕ) = b * 4096 + q) (e1 : (i 1 : ℕ) = h * 256 + d) :
    yy (F := Ideal) o g i = o (ix4 b q h d) * Ideal.rsqrt (Ideal.div (∑ x : Fin 256, o (ix4 b q h x) * o (ix4 b q h x)) (Ideal.ofBits FTy.f32 0x43800000#32) + Ideal.ofBits FTy.f32 0x358637BD#32)
      * g (ix1 d) * Ideal.ofBits FTy.f32 0x3F24FD5C#32 := by
  have hb : (⟨(i 0 : ℕ) / 4096, by omega⟩ : Fin 2) = b := Fin.ext (by simp only; omega)
  have hq : (⟨(i 0 : ℕ) % 4096, by omega⟩ : Fin 4096) = q := Fin.ext (by simp only; omega)
  have hh : (⟨(i 1 : ℕ) / 256, by omega⟩ : Fin 16) = h := Fin.ext (by simp only; omega)
  have hd : (⟨(i 1 : ℕ) % 256, by omega⟩ : Fin 256) = d := Fin.ext (by simp only; omega)
  pointwise [yy]
  rw [dif_pos hi]
  simp only [hb, hq, hh, hd]

theorem log_two : Ideal.log (Ideal.ofBits .f32 1073741824#32) = ((Real.log 2 : ℝ) : EReal) := by
  have h : Ideal.ofBits .f32 1073741824#32 = ((2 : ℝ) : EReal) := by
    simp only [Ideal.ofBits, Ideal.ieee]
    simp
    rw [← EReal.coe_mul]
    norm_num
  rw [h]
  exact if_neg (by norm_num)

theorem fold_real' {n : ℕ} (hn : 0 < n) (f : Fin n → EReal) (hf : ∀ x, ∃ a : ℝ, f x = a) : ∃ a : ℝ, Finset.fold max (⊥ : EReal) f Finset.univ = a := by
  haveI : NeZero n := ⟨hn.ne'⟩
  choose g hg using hf
  obtain rfl : f = fun x => (g x : EReal) := funext hg
  exact fold_real g

theorem reduce_real {s t u : Shape} {a : Fin s.rank} (x : FVec Ideal s .f32) (init : FVec Ideal u .f32) (h' : s.ReducesTo [a] t) (h : s.Reduces [a] t) (hu : 0 < u.numel) (j : t.Idx)
    (hn : 0 < s.size a) (h0 : init (Shape.Idx.first hu) = (⊥ : EReal)) (hx : ∀ i, ∃ r : ℝ, x i = (r : EReal)) :
    ∃ r : ℝ, Host.reduce (FloatOps.maximumf (F := Ideal) (φ := .f32)) x init h' hu j = (r : EReal) := by
  obtain ⟨r, hr⟩ := fold_real' hn (x ∘ h.lift j) fun k => hx _
  have e := Host.reduce_eq_fold_single (max : EReal → EReal → EReal) x init h' h hu j
  rw [h0] at e
  exact ⟨r, e.trans hr⟩

theorem mx_eq {F : FTy → Type} [FloatOps F] (s : FVec F S2x16x2x4096x4352 .f32) (j : S2x16x2x4096.Idx) :
    mx s j = FloatOps.maximumf (broadcastInDim S2x16x2x4096 ![] bcast_S_S2x16x2x4096 (constant (F := F) S_ .f32 0xFF800000#32) j)
      (Host.reduce FloatOps.maximumf s (constant (F := F) S_ .f32 0xFF800000#32) reducesTo_S2x16x2x4096x4352_S2x16x2x4096_d4 h_S_ j) := rfl

theorem reduces : S2x16x2x4096x4352.Reduces [4] S2x16x2x4096 := by decide

theorem start : constant (F := Ideal) S_ .f32 0xFF800000#32 (Shape.Idx.first h_S_) = (⊥ : EReal) := by
  show Ideal.ofBits .f32 4286578688#32 = ⊥
  simp [Ideal.ofBits, Ideal.ieee]

theorem start' (j : S2x16x2x4096.Idx) : broadcastInDim S2x16x2x4096 ![] bcast_S_S2x16x2x4096 (constant (F := Ideal) S_ .f32 0xFF800000#32) j = (⊥ : EReal) := by
  show Ideal.ofBits .f32 4286578688#32 = ⊥
  simp [Ideal.ofBits, Ideal.ieee]

/-- The greatest of a row of real scores is real. -/
theorem mx_real (s : FVec Ideal S2x16x2x4096x4352 .f32) (hs : ∀ i, ∃ a : ℝ, s i = (a : EReal)) (j : S2x16x2x4096.Idx) : ∃ a : ℝ, mx (F := Ideal) s j = (a : EReal) := by
  obtain ⟨r, hr⟩ := reduce_real s (constant (F := Ideal) S_ .f32 0xFF800000#32) reducesTo_S2x16x2x4096x4352_S2x16x2x4096_d4 reduces h_S_ j (by decide) start hs
  refine ⟨r, ?_⟩
  rw [mx_eq, hr, start']
  exact max_eq_right bot_le

theorem sc_score {X : FVec Ideal S8704x12288 .bf16} (hX : Fin' X) (b : Fin 2) (h : Fin 16) (u : Fin 2) (s : Fin 4096) (j : Fin 4352) :
    sc (F := Ideal) (qq X) (kk X) (ix5 b h u s j) = ((score X b s h u j * Real.log 2 : ℝ) : EReal) := by
  rw [sc_at, log_two, EReal.coe_mul, ← score_coe hX]
  simp only [qq_at, kk_at]

/-- The softmax's weights. -/
theorem pr_wt {X : FVec Ideal S8704x12288 .bf16} (hX : Fin' X) (b : Fin 2) (h : Fin 16) (u : Fin 2) (s : Fin 4096) (j : Fin 4352) :
    pr (F := Ideal) (ex (sc (qq X) (kk X)) (mx (sc (qq X) (kk X)))) (ix5 b h u s j) = ((wt X b s h u j : ℝ) : EReal) := by
  obtain ⟨μ, hμ⟩ := mx_real (sc (F := Ideal) (qq X) (kk X)) (fun i => by
    have e : i = ix5 (i 0) (i 1) (i 2) (i 3) (i 4) := by funext a; fin_cases a <;> rfl
    rw [e]
    exact ⟨_, sc_score hX (i 0) (i 1) (i 2) (i 3) (i 4)⟩) (ix4 b h u s)
  rw [pr_at]
  simp only [ex_at, sc_score hX, hμ]
  exact soft (score X b s h u) μ j

/-- The reference's rows of latent tokens. -/
theorem res_at (m : (ℓ : Loc nD τ sig) → Buf (Elt Ideal) ℓ) (c : Dev nD) (X : FVec Ideal S8704x12288 .bf16) (a1 a2 a3 a4 : FVec Ideal S128 .f32) (g : FVec Ideal S256 .f32)
    (e0 : m ((c.tc : Thread nD τ).loc main_arg0) = X) (e1 : m ((c.tc : Thread nD τ).loc main_arg1) = a1) (e2 : m ((c.tc : Thread nD τ).loc main_arg2) = a2)
    (e3 : m ((c.tc : Thread nD τ).loc main_arg3) = a3) (e4 : m ((c.tc : Thread nD τ).loc main_arg4) = a4) (e5 : m ((c.tc : Thread nD τ).loc main_arg5) = g)
    (hX : Fin' X) (i : S8704x4096.Idx) (hi : (i 0 : ℕ) < 8192) (b : Fin 2) (q : Fin 4096) (h : Fin 16) (d : Fin 256) (hb : (i 0 : ℕ) = b * 4096 + q) (hh : (i 1 : ℕ) = h * 256 + d) :
    res_main_v65 (F := Ideal) m c i = Spec.out X (Spec.lam a1 a2 a3 a4) g b q h d := by
  rw [res_eq, e0, e1, e2, e3, e4, e5, yy_at _ _ i hi b q h d hb hh]
  have hm : ∀ d : Fin 256, oo (F := Ideal) (vv X) (df (pr (ex (sc (qq X) (kk X)) (mx (sc (qq X) (kk X))))) (lam a1 a2 a3 a4)) (ix4 b q h d) = Spec.mix X (Spec.lam a1 a2 a3 a4) b q h d := fun d => by
    rw [oo_at, Spec.mix]
    refine Finset.sum_congr rfl fun j _ => ?_
    rw [df_at, pr_wt hX, pr_wt hX, lam_at, vv_at, mul_comm]
  simp only [hm]
  rfl

end Cert.Proof.Ref

end
-- ==== Proof.Attend.lean ====
module

public import proofs.«01_k».proof.Defs
public import proofs.«01_k».proof.Proof.Array
public import proofs.«01_k».proof.Proof.RefAt
public import proofs.«01_k».proof.Proof.Gen.Kernel.Frame
public import proofs.«01_k».proof.Proof.Gen.Pre_finite_queries_and_keys
public import proofs.«01_k».proof.Proof.Gen.On_latent_rows
public import Idealize.ShloMosaic.Lib.Quiescent

@[expose] public section

set_option maxRecDepth 16384

noncomputable section

/-! # The claims about the differential attention -/

namespace Cert.Proof.Attend

open Idealize.ShloMosaic Idealize.ShloMosaic.TcCoe Idealize.SL.Sem Cert.Proof.Spec

attribute [local instance] Cert.Kernel.Gen.facts Cert.KernelIdeal.Gen.facts Cert.ReferenceIdeal.Gen.facts Cert.Pre_finite_queries_and_keys.Gen.facts Cert.On_latent_rows.Gen.facts

theorem latent : ∀ r < 8704, IntOp.cmpi .slt (BitVec.ofNat 32 r) 8192#32 = 1#1 → r < 8192 := by
  intro r hr h
  have e : (BitVec.ofNat 32 r).toInt < 8192 := by
    by_contra hn
    simp [IntOp.cmpi, BitVec.slt, hn] at h
  rw [BitVec.toInt_ofNat'] at e
  simp [Int.bmod] at e
  split at e <;> omega

/-- Where the mask is set, the row is a latent token's. -/
theorem mask (X : FVec Ideal Cert.On_latent_rows.S8704x12288 .bf16) (a b c d : FVec Ideal Cert.On_latent_rows.S128 .f32) (g : FVec Ideal Cert.On_latent_rows.S256 .f32) (i : Cert.On_latent_rows.S8704x4096.Idx)
    (h : Cert.On_latent_rows.fn (F := Ideal) X a b c d g i = 1#1) : (i 0 : ℕ) < 8192 := by
  revert h
  pointwise [Cert.On_latent_rows.fn]
  exact latent _ (i 0).isLt

/-- The precondition: the query and key columns are finite. -/
theorem finite (X : FVec Ideal Cert.Pre_finite_queries_and_keys.S8704x12288 .bf16) (a b c d : FVec Ideal Cert.Pre_finite_queries_and_keys.S128 .f32) (g : FVec Ideal Cert.Pre_finite_queries_and_keys.S256 .f32)
    (h : Cert.Pre_finite_queries_and_keys.fn (F := Ideal) X a b c d g = fun _ => 1#1) : Fin' X := by
  intro r x hx
  have e := congrFun h (ix2 r ⟨x, hx⟩)
  revert e
  pointwise [Cert.Pre_finite_queries_and_keys.fn]
  have t : Ideal.ofBits FTy.f32 2139095040#32 = (⊤ : EReal) := by simp [Ideal.ofBits, Ideal.ieee]
  rw [t]
  intro e
  constructor
  · intro z
    rw [z] at e
    revert e
    rw [show (FloatOps.absf (F := Ideal) (φ := .f32) (⊤ : EReal)) = max (⊤ : EReal) (-⊤) from rfl]
    simp
  · intro z
    rw [z] at e
    revert e
    rw [show (FloatOps.absf (F := Ideal) (φ := .f32) (⊥ : EReal)) = max (⊥ : EReal) (-⊥) from rfl]
    simp

theorem frame : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_queries_and_keys := fun m ρ _ => Cert.KernelIdeal.Gen.frame m ρ

theorem frame_ref : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem frame_ref_pre : Cert.quiescent_ReferenceIdeal_pre_finite_queries_and_keys := fun m ρ _ => frame_ref m ρ trivial

theorem algebraic : Cert.algebraic_KernelIdeal_ReferenceIdeal_on_latent_rows_pre_finite_queries_and_keys := by
  intro m ρ m' ρ' hpre hagree
  have hX (c : Dev Cert.KernelIdeal.nD) : Fin' (Blocks.qkv m c) := finite _ _ _ _ _ _ (hpre c)
  refine ⟨fun c => Array.G m c, ?_, ?_⟩
  · exact (θ_run Cert.KernelIdeal.defs _ _).mono
      (fun _ h c => ⟨fun i hi => (congrFun (h c).1 i).trans (Array.final m c (hX c) i (mask _ _ _ _ _ _ i hi)), (h c).2⟩)
      (Cert.KernelIdeal.Value.run_blocks (F := Ideal) m ρ)
  · refine (θ_run Cert.ReferenceIdeal.defs _ _).mono (fun _ h c => ⟨fun i hi => (congrFun (h c).1 i).trans ?_, (h c).2⟩)
      (Cert.ReferenceIdeal.Value.run (F := Ideal) m' ρ')
    have hi' := mask _ _ _ _ _ _ i hi
    have h1 : (i 1 : ℕ) < 4096 := (i 1).isLt
    obtain ⟨e0, e1, e2, e3, e4, e5⟩ := hagree c
    exact Ref.res_at m' c _ _ _ _ _ _ e0 e1 e2 e3 e4 e5 (hX c) i hi' ⟨(i 0 : ℕ) / 4096 % 2, by omega⟩ ⟨(i 0 : ℕ) % 4096, by omega⟩ ⟨(i 1 : ℕ) / 256 % 16, by omega⟩ ⟨(i 1 : ℕ) % 256, by omega⟩
      (by simp only; omega) (by simp only; omega)

end Cert.Proof.Attend

end
-- ==== Proof.UpRun.lean ====
/- The body of the gated up-projection's kernel, run at any contents of its buffers: what it leaves in the two weight
   buffers it fills over the grid and in the output's block. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.VecWindow
public import Idealize.ShloMosaic.Lib.Tactic

@[expose] public section

set_option maxRecDepth 16384

noncomputable section

namespace Cert.Proof.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A grid point from its two coordinates. -/
def pt (a : Fin 33) (b : Fin 8) : grid0.Coords := fun | 0 => a | 1 => b

theorem pt_eq (i : grid0.Coords) : i = pt (i 0) (i 1) := by funext a; match a with | 0 => rfl | 1 => rfl

theorem off1_eq (i : grid0.Coords) : k0_off1 i = ![(i 0).val % 2, 512 * (i 1).val, 0] := by
  have h : ∀ (a : Fin 33) (b : Fin 8), k0_off1 (pt a b) = ![a.val % 2, 512 * b.val, 0] := by decide +kernel
  have e := h (i 0) (i 1)
  rwa [← pt_eq i] at e
theorem off2_eq (i : grid0.Coords) : k0_off2 i = ![(i 0).val % 2, 512 * (i 1).val, 0] := off1_eq i
theorem off3_eq (i : grid0.Coords) : k0_off3 i = ![((i 0).val + 1) % 2, 0, 0] := by
  have h : ∀ (a : Fin 33) (b : Fin 8), k0_off3 (pt a b) = ![(a.val + 1) % 2, 0, 0] := by decide +kernel
  have e := h (i 0) (i 1)
  rwa [← pt_eq i] at e

instance (i : grid0.Coords) : ClosedOff (k0_off1 i) := ⟨_, off1_eq i⟩
instance (i : grid0.Coords) : ClosedOff (k0_off2 i) := ⟨_, off2_eq i⟩
instance (i : grid0.Coords) : ClosedOff (k0_off3 i) := ⟨_, off3_eq i⟩

/-- The weight buffer with one block of rows put where the point stores it. -/
def fillW (i : grid0.Coords) (d : Vec F S2x4096x512 .bf16) (w : FVec F S1x512x512 .bf16) : Vec F S2x4096x512 .bf16 :=
  VecWindow.put (s := S2x4096x512) d (k0_off1 i) S1x512x512.size w

/-- The slot of the weight buffer that the point multiplies by. -/
def slab (i : grid0.Coords) (h : k0_cond3 i = 1#1) (d : Vec F S2x4096x512 .bf16) : Vec F S1x4096x512 .bf16 :=
  VecWindow.window (s := S2x4096x512) d (k0_off3 i) S1x4096x512.size (k0_off3_inb i h)

/-- The first 544 rows of a block. -/
def topX (x : Vec F S1088x4096 .bf16) : Vec F S544x4096 .bf16 :=
  VecWindow.window (s := S1088x4096) x ![0, 0] S544x4096.size inb_S1088x4096_S544x4096_0_0
/-- The last 544 rows of a block. -/
def botX (x : Vec F S1088x4096 .bf16) : Vec F S544x4096 .bf16 :=
  VecWindow.window (s := S1088x4096) x ![544, 0] S544x4096.size inb_S1088x4096_S544x4096_544_0
/-- The first 544 rows of the gates' block. -/
def topG (x : Vec F S1088x128 .f32) : Vec F S544x128 .f32 :=
  VecWindow.window (s := S1088x128) x ![0, 0] S544x128.size inb_S1088x128_S544x128_0_0
/-- The last 544 rows of the gates' block. -/
def botG (x : Vec F S1088x128 .f32) : Vec F S544x128 .f32 :=
  VecWindow.window (s := S1088x128) x ![544, 0] S544x128.size inb_S1088x128_S544x128_544_0

/-- The column block the point finishes, as the kernel counts it. -/
def stepOf (i : grid0.Coords) : BitVec 32 := Scalar.subi (BitVec.ofNat 32 (i 0).val) 1#32

/-- What the point leaves in the output's block, from its block of rows, the two weight slabs and the gates. -/
def outU (i : grid0.Coords) (x0 : Vec F S1088x4096 .bf16) (g u : Vec F S1x4096x512 .bf16) (x3 : Vec F S1088x128 .f32) : Vec F S1088x512 .bf16 :=
  VecWindow.put (s := S1088x512) (VecWindow.put (s := S1088x512) (fun _ => FloatOps.ofBits .bf16 0) ![0, 0] S544x512.size
      (k0_pay5 (stepOf i) (k0_pay4 (topX x0) g u) (topG x3) (iota .tc S544x128 32 [1] iota_S544x128_d1_w32) 4#32 (Scalar.divsi (stepOf i) 4#32)))
    ![544, 0] S544x512.size (k0_pay3 (stepOf i) (k0_pay6 (botX x0) g u) (botG x3))

/-- The two halves cover the block, so what it held before is gone. -/
theorem halves (x x' : Vec F S1088x512 .bf16) (w w' : FVec F S544x512 .bf16) :
    VecWindow.put (s := S1088x512) (VecWindow.put (s := S1088x512) x ![0, 0] S544x512.size w) ![544, 0] S544x512.size w'
      = VecWindow.put (s := S1088x512) (VecWindow.put (s := S1088x512) x' ![0, 0] S544x512.size w) ![544, 0] S544x512.size w' := by
  funext y
  unfold VecWindow.put
  by_cases h : ∀ a, (![544, 0] : Fin 2 → ℕ) a ≤ (y a).val ∧ (y a).val < (![544, 0] : Fin 2 → ℕ) a + S544x512.size a
  · rw [dif_pos h, dif_pos h]
  · rw [dif_neg h, dif_neg h]
    have h0 : ∀ a, (![0, 0] : Fin 2 → ℕ) a ≤ (y a).val ∧ (y a).val < (![0, 0] : Fin 2 → ℕ) a + S544x512.size a := by
      have e0 : (y 0).val < 1088 := (y 0).isLt
      have e1 : (y 1).val < 512 := (y 1).isLt
      have hy : (y 0).val < 544 := by
        by_contra hc
        refine h fun a => ?_
        match a with
        | 0 => exact ⟨not_lt.mp hc, e0⟩
        | 1 => exact ⟨Nat.zero_le _, by show (y 1).val < 0 + 512; omega⟩
      intro a
      match a with
      | 0 => exact ⟨Nat.zero_le _, by show (y 0).val < 0 + 544; omega⟩
      | 1 => exact ⟨Nat.zero_le _, by show (y 1).val < 0 + 512; omega⟩
    rw [dif_pos h0, dif_pos h0]

set_option maxHeartbeats 1600000 in
theorem runB (c : Dev nD) (i : grid0.Coords) (arg2 : Memref sig .tc .vmem S1088x4096 .bf16) (harg2 : arg2.IsWhole)
    (arg3 : Memref sig .tc .vmem S1x1x512x512 .f32) (harg3 : arg3.IsWhole) (arg4 : Memref sig .tc .vmem S1x1x512x512 .f32) (harg4 : arg4.IsWhole)
    (arg5 : Memref sig .tc .vmem S1088x128 .f32) (harg5 : arg5.IsWhole) (arg6 : Memref sig .tc .vmem S1088x512 .bf16) (harg6 : arg6.IsWhole)
    (arg7 : Memref sig .tc .vmem S2x4096x512 .bf16) (harg7 : arg7.IsWhole) (arg8 : Memref sig .tc .vmem S2x4096x512 .bf16) (harg8 : arg8.IsWhole)
    (x0 : Vec F S1088x4096 .bf16) (x1 x2 : Vec F S1x1x512x512 .f32) (x3 : Vec F S1088x128 .f32) (d7 d8 : Vec F S2x4096x512 .bf16)
    (h1 : k0_cond1 i = 1#1) (h2 : k0_cond2 i = 1#1) (h3 : k0_cond3 i = 1#1)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare d7 ∗ owns (c : Thread nD τ) arg8 fullShare d8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outU i x0 (slab i h3 (fillW i d7 (k0_pay1 x1))) (slab i h3 (fillW i d8 (k0_pay2 x2))) x3)
            ∗ owns (c : Thread nD τ) arg7 fullShare (fillW i d7 (k0_pay1 x1)) ∗ owns (c : Thread nD τ) arg8 fullShare (fillW i d8 (k0_pay2 x2))) -∗ K ⟨⟩))
      ⊢ wp frame (wpE (defs₀ (F := F)) Variants.none c none) E (cc0_swiglu_up i arg2 harg2 arg3 harg3 arg4 harg4 arg5 harg5 arg6 harg6 arg7 harg7 arg8 harg8) K := by
  simp only [cc0_swiglu_up_eq_skeleton]; unfold cc0_swiglu_up_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, Hk⟩
  obtain rfl := harg2.eq_unread hf0; obtain rfl := harg3.eq_unread hf1; obtain rfl := harg4.eq_unread hf2; obtain rfl := harg5.eq_unread hf3
  obtain rfl := harg7.eq_unread hs0; obtain rfl := harg8.eq_unread hs1
  sl_exec
  sl_step
  have e1 : runB.sl.v9 c arg3 harg3 x1 = x1 := by
    delta runB.sl.v9; exact (View.readAt_full (s := S1x1x512x512) _ _ _).trans hf1
  have e2 : runB.sl.v9_1 c arg4 harg4 x2 = x2 := by
    delta runB.sl.v9_1; exact (View.readAt_full (s := S1x1x512x512) _ _ _).trans hf2
  have e7 : arg7.view.read (Elt F) (arg7.view.writes (Elt F) (harg7.unread d7) (runB.sl.HS0_1 c i arg3 harg3 x1 h1)) = fillW i d7 (k0_pay1 x1) := by
    delta runB.sl.HS0_1; rw [e1, View.read_writes_cons_put _ _ _ _ _ rfl, View.writes_nil, hs0]; rfl
  have e8 : arg8.view.read (Elt F) (arg8.view.writes (Elt F) (harg8.unread d8) (runB.sl.HS1_1 c i arg4 harg4 x2 h2)) = fillW i d8 (k0_pay2 x2) := by
    delta runB.sl.HS1_1; rw [e2, View.read_writes_cons_put _ _ _ _ _ rfl, View.writes_nil, hs1]; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_cons_put _ _ _ _ _ rfl, View.read_writes_cons_put _ _ _ _ _ rfl, halves _ (fun _ => FloatOps.ofBits .bf16 0)]
    unfold outU
    delta runB.sl.r runB.sl.r_1 runB.sl.r_2 runB.sl.r_3 runB.sl.v9_2 runB.sl.v43 runB.sl.v44
    rw [View.readAt_unit arg2.view _ _ rfl inb_S1088x4096_S544x4096_0_0, View.readAt_unit arg2.view _ _ rfl inb_S1088x4096_S544x4096_544_0,
      View.readAt_unit arg5.view _ _ rfl inb_S1088x128_S544x128_0_0, View.readAt_unit arg5.view _ _ rfl inb_S1088x128_S544x128_544_0,
      View.readAt_unit arg7.view _ _ rfl (k0_off3_inb i h3), View.readAt_unit arg8.view _ _ rfl (k0_off3_inb i h3), hf0, hf3, e7, e8]
    rfl
  isplitl [HS0]
  · iexists _; isplitr
    swap; · iexact HS0
    ipureintro
    exact e7
  iexists _; isplitr
  swap; · iexact HS1
  ipureintro
  exact e8

set_option maxHeartbeats 1600000 in
theorem runA (c : Dev nD) (i : grid0.Coords) (arg2 : Memref sig .tc .vmem S1088x4096 .bf16) (harg2 : arg2.IsWhole)
    (arg3 : Memref sig .tc .vmem S1x1x512x512 .f32) (harg3 : arg3.IsWhole) (arg4 : Memref sig .tc .vmem S1x1x512x512 .f32) (harg4 : arg4.IsWhole)
    (arg5 : Memref sig .tc .vmem S1088x128 .f32) (harg5 : arg5.IsWhole) (arg6 : Memref sig .tc .vmem S1088x512 .bf16) (harg6 : arg6.IsWhole)
    (arg7 : Memref sig .tc .vmem S2x4096x512 .bf16) (harg7 : arg7.IsWhole) (arg8 : Memref sig .tc .vmem S2x4096x512 .bf16) (harg8 : arg8.IsWhole)
    (x0 : Vec F S1088x4096 .bf16) (x1 x2 : Vec F S1x1x512x512 .f32) (x3 : Vec F S1088x128 .f32) (d6 : Vec F S1088x512 .bf16) (d7 d8 : Vec F S2x4096x512 .bf16)
    (h1 : k0_cond1 i = 1#1) (h2 : k0_cond2 i = 1#1) (h3 : ¬ k0_cond3 i = 1#1)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d6
        ∗ owns (c : Thread nD τ) arg7 fullShare d7 ∗ owns (c : Thread nD τ) arg8 fullShare d8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare d6
            ∗ owns (c : Thread nD τ) arg7 fullShare (fillW i d7 (k0_pay1 x1)) ∗ owns (c : Thread nD τ) arg8 fullShare (fillW i d8 (k0_pay2 x2))) -∗ K ⟨⟩))
      ⊢ wp frame (wpE (defs₀ (F := F)) Variants.none c none) E (cc0_swiglu_up i arg2 harg2 arg3 harg3 arg4 harg4 arg5 harg5 arg6 harg6 arg7 harg7 arg8 harg8) K := by
  simp only [cc0_swiglu_up_eq_skeleton]; unfold cc0_swiglu_up_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hs0; obtain rfl := harg8.eq_unread hs1
  sl_exec
  sl_step
  have e1 : runA.sl.v9 c arg3 harg3 x1 = x1 := by
    delta runA.sl.v9; exact (View.readAt_full (s := S1x1x512x512) _ _ _).trans hf1
  have e2 : runA.sl.v9_1 c arg4 harg4 x2 = x2 := by
    delta runA.sl.v9_1; exact (View.readAt_full (s := S1x1x512x512) _ _ _).trans hf2
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    rw [View.read_writes_cons_put _ _ _ _ _ rfl, View.writes_nil, hs0, e1]; rfl
  iexists _; isplitr
  swap; · iexact HS1
  ipureintro
  rw [View.read_writes_cons_put _ _ _ _ _ rfl, View.writes_nil, hs1, e2]; rfl

set_option maxHeartbeats 1600000 in
theorem runC (c : Dev nD) (i : grid0.Coords) (arg2 : Memref sig .tc .vmem S1088x4096 .bf16) (harg2 : arg2.IsWhole)
    (arg3 : Memref sig .tc .vmem S1x1x512x512 .f32) (harg3 : arg3.IsWhole) (arg4 : Memref sig .tc .vmem S1x1x512x512 .f32) (harg4 : arg4.IsWhole)
    (arg5 : Memref sig .tc .vmem S1088x128 .f32) (harg5 : arg5.IsWhole) (arg6 : Memref sig .tc .vmem S1088x512 .bf16) (harg6 : arg6.IsWhole)
    (arg7 : Memref sig .tc .vmem S2x4096x512 .bf16) (harg7 : arg7.IsWhole) (arg8 : Memref sig .tc .vmem S2x4096x512 .bf16) (harg8 : arg8.IsWhole)
    (x0 : Vec F S1088x4096 .bf16) (x1 x2 : Vec F S1x1x512x512 .f32) (x3 : Vec F S1088x128 .f32) (d7 d8 : Vec F S2x4096x512 .bf16)
    (h1 : ¬ k0_cond1 i = 1#1) (h2 : ¬ k0_cond2 i = 1#1) (h3 : k0_cond3 i = 1#1)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare d7 ∗ owns (c : Thread nD τ) arg8 fullShare d8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outU i x0 (slab i h3 d7) (slab i h3 d8) x3)
            ∗ owns (c : Thread nD τ) arg7 fullShare d7 ∗ owns (c : Thread nD τ) arg8 fullShare d8) -∗ K ⟨⟩))
      ⊢ wp frame (wpE (defs₀ (F := F)) Variants.none c none) E (cc0_swiglu_up i arg2 harg2 arg3 harg3 arg4 harg4 arg5 harg5 arg6 harg6 arg7 harg7 arg8 harg8) K := by
  simp only [cc0_swiglu_up_eq_skeleton]; unfold cc0_swiglu_up_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, Hk⟩
  obtain rfl := harg2.eq_unread hf0; obtain rfl := harg3.eq_unread hf1; obtain rfl := harg4.eq_unread hf2; obtain rfl := harg5.eq_unread hf3
  obtain rfl := harg7.eq_unread hs0; obtain rfl := harg8.eq_unread hs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_cons_put _ _ _ _ _ rfl, View.read_writes_cons_put _ _ _ _ _ rfl, halves _ (fun _ => FloatOps.ofBits .bf16 0)]
    unfold outU
    delta runC.sl.r runC.sl.r_1 runC.sl.r_2 runC.sl.r_3 runC.sl.v9 runC.sl.v43 runC.sl.v44
    rw [View.readAt_unit arg2.view _ _ rfl inb_S1088x4096_S544x4096_0_0, View.readAt_unit arg2.view _ _ rfl inb_S1088x4096_S544x4096_544_0,
      View.readAt_unit arg5.view _ _ rfl inb_S1088x128_S544x128_0_0, View.readAt_unit arg5.view _ _ rfl inb_S1088x128_S544x128_544_0,
      View.readAt_unit arg7.view _ _ rfl (k0_off3_inb i h3), View.readAt_unit arg8.view _ _ rfl (k0_off3_inb i h3), hf0, hf3, hs0, hs1]
    rfl
  isplitl [HS0]
  · iexists _; isplitr
    swap; · iexact HS0
    ipureintro
    exact harg7.read_unread _
  iexists _; isplitr
  swap; · iexact HS1
  ipureintro
  exact harg8.read_unread _

end Cert.Proof.Up

end
-- ==== Proof.Slots.lean ====
/- A weight buffer with two slots of `M` blocks of `R` rows each: one slot is filled, a block a grid point, while the other
   is read. What the slots hold along the grid, whatever the width of a row and the number of steps. -/
module

public import Idealize.ShloMosaic.Lib.VecWindow
public import Idealize.ShloMosaic.Lib.Pointwise.Index

@[expose] public section

set_option maxRecDepth 16384

noncomputable section

namespace Cert.Proof.Slots

open Idealize.ShloMosaic

/-- An entry of a window of rows and columns that starts at row `o`. -/
theorem window_ix2 {α : Type} {n m a b : ℕ} (x : (⟨2, ![n, m]⟩ : Shape).Idx → α) (o : ℕ) (h) (r : Fin a) (k : Fin b) (R : Fin n) (K : Fin m) (hR : R.val = o + r.val) (hK : K.val = k.val) :
    VecWindow.window (s := ⟨2, ![n, m]⟩) x ![o, 0] ![a, b] h (ix2 r k) = x (ix2 R K) :=
  congrArg x (funext fun i => by
    match i with
    | 0 => exact Fin.ext (by show o + 1 * r.val = R.val; omega)
    | 1 => exact Fin.ext (by show 0 + 1 * k.val = K.val; omega))

variable {F : FTy → Type} [FloatOps F] {W R : ℕ} [NeZero R] (M S : ℕ)

/-- The slot filled over step `T`: `M` blocks of rows, one a point. -/
def slabOf (B : ℕ → FVec F ⟨3, ![1, R, W]⟩ .bf16) (T : ℕ) : Vec F ⟨3, ![1, 4096, W]⟩ .bf16 :=
  fun y => B (M * T + (y 1).val / R) (ix3 (0 : Fin 1) (⟨(y 1).val % R, Nat.mod_lt _ (NeZero.pos R)⟩ : Fin R) (y 2 : Fin W))

/-- Before point `n` each slot holds, of every step, the blocks stored and not yet stored over. -/
def Inv (B : ℕ → FVec F ⟨3, ![1, R, W]⟩ .bf16) (n : ℕ) (d : Vec F ⟨3, ![2, 4096, W]⟩ .bf16) : Prop :=
  ∀ (T : ℕ) (y : (⟨3, ![2, 4096, W]⟩ : Shape).Idx), T < S → (y 0).val = T % 2 → M * T + (y 1).val / R < n → n ≤ M * (T + 2) + (y 1).val / R
    → d y = slabOf M B T (ix3 (0 : Fin 1) (y 1 : Fin 4096) (y 2 : Fin W))

variable (hM : M = 8 ∧ R = 512 ∨ M = 4 ∧ R = 1024) (B : ℕ → FVec F ⟨3, ![1, R, W]⟩ .bf16) (d : Vec F ⟨3, ![2, 4096, W]⟩ .bf16)

theorem inv_zero : Inv M S B 0 d := fun T y _ _ h _ => absurd h (Nat.not_lt_zero _)

include hM in
theorem inv_put (n : ℕ) (o : Fin 3 → ℕ) (ho : o = ![n / M % 2, R * (n % M), 0]) (hd : Inv M S B n d) :
    Inv M S B (n + 1) (VecWindow.put (s := ⟨3, ![2, 4096, W]⟩) d o (⟨3, ![1, R, W]⟩ : Shape).size (B n)) := by
  subst ho
  intro T y hT hy ha hb
  have l1 : (y 1).val < 4096 := (y 1).isLt
  have l2 : (y 2).val < W := (y 2).isLt
  unfold VecWindow.put
  by_cases h : ∀ a, (![n / M % 2, R * (n % M), 0] : Fin 3 → ℕ) a ≤ (y a).val ∧ (y a).val < (![n / M % 2, R * (n % M), 0] : Fin 3 → ℕ) a + (⟨3, ![1, R, W]⟩ : Shape).size a
  · rw [dif_pos h]
    have a0 : n / M % 2 ≤ (y 0).val ∧ (y 0).val < n / M % 2 + 1 := h 0
    have a1 : R * (n % M) ≤ (y 1).val ∧ (y 1).val < R * (n % M) + R := h 1
    have e : M * T + (y 1).val / R = n := by rcases hM with ⟨e, e'⟩ | ⟨e, e'⟩ <;> simp only [e, e'] at * <;> omega
    have e' : (y 1).val - R * (n % M) = (y 1).val % R := by rcases hM with ⟨e, e'⟩ | ⟨e, e'⟩ <;> simp only [e, e'] at * <;> omega
    show B n _ = B (M * T + (y 1).val / R) (ix3 (0 : Fin 1) (⟨(y 1).val % R, Nat.mod_lt _ (NeZero.pos R)⟩ : Fin R) (y 2 : Fin W))
    rw [e]
    congr 1
    funext a
    match a with
    | 0 => exact Subsingleton.elim (α := Fin 1) _ _
    | 1 => exact Fin.ext e'
    | 2 => exact Fin.ext (by show (y 2).val - 0 = (y 2).val; omega)
  · rw [dif_neg h]
    have hc : ¬ M * T + (y 1).val / R < n → (n / M % 2 ≤ (y 0).val ∧ (y 0).val < n / M % 2 + 1) ∧ R * (n % M) ≤ (y 1).val ∧ (y 1).val < R * (n % M) + R := by
      clear h hd
      rcases hM with ⟨e, e'⟩ | ⟨e, e'⟩ <;> simp only [e, e'] at * <;> omega
    refine hd T y hT hy ?_ (by omega)
    by_contra hn
    refine h fun a => ?_
    match a with
    | 0 => exact (hc hn).1
    | 1 => exact (hc hn).2
    | 2 => exact (by omega : 0 ≤ (y 2).val ∧ (y 2).val < 0 + W)

include hM in
theorem inv_skip (n : ℕ) (hn : M * S ≤ n) (hd : Inv M S B n d) : Inv M S B (n + 1) d := by
  intro T y hT hy ha hb
  have l1 : (y 1).val < 4096 := (y 1).isLt
  refine hd T y hT hy ?_ (by omega)
  clear hd
  rcases hM with ⟨e, e'⟩ | ⟨e, e'⟩ <;> simp only [e, e'] at * <;> omega

include hM in
theorem slab_inv (o : Fin 3 → ℕ) (ib) (T n : ℕ) (ho : o = ![T % 2, 0, 0]) (hT : T < S) (ha : M * (T + 1) ≤ n) (hb : n ≤ M * (T + 2)) (hd : Inv M S B n d) :
    VecWindow.window (s := ⟨3, ![2, 4096, W]⟩) d o (⟨3, ![1, 4096, W]⟩ : Shape).size ib = slabOf M B T := by
  subst ho
  funext y
  have l1 : (y 1).val < 4096 := (y 1).isLt
  have l0 : (y 0).val < 1 := (y 0).isLt
  unfold VecWindow.window
  have v0 : (((Rect.unit (s := ⟨3, ![2, 4096, W]⟩) ![T % 2, 0, 0] (⟨3, ![1, 4096, W]⟩ : Shape).size ib).emb y) 0).val = T % 2 := by
    show T % 2 + 1 * (y 0).val = _; omega
  have v1 : (((Rect.unit (s := ⟨3, ![2, 4096, W]⟩) ![T % 2, 0, 0] (⟨3, ![1, 4096, W]⟩ : Shape).size ib).emb y) 1).val = (y 1).val := by
    show 0 + 1 * (y 1).val = _; omega
  have v2 : (((Rect.unit (s := ⟨3, ![2, 4096, W]⟩) ![T % 2, 0, 0] (⟨3, ![1, 4096, W]⟩ : Shape).size ib).emb y) 2).val = (y 2).val := by
    show 0 + 1 * (y 2).val = _; omega
  have hl : (y 1).val / R < M := by
    clear v0 v1 v2 hd
    rcases hM with ⟨e, e'⟩ | ⟨e, e'⟩ <;> simp only [e, e'] at * <;> omega
  have e1 : M * (T + 1) = M * T + M := Nat.mul_succ M T
  have e2 : M * (T + 2) = M * T + M + M := (Nat.mul_succ M (T + 1)).trans (by rw [e1])
  rw [hd T _ hT v0 (by rw [v1]; omega) (by rw [v1]; exact hb.trans (Nat.le_add_right _ _))]
  congr 1
  funext a
  match a with
  | 0 => exact Subsingleton.elim (α := Fin 1) _ _
  | 1 => exact Fin.ext v1
  | 2 => exact Fin.ext v2

end Cert.Proof.Slots

end
-- ==== Proof.UpFill.lean ====
/- What the two weight buffers of the gated up-projection hold along the grid. -/
module

public import proofs.«01_k».proof.Proof.UpRun
public import proofs.«01_k».proof.Proof.Slots

@[expose] public section

set_option maxRecDepth 16384

noncomputable section

namespace Cert.Proof.Up

open Cert.Kernel2Ideal Cert.Kernel2Ideal.Gen
open Idealize.ShloMosaic Idealize.ShloMosaic.TcCoe
open Idealize.SL Idealize.SL.Sem

variable {F : FTy → Type} [FloatOps F]

/-- The slot filled over step `T`. -/
abbrev slabOf (B : ℕ → FVec F S1x512x512 .bf16) (T : ℕ) : Vec F S1x4096x512 .bf16 := Slots.slabOf 8 B T

/-- Before point `n` each slot holds, of each of the 32 steps, the blocks stored and not yet stored over. -/
abbrev Inv (B : ℕ → FVec F S1x512x512 .bf16) (n : ℕ) (d : Vec F S2x4096x512 .bf16) : Prop := Slots.Inv 8 32 B n d

variable (B : ℕ → FVec F S1x512x512 .bf16) (d : Vec F S2x4096x512 .bf16)

theorem inv_zero : Inv B 0 d := Slots.inv_zero 8 32 B d

theorem inv_put (i : grid0.Coords) (n : ℕ) (h0 : (i 0).val = n / 8) (h1 : (i 1).val = n % 8) (hd : Inv B n d) :
    Inv B (n + 1) (fillW i d (B n)) :=
  Slots.inv_put 8 32 (.inl ⟨rfl, rfl⟩) B d n (k0_off1 i) (by rw [off1_eq, h0, h1]) hd

theorem inv_skip (n : ℕ) (hn : 256 ≤ n) (hd : Inv B n d) : Inv B (n + 1) d := Slots.inv_skip 8 32 (.inl ⟨rfl, rfl⟩) B d n (by omega) hd

theorem slab_inv (i : grid0.Coords) (h : k0_cond3 i = 1#1) (n T : ℕ) (hT : T < 32) (h0 : (i 0).val = T + 1) (ha : 8 * (T + 1) ≤ n) (hb : n ≤ 8 * (T + 2))
    (hd : Inv B n d) : slab i h d = slabOf B T :=
  Slots.slab_inv 8 32 (.inl ⟨rfl, rfl⟩) B d (k0_off3 i) (k0_off3_inb i h) T n
    (by rw [off3_eq, h0, show (T + 1 + 1) % 2 = T % 2 by omega]) hT ha hb hd

end Cert.Proof.Up

end
-- ==== Proof.UpFrame.lean ====
/- The run of the gated up-projection over its grid, for any values: what the pipeline's buffers hold after each point, and
   that the launch ends with the arguments unchanged. -/
module

public import proofs.«01_k».proof.Proof.UpFill

@[expose] public section

set_option maxRecDepth 16384

noncomputable section

namespace Cert.Proof.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem coords (t : Fin cfg0.N) : (grid0.coords t 0).val = t.val / 8 ∧ (grid0.coords t 1).val = t.val % 8 :=
  (by decide +kernel : ∀ t : Fin grid0.N, (grid0.coords t 0).val = t.val / 8 ∧ (grid0.coords t 1).val = t.val % 8) t
theorem cond1 (t : Fin cfg0.N) : k0_cond1 (grid0.coords t) = 1#1 ↔ t.val < 256 :=
  (by decide +kernel : ∀ t : Fin grid0.N, k0_cond1 (grid0.coords t) = 1#1 ↔ t.val < 256) t
theorem cond2 (t : Fin cfg0.N) : k0_cond2 (grid0.coords t) = 1#1 ↔ t.val < 256 :=
  (by decide +kernel : ∀ t : Fin grid0.N, k0_cond2 (grid0.coords t) = 1#1 ↔ t.val < 256) t
theorem cond3 (t : Fin cfg0.N) : k0_cond3 (grid0.coords t) = 1#1 ↔ 8 ≤ t.val :=
  (by decide +kernel : ∀ t : Fin grid0.N, k0_cond3 (grid0.coords t) = 1#1 ↔ 8 ≤ t.val) t
/-- The output's block is written back at every point that stores it, and at no other. -/
theorem flush4 : ∀ t : Fin cfg0.N, (cfg0.win 4).flush t = decide (8 ≤ t.val) :=
  (by decide +kernel : ∀ t : Fin grid0.N, win0_4.flush t = decide (8 ≤ t.val))
theorem idle4 (t : Fin cfg0.N) : cfg0.idle 4 (cfg0.grid.coords t) = decide (t.val < 8) := by
  show (!decide (k0_cond3 (grid0.coords t) = 1#1)) = _
  rw [decide_eq_decide.mpr (cond3 t), ← decide_not, decide_eq_decide.mpr not_le]

/-! ## The memory at the region -/

abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => rfl

/-- A window's block at a point, as the array holds it when the region starts. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 (t : Fin cfg0.N) : Memref sig .tc .vmem S1088x4096 .bf16 := win0_0.stage (cfg0.slots t 0)
abbrev ms1 (t : Fin cfg0.N) : Memref sig .tc .vmem S1x1x512x512 .f32 := win0_1.stage (cfg0.slots t 1)
abbrev ms2 (t : Fin cfg0.N) : Memref sig .tc .vmem S1x1x512x512 .f32 := win0_2.stage (cfg0.slots t 2)
abbrev ms3 (t : Fin cfg0.N) : Memref sig .tc .vmem S1088x128 .f32 := win0_3.stage (cfg0.slots t 3)
abbrev ms4 (t : Fin cfg0.N) : Memref sig .tc .vmem S1088x512 .bf16 := win0_4.stage (cfg0.slots t 4)
abbrev sc7 : Memref sig .tc .vmem S2x4096x512 .bf16 := Memref.whole cc0_scratch0
abbrev sc8 : Memref sig .tc .vmem S2x4096x512 .bf16 := Memref.whole cc0_scratch1

theorem PhiA0_eq (c : Dev nD) :
    (Pipeline.ΦA spec0 c : sProp 𝕄)
      = iprop(iprop((∃ d, owns (c : Thread nD τ) sc7 fullShare d) ∗ (∃ d, owns (c : Thread nD τ) sc8 fullShare d)) ∗ (∃ r, prngReg c r)) := by
  unfold Pipeline.ΦA; rw [scopedRest0_eq]; simp only [sc7, sc8, owns_whole]; try rfl

/-! ## The proof data -/

/-- The grid point with number `n`. -/
def at_ (n : ℕ) : Fin cfg0.N := ⟨n % 264, Nat.mod_lt _ (by decide)⟩

theorem at_val (t : Fin cfg0.N) : at_ t.val = t := Fin.ext (Nat.mod_eq_of_lt t.isLt)

/-- The blocks of the gate's weights, point by point, rounded. -/
def gB (c : Dev nD) (n : ℕ) : FVec F S1x512x512 .bf16 := k0_pay1 (iblk m c 1 (at_ n))
/-- The blocks of the up-projection's weights. -/
def uB (c : Dev nD) (n : ℕ) : FVec F S1x512x512 .bf16 := k0_pay2 (iblk m c 2 (at_ n))

/-- What the output's block holds after a point that stores it. -/
def outAt (c : Dev nD) (t : Fin cfg0.N) : Vec F S1088x512 .bf16 :=
  outU (grid0.coords t) (iblk m c 0 t) (slabOf (gB m c) (t.val / 8 - 1)) (slabOf (uB m c) (t.val / 8 - 1)) (iblk m c 3 t)

/-- The invariant before point `n`: the two weight buffers hold the blocks stored so far. -/
def PhiAt (c : Dev nD) (n : ℕ) : sProp 𝕄 :=
  iprop((∃ d7 d8, ⌜Inv (gB m c) n d7 ∧ Inv (uB m c) n d8⌝ ∗ owns (c : Thread nD τ) sc7 fullShare d7 ∗ owns (c : Thread nD τ) sc8 fullShare d8) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiAt m c t.val
  q _ := fullShare
  owed _ := 0

theorem A_eq (c : Dev nD) (w : Fin cfg0.W) : (dats m 0 c).A w = V m c (Pipeline.arrRef spec0 w) := by dsimp only [dats]
theorem after_4 (c : Dev nD) (t : Fin cfg0.N) : (dats m 0 c).after 4 t = outAt m c t := by dsimp only [dats]
theorem bef_0 (c : Dev nD) (t : Fin cfg0.N) (d) : (dats m 0 c).before 0 t d = iblk m c 0 t :=
  (dats m 0 c).before_in_eq_fetched 0 rfl (fun _ => rfl) (fun _ _ _ => rfl) (fun _ => rfl) t d
theorem bef_1 (c : Dev nD) (t : Fin cfg0.N) (d) : (dats m 0 c).before 1 t d = iblk m c 1 t :=
  (dats m 0 c).before_in_eq_fetched 1 rfl (fun _ => rfl) (fun _ _ _ => rfl) (fun _ => rfl) t d
theorem bef_2 (c : Dev nD) (t : Fin cfg0.N) (d) : (dats m 0 c).before 2 t d = iblk m c 2 t :=
  (dats m 0 c).before_in_eq_fetched 2 rfl (fun _ => rfl) (fun _ _ _ => rfl) (fun _ => rfl) t d
theorem bef_3 (c : Dev nD) (t : Fin cfg0.N) (d) : (dats m 0 c).before 3 t d = iblk m c 3 t :=
  (dats m 0 c).before_in_eq_fetched 3 rfl (fun _ => rfl) (fun _ _ _ => rfl) (fun _ => rfl) t d

/-! ## The body at a point -/

/-- What the body is called with at point `t`. -/
def bodyPre (c : Dev nD) (t : Fin cfg0.N) : sProp 𝕄 :=
  iprop(PhiAt m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns, the output's block at `P`. -/
def bodyPost (c : Dev nD) (t : Fin cfg0.N) (P : sProp 𝕄) : sProp 𝕄 :=
  iprop(PhiAt m c (t.val + 1) ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t) ∗ P)

theorem gB_at (c : Dev nD) (t : Fin cfg0.N) : gB m c t.val = k0_pay1 (iblk m c 1 t) := by unfold gB; rw [at_val]
theorem uB_at (c : Dev nD) (t : Fin cfg0.N) : uB m c t.val = k0_pay2 (iblk m c 2 t) := by unfold uB; rw [at_val]

theorem fillG (c : Dev nD) (t : Fin cfg0.N) (d) (h : Inv (gB m c) t.val d) : Inv (gB m c) (t.val + 1) (fillW (grid0.coords t) d (k0_pay1 (iblk m c 1 t))) := by
  rw [← gB_at]; exact inv_put _ d _ _ (coords t).1 (coords t).2 h
theorem fillU (c : Dev nD) (t : Fin cfg0.N) (d) (h : Inv (uB m c) t.val d) : Inv (uB m c) (t.val + 1) (fillW (grid0.coords t) d (k0_pay2 (iblk m c 2 t))) := by
  rw [← uB_at]; exact inv_put _ d _ _ (coords t).1 (coords t).2 h

theorem N_lt (t : Fin cfg0.N) : t.val < 264 := t.isLt

set_option maxHeartbeats 1200000 in
/-- The body at a point of the first step, which only fills the weight buffers. -/
theorem sound_first (c : Dev nD) (t : Fin cfg0.N) (ht : t.val < 8) :
    bodyPre m c t ⊢ wp frame (wpE (defs₀ (F := F)) Variants.none c none) Set.univ (bodyAt0 t)
      (fun _ => bodyPost m c t iprop(∃ d, owns (c : Thread nD τ) (ms4 t) fullShare ((dats m 0 c).before 4 t d))) := by
  unfold bodyPre bodyPost bodyAt0 PhiAt
  simp only [bef_0, bef_1, bef_2, bef_3]
  iintro ⟨⟨⟨%d7, %d8, %hd, S7, S8⟩, Hg⟩, Ho, ⟨%d0, H0⟩, ⟨%d1, H1⟩, ⟨%d2, H2⟩, ⟨%d3, H3⟩, ⟨%d4, H4⟩⟩
  iapply (runA c (grid0.coords t) _ _ _ _ _ _ _ _ _ _ _ _ _ _ (iblk m c 0 t) (iblk m c 1 t) (iblk m c 2 t) (iblk m c 3 t) _ d7 d8
    ((cond1 t).2 (by omega)) ((cond2 t).2 (by omega)) (fun h => absurd ((cond3 t).1 h) (by omega)) Set.univ _)
  isplitl [H0]; · iexact H0
  isplitl [H1]; · iexact H1
  isplitl [H2]; · iexact H2
  isplitl [H3]; · iexact H3
  isplitl [H4]; · iexact H4
  isplitl [S7]; · iexact S7
  isplitl [S8]; · iexact S8
  iintro ⟨H0, H1, H2, H3, H4, S7, S8⟩
  isplitl [S7 S8 Hg]
  · isplitl [S7 S8]
    · iexists _, _
      isplitr
      · ipureintro; exact ⟨fillG m c t d7 hd.1, fillU m c t d8 hd.2⟩
      isplitl [S7]; · iexact S7
      iexact S8
    iexact Hg
  isplitl [Ho]; · iexact Ho
  isplitl [H0]; · iexact H0
  isplitl [H1]; · iexact H1
  isplitl [H2]; · iexact H2
  isplitl [H3]; · iexact H3
  iexists _; iexact H4

theorem slabs (c : Dev nD) (t : Fin cfg0.N) (ht : 8 ≤ t.val) (d) (B : ℕ → FVec F S1x512x512 .bf16) (n : ℕ) (hn : t.val ≤ n) (hn' : n ≤ t.val + 1) (h : Inv B n d) :
    slab (grid0.coords t) ((cond3 t).2 ht) d = slabOf B (t.val / 8 - 1) := by
  have := N_lt t
  exact slab_inv B d _ _ n _ (by omega) (by rw [(coords t).1]; omega) (by omega) (by omega) h

set_option maxHeartbeats 1200000 in
/-- The body at a point of a middle step, which fills one slot and multiplies by the other. -/
theorem sound_mid (c : Dev nD) (t : Fin cfg0.N) (ht : 8 ≤ t.val) (ht' : t.val < 256) :
    bodyPre m c t ⊢ wp frame (wpE (defs₀ (F := F)) Variants.none c none) Set.univ (bodyAt0 t)
      (fun _ => bodyPost m c t (owns (c : Thread nD τ) (ms4 t) fullShare (outAt m c t))) := by
  unfold bodyPre bodyPost bodyAt0 PhiAt
  simp only [bef_0, bef_1, bef_2, bef_3]
  iintro ⟨⟨⟨%d7, %d8, %hd, S7, S8⟩, Hg⟩, Ho, ⟨%d0, H0⟩, ⟨%d1, H1⟩, ⟨%d2, H2⟩, ⟨%d3, H3⟩, ⟨%d4, H4⟩⟩
  have eg := slabs c t ht _ _ _ (Nat.le_succ _) le_rfl (fillG m c t d7 hd.1)
  have eu := slabs c t ht _ _ _ (Nat.le_succ _) le_rfl (fillU m c t d8 hd.2)
  iapply (runB c (grid0.coords t) _ _ _ _ _ _ _ _ _ _ _ _ _ _ (iblk m c 0 t) (iblk m c 1 t) (iblk m c 2 t) (iblk m c 3 t) d7 d8
    ((cond1 t).2 (by omega)) ((cond2 t).2 (by omega)) ((cond3 t).2 ht) Set.univ _)
  isplitl [H0]; · iexact H0
  isplitl [H1]; · iexact H1
  isplitl [H2]; · iexact H2
  isplitl [H3]; · iexact H3
  isplitl [H4]; · iexists _; iexact H4
  isplitl [S7]; · iexact S7
  isplitl [S8]; · iexact S8
  rw [eg, eu]
  iintro ⟨H0, H1, H2, H3, H4, S7, S8⟩
  isplitl [S7 S8 Hg]
  · isplitl [S7 S8]
    · iexists _, _
      isplitr
      · ipureintro; exact ⟨fillG m c t d7 hd.1, fillU m c t d8 hd.2⟩
      isplitl [S7]; · iexact S7
      iexact S8
    iexact Hg
  isplitl [Ho]; · iexact Ho
  isplitl [H0]; · iexact H0
  isplitl [H1]; · iexact H1
  isplitl [H2]; · iexact H2
  isplitl [H3]; · iexact H3
  iexact H4

set_option maxHeartbeats 1200000 in
/-- The body at a point of the last step, which only multiplies. -/
theorem sound_last (c : Dev nD) (t : Fin cfg0.N) (ht : 256 ≤ t.val) :
    bodyPre m c t ⊢ wp frame (wpE (defs₀ (F := F)) Variants.none c none) Set.univ (bodyAt0 t)
      (fun _ => bodyPost m c t (owns (c : Thread nD τ) (ms4 t) fullShare (outAt m c t))) := by
  unfold bodyPre bodyPost bodyAt0 PhiAt
  simp only [bef_0, bef_1, bef_2, bef_3]
  iintro ⟨⟨⟨%d7, %d8, %hd, S7, S8⟩, Hg⟩, Ho, ⟨%d0, H0⟩, ⟨%d1, H1⟩, ⟨%d2, H2⟩, ⟨%d3, H3⟩, ⟨%d4, H4⟩⟩
  have h8 : 8 ≤ t.val := by omega
  have eg := slabs c t h8 _ _ _ le_rfl (Nat.le_succ _) hd.1
  have eu := slabs c t h8 _ _ _ le_rfl (Nat.le_succ _) hd.2
  iapply (runC c (grid0.coords t) _ _ _ _ _ _ _ _ _ _ _ _ _ _ (iblk m c 0 t) (iblk m c 1 t) (iblk m c 2 t) (iblk m c 3 t) d7 d8
    (fun h => absurd ((cond1 t).1 h) (by omega)) (fun h => absurd ((cond2 t).1 h) (by omega)) ((cond3 t).2 h8) Set.univ _)
  isplitl [H0]; · iexact H0
  isplitl [H1]; · iexact H1
  isplitl [H2]; · iexact H2
  isplitl [H3]; · iexact H3
  isplitl [H4]; · iexists _; iexact H4
  isplitl [S7]; · iexact S7
  isplitl [S8]; · iexact S8
  rw [eg, eu]
  iintro ⟨H0, H1, H2, H3, H4, S7, S8⟩
  isplitl [S7 S8 Hg]
  · isplitl [S7 S8]
    · iexists _, _
      isplitr
      · ipureintro; exact ⟨inv_skip _ d7 _ ht hd.1, inv_skip _ d8 _ ht hd.2⟩
      isplitl [S7]; · iexact S7
      iexact S8
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases ht : t.val < 8
  · rw [idle4, flush4, decide_eq_true ht, decide_eq_false (by omega : ¬ 8 ≤ t.val)]
    exact triple_restated (sound_first m c t ht) rfl .rfl fun _ => .rfl
  · rw [idle4, decide_eq_false ht]
    by_cases ht' : t.val < 256
    · exact triple_restated (sound_mid m c t (by omega) ht') rfl .rfl fun _ => .rfl
    · exact triple_restated (sound_last m c t (by omega)) rfl .rfl fun _ => .rfl

/-! ## The run -/

theorem hin (c : Dev nD) : Pipeline.ΦA spec0 c ⊢ (dats (F := F) m 0 c).Φ 0 := by
  rw [PhiA0_eq]
  show _ ⊢ PhiAt m c 0
  unfold PhiAt
  iintro ⟨⟨⟨%d7, S7⟩, ⟨%d8, S8⟩⟩, Hg⟩
  isplitl [S7 S8]
  · iexists d7, d8
    isplitr
    · ipureintro; exact ⟨inv_zero _ _, inv_zero _ _⟩
    isplitl [S7]; · iexact S7
    iexact S8
  iexact Hg

theorem hout (c : Dev nD) : (dats (F := F) m 0 c).Φ (Fin.last cfg0.N) ⊢ Pipeline.ΦA spec0 c := by
  rw [PhiA0_eq]
  show PhiAt m c _ ⊢ _
  unfold PhiAt
  iintro ⟨⟨%d7, %d8, %hd, S7, S8⟩, Hg⟩
  isplitl [S7 S8]
  · isplitl [S7]
    · iexists d7; iexact S7
    iexists d8; iexact S8
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ w => by match w with | 0 => rfl | 1 => rfl | 2 => rfl | 3 => rfl | 4 => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).1 0).trans (((dats m 0 c).arrAt_in 0 rfl _).trans (A_eq m c 0)),
     ((h.1 c).1 1).trans (((dats m 0 c).arrAt_in 1 rfl _).trans (A_eq m c 1)),
     ((h.1 c).1 2).trans (((dats m 0 c).arrAt_in 2 rfl _).trans (A_eq m c 2)),
     ((h.1 c).1 3).trans (((dats m 0 c).arrAt_in 3 rfl _).trans (A_eq m c 3))⟩, h.2⟩) (run_main_quiescent m ρ)

end Cert.Proof.Up

end
-- ==== Proof.UpAt.lean ====
/- The gated up-projection's arithmetic at one entry, over the reals. -/
module

public import proofs.«01_k».proof.Proof.UpFrame
public import Idealize.ShloMosaic.Lib.Pipeline.ValueKit

@[expose] public section

set_option maxRecDepth 16384

noncomputable section

namespace Cert.Proof.Up

open Cert.Kernel2Ideal Cert.Kernel2Ideal.Gen
open Idealize.ShloMosaic Idealize.ShloMosaic.TcCoe Idealize.SL.Sem
open Cert.Kernel2Ideal.Facts

section
variable {F : FTy → Type} [FloatOps F]

/-- The kernel's quotient, rounded down, of a column block's number by four: the expert. -/
def expert (v9 : BitVec 32) : BitVec 32 :=
  Scalar.select (Scalar.andi (Scalar.cmpi .ne (Scalar.subi (Scalar.extui (Scalar.cmpi .sgt v9 0#32) : BitVec 32) (Scalar.extui (Scalar.cmpi .slt v9 0#32)))
      (Scalar.subi (Scalar.extui (Scalar.cmpi .sgt 4#32 0#32)) (Scalar.extui (Scalar.cmpi .slt 4#32 0#32)))) (Scalar.cmpi .ne (Scalar.remsi v9 4#32) 0#32))
    (Scalar.subi (Scalar.divsi v9 4#32) 1#32) (Scalar.divsi v9 4#32)

/-- The rows times the expert's gate. -/
def gated (e : BitVec 32) (a : FVec F S544x512 .f32) (g : Vec F S544x128 .f32) : FVec F S544x512 .bf16 :=
  truncf .bf16 (mulf a (broadcastTo S544x512 (shapeCast S544x1 (multiReduction .add [1] S544
      (select (cmpi .eq (iota .tc S544x128 32 [1] iota_S544x128_d1_w32) (broadcast S544x128 e)) g (broadcast S544x128 (Scalar.ofBits .f32 0x00000000#32 : F .f32)))
      0x00000000#32 reduces_S544x128_S544 (.inl rfl) rfl) shapeCasts_S544_S544x1) broadcasts_S544x1_S544x512)) bitsLt_bf16_f32

theorem pay5_eq (v : BitVec 32) (a : FVec F S544x512 .f32) (g : Vec F S544x128 .f32) :
    k0_pay5 v a g (iota .tc S544x128 32 [1] iota_S544x128_d1_w32) 4#32 (Scalar.divsi v 4#32) = gated (expert v) a g := rfl
theorem pay3_eq (v : BitVec 32) (a : FVec F S544x512 .f32) (g : Vec F S544x128 .f32) : k0_pay3 v a g = gated (expert v) a g := rfl
theorem pay6_eq (x : Vec F S544x4096 .bf16) (g u : Vec F S1x4096x512 .bf16) : k0_pay6 x g u = k0_pay4 x g u := rfl

theorem expert_eq (i : grid0.Coords) (h : 0 < (i 0).val) : expert (stepOf i) = BitVec.ofNat 32 (((i 0).val - 1) / 4) :=
  (by decide +kernel : ∀ a : Fin 33, 0 < a.val → expert (Scalar.subi (BitVec.ofNat 32 a.val) 1#32) = BitVec.ofNat 32 ((a.val - 1) / 4)) (i 0) h
end

theorem pay1_at (x : FVec Ideal S1x1x512x512 .f32) (i j : Fin 512) : k0_pay1 (F := Ideal) x (ix3 0 i j) = x (ix4 0 0 i j) := by
  pointwise [k0_pay1]
theorem pay2_at (x : FVec Ideal S1x1x512x512 .f32) (i j : Fin 512) : k0_pay2 (F := Ideal) x (ix3 0 i j) = x (ix4 0 0 i j) := by
  pointwise [k0_pay2]

theorem pay4_at (x : FVec Ideal S544x4096 .bf16) (g u : FVec Ideal S1x4096x512 .bf16) (r : Fin 544) (q : Fin 512) :
    k0_pay4 (F := Ideal) x g u (ix2 r q) = (∑ k : Fin 4096, x (ix2 r k) * g (ix3 0 k q)) * Ideal.logistic (∑ k : Fin 4096, x (ix2 r k) * g (ix3 0 k q)) * ∑ k : Fin 4096, x (ix2 r k) * u (ix3 0 k q) := by
  pointwise [k0_pay4]

theorem gated_at (e : Fin 8) (a : FVec Ideal S544x512 .f32) (g : FVec Ideal S544x128 .f32) (r : Fin 544) (q : Fin 512) :
    gated (F := Ideal) (BitVec.ofNat 32 e.val) a g (ix2 r q) = a (ix2 r q) * g (ix2 r ⟨e.val, by omega⟩) := by
  pointwise [gated]
  congr 1
  refine (Finset.sum_eq_single (⟨e.val, by omega⟩ : Fin 128) (fun x _ hx => ?_) (fun h => absurd (Finset.mem_univ _) h)).trans ?_
  · have hn : (BitVec.ofNat 32 x.val == BitVec.ofNat 32 e.val) = false := beq_eq_false_iff_ne.mpr fun h => hx (Fin.ext (by
      have h' := congrArg BitVec.toNat h
      rwa [BitVec.toNat_ofNat, BitVec.toNat_ofNat, Nat.mod_eq_of_lt (by omega), Nat.mod_eq_of_lt (by omega)] at h'))
    simp [Scalar.select, IntOp.cmpi, hn]
  · simp [Scalar.select, IntOp.cmpi]

/-- An entry of the first rows of a block. -/
theorem topX_at (x : FVec Ideal S1088x4096 .bf16) (r : Fin 544) (k : Fin 4096) : topX (F := Ideal) x (ix2 r k) = x (ix2 ⟨r.val, by omega⟩ k) := by
  refine congrArg x (funext fun a => ?_)
  match a with
  | 0 => exact Fin.ext (by show 0 + 1 * r.val = r.val; omega)
  | 1 => exact Fin.ext (by show 0 + 1 * k.val = k.val; omega)
theorem botX_at (x : FVec Ideal S1088x4096 .bf16) (r : Fin 544) (k : Fin 4096) : botX (F := Ideal) x (ix2 r k) = x (ix2 ⟨544 + r.val, by omega⟩ k) := by
  refine congrArg x (funext fun a => ?_)
  match a with
  | 0 => exact Fin.ext (by show 544 + 1 * r.val = 544 + r.val; omega)
  | 1 => exact Fin.ext (by show 0 + 1 * k.val = k.val; omega)
/-- An entry of the first rows of the gates. -/
theorem topG_at (x : FVec Ideal S1088x128 .f32) (r : Fin 544) (k : Fin 128) : topG (F := Ideal) x (ix2 r k) = x (ix2 ⟨r.val, by omega⟩ k) := by
  refine congrArg x (funext fun a => ?_)
  match a with
  | 0 => exact Fin.ext (by show 0 + 1 * r.val = r.val; omega)
  | 1 => exact Fin.ext (by show 0 + 1 * k.val = k.val; omega)
theorem botG_at (x : FVec Ideal S1088x128 .f32) (r : Fin 544) (k : Fin 128) : botG (F := Ideal) x (ix2 r k) = x (ix2 ⟨544 + r.val, by omega⟩ k) := by
  refine congrArg x (funext fun a => ?_)
  match a with
  | 0 => exact Fin.ext (by show 544 + 1 * r.val = 544 + r.val; omega)
  | 1 => exact Fin.ext (by show 0 + 1 * k.val = k.val; omega)

/-- An entry of a block stored as two halves. -/
theorem put_halves (d : FVec Ideal S1088x512 .bf16) (w w' : FVec Ideal S544x512 .bf16) (y : Fin 1088) (q : Fin 512) (v : EReal)
    (h : ∀ r : Fin 544, y = ⟨r.val, by omega⟩ → w (ix2 r q) = v) (h' : ∀ r : Fin 544, y = ⟨544 + r.val, by omega⟩ → w' (ix2 r q) = v) :
    VecWindow.put (s := S1088x512) (VecWindow.put (s := S1088x512) d ![0, 0] S544x512.size w) ![544, 0] S544x512.size w' (ix2 y q) = v := by
  unfold VecWindow.put
  by_cases hy : 544 ≤ y.val
  · have hp : ∀ a, (![544, 0] : Fin 2 → ℕ) a ≤ ((ix2 y q : S1088x512.Idx) a).val ∧ ((ix2 y q : S1088x512.Idx) a).val < (![544, 0] : Fin 2 → ℕ) a + S544x512.size a := fun a => by
      match a with
      | 0 => exact ⟨hy, y.isLt⟩
      | 1 => exact ⟨Nat.zero_le _, by show q.val < 0 + 512; omega⟩
    rw [dif_pos hp]
    have el : (Rect.unitLocal (s := S1088x512) (off := ![544, 0]) (size := S544x512.size) (ix2 y q) hp : S544x512.Idx) = ix2 (⟨y.val - 544, by omega⟩ : Fin 544) q := by
      funext a
      match a with
      | 0 => rfl
      | 1 => rfl
    exact (congrArg w' el).trans (h' _ (Fin.ext (by show y.val = 544 + (y.val - 544); omega)))
  · have hp : ¬ ∀ a, (![544, 0] : Fin 2 → ℕ) a ≤ ((ix2 y q : S1088x512.Idx) a).val ∧ ((ix2 y q : S1088x512.Idx) a).val < (![544, 0] : Fin 2 → ℕ) a + S544x512.size a := fun hc => hy (hc 0).1
    have hp0 : ∀ a, (![0, 0] : Fin 2 → ℕ) a ≤ ((ix2 y q : S1088x512.Idx) a).val ∧ ((ix2 y q : S1088x512.Idx) a).val < (![0, 0] : Fin 2 → ℕ) a + S544x512.size a := fun a => by
      match a with
      | 0 => exact ⟨Nat.zero_le _, by show y.val < 0 + 544; omega⟩
      | 1 => exact ⟨Nat.zero_le _, by show q.val < 0 + 512; omega⟩
    rw [dif_neg hp, dif_pos hp0]
    have el : (Rect.unitLocal (s := S1088x512) (off := ![0, 0]) (size := S544x512.size) (ix2 y q) hp0 : S544x512.Idx) = ix2 (⟨y.val, by omega⟩ : Fin 544) q := by
      funext a
      match a with
      | 0 => rfl
      | 1 => rfl
    exact (congrArg w el).trans (h _ rfl)

/-- An entry of the block, from the rows, the weight slabs and the gates. -/
theorem outU_at (i : grid0.Coords) (h : 0 < (i 0).val) (e : Fin 8) (he : ((i 0).val - 1) / 4 = e.val) (x0 : FVec Ideal S1088x4096 .bf16) (g u : FVec Ideal S1x4096x512 .bf16)
    (x3 : FVec Ideal S1088x128 .f32) (y : Fin 1088) (q : Fin 512) :
    (outU (F := Ideal) i x0 g u x3 : FVec Ideal S1088x512 .bf16) (ix2 y q)
      = (∑ k : Fin 4096, x0 (ix2 y k) * g (ix3 0 k q)) * Ideal.logistic (∑ k : Fin 4096, x0 (ix2 y k) * g (ix3 0 k q)) * (∑ k : Fin 4096, x0 (ix2 y k) * u (ix3 0 k q))
        * x3 (ix2 y ⟨e.val, by omega⟩) := by
  unfold outU
  rw [pay5_eq, pay3_eq, pay6_eq, expert_eq i h, he]
  refine put_halves _ _ _ y q _ (fun r hr => ?_) (fun r hr => ?_)
  · rw [hr]
    refine (gated_at e _ _ _ _).trans ?_
    rw [pay4_at, topG_at]
    simp only [topX_at]
  · rw [hr]
    refine (gated_at e _ _ _ _).trans ?_
    rw [pay4_at, botG_at]
    simp only [botX_at]

end Cert.Proof.Up

end
-- ==== Proof.UpValue.lean ====
/- The gated up-projection's result, entry by entry. -/
module

public import proofs.«01_k».proof.Proof.UpAt

@[expose] public section

set_option maxRecDepth 16384

noncomputable section

namespace Cert.Proof.Up

open Cert.Kernel2Ideal Cert.Kernel2Ideal.Gen
open Idealize.ShloMosaic Idealize.ShloMosaic.TcCoe Idealize.SL.Sem
open Cert.Kernel2Ideal.Facts

/-! ## The value -/

/-- A row of tokens times a column of an expert's weights. -/
def dotW (t : FVec Ideal ⟨2, ![8704, 4096]⟩ .bf16) (w : FVec Ideal ⟨4, ![2, 8, 4096, 2048]⟩ .f32) (r : Fin 8704) (e : Fin 8) (q : Fin 2048) : EReal :=
  ∑ k : Fin 4096, t (ix2 r k) * w (ix4 0 e k q)

/-- A gated hidden entry of an expert. -/
def hid (t : FVec Ideal ⟨2, ![8704, 4096]⟩ .bf16) (g u : FVec Ideal ⟨4, ![2, 8, 4096, 2048]⟩ .f32) (gt : FVec Ideal ⟨2, ![8704, 128]⟩ .f32) (r : Fin 8704) (e : Fin 8) (q : Fin 2048) : EReal :=
  dotW t g r e q * Ideal.logistic (dotW t g r e q) * dotW t u r e q * gt (ix2 r ⟨e.val, by omega⟩)

/-- The result. -/
def G (t : FVec Ideal ⟨2, ![8704, 4096]⟩ .bf16) (g u : FVec Ideal ⟨4, ![2, 8, 4096, 2048]⟩ .f32) (gt : FVec Ideal ⟨2, ![8704, 128]⟩ .f32) : FVec Ideal S8704x16384 .bf16 := fun i =>
  hid t g u gt ⟨(i 0 : ℕ) % 8704, by omega⟩ ⟨(i 1 : ℕ) / 2048 % 8, by omega⟩ ⟨(i 1 : ℕ) % 2048, by omega⟩

/-! ## The blocks -/

theorem idx0 : ∀ t : Fin cfg0.N, 8 ≤ t.val → win0_0.index t = ![t.val % 8, 0] ∧ win0_3.index t = ![t.val % 8, 0] ∧ win0_4.index t = ![t.val % 8, t.val / 8 - 1] :=
  (by decide +kernel : ∀ t : Fin grid0.N, 8 ≤ t.val → win0_0.index t = ![t.val % 8, 0] ∧ win0_3.index t = ![t.val % 8, 0] ∧ win0_4.index t = ![t.val % 8, t.val / 8 - 1])
theorem idx1 : ∀ t : Fin cfg0.N, t.val < 256 → win0_1.index t = ![0, t.val / 32, t.val % 8, t.val / 8 % 4] ∧ win0_2.index t = ![0, t.val / 32, t.val % 8, t.val / 8 % 4] :=
  (by decide +kernel : ∀ t : Fin grid0.N, t.val < 256 → win0_1.index t = ![0, t.val / 32, t.val % 8, t.val / 8 % 4] ∧ win0_2.index t = ![0, t.val / 32, t.val % 8, t.val / 8 % 4])

variable (m : (ℓ : Loc nD τ sig) → Buf (Elt Ideal) ℓ) (c : Dev nD) (t : Fin cfg0.N)

def tok : FVec Ideal S8704x4096 .bf16 := m ((c.tc : Thread nD τ).loc main_arg0)
def wgt : FVec Ideal S2x8x4096x2048 .f32 := m ((c.tc : Thread nD τ).loc main_arg1)
def wup : FVec Ideal S2x8x4096x2048 .f32 := m ((c.tc : Thread nD τ).loc main_arg2)
def gts : FVec Ideal S8704x128 .f32 := m ((c.tc : Thread nD τ).loc main_arg3)

theorem blk0 (ht : 8 ≤ t.val) (y : Fin 1088) (k : Fin 4096) : (iblk (F := Ideal) m c 0 t : FVec Ideal S1088x4096 .bf16) (ix2 y k)
    = tok m c (ix2 ⟨1088 * (t.val % 8) + y, by omega⟩ k) := by
  unfold tok
  blk_ext [iblk, V, (idx0 t ht).1]
theorem blk3 (ht : 8 ≤ t.val) (y : Fin 1088) (k : Fin 128) : (iblk (F := Ideal) m c 3 t : FVec Ideal S1088x128 .f32) (ix2 y k)
    = gts m c (ix2 ⟨1088 * (t.val % 8) + y, by omega⟩ k) := by
  unfold gts
  blk_ext [iblk, V, (idx0 t ht).2.1]
theorem blk1 (ht : t.val < 256) (i j : Fin 512) : (iblk (F := Ideal) m c 1 t : FVec Ideal S1x1x512x512 .f32) (ix4 0 0 i j)
    = wgt m c (ix4 0 ⟨t.val / 32, by omega⟩ ⟨512 * (t.val % 8) + i, by omega⟩ ⟨512 * (t.val / 8 % 4) + j, by omega⟩) := by
  unfold wgt
  blk_ext [iblk, V, (idx1 t ht).1]
theorem blk2 (ht : t.val < 256) (i j : Fin 512) : (iblk (F := Ideal) m c 2 t : FVec Ideal S1x1x512x512 .f32) (ix4 0 0 i j)
    = wup m c (ix4 0 ⟨t.val / 32, by omega⟩ ⟨512 * (t.val % 8) + i, by omega⟩ ⟨512 * (t.val / 8 % 4) + j, by omega⟩) := by
  unfold wup
  blk_ext [iblk, V, (idx1 t ht).2]

/-- The gate's slot holds a column block of an expert's weights. -/
theorem slabG (T : ℕ) (hT : T < 32) (k : Fin 4096) (q : Fin 512) :
    slabOf (F := Ideal) (gB m c) T (ix3 0 k q) = wgt m c (ix4 0 ⟨T / 4, by omega⟩ k ⟨512 * (T % 4) + q, by omega⟩) := by
  show k0_pay1 (F := Ideal) (iblk m c 1 (at_ (8 * T + k.val / 512))) (ix3 (0 : Fin 1) (⟨k.val % 512, Nat.mod_lt _ (by decide)⟩ : Fin 512) q) = _
  have e : (at_ (8 * T + k.val / 512)).val = 8 * T + k.val / 512 := Nat.mod_eq_of_lt (by omega)
  rw [pay1_at, blk1 m c _ (by omega)]
  congr 2 <;> ext <;> simp only [e] <;> omega
theorem slabU (T : ℕ) (hT : T < 32) (k : Fin 4096) (q : Fin 512) :
    slabOf (F := Ideal) (uB m c) T (ix3 0 k q) = wup m c (ix4 0 ⟨T / 4, by omega⟩ k ⟨512 * (T % 4) + q, by omega⟩) := by
  show k0_pay2 (F := Ideal) (iblk m c 2 (at_ (8 * T + k.val / 512))) (ix3 (0 : Fin 1) (⟨k.val % 512, Nat.mod_lt _ (by decide)⟩ : Fin 512) q) = _
  have e : (at_ (8 * T + k.val / 512)).val = 8 * T + k.val / 512 := Nat.mod_eq_of_lt (by omega)
  rw [pay2_at, blk2 m c _ (by omega)]
  congr 2 <;> ext <;> simp only [e] <;> omega

/-- What a point leaves in the output's block. -/
theorem point (ht : 8 ≤ t.val) (y : Fin 1088) (q : Fin 512) :
    (outAt (F := Ideal) m c t : FVec Ideal S1088x512 .bf16) (ix2 y q)
      = hid (tok m c) (wgt m c) (wup m c) (gts m c) ⟨1088 * (t.val % 8) + y, by omega⟩ ⟨(t.val / 8 - 1) / 4, by have := N_lt t; omega⟩ ⟨512 * ((t.val / 8 - 1) % 4) + q, by omega⟩ := by
  have hl := N_lt t
  unfold outAt
  rw [outU_at (grid0.coords t) (by rw [(coords t).1]; omega) ⟨(t.val / 8 - 1) / 4, by omega⟩ (by rw [(coords t).1])]
  simp only [blk0 m c t ht, blk3 m c t ht, slabG m c (t.val / 8 - 1) (by omega), slabU m c (t.val / 8 - 1) (by omega)]
  rfl

/-- The result array, after the run. -/
theorem final (i : S8704x16384.Idx) : (dats m 0 c).arrAt 4 (cfgs 0).N i = G (tok m c) (wgt m c) (wup m c) (gts m c) i := by
  refine ((dats m 0 c).arrAt_apply_of_coversWhere 4 (G (tok m c) (wgt m c) (wup m c) (gts m c)) (P := fun i : S8704x16384.Idx => True) (fun β => True) (by decide +kernel) (fun t hf y => ?_)
    (fun j => by blk_simp [Pipeline.Window.cell_apply]) i).trans (if_pos trivial)
  rw [flush4] at hf
  have ht : 8 ≤ t.val := of_decide_eq_true hf
  blk_simp
  rw [after_4]
  have hl := N_lt t
  have l0 : (y 0 : ℕ) < 1088 := ((cfg0.win 4).xinj (cfg0.grid.coords t) y 0).isLt
  have l1 : (y 1 : ℕ) < 512 := ((cfg0.win 4).xinj (cfg0.grid.coords t) y 1).isLt
  have e : (cfg0.win 4).xinj (cfg0.grid.coords t) y = (ix2 ⟨y 0, l0⟩ ⟨y 1, l1⟩ : S1088x512.Idx) := by
    funext a; fin_cases a <;> rfl
  have g0 : (((win0_4.blk t).view.emb y : S8704x16384.Idx) 0 : ℕ) = 1088 * (t.val % 8) + y 0 := by blk_simp [(idx0 t ht).2.2]; ring
  have g1 : (((win0_4.blk t).view.emb y : S8704x16384.Idx) 1 : ℕ) = 512 * (t.val / 8 - 1) + y 1 := by blk_simp [(idx0 t ht).2.2]; ring
  refine (congrArg (outAt m c t) e).trans ((point m c t ht _ _).trans ?_)
  unfold G
  congr 1 <;> ext <;> simp only [g0, g1] <;> omega

end Cert.Proof.Up

end
-- ==== Proof.UpRef.lean ====
/- The gated hidden layer of the reference, entry by entry. -/
module

public import proofs.«01_k».proof.Proof.Gen.Reference2Ideal.Run
public import proofs.«01_k».proof.Proof.UpValue

@[expose] public section

set_option maxRecDepth 16384

noncomputable section

namespace Cert.Proof.UpRef

open Cert.Reference2Ideal Cert.Reference2Ideal.Gen Cert.Reference2Ideal.Value Idealize.ShloMosaic Idealize.ShloMosaic.TcCoe Idealize.SL.Sem
open Cert.Reference2Ideal.Facts
open Cert.Proof.Up (dotW hid G)

section
variable {F : FTy → Type} [FloatOps F]

/-- Every token times every expert's weights. -/
def dots (t : FVec F S8704x4096 .bf16) (w : FVec F S2x8x4096x2048 .f32) : FVec F S8704x8x2048 .f32 :=
  Host.dotGeneral dot_S8704x4096_S8x4096x2048_S8704x8x2048_1_1_0_02_n_n none (extf .f32 t bitsLt_bf16_f32)
    (shapeCast _ (extractStridedSlice S1x8x4096x2048 ![0, 0, 0, 0] w slices_S2x8x4096x2048_S1x8x4096x2048_0_0_0_0) shapeCasts_S1x8x4096x2048_S8x4096x2048)

/-- The gate's activation. -/
def act (g : FVec F S8704x8x2048 .f32) : FVec F S8704x8x2048 .f32 :=
  mulf g (Host.divf (broadcastInDim S8704x8x2048 ![] bcast_S_S8704x8x2048 (constant S_ .f32 0x3F800000#32))
    (addf (broadcastInDim S8704x8x2048 ![] bcast_S_S8704x8x2048 (constant S_ .f32 0x3F800000#32)) (Host.exp (Host.negf g))))

/-- The experts' gates times the hidden entries. -/
def gate (gt : FVec F S8704x128 .f32) (h : FVec F S8704x8x2048 .f32) : FVec F S8704x8x2048 .f32 :=
  mulf (broadcastInDim S8704x8x2048 ![0, 1, 2] bcast_S8704x8x1_S8704x8x2048_0_1_2 (broadcastInDim S8704x8x1 ![0, 1] bcast_S8704x8_S8704x8x1_0_1
    (extractStridedSlice S8704x8 ![0, 0] gt slices_S8704x128_S8704x8_0_0))) h

/-- The experts side by side. -/
def side (h : FVec F S8704x8x2048 .f32) : FVec F S8704x16384 .bf16 :=
  truncf .bf16 (shapeCast _ h shapeCasts_S8704x8x2048_S8704x16384) bitsLt_bf16_f32
end

theorem dots_at (t : FVec Ideal S8704x4096 .bf16) (w : FVec Ideal S2x8x4096x2048 .f32) (r : Fin 8704) (e : Fin 8) (q : Fin 2048) :
    dots (F := Ideal) t w (ix3 r e q) = dotW t w r e q := by
  unfold dotW
  pointwise [dots]

theorem one : Ideal.ofBits FTy.f32 0x3F800000#32 = 1 := by
  have e : ((8388608 : ℝ) * (2 ^ 23)⁻¹) = 1 := by norm_num
  simp [Ideal.ofBits, Ideal.ieee]
  exact_mod_cast e

theorem act_at (g : FVec Ideal S8704x8x2048 .f32) (r : Fin 8704) (e : Fin 8) (q : Fin 2048) :
    act (F := Ideal) g (ix3 r e q) = g (ix3 r e q) * Ideal.logistic (g (ix3 r e q)) := by
  unfold Ideal.logistic
  pointwise [act]

theorem gate_at (gt : FVec Ideal S8704x128 .f32) (h : FVec Ideal S8704x8x2048 .f32) (r : Fin 8704) (e : Fin 8) (q : Fin 2048) :
    gate (F := Ideal) gt h (ix3 r e q) = gt (ix2 r ⟨e.val, by omega⟩) * h (ix3 r e q) := by
  pointwise [gate]

theorem side_at (h : FVec Ideal S8704x8x2048 .f32) (i : S8704x16384.Idx) (r : Fin 8704) (e : Fin 8) (q : Fin 2048) (e0 : (i 0 : ℕ) = r) (e1 : (i 1 : ℕ) = e * 2048 + q) :
    side (F := Ideal) h i = h (ix3 r e q) := by
  pointwise [side]
  have a : (⟨(i 1 : ℕ) / 2048, by omega⟩ : Fin 8) = e := Fin.ext (by simp only; omega)
  have b : (⟨(i 1 : ℕ) % 2048, by omega⟩ : Fin 2048) = q := Fin.ext (by simp only; omega)
  have c : (i 0 : Fin 8704) = r := Fin.ext e0
  exact congrArg h (congr (congr (congrArg ix3 c) a) b)

/-- The reference's result is the kernel's. -/
theorem res (t : FVec Ideal S8704x4096 .bf16) (g u : FVec Ideal S2x8x4096x2048 .f32) (gt : FVec Ideal S8704x128 .f32) :
    side (F := Ideal) (gate gt (mulf (act (dots t g)) (dots t u))) = G t g u gt := by
  funext i
  have l0 : (i 0 : ℕ) < 8704 := (i 0).isLt
  have l1 : (i 1 : ℕ) < 16384 := (i 1).isLt
  rw [side_at _ i ⟨(i 0 : ℕ) % 8704, by omega⟩ ⟨(i 1 : ℕ) / 2048 % 8, by omega⟩ ⟨(i 1 : ℕ) % 2048, by omega⟩ (by simp only; omega) (by simp only; omega), gate_at]
  refine (congrArg _ (?_ : _ = dotW t g _ _ _ * Ideal.logistic (dotW t g _ _ _) * dotW t u _ _ _)).trans (mul_comm _ _)
  refine (congrArg₂ (· * ·) (act_at (dots t g) _ _ _) (dots_at t u _ _ _)).trans ?_
  rw [dots_at]

end Cert.Proof.UpRef

end
-- ==== Proof.Up.lean ====
module

public import proofs.«01_k».proof.Defs
public import proofs.«01_k».proof.Proof.UpRef
public import proofs.«01_k».proof.Proof.Gen.Kernel2
public import Idealize.ShloMosaic.Lib.Quiescent

@[expose] public section

set_option maxRecDepth 16384

noncomputable section

/-! # The claims about the gated up-projection -/

namespace Cert.Proof.Hidden

open Idealize.ShloMosaic Idealize.ShloMosaic.TcCoe Idealize.SL.Sem

attribute [local instance] Cert.Kernel2.Gen.facts Cert.Kernel2Ideal.Gen.facts Cert.Reference2Ideal.Gen.facts

/-- The two programs' bodies are one text. -/
theorem body_eq : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) => rfl

theorem defs_eq : Cert.Kernel2.defs (F := Bits) = Cert.Kernel2Ideal.defs (F := Bits) := by
  unfold Cert.Kernel2.defs Cert.Kernel2Ideal.defs
  rw [body_eq]
  rfl

theorem frame : Cert.quiescent_Kernel2 := fun m ρ _ => by
  rw [defs_eq]
  exact (θ_run Cert.Kernel2Ideal.defs _ _).mono (fun _ h => h) (Up.frame (F := Bits) m ρ)

theorem frame_ideal : Cert.quiescent_Kernel2Ideal := fun m ρ _ => Up.frame (F := Ideal) m ρ

theorem frame_ref : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

theorem algebraic : Cert.algebraic_Kernel2Ideal_Reference2Ideal := by
  intro m ρ m' ρ' _ hagree
  refine ⟨fun c => Up.G (Up.tok m c) (Up.wgt m c) (Up.wup m c) (Up.gts m c), ?_, ?_⟩
  · exact (θ_run Cert.Kernel2Ideal.defs _ _).mono
      (fun _ h c => ⟨((h.1 c).1 4).trans (funext (Up.final m c)),
        ((h.1 c).1 0).trans (((Up.dats m 0 c).arrAt_in 0 rfl _).trans (Up.A_eq m c 0)),
        ((h.1 c).1 1).trans (((Up.dats m 0 c).arrAt_in 1 rfl _).trans (Up.A_eq m c 1)),
        ((h.1 c).1 2).trans (((Up.dats m 0 c).arrAt_in 2 rfl _).trans (Up.A_eq m c 2)),
        ((h.1 c).1 3).trans (((Up.dats m 0 c).arrAt_in 3 rfl _).trans (Up.A_eq m c 3))⟩)
      (Up.run_main_quiescent (F := Ideal) m ρ)
  · refine (θ_run Cert.Reference2Ideal.defs _ _).mono (fun _ h c => ⟨(h c).1.trans ?_, (h c).2⟩)
      (Cert.Reference2Ideal.Value.run (F := Ideal) m' ρ')
    obtain ⟨e0, e1, e2, e3⟩ := hagree c
    rw [e0, e1, e2, e3]
    exact UpRef.res (Up.tok m c) (Up.wgt m c) (Up.wup m c) (Up.gts m c)

end Cert.Proof.Hidden

end
-- ==== Proof.DenseRun.lean ====
/- The body of the dense up-projection's kernel, run at any contents of its buffers: what it leaves in the two weight
   buffers it fills over the grid and in the output's block. -/
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.UpFill
public import Idealize.ShloMosaic.Lib.Pipeline.FrameBody
public import Idealize.ShloMosaic.Lib.VecWindow
public import Idealize.ShloMosaic.Lib.Tactic

@[expose] public section

set_option maxRecDepth 16384

noncomputable section

namespace Cert.Proof.Dense

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

open Cert.Proof.Up (topX botX halves)

variable {F : FTy → Type} [FloatOps F]

local notation "𝕄" => MT nD τ sig Unit (Elt F) ℕ (UR sig nD τ) ℕ

/-- A grid point from its two coordinates. -/
def pt (a : Fin 17) (b : Fin 8) : grid0.Coords := fun | 0 => a | 1 => b

theorem pt_eq (i : grid0.Coords) : i = pt (i 0) (i 1) := by funext a; match a with | 0 => rfl | 1 => rfl

theorem off1_eq (i : grid0.Coords) : k0_off1 i = ![(i 0).val % 2, 512 * (i 1).val, 0] := by
  have h : ∀ (a : Fin 17) (b : Fin 8), k0_off1 (pt a b) = ![a.val % 2, 512 * b.val, 0] := by decide +kernel
  have e := h (i 0) (i 1)
  rwa [← pt_eq i] at e
theorem off2_eq (i : grid0.Coords) : k0_off2 i = ![(i 0).val % 2, 512 * (i 1).val, 0] := off1_eq i
theorem off3_eq (i : grid0.Coords) : k0_off3 i = ![((i 0).val + 1) % 2, 0, 0] := by
  have h : ∀ (a : Fin 17) (b : Fin 8), k0_off3 (pt a b) = ![(a.val + 1) % 2, 0, 0] := by decide +kernel
  have e := h (i 0) (i 1)
  rwa [← pt_eq i] at e

instance (i : grid0.Coords) : ClosedOff (k0_off1 i) := ⟨_, off1_eq i⟩
instance (i : grid0.Coords) : ClosedOff (k0_off2 i) := ⟨_, off2_eq i⟩
instance (i : grid0.Coords) : ClosedOff (k0_off3 i) := ⟨_, off3_eq i⟩

/-- The weight buffer with one block of rows put where the point stores it. -/
def fillW (i : grid0.Coords) (d : Vec F S2x4096x512 .bf16) (w : FVec F S1x512x512 .bf16) : Vec F S2x4096x512 .bf16 :=
  VecWindow.put (s := S2x4096x512) d (k0_off1 i) S1x512x512.size w

/-- The slot of the weight buffer that the point multiplies by. -/
def slab (i : grid0.Coords) (h : k0_cond3 i = 1#1) (d : Vec F S2x4096x512 .bf16) : Vec F S1x4096x512 .bf16 :=
  VecWindow.window (s := S2x4096x512) d (k0_off3 i) S1x4096x512.size (k0_off3_inb i h)

/-- What the point leaves in the output's block, from its block of rows and the two weight slabs. -/
def outU (x0 : Vec F S1088x4096 .bf16) (g u : Vec F S1x4096x512 .bf16) : Vec F S1088x512 .bf16 :=
  VecWindow.put (s := S1088x512) (VecWindow.put (s := S1088x512) (fun _ => FloatOps.ofBits .bf16 0) ![0, 0] S544x512.size (k0_pay4 (topX x0) g u))
    ![544, 0] S544x512.size (k0_pay3 (botX x0) g u)

set_option maxHeartbeats 1600000 in
theorem runB (c : Dev nD) (i : grid0.Coords) (arg2 : Memref sig .tc .vmem S1088x4096 .bf16) (harg2 : arg2.IsWhole)
    (arg3 : Memref sig .tc .vmem S1x1x512x512 .f32) (harg3 : arg3.IsWhole) (arg4 : Memref sig .tc .vmem S1x1x512x512 .f32) (harg4 : arg4.IsWhole)
    (arg5 : Memref sig .tc .vmem S1088x512 .bf16) (harg5 : arg5.IsWhole)
    (arg6 : Memref sig .tc .vmem S2x4096x512 .bf16) (harg6 : arg6.IsWhole) (arg7 : Memref sig .tc .vmem S2x4096x512 .bf16) (harg7 : arg7.IsWhole)
    (x0 : Vec F S1088x4096 .bf16) (x1 x2 : Vec F S1x1x512x512 .f32) (d7 d8 : Vec F S2x4096x512 .bf16)
    (h1 : k0_cond1 i = 1#1) (h2 : k0_cond2 i = 1#1) (h3 : k0_cond3 i = 1#1)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ owns (c : Thread nD τ) arg6 fullShare d7 ∗ owns (c : Thread nD τ) arg7 fullShare d8
        ∗ (iprop(owns (c : Thread nD τ) arg2 fullShare x0 ∗ owns (c : Thread nD τ) arg3 fullShare x1 ∗ owns (c : Thread nD τ) arg4 fullShare x2
            ∗ owns (c : Thread nD τ) arg5 fullShare (outU x0 (slab i h3 (fillW i d7 (k0_pay1 x1))) (slab i h3 (fillW i d8 (k0_pay2 x2))))
            ∗ owns (c : Thread nD τ) arg6 fullShare (fillW i d7 (k0_pay1 x1)) ∗ owns (c : Thread nD τ) arg7 fullShare (fillW i d8 (k0_pay2 x2))) -∗ K ⟨⟩))
      ⊢ wp frame (wpE (defs₀ (F := F)) Variants.none c none) E (cc0_swiglu_up i arg2 harg2 arg3 harg3 arg4 harg4 arg5 harg5 arg6 harg6 arg7 harg7) K := by
  simp only [cc0_swiglu_up_eq_skeleton]; unfold cc0_swiglu_up_skel
  simp only [k0_part1_eq_skeleton]
  unfold owns
  iintro ⟨⟨%f0, %hf0, H0⟩, ⟨%f1, %hf1, H1⟩, ⟨%f2, %hf2, H2⟩, ⟨%d4, %f4, -, H4⟩, ⟨%fs0, %hs0, HS0⟩, ⟨%fs1, %hs1, HS1⟩, Hk⟩
  obtain rfl := harg2.eq_unread hf0; obtain rfl := harg3.eq_unread hf1; obtain rfl := harg4.eq_unread hf2
  obtain rfl := harg6.eq_unread hs0; obtain rfl := harg7.eq_unread hs1
  sl_exec
  sl_step
  have e1 : runB.sl.v9 c arg3 harg3 x1 = x1 := by
    delta runB.sl.v9; exact (View.readAt_full (s := S1x1x512x512) _ _ _).trans hf1
  have e2 : runB.sl.v9_1 c arg4 harg4 x2 = x2 := by
    delta runB.sl.v9_1; exact (View.readAt_full (s := S1x1x512x512) _ _ _).trans hf2
  have e7 : arg6.view.read (Elt F) (arg6.view.writes (Elt F) (harg6.unread d7) (runB.sl.HS0_1 c i arg3 harg3 x1 h1)) = fillW i d7 (k0_pay1 x1) := by
    delta runB.sl.HS0_1; rw [e1, View.read_writes_cons_put _ _ _ _ _ rfl, View.writes_nil, hs0]; rfl
  have e8 : arg7.view.read (Elt F) (arg7.view.writes (Elt F) (harg7.unread d8) (runB.sl.HS1_1 c i arg4 harg4 x2 h2)) = fillW i d8 (k0_pay2 x2) := by
    delta runB.sl.HS1_1; rw [e2, View.read_writes_cons_put _ _ _ _ _ rfl, View.writes_nil, hs1]; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H4]
  · iexists _; isplitr
    swap; · iexact H4
    ipureintro
    rw [View.read_writes_cons_put _ _ _ _ _ rfl, View.read_writes_cons_put _ _ _ _ _ rfl, halves _ (fun _ => FloatOps.ofBits .bf16 0)]
    unfold outU
    delta runB.sl.v46 runB.sl.v50
    rw [View.readAt_unit arg2.view _ _ rfl inb_S1088x4096_S544x4096_0_0, View.readAt_unit arg2.view _ _ rfl inb_S1088x4096_S544x4096_544_0,
      View.readAt_unit arg6.view _ _ rfl (k0_off3_inb i h3), View.readAt_unit arg7.view _ _ rfl (k0_off3_inb i h3), hf0, e7, e8]
    rfl
  isplitl [HS0]
  · iexists _; isplitr
    swap; · iexact HS0
    ipureintro
    exact e7
  iexists _; isplitr
  swap; · iexact HS1
  ipureintro
  exact e8

set_option maxHeartbeats 1600000 in
theorem runA (c : Dev nD) (i : grid0.Coords) (arg2 : Memref sig .tc .vmem S1088x4096 .bf16) (harg2 : arg2.IsWhole)
    (arg3 : Memref sig .tc .vmem S1x1x512x512 .f32) (harg3 : arg3.IsWhole) (arg4 : Memref sig .tc .vmem S1x1x512x512 .f32) (harg4 : arg4.IsWhole)
    (arg5 : Memref sig .tc .vmem S1088x512 .bf16) (harg5 : arg5.IsWhole)
    (arg6 : Memref sig .tc .vmem S2x4096x512 .bf16) (harg6 : arg6.IsWhole) (arg7 : Memref sig .tc .vmem S2x4096x512 .bf16) (harg7 : arg7.IsWhole)
    (x0 : Vec F S1088x4096 .bf16) (x1 x2 : Vec F S1x1x512x512 .f32) (d6 : Vec F S1088x512 .bf16) (d7 d8 : Vec F S2x4096x512 .bf16)
    (h1 : k0_cond1 i = 1#1) (h2 : k0_cond2 i = 1#1) (h3 : ¬ k0_cond3 i = 1#1)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d6
        ∗ owns (c : Thread nD τ) arg6 fullShare d7 ∗ owns (c : Thread nD τ) arg7 fullShare d8
        ∗ (iprop(owns (c : Thread nD τ) arg2 fullShare x0 ∗ owns (c : Thread nD τ) arg3 fullShare x1 ∗ owns (c : Thread nD τ) arg4 fullShare x2
            ∗ owns (c : Thread nD τ) arg5 fullShare d6
            ∗ owns (c : Thread nD τ) arg6 fullShare (fillW i d7 (k0_pay1 x1)) ∗ owns (c : Thread nD τ) arg7 fullShare (fillW i d8 (k0_pay2 x2))) -∗ K ⟨⟩))
      ⊢ wp frame (wpE (defs₀ (F := F)) Variants.none c none) E (cc0_swiglu_up i arg2 harg2 arg3 harg3 arg4 harg4 arg5 harg5 arg6 harg6 arg7 harg7) K := by
  simp only [cc0_swiglu_up_eq_skeleton]; unfold cc0_swiglu_up_skel
  simp only [k0_part1_eq_skeleton]
  unfold owns
  iintro ⟨⟨%f0, %hf0, H0⟩, ⟨%f1, %hf1, H1⟩, ⟨%f2, %hf2, H2⟩, ⟨%f4, %hf4, H4⟩, ⟨%fs0, %hs0, HS0⟩, ⟨%fs1, %hs1, HS1⟩, Hk⟩
  obtain rfl := harg2.eq_unread hf0; obtain rfl := harg3.eq_unread hf1; obtain rfl := harg4.eq_unread hf2
  obtain rfl := harg5.eq_unread hf4; obtain rfl := harg6.eq_unread hs0; obtain rfl := harg7.eq_unread hs1
  sl_exec
  sl_step
  have e1 : runA.sl.v9 c arg3 harg3 x1 = x1 := by
    delta runA.sl.v9; exact (View.readAt_full (s := S1x1x512x512) _ _ _).trans hf1
  have e2 : runA.sl.v9_1 c arg4 harg4 x2 = x2 := by
    delta runA.sl.v9_1; exact (View.readAt_full (s := S1x1x512x512) _ _ _).trans hf2
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H4]
  · iexists _; isplitr; · ipureintro; exact harg5.read_unread _
    iexact H4
  isplitl [HS0]
  · iexists _; isplitr
    swap; · iexact HS0
    ipureintro
    rw [View.read_writes_cons_put _ _ _ _ _ rfl, View.writes_nil, hs0, e1]; rfl
  iexists _; isplitr
  swap; · iexact HS1
  ipureintro
  rw [View.read_writes_cons_put _ _ _ _ _ rfl, View.writes_nil, hs1, e2]; rfl

set_option maxHeartbeats 1600000 in
theorem runC (c : Dev nD) (i : grid0.Coords) (arg2 : Memref sig .tc .vmem S1088x4096 .bf16) (harg2 : arg2.IsWhole)
    (arg3 : Memref sig .tc .vmem S1x1x512x512 .f32) (harg3 : arg3.IsWhole) (arg4 : Memref sig .tc .vmem S1x1x512x512 .f32) (harg4 : arg4.IsWhole)
    (arg5 : Memref sig .tc .vmem S1088x512 .bf16) (harg5 : arg5.IsWhole)
    (arg6 : Memref sig .tc .vmem S2x4096x512 .bf16) (harg6 : arg6.IsWhole) (arg7 : Memref sig .tc .vmem S2x4096x512 .bf16) (harg7 : arg7.IsWhole)
    (x0 : Vec F S1088x4096 .bf16) (x1 x2 : Vec F S1x1x512x512 .f32) (d7 d8 : Vec F S2x4096x512 .bf16)
    (h1 : ¬ k0_cond1 i = 1#1) (h2 : ¬ k0_cond2 i = 1#1) (h3 : k0_cond3 i = 1#1)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ owns (c : Thread nD τ) arg6 fullShare d7 ∗ owns (c : Thread nD τ) arg7 fullShare d8
        ∗ (iprop(owns (c : Thread nD τ) arg2 fullShare x0 ∗ owns (c : Thread nD τ) arg3 fullShare x1 ∗ owns (c : Thread nD τ) arg4 fullShare x2
            ∗ owns (c : Thread nD τ) arg5 fullShare (outU x0 (slab i h3 d7) (slab i h3 d8))
            ∗ owns (c : Thread nD τ) arg6 fullShare d7 ∗ owns (c : Thread nD τ) arg7 fullShare d8) -∗ K ⟨⟩))
      ⊢ wp frame (wpE (defs₀ (F := F)) Variants.none c none) E (cc0_swiglu_up i arg2 harg2 arg3 harg3 arg4 harg4 arg5 harg5 arg6 harg6 arg7 harg7) K := by
  simp only [cc0_swiglu_up_eq_skeleton]; unfold cc0_swiglu_up_skel
  simp only [k0_part1_eq_skeleton]
  unfold owns
  iintro ⟨⟨%f0, %hf0, H0⟩, ⟨%f1, %hf1, H1⟩, ⟨%f2, %hf2, H2⟩, ⟨%d4, %f4, -, H4⟩, ⟨%fs0, %hs0, HS0⟩, ⟨%fs1, %hs1, HS1⟩, Hk⟩
  obtain rfl := harg2.eq_unread hf0; obtain rfl := harg3.eq_unread hf1; obtain rfl := harg4.eq_unread hf2
  obtain rfl := harg6.eq_unread hs0; obtain rfl := harg7.eq_unread hs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H4]
  · iexists _; isplitr
    swap; · iexact H4
    ipureintro
    rw [View.read_writes_cons_put _ _ _ _ _ rfl, View.read_writes_cons_put _ _ _ _ _ rfl, halves _ (fun _ => FloatOps.ofBits .bf16 0)]
    unfold outU
    rw [View.readAt_unit arg2.view _ _ rfl inb_S1088x4096_S544x4096_0_0, View.readAt_unit arg2.view _ _ rfl inb_S1088x4096_S544x4096_544_0,
      View.readAt_unit arg6.view _ _ rfl (k0_off3_inb i h3), View.readAt_unit arg7.view _ _ rfl (k0_off3_inb i h3), hf0, hs0, hs1]
    rfl
  isplitl [HS0]
  · iexists _; isplitr
    swap; · iexact HS0
    ipureintro
    exact harg6.read_unread _
  iexists _; isplitr
  swap; · iexact HS1
  ipureintro
  exact harg7.read_unread _

end Cert.Proof.Dense

end
-- ==== Proof.DenseFill.lean ====
/- What the two weight buffers of the dense up-projection hold along the grid. -/
module

public import proofs.«01_k».proof.Proof.DenseRun
public import proofs.«01_k».proof.Proof.Slots

@[expose] public section

set_option maxRecDepth 16384

noncomputable section

namespace Cert.Proof.Dense

open Cert.Kernel3Ideal Cert.Kernel3Ideal.Gen
open Idealize.ShloMosaic Idealize.ShloMosaic.TcCoe
open Idealize.SL Idealize.SL.Sem

variable {F : FTy → Type} [FloatOps F]

/-- The slot filled over step `T`. -/
abbrev slabOf (B : ℕ → FVec F S1x512x512 .bf16) (T : ℕ) : Vec F S1x4096x512 .bf16 := Slots.slabOf 8 B T

/-- Before point `n` each slot holds, of each of the 16 steps, the blocks stored and not yet stored over. -/
abbrev Inv (B : ℕ → FVec F S1x512x512 .bf16) (n : ℕ) (d : Vec F S2x4096x512 .bf16) : Prop := Slots.Inv 8 16 B n d

variable (B : ℕ → FVec F S1x512x512 .bf16) (d : Vec F S2x4096x512 .bf16)

theorem inv_zero : Inv B 0 d := Slots.inv_zero 8 16 B d

theorem inv_put (i : grid0.Coords) (n : ℕ) (h0 : (i 0).val = n / 8) (h1 : (i 1).val = n % 8) (hd : Inv B n d) :
    Inv B (n + 1) (fillW i d (B n)) :=
  Slots.inv_put 8 16 (.inl ⟨rfl, rfl⟩) B d n (k0_off1 i) (by rw [off1_eq, h0, h1]) hd

theorem inv_skip (n : ℕ) (hn : 128 ≤ n) (hd : Inv B n d) : Inv B (n + 1) d := Slots.inv_skip 8 16 (.inl ⟨rfl, rfl⟩) B d n (by omega) hd

theorem slab_inv (i : grid0.Coords) (h : k0_cond3 i = 1#1) (n T : ℕ) (hT : T < 16) (h0 : (i 0).val = T + 1) (ha : 8 * (T + 1) ≤ n) (hb : n ≤ 8 * (T + 2))
    (hd : Inv B n d) : slab i h d = slabOf B T :=
  Slots.slab_inv 8 16 (.inl ⟨rfl, rfl⟩) B d (k0_off3 i) (k0_off3_inb i h) T n
    (by rw [off3_eq, h0, show (T + 1 + 1) % 2 = T % 2 by omega]) hT ha hb hd

end Cert.Proof.Dense

end
-- ==== Proof.DenseFrame.lean ====
/- The run of the dense up-projection over its grid, for any values: what the pipeline's buffers hold after each point, and
   that the launch ends with the arguments unchanged. -/
module

public import proofs.«01_k».proof.Proof.DenseFill

@[expose] public section

set_option maxRecDepth 16384

noncomputable section

namespace Cert.Proof.Dense

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem coords (t : Fin cfg0.N) : (grid0.coords t 0).val = t.val / 8 ∧ (grid0.coords t 1).val = t.val % 8 :=
  (by decide +kernel : ∀ t : Fin grid0.N, (grid0.coords t 0).val = t.val / 8 ∧ (grid0.coords t 1).val = t.val % 8) t
theorem cond1 (t : Fin cfg0.N) : k0_cond1 (grid0.coords t) = 1#1 ↔ t.val < 128 :=
  (by decide +kernel : ∀ t : Fin grid0.N, k0_cond1 (grid0.coords t) = 1#1 ↔ t.val < 128) t
theorem cond2 (t : Fin cfg0.N) : k0_cond2 (grid0.coords t) = 1#1 ↔ t.val < 128 :=
  (by decide +kernel : ∀ t : Fin grid0.N, k0_cond2 (grid0.coords t) = 1#1 ↔ t.val < 128) t
theorem cond3 (t : Fin cfg0.N) : k0_cond3 (grid0.coords t) = 1#1 ↔ 8 ≤ t.val :=
  (by decide +kernel : ∀ t : Fin grid0.N, k0_cond3 (grid0.coords t) = 1#1 ↔ 8 ≤ t.val) t
/-- The output's block is written back at every point that stores it, and at no other. -/
theorem flush3 : ∀ t : Fin cfg0.N, (cfg0.win 3).flush t = decide (8 ≤ t.val) :=
  (by decide +kernel : ∀ t : Fin grid0.N, win0_3.flush t = decide (8 ≤ t.val))
theorem idle3 (t : Fin cfg0.N) : cfg0.idle 3 (cfg0.grid.coords t) = decide (t.val < 8) := by
  show (!decide (k0_cond3 (grid0.coords t) = 1#1)) = _
  rw [decide_eq_decide.mpr (cond3 t), ← decide_not, decide_eq_decide.mpr not_le]

/-! ## The memory at the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := ⟨rfl, rfl⟩

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An array which neither reshape writes is as launched when the region starts. -/
theorem V_kept (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- A window's block at a point, as the array holds it when the region starts. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 (t : Fin cfg0.N) : Memref sig .tc .vmem S1088x4096 .bf16 := win0_0.stage (cfg0.slots t 0)
abbrev ms1 (t : Fin cfg0.N) : Memref sig .tc .vmem S1x1x512x512 .f32 := win0_1.stage (cfg0.slots t 1)
abbrev ms2 (t : Fin cfg0.N) : Memref sig .tc .vmem S1x1x512x512 .f32 := win0_2.stage (cfg0.slots t 2)
abbrev ms3 (t : Fin cfg0.N) : Memref sig .tc .vmem S1088x512 .bf16 := win0_3.stage (cfg0.slots t 3)
abbrev sc7 : Memref sig .tc .vmem S2x4096x512 .bf16 := Memref.whole cc0_scratch0
abbrev sc8 : Memref sig .tc .vmem S2x4096x512 .bf16 := Memref.whole cc0_scratch1

theorem PhiA0_eq (c : Dev nD) :
    (Pipeline.ΦA spec0 c : sProp 𝕄)
      = iprop(iprop((∃ d, owns (c : Thread nD τ) sc7 fullShare d) ∗ (∃ d, owns (c : Thread nD τ) sc8 fullShare d)) ∗ (∃ r, prngReg c r)) := by
  unfold Pipeline.ΦA; rw [scopedRest0_eq]; simp only [sc7, sc8, owns_whole]; try rfl

/-! ## The proof data -/

/-- The grid point with number `n`. -/
def at_ (n : ℕ) : Fin cfg0.N := ⟨n % 136, Nat.mod_lt _ (by decide)⟩

theorem at_val (t : Fin cfg0.N) : at_ t.val = t := Fin.ext (Nat.mod_eq_of_lt t.isLt)

/-- The blocks of the gate's weights, point by point, rounded. -/
def gB (c : Dev nD) (n : ℕ) : FVec F S1x512x512 .bf16 := k0_pay1 (iblk m c 1 (at_ n))
/-- The blocks of the up-projection's weights. -/
def uB (c : Dev nD) (n : ℕ) : FVec F S1x512x512 .bf16 := k0_pay2 (iblk m c 2 (at_ n))

/-- What the output's block holds after a point that stores it. -/
def outAt (c : Dev nD) (t : Fin cfg0.N) : Vec F S1088x512 .bf16 :=
  outU (iblk m c 0 t) (slabOf (gB m c) (t.val / 8 - 1)) (slabOf (uB m c) (t.val / 8 - 1))

/-- The invariant before point `n`: the two weight buffers hold the blocks stored so far. -/
def PhiAt (c : Dev nD) (n : ℕ) : sProp 𝕄 :=
  iprop((∃ d7 d8, ⌜Inv (gB m c) n d7 ∧ Inv (uB m c) n d8⌝ ∗ owns (c : Thread nD τ) sc7 fullShare d7 ∗ owns (c : Thread nD τ) sc8 fullShare d8) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiAt m c t.val
  q _ := fullShare
  owed _ := 0

theorem A_eq (c : Dev nD) (w : Fin cfg0.W) : (dats m 0 c).A w = V m c (Pipeline.arrRef spec0 w) := by dsimp only [dats]
theorem after_3 (c : Dev nD) (t : Fin cfg0.N) : (dats m 0 c).after 3 t = outAt m c t := by dsimp only [dats]
theorem bef_0 (c : Dev nD) (t : Fin cfg0.N) (d) : (dats m 0 c).before 0 t d = iblk m c 0 t :=
  (dats m 0 c).before_in_eq_fetched 0 rfl (fun _ => rfl) (fun _ _ _ => rfl) (fun _ => rfl) t d
theorem bef_1 (c : Dev nD) (t : Fin cfg0.N) (d) : (dats m 0 c).before 1 t d = iblk m c 1 t :=
  (dats m 0 c).before_in_eq_fetched 1 rfl (fun _ => rfl) (fun _ _ _ => rfl) (fun _ => rfl) t d
theorem bef_2 (c : Dev nD) (t : Fin cfg0.N) (d) : (dats m 0 c).before 2 t d = iblk m c 2 t :=
  (dats m 0 c).before_in_eq_fetched 2 rfl (fun _ => rfl) (fun _ _ _ => rfl) (fun _ => rfl) t d

/-! ## The body at a point -/

/-- What the body is called with at point `t`. -/
def bodyPre (c : Dev nD) (t : Fin cfg0.N) : sProp 𝕄 :=
  iprop(PhiAt m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What it returns, the output's block at `P`. -/
def bodyPost (c : Dev nD) (t : Fin cfg0.N) (P : sProp 𝕄) : sProp 𝕄 :=
  iprop(PhiAt m c (t.val + 1) ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ P)

theorem gB_at (c : Dev nD) (t : Fin cfg0.N) : gB m c t.val = k0_pay1 (iblk m c 1 t) := by unfold gB; rw [at_val]
theorem uB_at (c : Dev nD) (t : Fin cfg0.N) : uB m c t.val = k0_pay2 (iblk m c 2 t) := by unfold uB; rw [at_val]

theorem fillG (c : Dev nD) (t : Fin cfg0.N) (d) (h : Inv (gB m c) t.val d) : Inv (gB m c) (t.val + 1) (fillW (grid0.coords t) d (k0_pay1 (iblk m c 1 t))) := by
  rw [← gB_at]; exact inv_put _ d _ _ (coords t).1 (coords t).2 h
theorem fillU (c : Dev nD) (t : Fin cfg0.N) (d) (h : Inv (uB m c) t.val d) : Inv (uB m c) (t.val + 1) (fillW (grid0.coords t) d (k0_pay2 (iblk m c 2 t))) := by
  rw [← uB_at]; exact inv_put _ d _ _ (coords t).1 (coords t).2 h

theorem N_lt (t : Fin cfg0.N) : t.val < 136 := t.isLt

set_option maxHeartbeats 1200000 in
/-- The body at a point of the first step, which only fills the weight buffers. -/
theorem sound_first (c : Dev nD) (t : Fin cfg0.N) (ht : t.val < 8) :
    bodyPre m c t ⊢ wp frame (wpE (defs₀ (F := F)) Variants.none c none) Set.univ (bodyAt0 t)
      (fun _ => bodyPost m c t iprop(∃ d, owns (c : Thread nD τ) (ms3 t) fullShare ((dats m 0 c).before 3 t d))) := by
  unfold bodyPre bodyPost bodyAt0 PhiAt
  simp only [bef_0, bef_1, bef_2]
  iintro ⟨⟨⟨%d7, %d8, %hd, S7, S8⟩, Hg⟩, Ho, ⟨%d0, H0⟩, ⟨%d1, H1⟩, ⟨%d2, H2⟩, ⟨%d4, H4⟩⟩
  iapply (runA c (grid0.coords t) _ _ _ _ _ _ _ _ _ _ _ _ (iblk m c 0 t) (iblk m c 1 t) (iblk m c 2 t) _ d7 d8
    ((cond1 t).2 (by omega)) ((cond2 t).2 (by omega)) (fun h => absurd ((cond3 t).1 h) (by omega)) Set.univ _)
  isplitl [H0]; · iexact H0
  isplitl [H1]; · iexact H1
  isplitl [H2]; · iexact H2
  isplitl [H4]; · iexact H4
  isplitl [S7]; · iexact S7
  isplitl [S8]; · iexact S8
  iintro ⟨H0, H1, H2, H4, S7, S8⟩
  isplitl [S7 S8 Hg]
  · isplitl [S7 S8]
    · iexists _, _
      isplitr
      · ipureintro; exact ⟨fillG m c t d7 hd.1, fillU m c t d8 hd.2⟩
      isplitl [S7]; · iexact S7
      iexact S8
    iexact Hg
  isplitl [Ho]; · iexact Ho
  isplitl [H0]; · iexact H0
  isplitl [H1]; · iexact H1
  isplitl [H2]; · iexact H2
  iexists _; iexact H4

theorem slabs (c : Dev nD) (t : Fin cfg0.N) (ht : 8 ≤ t.val) (d) (B : ℕ → FVec F S1x512x512 .bf16) (n : ℕ) (hn : t.val ≤ n) (hn' : n ≤ t.val + 1) (h : Inv B n d) :
    slab (grid0.coords t) ((cond3 t).2 ht) d = slabOf B (t.val / 8 - 1) := by
  have := N_lt t
  exact slab_inv B d _ _ n _ (by omega) (by rw [(coords t).1]; omega) (by omega) (by omega) h

set_option maxHeartbeats 1200000 in
/-- The body at a point of a middle step, which fills one slot and multiplies by the other. -/
theorem sound_mid (c : Dev nD) (t : Fin cfg0.N) (ht : 8 ≤ t.val) (ht' : t.val < 128) :
    bodyPre m c t ⊢ wp frame (wpE (defs₀ (F := F)) Variants.none c none) Set.univ (bodyAt0 t)
      (fun _ => bodyPost m c t (owns (c : Thread nD τ) (ms3 t) fullShare (outAt m c t))) := by
  unfold bodyPre bodyPost bodyAt0 PhiAt
  simp only [bef_0, bef_1, bef_2]
  iintro ⟨⟨⟨%d7, %d8, %hd, S7, S8⟩, Hg⟩, Ho, ⟨%d0, H0⟩, ⟨%d1, H1⟩, ⟨%d2, H2⟩, ⟨%d4, H4⟩⟩
  have eg := slabs c t ht _ _ _ (Nat.le_succ _) le_rfl (fillG m c t d7 hd.1)
  have eu := slabs c t ht _ _ _ (Nat.le_succ _) le_rfl (fillU m c t d8 hd.2)
  iapply (runB c (grid0.coords t) _ _ _ _ _ _ _ _ _ _ _ _ (iblk m c 0 t) (iblk m c 1 t) (iblk m c 2 t) d7 d8
    ((cond1 t).2 (by omega)) ((cond2 t).2 (by omega)) ((cond3 t).2 ht) Set.univ _)
  isplitl [H0]; · iexact H0
  isplitl [H1]; · iexact H1
  isplitl [H2]; · iexact H2
  isplitl [H4]; · iexists _; iexact H4
  isplitl [S7]; · iexact S7
  isplitl [S8]; · iexact S8
  rw [eg, eu]
  iintro ⟨H0, H1, H2, H4, S7, S8⟩
  isplitl [S7 S8 Hg]
  · isplitl [S7 S8]
    · iexists _, _
      isplitr
      · ipureintro; exact ⟨fillG m c t d7 hd.1, fillU m c t d8 hd.2⟩
      isplitl [S7]; · iexact S7
      iexact S8
    iexact Hg
  isplitl [Ho]; · iexact Ho
  isplitl [H0]; · iexact H0
  isplitl [H1]; · iexact H1
  isplitl [H2]; · iexact H2
  iexact H4

set_option maxHeartbeats 1200000 in
/-- The body at a point of the last step, which only multiplies. -/
theorem sound_last (c : Dev nD) (t : Fin cfg0.N) (ht : 128 ≤ t.val) :
    bodyPre m c t ⊢ wp frame (wpE (defs₀ (F := F)) Variants.none c none) Set.univ (bodyAt0 t)
      (fun _ => bodyPost m c t (owns (c : Thread nD τ) (ms3 t) fullShare (outAt m c t))) := by
  unfold bodyPre bodyPost bodyAt0 PhiAt
  simp only [bef_0, bef_1, bef_2]
  iintro ⟨⟨⟨%d7, %d8, %hd, S7, S8⟩, Hg⟩, Ho, ⟨%d0, H0⟩, ⟨%d1, H1⟩, ⟨%d2, H2⟩, ⟨%d4, H4⟩⟩
  have h8 : 8 ≤ t.val := by omega
  have eg := slabs c t h8 _ _ _ le_rfl (Nat.le_succ _) hd.1
  have eu := slabs c t h8 _ _ _ le_rfl (Nat.le_succ _) hd.2
  iapply (runC c (grid0.coords t) _ _ _ _ _ _ _ _ _ _ _ _ (iblk m c 0 t) (iblk m c 1 t) (iblk m c 2 t) d7 d8
    (fun h => absurd ((cond1 t).1 h) (by omega)) (fun h => absurd ((cond2 t).1 h) (by omega)) ((cond3 t).2 h8) Set.univ _)
  isplitl [H0]; · iexact H0
  isplitl [H1]; · iexact H1
  isplitl [H2]; · iexact H2
  isplitl [H4]; · iexists _; iexact H4
  isplitl [S7]; · iexact S7
  isplitl [S8]; · iexact S8
  rw [eg, eu]
  iintro ⟨H0, H1, H2, H4, S7, S8⟩
  isplitl [S7 S8 Hg]
  · isplitl [S7 S8]
    · iexists _, _
      isplitr
      · ipureintro; exact ⟨inv_skip _ d7 _ ht hd.1, inv_skip _ d8 _ ht hd.2⟩
      isplitl [S7]; · iexact S7
      iexact S8
    iexact Hg
  isplitl [Ho]; · iexact Ho
  isplitl [H0]; · iexact H0
  isplitl [H1]; · iexact H1
  isplitl [H2]; · iexact H2
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases ht : t.val < 8
  · rw [idle3, flush3, decide_eq_true ht, decide_eq_false (by omega : ¬ 8 ≤ t.val)]
    exact triple_restated (sound_first m c t ht) rfl .rfl fun _ => .rfl
  · rw [idle3, decide_eq_false ht]
    by_cases ht' : t.val < 128
    · exact triple_restated (sound_mid m c t (by omega) ht') rfl .rfl fun _ => .rfl
    · exact triple_restated (sound_last m c t (by omega)) rfl .rfl fun _ => .rfl

/-! ## The run -/

theorem hin (c : Dev nD) : Pipeline.ΦA spec0 c ⊢ (dats (F := F) m 0 c).Φ 0 := by
  rw [PhiA0_eq]
  show _ ⊢ PhiAt m c 0
  unfold PhiAt
  iintro ⟨⟨⟨%d7, S7⟩, ⟨%d8, S8⟩⟩, Hg⟩
  isplitl [S7 S8]
  · iexists d7, d8
    isplitr
    · ipureintro; exact ⟨inv_zero _ _, inv_zero _ _⟩
    isplitl [S7]; · iexact S7
    iexact S8
  iexact Hg

theorem hout (c : Dev nD) : (dats (F := F) m 0 c).Φ (Fin.last cfg0.N) ⊢ Pipeline.ΦA spec0 c := by
  rw [PhiA0_eq]
  show PhiAt m c _ ⊢ _
  unfold PhiAt
  iintro ⟨⟨%d7, %d8, %hd, S7, S8⟩, Hg⟩
  isplitl [S7 S8]
  · isplitl [S7]
    · iexists d7; iexact S7
    iexists d8; iexact S8
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ w => by match w with | 0 => rfl | 1 => rfl | 2 => rfl | 3 => rfl)
    (howed := fun _ _ => rfl) (V := V m) (hmain := hmain m Variants.none) (hA := A_eq m) (hin := hin m) (hout := hout m)

/-- The arguments are as launched. -/
theorem kept {r} (h : (Pipeline.FramePost cfgs (dats m) 0 (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats m 0 c).arrAt_in 0 rfl _).trans ((A_eq m c 0).trans (V_kept m c main_arg0 (by decide) (by decide)))),
    ((h c).2 main_arg1 (Pipeline.mem_restRefs_of main_arg1 (by decide) (by decide))).trans (V_kept m c main_arg1 (by decide) (by decide)),
    ((h c).2 main_arg2 (Pipeline.mem_restRefs_of main_arg2 (by decide) (by decide))).trans (V_kept m c main_arg2 (by decide) (by decide))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨kept m h.1, h.2⟩) (run_main_quiescent m ρ)

end Cert.Proof.Dense

end
-- ==== Proof.DenseValue.lean ====
/- The dense up-projection's result, entry by entry, over the reals. -/
module

public import proofs.«01_k».proof.Proof.DenseFrame
public import proofs.«01_k».proof.Proof.UpAt

@[expose] public section

set_option maxRecDepth 16384

noncomputable section

namespace Cert.Proof.Dense

open Cert.Kernel3Ideal Cert.Kernel3Ideal.Gen
open Idealize.ShloMosaic Idealize.ShloMosaic.TcCoe Idealize.ShloMosaic.Tactic Idealize.SL.Sem
open Cert.Kernel3Ideal.Facts
open Cert.Proof.Up (topX botX topX_at botX_at put_halves)

/-! ## The arithmetic at one entry -/

theorem pay1_at (x : FVec Ideal S1x1x512x512 .f32) (i j : Fin 512) : k0_pay1 (F := Ideal) x (ix3 0 i j) = x (ix4 0 0 i j) := by
  pointwise [k0_pay1]
theorem pay2_at (x : FVec Ideal S1x1x512x512 .f32) (i j : Fin 512) : k0_pay2 (F := Ideal) x (ix3 0 i j) = x (ix4 0 0 i j) := by
  pointwise [k0_pay2]

theorem pay4_at (x : FVec Ideal S544x4096 .bf16) (g u : FVec Ideal S1x4096x512 .bf16) (r : Fin 544) (q : Fin 512) :
    k0_pay4 (F := Ideal) x g u (ix2 r q) = (∑ k : Fin 4096, x (ix2 r k) * g (ix3 0 k q)) * Ideal.logistic (∑ k : Fin 4096, x (ix2 r k) * g (ix3 0 k q)) * ∑ k : Fin 4096, x (ix2 r k) * u (ix3 0 k q) :=
  Up.pay4_at x g u r q

theorem pay3_eq (x : FVec Ideal S544x4096 .bf16) (g u : FVec Ideal S1x4096x512 .bf16) : k0_pay3 (F := Ideal) x g u = k0_pay4 x g u := rfl

/-- An entry of the block, from the rows and the weight slabs. -/
theorem outU_at (x0 : FVec Ideal S1088x4096 .bf16) (g u : FVec Ideal S1x4096x512 .bf16) (y : Fin 1088) (q : Fin 512) :
    (outU (F := Ideal) x0 g u : FVec Ideal S1088x512 .bf16) (ix2 y q)
      = (∑ k : Fin 4096, x0 (ix2 y k) * g (ix3 0 k q)) * Ideal.logistic (∑ k : Fin 4096, x0 (ix2 y k) * g (ix3 0 k q)) * (∑ k : Fin 4096, x0 (ix2 y k) * u (ix3 0 k q)) := by
  unfold outU
  rw [pay3_eq]
  refine put_halves _ _ _ y q _ (fun r hr => ?_) (fun r hr => ?_)
  · rw [hr, pay4_at]
    simp only [topX_at]
  · rw [hr, pay4_at]
    simp only [botX_at]

/-! ## The value -/

/-- A row of tokens times a column of the dense weights. -/
def dotW (t : FVec Ideal ⟨2, ![8704, 4096]⟩ .bf16) (w : FVec Ideal ⟨3, ![2, 4096, 8192]⟩ .f32) (r : Fin 8704) (q : Fin 8192) : EReal :=
  ∑ k : Fin 4096, t (ix2 r k) * w (ix3 0 k q)

/-- A hidden entry. -/
def hid (t : FVec Ideal ⟨2, ![8704, 4096]⟩ .bf16) (g u : FVec Ideal ⟨3, ![2, 4096, 8192]⟩ .f32) (r : Fin 8704) (q : Fin 8192) : EReal :=
  dotW t g r q * Ideal.logistic (dotW t g r q) * dotW t u r q

/-- The result. -/
def G (t : FVec Ideal ⟨2, ![8704, 4096]⟩ .bf16) (g u : FVec Ideal ⟨3, ![2, 4096, 8192]⟩ .f32) : FVec Ideal S8704x8192 .bf16 := fun i =>
  hid t g u ⟨(i 0 : ℕ) % 8704, by omega⟩ ⟨(i 1 : ℕ) % 8192, by omega⟩

/-! ## The blocks -/

theorem idx0 : ∀ t : Fin cfg0.N, 8 ≤ t.val → win0_0.index t = ![t.val % 8, 0] ∧ win0_3.index t = ![t.val % 8, t.val / 8 - 1] :=
  (by decide +kernel : ∀ t : Fin grid0.N, 8 ≤ t.val → win0_0.index t = ![t.val % 8, 0] ∧ win0_3.index t = ![t.val % 8, t.val / 8 - 1])
theorem idx1 : ∀ t : Fin cfg0.N, t.val < 128 → win0_1.index t = ![0, 0, t.val % 8, t.val / 8] ∧ win0_2.index t = ![0, 0, t.val % 8, t.val / 8] :=
  (by decide +kernel : ∀ t : Fin grid0.N, t.val < 128 → win0_1.index t = ![0, 0, t.val % 8, t.val / 8] ∧ win0_2.index t = ![0, 0, t.val % 8, t.val / 8])

variable (m : (ℓ : Loc nD τ sig) → Buf (Elt Ideal) ℓ) (c : Dev nD) (t : Fin cfg0.N)

def tok : FVec Ideal S8704x4096 .bf16 := m ((c.tc : Thread nD τ).loc main_arg0)
def wgt : FVec Ideal S2x4096x8192 .f32 := m ((c.tc : Thread nD τ).loc main_arg1)
def wup : FVec Ideal S2x4096x8192 .f32 := m ((c.tc : Thread nD τ).loc main_arg2)

/-- The weights as the call takes them: one expert to a layer. -/
theorem V_v0 : (V m c main_v0 : FVec Ideal S2x1x4096x8192 .f32) = shapeCast _ (wgt m c) shapeCasts_S2x4096x8192_S2x1x4096x8192 := by
  unfold V wgt
  simp only [hostOps0]
  after_results <;> rfl
theorem V_v1 : (V m c main_v1 : FVec Ideal S2x1x4096x8192 .f32) = shapeCast _ (wup m c) shapeCasts_S2x4096x8192_S2x1x4096x8192 := by
  unfold V wup
  simp only [hostOps0]
  after_results <;> rfl
theorem cast_at (w : FVec Ideal S2x4096x8192 .f32) (k : Fin 4096) (q : Fin 8192) :
    (shapeCast S2x1x4096x8192 w shapeCasts_S2x4096x8192_S2x1x4096x8192 : FVec Ideal S2x1x4096x8192 .f32) (ix4 0 0 k q) = w (ix3 0 k q) := by
  pointwise

theorem blk0 (ht : 8 ≤ t.val) (y : Fin 1088) (k : Fin 4096) : (iblk (F := Ideal) m c 0 t : FVec Ideal S1088x4096 .bf16) (ix2 y k)
    = tok m c (ix2 ⟨1088 * (t.val % 8) + y, by omega⟩ k) := by
  have e : (V m c main_arg0 : FVec Ideal S8704x4096 .bf16) = tok m c := V_kept m c main_arg0 (by decide) (by decide)
  rw [← e]
  blk_ext [iblk, (idx0 t ht).1]
theorem blk1 (ht : t.val < 128) (i j : Fin 512) : (iblk (F := Ideal) m c 1 t : FVec Ideal S1x1x512x512 .f32) (ix4 0 0 i j)
    = wgt m c (ix3 0 ⟨512 * (t.val % 8) + i, by omega⟩ ⟨512 * (t.val / 8) + j, by omega⟩) := by
  refine Eq.trans ?_ (cast_at (wgt m c) _ _)
  rw [← V_v0]
  blk_ext [iblk, (idx1 t ht).1]
theorem blk2 (ht : t.val < 128) (i j : Fin 512) : (iblk (F := Ideal) m c 2 t : FVec Ideal S1x1x512x512 .f32) (ix4 0 0 i j)
    = wup m c (ix3 0 ⟨512 * (t.val % 8) + i, by omega⟩ ⟨512 * (t.val / 8) + j, by omega⟩) := by
  refine Eq.trans ?_ (cast_at (wup m c) _ _)
  rw [← V_v1]
  blk_ext [iblk, (idx1 t ht).2]

/-- The gate's slot holds a column block of the weights. -/
theorem slabG (T : ℕ) (hT : T < 16) (k : Fin 4096) (q : Fin 512) :
    slabOf (F := Ideal) (gB m c) T (ix3 0 k q) = wgt m c (ix3 0 k ⟨512 * T + q, by omega⟩) := by
  show k0_pay1 (F := Ideal) (iblk m c 1 (at_ (8 * T + k.val / 512))) (ix3 (0 : Fin 1) (⟨k.val % 512, Nat.mod_lt _ (by decide)⟩ : Fin 512) q) = _
  have e : (at_ (8 * T + k.val / 512)).val = 8 * T + k.val / 512 := Nat.mod_eq_of_lt (by omega)
  rw [pay1_at, blk1 m c _ (by omega)]
  congr 2 <;> ext <;> simp only [e] <;> omega
theorem slabU (T : ℕ) (hT : T < 16) (k : Fin 4096) (q : Fin 512) :
    slabOf (F := Ideal) (uB m c) T (ix3 0 k q) = wup m c (ix3 0 k ⟨512 * T + q, by omega⟩) := by
  show k0_pay2 (F := Ideal) (iblk m c 2 (at_ (8 * T + k.val / 512))) (ix3 (0 : Fin 1) (⟨k.val % 512, Nat.mod_lt _ (by decide)⟩ : Fin 512) q) = _
  have e : (at_ (8 * T + k.val / 512)).val = 8 * T + k.val / 512 := Nat.mod_eq_of_lt (by omega)
  rw [pay2_at, blk2 m c _ (by omega)]
  congr 2 <;> ext <;> simp only [e] <;> omega

/-- What a point leaves in the output's block. -/
theorem point (ht : 8 ≤ t.val) (y : Fin 1088) (q : Fin 512) :
    (outAt (F := Ideal) m c t : FVec Ideal S1088x512 .bf16) (ix2 y q)
      = hid (tok m c) (wgt m c) (wup m c) ⟨1088 * (t.val % 8) + y, by omega⟩ ⟨512 * (t.val / 8 - 1) + q, by have := N_lt t; omega⟩ := by
  have hl := N_lt t
  unfold outAt
  rw [outU_at]
  simp only [blk0 m c t ht, slabG m c (t.val / 8 - 1) (by omega), slabU m c (t.val / 8 - 1) (by omega)]
  rfl

/-- The result array, after the run. -/
theorem final (i : S8704x8192.Idx) : (dats m 0 c).arrAt 3 (cfgs 0).N i = G (tok m c) (wgt m c) (wup m c) i := by
  refine ((dats m 0 c).arrAt_apply_of_coversWhere 3 (G (tok m c) (wgt m c) (wup m c)) (P := fun i : S8704x8192.Idx => True) (fun β => True) (by decide +kernel) (fun t hf y => ?_)
    (fun j => by blk_simp [Pipeline.Window.cell_apply]) i).trans (if_pos trivial)
  rw [flush3] at hf
  have ht : 8 ≤ t.val := of_decide_eq_true hf
  blk_simp
  rw [after_3]
  have hl := N_lt t
  have l0 : (y 0 : ℕ) < 1088 := ((cfg0.win 3).xinj (cfg0.grid.coords t) y 0).isLt
  have l1 : (y 1 : ℕ) < 512 := ((cfg0.win 3).xinj (cfg0.grid.coords t) y 1).isLt
  have e : (cfg0.win 3).xinj (cfg0.grid.coords t) y = (ix2 ⟨y 0, l0⟩ ⟨y 1, l1⟩ : S1088x512.Idx) := by
    funext a; fin_cases a <;> rfl
  have g0 : (((win0_3.blk t).view.emb y : S8704x8192.Idx) 0 : ℕ) = 1088 * (t.val % 8) + y 0 := by blk_simp [(idx0 t ht).2]; ring
  have g1 : (((win0_3.blk t).view.emb y : S8704x8192.Idx) 1 : ℕ) = 512 * (t.val / 8 - 1) + y 1 := by blk_simp [(idx0 t ht).2]; ring
  refine (congrArg (outAt m c t) e).trans ((point m c t ht _ _).trans ?_)
  unfold G
  congr 1 <;> ext <;> simp only [g0, g1] <;> omega

end Cert.Proof.Dense

end
-- ==== Proof.DenseRef.lean ====
/- The dense hidden layer of the reference, entry by entry. -/
module

public import proofs.«01_k».proof.Proof.Gen.Reference3Ideal.Run
public import proofs.«01_k».proof.Proof.DenseValue
public import proofs.«01_k».proof.Proof.UpRef

@[expose] public section

set_option maxRecDepth 16384

noncomputable section

namespace Cert.Proof.DenseRef

open Cert.Reference3Ideal Cert.Reference3Ideal.Gen Cert.Reference3Ideal.Value Idealize.ShloMosaic Idealize.ShloMosaic.TcCoe Idealize.SL.Sem
open Cert.Reference3Ideal.Facts
open Cert.Proof.Dense (dotW hid G)
open Cert.Proof.UpRef (one)

section
variable {F : FTy → Type} [FloatOps F]

/-- Every token times the first layer's weights. -/
def dots (t : FVec F S8704x4096 .bf16) (w : FVec F S2x4096x8192 .f32) : FVec F S8704x8192 .f32 :=
  Host.dotGeneral dot_S8704x4096_S4096x8192_S8704x8192_1_0_0_1_n_n none (extf .f32 t bitsLt_bf16_f32)
    (shapeCast _ (extractStridedSlice S1x4096x8192 ![0, 0, 0] w slices_S2x4096x8192_S1x4096x8192_0_0_0) shapeCasts_S1x4096x8192_S4096x8192)

/-- The gate's activation. -/
def act (g : FVec F S8704x8192 .f32) : FVec F S8704x8192 .f32 :=
  mulf g (Host.divf (broadcastInDim S8704x8192 ![] bcast_S_S8704x8192 (constant S_ .f32 0x3F800000#32))
    (addf (broadcastInDim S8704x8192 ![] bcast_S_S8704x8192 (constant S_ .f32 0x3F800000#32)) (Host.exp (Host.negf g))))
end

theorem dots_at (t : FVec Ideal S8704x4096 .bf16) (w : FVec Ideal S2x4096x8192 .f32) (r : Fin 8704) (q : Fin 8192) :
    dots (F := Ideal) t w (ix2 r q) = dotW t w r q := by
  unfold dotW
  pointwise [dots]

theorem act_at (g : FVec Ideal S8704x8192 .f32) (r : Fin 8704) (q : Fin 8192) :
    act (F := Ideal) g (ix2 r q) = g (ix2 r q) * Ideal.logistic (g (ix2 r q)) := by
  unfold Ideal.logistic
  pointwise [act]

/-- The reference's result is the kernel's. -/
theorem res (t : FVec Ideal S8704x4096 .bf16) (g u : FVec Ideal S2x4096x8192 .f32) :
    truncf (F := Ideal) .bf16 (mulf (act (dots t g)) (dots t u)) bitsLt_bf16_f32 = G t g u := by
  funext i
  have l0 : (i 0 : ℕ) < 8704 := (i 0).isLt
  have l1 : (i 1 : ℕ) < 8192 := (i 1).isLt
  have e : i = (ix2 ⟨(i 0 : ℕ) % 8704, by omega⟩ ⟨(i 1 : ℕ) % 8192, by omega⟩ : S8704x8192.Idx) := by
    funext a
    match a with
    | 0 => exact Fin.ext (Nat.mod_eq_of_lt l0).symm
    | 1 => exact Fin.ext (Nat.mod_eq_of_lt l1).symm
  refine (congrArg (mulf (F := Ideal) (act (dots t g)) (dots t u)) e).trans ?_
  refine (congrArg₂ (· * ·) (act_at (dots t g) _ _) (dots_at t u _ _)).trans ?_
  rw [dots_at]
  rfl

end Cert.Proof.DenseRef

end
-- ==== Proof.Dense.lean ====
module

public import proofs.«01_k».proof.Defs
public import proofs.«01_k».proof.Proof.DenseRef
public import proofs.«01_k».proof.Proof.Gen.Kernel3
public import Idealize.ShloMosaic.Lib.Quiescent

@[expose] public section

set_option maxRecDepth 16384

noncomputable section

/-! # The claims about the dense up-projection -/

namespace Cert.Proof.DenseHidden

open Idealize.ShloMosaic Idealize.ShloMosaic.TcCoe Idealize.SL.Sem

attribute [local instance] Cert.Kernel3.Gen.facts Cert.Kernel3Ideal.Gen.facts Cert.Reference3Ideal.Gen.facts

/-- The two programs' bodies are one text. -/
theorem body_eq : Cert.Kernel3.defs₀ (F := Bits) = Cert.Kernel3Ideal.defs₀ (F := Bits) := by
  unfold Cert.Kernel3.defs₀ Cert.Kernel3Ideal.defs₀
  refine congrArg Defs.onTc ?_
  funext l x
  match l, x with
  | 0, (t, s) => rfl

theorem defs_eq : Cert.Kernel3.defs (F := Bits) = Cert.Kernel3Ideal.defs (F := Bits) := by
  unfold Cert.Kernel3.defs Cert.Kernel3Ideal.defs
  rw [body_eq]
  rfl

theorem frame : Cert.quiescent_Kernel3 := fun m ρ _ => by
  rw [defs_eq]
  exact (θ_run Cert.Kernel3Ideal.defs _ _).mono (fun _ h => h) (Dense.frame (F := Bits) m ρ)

theorem frame_ideal : Cert.quiescent_Kernel3Ideal := fun m ρ _ => Dense.frame (F := Ideal) m ρ

theorem frame_ref : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

theorem algebraic : Cert.algebraic_Kernel3Ideal_Reference3Ideal := by
  intro m ρ m' ρ' _ hagree
  refine ⟨fun c => Dense.G (Dense.tok m c) (Dense.wgt m c) (Dense.wup m c), ?_, ?_⟩
  · exact (θ_run Cert.Kernel3Ideal.defs _ _).mono
      (fun _ h c => ⟨((h.1 c).1 3).trans (funext (Dense.final m c)), Dense.kept m h.1 c⟩)
      (Dense.run_main_quiescent (F := Ideal) m ρ)
  · refine (θ_run Cert.Reference3Ideal.defs _ _).mono (fun _ h c => ⟨(h c).1.trans ?_, (h c).2⟩)
      (Cert.Reference3Ideal.Value.run (F := Ideal) m' ρ')
    obtain ⟨e0, e1, e2⟩ := hagree c
    rw [e0, e1, e2]
    exact DenseRef.res (Dense.tok m c) (Dense.wgt m c) (Dense.wup m c)

end Cert.Proof.DenseHidden

end
-- ==== Proof.DownRun.lean ====
/- The body of the second product's kernel, run at any contents of its buffers: what it leaves in the weight buffer it
   fills over the grid, in the buffer of partial sums and in the output's block. -/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.VecWindow
public import Idealize.ShloMosaic.Lib.Tactic

@[expose] public section

set_option maxRecDepth 16384

noncomputable section

namespace Cert.Proof.Down

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A grid point from its three coordinates. -/
def pt (a : Fin 2) (b : Fin 33) (d : Fin 4) : grid0.Coords := fun | 0 => a | 1 => b | 2 => d

theorem pt_eq (i : grid0.Coords) : i = pt (i 0) (i 1) (i 2) := by funext a; match a with | 0 => rfl | 1 => rfl | 2 => rfl

theorem off1_eq (i : grid0.Coords) : k0_off1 i = ![(i 1).val % 2, 1024 * (i 2).val, 0] := by
  have h : ∀ (a : Fin 2) (b : Fin 33) (d : Fin 4), k0_off1 (pt a b d) = ![b.val % 2, 1024 * d.val, 0] := by decide +kernel
  have e := h (i 0) (i 1) (i 2)
  rwa [← pt_eq i] at e
theorem off2_eq (i : grid0.Coords) : k0_off2 i = ![((i 1).val + 1) % 2, 0, 0] := by
  have h : ∀ (a : Fin 2) (b : Fin 33) (d : Fin 4), k0_off2 (pt a b d) = ![(b.val + 1) % 2, 0, 0] := by decide +kernel
  have e := h (i 0) (i 1) (i 2)
  rwa [← pt_eq i] at e
theorem off3_eq (i : grid0.Coords) (r : Fin 2) : k0_off3 i (BitVec.ofNat 32 (512 * r.val)) = ![1024 * (i 2).val + 512 * r.val, 0] := by
  have h : ∀ (a : Fin 2) (b : Fin 33) (d : Fin 4) (r : Fin 2), k0_off3 (pt a b d) (BitVec.ofNat 32 (512 * r.val)) = ![1024 * d.val + 512 * r.val, 0] := by
    decide +kernel
  have e := h (i 0) (i 1) (i 2) r
  rwa [← pt_eq i] at e
theorem off4_eq (i : grid0.Coords) (r : Fin 2) : k0_off4 i (BitVec.ofNat 32 (512 * r.val)) = ![1024 * (i 2).val + 512 * r.val, 0] := off3_eq i r
theorem off5_eq (i : grid0.Coords) : k0_off5 i = ![((i 1).val + 1) % 2, 0, 0] := off2_eq i
theorem off6_eq (i : grid0.Coords) (r : Fin 2) : k0_off6 i (BitVec.ofNat 32 (512 * r.val)) = ![1024 * (i 2).val + 512 * r.val, 0] := off3_eq i r
theorem off7_eq (i : grid0.Coords) : k0_off7 i = ![((i 1).val + 1) % 2, 0, 0] := off2_eq i

instance (i : grid0.Coords) : ClosedOff (k0_off1 i) := ⟨_, off1_eq i⟩
instance (i : grid0.Coords) : ClosedOff (k0_off2 i) := ⟨_, off2_eq i⟩
theorem off3T (i : grid0.Coords) : k0_off3 i 0#32 = ![1024 * (i 2).val + 512 * (0 : Fin 2).val, 0] := off3_eq i 0
theorem off3B (i : grid0.Coords) : k0_off3 i 512#32 = ![1024 * (i 2).val + 512 * (1 : Fin 2).val, 0] := off3_eq i 1
instance (i : grid0.Coords) : ClosedOff (k0_off3 i 0#32) := ⟨_, off3T i⟩
instance (i : grid0.Coords) : ClosedOff (k0_off3 i 512#32) := ⟨_, off3B i⟩
theorem off4T (i : grid0.Coords) : k0_off4 i 0#32 = ![1024 * (i 2).val + 512 * (0 : Fin 2).val, 0] := off4_eq i 0
theorem off4B (i : grid0.Coords) : k0_off4 i 512#32 = ![1024 * (i 2).val + 512 * (1 : Fin 2).val, 0] := off4_eq i 1
instance (i : grid0.Coords) : ClosedOff (k0_off4 i 0#32) := ⟨_, off4T i⟩
instance (i : grid0.Coords) : ClosedOff (k0_off4 i 512#32) := ⟨_, off4B i⟩
instance (i : grid0.Coords) : ClosedOff (k0_off5 i) := ⟨_, off5_eq i⟩
theorem off6T (i : grid0.Coords) : k0_off6 i 0#32 = ![1024 * (i 2).val + 512 * (0 : Fin 2).val, 0] := off6_eq i 0
theorem off6B (i : grid0.Coords) : k0_off6 i 512#32 = ![1024 * (i 2).val + 512 * (1 : Fin 2).val, 0] := off6_eq i 1
instance (i : grid0.Coords) : ClosedOff (k0_off6 i 0#32) := ⟨_, off6T i⟩
instance (i : grid0.Coords) : ClosedOff (k0_off6 i 512#32) := ⟨_, off6B i⟩
instance (i : grid0.Coords) : ClosedOff (k0_off7 i) := ⟨_, off7_eq i⟩

/-- The weight buffer with one block of rows put where the point stores it. -/
def fillW (i : grid0.Coords) (d : Vec F S2x4096x512 .bf16) (w : FVec F S1x1024x512 .bf16) : Vec F S2x4096x512 .bf16 :=
  VecWindow.put (s := S2x4096x512) d ![(i 1).val % 2, 1024 * (i 2).val, 0] S1x1024x512.size w

theorem slab_inb (i : grid0.Coords) : ∀ a, (![((i 1).val + 1) % 2, 0, 0] : Fin 3 → ℕ) a + S1x4096x512.size a ≤ S2x4096x512.size a := fun a =>
  match a with
  | 0 => (by omega : ((i 1).val + 1) % 2 + 1 ≤ 2)
  | 1 => (by decide : 0 + 4096 ≤ 4096)
  | 2 => (by decide : 0 + 512 ≤ 512)

/-- The slot of the weight buffer that the point multiplies by. -/
def slab (i : grid0.Coords) (d : Vec F S2x4096x512 .bf16) : Vec F S1x4096x512 .bf16 :=
  VecWindow.window (s := S2x4096x512) d ![((i 1).val + 1) % 2, 0, 0] S1x4096x512.size (slab_inb i)

/-- Where the point's rows of the partial sums begin: `r = 0` the first half of its block, `r = 1` the other. -/
abbrev accO (i : grid0.Coords) (r : Fin 2) : Fin 2 → ℕ := ![1024 * (i 2).val + 512 * r.val, 0]

theorem acc_inb (i : grid0.Coords) (r : Fin 2) : ∀ a, accO i r a + S512x512.size a ≤ S4096x512.size a := fun a =>
  match a with
  | 0 => by
    have e : (i 2).val < 4 := (i 2).isLt
    have e' := r.isLt
    exact (by omega : 1024 * (i 2).val + 512 * r.val + 512 ≤ 4096)
  | 1 => (by decide : 0 + 512 ≤ 512)

/-- Half a block of the partial sums. -/
def accGet (i : grid0.Coords) (r : Fin 2) (d : Vec F S4096x512 .f32) : Vec F S512x512 .f32 :=
  VecWindow.window (s := S4096x512) d (accO i r) S512x512.size (acc_inb i r)

/-- The partial sums with the two halves of the point's block put in. -/
def accPut (i : grid0.Coords) (d : Vec F S4096x512 .f32) (w w' : FVec F S512x512 .f32) : Vec F S4096x512 .f32 :=
  VecWindow.put (s := S4096x512) (VecWindow.put (s := S4096x512) d (accO i 0) S512x512.size w) (accO i 1) S512x512.size w'

/-- The second half is not touched by storing the first. -/
theorem accGet_put (i : grid0.Coords) (d : Vec F S4096x512 .f32) (w : FVec F S512x512 .f32) :
    accGet i 1 (VecWindow.put (s := S4096x512) d (accO i 0) S512x512.size w) = accGet i 1 d :=
  VecWindow.window_put_of_disjoint (s := S4096x512) d _ _ _ _ _ _ 0 (Or.inr (by show 1024 * (i 2).val + 512 * 0 + 512 ≤ 1024 * (i 2).val + 512 * 1; omega))

/-- The first 512 rows of a block. -/
def topX (x : Vec F S1024x4096 .bf16) : Vec F S512x4096 .bf16 :=
  VecWindow.window (s := S1024x4096) x ![0, 0] S512x4096.size inb_S1024x4096_S512x4096_0_0
/-- The last 512 rows of a block. -/
def botX (x : Vec F S1024x4096 .bf16) : Vec F S512x4096 .bf16 :=
  VecWindow.window (s := S1024x4096) x ![512, 0] S512x4096.size inb_S1024x4096_S512x4096_512_0
/-- The first 512 rows of the residual's block. -/
def topR (x : Vec F S1024x512 .f32) : Vec F S512x512 .f32 :=
  VecWindow.window (s := S1024x512) x ![0, 0] S512x512.size inb_S1024x512_S512x512_0_0
/-- The last 512 rows of the residual's block. -/
def botR (x : Vec F S1024x512 .f32) : Vec F S512x512 .f32 :=
  VecWindow.window (s := S1024x512) x ![512, 0] S512x512.size inb_S1024x512_S512x512_512_0
/-- The rows of the modulation's block. -/
def mod0 (x : Vec F S8x512 .f32) : Vec F S1x512 .f32 := VecWindow.window (s := S8x512) x ![0, 0] S1x512.size inb_S8x512_S1x512_0_0
def mod1 (x : Vec F S8x512 .f32) : Vec F S1x512 .f32 := VecWindow.window (s := S8x512) x ![1, 0] S1x512.size inb_S8x512_S1x512_1_0
def mod2 (x : Vec F S8x512 .f32) : Vec F S1x512 .f32 := VecWindow.window (s := S8x512) x ![2, 0] S1x512.size inb_S8x512_S1x512_2_0

/-- What a point of a column block's last step leaves in the output's block. -/
def outU (i : grid0.Coords) (x0 : Vec F S1024x4096 .bf16) (x2 : Vec F S1024x512 .f32) (x3 : Vec F S8x512 .f32)
    (a b : Vec F S512x512 .f32) (w : Vec F S1x4096x512 .bf16) : Vec F S1024x512 .f32 :=
  VecWindow.put (s := S1024x512) (VecWindow.put (s := S1024x512) (fun _ => FloatOps.ofBits .f32 0) ![0, 0] S512x512.size
      (k0_pay8 (topR x2) (k0_pay7 (BitVec.ofNat 32 (i 0).val) (BitVec.ofNat 32 (i 2).val) a (topX x0) w (mod2 x3) (mod1 x3) (mod0 x3))))
    ![512, 0] S512x512.size
    (k0_pay6 (k0_pay9 b (botX x0) w) (botR x2) (k0_pay11 (BitVec.ofNat 32 (i 0).val) (BitVec.ofNat 32 (i 2).val) (mod2 x3) (mod1 x3)) (mod0 x3)
      (k0_pay12 (BitVec.ofNat 32 (i 0).val) (BitVec.ofNat 32 (i 2).val)))

/-- The two halves cover the block, so what it held before is gone. -/
theorem halves (x x' : Vec F S1024x512 .f32) (w w' : FVec F S512x512 .f32) :
    VecWindow.put (s := S1024x512) (VecWindow.put (s := S1024x512) x ![0, 0] S512x512.size w) ![512, 0] S512x512.size w'
      = VecWindow.put (s := S1024x512) (VecWindow.put (s := S1024x512) x' ![0, 0] S512x512.size w) ![512, 0] S512x512.size w' := by
  funext y
  unfold VecWindow.put
  by_cases h : ∀ a, (![512, 0] : Fin 2 → ℕ) a ≤ (y a).val ∧ (y a).val < (![512, 0] : Fin 2 → ℕ) a + S512x512.size a
  · rw [dif_pos h, dif_pos h]
  · rw [dif_neg h, dif_neg h]
    have h0 : ∀ a, (![0, 0] : Fin 2 → ℕ) a ≤ (y a).val ∧ (y a).val < (![0, 0] : Fin 2 → ℕ) a + S512x512.size a := by
      have e0 : (y 0).val < 1024 := (y 0).isLt
      have e1 : (y 1).val < 512 := (y 1).isLt
      have hy : (y 0).val < 512 := by
        by_contra hc
        refine h fun a => ?_
        match a with
        | 0 => exact ⟨not_lt.mp hc, e0⟩
        | 1 => exact ⟨Nat.zero_le _, by show (y 1).val < 0 + 512; omega⟩
      intro a
      match a with
      | 0 => exact ⟨Nat.zero_le _, by show (y 0).val < 0 + 512; omega⟩
      | 1 => exact ⟨Nat.zero_le _, by show (y 1).val < 0 + 512; omega⟩
    rw [dif_pos h0, dif_pos h0]

set_option maxHeartbeats 3200000 in
theorem runA (c : Dev nD) (i : grid0.Coords) (arg3 : Memref sig .tc .vmem S1024x4096 .bf16) (harg3 : arg3.IsWhole)
    (arg4 : Memref sig .tc .vmem S1x1024x512 .f32) (harg4 : arg4.IsWhole) (arg5 : Memref sig .tc .vmem S1024x512 .f32) (harg5 : arg5.IsWhole)
    (arg6 : Memref sig .tc .vmem S8x512 .f32) (harg6 : arg6.IsWhole) (arg7 : Memref sig .tc .vmem S1024x512 .f32) (harg7 : arg7.IsWhole)
    (arg8 : Memref sig .tc .vmem S2x4096x512 .bf16) (harg8 : arg8.IsWhole) (arg9 : Memref sig .tc .vmem S4096x512 .f32) (harg9 : arg9.IsWhole)
    (x0 : Vec F S1024x4096 .bf16) (x1 : Vec F S1x1024x512 .f32) (x2 : Vec F S1024x512 .f32) (x3 : Vec F S8x512 .f32)
    (d7 : Vec F S1024x512 .f32) (d8 : Vec F S2x4096x512 .bf16) (d9 : Vec F S4096x512 .f32)
    (h1 : k0_cond1 i = 1#1) (h2 : ¬ k0_cond2 i = 1#1)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare d7
        ∗ owns (c : Thread nD τ) arg8 fullShare d8 ∗ owns (c : Thread nD τ) arg9 fullShare d9
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare d7
            ∗ owns (c : Thread nD τ) arg8 fullShare (fillW i d8 (k0_pay1 x1))
            ∗ owns (c : Thread nD τ) arg9 fullShare d9) -∗ K ⟨⟩))
      ⊢ wp frame (wpE (defs₀ (F := F)) Variants.none c none) E
          (cc0_matmul_residual i arg3 harg3 arg4 harg4 arg5 harg5 arg6 harg6 arg7 harg7 arg8 harg8 arg9 harg9) K := by
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hs0; obtain rfl := harg9.eq_unread hs1
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr
    swap; · iexact HS0
    ipureintro
    rw [View.read_writes_cons_put _ _ _ _ _ (off1_eq i), View.writes_nil, hs0]
    exact congrArg (fillW i d8) (congrArg k0_pay1 ((View.readAt_full (s := S1x1024x512) _ _ _).trans hf1))
  iexists _; isplitr
  swap; · iexact HS1
  ipureintro
  exact harg9.read_unread _

set_option maxHeartbeats 3200000 in
theorem runB0 (c : Dev nD) (i : grid0.Coords) (arg3 : Memref sig .tc .vmem S1024x4096 .bf16) (harg3 : arg3.IsWhole)
    (arg4 : Memref sig .tc .vmem S1x1024x512 .f32) (harg4 : arg4.IsWhole) (arg5 : Memref sig .tc .vmem S1024x512 .f32) (harg5 : arg5.IsWhole)
    (arg6 : Memref sig .tc .vmem S8x512 .f32) (harg6 : arg6.IsWhole) (arg7 : Memref sig .tc .vmem S1024x512 .f32) (harg7 : arg7.IsWhole)
    (arg8 : Memref sig .tc .vmem S2x4096x512 .bf16) (harg8 : arg8.IsWhole) (arg9 : Memref sig .tc .vmem S4096x512 .f32) (harg9 : arg9.IsWhole)
    (x0 : Vec F S1024x4096 .bf16) (x1 : Vec F S1x1024x512 .f32) (x2 : Vec F S1024x512 .f32) (x3 : Vec F S8x512 .f32)
    (d7 : Vec F S1024x512 .f32) (d8 : Vec F S2x4096x512 .bf16) (d9 : Vec F S4096x512 .f32)
    (h1 : k0_cond1 i = 1#1) (h2 : k0_cond2 i = 1#1) (h3 : k0_cond3 i = 1#1) (h4 : ¬ k0_cond4 i = 1#1) (h5 : ¬ k0_cond5 i = 1#1)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare d7
        ∗ owns (c : Thread nD τ) arg8 fullShare d8 ∗ owns (c : Thread nD τ) arg9 fullShare d9
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare d7
            ∗ owns (c : Thread nD τ) arg8 fullShare (fillW i d8 (k0_pay1 x1))
            ∗ owns (c : Thread nD τ) arg9 fullShare (accPut i d9 (k0_pay2 (topX x0) (slab i (fillW i d8 (k0_pay1 x1)))) (k0_pay3 (botX x0) (slab i (fillW i d8 (k0_pay1 x1)))))) -∗ K ⟨⟩))
      ⊢ wp frame (wpE (defs₀ (F := F)) Variants.none c none) E
          (cc0_matmul_residual i arg3 harg3 arg4 harg4 arg5 harg5 arg6 harg6 arg7 harg7 arg8 harg8 arg9 harg9) K := by
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hs0; obtain rfl := harg9.eq_unread hs1
  sl_exec
  sl_step
  have e8 : arg8.view.read (Elt F) (arg8.view.writes (Elt F) (harg8.unread d8) (runB0.sl.HS0_1 c i arg4 harg4 x1 h1)) = fillW i d8 (k0_pay1 x1) := by
    delta runB0.sl.HS0_1; rw [View.read_writes_cons_put _ _ _ _ _ (off1_eq i), View.writes_nil, hs0]
    exact congrArg (fillW i d8) (congrArg k0_pay1 ((View.readAt_full (s := S1x1024x512) _ _ _).trans hf1))
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr
    swap; · iexact HS0
    ipureintro
    exact e8
  iexists _; isplitr
  swap; · iexact HS1
  ipureintro
  delta runB0.sl.v41
  rw [View.read_writes_cons_put _ _ _ _ _ (off3B i), View.read_writes_cons_put _ _ _ _ _ (off3T i), View.writes_nil, hs1,
    View.readAt_unit arg3.view _ _ rfl inb_S1024x4096_S512x4096_0_0, View.readAt_unit arg3.view _ _ rfl inb_S1024x4096_S512x4096_512_0, hf0,
    View.readAt_unit arg8.view _ _ (off2_eq i) (slab_inb i), e8]
  rfl

set_option maxHeartbeats 3200000 in
theorem runB1 (c : Dev nD) (i : grid0.Coords) (arg3 : Memref sig .tc .vmem S1024x4096 .bf16) (harg3 : arg3.IsWhole)
    (arg4 : Memref sig .tc .vmem S1x1024x512 .f32) (harg4 : arg4.IsWhole) (arg5 : Memref sig .tc .vmem S1024x512 .f32) (harg5 : arg5.IsWhole)
    (arg6 : Memref sig .tc .vmem S8x512 .f32) (harg6 : arg6.IsWhole) (arg7 : Memref sig .tc .vmem S1024x512 .f32) (harg7 : arg7.IsWhole)
    (arg8 : Memref sig .tc .vmem S2x4096x512 .bf16) (harg8 : arg8.IsWhole) (arg9 : Memref sig .tc .vmem S4096x512 .f32) (harg9 : arg9.IsWhole)
    (x0 : Vec F S1024x4096 .bf16) (x1 : Vec F S1x1024x512 .f32) (x2 : Vec F S1024x512 .f32) (x3 : Vec F S8x512 .f32)
    (d7 : Vec F S1024x512 .f32) (d8 : Vec F S2x4096x512 .bf16) (d9 : Vec F S4096x512 .f32)
    (h1 : k0_cond1 i = 1#1) (h2 : k0_cond2 i = 1#1) (h3 : ¬ k0_cond3 i = 1#1) (h4 : k0_cond4 i = 1#1) (h5 : ¬ k0_cond5 i = 1#1)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare d7
        ∗ owns (c : Thread nD τ) arg8 fullShare d8 ∗ owns (c : Thread nD τ) arg9 fullShare d9
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare d7
            ∗ owns (c : Thread nD τ) arg8 fullShare (fillW i d8 (k0_pay1 x1))
            ∗ owns (c : Thread nD τ) arg9 fullShare (accPut i d9 (k0_pay4 (accGet i 0 d9) (topX x0) (slab i (fillW i d8 (k0_pay1 x1)))) (k0_pay5 (accGet i 1 d9) (botX x0) (slab i (fillW i d8 (k0_pay1 x1)))))) -∗ K ⟨⟩))
      ⊢ wp frame (wpE (defs₀ (F := F)) Variants.none c none) E
          (cc0_matmul_residual i arg3 harg3 arg4 harg4 arg5 harg5 arg6 harg6 arg7 harg7 arg8 harg8 arg9 harg9) K := by
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hs0; obtain rfl := harg9.eq_unread hs1
  sl_exec
  sl_step
  have e8 : arg8.view.read (Elt F) (arg8.view.writes (Elt F) (harg8.unread d8) (runB1.sl.HS0_1 c i arg4 harg4 x1 h1)) = fillW i d8 (k0_pay1 x1) := by
    delta runB1.sl.HS0_1; rw [View.read_writes_cons_put _ _ _ _ _ (off1_eq i), View.writes_nil, hs0]
    exact congrArg (fillW i d8) (congrArg k0_pay1 ((View.readAt_full (s := S1x1024x512) _ _ _).trans hf1))
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr
    swap; · iexact HS0
    ipureintro
    exact e8
  iexists _; isplitr
  swap; · iexact HS1
  ipureintro
  delta runB1.sl.v58 runB1.sl.HS1_1 runB1.sl.v46
  rw [View.read_writes_cons_put _ _ _ _ _ (off4B i), View.readAt_unit arg9.view _ _ (off4B i) (acc_inb i 1), View.read_writes_cons_put _ _ _ _ _ (off4T i),
    View.readAt_unit arg9.view _ _ (off4T i) (acc_inb i 0), View.writes_nil, hs1,
    View.readAt_unit arg3.view _ _ rfl inb_S1024x4096_S512x4096_0_0, View.readAt_unit arg3.view _ _ rfl inb_S1024x4096_S512x4096_512_0, hf0,
    View.readAt_unit arg8.view _ _ (off5_eq i) (slab_inb i), e8]
  exact congrArg (fun v => accPut i d9 _ (k0_pay5 v _ _)) (accGet_put i d9 _)

set_option maxHeartbeats 3200000 in
theorem runB2 (c : Dev nD) (i : grid0.Coords) (arg3 : Memref sig .tc .vmem S1024x4096 .bf16) (harg3 : arg3.IsWhole)
    (arg4 : Memref sig .tc .vmem S1x1024x512 .f32) (harg4 : arg4.IsWhole) (arg5 : Memref sig .tc .vmem S1024x512 .f32) (harg5 : arg5.IsWhole)
    (arg6 : Memref sig .tc .vmem S8x512 .f32) (harg6 : arg6.IsWhole) (arg7 : Memref sig .tc .vmem S1024x512 .f32) (harg7 : arg7.IsWhole)
    (arg8 : Memref sig .tc .vmem S2x4096x512 .bf16) (harg8 : arg8.IsWhole) (arg9 : Memref sig .tc .vmem S4096x512 .f32) (harg9 : arg9.IsWhole)
    (x0 : Vec F S1024x4096 .bf16) (x1 : Vec F S1x1024x512 .f32) (x2 : Vec F S1024x512 .f32) (x3 : Vec F S8x512 .f32)
    (d8 : Vec F S2x4096x512 .bf16) (d9 : Vec F S4096x512 .f32)
    (h1 : k0_cond1 i = 1#1) (h2 : k0_cond2 i = 1#1) (h3 : ¬ k0_cond3 i = 1#1) (h4 : ¬ k0_cond4 i = 1#1) (h5 : k0_cond5 i = 1#1)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ owns (c : Thread nD τ) arg8 fullShare d8 ∗ owns (c : Thread nD τ) arg9 fullShare d9
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (outU i x0 x2 x3 (accGet i 0 d9) (accGet i 1 d9) (slab i (fillW i d8 (k0_pay1 x1))))
            ∗ owns (c : Thread nD τ) arg8 fullShare (fillW i d8 (k0_pay1 x1))
            ∗ owns (c : Thread nD τ) arg9 fullShare d9) -∗ K ⟨⟩))
      ⊢ wp frame (wpE (defs₀ (F := F)) Variants.none c none) E
          (cc0_matmul_residual i arg3 harg3 arg4 harg4 arg5 harg5 arg6 harg6 arg7 harg7 arg8 harg8 arg9 harg9) K := by
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3
  obtain rfl := harg8.eq_unread hs0; obtain rfl := harg9.eq_unread hs1
  sl_exec
  sl_step
  have e8 : arg8.view.read (Elt F) (arg8.view.writes (Elt F) (harg8.unread d8) (runB2.sl.HS0_1 c i arg4 harg4 x1 h1)) = fillW i d8 (k0_pay1 x1) := by
    delta runB2.sl.HS0_1; rw [View.read_writes_cons_put _ _ _ _ _ (off1_eq i), View.writes_nil, hs0]
    exact congrArg (fillW i d8) (congrArg k0_pay1 ((View.readAt_full (s := S1x1024x512) _ _ _).trans hf1))
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    delta runB2.sl.r runB2.sl.r_1 runB2.sl.r_2 runB2.sl.r_3 runB2.sl.r_4 runB2.sl.r_5 runB2.sl.r_6
    rw [View.read_writes_cons_put _ _ _ _ _ rfl, View.read_writes_cons_put _ _ _ _ _ rfl, halves _ (fun _ => FloatOps.ofBits .f32 0),
      View.readAt_unit arg9.view _ _ (off6T i) (acc_inb i 0), View.readAt_unit arg9.view _ _ (off6B i) (acc_inb i 1), hs1,
      View.readAt_unit arg3.view _ _ rfl inb_S1024x4096_S512x4096_0_0, View.readAt_unit arg3.view _ _ rfl inb_S1024x4096_S512x4096_512_0, hf0,
      View.readAt_unit arg5.view _ _ rfl inb_S1024x512_S512x512_0_0, View.readAt_unit arg5.view _ _ rfl inb_S1024x512_S512x512_512_0, hf2,
      View.readAt_unit arg6.view _ _ rfl inb_S8x512_S1x512_0_0, View.readAt_unit arg6.view _ _ rfl inb_S8x512_S1x512_1_0,
      View.readAt_unit arg6.view _ _ rfl inb_S8x512_S1x512_2_0, hf3, View.readAt_unit arg8.view _ _ (off7_eq i) (slab_inb i), e8]
    rfl
  isplitl [HS0]
  · iexists _; isplitr
    swap; · iexact HS0
    ipureintro
    exact e8
  iexists _; isplitr
  swap; · iexact HS1
  ipureintro
  exact harg9.read_unread _

set_option maxHeartbeats 3200000 in
theorem runC2 (c : Dev nD) (i : grid0.Coords) (arg3 : Memref sig .tc .vmem S1024x4096 .bf16) (harg3 : arg3.IsWhole)
    (arg4 : Memref sig .tc .vmem S1x1024x512 .f32) (harg4 : arg4.IsWhole) (arg5 : Memref sig .tc .vmem S1024x512 .f32) (harg5 : arg5.IsWhole)
    (arg6 : Memref sig .tc .vmem S8x512 .f32) (harg6 : arg6.IsWhole) (arg7 : Memref sig .tc .vmem S1024x512 .f32) (harg7 : arg7.IsWhole)
    (arg8 : Memref sig .tc .vmem S2x4096x512 .bf16) (harg8 : arg8.IsWhole) (arg9 : Memref sig .tc .vmem S4096x512 .f32) (harg9 : arg9.IsWhole)
    (x0 : Vec F S1024x4096 .bf16) (x1 : Vec F S1x1024x512 .f32) (x2 : Vec F S1024x512 .f32) (x3 : Vec F S8x512 .f32)
    (d8 : Vec F S2x4096x512 .bf16) (d9 : Vec F S4096x512 .f32)
    (h1 : ¬ k0_cond1 i = 1#1) (h2 : k0_cond2 i = 1#1) (h3 : ¬ k0_cond3 i = 1#1) (h4 : ¬ k0_cond4 i = 1#1) (h5 : k0_cond5 i = 1#1)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ owns (c : Thread nD τ) arg8 fullShare d8 ∗ owns (c : Thread nD τ) arg9 fullShare d9
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (outU i x0 x2 x3 (accGet i 0 d9) (accGet i 1 d9) (slab i d8))
            ∗ owns (c : Thread nD τ) arg8 fullShare d8
            ∗ owns (c : Thread nD τ) arg9 fullShare d9) -∗ K ⟨⟩))
      ⊢ wp frame (wpE (defs₀ (F := F)) Variants.none c none) E
          (cc0_matmul_residual i arg3 harg3 arg4 harg4 arg5 harg5 arg6 harg6 arg7 harg7 arg8 harg8 arg9 harg9) K := by
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3
  obtain rfl := harg8.eq_unread hs0; obtain rfl := harg9.eq_unread hs1
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    delta runC2.sl.r runC2.sl.r_1 runC2.sl.r_2 runC2.sl.r_3 runC2.sl.r_4 runC2.sl.r_5 runC2.sl.r_6
    rw [View.read_writes_cons_put _ _ _ _ _ rfl, View.read_writes_cons_put _ _ _ _ _ rfl, halves _ (fun _ => FloatOps.ofBits .f32 0),
      View.readAt_unit arg9.view _ _ (off6T i) (acc_inb i 0), View.readAt_unit arg9.view _ _ (off6B i) (acc_inb i 1), hs1,
      View.readAt_unit arg3.view _ _ rfl inb_S1024x4096_S512x4096_0_0, View.readAt_unit arg3.view _ _ rfl inb_S1024x4096_S512x4096_512_0, hf0,
      View.readAt_unit arg5.view _ _ rfl inb_S1024x512_S512x512_0_0, View.readAt_unit arg5.view _ _ rfl inb_S1024x512_S512x512_512_0, hf2,
      View.readAt_unit arg6.view _ _ rfl inb_S8x512_S1x512_0_0, View.readAt_unit arg6.view _ _ rfl inb_S8x512_S1x512_1_0,
      View.readAt_unit arg6.view _ _ rfl inb_S8x512_S1x512_2_0, hf3, View.readAt_unit arg8.view _ _ (off7_eq i) (slab_inb i), hs0]
    rfl
  isplitl [HS0]
  · iexists _; isplitr
    swap; · iexact HS0
    ipureintro
    exact harg8.read_unread _
  iexists _; isplitr
  swap; · iexact HS1
  ipureintro
  exact harg9.read_unread _

end Cert.Proof.Down

end
-- ==== Proof.DownFill.lean ====
/- What the weight buffer and the partial sums of the second product hold along the grid. -/
module

public import proofs.«01_k».proof.Proof.DownRun
public import proofs.«01_k».proof.Proof.Slots

@[expose] public section

set_option maxRecDepth 16384

noncomputable section

namespace Cert.Proof.Down

open Cert.Kernel5Ideal Cert.Kernel5Ideal.Gen
open Idealize.ShloMosaic Idealize.ShloMosaic.TcCoe
open Idealize.SL Idealize.SL.Sem

variable {F : FTy → Type} [FloatOps F]

/-! ## The weights -/

/-- The slot filled over step `T`. -/
abbrev slabOf (B : ℕ → FVec F S1x1024x512 .bf16) (T : ℕ) : Vec F S1x4096x512 .bf16 := Slots.slabOf 4 B T

/-- Before a part's point `n` each slot holds, of each of the 32 steps, the blocks stored and not yet stored over. -/
abbrev Inv (B : ℕ → FVec F S1x1024x512 .bf16) (n : ℕ) (d : Vec F S2x4096x512 .bf16) : Prop := Slots.Inv 4 32 B n d

section
variable (B : ℕ → FVec F S1x1024x512 .bf16) (d : Vec F S2x4096x512 .bf16)

theorem inv_put (i : grid0.Coords) (n : ℕ) (h1 : (i 1).val = n / 4) (h2 : (i 2).val = n % 4) (hd : Inv B n d) : Inv B (n + 1) (fillW i d (B n)) :=
  Slots.inv_put 4 32 (.inr ⟨rfl, rfl⟩) B d n _ (by rw [h1, h2]) hd

theorem inv_skip (n : ℕ) (hn : 128 ≤ n) (hd : Inv B n d) : Inv B (n + 1) d := Slots.inv_skip 4 32 (.inr ⟨rfl, rfl⟩) B d n (by omega) hd

theorem slab_inv (i : grid0.Coords) (n T : ℕ) (hT : T < 32) (h1 : (i 1).val = T + 1) (ha : 4 * (T + 1) ≤ n) (hb : n ≤ 4 * (T + 2)) (hd : Inv B n d) :
    slab i d = slabOf B T :=
  Slots.slab_inv 4 32 (.inr ⟨rfl, rfl⟩) B d _ (slab_inb i) T n (by rw [h1, show (T + 1 + 1) % 2 = T % 2 by omega]) hT ha hb hd
end

/-! ## The partial sums -/

/-- Half `r` of block `q` of the partial sums begins here. -/
abbrev rowO (q : Fin 4) (r : Fin 2) : Fin 2 → ℕ := ![1024 * q.val + 512 * r.val, 0]

theorem row_inb (q : Fin 4) (r : Fin 2) : ∀ a, rowO q r a + S512x512.size a ≤ S4096x512.size a := fun a =>
  match a with
  | 0 => (by omega : 1024 * q.val + 512 * r.val + 512 ≤ 4096)
  | 1 => (by decide : 0 + 512 ≤ 512)

/-- Half `r` of block `q` of the partial sums. -/
def rowGet (q : Fin 4) (r : Fin 2) (d : Vec F S4096x512 .f32) : Vec F S512x512 .f32 :=
  VecWindow.window (s := S4096x512) d (rowO q r) S512x512.size (row_inb q r)

theorem accGet_eq (i : grid0.Coords) (r : Fin 2) (d : Vec F S4096x512 .f32) : accGet i r d = rowGet (i 2) r d := rfl

/-- Storing a point's block leaves the other blocks. -/
theorem rowGet_other (i : grid0.Coords) (q : Fin 4) (r : Fin 2) (h : q.val ≠ (i 2).val) (d : Vec F S4096x512 .f32) (w w' : FVec F S512x512 .f32) :
    rowGet q r (accPut i d w w') = rowGet q r d := by
  have hr := r.isLt
  refine (VecWindow.window_put_of_disjoint (s := S4096x512) _ (accO i 1) _ (rowO q r) _ _ _ 0 ?_).trans
    (VecWindow.window_put_of_disjoint (s := S4096x512) _ (accO i 0) _ (rowO q r) _ _ _ 0 ?_)
  · show 1024 * q.val + 512 * r.val + 512 ≤ 1024 * (i 2).val + 512 * 1 ∨ 1024 * (i 2).val + 512 * 1 + 512 ≤ 1024 * q.val + 512 * r.val
    omega
  · show 1024 * q.val + 512 * r.val + 512 ≤ 1024 * (i 2).val + 512 * 0 ∨ 1024 * (i 2).val + 512 * 0 + 512 ≤ 1024 * q.val + 512 * r.val
    omega

/-- Storing a point's block leaves what it stored. -/
theorem rowGet_same (i : grid0.Coords) (d : Vec F S4096x512 .f32) (w w' : FVec F S512x512 .f32) :
    rowGet (i 2) 0 (accPut i d w w') = w ∧ rowGet (i 2) 1 (accPut i d w w') = w' :=
  ⟨(VecWindow.window_put_of_disjoint (s := S4096x512) _ (accO i 1) _ (rowO (i 2) 0) _ _ _ 0
      (Or.inl (by show 1024 * (i 2).val + 512 * 0 + 512 ≤ 1024 * (i 2).val + 512 * 1; omega))).trans (VecWindow.window_put_same (s := S4096x512) _ _ _ _ _),
    VecWindow.window_put_same (s := S4096x512) _ _ _ _ _⟩

/-- A half's partial sums after step `j`, from the rows `X` and the weights `W` of each step: begun anew with each column block. -/
def accV (X : ℕ → Vec F S512x4096 .bf16) (W : ℕ → Vec F S1x4096x512 .bf16) : ℕ → Vec F S512x512 .f32
  | 0 => k0_pay2 (X 0) (W 0)
  | j + 1 => if (j + 1) % 4 = 0 then k0_pay2 (X (j + 1)) (W (j + 1)) else k0_pay4 (accV X W j) (X (j + 1)) (W (j + 1))

theorem accV_first (X : ℕ → Vec F S512x4096 .bf16) (W : ℕ → Vec F S1x4096x512 .bf16) (j : ℕ) (h : j % 4 = 0) : accV X W j = k0_pay2 (X j) (W j) := by
  cases j with
  | zero => rfl
  | succ j => exact if_pos h
theorem accV_next (X : ℕ → Vec F S512x4096 .bf16) (W : ℕ → Vec F S1x4096x512 .bf16) (j : ℕ) (h : (j + 1) % 4 ≠ 0) :
    accV X W (j + 1) = k0_pay4 (accV X W j) (X (j + 1)) (W (j + 1)) := if_neg h

/-- Before a part's point `n` each half of each block holds its partial sums, if it is read again. -/
def AInv (X : Fin 4 → Fin 2 → ℕ → Vec F S512x4096 .bf16) (W : ℕ → Vec F S1x4096x512 .bf16) (n : ℕ) (d : Vec F S4096x512 .f32) : Prop :=
  ∀ (q : Fin 4) (r : Fin 2) (j : ℕ), j % 4 < 3 → 4 * (j + 1) + q.val < n → n ≤ 4 * (j + 2) + q.val → rowGet q r d = accV (X q r) W j

section
variable (X : Fin 4 → Fin 2 → ℕ → Vec F S512x4096 .bf16) (W : ℕ → Vec F S1x4096x512 .bf16) (d : Vec F S4096x512 .f32)

theorem ainv_zero : AInv X W 0 d := fun _ _ _ _ h _ => absurd h (Nat.not_lt_zero _)

/-- A point that stores no sums: one of the first step, or of a column block's last. -/
theorem ainv_skip (n : ℕ) (hn : n < 4 ∨ n / 4 % 4 = 0) (hd : AInv X W n d) : AInv X W (n + 1) d := by
  intro q r j hj ha hb
  have hq := q.isLt
  exact hd q r j hj (by omega) (by omega)

/-- A point of step `j` that stores its block's sums. -/
theorem ainv_put (i : grid0.Coords) (n j : ℕ) (h1 : n / 4 = j + 1) (h2 : (i 2).val = n % 4) (w w' : FVec F S512x512 .f32)
    (hw : w = accV (X (i 2) 0) W j) (hw' : w' = accV (X (i 2) 1) W j) (hd : AInv X W n d) : AInv X W (n + 1) (accPut i d w w') := by
  intro q r k hk ha hb
  have hq := q.isLt
  by_cases h : q.val = (i 2).val
  · obtain rfl : q = i 2 := Fin.ext h
    obtain rfl : k = j := by omega
    match r with
    | 0 => exact (rowGet_same i d w w').1.trans hw
    | 1 => exact (rowGet_same i d w w').2.trans hw'
  · rw [rowGet_other i q r h]
    exact hd q r k hk (by omega) (by omega)

/-- The sums a point of step `j + 1` reads. -/
theorem ainv_get (i : grid0.Coords) (n j : ℕ) (h1 : n / 4 = j + 2) (h2 : (i 2).val = n % 4) (hj : j % 4 < 3) (r : Fin 2) (hd : AInv X W n d) :
    accGet i r d = accV (X (i 2) r) W j := by
  have hq := (i 2).isLt
  exact hd (i 2) r j hj (by omega) (by omega)
end

end Cert.Proof.Down

end
-- ==== Proof.DownFrame.lean ====
/- The run of the second product over its grid, for any values: what the pipeline's buffers hold after each point, and
   that the launch ends with the arguments unchanged. -/
module

public import proofs.«01_k».proof.Proof.DownFill

@[expose] public section

set_option maxRecDepth 16384

noncomputable section

namespace Cert.Proof.Down

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem coords (t : Fin cfg0.N) :
    (grid0.coords t 0).val = t.val / 132 ∧ (grid0.coords t 1).val = t.val % 132 / 4 ∧ (grid0.coords t 2).val = t.val % 132 % 4 :=
  (by decide +kernel : ∀ t : Fin grid0.N,
    (grid0.coords t 0).val = t.val / 132 ∧ (grid0.coords t 1).val = t.val % 132 / 4 ∧ (grid0.coords t 2).val = t.val % 132 % 4) t
theorem cond1 (t : Fin cfg0.N) : k0_cond1 (grid0.coords t) = 1#1 ↔ t.val % 132 < 128 :=
  (by decide +kernel : ∀ t : Fin grid0.N, k0_cond1 (grid0.coords t) = 1#1 ↔ t.val % 132 < 128) t
theorem cond2 (t : Fin cfg0.N) : k0_cond2 (grid0.coords t) = 1#1 ↔ 4 ≤ t.val % 132 :=
  (by decide +kernel : ∀ t : Fin grid0.N, k0_cond2 (grid0.coords t) = 1#1 ↔ 4 ≤ t.val % 132) t
theorem cond3 (t : Fin cfg0.N) (h : 4 ≤ t.val % 132) : k0_cond3 (grid0.coords t) = 1#1 ↔ t.val % 132 / 4 % 4 = 1 :=
  (by decide +kernel : ∀ t : Fin grid0.N, 4 ≤ t.val % 132 → (k0_cond3 (grid0.coords t) = 1#1 ↔ t.val % 132 / 4 % 4 = 1)) t h
theorem cond4 (t : Fin cfg0.N) (h : 4 ≤ t.val % 132) : k0_cond4 (grid0.coords t) = 1#1 ↔ 2 ≤ t.val % 132 / 4 % 4 :=
  (by decide +kernel : ∀ t : Fin grid0.N, 4 ≤ t.val % 132 → (k0_cond4 (grid0.coords t) = 1#1 ↔ 2 ≤ t.val % 132 / 4 % 4)) t h
theorem cond5 (t : Fin cfg0.N) (h : 4 ≤ t.val % 132) : k0_cond5 (grid0.coords t) = 1#1 ↔ t.val % 132 / 4 % 4 = 0 :=
  (by decide +kernel : ∀ t : Fin grid0.N, 4 ≤ t.val % 132 → (k0_cond5 (grid0.coords t) = 1#1 ↔ t.val % 132 / 4 % 4 = 0)) t h
/-- The output's block is written back at every point that stores it, and at no other. -/
theorem flush4 : ∀ t : Fin cfg0.N, (cfg0.win 4).flush t = decide (4 ≤ t.val % 132 ∧ t.val % 132 / 4 % 4 = 0) :=
  (by decide +kernel : ∀ t : Fin grid0.N, win0_4.flush t = decide (4 ≤ t.val % 132 ∧ t.val % 132 / 4 % 4 = 0))
theorem idle4 (t : Fin cfg0.N) : cfg0.idle 4 (cfg0.grid.coords t) = decide (¬ (4 ≤ t.val % 132 ∧ t.val % 132 / 4 % 4 = 0)) :=
  (by decide +kernel : ∀ t : Fin grid0.N, idle0 4 (grid0.coords t) = decide (¬ (4 ≤ t.val % 132 ∧ t.val % 132 / 4 % 4 = 0))) t

/-! ## The memory at the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := rfl

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An array which the reshape does not write is as launched when the region starts. -/
theorem V_kept (c : Dev nD) (b : Ref sig .tc) (h0 : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h0))

/-- A window's block at a point, as the array holds it when the region starts. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 (t : Fin cfg0.N) : Memref sig .tc .vmem S1024x4096 .bf16 := win0_0.stage (cfg0.slots t 0)
abbrev ms1 (t : Fin cfg0.N) : Memref sig .tc .vmem S1x1024x512 .f32 := win0_1.stage (cfg0.slots t 1)
abbrev ms2 (t : Fin cfg0.N) : Memref sig .tc .vmem S1024x512 .f32 := win0_2.stage (cfg0.slots t 2)
abbrev ms3 (t : Fin cfg0.N) : Memref sig .tc .vmem S8x512 .f32 := win0_3.stage (cfg0.slots t 3)
abbrev ms4 (t : Fin cfg0.N) : Memref sig .tc .vmem S1024x512 .f32 := win0_4.stage (cfg0.slots t 4)
abbrev sc8 : Memref sig .tc .vmem S2x4096x512 .bf16 := Memref.whole cc0_scratch0
abbrev sc9 : Memref sig .tc .vmem S4096x512 .f32 := Memref.whole cc0_scratch1

theorem PhiA0_eq (c : Dev nD) :
    (Pipeline.ΦA spec0 c : sProp 𝕄)
      = iprop(iprop((∃ d, owns (c : Thread nD τ) sc8 fullShare d) ∗ (∃ d, owns (c : Thread nD τ) sc9 fullShare d)) ∗ (∃ r, prngReg c r)) := by
  unfold Pipeline.ΦA; rw [scopedRest0_eq]; simp only [sc8, sc9, owns_whole]; try rfl

/-! ## The proof data -/

/-- The grid point with number `n`. -/
def at_ (n : ℕ) : Fin cfg0.N := ⟨n % 264, Nat.mod_lt _ (by decide)⟩

theorem at_val (t : Fin cfg0.N) : at_ t.val = t := Fin.ext (Nat.mod_eq_of_lt t.isLt)

/-- The blocks of the weights, point by point of part `p`, rounded. -/
def wB (c : Dev nD) (p n : ℕ) : FVec F S1x1024x512 .bf16 := k0_pay1 (iblk m c 1 (at_ (132 * p + n)))

/-- Half `r` of the rows that block `q` of part `p` multiplies at step `j`. -/
def xH (c : Dev nD) (p : ℕ) (q : Fin 4) (r : Fin 2) (j : ℕ) : Vec F S512x4096 .bf16 :=
  match r with
  | 0 => topX (iblk m c 0 (at_ (132 * p + (4 * (j + 1) + q.val))))
  | 1 => botX (iblk m c 0 (at_ (132 * p + (4 * (j + 1) + q.val))))

/-- The partial sums of half `r` of block `q` of part `p` after step `j`. -/
abbrev aV (c : Dev nD) (p : ℕ) (q : Fin 4) (r : Fin 2) (j : ℕ) : Vec F S512x512 .f32 := accV (xH m c p q r) (slabOf (wB m c p)) j

/-- What the output's block holds after a point that stores it. -/
def outAt (c : Dev nD) (t : Fin cfg0.N) : Vec F S1024x512 .f32 :=
  outU (grid0.coords t) (iblk m c 0 t) (iblk m c 2 t) (iblk m c 3 t)
    (aV m c (t.val / 132) (grid0.coords t 2) 0 (t.val % 132 / 4 - 2)) (aV m c (t.val / 132) (grid0.coords t 2) 1 (t.val % 132 / 4 - 2))
    (slabOf (wB m c (t.val / 132)) (t.val % 132 / 4 - 1))

/-- The two buffers hold, in point `n` of part `p`, what the part's points so far stored. -/
def Held (c : Dev nD) (p n : ℕ) (d8 : Vec F S2x4096x512 .bf16) (d9 : Vec F S4096x512 .f32) : Prop :=
  Inv (wB m c p) n d8 ∧ AInv (xH m c p) (slabOf (wB m c p)) n d9

/-- A part's points begin anew. -/
theorem held_next (c : Dev nD) (n : ℕ) (d8 : Vec F S2x4096x512 .bf16) (d9 : Vec F S4096x512 .f32) (h : Held m c (n / 132) (n % 132 + 1) d8 d9) :
    Held m c ((n + 1) / 132) ((n + 1) % 132) d8 d9 := by
  by_cases hn : n % 132 = 131
  · rw [show (n + 1) % 132 = 0 by omega]
    exact ⟨Slots.inv_zero 4 32 _ _, ainv_zero _ _ _⟩
  · rwa [show (n + 1) % 132 = n % 132 + 1 by omega, show (n + 1) / 132 = n / 132 by omega]

/-- The invariant before point `n`. -/
def PhiAt (c : Dev nD) (n : ℕ) : sProp 𝕄 :=
  iprop((∃ d8 d9, ⌜Held m c (n / 132) (n % 132) d8 d9⌝ ∗ owns (c : Thread nD τ) sc8 fullShare d8 ∗ owns (c : Thread nD τ) sc9 fullShare d9) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiAt m c t.val
  q _ := fullShare
  owed _ := 0

theorem A_eq (c : Dev nD) (w : Fin cfg0.W) : (dats m 0 c).A w = V m c (Pipeline.arrRef spec0 w) := by dsimp only [dats]
theorem after_4 (c : Dev nD) (t : Fin cfg0.N) : (dats m 0 c).after 4 t = outAt m c t := by dsimp only [dats]
theorem bef_0 (c : Dev nD) (t : Fin cfg0.N) (d) : (dats m 0 c).before 0 t d = iblk m c 0 t :=
  (dats m 0 c).before_in_eq_fetched 0 rfl (fun _ => rfl) (fun _ _ _ => rfl) (fun _ => rfl) t d
theorem bef_1 (c : Dev nD) (t : Fin cfg0.N) (d) : (dats m 0 c).before 1 t d = iblk m c 1 t :=
  (dats m 0 c).before_in_eq_fetched 1 rfl (fun _ => rfl) (fun _ _ _ => rfl) (fun _ => rfl) t d
theorem bef_2 (c : Dev nD) (t : Fin cfg0.N) (d) : (dats m 0 c).before 2 t d = iblk m c 2 t :=
  (dats m 0 c).before_in_eq_fetched 2 rfl (fun _ => rfl) (fun _ _ _ => rfl) (fun _ => rfl) t d
theorem bef_3 (c : Dev nD) (t : Fin cfg0.N) (d) : (dats m 0 c).before 3 t d = iblk m c 3 t :=
  (dats m 0 c).before_in_eq_fetched 3 rfl (fun _ => rfl) (fun _ _ _ => rfl) (fun _ => rfl) t d

/-! ## The body at a point -/

/-- What the body is called with at point `t`. -/
def bodyPre (c : Dev nD) (t : Fin cfg0.N) : sProp 𝕄 :=
  iprop(PhiAt m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns, the output's block at `P`. -/
def bodyPost (c : Dev nD) (t : Fin cfg0.N) (P : sProp 𝕄) : sProp 𝕄 :=
  iprop(PhiAt m c (t.val + 1) ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ P)

theorem N_lt (t : Fin cfg0.N) : t.val < 264 := t.isLt

theorem wB_at (c : Dev nD) (t : Fin cfg0.N) : wB m c (t.val / 132) (t.val % 132) = k0_pay1 (iblk m c 1 t) := by
  unfold wB; rw [Nat.div_add_mod, at_val]

theorem fill (c : Dev nD) (t : Fin cfg0.N) (d) (h : Inv (wB m c (t.val / 132)) (t.val % 132) d) :
    Inv (wB m c (t.val / 132)) (t.val % 132 + 1) (fillW (grid0.coords t) d (k0_pay1 (iblk m c 1 t))) := by
  rw [← wB_at]; exact inv_put _ d _ _ (coords t).2.1 (coords t).2.2 h

/-- The slot a point multiplies by, whether or not the point's own block is in. -/
theorem slabs (c : Dev nD) (t : Fin cfg0.N) (ht : 4 ≤ t.val % 132) (d) (n : ℕ) (hn : t.val % 132 ≤ n) (hn' : n ≤ t.val % 132 + 1)
    (h : Inv (wB m c (t.val / 132)) n d) : slab (grid0.coords t) d = slabOf (wB m c (t.val / 132)) (t.val % 132 / 4 - 1) :=
  slab_inv _ d _ n _ (by omega) (by rw [(coords t).2.1]; omega) (by omega) (by omega) h

theorem xH_at (c : Dev nD) (t : Fin cfg0.N) (ht : 4 ≤ t.val % 132) :
    xH m c (t.val / 132) (grid0.coords t 2) 0 (t.val % 132 / 4 - 1) = topX (iblk m c 0 t)
      ∧ xH m c (t.val / 132) (grid0.coords t 2) 1 (t.val % 132 / 4 - 1) = botX (iblk m c 0 t) := by
  have e : 132 * (t.val / 132) + (4 * (t.val % 132 / 4 - 1 + 1) + (grid0.coords t 2).val) = t.val := by rw [(coords t).2.2]; omega
  constructor
  · show topX (iblk m c 0 (at_ (132 * (t.val / 132) + (4 * (t.val % 132 / 4 - 1 + 1) + (grid0.coords t 2).val)))) = _
    rw [e, at_val]
  · show botX (iblk m c 0 (at_ (132 * (t.val / 132) + (4 * (t.val % 132 / 4 - 1 + 1) + (grid0.coords t 2).val)))) = _
    rw [e, at_val]

/-- The sums a point stores in a column block's first step. -/
theorem sums_first (c : Dev nD) (t : Fin cfg0.N) (ht : 4 ≤ t.val % 132) (hk : t.val % 132 / 4 % 4 = 1) (d9)
    (h : AInv (xH m c (t.val / 132)) (slabOf (wB m c (t.val / 132))) (t.val % 132) d9) :
    AInv (xH m c (t.val / 132)) (slabOf (wB m c (t.val / 132))) (t.val % 132 + 1)
      (accPut (grid0.coords t) d9 (k0_pay2 (topX (iblk m c 0 t)) (slabOf (wB m c (t.val / 132)) (t.val % 132 / 4 - 1)))
        (k0_pay3 (botX (iblk m c 0 t)) (slabOf (wB m c (t.val / 132)) (t.val % 132 / 4 - 1)))) := by
  refine ainv_put _ _ d9 _ _ (t.val % 132 / 4 - 1) (by omega) (coords t).2.2 _ _ ?_ ?_ h
  · rw [accV_first _ _ _ (by omega), (xH_at m c t ht).1]
  · rw [accV_first _ _ _ (by omega), (xH_at m c t ht).2]; rfl

/-- The sums a point stores in a column block's middle steps. -/
theorem sums_mid (c : Dev nD) (t : Fin cfg0.N) (ht : 4 ≤ t.val % 132) (hk : 2 ≤ t.val % 132 / 4 % 4) (d9)
    (h : AInv (xH m c (t.val / 132)) (slabOf (wB m c (t.val / 132))) (t.val % 132) d9) :
    AInv (xH m c (t.val / 132)) (slabOf (wB m c (t.val / 132))) (t.val % 132 + 1)
      (accPut (grid0.coords t) d9 (k0_pay4 (accGet (grid0.coords t) 0 d9) (topX (iblk m c 0 t)) (slabOf (wB m c (t.val / 132)) (t.val % 132 / 4 - 1)))
        (k0_pay5 (accGet (grid0.coords t) 1 d9) (botX (iblk m c 0 t)) (slabOf (wB m c (t.val / 132)) (t.val % 132 / 4 - 1)))) := by
  have e : t.val % 132 / 4 - 1 = t.val % 132 / 4 - 2 + 1 := by omega
  have g := fun r => ainv_get _ _ d9 _ _ (t.val % 132 / 4 - 2) (by omega) (coords t).2.2 (by omega) r h
  refine ainv_put _ _ d9 _ _ (t.val % 132 / 4 - 1) (by omega) (coords t).2.2 _ _ ?_ ?_ h
  · rw [g 0, ← (xH_at m c t ht).1, e, accV_next _ _ _ (by omega)]
  · rw [g 1, ← (xH_at m c t ht).2, e, accV_next _ _ _ (by omega)]; rfl

/-- The sums a point reads in a column block's last step. -/
theorem sums_read (c : Dev nD) (t : Fin cfg0.N) (ht : 4 ≤ t.val % 132) (hk : t.val % 132 / 4 % 4 = 0) (d9)
    (h : AInv (xH m c (t.val / 132)) (slabOf (wB m c (t.val / 132))) (t.val % 132) d9) (r : Fin 2) :
    accGet (grid0.coords t) r d9 = aV m c (t.val / 132) (grid0.coords t 2) r (t.val % 132 / 4 - 2) :=
  ainv_get _ _ d9 _ _ (t.val % 132 / 4 - 2) (by omega) (coords t).2.2 (by omega) r h

set_option maxHeartbeats 1600000 in
/-- The body at a point of a part's first step, which only fills the weight buffer. -/
theorem sound_fill (c : Dev nD) (t : Fin cfg0.N) (ht : t.val % 132 < 4) :
    bodyPre m c t ⊢ wp frame (wpE (defs₀ (F := F)) Variants.none c none) Set.univ (bodyAt0 t) (fun _ => bodyPost m c t iprop(∃ d, owns (c : Thread nD τ) (ms4 t) fullShare ((dats m 0 c).before 4 t d))) := by
  unfold bodyPre bodyPost bodyAt0 PhiAt
  simp only [bef_0, bef_1, bef_2, bef_3]
  iintro ⟨⟨⟨%d8, %d9, %hd, S8, S9⟩, Hg⟩, Ho, ⟨%d0, H0⟩, ⟨%d1, H1⟩, ⟨%d2, H2⟩, ⟨%d3, H3⟩, ⟨%d4, H4⟩⟩
  iapply (runA c (grid0.coords t) _ _ _ _ _ _ _ _ _ _ _ _ _ _ (iblk m c 0 t) (iblk m c 1 t) (iblk m c 2 t) (iblk m c 3 t) _ d8 d9
    ((cond1 t).2 (by omega)) (fun h => absurd ((cond2 t).1 h) (by omega)) Set.univ _)
  isplitl [H0]; · iexact H0
  isplitl [H1]; · iexact H1
  isplitl [H2]; · iexact H2
  isplitl [H3]; · iexact H3
  isplitl [H4]; · iexact H4
  isplitl [S8]; · iexact S8
  isplitl [S9]; · iexact S9
  iintro ⟨H0, H1, H2, H3, H4, S8, S9⟩
  isplitl [S8 S9 Hg]
  · isplitl [S8 S9]
    · iexists _, _
      isplitr
      · ipureintro; exact held_next m c _ _ _ ⟨fill m c t d8 hd.1, ainv_skip _ _ d9 _ (Or.inl ht) hd.2⟩
      isplitl [S8]; · iexact S8
      iexact S9
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a point of a column block's first step, which begins the sums. -/
theorem sound_first (c : Dev nD) (t : Fin cfg0.N) (ht : 4 ≤ t.val % 132) (hk : t.val % 132 / 4 % 4 = 1) :
    bodyPre m c t ⊢ wp frame (wpE (defs₀ (F := F)) Variants.none c none) Set.univ (bodyAt0 t) (fun _ => bodyPost m c t iprop(∃ d, owns (c : Thread nD τ) (ms4 t) fullShare ((dats m 0 c).before 4 t d))) := by
  unfold bodyPre bodyPost bodyAt0 PhiAt
  simp only [bef_0, bef_1, bef_2, bef_3]
  iintro ⟨⟨⟨%d8, %d9, %hd, S8, S9⟩, Hg⟩, Ho, ⟨%d0, H0⟩, ⟨%d1, H1⟩, ⟨%d2, H2⟩, ⟨%d3, H3⟩, ⟨%d4, H4⟩⟩
  have ew := slabs m c t ht _ _ (Nat.le_succ _) le_rfl (fill m c t d8 hd.1)
  iapply (runB0 c (grid0.coords t) _ _ _ _ _ _ _ _ _ _ _ _ _ _ (iblk m c 0 t) (iblk m c 1 t) (iblk m c 2 t) (iblk m c 3 t) _ d8 d9
    ((cond1 t).2 (by omega)) ((cond2 t).2 (by omega)) ((cond3 t ht).2 (by omega)) (fun h => absurd ((cond4 t ht).1 h) (by omega)) (fun h => absurd ((cond5 t ht).1 h) (by omega)) Set.univ _)
  isplitl [H0]; · iexact H0
  isplitl [H1]; · iexact H1
  isplitl [H2]; · iexact H2
  isplitl [H3]; · iexact H3
  isplitl [H4]; · iexact H4
  isplitl [S8]; · iexact S8
  isplitl [S9]; · iexact S9
  rw [ew]
  iintro ⟨H0, H1, H2, H3, H4, S8, S9⟩
  isplitl [S8 S9 Hg]
  · isplitl [S8 S9]
    · iexists _, _
      isplitr
      · ipureintro; exact held_next m c _ _ _ ⟨fill m c t d8 hd.1, sums_first m c t ht hk d9 hd.2⟩
      isplitl [S8]; · iexact S8
      iexact S9
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a point of a column block's middle steps, which adds to the sums. -/
theorem sound_mid (c : Dev nD) (t : Fin cfg0.N) (ht : 4 ≤ t.val % 132) (hk : 2 ≤ t.val % 132 / 4 % 4) :
    bodyPre m c t ⊢ wp frame (wpE (defs₀ (F := F)) Variants.none c none) Set.univ (bodyAt0 t) (fun _ => bodyPost m c t iprop(∃ d, owns (c : Thread nD τ) (ms4 t) fullShare ((dats m 0 c).before 4 t d))) := by
  unfold bodyPre bodyPost bodyAt0 PhiAt
  simp only [bef_0, bef_1, bef_2, bef_3]
  iintro ⟨⟨⟨%d8, %d9, %hd, S8, S9⟩, Hg⟩, Ho, ⟨%d0, H0⟩, ⟨%d1, H1⟩, ⟨%d2, H2⟩, ⟨%d3, H3⟩, ⟨%d4, H4⟩⟩
  have ew := slabs m c t ht _ _ (Nat.le_succ _) le_rfl (fill m c t d8 hd.1)
  iapply (runB1 c (grid0.coords t) _ _ _ _ _ _ _ _ _ _ _ _ _ _ (iblk m c 0 t) (iblk m c 1 t) (iblk m c 2 t) (iblk m c 3 t) _ d8 d9
    ((cond1 t).2 (by omega)) ((cond2 t).2 (by omega)) (fun h => absurd ((cond3 t ht).1 h) (by omega)) ((cond4 t ht).2 (by omega)) (fun h => absurd ((cond5 t ht).1 h) (by omega)) Set.univ _)
  isplitl [H0]; · iexact H0
  isplitl [H1]; · iexact H1
  isplitl [H2]; · iexact H2
  isplitl [H3]; · iexact H3
  isplitl [H4]; · iexact H4
  isplitl [S8]; · iexact S8
  isplitl [S9]; · iexact S9
  rw [ew]
  iintro ⟨H0, H1, H2, H3, H4, S8, S9⟩
  isplitl [S8 S9 Hg]
  · isplitl [S8 S9]
    · iexists _, _
      isplitr
      · ipureintro; exact held_next m c _ _ _ ⟨fill m c t d8 hd.1, sums_mid m c t ht hk d9 hd.2⟩
      isplitl [S8]; · iexact S8
      iexact S9
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a point of a column block's last step, which writes the result. -/
theorem sound_last (c : Dev nD) (t : Fin cfg0.N) (ht : 4 ≤ t.val % 132) (hk : t.val % 132 / 4 % 4 = 0) (ht' : t.val % 132 < 128) :
    bodyPre m c t ⊢ wp frame (wpE (defs₀ (F := F)) Variants.none c none) Set.univ (bodyAt0 t) (fun _ => bodyPost m c t (owns (c : Thread nD τ) (ms4 t) fullShare (outAt m c t))) := by
  unfold bodyPre bodyPost bodyAt0 PhiAt
  simp only [bef_0, bef_1, bef_2, bef_3]
  iintro ⟨⟨⟨%d8, %d9, %hd, S8, S9⟩, Hg⟩, Ho, ⟨%d0, H0⟩, ⟨%d1, H1⟩, ⟨%d2, H2⟩, ⟨%d3, H3⟩, ⟨%d4, H4⟩⟩
  have ew := slabs m c t ht _ _ (Nat.le_succ _) le_rfl (fill m c t d8 hd.1)
  have e0 := sums_read m c t ht hk d9 hd.2 0
  have e1 := sums_read m c t ht hk d9 hd.2 1
  iapply (runB2 c (grid0.coords t) _ _ _ _ _ _ _ _ _ _ _ _ _ _ (iblk m c 0 t) (iblk m c 1 t) (iblk m c 2 t) (iblk m c 3 t) d8 d9
    ((cond1 t).2 (by omega)) ((cond2 t).2 (by omega)) (fun h => absurd ((cond3 t ht).1 h) (by omega)) (fun h => absurd ((cond4 t ht).1 h) (by omega)) ((cond5 t ht).2 (by omega)) Set.univ _)
  isplitl [H0]; · iexact H0
  isplitl [H1]; · iexact H1
  isplitl [H2]; · iexact H2
  isplitl [H3]; · iexact H3
  isplitl [H4]; · iexists _; iexact H4
  isplitl [S8]; · iexact S8
  isplitl [S9]; · iexact S9
  rw [ew, e0, e1]
  iintro ⟨H0, H1, H2, H3, H4, S8, S9⟩
  isplitl [S8 S9 Hg]
  · isplitl [S8 S9]
    · iexists _, _
      isplitr
      · ipureintro; exact held_next m c _ _ _ ⟨fill m c t d8 hd.1, ainv_skip _ _ d9 _ (Or.inr hk) hd.2⟩
      isplitl [S8]; · iexact S8
      iexact S9
    iexact Hg
  isplitl [Ho]; · iexact Ho
  isplitl [H0]; · iexact H0
  isplitl [H1]; · iexact H1
  isplitl [H2]; · iexact H2
  isplitl [H3]; · iexact H3
  iexact H4

set_option maxHeartbeats 1600000 in
/-- The body at a point of a part's last step, which only multiplies and writes the result. -/
theorem sound_end (c : Dev nD) (t : Fin cfg0.N) (ht : 4 ≤ t.val % 132) (hk : t.val % 132 / 4 % 4 = 0) (ht' : 128 ≤ t.val % 132) :
    bodyPre m c t ⊢ wp frame (wpE (defs₀ (F := F)) Variants.none c none) Set.univ (bodyAt0 t) (fun _ => bodyPost m c t (owns (c : Thread nD τ) (ms4 t) fullShare (outAt m c t))) := by
  unfold bodyPre bodyPost bodyAt0 PhiAt
  simp only [bef_0, bef_1, bef_2, bef_3]
  iintro ⟨⟨⟨%d8, %d9, %hd, S8, S9⟩, Hg⟩, Ho, ⟨%d0, H0⟩, ⟨%d1, H1⟩, ⟨%d2, H2⟩, ⟨%d3, H3⟩, ⟨%d4, H4⟩⟩
  have ew := slabs m c t ht _ _ le_rfl (Nat.le_succ _) hd.1
  have e0 := sums_read m c t ht hk d9 hd.2 0
  have e1 := sums_read m c t ht hk d9 hd.2 1
  iapply (runC2 c (grid0.coords t) _ _ _ _ _ _ _ _ _ _ _ _ _ _ (iblk m c 0 t) (iblk m c 1 t) (iblk m c 2 t) (iblk m c 3 t) d8 d9
    (fun h => absurd ((cond1 t).1 h) (by omega)) ((cond2 t).2 (by omega)) (fun h => absurd ((cond3 t ht).1 h) (by omega)) (fun h => absurd ((cond4 t ht).1 h) (by omega)) ((cond5 t ht).2 (by omega)) Set.univ _)
  isplitl [H0]; · iexact H0
  isplitl [H1]; · iexact H1
  isplitl [H2]; · iexact H2
  isplitl [H3]; · iexact H3
  isplitl [H4]; · iexists _; iexact H4
  isplitl [S8]; · iexact S8
  isplitl [S9]; · iexact S9
  rw [ew, e0, e1]
  iintro ⟨H0, H1, H2, H3, H4, S8, S9⟩
  isplitl [S8 S9 Hg]
  · isplitl [S8 S9]
    · iexists _, _
      isplitr
      · ipureintro; exact held_next m c _ _ _ ⟨inv_skip _ d8 _ ht' hd.1, ainv_skip _ _ d9 _ (Or.inr hk) hd.2⟩
      isplitl [S8]; · iexact S8
      iexact S9
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases hs : 4 ≤ t.val % 132 ∧ t.val % 132 / 4 % 4 = 0
  · rw [idle4, decide_eq_false (not_not_intro hs)]
    by_cases ht' : t.val % 132 < 128
    · exact triple_restated (sound_last m c t hs.1 hs.2 ht') rfl .rfl fun _ => .rfl
    · exact triple_restated (sound_end m c t hs.1 hs.2 (by omega)) rfl .rfl fun _ => .rfl
  · rw [idle4, flush4, decide_eq_true hs, decide_eq_false hs]
    by_cases ht : t.val % 132 < 4
    · exact triple_restated (sound_fill m c t ht) rfl .rfl fun _ => .rfl
    · by_cases hk : t.val % 132 / 4 % 4 = 1
      · exact triple_restated (sound_first m c t (by omega) hk) rfl .rfl fun _ => .rfl
      · exact triple_restated (sound_mid m c t (by omega) (by omega)) rfl .rfl fun _ => .rfl

/-! ## The run -/

theorem hin (c : Dev nD) : Pipeline.ΦA spec0 c ⊢ (dats (F := F) m 0 c).Φ 0 := by
  rw [PhiA0_eq]
  show _ ⊢ PhiAt m c 0
  unfold PhiAt
  iintro ⟨⟨⟨%d8, S8⟩, ⟨%d9, S9⟩⟩, Hg⟩
  isplitl [S8 S9]
  · iexists d8, d9
    isplitr
    · ipureintro; exact ⟨Slots.inv_zero 4 32 _ _, ainv_zero _ _ _⟩
    isplitl [S8]; · iexact S8
    iexact S9
  iexact Hg

theorem hout (c : Dev nD) : (dats (F := F) m 0 c).Φ (Fin.last cfg0.N) ⊢ Pipeline.ΦA spec0 c := by
  rw [PhiA0_eq]
  show PhiAt m c _ ⊢ _
  unfold PhiAt
  iintro ⟨⟨%d8, %d9, %hd, S8, S9⟩, Hg⟩
  isplitl [S8 S9]
  · isplitl [S8]
    · iexists d8; iexact S8
    iexists d9; iexact S9
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ w => by match w with | 0 => rfl | 1 => rfl | 2 => rfl | 3 => rfl | 4 => rfl)
    (howed := fun _ _ => rfl) (V := V m) (hmain := hmain m Variants.none) (hA := A_eq m) (hin := hin m) (hout := hout m)

/-- The arguments are as launched. -/
theorem kept {r} (h : (Pipeline.FramePost cfgs (dats m) 0 (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_kept m c main_arg0 (by decide)))),
    ((h c).2 main_arg1 (Pipeline.mem_restRefs_of main_arg1 (by decide) (by decide))).trans (V_kept m c main_arg1 (by decide)),
    ((h c).1 2).trans (((dats m 0 c).arrAt_in 2 rfl _).trans ((A_eq m c 2).trans (V_kept m c main_arg2 (by decide)))),
    ((h c).1 3).trans (((dats m 0 c).arrAt_in 3 rfl _).trans ((A_eq m c 3).trans (V_kept m c main_arg3 (by decide))))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨kept m h.1, h.2⟩) (run_main_quiescent m ρ)

end Cert.Proof.Down

end
-- ==== Proof.DownAt.lean ====
/- The second product's arithmetic at one entry, over the reals. -/
module

public import proofs.«01_k».proof.Proof.DownFrame
public import Idealize.ShloMosaic.Lib.Pipeline.ValueKit

@[expose] public section

set_option maxRecDepth 16384

noncomputable section

namespace Cert.Proof.Down

open Cert.Kernel5Ideal Cert.Kernel5Ideal.Gen
open Idealize.ShloMosaic Idealize.ShloMosaic.TcCoe Idealize.SL.Sem
open Cert.Kernel5Ideal.Facts

/-- A row of a block times a column of the weights. -/
def prod (x : FVec Ideal S512x4096 .bf16) (w : FVec Ideal S1x4096x512 .bf16) (r q : Fin 512) : EReal := ∑ k : Fin 4096, x (ix2 r k) * w (ix3 0 k q)

theorem pay1_at (x : FVec Ideal S1x1024x512 .f32) (i : Fin 1024) (j : Fin 512) : k0_pay1 (F := Ideal) x (ix3 0 i j) = x (ix3 0 i j) := by
  pointwise [k0_pay1]
theorem pay2_at (x : FVec Ideal S512x4096 .bf16) (w : FVec Ideal S1x4096x512 .bf16) (r q : Fin 512) : k0_pay2 (F := Ideal) x w (ix2 r q) = prod x w r q := by
  pointwise [k0_pay2, prod]
theorem pay4_at (a : FVec Ideal S512x512 .f32) (x : FVec Ideal S512x4096 .bf16) (w : FVec Ideal S1x4096x512 .bf16) (r q : Fin 512) :
    k0_pay4 (F := Ideal) a x w (ix2 r q) = a (ix2 r q) + prod x w r q := by
  pointwise [k0_pay4, prod]

/-- The row of the modulation that a row of the kernel's block takes: chosen by the row's number `o` rows into the block. -/
def pick (a b o : BitVec 32) (r : Fin 512) (v0 v1 v2 : EReal) : EReal :=
  Scalar.select (IntOp.cmpi .slt (IntOp.addi (Scalar.addi (Scalar.muli (Scalar.addi (Scalar.muli a 4#32) b) 1024#32) o) (BitVec.ofNat 32 r.val)) 4096#32) v0
    (Scalar.select (IntOp.cmpi .slt (IntOp.addi (Scalar.addi (Scalar.muli (Scalar.addi (Scalar.muli a 4#32) b) 1024#32) o) (BitVec.ofNat 32 r.val)) 8192#32) v1 v2)

theorem row_lt : ∀ (a : Fin 2) (b : Fin 4) (h : Fin 2) (r : Fin 512),
    IntOp.cmpi .slt (IntOp.addi (Scalar.addi (Scalar.muli (Scalar.addi (Scalar.muli (BitVec.ofNat 32 a.val) 4#32) (BitVec.ofNat 32 b.val)) 1024#32) (BitVec.ofNat 32 (512 * h.val)))
        (BitVec.ofNat 32 r.val)) 4096#32 = (if a.val = 0 then 1#1 else 0#1)
      ∧ IntOp.cmpi .slt (IntOp.addi (Scalar.addi (Scalar.muli (Scalar.addi (Scalar.muli (BitVec.ofNat 32 a.val) 4#32) (BitVec.ofNat 32 b.val)) 1024#32) (BitVec.ofNat 32 (512 * h.val)))
        (BitVec.ofNat 32 r.val)) 8192#32 = 1#1 := by decide +kernel

/-- The first part's rows take the first row, the other's the second. -/
theorem pick_eq (i : grid0.Coords) (h : Fin 2) (r : Fin 512) (v0 v1 v2 : EReal) :
    pick (BitVec.ofNat 32 (i 0).val) (BitVec.ofNat 32 (i 2).val) (BitVec.ofNat 32 (512 * h.val)) r v0 v1 v2 = if (i 0).val = 0 then v0 else v1 := by
  unfold pick
  rw [(row_lt (i 0) (i 2) h r).1, (row_lt (i 0) (i 2) h r).2]
  by_cases e : (i 0).val = 0
  · rw [if_pos e, if_pos e]; rfl
  · rw [if_neg e, if_neg e]; rfl

theorem pay7_at (a b : BitVec 32) (s : FVec Ideal S512x512 .f32) (x : FVec Ideal S512x4096 .bf16) (w : FVec Ideal S1x4096x512 .bf16) (m2 m1 m0 : FVec Ideal S1x512 .f32) (r q : Fin 512) :
    k0_pay7 (F := Ideal) a b s x w m2 m1 m0 (ix2 r q) = pick a b 0#32 r (m0 (ix2 0 q)) (m1 (ix2 0 q)) (m2 (ix2 0 q)) * (s (ix2 r q) + prod x w r q) := by
  pointwise [k0_pay7, prod, pick]
theorem pay8_at (v s : FVec Ideal S512x512 .f32) (r q : Fin 512) : k0_pay8 (F := Ideal) v s (ix2 r q) = v (ix2 r q) + s (ix2 r q) := by
  pointwise [k0_pay8]
theorem pay9_at (a : FVec Ideal S512x512 .f32) (x : FVec Ideal S512x4096 .bf16) (w : FVec Ideal S1x4096x512 .bf16) (r q : Fin 512) :
    k0_pay9 (F := Ideal) a x w (ix2 r q) = a (ix2 r q) + prod x w r q := by
  unfold prod
  pointwise [k0_pay9]
theorem pay6_at (a b : BitVec 32) (s v : FVec Ideal S512x512 .f32) (m2 m1 m0 : FVec Ideal S1x512 .f32) (r q : Fin 512) :
    k0_pay6 (F := Ideal) s v (k0_pay11 a b m2 m1) m0 (k0_pay12 a b) (ix2 r q)
      = v (ix2 r q) + pick a b 512#32 r (m0 (ix2 0 q)) (m1 (ix2 0 q)) (m2 (ix2 0 q)) * s (ix2 r q) := by
  pointwise [k0_pay6, k0_pay11, k0_pay12, k0_pay10, pick]

/-- The partial sums before a column block's last step. -/
theorem accV_at (X : ℕ → FVec Ideal S512x4096 .bf16) (W : ℕ → FVec Ideal S1x4096x512 .bf16) (b : ℕ) (r q : Fin 512) :
    (accV (F := Ideal) X W (4 * b + 2) : FVec Ideal S512x512 .f32) (ix2 r q)
      = prod (X (4 * b)) (W (4 * b)) r q + prod (X (4 * b + 1)) (W (4 * b + 1)) r q + prod (X (4 * b + 2)) (W (4 * b + 2)) r q := by
  rw [show 4 * b + 2 = 4 * b + 1 + 1 from rfl, accV_next _ _ _ (by omega), pay4_at, accV_next _ _ _ (by omega), pay4_at, accV_first _ _ _ (by omega), pay2_at]

/-- A sum taken a quarter at a time. -/
theorem sum_quarters (f : Fin 16384 → EReal) :
    (∑ k : Fin 4096, f ⟨k.val, by omega⟩) + (∑ k : Fin 4096, f ⟨4096 + k.val, by omega⟩) + (∑ k : Fin 4096, f ⟨8192 + k.val, by omega⟩)
      + (∑ k : Fin 4096, f ⟨12288 + k.val, by omega⟩) = ∑ k, f k := by
  let g : ℕ → EReal := fun k => f ⟨k % 16384, Nat.mod_lt _ (by decide)⟩
  have e : ∀ k : Fin 16384, f k = g k.val := fun k => congrArg f (Fin.ext (Nat.mod_eq_of_lt k.isLt).symm)
  simp only [e]
  rw [Fin.sum_univ_eq_sum_range g 4096, Fin.sum_univ_eq_sum_range (fun k => g (4096 + k)) 4096, Fin.sum_univ_eq_sum_range (fun k => g (8192 + k)) 4096,
    Fin.sum_univ_eq_sum_range (fun k => g (12288 + k)) 4096, Fin.sum_univ_eq_sum_range g 16384, Finset.sum_range_add g 12288 4096, Finset.sum_range_add g 8192 4096,
    Finset.sum_range_add g 4096 4096]
/-- An entry of the first rows of a block. -/
theorem topX_at (x : FVec Ideal S1024x4096 .bf16) (r : Fin 512) (k : Fin 4096) : topX (F := Ideal) x (ix2 r k) = x (ix2 ⟨r.val, by omega⟩ k) :=
  Slots.window_ix2 x _ _ _ k _ _ (by simp) rfl
theorem botX_at (x : FVec Ideal S1024x4096 .bf16) (r : Fin 512) (k : Fin 4096) : botX (F := Ideal) x (ix2 r k) = x (ix2 ⟨512 + r.val, by omega⟩ k) :=
  Slots.window_ix2 x _ _ _ k _ _ (by simp) rfl
/-- An entry of the first rows of the residual. -/
theorem topR_at (x : FVec Ideal S1024x512 .f32) (r : Fin 512) (k : Fin 512) : topR (F := Ideal) x (ix2 r k) = x (ix2 ⟨r.val, by omega⟩ k) :=
  Slots.window_ix2 x _ _ _ k _ _ (by simp) rfl
theorem botR_at (x : FVec Ideal S1024x512 .f32) (r : Fin 512) (k : Fin 512) : botR (F := Ideal) x (ix2 r k) = x (ix2 ⟨512 + r.val, by omega⟩ k) :=
  Slots.window_ix2 x _ _ _ k _ _ (by simp) rfl
/-- The rows of the modulation. -/
theorem mod0_at (x : FVec Ideal S8x512 .f32) (k : Fin 512) : mod0 (F := Ideal) x (ix2 0 k) = x (ix2 0 k) :=
  Slots.window_ix2 x _ _ _ k _ _ (by simp) rfl
theorem mod1_at (x : FVec Ideal S8x512 .f32) (k : Fin 512) : mod1 (F := Ideal) x (ix2 0 k) = x (ix2 1 k) :=
  Slots.window_ix2 x _ _ _ k _ _ (by simp) rfl
theorem mod2_at (x : FVec Ideal S8x512 .f32) (k : Fin 512) : mod2 (F := Ideal) x (ix2 0 k) = x (ix2 2 k) :=
  Slots.window_ix2 x _ _ _ k _ _ (by simp) rfl

/-- An entry of a block stored as two halves. -/
theorem put_halves (d : FVec Ideal S1024x512 .f32) (w w' : FVec Ideal S512x512 .f32) (y : Fin 1024) (q : Fin 512) (v : EReal)
    (h : ∀ r : Fin 512, y = ⟨r.val, by omega⟩ → w (ix2 r q) = v) (h' : ∀ r : Fin 512, y = ⟨512 + r.val, by omega⟩ → w' (ix2 r q) = v) :
    VecWindow.put (s := S1024x512) (VecWindow.put (s := S1024x512) d ![0, 0] S512x512.size w) ![512, 0] S512x512.size w' (ix2 y q) = v := by
  unfold VecWindow.put
  by_cases hy : 512 ≤ y.val
  · have hp : ∀ a, (![512, 0] : Fin 2 → ℕ) a ≤ ((ix2 y q : S1024x512.Idx) a).val ∧ ((ix2 y q : S1024x512.Idx) a).val < (![512, 0] : Fin 2 → ℕ) a + S512x512.size a := fun a => by
      match a with
      | 0 => exact ⟨hy, y.isLt⟩
      | 1 => exact ⟨Nat.zero_le _, by show q.val < 0 + 512; omega⟩
    rw [dif_pos hp]
    have el : (Rect.unitLocal (s := S1024x512) (off := ![512, 0]) (size := S512x512.size) (ix2 y q) hp : S512x512.Idx) = ix2 (⟨y.val - 512, by omega⟩ : Fin 512) q := by
      funext a
      match a with
      | 0 => rfl
      | 1 => rfl
    exact (congrArg w' el).trans (h' _ (Fin.ext (by show y.val = 512 + (y.val - 512); omega)))
  · have hp : ¬ ∀ a, (![512, 0] : Fin 2 → ℕ) a ≤ ((ix2 y q : S1024x512.Idx) a).val ∧ ((ix2 y q : S1024x512.Idx) a).val < (![512, 0] : Fin 2 → ℕ) a + S512x512.size a := fun hc => hy (hc 0).1
    have hp0 : ∀ a, (![0, 0] : Fin 2 → ℕ) a ≤ ((ix2 y q : S1024x512.Idx) a).val ∧ ((ix2 y q : S1024x512.Idx) a).val < (![0, 0] : Fin 2 → ℕ) a + S512x512.size a := fun a => by
      match a with
      | 0 => exact ⟨Nat.zero_le _, by show y.val < 0 + 512; omega⟩
      | 1 => exact ⟨Nat.zero_le _, by show q.val < 0 + 512; omega⟩
    rw [dif_neg hp, dif_pos hp0]
    have el : (Rect.unitLocal (s := S1024x512) (off := ![0, 0]) (size := S512x512.size) (ix2 y q) hp0 : S512x512.Idx) = ix2 (⟨y.val, by omega⟩ : Fin 512) q := by
      funext a
      match a with
      | 0 => rfl
      | 1 => rfl
    exact (congrArg w el).trans (h _ rfl)

/-- An entry of the output's block, from the sums so far, the last step's rows and weights, the residual and the modulation. -/
theorem outU_at (i : grid0.Coords) (x0 : FVec Ideal S1024x4096 .bf16) (x2 : FVec Ideal S1024x512 .f32) (x3 : FVec Ideal S8x512 .f32) (a b : FVec Ideal S512x512 .f32)
    (w : FVec Ideal S1x4096x512 .bf16) (y : Fin 1024) (q : Fin 512) (v : EReal)
    (ha : ∀ r : Fin 512, y = ⟨r.val, by omega⟩ → a (ix2 r q) + prod (topX (F := Ideal) x0) w r q = v)
    (hb : ∀ r : Fin 512, y = ⟨512 + r.val, by omega⟩ → b (ix2 r q) + prod (botX (F := Ideal) x0) w r q = v) :
    (outU (F := Ideal) i x0 x2 x3 a b w : FVec Ideal S1024x512 .f32) (ix2 y q)
      = x2 (ix2 y q) + (if (i 0).val = 0 then x3 (ix2 0 q) else x3 (ix2 1 q)) * v := by
  unfold outU
  refine put_halves _ _ _ y q _ (fun r hr => ?_) (fun r hr => ?_)
  · rw [pay8_at, pay7_at, ha r hr, topR_at, mod0_at, mod1_at, hr]
    exact congrArg (fun z => x2 _ + z * v) (pick_eq i 0 r _ _ _)
  · rw [pay6_at, pay9_at, hb r hr, botR_at, mod0_at, mod1_at, hr]
    exact congrArg (fun z => x2 _ + z * v) (pick_eq i 1 r _ _ _)

end Cert.Proof.Down

end
-- ==== Proof.DownValue.lean ====
/- The second product's result, entry by entry, over the reals. -/
module

public import proofs.«01_k».proof.Proof.DownFrame
public import proofs.«01_k».proof.Proof.DownAt

@[expose] public section

set_option maxRecDepth 16384

noncomputable section

namespace Cert.Proof.Down

open Cert.Kernel5Ideal Cert.Kernel5Ideal.Gen
open Idealize.ShloMosaic Idealize.ShloMosaic.TcCoe Idealize.ShloMosaic.Tactic Idealize.SL.Sem
open Cert.Kernel5Ideal.Facts

/-! ## The value -/

/-- One product of the sum for row `r` and column `q`: a hidden entry times a weight of the second layer's experts. -/
def term (x : FVec Ideal ⟨2, ![8192, 16384]⟩ .bf16) (w : FVec Ideal ⟨4, ![2, 8, 2048, 4096]⟩ .f32) (r : Fin 8192) (q : Fin 4096) (k : Fin 16384) : EReal :=
  x (ix2 r k) * w (ix4 1 ⟨k.val / 2048, by omega⟩ ⟨k.val % 2048, by omega⟩ q)

/-- An entry of the result: the residual and the gated sum. -/
def val (x : FVec Ideal ⟨2, ![8192, 16384]⟩ .bf16) (w : FVec Ideal ⟨4, ![2, 8, 2048, 4096]⟩ .f32) (h : FVec Ideal ⟨2, ![8192, 4096]⟩ .f32)
    (g : FVec Ideal ⟨2, ![8, 24576]⟩ .f32) (r : Fin 8192) (q : Fin 4096) : EReal :=
  h (ix2 r q) + g (ix2 ⟨r.val / 4096, by omega⟩ ⟨20480 + q.val, by omega⟩) * ∑ k, term x w r q k

/-- The result. -/
def G (x : FVec Ideal ⟨2, ![8192, 16384]⟩ .bf16) (w : FVec Ideal ⟨4, ![2, 8, 2048, 4096]⟩ .f32) (h : FVec Ideal ⟨2, ![8192, 4096]⟩ .f32)
    (g : FVec Ideal ⟨2, ![8, 24576]⟩ .f32) : FVec Ideal S8192x4096 .f32 := fun i =>
  val x w h g ⟨(i 0 : ℕ) % 8192, by omega⟩ ⟨(i 1 : ℕ) % 4096, by omega⟩

/-! ## The blocks -/

theorem idx0 : ∀ t : Fin cfg0.N, 4 ≤ t.val % 132 → win0_0.index t = ![4 * (t.val / 132) + t.val % 132 % 4, (t.val % 132 / 4 - 1) % 4] :=
  (by decide +kernel : ∀ t : Fin grid0.N, 4 ≤ t.val % 132 → win0_0.index t = ![4 * (t.val / 132) + t.val % 132 % 4, (t.val % 132 / 4 - 1) % 4])
theorem idx1 : ∀ t : Fin cfg0.N, t.val % 132 < 128 → win0_1.index t = ![1, t.val % 132 / 4 % 4 * 4 + t.val % 132 % 4, t.val % 132 / 4 / 4] :=
  (by decide +kernel : ∀ t : Fin grid0.N, t.val % 132 < 128 → win0_1.index t = ![1, t.val % 132 / 4 % 4 * 4 + t.val % 132 % 4, t.val % 132 / 4 / 4])
theorem idx2 : ∀ t : Fin cfg0.N, 4 ≤ t.val % 132 ∧ t.val % 132 / 4 % 4 = 0 →
    win0_2.index t = ![4 * (t.val / 132) + t.val % 132 % 4, (t.val % 132 / 4 - 1) / 4] ∧ win0_4.index t = ![4 * (t.val / 132) + t.val % 132 % 4, (t.val % 132 / 4 - 1) / 4]
      ∧ win0_3.index t = ![0, 40 + (t.val % 132 / 4 - 1) / 4] :=
  (by decide +kernel : ∀ t : Fin grid0.N, 4 ≤ t.val % 132 ∧ t.val % 132 / 4 % 4 = 0 →
    win0_2.index t = ![4 * (t.val / 132) + t.val % 132 % 4, (t.val % 132 / 4 - 1) / 4] ∧ win0_4.index t = ![4 * (t.val / 132) + t.val % 132 % 4, (t.val % 132 / 4 - 1) / 4]
      ∧ win0_3.index t = ![0, 40 + (t.val % 132 / 4 - 1) / 4])

variable (m : (ℓ : Loc nD τ sig) → Buf (Elt Ideal) ℓ) (c : Dev nD) (t : Fin cfg0.N)

def hid : FVec Ideal S8192x16384 .bf16 := m ((c.tc : Thread nD τ).loc main_arg0)
def wgt : FVec Ideal S2x8x2048x4096 .f32 := m ((c.tc : Thread nD τ).loc main_arg1)
def res : FVec Ideal S8192x4096 .f32 := m ((c.tc : Thread nD τ).loc main_arg2)
def mod : FVec Ideal S8x24576 .f32 := m ((c.tc : Thread nD τ).loc main_arg3)

/-- The weights as the call takes them: the experts' rows below each other. -/
theorem V_v0 : (V m c main_v0 : FVec Ideal S2x16384x4096 .f32) = shapeCast _ (wgt m c) shapeCasts_S2x8x2048x4096_S2x16384x4096 := by
  unfold V wgt
  simp only [hostOps0]
  after_results <;> rfl
theorem cast_at (w : FVec Ideal S2x8x2048x4096 .f32) (k : Fin 16384) (q : Fin 4096) :
    (shapeCast S2x16384x4096 w shapeCasts_S2x8x2048x4096_S2x16384x4096 : FVec Ideal S2x16384x4096 .f32) (ix3 1 k q)
      = w (ix4 1 ⟨k.val / 2048, by omega⟩ ⟨k.val % 2048, by omega⟩ q) := by
  pointwise

theorem blk0 (ht : 4 ≤ t.val % 132) (y : Fin 1024) (k : Fin 4096) : (iblk (F := Ideal) m c 0 t : FVec Ideal S1024x4096 .bf16) (ix2 y k)
    = hid m c (ix2 ⟨1024 * (4 * (t.val / 132) + t.val % 132 % 4) + y, by have := N_lt t; omega⟩ ⟨4096 * ((t.val % 132 / 4 - 1) % 4) + k, by omega⟩) := by
  have e : (V m c main_arg0 : FVec Ideal S8192x16384 .bf16) = hid m c := V_kept m c main_arg0 (by decide)
  rw [← e]
  blk_ext [iblk, idx0 t ht]
theorem blk1 (ht : t.val % 132 < 128) (i : Fin 1024) (j : Fin 512) : (iblk (F := Ideal) m c 1 t : FVec Ideal S1x1024x512 .f32) (ix3 0 i j)
    = wgt m c (ix4 1 ⟨(1024 * (t.val % 132 / 4 % 4 * 4 + t.val % 132 % 4) + i.val) / 2048, by omega⟩ ⟨(1024 * (t.val % 132 / 4 % 4 * 4 + t.val % 132 % 4) + i.val) % 2048, by omega⟩
        ⟨512 * (t.val % 132 / 4 / 4) + j, by omega⟩) := by
  refine Eq.trans ?_ (cast_at (wgt m c) ⟨1024 * (t.val % 132 / 4 % 4 * 4 + t.val % 132 % 4) + i.val, by omega⟩ _)
  rw [← V_v0]
  blk_ext [iblk, idx1 t ht]
theorem blk2 (ht : 4 ≤ t.val % 132 ∧ t.val % 132 / 4 % 4 = 0) (y : Fin 1024) (q : Fin 512) : (iblk (F := Ideal) m c 2 t : FVec Ideal S1024x512 .f32) (ix2 y q)
    = res m c (ix2 ⟨1024 * (4 * (t.val / 132) + t.val % 132 % 4) + y, by have := N_lt t; omega⟩ ⟨512 * ((t.val % 132 / 4 - 1) / 4) + q, by omega⟩) := by
  have e : (V m c main_arg2 : FVec Ideal S8192x4096 .f32) = res m c := V_kept m c main_arg2 (by decide)
  rw [← e]
  blk_ext [iblk, (idx2 t ht).1]
theorem blk3 (ht : 4 ≤ t.val % 132 ∧ t.val % 132 / 4 % 4 = 0) (y : Fin 8) (q : Fin 512) : (iblk (F := Ideal) m c 3 t : FVec Ideal S8x512 .f32) (ix2 y q)
    = mod m c (ix2 y ⟨20480 + (512 * ((t.val % 132 / 4 - 1) / 4) + q), by omega⟩) := by
  have e : (V m c main_arg3 : FVec Ideal S8x24576 .f32) = mod m c := V_kept m c main_arg3 (by decide)
  rw [← e]
  blk_ext [iblk, (idx2 t ht).2.2]

/-- A slot holds a step's rows and columns of the weights. -/
theorem slab_at (p T : ℕ) (hp : p < 2) (hT : T < 32) (k : Fin 4096) (q : Fin 512) :
    slabOf (F := Ideal) (wB m c p) T (ix3 0 k q)
      = wgt m c (ix4 1 ⟨(4096 * (T % 4) + k.val) / 2048, by omega⟩ ⟨(4096 * (T % 4) + k.val) % 2048, by omega⟩ ⟨512 * (T / 4) + q, by omega⟩) := by
  show k0_pay1 (F := Ideal) (iblk m c 1 (at_ (132 * p + (4 * T + k.val / 1024)))) (ix3 (0 : Fin 1) (⟨k.val % 1024, Nat.mod_lt _ (by decide)⟩ : Fin 1024) q) = _
  have e : (at_ (132 * p + (4 * T + k.val / 1024))).val = 132 * p + (4 * T + k.val / 1024) := Nat.mod_eq_of_lt (by omega)
  rw [pay1_at, blk1 m c _ (by omega)]
  congr 2 <;> ext <;> simp only [e] <;> omega

/-- The rows a block multiplies at a step. -/
theorem rows_at (p j : ℕ) (hp : p < 2) (hj : j < 32) (a : Fin 4) (r : Fin 2) (y : Fin 512) (k : Fin 4096) :
    xH (F := Ideal) m c p a r j (ix2 y k)
      = hid m c (ix2 ⟨1024 * (4 * p + a) + (512 * r + y), by omega⟩ ⟨4096 * (j % 4) + k, by omega⟩) := by
  have e : (at_ (132 * p + (4 * (j + 1) + a.val))).val = 132 * p + (4 * (j + 1) + a.val) := Nat.mod_eq_of_lt (by omega)
  match r with
  | 0 =>
    show topX (F := Ideal) (iblk m c 0 (at_ (132 * p + (4 * (j + 1) + a.val)))) (ix2 y k) = _
    rw [topX_at, blk0 m c _ (by omega)]
    congr 2 <;> ext <;> simp only [e] <;> (try simp only [Fin.val_zero]) <;> omega
  | 1 =>
    show botX (F := Ideal) (iblk m c 0 (at_ (132 * p + (4 * (j + 1) + a.val)))) (ix2 y k) = _
    rw [botX_at, blk0 m c _ (by omega)]
    congr 2 <;> ext <;> simp only [e] <;> (try simp only [Fin.val_one]) <;> omega

/-- A step's product: a quarter of the sum. -/
theorem prod_at (p j : ℕ) (hp : p < 2) (hj : j < 32) (a : Fin 4) (r : Fin 2) (y q : Fin 512) (R : Fin 8192) (Q : Fin 4096)
    (hR : R.val = 1024 * (4 * p + a) + (512 * r + y)) (hQ : Q.val = 512 * (j / 4) + q) (o : ℕ) (ho : o = 4096 * (j % 4)) :
    prod (xH m c p a r j) (slabOf (wB m c p) j) y q = ∑ k : Fin 4096, term (hid m c) (wgt m c) R Q ⟨o + k, by omega⟩ := by
  subst ho
  have eR : R = ⟨1024 * (4 * p + a) + (512 * r + y), by clear hR; omega⟩ := Fin.ext hR
  have eQ : Q = ⟨512 * (j / 4) + q, by clear hQ; omega⟩ := Fin.ext hQ
  rw [eR, eQ]
  unfold prod term
  refine Finset.sum_congr rfl fun k _ => ?_
  rw [rows_at m c p j hp hj, slab_at m c p j hp hj]

/-- A block's whole sum, from its partial sums and its last step. -/
theorem whole_sum (p b : ℕ) (hp : p < 2) (hb : b < 8) (a : Fin 4) (r : Fin 2) (y q : Fin 512) (R : Fin 8192) (Q : Fin 4096)
    (hR : R.val = 1024 * (4 * p + a) + (512 * r + y)) (hQ : Q.val = 512 * b + q) :
    (aV (F := Ideal) m c p a r (4 * b + 2) : FVec Ideal S512x512 .f32) (ix2 y q) + prod (xH m c p a r (4 * b + 3)) (slabOf (wB m c p) (4 * b + 3)) y q
      = ∑ k, term (hid m c) (wgt m c) R Q k := by
  refine (congrArg (· + _) (accV_at (xH m c p a r) (slabOf (wB m c p)) b y q)).trans ?_
  rw [prod_at m c p (4 * b) hp (by omega) a r y q R Q hR (by omega) 0 (by omega), prod_at m c p (4 * b + 1) hp (by omega) a r y q R Q hR (by omega) 4096 (by omega),
    prod_at m c p (4 * b + 2) hp (by omega) a r y q R Q hR (by omega) 8192 (by omega), prod_at m c p (4 * b + 3) hp (by omega) a r y q R Q hR (by omega) 12288 (by omega),
    ← sum_quarters]
  simp only [Nat.zero_add]

/-- What a storing point leaves in the output's block. -/
theorem point (ht : 4 ≤ t.val % 132 ∧ t.val % 132 / 4 % 4 = 0) (y : Fin 1024) (q : Fin 512) :
    (outAt (F := Ideal) m c t : FVec Ideal S1024x512 .f32) (ix2 y q)
      = val (hid m c) (wgt m c) (res m c) (mod m c) ⟨1024 * (4 * (t.val / 132) + t.val % 132 % 4) + y, by have := N_lt t; omega⟩ ⟨512 * ((t.val % 132 / 4 - 1) / 4) + q, by omega⟩ := by
  have hl := N_lt t
  have e0 := (coords t).1
  have e2 := (coords t).2.2
  obtain ⟨b, hb⟩ : ∃ b, t.val % 132 / 4 = 4 * b + 4 := ⟨t.val % 132 / 4 / 4 - 1, by omega⟩
  have et : at_ (132 * (t.val / 132) + (4 * (4 * b + 3 + 1) + (grid0.coords t 2).val)) = t :=
    Fin.ext ((Nat.mod_eq_of_lt (by omega)).trans (by omega))
  have eo : outAt (F := Ideal) m c t = outU (grid0.coords t) (iblk m c 0 t) (iblk m c 2 t) (iblk m c 3 t) (aV m c (t.val / 132) (grid0.coords t 2) 0 (4 * b + 2))
      (aV m c (t.val / 132) (grid0.coords t 2) 1 (4 * b + 2)) (slabOf (wB m c (t.val / 132)) (4 * b + 3)) := by
    unfold outAt
    rw [show t.val % 132 / 4 - 2 = 4 * b + 2 by omega, show t.val % 132 / 4 - 1 = 4 * b + 3 by omega]
  rw [eo,
    outU_at _ _ _ _ _ _ _ y q (∑ k, term (hid m c) (wgt m c) ⟨1024 * (4 * (t.val / 132) + t.val % 132 % 4) + y, by omega⟩ ⟨512 * ((t.val % 132 / 4 - 1) / 4) + q, by omega⟩ k)
      (fun r hr => ?_) (fun r hr => ?_)]
  · rw [blk2 m c t ht, blk3 m c t ht, blk3 m c t ht]
    unfold val
    have hp : t.val / 132 = 0 ∨ t.val / 132 = 1 := by omega
    refine congrArg (fun z => res m c _ + z * _) ?_
    rcases hp with hp | hp
    · rw [if_pos (e0.trans hp)]
      exact congrArg (fun a => mod m c (ix2 a _)) (Fin.ext (by show 0 = (1024 * (4 * (t.val / 132) + t.val % 132 % 4) + y.val) / 4096; omega))
    · rw [if_neg (by omega)]
      exact congrArg (fun a => mod m c (ix2 a _)) (Fin.ext (by show 1 = (1024 * (4 * (t.val / 132) + t.val % 132 % 4) + y.val) / 4096; omega))
  · have x0 : xH (F := Ideal) m c (t.val / 132) (grid0.coords t 2) 0 (4 * b + 3) = topX (iblk m c 0 t) := congrArg (fun z => topX (iblk (F := Ideal) m c 0 z)) et
    rw [← x0]
    exact whole_sum m c (t.val / 132) b (by omega) (by omega) (grid0.coords t 2) 0 r q _ _ (by simp only [e2, hr, Fin.val_zero]; omega) (by simp only; omega)
  · have x1 : xH (F := Ideal) m c (t.val / 132) (grid0.coords t 2) 1 (4 * b + 3) = botX (iblk m c 0 t) := congrArg (fun z => botX (iblk (F := Ideal) m c 0 z)) et
    rw [← x1]
    exact whole_sum m c (t.val / 132) b (by omega) (by omega) (grid0.coords t 2) 1 r q _ _ (by simp only [e2, hr, Fin.val_one] <;> omega) (by simp only; omega)

/-- The result array, after the run. -/
theorem final (i : S8192x4096.Idx) : (dats m 0 c).arrAt 4 (cfgs 0).N i = G (hid m c) (wgt m c) (res m c) (mod m c) i := by
  refine ((dats m 0 c).arrAt_apply_of_coversWhere 4 (G (hid m c) (wgt m c) (res m c) (mod m c)) (P := fun i : S8192x4096.Idx => True) (fun β => True) (by decide +kernel) (fun t hf y => ?_)
    (fun j => by blk_simp [Pipeline.Window.cell_apply]) i).trans (if_pos trivial)
  rw [flush4] at hf
  have ht : 4 ≤ t.val % 132 ∧ t.val % 132 / 4 % 4 = 0 := of_decide_eq_true hf
  blk_simp
  rw [after_4]
  have hl := N_lt t
  have l0 : (y 0 : ℕ) < 1024 := ((cfg0.win 4).xinj (cfg0.grid.coords t) y 0).isLt
  have l1 : (y 1 : ℕ) < 512 := ((cfg0.win 4).xinj (cfg0.grid.coords t) y 1).isLt
  have e : (cfg0.win 4).xinj (cfg0.grid.coords t) y = (ix2 ⟨y 0, l0⟩ ⟨y 1, l1⟩ : S1024x512.Idx) := by
    funext a; fin_cases a <;> rfl
  have g0 : (((win0_4.blk t).view.emb y : S8192x4096.Idx) 0 : ℕ) = 1024 * (4 * (t.val / 132) + t.val % 132 % 4) + y 0 := by blk_simp [(idx2 t ht).2.1]; ring
  have g1 : (((win0_4.blk t).view.emb y : S8192x4096.Idx) 1 : ℕ) = 512 * ((t.val % 132 / 4 - 1) / 4) + y 1 := by blk_simp [(idx2 t ht).2.1]; ring
  refine (congrArg (outAt m c t) e).trans ((point m c t ht _ _).trans ?_)
  unfold G
  congr 1 <;> ext <;> simp only [g0, g1] <;> omega

end Cert.Proof.Down

end
-- ==== Proof.DownRef.lean ====
/- The reference's second product, entry by entry. -/
module

public import proofs.«01_k».proof.Proof.Gen.Reference5Ideal.Run
public import proofs.«01_k».proof.Proof.DownValue

@[expose] public section

set_option maxRecDepth 16384

noncomputable section

namespace Cert.Proof.DownRef

open Cert.Reference5Ideal Cert.Reference5Ideal.Gen Cert.Reference5Ideal.Value Idealize.ShloMosaic Idealize.ShloMosaic.TcCoe Idealize.SL.Sem
open Cert.Reference5Ideal.Facts
open Cert.Proof.Down (term val G)

section
variable {F : FTy → Type} [FloatOps F]

/-- The second layer's weights, the experts' rows below each other. -/
def rows (w : FVec F S2x8x2048x4096 .f32) : FVec F S16384x4096 .f32 :=
  shapeCast _ (shapeCast _ (extractStridedSlice S1x8x2048x4096 ![1, 0, 0, 0] w slices_S2x8x2048x4096_S1x8x2048x4096_1_0_0_0) shapeCasts_S1x8x2048x4096_S8x2048x4096)
    shapeCasts_S8x2048x4096_S16384x4096

/-- Every row times the weights. -/
def dots (x : FVec F S8192x16384 .bf16) (w : FVec F S16384x4096 .f32) : FVec F S8192x4096 .f32 :=
  Host.dotGeneral dot_S8192x16384_S16384x4096_S8192x4096_1_0_0_1_n_n none (extf .f32 x bitsLt_bf16_f32) w

/-- The residual and the gated product, sequence by sequence. -/
def gated (h d : FVec F S8192x4096 .f32) (g : FVec F S8x24576 .f32) : FVec F S2x4096x4096 .f32 :=
  addf (shapeCast _ h shapeCasts_S8192x4096_S2x4096x4096)
    (mulf (broadcastInDim S2x4096x4096 ![0, 1, 2] bcast_S2x1x4096_S2x4096x4096_0_1_2 (broadcastInDim S2x1x4096 ![0, 2] bcast_S2x4096_S2x1x4096_0_2
      (extractStridedSlice S2x4096 ![0, 20480] g slices_S8x24576_S2x4096_0_20480))) (shapeCast _ d shapeCasts_S8192x4096_S2x4096x4096))
end

theorem rows_at (w : FVec Ideal S2x8x2048x4096 .f32) (k : Fin 16384) (q : Fin 4096) :
    rows (F := Ideal) w (ix2 k q) = w (ix4 1 ⟨k.val / 2048, by omega⟩ ⟨k.val % 2048, by omega⟩ q) := by
  pointwise [rows]

theorem dots_at (x : FVec Ideal S8192x16384 .bf16) (w : FVec Ideal S16384x4096 .f32) (r : Fin 8192) (q : Fin 4096) :
    dots (F := Ideal) x w (ix2 r q) = ∑ k : Fin 16384, x (ix2 r k) * w (ix2 k q) := by
  pointwise [dots]

theorem gated_at (h d : FVec Ideal S8192x4096 .f32) (g : FVec Ideal S8x24576 .f32) (b : Fin 2) (s q : Fin 4096) :
    gated (F := Ideal) h d g (ix3 b s q)
      = h (ix2 ⟨b.val * 4096 + s.val, by omega⟩ q) + g (ix2 ⟨b.val, by omega⟩ ⟨20480 + q.val, by omega⟩) * d (ix2 ⟨b.val * 4096 + s.val, by omega⟩ q) := by
  pointwise [gated]

theorem flat_at (v : FVec Ideal S2x4096x4096 .f32) (r : Fin 8192) (q : Fin 4096) :
    (shapeCast S8192x4096 v shapeCasts_S2x4096x4096_S8192x4096 : FVec Ideal S8192x4096 .f32) (ix2 r q) = v (ix3 ⟨r.val / 4096, by omega⟩ ⟨r.val % 4096, by omega⟩ q) := by
  pointwise

/-- The reference's result is the kernel's. -/
theorem res (x : FVec Ideal S8192x16384 .bf16) (w : FVec Ideal S2x8x2048x4096 .f32) (h : FVec Ideal S8192x4096 .f32) (g : FVec Ideal S8x24576 .f32) :
    shapeCast S8192x4096 (gated (F := Ideal) h (dots x (rows w)) g) shapeCasts_S2x4096x4096_S8192x4096 = G x w h g := by
  funext i
  have l0 : (i 0 : ℕ) < 8192 := (i 0).isLt
  have l1 : (i 1 : ℕ) < 4096 := (i 1).isLt
  have e : i = (ix2 ⟨(i 0 : ℕ) % 8192, by omega⟩ ⟨(i 1 : ℕ) % 4096, by omega⟩ : S8192x4096.Idx) := by
    funext a
    match a with
    | 0 => exact Fin.ext (Nat.mod_eq_of_lt l0).symm
    | 1 => exact Fin.ext (Nat.mod_eq_of_lt l1).symm
  refine (congrArg (shapeCast S8192x4096 (gated (F := Ideal) h (dots x (rows w)) g) shapeCasts_S2x4096x4096_S8192x4096) e).trans ?_
  rw [flat_at, gated_at]
  unfold G val term
  simp only [Nat.div_add_mod', dots_at, rows_at]

end Cert.Proof.DownRef

end
-- ==== Proof.Down.lean ====
module

public import proofs.«01_k».proof.Defs
public import proofs.«01_k».proof.Proof.DownRef
public import proofs.«01_k».proof.Proof.Gen.Kernel5
public import Idealize.ShloMosaic.Lib.Quiescent

@[expose] public section

set_option maxRecDepth 16384

noncomputable section

/-! # The claims about the second product of the last layer -/

namespace Cert.Proof.DownHidden

open Idealize.ShloMosaic Idealize.ShloMosaic.TcCoe Idealize.SL.Sem

attribute [local instance] Cert.Kernel5.Gen.facts Cert.Kernel5Ideal.Gen.facts Cert.Reference5Ideal.Gen.facts

/-- The two programs' bodies are one text. -/
theorem body_eq : Cert.Kernel5.defs₀ (F := Bits) = Cert.Kernel5Ideal.defs₀ (F := Bits) := by
  unfold Cert.Kernel5.defs₀ Cert.Kernel5Ideal.defs₀
  refine congrArg Defs.onTc ?_
  funext l x
  match l, x with
  | 0, (t, s) => rfl

theorem defs_eq : Cert.Kernel5.defs (F := Bits) = Cert.Kernel5Ideal.defs (F := Bits) := by
  unfold Cert.Kernel5.defs Cert.Kernel5Ideal.defs
  rw [body_eq]
  rfl

theorem frame : Cert.quiescent_Kernel5 := fun m ρ _ => by
  rw [defs_eq]
  exact (θ_run Cert.Kernel5Ideal.defs _ _).mono (fun _ h => h) (Down.frame (F := Bits) m ρ)

theorem frame_ideal : Cert.quiescent_Kernel5Ideal := fun m ρ _ => Down.frame (F := Ideal) m ρ

theorem frame_ref : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

theorem algebraic : Cert.algebraic_Kernel5Ideal_Reference5Ideal := by
  intro m ρ m' ρ' _ hagree
  refine ⟨fun c => Down.G (Down.hid m c) (Down.wgt m c) (Down.res m c) (Down.mod m c), ?_, ?_⟩
  · exact (θ_run Cert.Kernel5Ideal.defs _ _).mono
      (fun _ h c => ⟨((h.1 c).1 4).trans (funext (Down.final m c)), Down.kept m h.1 c⟩)
      (Down.run_main_quiescent (F := Ideal) m ρ)
  · refine (θ_run Cert.Reference5Ideal.defs _ _).mono (fun _ h c => ⟨(h c).1.trans ?_, (h c).2⟩)
      (Cert.Reference5Ideal.Value.run (F := Ideal) m' ρ')
    obtain ⟨e0, e1, e2, e3⟩ := hagree c
    rw [e0, e1, e2, e3]
    exact DownRef.res (Down.hid m c) (Down.wgt m c) (Down.res m c) (Down.mod m c)

end Cert.Proof.DownHidden

end
-- ==== Proof.MidRun.lean ====
/- The body of the second product's kernel, run at any contents of its buffers: what it leaves in the weight buffer it
   fills over the grid, in the buffer of partial sums and in the output's block. -/
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.VecWindow
public import Idealize.ShloMosaic.Lib.Tactic

@[expose] public section

set_option maxRecDepth 16384

noncomputable section

namespace Cert.Proof.Mid

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A grid point from its three coordinates. -/
def pt (a : Fin 2) (b : Fin 33) (d : Fin 4) : grid0.Coords := fun | 0 => a | 1 => b | 2 => d

theorem pt_eq (i : grid0.Coords) : i = pt (i 0) (i 1) (i 2) := by funext a; match a with | 0 => rfl | 1 => rfl | 2 => rfl

theorem off1_eq (i : grid0.Coords) : k0_off1 i = ![(i 1).val % 2, 1024 * (i 2).val, 0] := by
  have h : ∀ (a : Fin 2) (b : Fin 33) (d : Fin 4), k0_off1 (pt a b d) = ![b.val % 2, 1024 * d.val, 0] := by decide +kernel
  have e := h (i 0) (i 1) (i 2)
  rwa [← pt_eq i] at e
theorem off2_eq (i : grid0.Coords) : k0_off2 i = ![((i 1).val + 1) % 2, 0, 0] := by
  have h : ∀ (a : Fin 2) (b : Fin 33) (d : Fin 4), k0_off2 (pt a b d) = ![(b.val + 1) % 2, 0, 0] := by decide +kernel
  have e := h (i 0) (i 1) (i 2)
  rwa [← pt_eq i] at e
theorem off3_eq (i : grid0.Coords) (r : Fin 2) : k0_off3 i (BitVec.ofNat 32 (544 * r.val)) = ![1088 * (i 2).val + 544 * r.val, 0] := by
  have h : ∀ (a : Fin 2) (b : Fin 33) (d : Fin 4) (r : Fin 2), k0_off3 (pt a b d) (BitVec.ofNat 32 (544 * r.val)) = ![1088 * d.val + 544 * r.val, 0] := by
    decide +kernel
  have e := h (i 0) (i 1) (i 2) r
  rwa [← pt_eq i] at e
theorem off4_eq (i : grid0.Coords) (r : Fin 2) : k0_off4 i (BitVec.ofNat 32 (544 * r.val)) = ![1088 * (i 2).val + 544 * r.val, 0] := off3_eq i r
theorem off5_eq (i : grid0.Coords) : k0_off5 i = ![((i 1).val + 1) % 2, 0, 0] := off2_eq i
theorem off6_eq (i : grid0.Coords) (r : Fin 2) : k0_off6 i (BitVec.ofNat 32 (544 * r.val)) = ![1088 * (i 2).val + 544 * r.val, 0] := off3_eq i r
theorem off7_eq (i : grid0.Coords) : k0_off7 i = ![((i 1).val + 1) % 2, 0, 0] := off2_eq i

instance (i : grid0.Coords) : ClosedOff (k0_off1 i) := ⟨_, off1_eq i⟩
instance (i : grid0.Coords) : ClosedOff (k0_off2 i) := ⟨_, off2_eq i⟩
theorem off3T (i : grid0.Coords) : k0_off3 i 0#32 = ![1088 * (i 2).val + 544 * (0 : Fin 2).val, 0] := off3_eq i 0
theorem off3B (i : grid0.Coords) : k0_off3 i 544#32 = ![1088 * (i 2).val + 544 * (1 : Fin 2).val, 0] := off3_eq i 1
instance (i : grid0.Coords) : ClosedOff (k0_off3 i 0#32) := ⟨_, off3T i⟩
instance (i : grid0.Coords) : ClosedOff (k0_off3 i 544#32) := ⟨_, off3B i⟩
theorem off4T (i : grid0.Coords) : k0_off4 i 0#32 = ![1088 * (i 2).val + 544 * (0 : Fin 2).val, 0] := off4_eq i 0
theorem off4B (i : grid0.Coords) : k0_off4 i 544#32 = ![1088 * (i 2).val + 544 * (1 : Fin 2).val, 0] := off4_eq i 1
instance (i : grid0.Coords) : ClosedOff (k0_off4 i 0#32) := ⟨_, off4T i⟩
instance (i : grid0.Coords) : ClosedOff (k0_off4 i 544#32) := ⟨_, off4B i⟩
instance (i : grid0.Coords) : ClosedOff (k0_off5 i) := ⟨_, off5_eq i⟩
theorem off6T (i : grid0.Coords) : k0_off6 i 0#32 = ![1088 * (i 2).val + 544 * (0 : Fin 2).val, 0] := off6_eq i 0
theorem off6B (i : grid0.Coords) : k0_off6 i 544#32 = ![1088 * (i 2).val + 544 * (1 : Fin 2).val, 0] := off6_eq i 1
instance (i : grid0.Coords) : ClosedOff (k0_off6 i 0#32) := ⟨_, off6T i⟩
instance (i : grid0.Coords) : ClosedOff (k0_off6 i 544#32) := ⟨_, off6B i⟩
instance (i : grid0.Coords) : ClosedOff (k0_off7 i) := ⟨_, off7_eq i⟩

/-- The weight buffer with one block of rows put where the point stores it. -/
def fillW (i : grid0.Coords) (d : Vec F S2x4096x512 .bf16) (w : FVec F S1x1024x512 .bf16) : Vec F S2x4096x512 .bf16 :=
  VecWindow.put (s := S2x4096x512) d ![(i 1).val % 2, 1024 * (i 2).val, 0] S1x1024x512.size w

theorem slab_inb (i : grid0.Coords) : ∀ a, (![((i 1).val + 1) % 2, 0, 0] : Fin 3 → ℕ) a + S1x4096x512.size a ≤ S2x4096x512.size a := fun a =>
  match a with
  | 0 => (by omega : ((i 1).val + 1) % 2 + 1 ≤ 2)
  | 1 => (by decide : 0 + 4096 ≤ 4096)
  | 2 => (by decide : 0 + 512 ≤ 512)

/-- The slot of the weight buffer that the point multiplies by. -/
def slab (i : grid0.Coords) (d : Vec F S2x4096x512 .bf16) : Vec F S1x4096x512 .bf16 :=
  VecWindow.window (s := S2x4096x512) d ![((i 1).val + 1) % 2, 0, 0] S1x4096x512.size (slab_inb i)

/-- Where the point's rows of the partial sums begin: `r = 0` the first half of its block, `r = 1` the other. -/
abbrev accO (i : grid0.Coords) (r : Fin 2) : Fin 2 → ℕ := ![1088 * (i 2).val + 544 * r.val, 0]

theorem acc_inb (i : grid0.Coords) (r : Fin 2) : ∀ a, accO i r a + S544x512.size a ≤ S4352x512.size a := fun a =>
  match a with
  | 0 => by
    have e : (i 2).val < 4 := (i 2).isLt
    have e' := r.isLt
    exact (by omega : 1088 * (i 2).val + 544 * r.val + 544 ≤ 4352)
  | 1 => (by decide : 0 + 512 ≤ 512)

/-- Half a block of the partial sums. -/
def accGet (i : grid0.Coords) (r : Fin 2) (d : Vec F S4352x512 .f32) : Vec F S544x512 .f32 :=
  VecWindow.window (s := S4352x512) d (accO i r) S544x512.size (acc_inb i r)

/-- The partial sums with the two halves of the point's block put in. -/
def accPut (i : grid0.Coords) (d : Vec F S4352x512 .f32) (w w' : FVec F S544x512 .f32) : Vec F S4352x512 .f32 :=
  VecWindow.put (s := S4352x512) (VecWindow.put (s := S4352x512) d (accO i 0) S544x512.size w) (accO i 1) S544x512.size w'

/-- The second half is not touched by storing the first. -/
theorem accGet_put (i : grid0.Coords) (d : Vec F S4352x512 .f32) (w : FVec F S544x512 .f32) :
    accGet i 1 (VecWindow.put (s := S4352x512) d (accO i 0) S544x512.size w) = accGet i 1 d :=
  VecWindow.window_put_of_disjoint (s := S4352x512) d _ _ _ _ _ _ 0 (Or.inr (by show 1088 * (i 2).val + 544 * 0 + 544 ≤ 1088 * (i 2).val + 544 * 1; omega))

/-- The first 544 rows of a block. -/
def topX (x : Vec F S1088x4096 .bf16) : Vec F S544x4096 .bf16 :=
  VecWindow.window (s := S1088x4096) x ![0, 0] S544x4096.size inb_S1088x4096_S544x4096_0_0
/-- The last 544 rows of a block. -/
def botX (x : Vec F S1088x4096 .bf16) : Vec F S544x4096 .bf16 :=
  VecWindow.window (s := S1088x4096) x ![544, 0] S544x4096.size inb_S1088x4096_S544x4096_544_0
/-- The first 544 rows of the residual's block. -/
def topR (x : Vec F S1088x512 .f32) : Vec F S544x512 .f32 :=
  VecWindow.window (s := S1088x512) x ![0, 0] S544x512.size inb_S1088x512_S544x512_0_0
/-- The last 544 rows of the residual's block. -/
def botR (x : Vec F S1088x512 .f32) : Vec F S544x512 .f32 :=
  VecWindow.window (s := S1088x512) x ![544, 0] S544x512.size inb_S1088x512_S544x512_544_0
/-- The rows of the modulation's block. -/
def mod0 (x : Vec F S8x512 .f32) : Vec F S1x512 .f32 := VecWindow.window (s := S8x512) x ![0, 0] S1x512.size inb_S8x512_S1x512_0_0
def mod1 (x : Vec F S8x512 .f32) : Vec F S1x512 .f32 := VecWindow.window (s := S8x512) x ![1, 0] S1x512.size inb_S8x512_S1x512_1_0
def mod2 (x : Vec F S8x512 .f32) : Vec F S1x512 .f32 := VecWindow.window (s := S8x512) x ![2, 0] S1x512.size inb_S8x512_S1x512_2_0

/-- What a point of a column block's last step leaves in the output's block. -/
def outU (i : grid0.Coords) (x0 : Vec F S1088x4096 .bf16) (x2 : Vec F S1088x512 .f32) (x3 : Vec F S8x512 .f32)
    (a b : Vec F S544x512 .f32) (w : Vec F S1x4096x512 .bf16) : Vec F S1088x512 .f32 :=
  VecWindow.put (s := S1088x512) (VecWindow.put (s := S1088x512) (fun _ => FloatOps.ofBits .f32 0) ![0, 0] S544x512.size
      (k0_pay8 (topR x2) (k0_pay7 (BitVec.ofNat 32 (i 0).val) (BitVec.ofNat 32 (i 2).val) a (topX x0) w (mod2 x3) (mod1 x3) (mod0 x3))))
    ![544, 0] S544x512.size
    (k0_pay6 (k0_pay9 b (botX x0) w) (botR x2) (k0_pay11 (BitVec.ofNat 32 (i 0).val) (BitVec.ofNat 32 (i 2).val) (mod2 x3) (mod1 x3)) (mod0 x3)
      (k0_pay12 (BitVec.ofNat 32 (i 0).val) (BitVec.ofNat 32 (i 2).val)))

/-- The two halves cover the block, so what it held before is gone. -/
theorem halves (x x' : Vec F S1088x512 .f32) (w w' : FVec F S544x512 .f32) :
    VecWindow.put (s := S1088x512) (VecWindow.put (s := S1088x512) x ![0, 0] S544x512.size w) ![544, 0] S544x512.size w'
      = VecWindow.put (s := S1088x512) (VecWindow.put (s := S1088x512) x' ![0, 0] S544x512.size w) ![544, 0] S544x512.size w' := by
  funext y
  unfold VecWindow.put
  by_cases h : ∀ a, (![544, 0] : Fin 2 → ℕ) a ≤ (y a).val ∧ (y a).val < (![544, 0] : Fin 2 → ℕ) a + S544x512.size a
  · rw [dif_pos h, dif_pos h]
  · rw [dif_neg h, dif_neg h]
    have h0 : ∀ a, (![0, 0] : Fin 2 → ℕ) a ≤ (y a).val ∧ (y a).val < (![0, 0] : Fin 2 → ℕ) a + S544x512.size a := by
      have e0 : (y 0).val < 1088 := (y 0).isLt
      have e1 : (y 1).val < 512 := (y 1).isLt
      have hy : (y 0).val < 544 := by
        by_contra hc
        refine h fun a => ?_
        match a with
        | 0 => exact ⟨not_lt.mp hc, e0⟩
        | 1 => exact ⟨Nat.zero_le _, by show (y 1).val < 0 + 512; omega⟩
      intro a
      match a with
      | 0 => exact ⟨Nat.zero_le _, by show (y 0).val < 0 + 544; omega⟩
      | 1 => exact ⟨Nat.zero_le _, by show (y 1).val < 0 + 512; omega⟩
    rw [dif_pos h0, dif_pos h0]

set_option maxHeartbeats 3200000 in
theorem runA (c : Dev nD) (i : grid0.Coords) (arg3 : Memref sig .tc .vmem S1088x4096 .bf16) (harg3 : arg3.IsWhole)
    (arg4 : Memref sig .tc .vmem S1x1024x512 .f32) (harg4 : arg4.IsWhole) (arg5 : Memref sig .tc .vmem S1088x512 .f32) (harg5 : arg5.IsWhole)
    (arg6 : Memref sig .tc .vmem S8x512 .f32) (harg6 : arg6.IsWhole) (arg7 : Memref sig .tc .vmem S1088x512 .f32) (harg7 : arg7.IsWhole)
    (arg8 : Memref sig .tc .vmem S2x4096x512 .bf16) (harg8 : arg8.IsWhole) (arg9 : Memref sig .tc .vmem S4352x512 .f32) (harg9 : arg9.IsWhole)
    (x0 : Vec F S1088x4096 .bf16) (x1 : Vec F S1x1024x512 .f32) (x2 : Vec F S1088x512 .f32) (x3 : Vec F S8x512 .f32)
    (d7 : Vec F S1088x512 .f32) (d8 : Vec F S2x4096x512 .bf16) (d9 : Vec F S4352x512 .f32)
    (h1 : k0_cond1 i = 1#1) (h2 : ¬ k0_cond2 i = 1#1)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare d7
        ∗ owns (c : Thread nD τ) arg8 fullShare d8 ∗ owns (c : Thread nD τ) arg9 fullShare d9
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare d7
            ∗ owns (c : Thread nD τ) arg8 fullShare (fillW i d8 (k0_pay1 x1))
            ∗ owns (c : Thread nD τ) arg9 fullShare d9) -∗ K ⟨⟩))
      ⊢ wp frame (wpE (defs₀ (F := F)) Variants.none c none) E
          (cc0_matmul_residual i arg3 harg3 arg4 harg4 arg5 harg5 arg6 harg6 arg7 harg7 arg8 harg8 arg9 harg9) K := by
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hs0; obtain rfl := harg9.eq_unread hs1
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr
    swap; · iexact HS0
    ipureintro
    rw [View.read_writes_cons_put _ _ _ _ _ (off1_eq i), View.writes_nil, hs0]
    exact congrArg (fillW i d8) (congrArg k0_pay1 ((View.readAt_full (s := S1x1024x512) _ _ _).trans hf1))
  iexists _; isplitr
  swap; · iexact HS1
  ipureintro
  exact harg9.read_unread _

set_option maxHeartbeats 3200000 in
theorem runB0 (c : Dev nD) (i : grid0.Coords) (arg3 : Memref sig .tc .vmem S1088x4096 .bf16) (harg3 : arg3.IsWhole)
    (arg4 : Memref sig .tc .vmem S1x1024x512 .f32) (harg4 : arg4.IsWhole) (arg5 : Memref sig .tc .vmem S1088x512 .f32) (harg5 : arg5.IsWhole)
    (arg6 : Memref sig .tc .vmem S8x512 .f32) (harg6 : arg6.IsWhole) (arg7 : Memref sig .tc .vmem S1088x512 .f32) (harg7 : arg7.IsWhole)
    (arg8 : Memref sig .tc .vmem S2x4096x512 .bf16) (harg8 : arg8.IsWhole) (arg9 : Memref sig .tc .vmem S4352x512 .f32) (harg9 : arg9.IsWhole)
    (x0 : Vec F S1088x4096 .bf16) (x1 : Vec F S1x1024x512 .f32) (x2 : Vec F S1088x512 .f32) (x3 : Vec F S8x512 .f32)
    (d7 : Vec F S1088x512 .f32) (d8 : Vec F S2x4096x512 .bf16) (d9 : Vec F S4352x512 .f32)
    (h1 : k0_cond1 i = 1#1) (h2 : k0_cond2 i = 1#1) (h3 : k0_cond3 i = 1#1) (h4 : ¬ k0_cond4 i = 1#1) (h5 : ¬ k0_cond5 i = 1#1)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare d7
        ∗ owns (c : Thread nD τ) arg8 fullShare d8 ∗ owns (c : Thread nD τ) arg9 fullShare d9
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare d7
            ∗ owns (c : Thread nD τ) arg8 fullShare (fillW i d8 (k0_pay1 x1))
            ∗ owns (c : Thread nD τ) arg9 fullShare (accPut i d9 (k0_pay2 (topX x0) (slab i (fillW i d8 (k0_pay1 x1)))) (k0_pay3 (botX x0) (slab i (fillW i d8 (k0_pay1 x1)))))) -∗ K ⟨⟩))
      ⊢ wp frame (wpE (defs₀ (F := F)) Variants.none c none) E
          (cc0_matmul_residual i arg3 harg3 arg4 harg4 arg5 harg5 arg6 harg6 arg7 harg7 arg8 harg8 arg9 harg9) K := by
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hs0; obtain rfl := harg9.eq_unread hs1
  sl_exec
  sl_step
  have e8 : arg8.view.read (Elt F) (arg8.view.writes (Elt F) (harg8.unread d8) (runB0.sl.HS0_1 c i arg4 harg4 x1 h1)) = fillW i d8 (k0_pay1 x1) := by
    delta runB0.sl.HS0_1; rw [View.read_writes_cons_put _ _ _ _ _ (off1_eq i), View.writes_nil, hs0]
    exact congrArg (fillW i d8) (congrArg k0_pay1 ((View.readAt_full (s := S1x1024x512) _ _ _).trans hf1))
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr
    swap; · iexact HS0
    ipureintro
    exact e8
  iexists _; isplitr
  swap; · iexact HS1
  ipureintro
  delta runB0.sl.v41
  rw [View.read_writes_cons_put _ _ _ _ _ (off3B i), View.read_writes_cons_put _ _ _ _ _ (off3T i), View.writes_nil, hs1,
    View.readAt_unit arg3.view _ _ rfl inb_S1088x4096_S544x4096_0_0, View.readAt_unit arg3.view _ _ rfl inb_S1088x4096_S544x4096_544_0, hf0,
    View.readAt_unit arg8.view _ _ (off2_eq i) (slab_inb i), e8]
  rfl

set_option maxHeartbeats 3200000 in
theorem runB1 (c : Dev nD) (i : grid0.Coords) (arg3 : Memref sig .tc .vmem S1088x4096 .bf16) (harg3 : arg3.IsWhole)
    (arg4 : Memref sig .tc .vmem S1x1024x512 .f32) (harg4 : arg4.IsWhole) (arg5 : Memref sig .tc .vmem S1088x512 .f32) (harg5 : arg5.IsWhole)
    (arg6 : Memref sig .tc .vmem S8x512 .f32) (harg6 : arg6.IsWhole) (arg7 : Memref sig .tc .vmem S1088x512 .f32) (harg7 : arg7.IsWhole)
    (arg8 : Memref sig .tc .vmem S2x4096x512 .bf16) (harg8 : arg8.IsWhole) (arg9 : Memref sig .tc .vmem S4352x512 .f32) (harg9 : arg9.IsWhole)
    (x0 : Vec F S1088x4096 .bf16) (x1 : Vec F S1x1024x512 .f32) (x2 : Vec F S1088x512 .f32) (x3 : Vec F S8x512 .f32)
    (d7 : Vec F S1088x512 .f32) (d8 : Vec F S2x4096x512 .bf16) (d9 : Vec F S4352x512 .f32)
    (h1 : k0_cond1 i = 1#1) (h2 : k0_cond2 i = 1#1) (h3 : ¬ k0_cond3 i = 1#1) (h4 : k0_cond4 i = 1#1) (h5 : ¬ k0_cond5 i = 1#1)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare d7
        ∗ owns (c : Thread nD τ) arg8 fullShare d8 ∗ owns (c : Thread nD τ) arg9 fullShare d9
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare d7
            ∗ owns (c : Thread nD τ) arg8 fullShare (fillW i d8 (k0_pay1 x1))
            ∗ owns (c : Thread nD τ) arg9 fullShare (accPut i d9 (k0_pay4 (accGet i 0 d9) (topX x0) (slab i (fillW i d8 (k0_pay1 x1)))) (k0_pay5 (accGet i 1 d9) (botX x0) (slab i (fillW i d8 (k0_pay1 x1)))))) -∗ K ⟨⟩))
      ⊢ wp frame (wpE (defs₀ (F := F)) Variants.none c none) E
          (cc0_matmul_residual i arg3 harg3 arg4 harg4 arg5 harg5 arg6 harg6 arg7 harg7 arg8 harg8 arg9 harg9) K := by
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hs0; obtain rfl := harg9.eq_unread hs1
  sl_exec
  sl_step
  have e8 : arg8.view.read (Elt F) (arg8.view.writes (Elt F) (harg8.unread d8) (runB1.sl.HS0_1 c i arg4 harg4 x1 h1)) = fillW i d8 (k0_pay1 x1) := by
    delta runB1.sl.HS0_1; rw [View.read_writes_cons_put _ _ _ _ _ (off1_eq i), View.writes_nil, hs0]
    exact congrArg (fillW i d8) (congrArg k0_pay1 ((View.readAt_full (s := S1x1024x512) _ _ _).trans hf1))
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr
    swap; · iexact HS0
    ipureintro
    exact e8
  iexists _; isplitr
  swap; · iexact HS1
  ipureintro
  delta runB1.sl.v58 runB1.sl.HS1_1 runB1.sl.v46
  rw [View.read_writes_cons_put _ _ _ _ _ (off4B i), View.readAt_unit arg9.view _ _ (off4B i) (acc_inb i 1), View.read_writes_cons_put _ _ _ _ _ (off4T i),
    View.readAt_unit arg9.view _ _ (off4T i) (acc_inb i 0), View.writes_nil, hs1,
    View.readAt_unit arg3.view _ _ rfl inb_S1088x4096_S544x4096_0_0, View.readAt_unit arg3.view _ _ rfl inb_S1088x4096_S544x4096_544_0, hf0,
    View.readAt_unit arg8.view _ _ (off5_eq i) (slab_inb i), e8]
  exact congrArg (fun v => accPut i d9 _ (k0_pay5 v _ _)) (accGet_put i d9 _)

set_option maxHeartbeats 3200000 in
theorem runB2 (c : Dev nD) (i : grid0.Coords) (arg3 : Memref sig .tc .vmem S1088x4096 .bf16) (harg3 : arg3.IsWhole)
    (arg4 : Memref sig .tc .vmem S1x1024x512 .f32) (harg4 : arg4.IsWhole) (arg5 : Memref sig .tc .vmem S1088x512 .f32) (harg5 : arg5.IsWhole)
    (arg6 : Memref sig .tc .vmem S8x512 .f32) (harg6 : arg6.IsWhole) (arg7 : Memref sig .tc .vmem S1088x512 .f32) (harg7 : arg7.IsWhole)
    (arg8 : Memref sig .tc .vmem S2x4096x512 .bf16) (harg8 : arg8.IsWhole) (arg9 : Memref sig .tc .vmem S4352x512 .f32) (harg9 : arg9.IsWhole)
    (x0 : Vec F S1088x4096 .bf16) (x1 : Vec F S1x1024x512 .f32) (x2 : Vec F S1088x512 .f32) (x3 : Vec F S8x512 .f32)
    (d8 : Vec F S2x4096x512 .bf16) (d9 : Vec F S4352x512 .f32)
    (h1 : k0_cond1 i = 1#1) (h2 : k0_cond2 i = 1#1) (h3 : ¬ k0_cond3 i = 1#1) (h4 : ¬ k0_cond4 i = 1#1) (h5 : k0_cond5 i = 1#1)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ owns (c : Thread nD τ) arg8 fullShare d8 ∗ owns (c : Thread nD τ) arg9 fullShare d9
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (outU i x0 x2 x3 (accGet i 0 d9) (accGet i 1 d9) (slab i (fillW i d8 (k0_pay1 x1))))
            ∗ owns (c : Thread nD τ) arg8 fullShare (fillW i d8 (k0_pay1 x1))
            ∗ owns (c : Thread nD τ) arg9 fullShare d9) -∗ K ⟨⟩))
      ⊢ wp frame (wpE (defs₀ (F := F)) Variants.none c none) E
          (cc0_matmul_residual i arg3 harg3 arg4 harg4 arg5 harg5 arg6 harg6 arg7 harg7 arg8 harg8 arg9 harg9) K := by
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3
  obtain rfl := harg8.eq_unread hs0; obtain rfl := harg9.eq_unread hs1
  sl_exec
  sl_step
  have e8 : arg8.view.read (Elt F) (arg8.view.writes (Elt F) (harg8.unread d8) (runB2.sl.HS0_1 c i arg4 harg4 x1 h1)) = fillW i d8 (k0_pay1 x1) := by
    delta runB2.sl.HS0_1; rw [View.read_writes_cons_put _ _ _ _ _ (off1_eq i), View.writes_nil, hs0]
    exact congrArg (fillW i d8) (congrArg k0_pay1 ((View.readAt_full (s := S1x1024x512) _ _ _).trans hf1))
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    delta runB2.sl.r runB2.sl.r_1 runB2.sl.r_2 runB2.sl.r_3 runB2.sl.r_4 runB2.sl.r_5 runB2.sl.r_6
    rw [View.read_writes_cons_put _ _ _ _ _ rfl, View.read_writes_cons_put _ _ _ _ _ rfl, halves _ (fun _ => FloatOps.ofBits .f32 0),
      View.readAt_unit arg9.view _ _ (off6T i) (acc_inb i 0), View.readAt_unit arg9.view _ _ (off6B i) (acc_inb i 1), hs1,
      View.readAt_unit arg3.view _ _ rfl inb_S1088x4096_S544x4096_0_0, View.readAt_unit arg3.view _ _ rfl inb_S1088x4096_S544x4096_544_0, hf0,
      View.readAt_unit arg5.view _ _ rfl inb_S1088x512_S544x512_0_0, View.readAt_unit arg5.view _ _ rfl inb_S1088x512_S544x512_544_0, hf2,
      View.readAt_unit arg6.view _ _ rfl inb_S8x512_S1x512_0_0, View.readAt_unit arg6.view _ _ rfl inb_S8x512_S1x512_1_0,
      View.readAt_unit arg6.view _ _ rfl inb_S8x512_S1x512_2_0, hf3, View.readAt_unit arg8.view _ _ (off7_eq i) (slab_inb i), e8]
    rfl
  isplitl [HS0]
  · iexists _; isplitr
    swap; · iexact HS0
    ipureintro
    exact e8
  iexists _; isplitr
  swap; · iexact HS1
  ipureintro
  exact harg9.read_unread _

set_option maxHeartbeats 3200000 in
theorem runC2 (c : Dev nD) (i : grid0.Coords) (arg3 : Memref sig .tc .vmem S1088x4096 .bf16) (harg3 : arg3.IsWhole)
    (arg4 : Memref sig .tc .vmem S1x1024x512 .f32) (harg4 : arg4.IsWhole) (arg5 : Memref sig .tc .vmem S1088x512 .f32) (harg5 : arg5.IsWhole)
    (arg6 : Memref sig .tc .vmem S8x512 .f32) (harg6 : arg6.IsWhole) (arg7 : Memref sig .tc .vmem S1088x512 .f32) (harg7 : arg7.IsWhole)
    (arg8 : Memref sig .tc .vmem S2x4096x512 .bf16) (harg8 : arg8.IsWhole) (arg9 : Memref sig .tc .vmem S4352x512 .f32) (harg9 : arg9.IsWhole)
    (x0 : Vec F S1088x4096 .bf16) (x1 : Vec F S1x1024x512 .f32) (x2 : Vec F S1088x512 .f32) (x3 : Vec F S8x512 .f32)
    (d8 : Vec F S2x4096x512 .bf16) (d9 : Vec F S4352x512 .f32)
    (h1 : ¬ k0_cond1 i = 1#1) (h2 : k0_cond2 i = 1#1) (h3 : ¬ k0_cond3 i = 1#1) (h4 : ¬ k0_cond4 i = 1#1) (h5 : k0_cond5 i = 1#1)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ owns (c : Thread nD τ) arg8 fullShare d8 ∗ owns (c : Thread nD τ) arg9 fullShare d9
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (outU i x0 x2 x3 (accGet i 0 d9) (accGet i 1 d9) (slab i d8))
            ∗ owns (c : Thread nD τ) arg8 fullShare d8
            ∗ owns (c : Thread nD τ) arg9 fullShare d9) -∗ K ⟨⟩))
      ⊢ wp frame (wpE (defs₀ (F := F)) Variants.none c none) E
          (cc0_matmul_residual i arg3 harg3 arg4 harg4 arg5 harg5 arg6 harg6 arg7 harg7 arg8 harg8 arg9 harg9) K := by
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3
  obtain rfl := harg8.eq_unread hs0; obtain rfl := harg9.eq_unread hs1
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    delta runC2.sl.r runC2.sl.r_1 runC2.sl.r_2 runC2.sl.r_3 runC2.sl.r_4 runC2.sl.r_5 runC2.sl.r_6
    rw [View.read_writes_cons_put _ _ _ _ _ rfl, View.read_writes_cons_put _ _ _ _ _ rfl, halves _ (fun _ => FloatOps.ofBits .f32 0),
      View.readAt_unit arg9.view _ _ (off6T i) (acc_inb i 0), View.readAt_unit arg9.view _ _ (off6B i) (acc_inb i 1), hs1,
      View.readAt_unit arg3.view _ _ rfl inb_S1088x4096_S544x4096_0_0, View.readAt_unit arg3.view _ _ rfl inb_S1088x4096_S544x4096_544_0, hf0,
      View.readAt_unit arg5.view _ _ rfl inb_S1088x512_S544x512_0_0, View.readAt_unit arg5.view _ _ rfl inb_S1088x512_S544x512_544_0, hf2,
      View.readAt_unit arg6.view _ _ rfl inb_S8x512_S1x512_0_0, View.readAt_unit arg6.view _ _ rfl inb_S8x512_S1x512_1_0,
      View.readAt_unit arg6.view _ _ rfl inb_S8x512_S1x512_2_0, hf3, View.readAt_unit arg8.view _ _ (off7_eq i) (slab_inb i), hs0]
    rfl
  isplitl [HS0]
  · iexists _; isplitr
    swap; · iexact HS0
    ipureintro
    exact harg8.read_unread _
  iexists _; isplitr
  swap; · iexact HS1
  ipureintro
  exact harg9.read_unread _

end Cert.Proof.Mid

end
-- ==== Proof.MidFill.lean ====
/- What the weight buffer and the partial sums of the second product hold along the grid. -/
module

public import proofs.«01_k».proof.Proof.MidRun
public import proofs.«01_k».proof.Proof.Slots

@[expose] public section

set_option maxRecDepth 16384

noncomputable section

namespace Cert.Proof.Mid

open Cert.Kernel6Ideal Cert.Kernel6Ideal.Gen
open Idealize.ShloMosaic Idealize.ShloMosaic.TcCoe
open Idealize.SL Idealize.SL.Sem

variable {F : FTy → Type} [FloatOps F]

/-! ## The weights -/

/-- The slot filled over step `T`. -/
abbrev slabOf (B : ℕ → FVec F S1x1024x512 .bf16) (T : ℕ) : Vec F S1x4096x512 .bf16 := Slots.slabOf 4 B T

/-- Before a part's point `n` each slot holds, of each of the 32 steps, the blocks stored and not yet stored over. -/
abbrev Inv (B : ℕ → FVec F S1x1024x512 .bf16) (n : ℕ) (d : Vec F S2x4096x512 .bf16) : Prop := Slots.Inv 4 32 B n d

section
variable (B : ℕ → FVec F S1x1024x512 .bf16) (d : Vec F S2x4096x512 .bf16)

theorem inv_put (i : grid0.Coords) (n : ℕ) (h1 : (i 1).val = n / 4) (h2 : (i 2).val = n % 4) (hd : Inv B n d) : Inv B (n + 1) (fillW i d (B n)) :=
  Slots.inv_put 4 32 (.inr ⟨rfl, rfl⟩) B d n _ (by rw [h1, h2]) hd

theorem inv_skip (n : ℕ) (hn : 128 ≤ n) (hd : Inv B n d) : Inv B (n + 1) d := Slots.inv_skip 4 32 (.inr ⟨rfl, rfl⟩) B d n (by omega) hd

theorem slab_inv (i : grid0.Coords) (n T : ℕ) (hT : T < 32) (h1 : (i 1).val = T + 1) (ha : 4 * (T + 1) ≤ n) (hb : n ≤ 4 * (T + 2)) (hd : Inv B n d) :
    slab i d = slabOf B T :=
  Slots.slab_inv 4 32 (.inr ⟨rfl, rfl⟩) B d _ (slab_inb i) T n (by rw [h1, show (T + 1 + 1) % 2 = T % 2 by omega]) hT ha hb hd
end

/-! ## The partial sums -/

/-- Half `r` of block `q` of the partial sums begins here. -/
abbrev rowO (q : Fin 4) (r : Fin 2) : Fin 2 → ℕ := ![1088 * q.val + 544 * r.val, 0]

theorem row_inb (q : Fin 4) (r : Fin 2) : ∀ a, rowO q r a + S544x512.size a ≤ S4352x512.size a := fun a =>
  match a with
  | 0 => (by omega : 1088 * q.val + 544 * r.val + 544 ≤ 4352)
  | 1 => (by decide : 0 + 512 ≤ 512)

/-- Half `r` of block `q` of the partial sums. -/
def rowGet (q : Fin 4) (r : Fin 2) (d : Vec F S4352x512 .f32) : Vec F S544x512 .f32 :=
  VecWindow.window (s := S4352x512) d (rowO q r) S544x512.size (row_inb q r)

theorem accGet_eq (i : grid0.Coords) (r : Fin 2) (d : Vec F S4352x512 .f32) : accGet i r d = rowGet (i 2) r d := rfl

/-- Storing a point's block leaves the other blocks. -/
theorem rowGet_other (i : grid0.Coords) (q : Fin 4) (r : Fin 2) (h : q.val ≠ (i 2).val) (d : Vec F S4352x512 .f32) (w w' : FVec F S544x512 .f32) :
    rowGet q r (accPut i d w w') = rowGet q r d := by
  have hr := r.isLt
  refine (VecWindow.window_put_of_disjoint (s := S4352x512) _ (accO i 1) _ (rowO q r) _ _ _ 0 ?_).trans
    (VecWindow.window_put_of_disjoint (s := S4352x512) _ (accO i 0) _ (rowO q r) _ _ _ 0 ?_)
  · show 1088 * q.val + 544 * r.val + 544 ≤ 1088 * (i 2).val + 544 * 1 ∨ 1088 * (i 2).val + 544 * 1 + 544 ≤ 1088 * q.val + 544 * r.val
    omega
  · show 1088 * q.val + 544 * r.val + 544 ≤ 1088 * (i 2).val + 544 * 0 ∨ 1088 * (i 2).val + 544 * 0 + 544 ≤ 1088 * q.val + 544 * r.val
    omega

/-- Storing a point's block leaves what it stored. -/
theorem rowGet_same (i : grid0.Coords) (d : Vec F S4352x512 .f32) (w w' : FVec F S544x512 .f32) :
    rowGet (i 2) 0 (accPut i d w w') = w ∧ rowGet (i 2) 1 (accPut i d w w') = w' :=
  ⟨(VecWindow.window_put_of_disjoint (s := S4352x512) _ (accO i 1) _ (rowO (i 2) 0) _ _ _ 0
      (Or.inl (by show 1088 * (i 2).val + 544 * 0 + 544 ≤ 1088 * (i 2).val + 544 * 1; omega))).trans (VecWindow.window_put_same (s := S4352x512) _ _ _ _ _),
    VecWindow.window_put_same (s := S4352x512) _ _ _ _ _⟩

/-- A half's partial sums after step `j`, from the rows `X` and the weights `W` of each step: begun anew with each column block. -/
def accV (X : ℕ → Vec F S544x4096 .bf16) (W : ℕ → Vec F S1x4096x512 .bf16) : ℕ → Vec F S544x512 .f32
  | 0 => k0_pay2 (X 0) (W 0)
  | j + 1 => if (j + 1) % 4 = 0 then k0_pay2 (X (j + 1)) (W (j + 1)) else k0_pay4 (accV X W j) (X (j + 1)) (W (j + 1))

theorem accV_first (X : ℕ → Vec F S544x4096 .bf16) (W : ℕ → Vec F S1x4096x512 .bf16) (j : ℕ) (h : j % 4 = 0) : accV X W j = k0_pay2 (X j) (W j) := by
  cases j with
  | zero => rfl
  | succ j => exact if_pos h
theorem accV_next (X : ℕ → Vec F S544x4096 .bf16) (W : ℕ → Vec F S1x4096x512 .bf16) (j : ℕ) (h : (j + 1) % 4 ≠ 0) :
    accV X W (j + 1) = k0_pay4 (accV X W j) (X (j + 1)) (W (j + 1)) := if_neg h

/-- Before a part's point `n` each half of each block holds its partial sums, if it is read again. -/
def AInv (X : Fin 4 → Fin 2 → ℕ → Vec F S544x4096 .bf16) (W : ℕ → Vec F S1x4096x512 .bf16) (n : ℕ) (d : Vec F S4352x512 .f32) : Prop :=
  ∀ (q : Fin 4) (r : Fin 2) (j : ℕ), j % 4 < 3 → 4 * (j + 1) + q.val < n → n ≤ 4 * (j + 2) + q.val → rowGet q r d = accV (X q r) W j

section
variable (X : Fin 4 → Fin 2 → ℕ → Vec F S544x4096 .bf16) (W : ℕ → Vec F S1x4096x512 .bf16) (d : Vec F S4352x512 .f32)

theorem ainv_zero : AInv X W 0 d := fun _ _ _ _ h _ => absurd h (Nat.not_lt_zero _)

/-- A point that stores no sums: one of the first step, or of a column block's last. -/
theorem ainv_skip (n : ℕ) (hn : n < 4 ∨ n / 4 % 4 = 0) (hd : AInv X W n d) : AInv X W (n + 1) d := by
  intro q r j hj ha hb
  have hq := q.isLt
  exact hd q r j hj (by omega) (by omega)

/-- A point of step `j` that stores its block's sums. -/
theorem ainv_put (i : grid0.Coords) (n j : ℕ) (h1 : n / 4 = j + 1) (h2 : (i 2).val = n % 4) (w w' : FVec F S544x512 .f32)
    (hw : w = accV (X (i 2) 0) W j) (hw' : w' = accV (X (i 2) 1) W j) (hd : AInv X W n d) : AInv X W (n + 1) (accPut i d w w') := by
  intro q r k hk ha hb
  have hq := q.isLt
  by_cases h : q.val = (i 2).val
  · obtain rfl : q = i 2 := Fin.ext h
    obtain rfl : k = j := by omega
    match r with
    | 0 => exact (rowGet_same i d w w').1.trans hw
    | 1 => exact (rowGet_same i d w w').2.trans hw'
  · rw [rowGet_other i q r h]
    exact hd q r k hk (by omega) (by omega)

/-- The sums a point of step `j + 1` reads. -/
theorem ainv_get (i : grid0.Coords) (n j : ℕ) (h1 : n / 4 = j + 2) (h2 : (i 2).val = n % 4) (hj : j % 4 < 3) (r : Fin 2) (hd : AInv X W n d) :
    accGet i r d = accV (X (i 2) r) W j := by
  have hq := (i 2).isLt
  exact hd (i 2) r j hj (by omega) (by omega)
end

end Cert.Proof.Mid

end
-- ==== Proof.MidFrame.lean ====
/- The run of the second product over its grid, for any values: what the pipeline's buffers hold after each point, and
   that the launch ends with the arguments unchanged. -/
module

public import proofs.«01_k».proof.Proof.MidFill

@[expose] public section

set_option maxRecDepth 16384

noncomputable section

namespace Cert.Proof.Mid

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem coords (t : Fin cfg0.N) :
    (grid0.coords t 0).val = t.val / 132 ∧ (grid0.coords t 1).val = t.val % 132 / 4 ∧ (grid0.coords t 2).val = t.val % 132 % 4 :=
  (by decide +kernel : ∀ t : Fin grid0.N,
    (grid0.coords t 0).val = t.val / 132 ∧ (grid0.coords t 1).val = t.val % 132 / 4 ∧ (grid0.coords t 2).val = t.val % 132 % 4) t
theorem cond1 (t : Fin cfg0.N) : k0_cond1 (grid0.coords t) = 1#1 ↔ t.val % 132 < 128 :=
  (by decide +kernel : ∀ t : Fin grid0.N, k0_cond1 (grid0.coords t) = 1#1 ↔ t.val % 132 < 128) t
theorem cond2 (t : Fin cfg0.N) : k0_cond2 (grid0.coords t) = 1#1 ↔ 4 ≤ t.val % 132 :=
  (by decide +kernel : ∀ t : Fin grid0.N, k0_cond2 (grid0.coords t) = 1#1 ↔ 4 ≤ t.val % 132) t
theorem cond3 (t : Fin cfg0.N) (h : 4 ≤ t.val % 132) : k0_cond3 (grid0.coords t) = 1#1 ↔ t.val % 132 / 4 % 4 = 1 :=
  (by decide +kernel : ∀ t : Fin grid0.N, 4 ≤ t.val % 132 → (k0_cond3 (grid0.coords t) = 1#1 ↔ t.val % 132 / 4 % 4 = 1)) t h
theorem cond4 (t : Fin cfg0.N) (h : 4 ≤ t.val % 132) : k0_cond4 (grid0.coords t) = 1#1 ↔ 2 ≤ t.val % 132 / 4 % 4 :=
  (by decide +kernel : ∀ t : Fin grid0.N, 4 ≤ t.val % 132 → (k0_cond4 (grid0.coords t) = 1#1 ↔ 2 ≤ t.val % 132 / 4 % 4)) t h
theorem cond5 (t : Fin cfg0.N) (h : 4 ≤ t.val % 132) : k0_cond5 (grid0.coords t) = 1#1 ↔ t.val % 132 / 4 % 4 = 0 :=
  (by decide +kernel : ∀ t : Fin grid0.N, 4 ≤ t.val % 132 → (k0_cond5 (grid0.coords t) = 1#1 ↔ t.val % 132 / 4 % 4 = 0)) t h
/-- The output's block is written back at every point that stores it, and at no other. -/
theorem flush4 : ∀ t : Fin cfg0.N, (cfg0.win 4).flush t = decide (4 ≤ t.val % 132 ∧ t.val % 132 / 4 % 4 = 0) :=
  (by decide +kernel : ∀ t : Fin grid0.N, win0_4.flush t = decide (4 ≤ t.val % 132 ∧ t.val % 132 / 4 % 4 = 0))
theorem idle4 (t : Fin cfg0.N) : cfg0.idle 4 (cfg0.grid.coords t) = decide (¬ (4 ≤ t.val % 132 ∧ t.val % 132 / 4 % 4 = 0)) :=
  (by decide +kernel : ∀ t : Fin grid0.N, idle0 4 (grid0.coords t) = decide (¬ (4 ≤ t.val % 132 ∧ t.val % 132 / 4 % 4 = 0))) t

/-! ## The memory at the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := rfl

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An array which the reshape does not write is as launched when the region starts. -/
theorem V_kept (c : Dev nD) (b : Ref sig .tc) (h0 : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h0))

/-- A window's block at a point, as the array holds it when the region starts. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 (t : Fin cfg0.N) : Memref sig .tc .vmem S1088x4096 .bf16 := win0_0.stage (cfg0.slots t 0)
abbrev ms1 (t : Fin cfg0.N) : Memref sig .tc .vmem S1x1024x512 .f32 := win0_1.stage (cfg0.slots t 1)
abbrev ms2 (t : Fin cfg0.N) : Memref sig .tc .vmem S1088x512 .f32 := win0_2.stage (cfg0.slots t 2)
abbrev ms3 (t : Fin cfg0.N) : Memref sig .tc .vmem S8x512 .f32 := win0_3.stage (cfg0.slots t 3)
abbrev ms4 (t : Fin cfg0.N) : Memref sig .tc .vmem S1088x512 .f32 := win0_4.stage (cfg0.slots t 4)
abbrev sc8 : Memref sig .tc .vmem S2x4096x512 .bf16 := Memref.whole cc0_scratch0
abbrev sc9 : Memref sig .tc .vmem S4352x512 .f32 := Memref.whole cc0_scratch1

theorem PhiA0_eq (c : Dev nD) :
    (Pipeline.ΦA spec0 c : sProp 𝕄)
      = iprop(iprop((∃ d, owns (c : Thread nD τ) sc8 fullShare d) ∗ (∃ d, owns (c : Thread nD τ) sc9 fullShare d)) ∗ (∃ r, prngReg c r)) := by
  unfold Pipeline.ΦA; rw [scopedRest0_eq]; simp only [sc8, sc9, owns_whole]; try rfl

/-! ## The proof data -/

/-- The grid point with number `n`. -/
def at_ (n : ℕ) : Fin cfg0.N := ⟨n % 264, Nat.mod_lt _ (by decide)⟩

theorem at_val (t : Fin cfg0.N) : at_ t.val = t := Fin.ext (Nat.mod_eq_of_lt t.isLt)

/-- The blocks of the weights, point by point of part `p`, rounded. -/
def wB (c : Dev nD) (p n : ℕ) : FVec F S1x1024x512 .bf16 := k0_pay1 (iblk m c 1 (at_ (132 * p + n)))

/-- Half `r` of the rows that block `q` of part `p` multiplies at step `j`. -/
def xH (c : Dev nD) (p : ℕ) (q : Fin 4) (r : Fin 2) (j : ℕ) : Vec F S544x4096 .bf16 :=
  match r with
  | 0 => topX (iblk m c 0 (at_ (132 * p + (4 * (j + 1) + q.val))))
  | 1 => botX (iblk m c 0 (at_ (132 * p + (4 * (j + 1) + q.val))))

/-- The partial sums of half `r` of block `q` of part `p` after step `j`. -/
abbrev aV (c : Dev nD) (p : ℕ) (q : Fin 4) (r : Fin 2) (j : ℕ) : Vec F S544x512 .f32 := accV (xH m c p q r) (slabOf (wB m c p)) j

/-- What the output's block holds after a point that stores it. -/
def outAt (c : Dev nD) (t : Fin cfg0.N) : Vec F S1088x512 .f32 :=
  outU (grid0.coords t) (iblk m c 0 t) (iblk m c 2 t) (iblk m c 3 t)
    (aV m c (t.val / 132) (grid0.coords t 2) 0 (t.val % 132 / 4 - 2)) (aV m c (t.val / 132) (grid0.coords t 2) 1 (t.val % 132 / 4 - 2))
    (slabOf (wB m c (t.val / 132)) (t.val % 132 / 4 - 1))

/-- The two buffers hold, in point `n` of part `p`, what the part's points so far stored. -/
def Held (c : Dev nD) (p n : ℕ) (d8 : Vec F S2x4096x512 .bf16) (d9 : Vec F S4352x512 .f32) : Prop :=
  Inv (wB m c p) n d8 ∧ AInv (xH m c p) (slabOf (wB m c p)) n d9

/-- A part's points begin anew. -/
theorem held_next (c : Dev nD) (n : ℕ) (d8 : Vec F S2x4096x512 .bf16) (d9 : Vec F S4352x512 .f32) (h : Held m c (n / 132) (n % 132 + 1) d8 d9) :
    Held m c ((n + 1) / 132) ((n + 1) % 132) d8 d9 := by
  by_cases hn : n % 132 = 131
  · rw [show (n + 1) % 132 = 0 by omega]
    exact ⟨Slots.inv_zero 4 32 _ _, ainv_zero _ _ _⟩
  · rwa [show (n + 1) % 132 = n % 132 + 1 by omega, show (n + 1) / 132 = n / 132 by omega]

/-- The invariant before point `n`. -/
def PhiAt (c : Dev nD) (n : ℕ) : sProp 𝕄 :=
  iprop((∃ d8 d9, ⌜Held m c (n / 132) (n % 132) d8 d9⌝ ∗ owns (c : Thread nD τ) sc8 fullShare d8 ∗ owns (c : Thread nD τ) sc9 fullShare d9) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiAt m c t.val
  q _ := fullShare
  owed _ := 0

theorem A_eq (c : Dev nD) (w : Fin cfg0.W) : (dats m 0 c).A w = V m c (Pipeline.arrRef spec0 w) := by dsimp only [dats]
theorem after_4 (c : Dev nD) (t : Fin cfg0.N) : (dats m 0 c).after 4 t = outAt m c t := by dsimp only [dats]
theorem bef_0 (c : Dev nD) (t : Fin cfg0.N) (d) : (dats m 0 c).before 0 t d = iblk m c 0 t :=
  (dats m 0 c).before_in_eq_fetched 0 rfl (fun _ => rfl) (fun _ _ _ => rfl) (fun _ => rfl) t d
theorem bef_1 (c : Dev nD) (t : Fin cfg0.N) (d) : (dats m 0 c).before 1 t d = iblk m c 1 t :=
  (dats m 0 c).before_in_eq_fetched 1 rfl (fun _ => rfl) (fun _ _ _ => rfl) (fun _ => rfl) t d
theorem bef_2 (c : Dev nD) (t : Fin cfg0.N) (d) : (dats m 0 c).before 2 t d = iblk m c 2 t :=
  (dats m 0 c).before_in_eq_fetched 2 rfl (fun _ => rfl) (fun _ _ _ => rfl) (fun _ => rfl) t d
theorem bef_3 (c : Dev nD) (t : Fin cfg0.N) (d) : (dats m 0 c).before 3 t d = iblk m c 3 t :=
  (dats m 0 c).before_in_eq_fetched 3 rfl (fun _ => rfl) (fun _ _ _ => rfl) (fun _ => rfl) t d

/-! ## The body at a point -/

/-- What the body is called with at point `t`. -/
def bodyPre (c : Dev nD) (t : Fin cfg0.N) : sProp 𝕄 :=
  iprop(PhiAt m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns, the output's block at `P`. -/
def bodyPost (c : Dev nD) (t : Fin cfg0.N) (P : sProp 𝕄) : sProp 𝕄 :=
  iprop(PhiAt m c (t.val + 1) ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ P)

theorem N_lt (t : Fin cfg0.N) : t.val < 264 := t.isLt

theorem wB_at (c : Dev nD) (t : Fin cfg0.N) : wB m c (t.val / 132) (t.val % 132) = k0_pay1 (iblk m c 1 t) := by
  unfold wB; rw [Nat.div_add_mod, at_val]

theorem fill (c : Dev nD) (t : Fin cfg0.N) (d) (h : Inv (wB m c (t.val / 132)) (t.val % 132) d) :
    Inv (wB m c (t.val / 132)) (t.val % 132 + 1) (fillW (grid0.coords t) d (k0_pay1 (iblk m c 1 t))) := by
  rw [← wB_at]; exact inv_put _ d _ _ (coords t).2.1 (coords t).2.2 h

/-- The slot a point multiplies by, whether or not the point's own block is in. -/
theorem slabs (c : Dev nD) (t : Fin cfg0.N) (ht : 4 ≤ t.val % 132) (d) (n : ℕ) (hn : t.val % 132 ≤ n) (hn' : n ≤ t.val % 132 + 1)
    (h : Inv (wB m c (t.val / 132)) n d) : slab (grid0.coords t) d = slabOf (wB m c (t.val / 132)) (t.val % 132 / 4 - 1) :=
  slab_inv _ d _ n _ (by omega) (by rw [(coords t).2.1]; omega) (by omega) (by omega) h

theorem xH_at (c : Dev nD) (t : Fin cfg0.N) (ht : 4 ≤ t.val % 132) :
    xH m c (t.val / 132) (grid0.coords t 2) 0 (t.val % 132 / 4 - 1) = topX (iblk m c 0 t)
      ∧ xH m c (t.val / 132) (grid0.coords t 2) 1 (t.val % 132 / 4 - 1) = botX (iblk m c 0 t) := by
  have e : 132 * (t.val / 132) + (4 * (t.val % 132 / 4 - 1 + 1) + (grid0.coords t 2).val) = t.val := by rw [(coords t).2.2]; omega
  constructor
  · show topX (iblk m c 0 (at_ (132 * (t.val / 132) + (4 * (t.val % 132 / 4 - 1 + 1) + (grid0.coords t 2).val)))) = _
    rw [e, at_val]
  · show botX (iblk m c 0 (at_ (132 * (t.val / 132) + (4 * (t.val % 132 / 4 - 1 + 1) + (grid0.coords t 2).val)))) = _
    rw [e, at_val]

/-- The sums a point stores in a column block's first step. -/
theorem sums_first (c : Dev nD) (t : Fin cfg0.N) (ht : 4 ≤ t.val % 132) (hk : t.val % 132 / 4 % 4 = 1) (d9)
    (h : AInv (xH m c (t.val / 132)) (slabOf (wB m c (t.val / 132))) (t.val % 132) d9) :
    AInv (xH m c (t.val / 132)) (slabOf (wB m c (t.val / 132))) (t.val % 132 + 1)
      (accPut (grid0.coords t) d9 (k0_pay2 (topX (iblk m c 0 t)) (slabOf (wB m c (t.val / 132)) (t.val % 132 / 4 - 1)))
        (k0_pay3 (botX (iblk m c 0 t)) (slabOf (wB m c (t.val / 132)) (t.val % 132 / 4 - 1)))) := by
  refine ainv_put _ _ d9 _ _ (t.val % 132 / 4 - 1) (by omega) (coords t).2.2 _ _ ?_ ?_ h
  · rw [accV_first _ _ _ (by omega), (xH_at m c t ht).1]
  · rw [accV_first _ _ _ (by omega), (xH_at m c t ht).2]; rfl

/-- The sums a point stores in a column block's middle steps. -/
theorem sums_mid (c : Dev nD) (t : Fin cfg0.N) (ht : 4 ≤ t.val % 132) (hk : 2 ≤ t.val % 132 / 4 % 4) (d9)
    (h : AInv (xH m c (t.val / 132)) (slabOf (wB m c (t.val / 132))) (t.val % 132) d9) :
    AInv (xH m c (t.val / 132)) (slabOf (wB m c (t.val / 132))) (t.val % 132 + 1)
      (accPut (grid0.coords t) d9 (k0_pay4 (accGet (grid0.coords t) 0 d9) (topX (iblk m c 0 t)) (slabOf (wB m c (t.val / 132)) (t.val % 132 / 4 - 1)))
        (k0_pay5 (accGet (grid0.coords t) 1 d9) (botX (iblk m c 0 t)) (slabOf (wB m c (t.val / 132)) (t.val % 132 / 4 - 1)))) := by
  have e : t.val % 132 / 4 - 1 = t.val % 132 / 4 - 2 + 1 := by omega
  have g := fun r => ainv_get _ _ d9 _ _ (t.val % 132 / 4 - 2) (by omega) (coords t).2.2 (by omega) r h
  refine ainv_put _ _ d9 _ _ (t.val % 132 / 4 - 1) (by omega) (coords t).2.2 _ _ ?_ ?_ h
  · rw [g 0, ← (xH_at m c t ht).1, e, accV_next _ _ _ (by omega)]
  · rw [g 1, ← (xH_at m c t ht).2, e, accV_next _ _ _ (by omega)]; rfl

/-- The sums a point reads in a column block's last step. -/
theorem sums_read (c : Dev nD) (t : Fin cfg0.N) (ht : 4 ≤ t.val % 132) (hk : t.val % 132 / 4 % 4 = 0) (d9)
    (h : AInv (xH m c (t.val / 132)) (slabOf (wB m c (t.val / 132))) (t.val % 132) d9) (r : Fin 2) :
    accGet (grid0.coords t) r d9 = aV m c (t.val / 132) (grid0.coords t 2) r (t.val % 132 / 4 - 2) :=
  ainv_get _ _ d9 _ _ (t.val % 132 / 4 - 2) (by omega) (coords t).2.2 (by omega) r h

set_option maxHeartbeats 1600000 in
/-- The body at a point of a part's first step, which only fills the weight buffer. -/
theorem sound_fill (c : Dev nD) (t : Fin cfg0.N) (ht : t.val % 132 < 4) :
    bodyPre m c t ⊢ wp frame (wpE (defs₀ (F := F)) Variants.none c none) Set.univ (bodyAt0 t) (fun _ => bodyPost m c t iprop(∃ d, owns (c : Thread nD τ) (ms4 t) fullShare ((dats m 0 c).before 4 t d))) := by
  unfold bodyPre bodyPost bodyAt0 PhiAt
  simp only [bef_0, bef_1, bef_2, bef_3]
  iintro ⟨⟨⟨%d8, %d9, %hd, S8, S9⟩, Hg⟩, Ho, ⟨%d0, H0⟩, ⟨%d1, H1⟩, ⟨%d2, H2⟩, ⟨%d3, H3⟩, ⟨%d4, H4⟩⟩
  iapply (runA c (grid0.coords t) _ _ _ _ _ _ _ _ _ _ _ _ _ _ (iblk m c 0 t) (iblk m c 1 t) (iblk m c 2 t) (iblk m c 3 t) _ d8 d9
    ((cond1 t).2 (by omega)) (fun h => absurd ((cond2 t).1 h) (by omega)) Set.univ _)
  isplitl [H0]; · iexact H0
  isplitl [H1]; · iexact H1
  isplitl [H2]; · iexact H2
  isplitl [H3]; · iexact H3
  isplitl [H4]; · iexact H4
  isplitl [S8]; · iexact S8
  isplitl [S9]; · iexact S9
  iintro ⟨H0, H1, H2, H3, H4, S8, S9⟩
  isplitl [S8 S9 Hg]
  · isplitl [S8 S9]
    · iexists _, _
      isplitr
      · ipureintro; exact held_next m c _ _ _ ⟨fill m c t d8 hd.1, ainv_skip _ _ d9 _ (Or.inl ht) hd.2⟩
      isplitl [S8]; · iexact S8
      iexact S9
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a point of a column block's first step, which begins the sums. -/
theorem sound_first (c : Dev nD) (t : Fin cfg0.N) (ht : 4 ≤ t.val % 132) (hk : t.val % 132 / 4 % 4 = 1) :
    bodyPre m c t ⊢ wp frame (wpE (defs₀ (F := F)) Variants.none c none) Set.univ (bodyAt0 t) (fun _ => bodyPost m c t iprop(∃ d, owns (c : Thread nD τ) (ms4 t) fullShare ((dats m 0 c).before 4 t d))) := by
  unfold bodyPre bodyPost bodyAt0 PhiAt
  simp only [bef_0, bef_1, bef_2, bef_3]
  iintro ⟨⟨⟨%d8, %d9, %hd, S8, S9⟩, Hg⟩, Ho, ⟨%d0, H0⟩, ⟨%d1, H1⟩, ⟨%d2, H2⟩, ⟨%d3, H3⟩, ⟨%d4, H4⟩⟩
  have ew := slabs m c t ht _ _ (Nat.le_succ _) le_rfl (fill m c t d8 hd.1)
  iapply (runB0 c (grid0.coords t) _ _ _ _ _ _ _ _ _ _ _ _ _ _ (iblk m c 0 t) (iblk m c 1 t) (iblk m c 2 t) (iblk m c 3 t) _ d8 d9
    ((cond1 t).2 (by omega)) ((cond2 t).2 (by omega)) ((cond3 t ht).2 (by omega)) (fun h => absurd ((cond4 t ht).1 h) (by omega)) (fun h => absurd ((cond5 t ht).1 h) (by omega)) Set.univ _)
  isplitl [H0]; · iexact H0
  isplitl [H1]; · iexact H1
  isplitl [H2]; · iexact H2
  isplitl [H3]; · iexact H3
  isplitl [H4]; · iexact H4
  isplitl [S8]; · iexact S8
  isplitl [S9]; · iexact S9
  rw [ew]
  iintro ⟨H0, H1, H2, H3, H4, S8, S9⟩
  isplitl [S8 S9 Hg]
  · isplitl [S8 S9]
    · iexists _, _
      isplitr
      · ipureintro; exact held_next m c _ _ _ ⟨fill m c t d8 hd.1, sums_first m c t ht hk d9 hd.2⟩
      isplitl [S8]; · iexact S8
      iexact S9
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a point of a column block's middle steps, which adds to the sums. -/
theorem sound_mid (c : Dev nD) (t : Fin cfg0.N) (ht : 4 ≤ t.val % 132) (hk : 2 ≤ t.val % 132 / 4 % 4) :
    bodyPre m c t ⊢ wp frame (wpE (defs₀ (F := F)) Variants.none c none) Set.univ (bodyAt0 t) (fun _ => bodyPost m c t iprop(∃ d, owns (c : Thread nD τ) (ms4 t) fullShare ((dats m 0 c).before 4 t d))) := by
  unfold bodyPre bodyPost bodyAt0 PhiAt
  simp only [bef_0, bef_1, bef_2, bef_3]
  iintro ⟨⟨⟨%d8, %d9, %hd, S8, S9⟩, Hg⟩, Ho, ⟨%d0, H0⟩, ⟨%d1, H1⟩, ⟨%d2, H2⟩, ⟨%d3, H3⟩, ⟨%d4, H4⟩⟩
  have ew := slabs m c t ht _ _ (Nat.le_succ _) le_rfl (fill m c t d8 hd.1)
  iapply (runB1 c (grid0.coords t) _ _ _ _ _ _ _ _ _ _ _ _ _ _ (iblk m c 0 t) (iblk m c 1 t) (iblk m c 2 t) (iblk m c 3 t) _ d8 d9
    ((cond1 t).2 (by omega)) ((cond2 t).2 (by omega)) (fun h => absurd ((cond3 t ht).1 h) (by omega)) ((cond4 t ht).2 (by omega)) (fun h => absurd ((cond5 t ht).1 h) (by omega)) Set.univ _)
  isplitl [H0]; · iexact H0
  isplitl [H1]; · iexact H1
  isplitl [H2]; · iexact H2
  isplitl [H3]; · iexact H3
  isplitl [H4]; · iexact H4
  isplitl [S8]; · iexact S8
  isplitl [S9]; · iexact S9
  rw [ew]
  iintro ⟨H0, H1, H2, H3, H4, S8, S9⟩
  isplitl [S8 S9 Hg]
  · isplitl [S8 S9]
    · iexists _, _
      isplitr
      · ipureintro; exact held_next m c _ _ _ ⟨fill m c t d8 hd.1, sums_mid m c t ht hk d9 hd.2⟩
      isplitl [S8]; · iexact S8
      iexact S9
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a point of a column block's last step, which writes the result. -/
theorem sound_last (c : Dev nD) (t : Fin cfg0.N) (ht : 4 ≤ t.val % 132) (hk : t.val % 132 / 4 % 4 = 0) (ht' : t.val % 132 < 128) :
    bodyPre m c t ⊢ wp frame (wpE (defs₀ (F := F)) Variants.none c none) Set.univ (bodyAt0 t) (fun _ => bodyPost m c t (owns (c : Thread nD τ) (ms4 t) fullShare (outAt m c t))) := by
  unfold bodyPre bodyPost bodyAt0 PhiAt
  simp only [bef_0, bef_1, bef_2, bef_3]
  iintro ⟨⟨⟨%d8, %d9, %hd, S8, S9⟩, Hg⟩, Ho, ⟨%d0, H0⟩, ⟨%d1, H1⟩, ⟨%d2, H2⟩, ⟨%d3, H3⟩, ⟨%d4, H4⟩⟩
  have ew := slabs m c t ht _ _ (Nat.le_succ _) le_rfl (fill m c t d8 hd.1)
  have e0 := sums_read m c t ht hk d9 hd.2 0
  have e1 := sums_read m c t ht hk d9 hd.2 1
  iapply (runB2 c (grid0.coords t) _ _ _ _ _ _ _ _ _ _ _ _ _ _ (iblk m c 0 t) (iblk m c 1 t) (iblk m c 2 t) (iblk m c 3 t) d8 d9
    ((cond1 t).2 (by omega)) ((cond2 t).2 (by omega)) (fun h => absurd ((cond3 t ht).1 h) (by omega)) (fun h => absurd ((cond4 t ht).1 h) (by omega)) ((cond5 t ht).2 (by omega)) Set.univ _)
  isplitl [H0]; · iexact H0
  isplitl [H1]; · iexact H1
  isplitl [H2]; · iexact H2
  isplitl [H3]; · iexact H3
  isplitl [H4]; · iexists _; iexact H4
  isplitl [S8]; · iexact S8
  isplitl [S9]; · iexact S9
  rw [ew, e0, e1]
  iintro ⟨H0, H1, H2, H3, H4, S8, S9⟩
  isplitl [S8 S9 Hg]
  · isplitl [S8 S9]
    · iexists _, _
      isplitr
      · ipureintro; exact held_next m c _ _ _ ⟨fill m c t d8 hd.1, ainv_skip _ _ d9 _ (Or.inr hk) hd.2⟩
      isplitl [S8]; · iexact S8
      iexact S9
    iexact Hg
  isplitl [Ho]; · iexact Ho
  isplitl [H0]; · iexact H0
  isplitl [H1]; · iexact H1
  isplitl [H2]; · iexact H2
  isplitl [H3]; · iexact H3
  iexact H4

set_option maxHeartbeats 1600000 in
/-- The body at a point of a part's last step, which only multiplies and writes the result. -/
theorem sound_end (c : Dev nD) (t : Fin cfg0.N) (ht : 4 ≤ t.val % 132) (hk : t.val % 132 / 4 % 4 = 0) (ht' : 128 ≤ t.val % 132) :
    bodyPre m c t ⊢ wp frame (wpE (defs₀ (F := F)) Variants.none c none) Set.univ (bodyAt0 t) (fun _ => bodyPost m c t (owns (c : Thread nD τ) (ms4 t) fullShare (outAt m c t))) := by
  unfold bodyPre bodyPost bodyAt0 PhiAt
  simp only [bef_0, bef_1, bef_2, bef_3]
  iintro ⟨⟨⟨%d8, %d9, %hd, S8, S9⟩, Hg⟩, Ho, ⟨%d0, H0⟩, ⟨%d1, H1⟩, ⟨%d2, H2⟩, ⟨%d3, H3⟩, ⟨%d4, H4⟩⟩
  have ew := slabs m c t ht _ _ le_rfl (Nat.le_succ _) hd.1
  have e0 := sums_read m c t ht hk d9 hd.2 0
  have e1 := sums_read m c t ht hk d9 hd.2 1
  iapply (runC2 c (grid0.coords t) _ _ _ _ _ _ _ _ _ _ _ _ _ _ (iblk m c 0 t) (iblk m c 1 t) (iblk m c 2 t) (iblk m c 3 t) d8 d9
    (fun h => absurd ((cond1 t).1 h) (by omega)) ((cond2 t).2 (by omega)) (fun h => absurd ((cond3 t ht).1 h) (by omega)) (fun h => absurd ((cond4 t ht).1 h) (by omega)) ((cond5 t ht).2 (by omega)) Set.univ _)
  isplitl [H0]; · iexact H0
  isplitl [H1]; · iexact H1
  isplitl [H2]; · iexact H2
  isplitl [H3]; · iexact H3
  isplitl [H4]; · iexists _; iexact H4
  isplitl [S8]; · iexact S8
  isplitl [S9]; · iexact S9
  rw [ew, e0, e1]
  iintro ⟨H0, H1, H2, H3, H4, S8, S9⟩
  isplitl [S8 S9 Hg]
  · isplitl [S8 S9]
    · iexists _, _
      isplitr
      · ipureintro; exact held_next m c _ _ _ ⟨inv_skip _ d8 _ ht' hd.1, ainv_skip _ _ d9 _ (Or.inr hk) hd.2⟩
      isplitl [S8]; · iexact S8
      iexact S9
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases hs : 4 ≤ t.val % 132 ∧ t.val % 132 / 4 % 4 = 0
  · rw [idle4, decide_eq_false (not_not_intro hs)]
    by_cases ht' : t.val % 132 < 128
    · exact triple_restated (sound_last m c t hs.1 hs.2 ht') rfl .rfl fun _ => .rfl
    · exact triple_restated (sound_end m c t hs.1 hs.2 (by omega)) rfl .rfl fun _ => .rfl
  · rw [idle4, flush4, decide_eq_true hs, decide_eq_false hs]
    by_cases ht : t.val % 132 < 4
    · exact triple_restated (sound_fill m c t ht) rfl .rfl fun _ => .rfl
    · by_cases hk : t.val % 132 / 4 % 4 = 1
      · exact triple_restated (sound_first m c t (by omega) hk) rfl .rfl fun _ => .rfl
      · exact triple_restated (sound_mid m c t (by omega) (by omega)) rfl .rfl fun _ => .rfl

/-! ## The run -/

theorem hin (c : Dev nD) : Pipeline.ΦA spec0 c ⊢ (dats (F := F) m 0 c).Φ 0 := by
  rw [PhiA0_eq]
  show _ ⊢ PhiAt m c 0
  unfold PhiAt
  iintro ⟨⟨⟨%d8, S8⟩, ⟨%d9, S9⟩⟩, Hg⟩
  isplitl [S8 S9]
  · iexists d8, d9
    isplitr
    · ipureintro; exact ⟨Slots.inv_zero 4 32 _ _, ainv_zero _ _ _⟩
    isplitl [S8]; · iexact S8
    iexact S9
  iexact Hg

theorem hout (c : Dev nD) : (dats (F := F) m 0 c).Φ (Fin.last cfg0.N) ⊢ Pipeline.ΦA spec0 c := by
  rw [PhiA0_eq]
  show PhiAt m c _ ⊢ _
  unfold PhiAt
  iintro ⟨⟨%d8, %d9, %hd, S8, S9⟩, Hg⟩
  isplitl [S8 S9]
  · isplitl [S8]
    · iexists d8; iexact S8
    iexists d9; iexact S9
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ w => by match w with | 0 => rfl | 1 => rfl | 2 => rfl | 3 => rfl | 4 => rfl)
    (howed := fun _ _ => rfl) (V := V m) (hmain := hmain m Variants.none) (hA := A_eq m) (hin := hin m) (hout := hout m)

/-- The arguments are as launched. -/
theorem kept {r} (h : (Pipeline.FramePost cfgs (dats m) 0 (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_kept m c main_arg0 (by decide)))),
    ((h c).2 main_arg1 (Pipeline.mem_restRefs_of main_arg1 (by decide) (by decide))).trans (V_kept m c main_arg1 (by decide)),
    ((h c).1 2).trans (((dats m 0 c).arrAt_in 2 rfl _).trans ((A_eq m c 2).trans (V_kept m c main_arg2 (by decide)))),
    ((h c).1 3).trans (((dats m 0 c).arrAt_in 3 rfl _).trans ((A_eq m c 3).trans (V_kept m c main_arg3 (by decide))))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨kept m h.1, h.2⟩) (run_main_quiescent m ρ)

end Cert.Proof.Mid

end
-- ==== Proof.MidAt.lean ====
/- The second product's arithmetic at one entry, over the reals. -/
module

public import proofs.«01_k».proof.Proof.MidFrame
public import Idealize.ShloMosaic.Lib.Pipeline.ValueKit

@[expose] public section

set_option maxRecDepth 16384

noncomputable section

namespace Cert.Proof.Mid

open Cert.Kernel6Ideal Cert.Kernel6Ideal.Gen
open Idealize.ShloMosaic Idealize.ShloMosaic.TcCoe Idealize.SL.Sem
open Cert.Kernel6Ideal.Facts

/-- A row of a block times a column of the weights. -/
def prod (x : FVec Ideal S544x4096 .bf16) (w : FVec Ideal S1x4096x512 .bf16) (r : Fin 544) (q : Fin 512) : EReal := ∑ k : Fin 4096, x (ix2 r k) * w (ix3 0 k q)

theorem pay1_at (x : FVec Ideal S1x1024x512 .f32) (i : Fin 1024) (j : Fin 512) : k0_pay1 (F := Ideal) x (ix3 0 i j) = x (ix3 0 i j) := by
  pointwise [k0_pay1]
theorem pay2_at (x : FVec Ideal S544x4096 .bf16) (w : FVec Ideal S1x4096x512 .bf16) (r : Fin 544) (q : Fin 512) : k0_pay2 (F := Ideal) x w (ix2 r q) = prod x w r q := by
  pointwise [k0_pay2, prod]
theorem pay4_at (a : FVec Ideal S544x512 .f32) (x : FVec Ideal S544x4096 .bf16) (w : FVec Ideal S1x4096x512 .bf16) (r : Fin 544) (q : Fin 512) :
    k0_pay4 (F := Ideal) a x w (ix2 r q) = a (ix2 r q) + prod x w r q := by
  pointwise [k0_pay4, prod]

/-- The row of the modulation that a row of the kernel's block `n` takes: chosen by the row's number `o` rows into the block. -/
def pick (n o : BitVec 32) (r : Fin 544) (v0 v1 v2 : EReal) : EReal :=
  Scalar.select (IntOp.cmpi .slt (IntOp.addi (Scalar.addi (Scalar.muli n 1088#32) o) (BitVec.ofNat 32 r.val)) 4096#32) v0
    (Scalar.select (IntOp.cmpi .slt (IntOp.addi (Scalar.addi (Scalar.muli n 1088#32) o) (BitVec.ofNat 32 r.val)) 8192#32) v1 v2)

theorem row_lt : ∀ (n : Fin 8) (h : Fin 2) (r : Fin 544),
    IntOp.cmpi .slt (IntOp.addi (Scalar.addi (Scalar.muli (BitVec.ofNat 32 n.val) 1088#32) (BitVec.ofNat 32 (544 * h.val))) (BitVec.ofNat 32 r.val)) 4096#32
        = (if 1088 * n.val + (544 * h.val + r.val) < 4096 then 1#1 else 0#1)
      ∧ IntOp.cmpi .slt (IntOp.addi (Scalar.addi (Scalar.muli (BitVec.ofNat 32 n.val) 1088#32) (BitVec.ofNat 32 (544 * h.val))) (BitVec.ofNat 32 r.val)) 8192#32
        = (if 1088 * n.val + (544 * h.val + r.val) < 8192 then 1#1 else 0#1) := by decide +kernel

/-- A block's number from the grid's two coordinates. -/
theorem block_no : ∀ (a : Fin 2) (b : Fin 4), 4 * a.val + b.val < 8
    ∧ Scalar.addi (Scalar.muli (BitVec.ofNat 32 a.val) 4#32) (BitVec.ofNat 32 b.val) = BitVec.ofNat 32 (4 * a.val + b.val) := by decide +kernel

/-- Each sample's rows take its row of the modulation, and the rows below them, the context's, take the third. -/
theorem pick_eq {n : BitVec 32} {k : ℕ} (hk : k < 8 ∧ n = BitVec.ofNat 32 k) (h : Fin 2) (r : Fin 544) (R : Fin 8704) (hR : R.val = 1088 * k + (544 * h.val + r.val))
    (v : Fin 8 → EReal) : pick n (BitVec.ofNat 32 (544 * h.val)) r (v 0) (v 1) (v 2) = v ⟨R.val / 4096, by omega⟩ := by
  unfold pick
  rw [hk.2, (row_lt ⟨k, hk.1⟩ h r).1, (row_lt ⟨k, hk.1⟩ h r).2]
  simp only [← hR]
  by_cases e : R.val < 4096
  · rw [if_pos e]
    exact congrArg v (Fin.ext (by show 0 = R.val / 4096; omega))
  · rw [if_neg e]
    by_cases e' : R.val < 8192
    · rw [if_pos e']
      exact congrArg v (Fin.ext (by show 1 = R.val / 4096; omega))
    · rw [if_neg e']
      exact congrArg v (Fin.ext (by show 2 = R.val / 4096; omega))

theorem pay7_at (a b : BitVec 32) (s : FVec Ideal S544x512 .f32) (x : FVec Ideal S544x4096 .bf16) (w : FVec Ideal S1x4096x512 .bf16) (m2 m1 m0 : FVec Ideal S1x512 .f32) (r : Fin 544) (q : Fin 512) :
    k0_pay7 (F := Ideal) a b s x w m2 m1 m0 (ix2 r q) = pick (Scalar.addi (Scalar.muli a 4#32) b) 0#32 r (m0 (ix2 0 q)) (m1 (ix2 0 q)) (m2 (ix2 0 q)) * (s (ix2 r q) + prod x w r q) := by
  pointwise [k0_pay7, prod, pick]
theorem pay8_at (v s : FVec Ideal S544x512 .f32) (r : Fin 544) (q : Fin 512) : k0_pay8 (F := Ideal) v s (ix2 r q) = v (ix2 r q) + s (ix2 r q) := by
  pointwise [k0_pay8]
theorem pay9_at (a : FVec Ideal S544x512 .f32) (x : FVec Ideal S544x4096 .bf16) (w : FVec Ideal S1x4096x512 .bf16) (r : Fin 544) (q : Fin 512) :
    k0_pay9 (F := Ideal) a x w (ix2 r q) = a (ix2 r q) + prod x w r q := by
  unfold prod
  pointwise [k0_pay9]
theorem pay6_at (a b : BitVec 32) (s v : FVec Ideal S544x512 .f32) (m2 m1 m0 : FVec Ideal S1x512 .f32) (r : Fin 544) (q : Fin 512) :
    k0_pay6 (F := Ideal) s v (k0_pay11 a b m2 m1) m0 (k0_pay12 a b) (ix2 r q)
      = v (ix2 r q) + pick (Scalar.addi (Scalar.muli a 4#32) b) 544#32 r (m0 (ix2 0 q)) (m1 (ix2 0 q)) (m2 (ix2 0 q)) * s (ix2 r q) := by
  pointwise [k0_pay6, k0_pay11, k0_pay12, k0_pay10, pick]

/-- The partial sums before a column block's last step. -/
theorem accV_at (X : ℕ → FVec Ideal S544x4096 .bf16) (W : ℕ → FVec Ideal S1x4096x512 .bf16) (b : ℕ) (r : Fin 544) (q : Fin 512) :
    (accV (F := Ideal) X W (4 * b + 2) : FVec Ideal S544x512 .f32) (ix2 r q)
      = prod (X (4 * b)) (W (4 * b)) r q + prod (X (4 * b + 1)) (W (4 * b + 1)) r q + prod (X (4 * b + 2)) (W (4 * b + 2)) r q := by
  rw [show 4 * b + 2 = 4 * b + 1 + 1 from rfl, accV_next _ _ _ (by omega), pay4_at, accV_next _ _ _ (by omega), pay4_at, accV_first _ _ _ (by omega), pay2_at]

/-- An entry of the first rows of a block. -/
theorem topX_at (x : FVec Ideal S1088x4096 .bf16) (r : Fin 544) (k : Fin 4096) : topX (F := Ideal) x (ix2 r k) = x (ix2 ⟨r.val, by omega⟩ k) :=
  Slots.window_ix2 x _ _ _ k _ _ (by simp) rfl
theorem botX_at (x : FVec Ideal S1088x4096 .bf16) (r : Fin 544) (k : Fin 4096) : botX (F := Ideal) x (ix2 r k) = x (ix2 ⟨544 + r.val, by omega⟩ k) :=
  Slots.window_ix2 x _ _ _ k _ _ (by simp) rfl
/-- An entry of the first rows of the residual. -/
theorem topR_at (x : FVec Ideal S1088x512 .f32) (r : Fin 544) (k : Fin 512) : topR (F := Ideal) x (ix2 r k) = x (ix2 ⟨r.val, by omega⟩ k) :=
  Slots.window_ix2 x _ _ _ k _ _ (by simp) rfl
theorem botR_at (x : FVec Ideal S1088x512 .f32) (r : Fin 544) (k : Fin 512) : botR (F := Ideal) x (ix2 r k) = x (ix2 ⟨544 + r.val, by omega⟩ k) :=
  Slots.window_ix2 x _ _ _ k _ _ (by simp) rfl
/-- The rows of the modulation. -/
theorem mod0_at (x : FVec Ideal S8x512 .f32) (k : Fin 512) : mod0 (F := Ideal) x (ix2 0 k) = x (ix2 0 k) :=
  Slots.window_ix2 x _ _ _ k _ _ (by simp) rfl
theorem mod1_at (x : FVec Ideal S8x512 .f32) (k : Fin 512) : mod1 (F := Ideal) x (ix2 0 k) = x (ix2 1 k) :=
  Slots.window_ix2 x _ _ _ k _ _ (by simp) rfl
theorem mod2_at (x : FVec Ideal S8x512 .f32) (k : Fin 512) : mod2 (F := Ideal) x (ix2 0 k) = x (ix2 2 k) :=
  Slots.window_ix2 x _ _ _ k _ _ (by simp) rfl

/-- An entry of a block stored as two halves. -/
theorem put_halves (d : FVec Ideal S1088x512 .f32) (w w' : FVec Ideal S544x512 .f32) (y : Fin 1088) (q : Fin 512) (v : EReal)
    (h : ∀ r : Fin 544, y = ⟨r.val, by omega⟩ → w (ix2 r q) = v) (h' : ∀ r : Fin 544, y = ⟨544 + r.val, by omega⟩ → w' (ix2 r q) = v) :
    VecWindow.put (s := S1088x512) (VecWindow.put (s := S1088x512) d ![0, 0] S544x512.size w) ![544, 0] S544x512.size w' (ix2 y q) = v := by
  unfold VecWindow.put
  by_cases hy : 544 ≤ y.val
  · have hp : ∀ a, (![544, 0] : Fin 2 → ℕ) a ≤ ((ix2 y q : S1088x512.Idx) a).val ∧ ((ix2 y q : S1088x512.Idx) a).val < (![544, 0] : Fin 2 → ℕ) a + S544x512.size a := fun a => by
      match a with
      | 0 => exact ⟨hy, y.isLt⟩
      | 1 => exact ⟨Nat.zero_le _, by show q.val < 0 + 512; omega⟩
    rw [dif_pos hp]
    have el : (Rect.unitLocal (s := S1088x512) (off := ![544, 0]) (size := S544x512.size) (ix2 y q) hp : S544x512.Idx) = ix2 (⟨y.val - 544, by omega⟩ : Fin 544) q := by
      funext a
      match a with
      | 0 => rfl
      | 1 => rfl
    exact (congrArg w' el).trans (h' _ (Fin.ext (by show y.val = 544 + (y.val - 544); omega)))
  · have hp : ¬ ∀ a, (![544, 0] : Fin 2 → ℕ) a ≤ ((ix2 y q : S1088x512.Idx) a).val ∧ ((ix2 y q : S1088x512.Idx) a).val < (![544, 0] : Fin 2 → ℕ) a + S544x512.size a := fun hc => hy (hc 0).1
    have hp0 : ∀ a, (![0, 0] : Fin 2 → ℕ) a ≤ ((ix2 y q : S1088x512.Idx) a).val ∧ ((ix2 y q : S1088x512.Idx) a).val < (![0, 0] : Fin 2 → ℕ) a + S544x512.size a := fun a => by
      match a with
      | 0 => exact ⟨Nat.zero_le _, by show y.val < 0 + 544; omega⟩
      | 1 => exact ⟨Nat.zero_le _, by show q.val < 0 + 512; omega⟩
    rw [dif_neg hp, dif_pos hp0]
    have el : (Rect.unitLocal (s := S1088x512) (off := ![0, 0]) (size := S544x512.size) (ix2 y q) hp0 : S544x512.Idx) = ix2 (⟨y.val, by omega⟩ : Fin 544) q := by
      funext a
      match a with
      | 0 => rfl
      | 1 => rfl
    exact (congrArg w el).trans (h _ rfl)

/-- An entry of the output's block, from the sums so far, the last step's rows and weights, the residual and the modulation. -/
theorem outU_at (i : grid0.Coords) (x0 : FVec Ideal S1088x4096 .bf16) (x2 : FVec Ideal S1088x512 .f32) (x3 : FVec Ideal S8x512 .f32) (a b : FVec Ideal S544x512 .f32)
    (w : FVec Ideal S1x4096x512 .bf16) (y : Fin 1088) (q : Fin 512) (R : Fin 8704) (hR : R.val = 1088 * (4 * (i 0).val + (i 2).val) + y.val) (v : EReal)
    (ha : ∀ r : Fin 544, y = ⟨r.val, by omega⟩ → a (ix2 r q) + prod (topX (F := Ideal) x0) w r q = v)
    (hb : ∀ r : Fin 544, y = ⟨544 + r.val, by omega⟩ → b (ix2 r q) + prod (botX (F := Ideal) x0) w r q = v) :
    (outU (F := Ideal) i x0 x2 x3 a b w : FVec Ideal S1088x512 .f32) (ix2 y q)
      = x2 (ix2 y q) + x3 (ix2 ⟨R.val / 4096, by omega⟩ q) * v := by
  unfold outU
  refine put_halves _ _ _ y q _ (fun r hr => ?_) (fun r hr => ?_)
  · rw [pay8_at, pay7_at, ha r hr, topR_at, mod0_at, mod1_at, mod2_at]
    exact congrArg₂ (fun a z => x2 (ix2 a q) + z * v) hr.symm (pick_eq (block_no (i 0) (i 2)) 0 r R (by rw [hR, hr]; simp only [Fin.val_zero]; omega) (fun k => x3 (ix2 k q)))
  · rw [pay6_at, pay9_at, hb r hr, botR_at, mod0_at, mod1_at, mod2_at]
    exact congrArg₂ (fun a z => x2 (ix2 a q) + z * v) hr.symm (pick_eq (block_no (i 0) (i 2)) 1 r R (by rw [hR, hr]; simp only [Fin.val_one]) (fun k => x3 (ix2 k q)))

end Cert.Proof.Mid

end
-- ==== Proof.MidValue.lean ====
/- The second product's result, entry by entry, over the reals. -/
module

public import proofs.«01_k».proof.Proof.MidFrame
public import proofs.«01_k».proof.Proof.MidAt
public import proofs.«01_k».proof.Proof.DownAt

@[expose] public section

set_option maxRecDepth 16384

noncomputable section

namespace Cert.Proof.Mid

open Cert.Kernel6Ideal Cert.Kernel6Ideal.Gen
open Idealize.ShloMosaic Idealize.ShloMosaic.TcCoe Idealize.ShloMosaic.Tactic Idealize.SL.Sem
open Cert.Kernel6Ideal.Facts
open Cert.Proof.Down (sum_quarters)

/-! ## The value -/

/-- One product of the sum for row `r` and column `q`: a hidden entry times a weight of the first layer's experts. -/
def term (x : FVec Ideal ⟨2, ![8704, 16384]⟩ .bf16) (w : FVec Ideal ⟨4, ![2, 8, 2048, 4096]⟩ .f32) (r : Fin 8704) (q : Fin 4096) (k : Fin 16384) : EReal :=
  x (ix2 r k) * w (ix4 0 ⟨k.val / 2048, by omega⟩ ⟨k.val % 2048, by omega⟩ q)

/-- An entry of the result: the residual and the gated sum. -/
def val (x : FVec Ideal ⟨2, ![8704, 16384]⟩ .bf16) (w : FVec Ideal ⟨4, ![2, 8, 2048, 4096]⟩ .f32) (h : FVec Ideal ⟨2, ![8704, 4096]⟩ .f32)
    (g : FVec Ideal ⟨2, ![8, 24576]⟩ .f32) (r : Fin 8704) (q : Fin 4096) : EReal :=
  h (ix2 r q) + g (ix2 ⟨r.val / 4096, by omega⟩ ⟨20480 + q.val, by omega⟩) * ∑ k, term x w r q k

/-- The result. -/
def G (x : FVec Ideal ⟨2, ![8704, 16384]⟩ .bf16) (w : FVec Ideal ⟨4, ![2, 8, 2048, 4096]⟩ .f32) (h : FVec Ideal ⟨2, ![8704, 4096]⟩ .f32)
    (g : FVec Ideal ⟨2, ![8, 24576]⟩ .f32) : FVec Ideal S8704x4096 .f32 := fun i =>
  val x w h g ⟨(i 0 : ℕ) % 8704, by omega⟩ ⟨(i 1 : ℕ) % 4096, by omega⟩

/-! ## The blocks -/

theorem idx0 : ∀ t : Fin cfg0.N, 4 ≤ t.val % 132 → win0_0.index t = ![4 * (t.val / 132) + t.val % 132 % 4, (t.val % 132 / 4 - 1) % 4] :=
  (by decide +kernel : ∀ t : Fin grid0.N, 4 ≤ t.val % 132 → win0_0.index t = ![4 * (t.val / 132) + t.val % 132 % 4, (t.val % 132 / 4 - 1) % 4])
theorem idx1 : ∀ t : Fin cfg0.N, t.val % 132 < 128 → win0_1.index t = ![0, t.val % 132 / 4 % 4 * 4 + t.val % 132 % 4, t.val % 132 / 4 / 4] :=
  (by decide +kernel : ∀ t : Fin grid0.N, t.val % 132 < 128 → win0_1.index t = ![0, t.val % 132 / 4 % 4 * 4 + t.val % 132 % 4, t.val % 132 / 4 / 4])
theorem idx2 : ∀ t : Fin cfg0.N, 4 ≤ t.val % 132 ∧ t.val % 132 / 4 % 4 = 0 →
    win0_2.index t = ![4 * (t.val / 132) + t.val % 132 % 4, (t.val % 132 / 4 - 1) / 4] ∧ win0_4.index t = ![4 * (t.val / 132) + t.val % 132 % 4, (t.val % 132 / 4 - 1) / 4]
      ∧ win0_3.index t = ![0, 40 + (t.val % 132 / 4 - 1) / 4] :=
  (by decide +kernel : ∀ t : Fin grid0.N, 4 ≤ t.val % 132 ∧ t.val % 132 / 4 % 4 = 0 →
    win0_2.index t = ![4 * (t.val / 132) + t.val % 132 % 4, (t.val % 132 / 4 - 1) / 4] ∧ win0_4.index t = ![4 * (t.val / 132) + t.val % 132 % 4, (t.val % 132 / 4 - 1) / 4]
      ∧ win0_3.index t = ![0, 40 + (t.val % 132 / 4 - 1) / 4])

variable (m : (ℓ : Loc nD τ sig) → Buf (Elt Ideal) ℓ) (c : Dev nD) (t : Fin cfg0.N)

def hid : FVec Ideal S8704x16384 .bf16 := m ((c.tc : Thread nD τ).loc main_arg0)
def wgt : FVec Ideal S2x8x2048x4096 .f32 := m ((c.tc : Thread nD τ).loc main_arg1)
def res : FVec Ideal S8704x4096 .f32 := m ((c.tc : Thread nD τ).loc main_arg2)
def mod : FVec Ideal S8x24576 .f32 := m ((c.tc : Thread nD τ).loc main_arg3)

/-- The weights as the call takes them: the experts' rows below each other. -/
theorem V_v0 : (V m c main_v0 : FVec Ideal S2x16384x4096 .f32) = shapeCast _ (wgt m c) shapeCasts_S2x8x2048x4096_S2x16384x4096 := by
  unfold V wgt
  simp only [hostOps0]
  after_results <;> rfl
theorem cast_at (w : FVec Ideal S2x8x2048x4096 .f32) (k : Fin 16384) (q : Fin 4096) :
    (shapeCast S2x16384x4096 w shapeCasts_S2x8x2048x4096_S2x16384x4096 : FVec Ideal S2x16384x4096 .f32) (ix3 0 k q)
      = w (ix4 0 ⟨k.val / 2048, by omega⟩ ⟨k.val % 2048, by omega⟩ q) := by
  pointwise

theorem blk0 (ht : 4 ≤ t.val % 132) (y : Fin 1088) (k : Fin 4096) : (iblk (F := Ideal) m c 0 t : FVec Ideal S1088x4096 .bf16) (ix2 y k)
    = hid m c (ix2 ⟨1088 * (4 * (t.val / 132) + t.val % 132 % 4) + y, by have := N_lt t; omega⟩ ⟨4096 * ((t.val % 132 / 4 - 1) % 4) + k, by omega⟩) := by
  have e : (V m c main_arg0 : FVec Ideal S8704x16384 .bf16) = hid m c := V_kept m c main_arg0 (by decide)
  rw [← e]
  blk_ext [iblk, idx0 t ht]
theorem blk1 (ht : t.val % 132 < 128) (i : Fin 1024) (j : Fin 512) : (iblk (F := Ideal) m c 1 t : FVec Ideal S1x1024x512 .f32) (ix3 0 i j)
    = wgt m c (ix4 0 ⟨(1024 * (t.val % 132 / 4 % 4 * 4 + t.val % 132 % 4) + i.val) / 2048, by omega⟩ ⟨(1024 * (t.val % 132 / 4 % 4 * 4 + t.val % 132 % 4) + i.val) % 2048, by omega⟩
        ⟨512 * (t.val % 132 / 4 / 4) + j, by omega⟩) := by
  refine Eq.trans ?_ (cast_at (wgt m c) ⟨1024 * (t.val % 132 / 4 % 4 * 4 + t.val % 132 % 4) + i.val, by omega⟩ _)
  rw [← V_v0]
  blk_ext [iblk, idx1 t ht]
theorem blk2 (ht : 4 ≤ t.val % 132 ∧ t.val % 132 / 4 % 4 = 0) (y : Fin 1088) (q : Fin 512) : (iblk (F := Ideal) m c 2 t : FVec Ideal S1088x512 .f32) (ix2 y q)
    = res m c (ix2 ⟨1088 * (4 * (t.val / 132) + t.val % 132 % 4) + y, by have := N_lt t; omega⟩ ⟨512 * ((t.val % 132 / 4 - 1) / 4) + q, by omega⟩) := by
  have e : (V m c main_arg2 : FVec Ideal S8704x4096 .f32) = res m c := V_kept m c main_arg2 (by decide)
  rw [← e]
  blk_ext [iblk, (idx2 t ht).1]
theorem blk3 (ht : 4 ≤ t.val % 132 ∧ t.val % 132 / 4 % 4 = 0) (y : Fin 8) (q : Fin 512) : (iblk (F := Ideal) m c 3 t : FVec Ideal S8x512 .f32) (ix2 y q)
    = mod m c (ix2 y ⟨20480 + (512 * ((t.val % 132 / 4 - 1) / 4) + q), by omega⟩) := by
  have e : (V m c main_arg3 : FVec Ideal S8x24576 .f32) = mod m c := V_kept m c main_arg3 (by decide)
  rw [← e]
  blk_ext [iblk, (idx2 t ht).2.2]

/-- A slot holds a step's rows and columns of the weights. -/
theorem slab_at (p T : ℕ) (hp : p < 2) (hT : T < 32) (k : Fin 4096) (q : Fin 512) :
    slabOf (F := Ideal) (wB m c p) T (ix3 0 k q)
      = wgt m c (ix4 0 ⟨(4096 * (T % 4) + k.val) / 2048, by omega⟩ ⟨(4096 * (T % 4) + k.val) % 2048, by omega⟩ ⟨512 * (T / 4) + q, by omega⟩) := by
  show k0_pay1 (F := Ideal) (iblk m c 1 (at_ (132 * p + (4 * T + k.val / 1024)))) (ix3 (0 : Fin 1) (⟨k.val % 1024, Nat.mod_lt _ (by decide)⟩ : Fin 1024) q) = _
  have e : (at_ (132 * p + (4 * T + k.val / 1024))).val = 132 * p + (4 * T + k.val / 1024) := Nat.mod_eq_of_lt (by omega)
  rw [pay1_at, blk1 m c _ (by omega)]
  congr 2 <;> ext <;> simp only [e] <;> omega

/-- The rows a block multiplies at a step. -/
theorem rows_at (p j : ℕ) (hp : p < 2) (hj : j < 32) (a : Fin 4) (r : Fin 2) (y : Fin 544) (k : Fin 4096) :
    xH (F := Ideal) m c p a r j (ix2 y k)
      = hid m c (ix2 ⟨1088 * (4 * p + a) + (544 * r + y), by omega⟩ ⟨4096 * (j % 4) + k, by omega⟩) := by
  have e : (at_ (132 * p + (4 * (j + 1) + a.val))).val = 132 * p + (4 * (j + 1) + a.val) := Nat.mod_eq_of_lt (by omega)
  match r with
  | 0 =>
    show topX (F := Ideal) (iblk m c 0 (at_ (132 * p + (4 * (j + 1) + a.val)))) (ix2 y k) = _
    rw [topX_at, blk0 m c _ (by omega)]
    congr 2 <;> ext <;> simp only [e] <;> (try simp only [Fin.val_zero]) <;> omega
  | 1 =>
    show botX (F := Ideal) (iblk m c 0 (at_ (132 * p + (4 * (j + 1) + a.val)))) (ix2 y k) = _
    rw [botX_at, blk0 m c _ (by omega)]
    congr 2 <;> ext <;> simp only [e] <;> (try simp only [Fin.val_one]) <;> omega

/-- A step's product: a quarter of the sum. -/
theorem prod_at (p j : ℕ) (hp : p < 2) (hj : j < 32) (a : Fin 4) (r : Fin 2) (y : Fin 544) (q : Fin 512) (R : Fin 8704) (Q : Fin 4096)
    (hR : R.val = 1088 * (4 * p + a) + (544 * r + y)) (hQ : Q.val = 512 * (j / 4) + q) (o : ℕ) (ho : o = 4096 * (j % 4)) :
    prod (xH m c p a r j) (slabOf (wB m c p) j) y q = ∑ k : Fin 4096, term (hid m c) (wgt m c) R Q ⟨o + k, by omega⟩ := by
  subst ho
  have eR : R = ⟨1088 * (4 * p + a) + (544 * r + y), by clear hR; omega⟩ := Fin.ext hR
  have eQ : Q = ⟨512 * (j / 4) + q, by clear hQ; omega⟩ := Fin.ext hQ
  rw [eR, eQ]
  unfold prod term
  refine Finset.sum_congr rfl fun k _ => ?_
  rw [rows_at m c p j hp hj, slab_at m c p j hp hj]

/-- A block's whole sum, from its partial sums and its last step. -/
theorem whole_sum (p b : ℕ) (hp : p < 2) (hb : b < 8) (a : Fin 4) (r : Fin 2) (y : Fin 544) (q : Fin 512) (R : Fin 8704) (Q : Fin 4096)
    (hR : R.val = 1088 * (4 * p + a) + (544 * r + y)) (hQ : Q.val = 512 * b + q) :
    (aV (F := Ideal) m c p a r (4 * b + 2) : FVec Ideal S544x512 .f32) (ix2 y q) + prod (xH m c p a r (4 * b + 3)) (slabOf (wB m c p) (4 * b + 3)) y q
      = ∑ k, term (hid m c) (wgt m c) R Q k := by
  refine (congrArg (· + _) (accV_at (xH m c p a r) (slabOf (wB m c p)) b y q)).trans ?_
  rw [prod_at m c p (4 * b) hp (by omega) a r y q R Q hR (by omega) 0 (by omega), prod_at m c p (4 * b + 1) hp (by omega) a r y q R Q hR (by omega) 4096 (by omega),
    prod_at m c p (4 * b + 2) hp (by omega) a r y q R Q hR (by omega) 8192 (by omega), prod_at m c p (4 * b + 3) hp (by omega) a r y q R Q hR (by omega) 12288 (by omega),
    ← sum_quarters]
  simp only [Nat.zero_add]

/-- What a storing point leaves in the output's block. -/
theorem point (ht : 4 ≤ t.val % 132 ∧ t.val % 132 / 4 % 4 = 0) (y : Fin 1088) (q : Fin 512) :
    (outAt (F := Ideal) m c t : FVec Ideal S1088x512 .f32) (ix2 y q)
      = val (hid m c) (wgt m c) (res m c) (mod m c) ⟨1088 * (4 * (t.val / 132) + t.val % 132 % 4) + y, by have := N_lt t; omega⟩ ⟨512 * ((t.val % 132 / 4 - 1) / 4) + q, by omega⟩ := by
  have hl := N_lt t
  have e0 := (coords t).1
  have e2 := (coords t).2.2
  obtain ⟨b, hb⟩ : ∃ b, t.val % 132 / 4 = 4 * b + 4 := ⟨t.val % 132 / 4 / 4 - 1, by omega⟩
  have et : at_ (132 * (t.val / 132) + (4 * (4 * b + 3 + 1) + (grid0.coords t 2).val)) = t :=
    Fin.ext ((Nat.mod_eq_of_lt (by omega)).trans (by omega))
  have eo : outAt (F := Ideal) m c t = outU (grid0.coords t) (iblk m c 0 t) (iblk m c 2 t) (iblk m c 3 t) (aV m c (t.val / 132) (grid0.coords t 2) 0 (4 * b + 2))
      (aV m c (t.val / 132) (grid0.coords t 2) 1 (4 * b + 2)) (slabOf (wB m c (t.val / 132)) (4 * b + 3)) := by
    unfold outAt
    rw [show t.val % 132 / 4 - 2 = 4 * b + 2 by omega, show t.val % 132 / 4 - 1 = 4 * b + 3 by omega]
  rw [eo,
    outU_at _ _ _ _ _ _ _ y q ⟨1088 * (4 * (t.val / 132) + t.val % 132 % 4) + y, by omega⟩ (by simp only [e0, e2]) (∑ k, term (hid m c) (wgt m c) ⟨1088 * (4 * (t.val / 132) + t.val % 132 % 4) + y, by omega⟩ ⟨512 * ((t.val % 132 / 4 - 1) / 4) + q, by omega⟩ k)
      (fun r hr => ?_) (fun r hr => ?_)]
  · rw [blk2 m c t ht, blk3 m c t ht]
    rfl
  · have x0 : xH (F := Ideal) m c (t.val / 132) (grid0.coords t 2) 0 (4 * b + 3) = topX (iblk m c 0 t) := congrArg (fun z => topX (iblk (F := Ideal) m c 0 z)) et
    rw [← x0]
    exact whole_sum m c (t.val / 132) b (by omega) (by omega) (grid0.coords t 2) 0 r q _ _ (by simp only [e2, hr, Fin.val_zero]; omega) (by simp only; omega)
  · have x1 : xH (F := Ideal) m c (t.val / 132) (grid0.coords t 2) 1 (4 * b + 3) = botX (iblk m c 0 t) := congrArg (fun z => botX (iblk (F := Ideal) m c 0 z)) et
    rw [← x1]
    exact whole_sum m c (t.val / 132) b (by omega) (by omega) (grid0.coords t 2) 1 r q _ _ (by simp only [e2, hr, Fin.val_one] <;> omega) (by simp only; omega)

/-- The result array, after the run. -/
theorem final (i : S8704x4096.Idx) : (dats m 0 c).arrAt 4 (cfgs 0).N i = G (hid m c) (wgt m c) (res m c) (mod m c) i := by
  refine ((dats m 0 c).arrAt_apply_of_coversWhere 4 (G (hid m c) (wgt m c) (res m c) (mod m c)) (P := fun i : S8704x4096.Idx => True) (fun β => True) (by decide +kernel) (fun t hf y => ?_)
    (fun j => by blk_simp [Pipeline.Window.cell_apply]) i).trans (if_pos trivial)
  rw [flush4] at hf
  have ht : 4 ≤ t.val % 132 ∧ t.val % 132 / 4 % 4 = 0 := of_decide_eq_true hf
  blk_simp
  rw [after_4]
  have hl := N_lt t
  have l0 : (y 0 : ℕ) < 1088 := ((cfg0.win 4).xinj (cfg0.grid.coords t) y 0).isLt
  have l1 : (y 1 : ℕ) < 512 := ((cfg0.win 4).xinj (cfg0.grid.coords t) y 1).isLt
  have e : (cfg0.win 4).xinj (cfg0.grid.coords t) y = (ix2 ⟨y 0, l0⟩ ⟨y 1, l1⟩ : S1088x512.Idx) := by
    funext a; fin_cases a <;> rfl
  have g0 : (((win0_4.blk t).view.emb y : S8704x4096.Idx) 0 : ℕ) = 1088 * (4 * (t.val / 132) + t.val % 132 % 4) + y 0 := by blk_simp [(idx2 t ht).2.1]; ring
  have g1 : (((win0_4.blk t).view.emb y : S8704x4096.Idx) 1 : ℕ) = 512 * ((t.val % 132 / 4 - 1) / 4) + y 1 := by blk_simp [(idx2 t ht).2.1]; ring
  refine (congrArg (outAt m c t) e).trans ((point m c t ht _ _).trans ?_)
  unfold G
  congr 1 <;> ext <;> simp only [g0, g1] <;> omega

end Cert.Proof.Mid

end
-- ==== Proof.MidRef.lean ====
/- The first experts' layer's second product of the reference, entry by entry. -/
module

public import proofs.«01_k».proof.Proof.Gen.Reference6Ideal.Run
public import proofs.«01_k».proof.Proof.MidValue

@[expose] public section

set_option maxRecDepth 16384

noncomputable section

namespace Cert.Proof.MidRef

open Cert.Reference6Ideal Cert.Reference6Ideal.Gen Cert.Reference6Ideal.Value Idealize.ShloMosaic Idealize.ShloMosaic.TcCoe Idealize.SL.Sem
open Cert.Reference6Ideal.Facts
open Cert.Proof.Mid (term val G)

section
variable {F : FTy → Type} [FloatOps F]

/-- The first layer's weights, the experts' rows below each other. -/
def rows (w : FVec F S2x8x2048x4096 .f32) : FVec F S16384x4096 .f32 :=
  shapeCast _ (shapeCast _ (extractStridedSlice S1x8x2048x4096 ![0, 0, 0, 0] w slices_S2x8x2048x4096_S1x8x2048x4096_0_0_0_0) shapeCasts_S1x8x2048x4096_S8x2048x4096)
    shapeCasts_S8x2048x4096_S16384x4096

/-- Every row times the weights. -/
def dots (x : FVec F S8704x16384 .bf16) (w : FVec F S16384x4096 .f32) : FVec F S8704x4096 .f32 :=
  Host.dotGeneral dot_S8704x16384_S16384x4096_S8704x4096_1_0_0_1_n_n none (extf .f32 x bitsLt_bf16_f32) w

/-- The latent rows: the residual and the gated product, sequence by sequence. -/
def lat (h d : FVec F S8704x4096 .f32) (u : FVec F S2x4096 .f32) : FVec F S8192x4096 .f32 :=
  shapeCast _ (addf (shapeCast _ (extractStridedSlice S8192x4096 ![0, 0] h slices_S8704x4096_S8192x4096_0_0) shapeCasts_S8192x4096_S2x4096x4096)
    (mulf (broadcastInDim S2x4096x4096 ![0, 1, 2] bcast_S2x1x4096_S2x4096x4096_0_1_2 (broadcastInDim S2x1x4096 ![0, 2] bcast_S2x4096_S2x1x4096_0_2 u))
      (shapeCast _ (extractStridedSlice S8192x4096 ![0, 0] d slices_S8704x4096_S8192x4096_0_0) shapeCasts_S8192x4096_S2x4096x4096))) shapeCasts_S2x4096x4096_S8192x4096

/-- The context's rows, which have one gate. -/
def con (h d : FVec F S8704x4096 .f32) (v : FVec F S1x4096 .f32) : FVec F S512x4096 .f32 :=
  shapeCast _ (addf (shapeCast _ (extractStridedSlice S512x4096 ![8192, 0] h slices_S8704x4096_S512x4096_8192_0) shapeCasts_S512x4096_S2x256x4096)
    (mulf (broadcastInDim S2x256x4096 ![0, 1, 2] bcast_S1x1x4096_S2x256x4096_0_1_2 (broadcastInDim S1x1x4096 ![2] bcast_S4096_S1x1x4096_2
      (shapeCast _ v shapeCasts_S1x4096_S4096)))
      (shapeCast _ (extractStridedSlice S512x4096 ![8192, 0] d slices_S8704x4096_S512x4096_8192_0) shapeCasts_S512x4096_S2x256x4096))) shapeCasts_S2x256x4096_S512x4096

/-- All rows, from the gates of the sequences and the context's. -/
def gated (h d : FVec F S8704x4096 .f32) (u : FVec F S2x4096 .f32) (v : FVec F S1x4096 .f32) : FVec F S8704x4096 .f32 :=
  concatenate S8704x4096 0 [⟨S8192x4096, lat h d u⟩, ⟨S512x4096, con h d v⟩] concatenates_S8192x4096_S512x4096_S8704x4096_d0

/-- All rows, the gates read off the modulation. -/
def both (h d : FVec F S8704x4096 .f32) (g : FVec F S8x24576 .f32) : FVec F S8704x4096 .f32 :=
  gated h d (extractStridedSlice S2x4096 ![0, 20480] g slices_S8x24576_S2x4096_0_20480) (extractStridedSlice S1x4096 ![2, 20480] g slices_S8x24576_S1x4096_2_20480)
end

theorem rows_at (w : FVec Ideal S2x8x2048x4096 .f32) (k : Fin 16384) (q : Fin 4096) :
    rows (F := Ideal) w (ix2 k q) = w (ix4 0 ⟨k.val / 2048, by omega⟩ ⟨k.val % 2048, by omega⟩ q) := by
  pointwise [rows]

theorem dots_at (x : FVec Ideal S8704x16384 .bf16) (w : FVec Ideal S16384x4096 .f32) (r : Fin 8704) (q : Fin 4096) :
    dots (F := Ideal) x w (ix2 r q) = ∑ k : Fin 16384, x (ix2 r k) * w (ix2 k q) := by
  pointwise [dots]

theorem lat_at (h d : FVec Ideal S8704x4096 .f32) (u : FVec Ideal S2x4096 .f32) (r : Fin 8192) (q : Fin 4096) :
    lat (F := Ideal) h d u (ix2 r q) = h (ix2 ⟨r.val, by omega⟩ q) + u (ix2 ⟨r.val / 4096, by omega⟩ q) * d (ix2 ⟨r.val, by omega⟩ q) := by
  pointwise [lat]

theorem con_at (h d : FVec Ideal S8704x4096 .f32) (v : FVec Ideal S1x4096 .f32) (r : Fin 512) (q : Fin 4096) :
    con (F := Ideal) h d v (ix2 r q) = h (ix2 ⟨8192 + r.val, by omega⟩ q) + v (ix2 0 q) * d (ix2 ⟨8192 + r.val, by omega⟩ q) := by
  pointwise [con]

/-- An entry, the gates being the rows of `g`. -/
theorem gated_at (h d : FVec Ideal S8704x4096 .f32) (u : FVec Ideal S2x4096 .f32) (v : FVec Ideal S1x4096 .f32) (g : Fin 8 → EReal) (r : Fin 8704) (q : Fin 4096)
    (hu : ∀ s : Fin 2, u (ix2 s q) = g ⟨s.val, by omega⟩) (hv : v (ix2 0 q) = g 2) :
    gated (F := Ideal) h d u v (ix2 r q) = h (ix2 r q) + g ⟨r.val / 4096, by omega⟩ * d (ix2 r q) := by
  by_cases hr : r.val < 8192
  · refine Eq.trans ?_ ((lat_at h d u ⟨r.val, hr⟩ q).trans (by rw [hu]))
    pointwise [gated]
    exact dif_pos hr
  · have e0 : (⟨8192 + (r.val - 8192), by omega⟩ : Fin 8704) = r := Fin.ext (by simp only []; omega)
    have e1 : (2 : Fin 8) = ⟨r.val / 4096, by omega⟩ := Fin.ext (by show 2 = r.val / 4096; omega)
    refine Eq.trans ?_ ((con_at h d v ⟨r.val - 8192, by omega⟩ q).trans (by rw [hv, e0, e1]))
    pointwise [gated]
    exact dif_neg hr

theorem both_at (h d : FVec Ideal S8704x4096 .f32) (g : FVec Ideal S8x24576 .f32) (r : Fin 8704) (q : Fin 4096) :
    both (F := Ideal) h d g (ix2 r q) = h (ix2 r q) + g (ix2 ⟨r.val / 4096, by omega⟩ ⟨20480 + q.val, by omega⟩) * d (ix2 r q) :=
  gated_at h d _ _ (fun s => g (ix2 s ⟨20480 + q.val, by omega⟩)) r q (fun s => by pointwise) (by pointwise)

/-- The reference's result is the kernel's. -/
theorem res (x : FVec Ideal S8704x16384 .bf16) (w : FVec Ideal S2x8x2048x4096 .f32) (h : FVec Ideal S8704x4096 .f32) (g : FVec Ideal S8x24576 .f32) :
    both (F := Ideal) h (dots x (rows w)) g = G x w h g := by
  funext i
  have l0 : (i 0 : ℕ) < 8704 := (i 0).isLt
  have l1 : (i 1 : ℕ) < 4096 := (i 1).isLt
  have e : i = (ix2 ⟨(i 0 : ℕ) % 8704, by omega⟩ ⟨(i 1 : ℕ) % 4096, by omega⟩ : S8704x4096.Idx) := by
    funext a
    match a with
    | 0 => exact Fin.ext (Nat.mod_eq_of_lt l0).symm
    | 1 => exact Fin.ext (Nat.mod_eq_of_lt l1).symm
  refine (congrArg (both (F := Ideal) h (dots x (rows w)) g) e).trans ?_
  rw [both_at]
  unfold G val term
  simp only [dots_at, rows_at]

end Cert.Proof.MidRef

end
-- ==== Proof.Mid.lean ====
module

public import proofs.«01_k».proof.Defs
public import proofs.«01_k».proof.Proof.MidRef
public import proofs.«01_k».proof.Proof.Gen.Kernel6
public import Idealize.ShloMosaic.Lib.Quiescent

@[expose] public section

set_option maxRecDepth 16384

noncomputable section

/-! # The claims about the second product of the first layer with experts -/

namespace Cert.Proof.MidHidden

open Idealize.ShloMosaic Idealize.ShloMosaic.TcCoe Idealize.SL.Sem

attribute [local instance] Cert.Kernel6.Gen.facts Cert.Kernel6Ideal.Gen.facts Cert.Reference6Ideal.Gen.facts

/-- The two programs' bodies are one text. -/
theorem body_eq : Cert.Kernel6.defs₀ (F := Bits) = Cert.Kernel6Ideal.defs₀ (F := Bits) := by
  unfold Cert.Kernel6.defs₀ Cert.Kernel6Ideal.defs₀
  refine congrArg Defs.onTc ?_
  funext l x
  match l, x with
  | 0, (t, s) => rfl

theorem defs_eq : Cert.Kernel6.defs (F := Bits) = Cert.Kernel6Ideal.defs (F := Bits) := by
  unfold Cert.Kernel6.defs Cert.Kernel6Ideal.defs
  rw [body_eq]
  rfl

theorem frame : Cert.quiescent_Kernel6 := fun m ρ _ => by
  rw [defs_eq]
  exact (θ_run Cert.Kernel6Ideal.defs _ _).mono (fun _ h => h) (Mid.frame (F := Bits) m ρ)

theorem frame_ideal : Cert.quiescent_Kernel6Ideal := fun m ρ _ => Mid.frame (F := Ideal) m ρ

theorem frame_ref : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

theorem algebraic : Cert.algebraic_Kernel6Ideal_Reference6Ideal := by
  intro m ρ m' ρ' _ hagree
  refine ⟨fun c => Mid.G (Mid.hid m c) (Mid.wgt m c) (Mid.res m c) (Mid.mod m c), ?_, ?_⟩
  · exact (θ_run Cert.Kernel6Ideal.defs _ _).mono
      (fun _ h c => ⟨((h.1 c).1 4).trans (funext (Mid.final m c)), Mid.kept m h.1 c⟩)
      (Mid.run_main_quiescent (F := Ideal) m ρ)
  · refine (θ_run Cert.Reference6Ideal.defs _ _).mono (fun _ h c => ⟨(h c).1.trans ?_, (h c).2⟩)
      (Cert.Reference6Ideal.Value.run (F := Ideal) m' ρ')
    obtain ⟨e0, e1, e2, e3⟩ := hagree c
    rw [e0, e1, e2, e3]
    exact MidRef.res (Mid.hid m c) (Mid.wgt m c) (Mid.res m c) (Mid.mod m c)

end Cert.Proof.MidHidden

end
-- ==== Proof.FoldRun.lean ====
/- The body of the second product's kernel, run at any contents of its buffers: what it leaves in the weight buffer it
   fills over the grid, in the buffer of partial sums and in the output's block. -/
module

public import proofs.«01_k».proof.Proof.Gen.Kernel7Ideal.Launch
public import proofs.«01_k».proof.Proof.Gen.Kernel7Ideal.Skeleton
public import proofs.«01_k».proof.Proof.Gen.Kernel7Ideal.Points
public import proofs.«01_k».proof.Proof.MidRun
public import Idealize.ShloMosaic.Lib.Pipeline.FrameBody
public import Idealize.ShloMosaic.Lib.VecWindow
public import Idealize.ShloMosaic.Lib.Tactic

@[expose] public section

set_option maxRecDepth 16384

noncomputable section

namespace Cert.Proof.Fold

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Mid (topX botX topR botR mod0 mod1 mod2 halves)
open Idealize.ShloMosaic.Pipeline (Dat Cfg Window BodyObligation cellOf)

variable {F : FTy → Type} [FloatOps F]

local notation "𝕄" => MT nD τ sig Unit (Elt F) ℕ (UR sig nD τ) ℕ

/-- A grid point from its three coordinates. -/
def pt (a : Fin 2) (b : Fin 17) (d : Fin 4) : grid0.Coords := fun | 0 => a | 1 => b | 2 => d

theorem pt_eq (i : grid0.Coords) : i = pt (i 0) (i 1) (i 2) := by funext a; match a with | 0 => rfl | 1 => rfl | 2 => rfl

theorem off1_eq (i : grid0.Coords) : k0_off1 i = ![(i 1).val % 2, 1024 * (i 2).val, 0] := by
  have h : ∀ (a : Fin 2) (b : Fin 17) (d : Fin 4), k0_off1 (pt a b d) = ![b.val % 2, 1024 * d.val, 0] := by decide +kernel
  have e := h (i 0) (i 1) (i 2)
  rwa [← pt_eq i] at e
theorem off2_eq (i : grid0.Coords) : k0_off2 i = ![((i 1).val + 1) % 2, 0, 0] := by
  have h : ∀ (a : Fin 2) (b : Fin 17) (d : Fin 4), k0_off2 (pt a b d) = ![(b.val + 1) % 2, 0, 0] := by decide +kernel
  have e := h (i 0) (i 1) (i 2)
  rwa [← pt_eq i] at e
theorem off3_eq (i : grid0.Coords) (r : Fin 2) : k0_off3 i (BitVec.ofNat 32 (544 * r.val)) = ![1088 * (i 2).val + 544 * r.val, 0] := by
  have h : ∀ (a : Fin 2) (b : Fin 17) (d : Fin 4) (r : Fin 2), k0_off3 (pt a b d) (BitVec.ofNat 32 (544 * r.val)) = ![1088 * d.val + 544 * r.val, 0] := by
    decide +kernel
  have e := h (i 0) (i 1) (i 2) r
  rwa [← pt_eq i] at e
theorem off6_eq (i : grid0.Coords) (r : Fin 2) : k0_off6 i (BitVec.ofNat 32 (544 * r.val)) = ![1088 * (i 2).val + 544 * r.val, 0] := off3_eq i r
theorem off7_eq (i : grid0.Coords) : k0_off7 i = ![((i 1).val + 1) % 2, 0, 0] := off2_eq i

instance (i : grid0.Coords) : ClosedOff (k0_off1 i) := ⟨_, off1_eq i⟩
instance (i : grid0.Coords) : ClosedOff (k0_off2 i) := ⟨_, off2_eq i⟩
theorem off3T (i : grid0.Coords) : k0_off3 i 0#32 = ![1088 * (i 2).val + 544 * (0 : Fin 2).val, 0] := off3_eq i 0
theorem off3B (i : grid0.Coords) : k0_off3 i 544#32 = ![1088 * (i 2).val + 544 * (1 : Fin 2).val, 0] := off3_eq i 1
instance (i : grid0.Coords) : ClosedOff (k0_off3 i 0#32) := ⟨_, off3T i⟩
instance (i : grid0.Coords) : ClosedOff (k0_off3 i 544#32) := ⟨_, off3B i⟩
theorem off6T (i : grid0.Coords) : k0_off6 i 0#32 = ![1088 * (i 2).val + 544 * (0 : Fin 2).val, 0] := off6_eq i 0
theorem off6B (i : grid0.Coords) : k0_off6 i 544#32 = ![1088 * (i 2).val + 544 * (1 : Fin 2).val, 0] := off6_eq i 1
instance (i : grid0.Coords) : ClosedOff (k0_off6 i 0#32) := ⟨_, off6T i⟩
instance (i : grid0.Coords) : ClosedOff (k0_off6 i 544#32) := ⟨_, off6B i⟩
instance (i : grid0.Coords) : ClosedOff (k0_off7 i) := ⟨_, off7_eq i⟩

/-- The weight buffer with one block of rows put where the point stores it. -/
def fillW (i : grid0.Coords) (d : Vec F S2x4096x512 .bf16) (w : FVec F S1x1024x512 .bf16) : Vec F S2x4096x512 .bf16 :=
  VecWindow.put (s := S2x4096x512) d ![(i 1).val % 2, 1024 * (i 2).val, 0] S1x1024x512.size w

theorem slab_inb (i : grid0.Coords) : ∀ a, (![((i 1).val + 1) % 2, 0, 0] : Fin 3 → ℕ) a + S1x4096x512.size a ≤ S2x4096x512.size a := fun a =>
  match a with
  | 0 => (by omega : ((i 1).val + 1) % 2 + 1 ≤ 2)
  | 1 => (by decide : 0 + 4096 ≤ 4096)
  | 2 => (by decide : 0 + 512 ≤ 512)

/-- The slot of the weight buffer that the point multiplies by. -/
def slab (i : grid0.Coords) (d : Vec F S2x4096x512 .bf16) : Vec F S1x4096x512 .bf16 :=
  VecWindow.window (s := S2x4096x512) d ![((i 1).val + 1) % 2, 0, 0] S1x4096x512.size (slab_inb i)

/-- Where the point's rows of the partial sums begin: `r = 0` the first half of its block, `r = 1` the other. -/
abbrev accO (i : grid0.Coords) (r : Fin 2) : Fin 2 → ℕ := ![1088 * (i 2).val + 544 * r.val, 0]

theorem acc_inb (i : grid0.Coords) (r : Fin 2) : ∀ a, accO i r a + S544x512.size a ≤ S4352x512.size a := fun a =>
  match a with
  | 0 => by
    have e : (i 2).val < 4 := (i 2).isLt
    have e' := r.isLt
    exact (by omega : 1088 * (i 2).val + 544 * r.val + 544 ≤ 4352)
  | 1 => (by decide : 0 + 512 ≤ 512)

/-- Half a block of the partial sums. -/
def accGet (i : grid0.Coords) (r : Fin 2) (d : Vec F S4352x512 .f32) : Vec F S544x512 .f32 :=
  VecWindow.window (s := S4352x512) d (accO i r) S544x512.size (acc_inb i r)

/-- The partial sums with the two halves of the point's block put in. -/
def accPut (i : grid0.Coords) (d : Vec F S4352x512 .f32) (w w' : FVec F S544x512 .f32) : Vec F S4352x512 .f32 :=
  VecWindow.put (s := S4352x512) (VecWindow.put (s := S4352x512) d (accO i 0) S544x512.size w) (accO i 1) S544x512.size w'

/-- The second half is not touched by storing the first. -/
theorem accGet_put (i : grid0.Coords) (d : Vec F S4352x512 .f32) (w : FVec F S544x512 .f32) :
    accGet i 1 (VecWindow.put (s := S4352x512) d (accO i 0) S544x512.size w) = accGet i 1 d :=
  VecWindow.window_put_of_disjoint (s := S4352x512) d _ _ _ _ _ _ 0 (Or.inr (by show 1088 * (i 2).val + 544 * 0 + 544 ≤ 1088 * (i 2).val + 544 * 1; omega))

/-- What a point of a column block's last step leaves in the output's block. -/
def outU (i : grid0.Coords) (x0 : Vec F S1088x4096 .bf16) (x2 : Vec F S1088x512 .f32) (x3 : Vec F S8x512 .f32)
    (a b : Vec F S544x512 .f32) (w : Vec F S1x4096x512 .bf16) : Vec F S1088x512 .f32 :=
  Mid.outU (Mid.pt (i 0) 0 (i 2)) x0 x2 x3 a b w

set_option maxHeartbeats 3200000 in
theorem runA (c : Dev nD) (i : grid0.Coords) (arg3 : Memref sig .tc .vmem S1088x4096 .bf16) (harg3 : arg3.IsWhole)
    (arg4 : Memref sig .tc .vmem S1x1024x512 .f32) (harg4 : arg4.IsWhole) (arg5 : Memref sig .tc .vmem S1088x512 .f32) (harg5 : arg5.IsWhole)
    (arg6 : Memref sig .tc .vmem S8x512 .f32) (harg6 : arg6.IsWhole) (arg7 : Memref sig .tc .vmem S1088x512 .f32) (harg7 : arg7.IsWhole)
    (arg8 : Memref sig .tc .vmem S2x4096x512 .bf16) (harg8 : arg8.IsWhole) (arg9 : Memref sig .tc .vmem S4352x512 .f32) (harg9 : arg9.IsWhole)
    (x0 : Vec F S1088x4096 .bf16) (x1 : Vec F S1x1024x512 .f32) (x2 : Vec F S1088x512 .f32) (x3 : Vec F S8x512 .f32)
    (d7 : Vec F S1088x512 .f32) (d8 : Vec F S2x4096x512 .bf16) (d9 : Vec F S4352x512 .f32)
    (h1 : k0_cond1 i = 1#1) (h2 : ¬ k0_cond2 i = 1#1)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare d7
        ∗ owns (c : Thread nD τ) arg8 fullShare d8 ∗ owns (c : Thread nD τ) arg9 fullShare d9
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare d7
            ∗ owns (c : Thread nD τ) arg8 fullShare (fillW i d8 (k0_pay1 x1))
            ∗ owns (c : Thread nD τ) arg9 fullShare d9) -∗ K ⟨⟩))
      ⊢ wp frame (wpE (defs₀ (F := F)) Variants.none c none) E
          (cc0_matmul_residual i arg3 harg3 arg4 harg4 arg5 harg5 arg6 harg6 arg7 harg7 arg8 harg8 arg9 harg9) K := by
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hs0; obtain rfl := harg9.eq_unread hs1
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr
    swap; · iexact HS0
    ipureintro
    rw [View.read_writes_cons_put _ _ _ _ _ (off1_eq i), View.writes_nil, hs0]
    exact congrArg (fillW i d8) (congrArg k0_pay1 ((View.readAt_full (s := S1x1024x512) _ _ _).trans hf1))
  iexists _; isplitr
  swap; · iexact HS1
  ipureintro
  exact harg9.read_unread _

set_option maxHeartbeats 3200000 in
theorem runB0 (c : Dev nD) (i : grid0.Coords) (arg3 : Memref sig .tc .vmem S1088x4096 .bf16) (harg3 : arg3.IsWhole)
    (arg4 : Memref sig .tc .vmem S1x1024x512 .f32) (harg4 : arg4.IsWhole) (arg5 : Memref sig .tc .vmem S1088x512 .f32) (harg5 : arg5.IsWhole)
    (arg6 : Memref sig .tc .vmem S8x512 .f32) (harg6 : arg6.IsWhole) (arg7 : Memref sig .tc .vmem S1088x512 .f32) (harg7 : arg7.IsWhole)
    (arg8 : Memref sig .tc .vmem S2x4096x512 .bf16) (harg8 : arg8.IsWhole) (arg9 : Memref sig .tc .vmem S4352x512 .f32) (harg9 : arg9.IsWhole)
    (x0 : Vec F S1088x4096 .bf16) (x1 : Vec F S1x1024x512 .f32) (x2 : Vec F S1088x512 .f32) (x3 : Vec F S8x512 .f32)
    (d7 : Vec F S1088x512 .f32) (d8 : Vec F S2x4096x512 .bf16) (d9 : Vec F S4352x512 .f32)
    (h1 : k0_cond1 i = 1#1) (h2 : k0_cond2 i = 1#1) (h3 : k0_cond3 i = 1#1) (h4 : ¬ k0_cond4 i = 1#1) (h5 : ¬ k0_cond5 i = 1#1)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare d7
        ∗ owns (c : Thread nD τ) arg8 fullShare d8 ∗ owns (c : Thread nD τ) arg9 fullShare d9
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare d7
            ∗ owns (c : Thread nD τ) arg8 fullShare (fillW i d8 (k0_pay1 x1))
            ∗ owns (c : Thread nD τ) arg9 fullShare (accPut i d9 (k0_pay2 (topX x0) (slab i (fillW i d8 (k0_pay1 x1)))) (k0_pay3 (botX x0) (slab i (fillW i d8 (k0_pay1 x1)))))) -∗ K ⟨⟩))
      ⊢ wp frame (wpE (defs₀ (F := F)) Variants.none c none) E
          (cc0_matmul_residual i arg3 harg3 arg4 harg4 arg5 harg5 arg6 harg6 arg7 harg7 arg8 harg8 arg9 harg9) K := by
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hs0; obtain rfl := harg9.eq_unread hs1
  sl_exec
  sl_step
  have e8 : arg8.view.read (Elt F) (arg8.view.writes (Elt F) (harg8.unread d8) (runB0.sl.HS0_1 c i arg4 harg4 x1 h1)) = fillW i d8 (k0_pay1 x1) := by
    delta runB0.sl.HS0_1; rw [View.read_writes_cons_put _ _ _ _ _ (off1_eq i), View.writes_nil, hs0]
    exact congrArg (fillW i d8) (congrArg k0_pay1 ((View.readAt_full (s := S1x1024x512) _ _ _).trans hf1))
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr
    swap; · iexact HS0
    ipureintro
    exact e8
  iexists _; isplitr
  swap; · iexact HS1
  ipureintro
  delta runB0.sl.v41
  rw [View.read_writes_cons_put _ _ _ _ _ (off3B i), View.read_writes_cons_put _ _ _ _ _ (off3T i), View.writes_nil, hs1,
    View.readAt_unit arg3.view _ _ rfl inb_S1088x4096_S544x4096_0_0, View.readAt_unit arg3.view _ _ rfl inb_S1088x4096_S544x4096_544_0, hf0,
    View.readAt_unit arg8.view _ _ (off2_eq i) (slab_inb i), e8]
  rfl

set_option maxHeartbeats 3200000 in
theorem runB2 (c : Dev nD) (i : grid0.Coords) (arg3 : Memref sig .tc .vmem S1088x4096 .bf16) (harg3 : arg3.IsWhole)
    (arg4 : Memref sig .tc .vmem S1x1024x512 .f32) (harg4 : arg4.IsWhole) (arg5 : Memref sig .tc .vmem S1088x512 .f32) (harg5 : arg5.IsWhole)
    (arg6 : Memref sig .tc .vmem S8x512 .f32) (harg6 : arg6.IsWhole) (arg7 : Memref sig .tc .vmem S1088x512 .f32) (harg7 : arg7.IsWhole)
    (arg8 : Memref sig .tc .vmem S2x4096x512 .bf16) (harg8 : arg8.IsWhole) (arg9 : Memref sig .tc .vmem S4352x512 .f32) (harg9 : arg9.IsWhole)
    (x0 : Vec F S1088x4096 .bf16) (x1 : Vec F S1x1024x512 .f32) (x2 : Vec F S1088x512 .f32) (x3 : Vec F S8x512 .f32)
    (d8 : Vec F S2x4096x512 .bf16) (d9 : Vec F S4352x512 .f32)
    (h1 : k0_cond1 i = 1#1) (h2 : k0_cond2 i = 1#1) (h3 : ¬ k0_cond3 i = 1#1) (h4 : ¬ k0_cond4 i = 1#1) (h5 : k0_cond5 i = 1#1)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ owns (c : Thread nD τ) arg8 fullShare d8 ∗ owns (c : Thread nD τ) arg9 fullShare d9
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (outU i x0 x2 x3 (accGet i 0 d9) (accGet i 1 d9) (slab i (fillW i d8 (k0_pay1 x1))))
            ∗ owns (c : Thread nD τ) arg8 fullShare (fillW i d8 (k0_pay1 x1))
            ∗ owns (c : Thread nD τ) arg9 fullShare d9) -∗ K ⟨⟩))
      ⊢ wp frame (wpE (defs₀ (F := F)) Variants.none c none) E
          (cc0_matmul_residual i arg3 harg3 arg4 harg4 arg5 harg5 arg6 harg6 arg7 harg7 arg8 harg8 arg9 harg9) K := by
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3
  obtain rfl := harg8.eq_unread hs0; obtain rfl := harg9.eq_unread hs1
  sl_exec
  sl_step
  have e8 : arg8.view.read (Elt F) (arg8.view.writes (Elt F) (harg8.unread d8) (runB2.sl.HS0_1 c i arg4 harg4 x1 h1)) = fillW i d8 (k0_pay1 x1) := by
    delta runB2.sl.HS0_1; rw [View.read_writes_cons_put _ _ _ _ _ (off1_eq i), View.writes_nil, hs0]
    exact congrArg (fillW i d8) (congrArg k0_pay1 ((View.readAt_full (s := S1x1024x512) _ _ _).trans hf1))
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    delta runB2.sl.r runB2.sl.r_1 runB2.sl.r_2 runB2.sl.r_3 runB2.sl.r_4 runB2.sl.r_5 runB2.sl.r_6
    rw [View.read_writes_cons_put _ _ _ _ _ rfl, View.read_writes_cons_put _ _ _ _ _ rfl, halves _ (fun _ => FloatOps.ofBits .f32 0),
      View.readAt_unit arg9.view _ _ (off6T i) (acc_inb i 0), View.readAt_unit arg9.view _ _ (off6B i) (acc_inb i 1), hs1,
      View.readAt_unit arg3.view _ _ rfl inb_S1088x4096_S544x4096_0_0, View.readAt_unit arg3.view _ _ rfl inb_S1088x4096_S544x4096_544_0, hf0,
      View.readAt_unit arg5.view _ _ rfl inb_S1088x512_S544x512_0_0, View.readAt_unit arg5.view _ _ rfl inb_S1088x512_S544x512_544_0, hf2,
      View.readAt_unit arg6.view _ _ rfl inb_S8x512_S1x512_0_0, View.readAt_unit arg6.view _ _ rfl inb_S8x512_S1x512_1_0,
      View.readAt_unit arg6.view _ _ rfl inb_S8x512_S1x512_2_0, hf3, View.readAt_unit arg8.view _ _ (off7_eq i) (slab_inb i), e8]
    rfl
  isplitl [HS0]
  · iexists _; isplitr
    swap; · iexact HS0
    ipureintro
    exact e8
  iexists _; isplitr
  swap; · iexact HS1
  ipureintro
  exact harg9.read_unread _

set_option maxHeartbeats 3200000 in
theorem runC2 (c : Dev nD) (i : grid0.Coords) (arg3 : Memref sig .tc .vmem S1088x4096 .bf16) (harg3 : arg3.IsWhole)
    (arg4 : Memref sig .tc .vmem S1x1024x512 .f32) (harg4 : arg4.IsWhole) (arg5 : Memref sig .tc .vmem S1088x512 .f32) (harg5 : arg5.IsWhole)
    (arg6 : Memref sig .tc .vmem S8x512 .f32) (harg6 : arg6.IsWhole) (arg7 : Memref sig .tc .vmem S1088x512 .f32) (harg7 : arg7.IsWhole)
    (arg8 : Memref sig .tc .vmem S2x4096x512 .bf16) (harg8 : arg8.IsWhole) (arg9 : Memref sig .tc .vmem S4352x512 .f32) (harg9 : arg9.IsWhole)
    (x0 : Vec F S1088x4096 .bf16) (x1 : Vec F S1x1024x512 .f32) (x2 : Vec F S1088x512 .f32) (x3 : Vec F S8x512 .f32)
    (d8 : Vec F S2x4096x512 .bf16) (d9 : Vec F S4352x512 .f32)
    (h1 : ¬ k0_cond1 i = 1#1) (h2 : k0_cond2 i = 1#1) (h3 : ¬ k0_cond3 i = 1#1) (h4 : ¬ k0_cond4 i = 1#1) (h5 : k0_cond5 i = 1#1)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ owns (c : Thread nD τ) arg8 fullShare d8 ∗ owns (c : Thread nD τ) arg9 fullShare d9
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (outU i x0 x2 x3 (accGet i 0 d9) (accGet i 1 d9) (slab i d8))
            ∗ owns (c : Thread nD τ) arg8 fullShare d8
            ∗ owns (c : Thread nD τ) arg9 fullShare d9) -∗ K ⟨⟩))
      ⊢ wp frame (wpE (defs₀ (F := F)) Variants.none c none) E
          (cc0_matmul_residual i arg3 harg3 arg4 harg4 arg5 harg5 arg6 harg6 arg7 harg7 arg8 harg8 arg9 harg9) K := by
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3
  obtain rfl := harg8.eq_unread hs0; obtain rfl := harg9.eq_unread hs1
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    delta runC2.sl.r runC2.sl.r_1 runC2.sl.r_2 runC2.sl.r_3 runC2.sl.r_4 runC2.sl.r_5 runC2.sl.r_6
    rw [View.read_writes_cons_put _ _ _ _ _ rfl, View.read_writes_cons_put _ _ _ _ _ rfl, halves _ (fun _ => FloatOps.ofBits .f32 0),
      View.readAt_unit arg9.view _ _ (off6T i) (acc_inb i 0), View.readAt_unit arg9.view _ _ (off6B i) (acc_inb i 1), hs1,
      View.readAt_unit arg3.view _ _ rfl inb_S1088x4096_S544x4096_0_0, View.readAt_unit arg3.view _ _ rfl inb_S1088x4096_S544x4096_544_0, hf0,
      View.readAt_unit arg5.view _ _ rfl inb_S1088x512_S544x512_0_0, View.readAt_unit arg5.view _ _ rfl inb_S1088x512_S544x512_544_0, hf2,
      View.readAt_unit arg6.view _ _ rfl inb_S8x512_S1x512_0_0, View.readAt_unit arg6.view _ _ rfl inb_S8x512_S1x512_1_0,
      View.readAt_unit arg6.view _ _ rfl inb_S8x512_S1x512_2_0, hf3, View.readAt_unit arg8.view _ _ (off7_eq i) (slab_inb i), hs0]
    rfl
  isplitl [HS0]
  · iexists _; isplitr
    swap; · iexact HS0
    ipureintro
    exact harg8.read_unread _
  iexists _; isplitr
  swap; · iexact HS1
  ipureintro
  exact harg9.read_unread _

end Cert.Proof.Fold

end
-- ==== Proof.FoldFill.lean ====
/- What the weight buffer and the partial sums of the second product hold along the grid. -/
module

public import proofs.«01_k».proof.Proof.FoldRun
public import proofs.«01_k».proof.Proof.Slots

@[expose] public section

set_option maxRecDepth 16384

noncomputable section

namespace Cert.Proof.Fold

open Cert.Kernel7Ideal Cert.Kernel7Ideal.Gen
open Idealize.ShloMosaic Idealize.ShloMosaic.TcCoe
open Idealize.SL Idealize.SL.Sem

variable {F : FTy → Type} [FloatOps F]

/-! ## The weights -/

/-- The slot filled over step `T`. -/
abbrev slabOf (B : ℕ → FVec F S1x1024x512 .bf16) (T : ℕ) : Vec F S1x4096x512 .bf16 := Slots.slabOf 4 B T

/-- Before a part's point `n` each slot holds, of each of the 16 steps, the blocks stored and not yet stored over. -/
abbrev Inv (B : ℕ → FVec F S1x1024x512 .bf16) (n : ℕ) (d : Vec F S2x4096x512 .bf16) : Prop := Slots.Inv 4 16 B n d

section
variable (B : ℕ → FVec F S1x1024x512 .bf16) (d : Vec F S2x4096x512 .bf16)

theorem inv_put (i : grid0.Coords) (n : ℕ) (h1 : (i 1).val = n / 4) (h2 : (i 2).val = n % 4) (hd : Inv B n d) : Inv B (n + 1) (fillW i d (B n)) :=
  Slots.inv_put 4 16 (.inr ⟨rfl, rfl⟩) B d n _ (by rw [h1, h2]) hd

theorem inv_skip (n : ℕ) (hn : 64 ≤ n) (hd : Inv B n d) : Inv B (n + 1) d := Slots.inv_skip 4 16 (.inr ⟨rfl, rfl⟩) B d n (by omega) hd

theorem slab_inv (i : grid0.Coords) (n T : ℕ) (hT : T < 16) (h1 : (i 1).val = T + 1) (ha : 4 * (T + 1) ≤ n) (hb : n ≤ 4 * (T + 2)) (hd : Inv B n d) :
    slab i d = slabOf B T :=
  Slots.slab_inv 4 16 (.inr ⟨rfl, rfl⟩) B d _ (slab_inb i) T n (by rw [h1, show (T + 1 + 1) % 2 = T % 2 by omega]) hT ha hb hd
end

/-! ## The partial sums -/

/-- Half `r` of block `q` of the partial sums begins here. -/
abbrev rowO (q : Fin 4) (r : Fin 2) : Fin 2 → ℕ := ![1088 * q.val + 544 * r.val, 0]

theorem row_inb (q : Fin 4) (r : Fin 2) : ∀ a, rowO q r a + S544x512.size a ≤ S4352x512.size a := fun a =>
  match a with
  | 0 => (by omega : 1088 * q.val + 544 * r.val + 544 ≤ 4352)
  | 1 => (by decide : 0 + 512 ≤ 512)

/-- Half `r` of block `q` of the partial sums. -/
def rowGet (q : Fin 4) (r : Fin 2) (d : Vec F S4352x512 .f32) : Vec F S544x512 .f32 :=
  VecWindow.window (s := S4352x512) d (rowO q r) S544x512.size (row_inb q r)

theorem accGet_eq (i : grid0.Coords) (r : Fin 2) (d : Vec F S4352x512 .f32) : accGet i r d = rowGet (i 2) r d := rfl

/-- Storing a point's block leaves the other blocks. -/
theorem rowGet_other (i : grid0.Coords) (q : Fin 4) (r : Fin 2) (h : q.val ≠ (i 2).val) (d : Vec F S4352x512 .f32) (w w' : FVec F S544x512 .f32) :
    rowGet q r (accPut i d w w') = rowGet q r d := by
  have hr := r.isLt
  refine (VecWindow.window_put_of_disjoint (s := S4352x512) _ (accO i 1) _ (rowO q r) _ _ _ 0 ?_).trans
    (VecWindow.window_put_of_disjoint (s := S4352x512) _ (accO i 0) _ (rowO q r) _ _ _ 0 ?_)
  · show 1088 * q.val + 544 * r.val + 544 ≤ 1088 * (i 2).val + 544 * 1 ∨ 1088 * (i 2).val + 544 * 1 + 544 ≤ 1088 * q.val + 544 * r.val
    omega
  · show 1088 * q.val + 544 * r.val + 544 ≤ 1088 * (i 2).val + 544 * 0 ∨ 1088 * (i 2).val + 544 * 0 + 544 ≤ 1088 * q.val + 544 * r.val
    omega

/-- Storing a point's block leaves what it stored. -/
theorem rowGet_same (i : grid0.Coords) (d : Vec F S4352x512 .f32) (w w' : FVec F S544x512 .f32) :
    rowGet (i 2) 0 (accPut i d w w') = w ∧ rowGet (i 2) 1 (accPut i d w w') = w' :=
  ⟨(VecWindow.window_put_of_disjoint (s := S4352x512) _ (accO i 1) _ (rowO (i 2) 0) _ _ _ 0
      (Or.inl (by show 1088 * (i 2).val + 544 * 0 + 544 ≤ 1088 * (i 2).val + 544 * 1; omega))).trans (VecWindow.window_put_same (s := S4352x512) _ _ _ _ _),
    VecWindow.window_put_same (s := S4352x512) _ _ _ _ _⟩

/-- A half's partial sums after step `j`, the first of a column block's two, from the rows `X` and the weights `W` of each step. -/
def accV (X : ℕ → Vec F S544x4096 .bf16) (W : ℕ → Vec F S1x4096x512 .bf16) (j : ℕ) : Vec F S544x512 .f32 := k0_pay2 (X j) (W j)

/-- Before a part's point `n` each half of each block holds its partial sums, if it is read again. -/
def AInv (X : Fin 4 → Fin 2 → ℕ → Vec F S544x4096 .bf16) (W : ℕ → Vec F S1x4096x512 .bf16) (n : ℕ) (d : Vec F S4352x512 .f32) : Prop :=
  ∀ (q : Fin 4) (r : Fin 2) (j : ℕ), j % 2 = 0 → 4 * (j + 1) + q.val < n → n ≤ 4 * (j + 2) + q.val → rowGet q r d = accV (X q r) W j

section
variable (X : Fin 4 → Fin 2 → ℕ → Vec F S544x4096 .bf16) (W : ℕ → Vec F S1x4096x512 .bf16) (d : Vec F S4352x512 .f32)

theorem ainv_zero : AInv X W 0 d := fun _ _ _ _ h _ => absurd h (Nat.not_lt_zero _)

/-- A point that stores no sums: one of the first step, or of a column block's last. -/
theorem ainv_skip (n : ℕ) (hn : n < 4 ∨ n / 4 % 2 = 0) (hd : AInv X W n d) : AInv X W (n + 1) d := by
  intro q r j hj ha hb
  have hq := q.isLt
  exact hd q r j hj (by omega) (by omega)

/-- A point of step `j` that stores its block's sums. -/
theorem ainv_put (i : grid0.Coords) (n j : ℕ) (h1 : n / 4 = j + 1) (h2 : (i 2).val = n % 4) (w w' : FVec F S544x512 .f32)
    (hw : w = accV (X (i 2) 0) W j) (hw' : w' = accV (X (i 2) 1) W j) (hd : AInv X W n d) : AInv X W (n + 1) (accPut i d w w') := by
  intro q r k hk ha hb
  have hq := q.isLt
  by_cases h : q.val = (i 2).val
  · obtain rfl : q = i 2 := Fin.ext h
    obtain rfl : k = j := by omega
    match r with
    | 0 => exact (rowGet_same i d w w').1.trans hw
    | 1 => exact (rowGet_same i d w w').2.trans hw'
  · rw [rowGet_other i q r h]
    exact hd q r k hk (by omega) (by omega)

/-- The sums a point of step `j + 1` reads. -/
theorem ainv_get (i : grid0.Coords) (n j : ℕ) (h1 : n / 4 = j + 2) (h2 : (i 2).val = n % 4) (hj : j % 2 = 0) (r : Fin 2) (hd : AInv X W n d) :
    accGet i r d = accV (X (i 2) r) W j := by
  have hq := (i 2).isLt
  exact hd (i 2) r j hj (by omega) (by omega)
end

end Cert.Proof.Fold

end
-- ==== Proof.FoldFrame.lean ====
/- The run of the second product over its grid, for any values: what the pipeline's buffers hold after each point, and
   that the launch ends with the arguments unchanged. -/
module

public import proofs.«01_k».proof.Proof.FoldFill

@[expose] public section

set_option maxRecDepth 16384

noncomputable section

namespace Cert.Proof.Fold

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Mid (topX botX)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem coords (t : Fin cfg0.N) :
    (grid0.coords t 0).val = t.val / 68 ∧ (grid0.coords t 1).val = t.val % 68 / 4 ∧ (grid0.coords t 2).val = t.val % 68 % 4 :=
  (by decide +kernel : ∀ t : Fin grid0.N,
    (grid0.coords t 0).val = t.val / 68 ∧ (grid0.coords t 1).val = t.val % 68 / 4 ∧ (grid0.coords t 2).val = t.val % 68 % 4) t
theorem cond1 (t : Fin cfg0.N) : k0_cond1 (grid0.coords t) = 1#1 ↔ t.val % 68 < 64 :=
  (by decide +kernel : ∀ t : Fin grid0.N, k0_cond1 (grid0.coords t) = 1#1 ↔ t.val % 68 < 64) t
theorem cond2 (t : Fin cfg0.N) : k0_cond2 (grid0.coords t) = 1#1 ↔ 4 ≤ t.val % 68 :=
  (by decide +kernel : ∀ t : Fin grid0.N, k0_cond2 (grid0.coords t) = 1#1 ↔ 4 ≤ t.val % 68) t
theorem cond3 (t : Fin cfg0.N) (h : 4 ≤ t.val % 68) : k0_cond3 (grid0.coords t) = 1#1 ↔ t.val % 68 / 4 % 2 = 1 :=
  (by decide +kernel : ∀ t : Fin grid0.N, 4 ≤ t.val % 68 → (k0_cond3 (grid0.coords t) = 1#1 ↔ t.val % 68 / 4 % 2 = 1)) t h
theorem cond4 (t : Fin cfg0.N) (h : 4 ≤ t.val % 68) : ¬ k0_cond4 (grid0.coords t) = 1#1 :=
  (by decide +kernel : ∀ t : Fin grid0.N, 4 ≤ t.val % 68 → ¬ k0_cond4 (grid0.coords t) = 1#1) t h
theorem cond5 (t : Fin cfg0.N) (h : 4 ≤ t.val % 68) : k0_cond5 (grid0.coords t) = 1#1 ↔ t.val % 68 / 4 % 2 = 0 :=
  (by decide +kernel : ∀ t : Fin grid0.N, 4 ≤ t.val % 68 → (k0_cond5 (grid0.coords t) = 1#1 ↔ t.val % 68 / 4 % 2 = 0)) t h
/-- The output's block is written back at every point that stores it, and at no other. -/
theorem flush4 : ∀ t : Fin cfg0.N, (cfg0.win 4).flush t = decide (4 ≤ t.val % 68 ∧ t.val % 68 / 4 % 2 = 0) :=
  (by decide +kernel : ∀ t : Fin grid0.N, win0_4.flush t = decide (4 ≤ t.val % 68 ∧ t.val % 68 / 4 % 2 = 0))
theorem idle4 (t : Fin cfg0.N) : cfg0.idle 4 (cfg0.grid.coords t) = decide (¬ (4 ≤ t.val % 68 ∧ t.val % 68 / 4 % 2 = 0)) :=
  (by decide +kernel : ∀ t : Fin grid0.N, idle0 4 (grid0.coords t) = decide (¬ (4 ≤ t.val % 68 ∧ t.val % 68 / 4 % 2 = 0))) t

/-! ## The memory at the region -/

abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => rfl

/-- A window's block at a point, as the array holds it when the region starts. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 (t : Fin cfg0.N) : Memref sig .tc .vmem S1088x4096 .bf16 := win0_0.stage (cfg0.slots t 0)
abbrev ms1 (t : Fin cfg0.N) : Memref sig .tc .vmem S1x1024x512 .f32 := win0_1.stage (cfg0.slots t 1)
abbrev ms2 (t : Fin cfg0.N) : Memref sig .tc .vmem S1088x512 .f32 := win0_2.stage (cfg0.slots t 2)
abbrev ms3 (t : Fin cfg0.N) : Memref sig .tc .vmem S8x512 .f32 := win0_3.stage (cfg0.slots t 3)
abbrev ms4 (t : Fin cfg0.N) : Memref sig .tc .vmem S1088x512 .f32 := win0_4.stage (cfg0.slots t 4)
abbrev sc8 : Memref sig .tc .vmem S2x4096x512 .bf16 := Memref.whole cc0_scratch0
abbrev sc9 : Memref sig .tc .vmem S4352x512 .f32 := Memref.whole cc0_scratch1

theorem PhiA0_eq (c : Dev nD) :
    (Pipeline.ΦA spec0 c : sProp 𝕄)
      = iprop(iprop((∃ d, owns (c : Thread nD τ) sc8 fullShare d) ∗ (∃ d, owns (c : Thread nD τ) sc9 fullShare d)) ∗ (∃ r, prngReg c r)) := by
  unfold Pipeline.ΦA; rw [scopedRest0_eq]; simp only [sc8, sc9, owns_whole]; try rfl

/-! ## The proof data -/

/-- The grid point with number `n`. -/
def at_ (n : ℕ) : Fin cfg0.N := ⟨n % 136, Nat.mod_lt _ (by decide)⟩

theorem at_val (t : Fin cfg0.N) : at_ t.val = t := Fin.ext (Nat.mod_eq_of_lt t.isLt)

/-- The blocks of the weights, point by point of part `p`, rounded. -/
def wB (c : Dev nD) (p n : ℕ) : FVec F S1x1024x512 .bf16 := k0_pay1 (iblk m c 1 (at_ (68 * p + n)))

/-- Half `r` of the rows that block `q` of part `p` multiplies at step `j`. -/
def xH (c : Dev nD) (p : ℕ) (q : Fin 4) (r : Fin 2) (j : ℕ) : Vec F S544x4096 .bf16 :=
  match r with
  | 0 => topX (iblk m c 0 (at_ (68 * p + (4 * (j + 1) + q.val))))
  | 1 => botX (iblk m c 0 (at_ (68 * p + (4 * (j + 1) + q.val))))

/-- The partial sums of half `r` of block `q` of part `p` after step `j`. -/
abbrev aV (c : Dev nD) (p : ℕ) (q : Fin 4) (r : Fin 2) (j : ℕ) : Vec F S544x512 .f32 := accV (xH m c p q r) (slabOf (wB m c p)) j

/-- What the output's block holds after a point that stores it. -/
def outAt (c : Dev nD) (t : Fin cfg0.N) : Vec F S1088x512 .f32 :=
  outU (grid0.coords t) (iblk m c 0 t) (iblk m c 2 t) (iblk m c 3 t)
    (aV m c (t.val / 68) (grid0.coords t 2) 0 (t.val % 68 / 4 - 2)) (aV m c (t.val / 68) (grid0.coords t 2) 1 (t.val % 68 / 4 - 2))
    (slabOf (wB m c (t.val / 68)) (t.val % 68 / 4 - 1))

/-- The two buffers hold, in point `n` of part `p`, what the part's points so far stored. -/
def Held (c : Dev nD) (p n : ℕ) (d8 : Vec F S2x4096x512 .bf16) (d9 : Vec F S4352x512 .f32) : Prop :=
  Inv (wB m c p) n d8 ∧ AInv (xH m c p) (slabOf (wB m c p)) n d9

/-- A part's points begin anew. -/
theorem held_next (c : Dev nD) (n : ℕ) (d8 : Vec F S2x4096x512 .bf16) (d9 : Vec F S4352x512 .f32) (h : Held m c (n / 68) (n % 68 + 1) d8 d9) :
    Held m c ((n + 1) / 68) ((n + 1) % 68) d8 d9 := by
  by_cases hn : n % 68 = 67
  · rw [show (n + 1) % 68 = 0 by omega]
    exact ⟨Slots.inv_zero 4 16 _ _, ainv_zero _ _ _⟩
  · rwa [show (n + 1) % 68 = n % 68 + 1 by omega, show (n + 1) / 68 = n / 68 by omega]

/-- The invariant before point `n`. -/
def PhiAt (c : Dev nD) (n : ℕ) : sProp 𝕄 :=
  iprop((∃ d8 d9, ⌜Held m c (n / 68) (n % 68) d8 d9⌝ ∗ owns (c : Thread nD τ) sc8 fullShare d8 ∗ owns (c : Thread nD τ) sc9 fullShare d9) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiAt m c t.val
  q _ := fullShare
  owed _ := 0

theorem A_eq (c : Dev nD) (w : Fin cfg0.W) : (dats m 0 c).A w = V m c (Pipeline.arrRef spec0 w) := by dsimp only [dats]
theorem after_4 (c : Dev nD) (t : Fin cfg0.N) : (dats m 0 c).after 4 t = outAt m c t := by dsimp only [dats]
theorem bef_0 (c : Dev nD) (t : Fin cfg0.N) (d) : (dats m 0 c).before 0 t d = iblk m c 0 t :=
  (dats m 0 c).before_in_eq_fetched 0 rfl (fun _ => rfl) (fun _ _ _ => rfl) (fun _ => rfl) t d
theorem bef_1 (c : Dev nD) (t : Fin cfg0.N) (d) : (dats m 0 c).before 1 t d = iblk m c 1 t :=
  (dats m 0 c).before_in_eq_fetched 1 rfl (fun _ => rfl) (fun _ _ _ => rfl) (fun _ => rfl) t d
theorem bef_2 (c : Dev nD) (t : Fin cfg0.N) (d) : (dats m 0 c).before 2 t d = iblk m c 2 t :=
  (dats m 0 c).before_in_eq_fetched 2 rfl (fun _ => rfl) (fun _ _ _ => rfl) (fun _ => rfl) t d
theorem bef_3 (c : Dev nD) (t : Fin cfg0.N) (d) : (dats m 0 c).before 3 t d = iblk m c 3 t :=
  (dats m 0 c).before_in_eq_fetched 3 rfl (fun _ => rfl) (fun _ _ _ => rfl) (fun _ => rfl) t d

/-! ## The body at a point -/

/-- What the body is called with at point `t`. -/
def bodyPre (c : Dev nD) (t : Fin cfg0.N) : sProp 𝕄 :=
  iprop(PhiAt m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns, the output's block at `P`. -/
def bodyPost (c : Dev nD) (t : Fin cfg0.N) (P : sProp 𝕄) : sProp 𝕄 :=
  iprop(PhiAt m c (t.val + 1) ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ P)

theorem N_lt (t : Fin cfg0.N) : t.val < 136 := t.isLt

theorem wB_at (c : Dev nD) (t : Fin cfg0.N) : wB m c (t.val / 68) (t.val % 68) = k0_pay1 (iblk m c 1 t) := by
  unfold wB; rw [Nat.div_add_mod, at_val]

theorem fill (c : Dev nD) (t : Fin cfg0.N) (d) (h : Inv (wB m c (t.val / 68)) (t.val % 68) d) :
    Inv (wB m c (t.val / 68)) (t.val % 68 + 1) (fillW (grid0.coords t) d (k0_pay1 (iblk m c 1 t))) := by
  rw [← wB_at]; exact inv_put _ d _ _ (coords t).2.1 (coords t).2.2 h

/-- The slot a point multiplies by, whether or not the point's own block is in. -/
theorem slabs (c : Dev nD) (t : Fin cfg0.N) (ht : 4 ≤ t.val % 68) (d) (n : ℕ) (hn : t.val % 68 ≤ n) (hn' : n ≤ t.val % 68 + 1)
    (h : Inv (wB m c (t.val / 68)) n d) : slab (grid0.coords t) d = slabOf (wB m c (t.val / 68)) (t.val % 68 / 4 - 1) :=
  slab_inv _ d _ n _ (by omega) (by rw [(coords t).2.1]; omega) (by omega) (by omega) h

theorem xH_at (c : Dev nD) (t : Fin cfg0.N) (ht : 4 ≤ t.val % 68) :
    xH m c (t.val / 68) (grid0.coords t 2) 0 (t.val % 68 / 4 - 1) = topX (iblk m c 0 t)
      ∧ xH m c (t.val / 68) (grid0.coords t 2) 1 (t.val % 68 / 4 - 1) = botX (iblk m c 0 t) := by
  have e : 68 * (t.val / 68) + (4 * (t.val % 68 / 4 - 1 + 1) + (grid0.coords t 2).val) = t.val := by rw [(coords t).2.2]; omega
  constructor
  · show topX (iblk m c 0 (at_ (68 * (t.val / 68) + (4 * (t.val % 68 / 4 - 1 + 1) + (grid0.coords t 2).val)))) = _
    rw [e, at_val]
  · show botX (iblk m c 0 (at_ (68 * (t.val / 68) + (4 * (t.val % 68 / 4 - 1 + 1) + (grid0.coords t 2).val)))) = _
    rw [e, at_val]

/-- The sums a point stores in a column block's first step. -/
theorem sums_first (c : Dev nD) (t : Fin cfg0.N) (ht : 4 ≤ t.val % 68) (hk : t.val % 68 / 4 % 2 = 1) (d9)
    (h : AInv (xH m c (t.val / 68)) (slabOf (wB m c (t.val / 68))) (t.val % 68) d9) :
    AInv (xH m c (t.val / 68)) (slabOf (wB m c (t.val / 68))) (t.val % 68 + 1)
      (accPut (grid0.coords t) d9 (k0_pay2 (topX (iblk m c 0 t)) (slabOf (wB m c (t.val / 68)) (t.val % 68 / 4 - 1)))
        (k0_pay3 (botX (iblk m c 0 t)) (slabOf (wB m c (t.val / 68)) (t.val % 68 / 4 - 1)))) := by
  refine ainv_put _ _ d9 _ _ (t.val % 68 / 4 - 1) (by omega) (coords t).2.2 _ _ ?_ ?_ h
  · rw [accV, (xH_at m c t ht).1]
  · rw [accV, (xH_at m c t ht).2]; rfl

/-- The sums a point reads in a column block's last step. -/
theorem sums_read (c : Dev nD) (t : Fin cfg0.N) (ht : 4 ≤ t.val % 68) (hk : t.val % 68 / 4 % 2 = 0) (d9)
    (h : AInv (xH m c (t.val / 68)) (slabOf (wB m c (t.val / 68))) (t.val % 68) d9) (r : Fin 2) :
    accGet (grid0.coords t) r d9 = aV m c (t.val / 68) (grid0.coords t 2) r (t.val % 68 / 4 - 2) :=
  ainv_get _ _ d9 _ _ (t.val % 68 / 4 - 2) (by omega) (coords t).2.2 (by omega) r h

set_option maxHeartbeats 1600000 in
/-- The body at a point of a part's first step, which only fills the weight buffer. -/
theorem sound_fill (c : Dev nD) (t : Fin cfg0.N) (ht : t.val % 68 < 4) :
    bodyPre m c t ⊢ wp frame (wpE (defs₀ (F := F)) Variants.none c none) Set.univ (bodyAt0 t) (fun _ => bodyPost m c t iprop(∃ d, owns (c : Thread nD τ) (ms4 t) fullShare ((dats m 0 c).before 4 t d))) := by
  unfold bodyPre bodyPost bodyAt0 PhiAt
  simp only [bef_0, bef_1, bef_2, bef_3]
  iintro ⟨⟨⟨%d8, %d9, %hd, S8, S9⟩, Hg⟩, Ho, ⟨%d0, H0⟩, ⟨%d1, H1⟩, ⟨%d2, H2⟩, ⟨%d3, H3⟩, ⟨%d4, H4⟩⟩
  iapply (runA c (grid0.coords t) _ _ _ _ _ _ _ _ _ _ _ _ _ _ (iblk m c 0 t) (iblk m c 1 t) (iblk m c 2 t) (iblk m c 3 t) _ d8 d9
    ((cond1 t).2 (by omega)) (fun h => absurd ((cond2 t).1 h) (by omega)) Set.univ _)
  isplitl [H0]; · iexact H0
  isplitl [H1]; · iexact H1
  isplitl [H2]; · iexact H2
  isplitl [H3]; · iexact H3
  isplitl [H4]; · iexact H4
  isplitl [S8]; · iexact S8
  isplitl [S9]; · iexact S9
  iintro ⟨H0, H1, H2, H3, H4, S8, S9⟩
  isplitl [S8 S9 Hg]
  · isplitl [S8 S9]
    · iexists _, _
      isplitr
      · ipureintro; exact held_next m c _ _ _ ⟨fill m c t d8 hd.1, ainv_skip _ _ d9 _ (Or.inl ht) hd.2⟩
      isplitl [S8]; · iexact S8
      iexact S9
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a point of a column block's first step, which begins the sums. -/
theorem sound_first (c : Dev nD) (t : Fin cfg0.N) (ht : 4 ≤ t.val % 68) (hk : t.val % 68 / 4 % 2 = 1) :
    bodyPre m c t ⊢ wp frame (wpE (defs₀ (F := F)) Variants.none c none) Set.univ (bodyAt0 t) (fun _ => bodyPost m c t iprop(∃ d, owns (c : Thread nD τ) (ms4 t) fullShare ((dats m 0 c).before 4 t d))) := by
  unfold bodyPre bodyPost bodyAt0 PhiAt
  simp only [bef_0, bef_1, bef_2, bef_3]
  iintro ⟨⟨⟨%d8, %d9, %hd, S8, S9⟩, Hg⟩, Ho, ⟨%d0, H0⟩, ⟨%d1, H1⟩, ⟨%d2, H2⟩, ⟨%d3, H3⟩, ⟨%d4, H4⟩⟩
  have ew := slabs m c t ht _ _ (Nat.le_succ _) le_rfl (fill m c t d8 hd.1)
  iapply (runB0 c (grid0.coords t) _ _ _ _ _ _ _ _ _ _ _ _ _ _ (iblk m c 0 t) (iblk m c 1 t) (iblk m c 2 t) (iblk m c 3 t) _ d8 d9
    ((cond1 t).2 (by omega)) ((cond2 t).2 (by omega)) ((cond3 t ht).2 (by omega)) (cond4 t ht) (fun h => absurd ((cond5 t ht).1 h) (by omega)) Set.univ _)
  isplitl [H0]; · iexact H0
  isplitl [H1]; · iexact H1
  isplitl [H2]; · iexact H2
  isplitl [H3]; · iexact H3
  isplitl [H4]; · iexact H4
  isplitl [S8]; · iexact S8
  isplitl [S9]; · iexact S9
  rw [ew]
  iintro ⟨H0, H1, H2, H3, H4, S8, S9⟩
  isplitl [S8 S9 Hg]
  · isplitl [S8 S9]
    · iexists _, _
      isplitr
      · ipureintro; exact held_next m c _ _ _ ⟨fill m c t d8 hd.1, sums_first m c t ht hk d9 hd.2⟩
      isplitl [S8]; · iexact S8
      iexact S9
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a point of a column block's last step, which writes the result. -/
theorem sound_last (c : Dev nD) (t : Fin cfg0.N) (ht : 4 ≤ t.val % 68) (hk : t.val % 68 / 4 % 2 = 0) (ht' : t.val % 68 < 64) :
    bodyPre m c t ⊢ wp frame (wpE (defs₀ (F := F)) Variants.none c none) Set.univ (bodyAt0 t) (fun _ => bodyPost m c t (owns (c : Thread nD τ) (ms4 t) fullShare (outAt m c t))) := by
  unfold bodyPre bodyPost bodyAt0 PhiAt
  simp only [bef_0, bef_1, bef_2, bef_3]
  iintro ⟨⟨⟨%d8, %d9, %hd, S8, S9⟩, Hg⟩, Ho, ⟨%d0, H0⟩, ⟨%d1, H1⟩, ⟨%d2, H2⟩, ⟨%d3, H3⟩, ⟨%d4, H4⟩⟩
  have ew := slabs m c t ht _ _ (Nat.le_succ _) le_rfl (fill m c t d8 hd.1)
  have e0 := sums_read m c t ht hk d9 hd.2 0
  have e1 := sums_read m c t ht hk d9 hd.2 1
  iapply (runB2 c (grid0.coords t) _ _ _ _ _ _ _ _ _ _ _ _ _ _ (iblk m c 0 t) (iblk m c 1 t) (iblk m c 2 t) (iblk m c 3 t) d8 d9
    ((cond1 t).2 (by omega)) ((cond2 t).2 (by omega)) (fun h => absurd ((cond3 t ht).1 h) (by omega)) (cond4 t ht) ((cond5 t ht).2 (by omega)) Set.univ _)
  isplitl [H0]; · iexact H0
  isplitl [H1]; · iexact H1
  isplitl [H2]; · iexact H2
  isplitl [H3]; · iexact H3
  isplitl [H4]; · iexists _; iexact H4
  isplitl [S8]; · iexact S8
  isplitl [S9]; · iexact S9
  rw [ew, e0, e1]
  iintro ⟨H0, H1, H2, H3, H4, S8, S9⟩
  isplitl [S8 S9 Hg]
  · isplitl [S8 S9]
    · iexists _, _
      isplitr
      · ipureintro; exact held_next m c _ _ _ ⟨fill m c t d8 hd.1, ainv_skip _ _ d9 _ (Or.inr hk) hd.2⟩
      isplitl [S8]; · iexact S8
      iexact S9
    iexact Hg
  isplitl [Ho]; · iexact Ho
  isplitl [H0]; · iexact H0
  isplitl [H1]; · iexact H1
  isplitl [H2]; · iexact H2
  isplitl [H3]; · iexact H3
  iexact H4

set_option maxHeartbeats 1600000 in
/-- The body at a point of a part's last step, which only multiplies and writes the result. -/
theorem sound_end (c : Dev nD) (t : Fin cfg0.N) (ht : 4 ≤ t.val % 68) (hk : t.val % 68 / 4 % 2 = 0) (ht' : 64 ≤ t.val % 68) :
    bodyPre m c t ⊢ wp frame (wpE (defs₀ (F := F)) Variants.none c none) Set.univ (bodyAt0 t) (fun _ => bodyPost m c t (owns (c : Thread nD τ) (ms4 t) fullShare (outAt m c t))) := by
  unfold bodyPre bodyPost bodyAt0 PhiAt
  simp only [bef_0, bef_1, bef_2, bef_3]
  iintro ⟨⟨⟨%d8, %d9, %hd, S8, S9⟩, Hg⟩, Ho, ⟨%d0, H0⟩, ⟨%d1, H1⟩, ⟨%d2, H2⟩, ⟨%d3, H3⟩, ⟨%d4, H4⟩⟩
  have ew := slabs m c t ht _ _ le_rfl (Nat.le_succ _) hd.1
  have e0 := sums_read m c t ht hk d9 hd.2 0
  have e1 := sums_read m c t ht hk d9 hd.2 1
  iapply (runC2 c (grid0.coords t) _ _ _ _ _ _ _ _ _ _ _ _ _ _ (iblk m c 0 t) (iblk m c 1 t) (iblk m c 2 t) (iblk m c 3 t) d8 d9
    (fun h => absurd ((cond1 t).1 h) (by omega)) ((cond2 t).2 (by omega)) (fun h => absurd ((cond3 t ht).1 h) (by omega)) (cond4 t ht) ((cond5 t ht).2 (by omega)) Set.univ _)
  isplitl [H0]; · iexact H0
  isplitl [H1]; · iexact H1
  isplitl [H2]; · iexact H2
  isplitl [H3]; · iexact H3
  isplitl [H4]; · iexists _; iexact H4
  isplitl [S8]; · iexact S8
  isplitl [S9]; · iexact S9
  rw [ew, e0, e1]
  iintro ⟨H0, H1, H2, H3, H4, S8, S9⟩
  isplitl [S8 S9 Hg]
  · isplitl [S8 S9]
    · iexists _, _
      isplitr
      · ipureintro; exact held_next m c _ _ _ ⟨inv_skip _ d8 _ ht' hd.1, ainv_skip _ _ d9 _ (Or.inr hk) hd.2⟩
      isplitl [S8]; · iexact S8
      iexact S9
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases hs : 4 ≤ t.val % 68 ∧ t.val % 68 / 4 % 2 = 0
  · rw [idle4, decide_eq_false (not_not_intro hs)]
    by_cases ht' : t.val % 68 < 64
    · exact triple_restated (sound_last m c t hs.1 hs.2 ht') rfl .rfl fun _ => .rfl
    · exact triple_restated (sound_end m c t hs.1 hs.2 (by omega)) rfl .rfl fun _ => .rfl
  · rw [idle4, flush4, decide_eq_true hs, decide_eq_false hs]
    by_cases ht : t.val % 68 < 4
    · exact triple_restated (sound_fill m c t ht) rfl .rfl fun _ => .rfl
    · exact triple_restated (sound_first m c t (by omega) (by omega)) rfl .rfl fun _ => .rfl

/-! ## The run -/

theorem hin (c : Dev nD) : Pipeline.ΦA spec0 c ⊢ (dats (F := F) m 0 c).Φ 0 := by
  rw [PhiA0_eq]
  show _ ⊢ PhiAt m c 0
  unfold PhiAt
  iintro ⟨⟨⟨%d8, S8⟩, ⟨%d9, S9⟩⟩, Hg⟩
  isplitl [S8 S9]
  · iexists d8, d9
    isplitr
    · ipureintro; exact ⟨Slots.inv_zero 4 16 _ _, ainv_zero _ _ _⟩
    isplitl [S8]; · iexact S8
    iexact S9
  iexact Hg

theorem hout (c : Dev nD) : (dats (F := F) m 0 c).Φ (Fin.last cfg0.N) ⊢ Pipeline.ΦA spec0 c := by
  rw [PhiA0_eq]
  show PhiAt m c _ ⊢ _
  unfold PhiAt
  iintro ⟨⟨%d8, %d9, %hd, S8, S9⟩, Hg⟩
  isplitl [S8 S9]
  · isplitl [S8]
    · iexists d8; iexact S8
    iexists d9; iexact S9
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ w => by match w with | 0 => rfl | 1 => rfl | 2 => rfl | 3 => rfl | 4 => rfl)
    (howed := fun _ _ => rfl) (V := V m) (hmain := hmain m Variants.none) (hA := A_eq m) (hin := hin m) (hout := hout m)

/-- The arguments are as launched. -/
theorem kept {r} (h : (Pipeline.FramePost cfgs (dats m) 0 (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2)),
    ((h c).1 3).trans (((dats m 0 c).arrAt_in 3 rfl _).trans (A_eq m c 3))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨kept m h.1, h.2⟩) (run_main_quiescent m ρ)

end Cert.Proof.Fold

end
-- ==== Proof.FoldValue.lean ====
/- The second product's result, entry by entry, over the reals. -/
module

public import proofs.«01_k».proof.Proof.FoldFrame
public import proofs.«01_k».proof.Proof.MidAt

@[expose] public section

set_option maxRecDepth 16384

noncomputable section

namespace Cert.Proof.Fold

open Cert.Kernel7Ideal Cert.Kernel7Ideal.Gen
open Idealize.ShloMosaic Idealize.ShloMosaic.TcCoe Idealize.ShloMosaic.Tactic Idealize.SL.Sem
open Cert.Kernel7Ideal.Facts
open Cert.Proof.Mid (topX botX prod topX_at botX_at)

/-- A sum taken a half at a time. -/
theorem sum_halves (f : Fin 8192 → EReal) : ∑ k, f k = ∑ k : Fin 4096, f ⟨k, by omega⟩ + ∑ k : Fin 4096, f ⟨4096 + k, by omega⟩ :=
  Fin.sum_univ_add (a := 4096) (b := 4096) f

/-! ## The value -/

/-- One product of the sum for row `r` and column `q`: a hidden entry times a weight of the first layer. -/
def term (x : FVec Ideal ⟨2, ![8704, 8192]⟩ .bf16) (w : FVec Ideal ⟨3, ![2, 8192, 4096]⟩ .f32) (r : Fin 8704) (q : Fin 4096) (k : Fin 8192) : EReal :=
  x (ix2 r k) * w (ix3 0 k q)

/-- An entry of the result: the residual and the gated sum. -/
def val (x : FVec Ideal ⟨2, ![8704, 8192]⟩ .bf16) (w : FVec Ideal ⟨3, ![2, 8192, 4096]⟩ .f32) (h : FVec Ideal ⟨2, ![8704, 4096]⟩ .f32)
    (g : FVec Ideal ⟨2, ![8, 24576]⟩ .f32) (r : Fin 8704) (q : Fin 4096) : EReal :=
  h (ix2 r q) + g (ix2 ⟨r.val / 4096, by omega⟩ ⟨20480 + q.val, by omega⟩) * ∑ k, term x w r q k

/-- The result. -/
def G (x : FVec Ideal ⟨2, ![8704, 8192]⟩ .bf16) (w : FVec Ideal ⟨3, ![2, 8192, 4096]⟩ .f32) (h : FVec Ideal ⟨2, ![8704, 4096]⟩ .f32)
    (g : FVec Ideal ⟨2, ![8, 24576]⟩ .f32) : FVec Ideal S8704x4096 .f32 := fun i =>
  val x w h g ⟨(i 0 : ℕ) % 8704, by omega⟩ ⟨(i 1 : ℕ) % 4096, by omega⟩

/-! ## The blocks -/

theorem idx0 : ∀ t : Fin cfg0.N, 4 ≤ t.val % 68 → win0_0.index t = ![4 * (t.val / 68) + t.val % 68 % 4, (t.val % 68 / 4 - 1) % 2] :=
  (by decide +kernel : ∀ t : Fin grid0.N, 4 ≤ t.val % 68 → win0_0.index t = ![4 * (t.val / 68) + t.val % 68 % 4, (t.val % 68 / 4 - 1) % 2])
theorem idx1 : ∀ t : Fin cfg0.N, t.val % 68 < 64 → win0_1.index t = ![0, t.val % 68 / 4 % 2 * 4 + t.val % 68 % 4, t.val % 68 / 4 / 2] :=
  (by decide +kernel : ∀ t : Fin grid0.N, t.val % 68 < 64 → win0_1.index t = ![0, t.val % 68 / 4 % 2 * 4 + t.val % 68 % 4, t.val % 68 / 4 / 2])
theorem idx2 : ∀ t : Fin cfg0.N, 4 ≤ t.val % 68 ∧ t.val % 68 / 4 % 2 = 0 →
    win0_2.index t = ![4 * (t.val / 68) + t.val % 68 % 4, (t.val % 68 / 4 - 1) / 2] ∧ win0_4.index t = ![4 * (t.val / 68) + t.val % 68 % 4, (t.val % 68 / 4 - 1) / 2]
      ∧ win0_3.index t = ![0, 40 + (t.val % 68 / 4 - 1) / 2] :=
  (by decide +kernel : ∀ t : Fin grid0.N, 4 ≤ t.val % 68 ∧ t.val % 68 / 4 % 2 = 0 →
    win0_2.index t = ![4 * (t.val / 68) + t.val % 68 % 4, (t.val % 68 / 4 - 1) / 2] ∧ win0_4.index t = ![4 * (t.val / 68) + t.val % 68 % 4, (t.val % 68 / 4 - 1) / 2]
      ∧ win0_3.index t = ![0, 40 + (t.val % 68 / 4 - 1) / 2])

variable (m : (ℓ : Loc nD τ sig) → Buf (Elt Ideal) ℓ) (c : Dev nD) (t : Fin cfg0.N)

def hid : FVec Ideal S8704x8192 .bf16 := m ((c.tc : Thread nD τ).loc main_arg0)
def wgt : FVec Ideal S2x8192x4096 .f32 := m ((c.tc : Thread nD τ).loc main_arg1)
def res : FVec Ideal S8704x4096 .f32 := m ((c.tc : Thread nD τ).loc main_arg2)
def mod : FVec Ideal S8x24576 .f32 := m ((c.tc : Thread nD τ).loc main_arg3)

theorem blk0 (ht : 4 ≤ t.val % 68) (y : Fin 1088) (k : Fin 4096) : (iblk (F := Ideal) m c 0 t : FVec Ideal S1088x4096 .bf16) (ix2 y k)
    = hid m c (ix2 ⟨1088 * (4 * (t.val / 68) + t.val % 68 % 4) + y, by have := N_lt t; omega⟩ ⟨4096 * ((t.val % 68 / 4 - 1) % 2) + k, by omega⟩) := by
  show _ = (V m c main_arg0 : FVec Ideal S8704x8192 .bf16) _
  blk_ext [iblk, idx0 t ht]
theorem blk1 (ht : t.val % 68 < 64) (i : Fin 1024) (j : Fin 512) : (iblk (F := Ideal) m c 1 t : FVec Ideal S1x1024x512 .f32) (ix3 0 i j)
    = wgt m c (ix3 0 ⟨1024 * (t.val % 68 / 4 % 2 * 4 + t.val % 68 % 4) + i.val, by omega⟩ ⟨512 * (t.val % 68 / 4 / 2) + j, by omega⟩) := by
  show _ = (V m c main_arg1 : FVec Ideal S2x8192x4096 .f32) _
  blk_ext [iblk, idx1 t ht]
theorem blk2 (ht : 4 ≤ t.val % 68 ∧ t.val % 68 / 4 % 2 = 0) (y : Fin 1088) (q : Fin 512) : (iblk (F := Ideal) m c 2 t : FVec Ideal S1088x512 .f32) (ix2 y q)
    = res m c (ix2 ⟨1088 * (4 * (t.val / 68) + t.val % 68 % 4) + y, by have := N_lt t; omega⟩ ⟨512 * ((t.val % 68 / 4 - 1) / 2) + q, by omega⟩) := by
  show _ = (V m c main_arg2 : FVec Ideal S8704x4096 .f32) _
  blk_ext [iblk, (idx2 t ht).1]
theorem blk3 (ht : 4 ≤ t.val % 68 ∧ t.val % 68 / 4 % 2 = 0) (y : Fin 8) (q : Fin 512) : (iblk (F := Ideal) m c 3 t : FVec Ideal S8x512 .f32) (ix2 y q)
    = mod m c (ix2 y ⟨20480 + (512 * ((t.val % 68 / 4 - 1) / 2) + q), by omega⟩) := by
  show _ = (V m c main_arg3 : FVec Ideal S8x24576 .f32) _
  blk_ext [iblk, (idx2 t ht).2.2]

/-- A slot holds a step's rows and columns of the weights. -/
theorem slab_at (p T : ℕ) (hp : p < 2) (hT : T < 16) (k : Fin 4096) (q : Fin 512) :
    slabOf (F := Ideal) (wB m c p) T (ix3 0 k q)
      = wgt m c (ix3 0 ⟨4096 * (T % 2) + k.val, by omega⟩ ⟨512 * (T / 2) + q, by omega⟩) := by
  show k0_pay1 (F := Ideal) (iblk m c 1 (at_ (68 * p + (4 * T + k.val / 1024)))) (ix3 (0 : Fin 1) (⟨k.val % 1024, Nat.mod_lt _ (by decide)⟩ : Fin 1024) q) = _
  have e : (at_ (68 * p + (4 * T + k.val / 1024))).val = 68 * p + (4 * T + k.val / 1024) := Nat.mod_eq_of_lt (by omega)
  refine (Mid.pay1_at _ _ _).trans ?_
  rw [blk1 m c _ (by omega)]
  congr 2 <;> ext <;> simp only [e] <;> omega

/-- The rows a block multiplies at a step. -/
theorem rows_at (p j : ℕ) (hp : p < 2) (hj : j < 16) (a : Fin 4) (r : Fin 2) (y : Fin 544) (k : Fin 4096) :
    xH (F := Ideal) m c p a r j (ix2 y k)
      = hid m c (ix2 ⟨1088 * (4 * p + a) + (544 * r + y), by omega⟩ ⟨4096 * (j % 2) + k, by omega⟩) := by
  have e : (at_ (68 * p + (4 * (j + 1) + a.val))).val = 68 * p + (4 * (j + 1) + a.val) := Nat.mod_eq_of_lt (by omega)
  match r with
  | 0 =>
    show topX (F := Ideal) (iblk m c 0 (at_ (68 * p + (4 * (j + 1) + a.val)))) (ix2 y k) = _
    rw [topX_at, blk0 m c _ (by omega)]
    congr 2 <;> ext <;> simp only [e] <;> (try simp only [Fin.val_zero]) <;> omega
  | 1 =>
    show botX (F := Ideal) (iblk m c 0 (at_ (68 * p + (4 * (j + 1) + a.val)))) (ix2 y k) = _
    rw [botX_at, blk0 m c _ (by omega)]
    congr 2 <;> ext <;> simp only [e] <;> (try simp only [Fin.val_one]) <;> omega

/-- A step's product: half of the sum. -/
theorem prod_at (p j : ℕ) (hp : p < 2) (hj : j < 16) (a : Fin 4) (r : Fin 2) (y : Fin 544) (q : Fin 512) (R : Fin 8704) (Q : Fin 4096)
    (hR : R.val = 1088 * (4 * p + a) + (544 * r + y)) (hQ : Q.val = 512 * (j / 2) + q) (o : ℕ) (ho : o = 4096 * (j % 2)) :
    prod (xH m c p a r j) (slabOf (wB m c p) j) y q = ∑ k : Fin 4096, term (hid m c) (wgt m c) R Q ⟨o + k, by omega⟩ := by
  subst ho
  have eR : R = ⟨1088 * (4 * p + a) + (544 * r + y), by clear hR; omega⟩ := Fin.ext hR
  have eQ : Q = ⟨512 * (j / 2) + q, by clear hQ; omega⟩ := Fin.ext hQ
  rw [eR, eQ]
  unfold prod term
  refine Finset.sum_congr rfl fun k _ => ?_
  rw [rows_at m c p j hp hj, slab_at m c p j hp hj]

/-- A block's whole sum, from its first step's and its last. -/
theorem whole_sum (p b : ℕ) (hp : p < 2) (hb : b < 8) (a : Fin 4) (r : Fin 2) (y : Fin 544) (q : Fin 512) (R : Fin 8704) (Q : Fin 4096)
    (hR : R.val = 1088 * (4 * p + a) + (544 * r + y)) (hQ : Q.val = 512 * b + q) :
    (aV (F := Ideal) m c p a r (2 * b) : FVec Ideal S544x512 .f32) (ix2 y q) + prod (xH m c p a r (2 * b + 1)) (slabOf (wB m c p) (2 * b + 1)) y q
      = ∑ k, term (hid m c) (wgt m c) R Q k := by
  refine (congrArg (· + _) (Mid.pay2_at (xH m c p a r (2 * b)) (slabOf (wB m c p) (2 * b)) y q)).trans ?_
  rw [prod_at m c p (2 * b) hp (by omega) a r y q R Q hR (by omega) 0 (by omega), prod_at m c p (2 * b + 1) hp (by omega) a r y q R Q hR (by omega) 4096 (by omega), sum_halves]
  simp only [Nat.zero_add]

/-- What a storing point leaves in the output's block. -/
theorem point (ht : 4 ≤ t.val % 68 ∧ t.val % 68 / 4 % 2 = 0) (y : Fin 1088) (q : Fin 512) :
    (outAt (F := Ideal) m c t : FVec Ideal S1088x512 .f32) (ix2 y q)
      = val (hid m c) (wgt m c) (res m c) (mod m c) ⟨1088 * (4 * (t.val / 68) + t.val % 68 % 4) + y, by have := N_lt t; omega⟩ ⟨512 * ((t.val % 68 / 4 - 1) / 2) + q, by omega⟩ := by
  have hl := N_lt t
  have e0 := (coords t).1
  have e2 := (coords t).2.2
  obtain ⟨b, hb⟩ : ∃ b, t.val % 68 / 4 = 2 * b + 2 := ⟨t.val % 68 / 4 / 2 - 1, by omega⟩
  have et : at_ (68 * (t.val / 68) + (4 * (2 * b + 1 + 1) + (grid0.coords t 2).val)) = t :=
    Fin.ext ((Nat.mod_eq_of_lt (by omega)).trans (by omega))
  have eo : outAt (F := Ideal) m c t = outU (grid0.coords t) (iblk m c 0 t) (iblk m c 2 t) (iblk m c 3 t) (aV m c (t.val / 68) (grid0.coords t 2) 0 (2 * b))
      (aV m c (t.val / 68) (grid0.coords t 2) 1 (2 * b)) (slabOf (wB m c (t.val / 68)) (2 * b + 1)) := by
    unfold outAt
    rw [show t.val % 68 / 4 - 2 = 2 * b by omega, show t.val % 68 / 4 - 1 = 2 * b + 1 by omega]
  have er : 1088 * (4 * (t.val / 68) + t.val % 68 % 4) + y.val = 1088 * (4 * (grid0.coords t 0).val + (grid0.coords t 2).val) + y.val := by rw [e0, e2]
  rw [eo,
    show outU (F := Ideal) _ _ _ _ _ _ _ = Mid.outU (F := Ideal) _ _ _ _ _ _ _ from rfl, Mid.outU_at _ _ _ _ _ _ _ y q ⟨1088 * (4 * (t.val / 68) + t.val % 68 % 4) + y, by omega⟩ er (∑ k, term (hid m c) (wgt m c) ⟨1088 * (4 * (t.val / 68) + t.val % 68 % 4) + y, by omega⟩ ⟨512 * ((t.val % 68 / 4 - 1) / 2) + q, by omega⟩ k)
      (fun r hr => ?_) (fun r hr => ?_)]
  · rw [blk2 m c t ht, blk3 m c t ht]
    rfl
  · have x0 : xH (F := Ideal) m c (t.val / 68) (grid0.coords t 2) 0 (2 * b + 1) = topX (iblk m c 0 t) := congrArg (fun z => topX (iblk (F := Ideal) m c 0 z)) et
    rw [← x0]
    exact whole_sum m c (t.val / 68) b (by omega) (by omega) (grid0.coords t 2) 0 r q _ _ (by simp only [e2, hr, Fin.val_zero]; omega) (by simp only; omega)
  · have x1 : xH (F := Ideal) m c (t.val / 68) (grid0.coords t 2) 1 (2 * b + 1) = botX (iblk m c 0 t) := congrArg (fun z => botX (iblk (F := Ideal) m c 0 z)) et
    rw [← x1]
    exact whole_sum m c (t.val / 68) b (by omega) (by omega) (grid0.coords t 2) 1 r q _ _ (by simp only [e2, hr, Fin.val_one] <;> omega) (by simp only; omega)

/-- The result array, after the run. -/
theorem final (i : S8704x4096.Idx) : (dats m 0 c).arrAt 4 (cfgs 0).N i = G (hid m c) (wgt m c) (res m c) (mod m c) i := by
  refine ((dats m 0 c).arrAt_apply_of_coversWhere 4 (G (hid m c) (wgt m c) (res m c) (mod m c)) (P := fun i : S8704x4096.Idx => True) (fun β => True) (by decide +kernel) (fun t hf y => ?_)
    (fun j => by blk_simp [Pipeline.Window.cell_apply]) i).trans (if_pos trivial)
  rw [flush4] at hf
  have ht : 4 ≤ t.val % 68 ∧ t.val % 68 / 4 % 2 = 0 := of_decide_eq_true hf
  blk_simp
  rw [after_4]
  have hl := N_lt t
  have l0 : (y 0 : ℕ) < 1088 := ((cfg0.win 4).xinj (cfg0.grid.coords t) y 0).isLt
  have l1 : (y 1 : ℕ) < 512 := ((cfg0.win 4).xinj (cfg0.grid.coords t) y 1).isLt
  have e : (cfg0.win 4).xinj (cfg0.grid.coords t) y = (ix2 ⟨y 0, l0⟩ ⟨y 1, l1⟩ : S1088x512.Idx) := by
    funext a; fin_cases a <;> rfl
  have g0 : (((win0_4.blk t).view.emb y : S8704x4096.Idx) 0 : ℕ) = 1088 * (4 * (t.val / 68) + t.val % 68 % 4) + y 0 := by blk_simp [(idx2 t ht).2.1]; ring
  have g1 : (((win0_4.blk t).view.emb y : S8704x4096.Idx) 1 : ℕ) = 512 * ((t.val % 68 / 4 - 1) / 2) + y 1 := by blk_simp [(idx2 t ht).2.1]; ring
  refine (congrArg (outAt m c t) e).trans ((point m c t ht _ _).trans ?_)
  unfold G
  congr 1 <;> ext <;> simp only [g0, g1] <;> omega

end Cert.Proof.Fold

end
-- ==== Proof.FoldRef.lean ====
/- The dense second product of the reference, entry by entry. -/
module

public import proofs.«01_k».proof.Proof.Gen.Reference7Ideal.Run
public import proofs.«01_k».proof.Proof.FoldValue
public import proofs.«01_k».proof.Proof.MidRef

@[expose] public section

set_option maxRecDepth 16384

noncomputable section

namespace Cert.Proof.FoldRef

open Cert.Reference7Ideal Cert.Reference7Ideal.Gen Cert.Reference7Ideal.Value Idealize.ShloMosaic Idealize.ShloMosaic.TcCoe Idealize.SL.Sem
open Cert.Reference7Ideal.Facts
open Cert.Proof.Fold (term val G)
open Cert.Proof.MidRef (both both_at)

section
variable {F : FTy → Type} [FloatOps F]

/-- The first layer's weights. -/
def rows (w : FVec F S2x8192x4096 .f32) : FVec F S8192x4096 .f32 :=
  shapeCast _ (extractStridedSlice S1x8192x4096 ![0, 0, 0] w slices_S2x8192x4096_S1x8192x4096_0_0_0) shapeCasts_S1x8192x4096_S8192x4096

/-- Every row times the weights. -/
def dots (x : FVec F S8704x8192 .bf16) (w : FVec F S8192x4096 .f32) : FVec F S8704x4096 .f32 :=
  Host.dotGeneral dot_S8704x8192_S8192x4096_S8704x4096_1_0_0_1_n_n none (extf .f32 x bitsLt_bf16_f32) w
end

theorem rows_at (w : FVec Ideal S2x8192x4096 .f32) (k : Fin 8192) (q : Fin 4096) :
    rows (F := Ideal) w (ix2 k q) = w (ix3 0 k q) := by
  pointwise [rows]

theorem dots_at (x : FVec Ideal S8704x8192 .bf16) (w : FVec Ideal S8192x4096 .f32) (r : Fin 8704) (q : Fin 4096) :
    dots (F := Ideal) x w (ix2 r q) = ∑ k : Fin 8192, x (ix2 r k) * w (ix2 k q) := by
  pointwise [dots]

/-- The reference's result is the kernel's. -/
theorem res (x : FVec Ideal S8704x8192 .bf16) (w : FVec Ideal S2x8192x4096 .f32) (h : FVec Ideal S8704x4096 .f32) (g : FVec Ideal S8x24576 .f32) :
    both (F := Ideal) h (dots x (rows w)) g = G x w h g := by
  funext i
  have l0 : (i 0 : ℕ) < 8704 := (i 0).isLt
  have l1 : (i 1 : ℕ) < 4096 := (i 1).isLt
  have e : i = (ix2 ⟨(i 0 : ℕ) % 8704, by omega⟩ ⟨(i 1 : ℕ) % 4096, by omega⟩ : S8704x4096.Idx) := by
    funext a
    match a with
    | 0 => exact Fin.ext (Nat.mod_eq_of_lt l0).symm
    | 1 => exact Fin.ext (Nat.mod_eq_of_lt l1).symm
  refine (congrArg (both (F := Ideal) h (dots x (rows w)) g) e).trans ?_
  rw [both_at]
  unfold G val term
  simp only [dots_at, rows_at]

end Cert.Proof.FoldRef

end
-- ==== Proof.Fold.lean ====
module

public import proofs.«01_k».proof.Defs
public import proofs.«01_k».proof.Proof.FoldRef
public import proofs.«01_k».proof.Proof.Gen.Kernel7
public import Idealize.ShloMosaic.Lib.Quiescent

@[expose] public section

set_option maxRecDepth 16384

noncomputable section

/-! # The claims about the dense second product -/

namespace Cert.Proof.FoldHidden

open Idealize.ShloMosaic Idealize.ShloMosaic.TcCoe Idealize.SL.Sem

attribute [local instance] Cert.Kernel7.Gen.facts Cert.Kernel7Ideal.Gen.facts Cert.Reference7Ideal.Gen.facts

/-- The two programs' bodies are one text. -/
theorem body_eq : Cert.Kernel7.defs₀ (F := Bits) = Cert.Kernel7Ideal.defs₀ (F := Bits) := by
  unfold Cert.Kernel7.defs₀ Cert.Kernel7Ideal.defs₀
  refine congrArg Defs.onTc ?_
  funext l x
  match l, x with
  | 0, (t, s) => rfl

theorem defs_eq : Cert.Kernel7.defs (F := Bits) = Cert.Kernel7Ideal.defs (F := Bits) := by
  unfold Cert.Kernel7.defs Cert.Kernel7Ideal.defs
  rw [body_eq]
  rfl

theorem frame : Cert.quiescent_Kernel7 := fun m ρ _ => by
  rw [defs_eq]
  exact (θ_run Cert.Kernel7Ideal.defs _ _).mono (fun _ h => h) (Fold.frame (F := Bits) m ρ)

theorem frame_ideal : Cert.quiescent_Kernel7Ideal := fun m ρ _ => Fold.frame (F := Ideal) m ρ

theorem frame_ref : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)

theorem algebraic : Cert.algebraic_Kernel7Ideal_Reference7Ideal := by
  intro m ρ m' ρ' _ hagree
  refine ⟨fun c => Fold.G (Fold.hid m c) (Fold.wgt m c) (Fold.res m c) (Fold.mod m c), ?_, ?_⟩
  · exact (θ_run Cert.Kernel7Ideal.defs _ _).mono
      (fun _ h c => ⟨((h.1 c).1 4).trans (funext (Fold.final m c)), Fold.kept m h.1 c⟩)
      (Fold.run_main_quiescent (F := Ideal) m ρ)
  · refine (θ_run Cert.Reference7Ideal.defs _ _).mono (fun _ h c => ⟨(h c).1.trans ?_, (h c).2⟩)
      (Cert.Reference7Ideal.Value.run (F := Ideal) m' ρ')
    obtain ⟨e0, e1, e2, e3⟩ := hagree c
    rw [e0, e1, e2, e3]
    exact FoldRef.res (Fold.hid m c) (Fold.wgt m c) (Fold.res m c) (Fold.mod m c)

end Cert.Proof.FoldHidden

end
-- ==== Proof.LastRun.lean ====
/- The body of the last layer's gated up-projection's kernel, run at any contents of its buffers: what it leaves in the two weight
   buffers it fills over the grid and in the output's block. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.VecWindow
public import Idealize.ShloMosaic.Lib.Tactic

@[expose] public section

set_option maxRecDepth 16384

noncomputable section

namespace Cert.Proof.Last

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A grid point from its two coordinates. -/
def pt (a : Fin 33) (b : Fin 8) : grid0.Coords := fun | 0 => a | 1 => b

theorem pt_eq (i : grid0.Coords) : i = pt (i 0) (i 1) := by funext a; match a with | 0 => rfl | 1 => rfl

theorem off1_eq (i : grid0.Coords) : k0_off1 i = ![(i 0).val % 2, 512 * (i 1).val, 0] := by
  have h : ∀ (a : Fin 33) (b : Fin 8), k0_off1 (pt a b) = ![a.val % 2, 512 * b.val, 0] := by decide +kernel
  have e := h (i 0) (i 1)
  rwa [← pt_eq i] at e
theorem off2_eq (i : grid0.Coords) : k0_off2 i = ![(i 0).val % 2, 512 * (i 1).val, 0] := off1_eq i
theorem off3_eq (i : grid0.Coords) : k0_off3 i = ![((i 0).val + 1) % 2, 0, 0] := by
  have h : ∀ (a : Fin 33) (b : Fin 8), k0_off3 (pt a b) = ![(a.val + 1) % 2, 0, 0] := by decide +kernel
  have e := h (i 0) (i 1)
  rwa [← pt_eq i] at e

instance (i : grid0.Coords) : ClosedOff (k0_off1 i) := ⟨_, off1_eq i⟩
instance (i : grid0.Coords) : ClosedOff (k0_off2 i) := ⟨_, off2_eq i⟩
instance (i : grid0.Coords) : ClosedOff (k0_off3 i) := ⟨_, off3_eq i⟩

/-- The weight buffer with one block of rows put where the point stores it. -/
def fillW (i : grid0.Coords) (d : Vec F S2x4096x512 .bf16) (w : FVec F S1x512x512 .bf16) : Vec F S2x4096x512 .bf16 :=
  VecWindow.put (s := S2x4096x512) d (k0_off1 i) S1x512x512.size w

/-- The slot of the weight buffer that the point multiplies by. -/
def slab (i : grid0.Coords) (h : k0_cond3 i = 1#1) (d : Vec F S2x4096x512 .bf16) : Vec F S1x4096x512 .bf16 :=
  VecWindow.window (s := S2x4096x512) d (k0_off3 i) S1x4096x512.size (k0_off3_inb i h)

/-- The first 512 rows of a block. -/
def topX (x : Vec F S1024x4096 .bf16) : Vec F S512x4096 .bf16 :=
  VecWindow.window (s := S1024x4096) x ![0, 0] S512x4096.size inb_S1024x4096_S512x4096_0_0
/-- The last 512 rows of a block. -/
def botX (x : Vec F S1024x4096 .bf16) : Vec F S512x4096 .bf16 :=
  VecWindow.window (s := S1024x4096) x ![512, 0] S512x4096.size inb_S1024x4096_S512x4096_512_0
/-- The first 512 rows of the gates' block. -/
def topG (x : Vec F S1024x128 .f32) : Vec F S512x128 .f32 :=
  VecWindow.window (s := S1024x128) x ![0, 0] S512x128.size inb_S1024x128_S512x128_0_0
/-- The last 512 rows of the gates' block. -/
def botG (x : Vec F S1024x128 .f32) : Vec F S512x128 .f32 :=
  VecWindow.window (s := S1024x128) x ![512, 0] S512x128.size inb_S1024x128_S512x128_512_0

/-- The column block the point finishes, as the kernel counts it. -/
def stepOf (i : grid0.Coords) : BitVec 32 := Scalar.subi (BitVec.ofNat 32 (i 0).val) 1#32

/-- What the point leaves in the output's block, from its block of rows, the two weight slabs and the gates. -/
def outU (i : grid0.Coords) (x0 : Vec F S1024x4096 .bf16) (g u : Vec F S1x4096x512 .bf16) (x3 : Vec F S1024x128 .f32) : Vec F S1024x512 .bf16 :=
  VecWindow.put (s := S1024x512) (VecWindow.put (s := S1024x512) (fun _ => FloatOps.ofBits .bf16 0) ![0, 0] S512x512.size
      (k0_pay5 (stepOf i) (k0_pay4 (topX x0) g u) (topG x3) (iota .tc S512x128 32 [1] iota_S512x128_d1_w32) 4#32 (Scalar.divsi (stepOf i) 4#32)))
    ![512, 0] S512x512.size (k0_pay3 (stepOf i) (k0_pay6 (botX x0) g u) (botG x3))

/-- The two halves cover the block, so what it held before is gone. -/
theorem halves (x x' : Vec F S1024x512 .bf16) (w w' : FVec F S512x512 .bf16) :
    VecWindow.put (s := S1024x512) (VecWindow.put (s := S1024x512) x ![0, 0] S512x512.size w) ![512, 0] S512x512.size w'
      = VecWindow.put (s := S1024x512) (VecWindow.put (s := S1024x512) x' ![0, 0] S512x512.size w) ![512, 0] S512x512.size w' := by
  funext y
  unfold VecWindow.put
  by_cases h : ∀ a, (![512, 0] : Fin 2 → ℕ) a ≤ (y a).val ∧ (y a).val < (![512, 0] : Fin 2 → ℕ) a + S512x512.size a
  · rw [dif_pos h, dif_pos h]
  · rw [dif_neg h, dif_neg h]
    have h0 : ∀ a, (![0, 0] : Fin 2 → ℕ) a ≤ (y a).val ∧ (y a).val < (![0, 0] : Fin 2 → ℕ) a + S512x512.size a := by
      have e0 : (y 0).val < 1024 := (y 0).isLt
      have e1 : (y 1).val < 512 := (y 1).isLt
      have hy : (y 0).val < 512 := by
        by_contra hc
        refine h fun a => ?_
        match a with
        | 0 => exact ⟨not_lt.mp hc, e0⟩
        | 1 => exact ⟨Nat.zero_le _, by show (y 1).val < 0 + 512; omega⟩
      intro a
      match a with
      | 0 => exact ⟨Nat.zero_le _, by show (y 0).val < 0 + 512; omega⟩
      | 1 => exact ⟨Nat.zero_le _, by show (y 1).val < 0 + 512; omega⟩
    rw [dif_pos h0, dif_pos h0]

set_option maxHeartbeats 1600000 in
theorem runB (c : Dev nD) (i : grid0.Coords) (arg2 : Memref sig .tc .vmem S1024x4096 .bf16) (harg2 : arg2.IsWhole)
    (arg3 : Memref sig .tc .vmem S1x1x512x512 .f32) (harg3 : arg3.IsWhole) (arg4 : Memref sig .tc .vmem S1x1x512x512 .f32) (harg4 : arg4.IsWhole)
    (arg5 : Memref sig .tc .vmem S1024x128 .f32) (harg5 : arg5.IsWhole) (arg6 : Memref sig .tc .vmem S1024x512 .bf16) (harg6 : arg6.IsWhole)
    (arg7 : Memref sig .tc .vmem S2x4096x512 .bf16) (harg7 : arg7.IsWhole) (arg8 : Memref sig .tc .vmem S2x4096x512 .bf16) (harg8 : arg8.IsWhole)
    (x0 : Vec F S1024x4096 .bf16) (x1 x2 : Vec F S1x1x512x512 .f32) (x3 : Vec F S1024x128 .f32) (d7 d8 : Vec F S2x4096x512 .bf16)
    (h1 : k0_cond1 i = 1#1) (h2 : k0_cond2 i = 1#1) (h3 : k0_cond3 i = 1#1)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare d7 ∗ owns (c : Thread nD τ) arg8 fullShare d8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outU i x0 (slab i h3 (fillW i d7 (k0_pay1 x1))) (slab i h3 (fillW i d8 (k0_pay2 x2))) x3)
            ∗ owns (c : Thread nD τ) arg7 fullShare (fillW i d7 (k0_pay1 x1)) ∗ owns (c : Thread nD τ) arg8 fullShare (fillW i d8 (k0_pay2 x2))) -∗ K ⟨⟩))
      ⊢ wp frame (wpE (defs₀ (F := F)) Variants.none c none) E (cc0_swiglu_up i arg2 harg2 arg3 harg3 arg4 harg4 arg5 harg5 arg6 harg6 arg7 harg7 arg8 harg8) K := by
  simp only [cc0_swiglu_up_eq_skeleton]; unfold cc0_swiglu_up_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, Hk⟩
  obtain rfl := harg2.eq_unread hf0; obtain rfl := harg3.eq_unread hf1; obtain rfl := harg4.eq_unread hf2; obtain rfl := harg5.eq_unread hf3
  obtain rfl := harg7.eq_unread hs0; obtain rfl := harg8.eq_unread hs1
  sl_exec
  sl_step
  have e1 : runB.sl.v9 c arg3 harg3 x1 = x1 := by
    delta runB.sl.v9; exact (View.readAt_full (s := S1x1x512x512) _ _ _).trans hf1
  have e2 : runB.sl.v9_1 c arg4 harg4 x2 = x2 := by
    delta runB.sl.v9_1; exact (View.readAt_full (s := S1x1x512x512) _ _ _).trans hf2
  have e7 : arg7.view.read (Elt F) (arg7.view.writes (Elt F) (harg7.unread d7) (runB.sl.HS0_1 c i arg3 harg3 x1 h1)) = fillW i d7 (k0_pay1 x1) := by
    delta runB.sl.HS0_1; rw [e1, View.read_writes_cons_put _ _ _ _ _ rfl, View.writes_nil, hs0]; rfl
  have e8 : arg8.view.read (Elt F) (arg8.view.writes (Elt F) (harg8.unread d8) (runB.sl.HS1_1 c i arg4 harg4 x2 h2)) = fillW i d8 (k0_pay2 x2) := by
    delta runB.sl.HS1_1; rw [e2, View.read_writes_cons_put _ _ _ _ _ rfl, View.writes_nil, hs1]; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_cons_put _ _ _ _ _ rfl, View.read_writes_cons_put _ _ _ _ _ rfl, halves _ (fun _ => FloatOps.ofBits .bf16 0)]
    unfold outU
    delta runB.sl.r runB.sl.r_1 runB.sl.r_2 runB.sl.r_3 runB.sl.v9_2 runB.sl.v43 runB.sl.v44
    rw [View.readAt_unit arg2.view _ _ rfl inb_S1024x4096_S512x4096_0_0, View.readAt_unit arg2.view _ _ rfl inb_S1024x4096_S512x4096_512_0,
      View.readAt_unit arg5.view _ _ rfl inb_S1024x128_S512x128_0_0, View.readAt_unit arg5.view _ _ rfl inb_S1024x128_S512x128_512_0,
      View.readAt_unit arg7.view _ _ rfl (k0_off3_inb i h3), View.readAt_unit arg8.view _ _ rfl (k0_off3_inb i h3), hf0, hf3, e7, e8]
    rfl
  isplitl [HS0]
  · iexists _; isplitr
    swap; · iexact HS0
    ipureintro
    exact e7
  iexists _; isplitr
  swap; · iexact HS1
  ipureintro
  exact e8

set_option maxHeartbeats 1600000 in
theorem runA (c : Dev nD) (i : grid0.Coords) (arg2 : Memref sig .tc .vmem S1024x4096 .bf16) (harg2 : arg2.IsWhole)
    (arg3 : Memref sig .tc .vmem S1x1x512x512 .f32) (harg3 : arg3.IsWhole) (arg4 : Memref sig .tc .vmem S1x1x512x512 .f32) (harg4 : arg4.IsWhole)
    (arg5 : Memref sig .tc .vmem S1024x128 .f32) (harg5 : arg5.IsWhole) (arg6 : Memref sig .tc .vmem S1024x512 .bf16) (harg6 : arg6.IsWhole)
    (arg7 : Memref sig .tc .vmem S2x4096x512 .bf16) (harg7 : arg7.IsWhole) (arg8 : Memref sig .tc .vmem S2x4096x512 .bf16) (harg8 : arg8.IsWhole)
    (x0 : Vec F S1024x4096 .bf16) (x1 x2 : Vec F S1x1x512x512 .f32) (x3 : Vec F S1024x128 .f32) (d6 : Vec F S1024x512 .bf16) (d7 d8 : Vec F S2x4096x512 .bf16)
    (h1 : k0_cond1 i = 1#1) (h2 : k0_cond2 i = 1#1) (h3 : ¬ k0_cond3 i = 1#1)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d6
        ∗ owns (c : Thread nD τ) arg7 fullShare d7 ∗ owns (c : Thread nD τ) arg8 fullShare d8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare d6
            ∗ owns (c : Thread nD τ) arg7 fullShare (fillW i d7 (k0_pay1 x1)) ∗ owns (c : Thread nD τ) arg8 fullShare (fillW i d8 (k0_pay2 x2))) -∗ K ⟨⟩))
      ⊢ wp frame (wpE (defs₀ (F := F)) Variants.none c none) E (cc0_swiglu_up i arg2 harg2 arg3 harg3 arg4 harg4 arg5 harg5 arg6 harg6 arg7 harg7 arg8 harg8) K := by
  simp only [cc0_swiglu_up_eq_skeleton]; unfold cc0_swiglu_up_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hs0; obtain rfl := harg8.eq_unread hs1
  sl_exec
  sl_step
  have e1 : runA.sl.v9 c arg3 harg3 x1 = x1 := by
    delta runA.sl.v9; exact (View.readAt_full (s := S1x1x512x512) _ _ _).trans hf1
  have e2 : runA.sl.v9_1 c arg4 harg4 x2 = x2 := by
    delta runA.sl.v9_1; exact (View.readAt_full (s := S1x1x512x512) _ _ _).trans hf2
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    rw [View.read_writes_cons_put _ _ _ _ _ rfl, View.writes_nil, hs0, e1]; rfl
  iexists _; isplitr
  swap; · iexact HS1
  ipureintro
  rw [View.read_writes_cons_put _ _ _ _ _ rfl, View.writes_nil, hs1, e2]; rfl

set_option maxHeartbeats 1600000 in
theorem runC (c : Dev nD) (i : grid0.Coords) (arg2 : Memref sig .tc .vmem S1024x4096 .bf16) (harg2 : arg2.IsWhole)
    (arg3 : Memref sig .tc .vmem S1x1x512x512 .f32) (harg3 : arg3.IsWhole) (arg4 : Memref sig .tc .vmem S1x1x512x512 .f32) (harg4 : arg4.IsWhole)
    (arg5 : Memref sig .tc .vmem S1024x128 .f32) (harg5 : arg5.IsWhole) (arg6 : Memref sig .tc .vmem S1024x512 .bf16) (harg6 : arg6.IsWhole)
    (arg7 : Memref sig .tc .vmem S2x4096x512 .bf16) (harg7 : arg7.IsWhole) (arg8 : Memref sig .tc .vmem S2x4096x512 .bf16) (harg8 : arg8.IsWhole)
    (x0 : Vec F S1024x4096 .bf16) (x1 x2 : Vec F S1x1x512x512 .f32) (x3 : Vec F S1024x128 .f32) (d7 d8 : Vec F S2x4096x512 .bf16)
    (h1 : ¬ k0_cond1 i = 1#1) (h2 : ¬ k0_cond2 i = 1#1) (h3 : k0_cond3 i = 1#1)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare d7 ∗ owns (c : Thread nD τ) arg8 fullShare d8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outU i x0 (slab i h3 d7) (slab i h3 d8) x3)
            ∗ owns (c : Thread nD τ) arg7 fullShare d7 ∗ owns (c : Thread nD τ) arg8 fullShare d8) -∗ K ⟨⟩))
      ⊢ wp frame (wpE (defs₀ (F := F)) Variants.none c none) E (cc0_swiglu_up i arg2 harg2 arg3 harg3 arg4 harg4 arg5 harg5 arg6 harg6 arg7 harg7 arg8 harg8) K := by
  simp only [cc0_swiglu_up_eq_skeleton]; unfold cc0_swiglu_up_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, Hk⟩
  obtain rfl := harg2.eq_unread hf0; obtain rfl := harg3.eq_unread hf1; obtain rfl := harg4.eq_unread hf2; obtain rfl := harg5.eq_unread hf3
  obtain rfl := harg7.eq_unread hs0; obtain rfl := harg8.eq_unread hs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_cons_put _ _ _ _ _ rfl, View.read_writes_cons_put _ _ _ _ _ rfl, halves _ (fun _ => FloatOps.ofBits .bf16 0)]
    unfold outU
    delta runC.sl.r runC.sl.r_1 runC.sl.r_2 runC.sl.r_3 runC.sl.v9 runC.sl.v43 runC.sl.v44
    rw [View.readAt_unit arg2.view _ _ rfl inb_S1024x4096_S512x4096_0_0, View.readAt_unit arg2.view _ _ rfl inb_S1024x4096_S512x4096_512_0,
      View.readAt_unit arg5.view _ _ rfl inb_S1024x128_S512x128_0_0, View.readAt_unit arg5.view _ _ rfl inb_S1024x128_S512x128_512_0,
      View.readAt_unit arg7.view _ _ rfl (k0_off3_inb i h3), View.readAt_unit arg8.view _ _ rfl (k0_off3_inb i h3), hf0, hf3, hs0, hs1]
    rfl
  isplitl [HS0]
  · iexists _; isplitr
    swap; · iexact HS0
    ipureintro
    exact harg7.read_unread _
  iexists _; isplitr
  swap; · iexact HS1
  ipureintro
  exact harg8.read_unread _

end Cert.Proof.Last

end
-- ==== Proof.LastFill.lean ====
/- What the two weight buffers of the last layer's gated up-projection hold along the grid. -/
module

public import proofs.«01_k».proof.Proof.LastRun
public import proofs.«01_k».proof.Proof.Slots

@[expose] public section

set_option maxRecDepth 16384

noncomputable section

namespace Cert.Proof.Last

open Cert.Kernel4Ideal Cert.Kernel4Ideal.Gen
open Idealize.ShloMosaic Idealize.ShloMosaic.TcCoe
open Idealize.SL Idealize.SL.Sem

variable {F : FTy → Type} [FloatOps F]

/-- The slot filled over step `T`. -/
abbrev slabOf (B : ℕ → FVec F S1x512x512 .bf16) (T : ℕ) : Vec F S1x4096x512 .bf16 := Slots.slabOf 8 B T

/-- Before point `n` each slot holds, of each of the 32 steps, the blocks stored and not yet stored over. -/
abbrev Inv (B : ℕ → FVec F S1x512x512 .bf16) (n : ℕ) (d : Vec F S2x4096x512 .bf16) : Prop := Slots.Inv 8 32 B n d

variable (B : ℕ → FVec F S1x512x512 .bf16) (d : Vec F S2x4096x512 .bf16)

theorem inv_zero : Inv B 0 d := Slots.inv_zero 8 32 B d

theorem inv_put (i : grid0.Coords) (n : ℕ) (h0 : (i 0).val = n / 8) (h1 : (i 1).val = n % 8) (hd : Inv B n d) :
    Inv B (n + 1) (fillW i d (B n)) :=
  Slots.inv_put 8 32 (.inl ⟨rfl, rfl⟩) B d n (k0_off1 i) (by rw [off1_eq, h0, h1]) hd

theorem inv_skip (n : ℕ) (hn : 256 ≤ n) (hd : Inv B n d) : Inv B (n + 1) d := Slots.inv_skip 8 32 (.inl ⟨rfl, rfl⟩) B d n (by omega) hd

theorem slab_inv (i : grid0.Coords) (h : k0_cond3 i = 1#1) (n T : ℕ) (hT : T < 32) (h0 : (i 0).val = T + 1) (ha : 8 * (T + 1) ≤ n) (hb : n ≤ 8 * (T + 2))
    (hd : Inv B n d) : slab i h d = slabOf B T :=
  Slots.slab_inv 8 32 (.inl ⟨rfl, rfl⟩) B d (k0_off3 i) (k0_off3_inb i h) T n
    (by rw [off3_eq, h0, show (T + 1 + 1) % 2 = T % 2 by omega]) hT ha hb hd

end Cert.Proof.Last

end
-- ==== Proof.LastFrame.lean ====
/- The run of the last layer's gated up-projection over its grid, for any values: what the pipeline's buffers hold after each point, and
   that the launch ends with the arguments unchanged. -/
module

public import proofs.«01_k».proof.Proof.LastFill

@[expose] public section

set_option maxRecDepth 16384

noncomputable section

namespace Cert.Proof.Last

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem coords (t : Fin cfg0.N) : (grid0.coords t 0).val = t.val / 8 ∧ (grid0.coords t 1).val = t.val % 8 :=
  (by decide +kernel : ∀ t : Fin grid0.N, (grid0.coords t 0).val = t.val / 8 ∧ (grid0.coords t 1).val = t.val % 8) t
theorem cond1 (t : Fin cfg0.N) : k0_cond1 (grid0.coords t) = 1#1 ↔ t.val < 256 :=
  (by decide +kernel : ∀ t : Fin grid0.N, k0_cond1 (grid0.coords t) = 1#1 ↔ t.val < 256) t
theorem cond2 (t : Fin cfg0.N) : k0_cond2 (grid0.coords t) = 1#1 ↔ t.val < 256 :=
  (by decide +kernel : ∀ t : Fin grid0.N, k0_cond2 (grid0.coords t) = 1#1 ↔ t.val < 256) t
theorem cond3 (t : Fin cfg0.N) : k0_cond3 (grid0.coords t) = 1#1 ↔ 8 ≤ t.val :=
  (by decide +kernel : ∀ t : Fin grid0.N, k0_cond3 (grid0.coords t) = 1#1 ↔ 8 ≤ t.val) t
/-- The output's block is written back at every point that stores it, and at no other. -/
theorem flush4 : ∀ t : Fin cfg0.N, (cfg0.win 4).flush t = decide (8 ≤ t.val) :=
  (by decide +kernel : ∀ t : Fin grid0.N, win0_4.flush t = decide (8 ≤ t.val))
theorem idle4 (t : Fin cfg0.N) : cfg0.idle 4 (cfg0.grid.coords t) = decide (t.val < 8) := by
  show (!decide (k0_cond3 (grid0.coords t) = 1#1)) = _
  rw [decide_eq_decide.mpr (cond3 t), ← decide_not, decide_eq_decide.mpr not_le]

/-! ## The memory at the region -/

abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => rfl

/-- A window's block at a point, as the array holds it when the region starts. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 (t : Fin cfg0.N) : Memref sig .tc .vmem S1024x4096 .bf16 := win0_0.stage (cfg0.slots t 0)
abbrev ms1 (t : Fin cfg0.N) : Memref sig .tc .vmem S1x1x512x512 .f32 := win0_1.stage (cfg0.slots t 1)
abbrev ms2 (t : Fin cfg0.N) : Memref sig .tc .vmem S1x1x512x512 .f32 := win0_2.stage (cfg0.slots t 2)
abbrev ms3 (t : Fin cfg0.N) : Memref sig .tc .vmem S1024x128 .f32 := win0_3.stage (cfg0.slots t 3)
abbrev ms4 (t : Fin cfg0.N) : Memref sig .tc .vmem S1024x512 .bf16 := win0_4.stage (cfg0.slots t 4)
abbrev sc7 : Memref sig .tc .vmem S2x4096x512 .bf16 := Memref.whole cc0_scratch0
abbrev sc8 : Memref sig .tc .vmem S2x4096x512 .bf16 := Memref.whole cc0_scratch1

theorem PhiA0_eq (c : Dev nD) :
    (Pipeline.ΦA spec0 c : sProp 𝕄)
      = iprop(iprop((∃ d, owns (c : Thread nD τ) sc7 fullShare d) ∗ (∃ d, owns (c : Thread nD τ) sc8 fullShare d)) ∗ (∃ r, prngReg c r)) := by
  unfold Pipeline.ΦA; rw [scopedRest0_eq]; simp only [sc7, sc8, owns_whole]; try rfl

/-! ## The proof data -/

/-- The grid point with number `n`. -/
def at_ (n : ℕ) : Fin cfg0.N := ⟨n % 264, Nat.mod_lt _ (by decide)⟩

theorem at_val (t : Fin cfg0.N) : at_ t.val = t := Fin.ext (Nat.mod_eq_of_lt t.isLt)

/-- The blocks of the gate's weights, point by point, rounded. -/
def gB (c : Dev nD) (n : ℕ) : FVec F S1x512x512 .bf16 := k0_pay1 (iblk m c 1 (at_ n))
/-- The blocks of the up-projection's weights. -/
def uB (c : Dev nD) (n : ℕ) : FVec F S1x512x512 .bf16 := k0_pay2 (iblk m c 2 (at_ n))

/-- What the output's block holds after a point that stores it. -/
def outAt (c : Dev nD) (t : Fin cfg0.N) : Vec F S1024x512 .bf16 :=
  outU (grid0.coords t) (iblk m c 0 t) (slabOf (gB m c) (t.val / 8 - 1)) (slabOf (uB m c) (t.val / 8 - 1)) (iblk m c 3 t)

/-- The invariant before point `n`: the two weight buffers hold the blocks stored so far. -/
def PhiAt (c : Dev nD) (n : ℕ) : sProp 𝕄 :=
  iprop((∃ d7 d8, ⌜Inv (gB m c) n d7 ∧ Inv (uB m c) n d8⌝ ∗ owns (c : Thread nD τ) sc7 fullShare d7 ∗ owns (c : Thread nD τ) sc8 fullShare d8) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiAt m c t.val
  q _ := fullShare
  owed _ := 0

theorem A_eq (c : Dev nD) (w : Fin cfg0.W) : (dats m 0 c).A w = V m c (Pipeline.arrRef spec0 w) := by dsimp only [dats]
theorem after_4 (c : Dev nD) (t : Fin cfg0.N) : (dats m 0 c).after 4 t = outAt m c t := by dsimp only [dats]
theorem bef_0 (c : Dev nD) (t : Fin cfg0.N) (d) : (dats m 0 c).before 0 t d = iblk m c 0 t :=
  (dats m 0 c).before_in_eq_fetched 0 rfl (fun _ => rfl) (fun _ _ _ => rfl) (fun _ => rfl) t d
theorem bef_1 (c : Dev nD) (t : Fin cfg0.N) (d) : (dats m 0 c).before 1 t d = iblk m c 1 t :=
  (dats m 0 c).before_in_eq_fetched 1 rfl (fun _ => rfl) (fun _ _ _ => rfl) (fun _ => rfl) t d
theorem bef_2 (c : Dev nD) (t : Fin cfg0.N) (d) : (dats m 0 c).before 2 t d = iblk m c 2 t :=
  (dats m 0 c).before_in_eq_fetched 2 rfl (fun _ => rfl) (fun _ _ _ => rfl) (fun _ => rfl) t d
theorem bef_3 (c : Dev nD) (t : Fin cfg0.N) (d) : (dats m 0 c).before 3 t d = iblk m c 3 t :=
  (dats m 0 c).before_in_eq_fetched 3 rfl (fun _ => rfl) (fun _ _ _ => rfl) (fun _ => rfl) t d

/-! ## The body at a point -/

/-- What the body is called with at point `t`. -/
def bodyPre (c : Dev nD) (t : Fin cfg0.N) : sProp 𝕄 :=
  iprop(PhiAt m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns, the output's block at `P`. -/
def bodyPost (c : Dev nD) (t : Fin cfg0.N) (P : sProp 𝕄) : sProp 𝕄 :=
  iprop(PhiAt m c (t.val + 1) ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t) ∗ P)

theorem gB_at (c : Dev nD) (t : Fin cfg0.N) : gB m c t.val = k0_pay1 (iblk m c 1 t) := by unfold gB; rw [at_val]
theorem uB_at (c : Dev nD) (t : Fin cfg0.N) : uB m c t.val = k0_pay2 (iblk m c 2 t) := by unfold uB; rw [at_val]

theorem fillG (c : Dev nD) (t : Fin cfg0.N) (d) (h : Inv (gB m c) t.val d) : Inv (gB m c) (t.val + 1) (fillW (grid0.coords t) d (k0_pay1 (iblk m c 1 t))) := by
  rw [← gB_at]; exact inv_put _ d _ _ (coords t).1 (coords t).2 h
theorem fillU (c : Dev nD) (t : Fin cfg0.N) (d) (h : Inv (uB m c) t.val d) : Inv (uB m c) (t.val + 1) (fillW (grid0.coords t) d (k0_pay2 (iblk m c 2 t))) := by
  rw [← uB_at]; exact inv_put _ d _ _ (coords t).1 (coords t).2 h

theorem N_lt (t : Fin cfg0.N) : t.val < 264 := t.isLt

set_option maxHeartbeats 1200000 in
/-- The body at a point of the first step, which only fills the weight buffers. -/
theorem sound_first (c : Dev nD) (t : Fin cfg0.N) (ht : t.val < 8) :
    bodyPre m c t ⊢ wp frame (wpE (defs₀ (F := F)) Variants.none c none) Set.univ (bodyAt0 t)
      (fun _ => bodyPost m c t iprop(∃ d, owns (c : Thread nD τ) (ms4 t) fullShare ((dats m 0 c).before 4 t d))) := by
  unfold bodyPre bodyPost bodyAt0 PhiAt
  simp only [bef_0, bef_1, bef_2, bef_3]
  iintro ⟨⟨⟨%d7, %d8, %hd, S7, S8⟩, Hg⟩, Ho, ⟨%d0, H0⟩, ⟨%d1, H1⟩, ⟨%d2, H2⟩, ⟨%d3, H3⟩, ⟨%d4, H4⟩⟩
  iapply (runA c (grid0.coords t) _ _ _ _ _ _ _ _ _ _ _ _ _ _ (iblk m c 0 t) (iblk m c 1 t) (iblk m c 2 t) (iblk m c 3 t) _ d7 d8
    ((cond1 t).2 (by omega)) ((cond2 t).2 (by omega)) (fun h => absurd ((cond3 t).1 h) (by omega)) Set.univ _)
  isplitl [H0]; · iexact H0
  isplitl [H1]; · iexact H1
  isplitl [H2]; · iexact H2
  isplitl [H3]; · iexact H3
  isplitl [H4]; · iexact H4
  isplitl [S7]; · iexact S7
  isplitl [S8]; · iexact S8
  iintro ⟨H0, H1, H2, H3, H4, S7, S8⟩
  isplitl [S7 S8 Hg]
  · isplitl [S7 S8]
    · iexists _, _
      isplitr
      · ipureintro; exact ⟨fillG m c t d7 hd.1, fillU m c t d8 hd.2⟩
      isplitl [S7]; · iexact S7
      iexact S8
    iexact Hg
  isplitl [Ho]; · iexact Ho
  isplitl [H0]; · iexact H0
  isplitl [H1]; · iexact H1
  isplitl [H2]; · iexact H2
  isplitl [H3]; · iexact H3
  iexists _; iexact H4

theorem slabs (c : Dev nD) (t : Fin cfg0.N) (ht : 8 ≤ t.val) (d) (B : ℕ → FVec F S1x512x512 .bf16) (n : ℕ) (hn : t.val ≤ n) (hn' : n ≤ t.val + 1) (h : Inv B n d) :
    slab (grid0.coords t) ((cond3 t).2 ht) d = slabOf B (t.val / 8 - 1) := by
  have := N_lt t
  exact slab_inv B d _ _ n _ (by omega) (by rw [(coords t).1]; omega) (by omega) (by omega) h

set_option maxHeartbeats 1200000 in
/-- The body at a point of a middle step, which fills one slot and multiplies by the other. -/
theorem sound_mid (c : Dev nD) (t : Fin cfg0.N) (ht : 8 ≤ t.val) (ht' : t.val < 256) :
    bodyPre m c t ⊢ wp frame (wpE (defs₀ (F := F)) Variants.none c none) Set.univ (bodyAt0 t)
      (fun _ => bodyPost m c t (owns (c : Thread nD τ) (ms4 t) fullShare (outAt m c t))) := by
  unfold bodyPre bodyPost bodyAt0 PhiAt
  simp only [bef_0, bef_1, bef_2, bef_3]
  iintro ⟨⟨⟨%d7, %d8, %hd, S7, S8⟩, Hg⟩, Ho, ⟨%d0, H0⟩, ⟨%d1, H1⟩, ⟨%d2, H2⟩, ⟨%d3, H3⟩, ⟨%d4, H4⟩⟩
  have eg := slabs c t ht _ _ _ (Nat.le_succ _) le_rfl (fillG m c t d7 hd.1)
  have eu := slabs c t ht _ _ _ (Nat.le_succ _) le_rfl (fillU m c t d8 hd.2)
  iapply (runB c (grid0.coords t) _ _ _ _ _ _ _ _ _ _ _ _ _ _ (iblk m c 0 t) (iblk m c 1 t) (iblk m c 2 t) (iblk m c 3 t) d7 d8
    ((cond1 t).2 (by omega)) ((cond2 t).2 (by omega)) ((cond3 t).2 ht) Set.univ _)
  isplitl [H0]; · iexact H0
  isplitl [H1]; · iexact H1
  isplitl [H2]; · iexact H2
  isplitl [H3]; · iexact H3
  isplitl [H4]; · iexists _; iexact H4
  isplitl [S7]; · iexact S7
  isplitl [S8]; · iexact S8
  rw [eg, eu]
  iintro ⟨H0, H1, H2, H3, H4, S7, S8⟩
  isplitl [S7 S8 Hg]
  · isplitl [S7 S8]
    · iexists _, _
      isplitr
      · ipureintro; exact ⟨fillG m c t d7 hd.1, fillU m c t d8 hd.2⟩
      isplitl [S7]; · iexact S7
      iexact S8
    iexact Hg
  isplitl [Ho]; · iexact Ho
  isplitl [H0]; · iexact H0
  isplitl [H1]; · iexact H1
  isplitl [H2]; · iexact H2
  isplitl [H3]; · iexact H3
  iexact H4

set_option maxHeartbeats 1200000 in
/-- The body at a point of the last step, which only multiplies. -/
theorem sound_last (c : Dev nD) (t : Fin cfg0.N) (ht : 256 ≤ t.val) :
    bodyPre m c t ⊢ wp frame (wpE (defs₀ (F := F)) Variants.none c none) Set.univ (bodyAt0 t)
      (fun _ => bodyPost m c t (owns (c : Thread nD τ) (ms4 t) fullShare (outAt m c t))) := by
  unfold bodyPre bodyPost bodyAt0 PhiAt
  simp only [bef_0, bef_1, bef_2, bef_3]
  iintro ⟨⟨⟨%d7, %d8, %hd, S7, S8⟩, Hg⟩, Ho, ⟨%d0, H0⟩, ⟨%d1, H1⟩, ⟨%d2, H2⟩, ⟨%d3, H3⟩, ⟨%d4, H4⟩⟩
  have h8 : 8 ≤ t.val := by omega
  have eg := slabs c t h8 _ _ _ le_rfl (Nat.le_succ _) hd.1
  have eu := slabs c t h8 _ _ _ le_rfl (Nat.le_succ _) hd.2
  iapply (runC c (grid0.coords t) _ _ _ _ _ _ _ _ _ _ _ _ _ _ (iblk m c 0 t) (iblk m c 1 t) (iblk m c 2 t) (iblk m c 3 t) d7 d8
    (fun h => absurd ((cond1 t).1 h) (by omega)) (fun h => absurd ((cond2 t).1 h) (by omega)) ((cond3 t).2 h8) Set.univ _)
  isplitl [H0]; · iexact H0
  isplitl [H1]; · iexact H1
  isplitl [H2]; · iexact H2
  isplitl [H3]; · iexact H3
  isplitl [H4]; · iexists _; iexact H4
  isplitl [S7]; · iexact S7
  isplitl [S8]; · iexact S8
  rw [eg, eu]
  iintro ⟨H0, H1, H2, H3, H4, S7, S8⟩
  isplitl [S7 S8 Hg]
  · isplitl [S7 S8]
    · iexists _, _
      isplitr
      · ipureintro; exact ⟨inv_skip _ d7 _ ht hd.1, inv_skip _ d8 _ ht hd.2⟩
      isplitl [S7]; · iexact S7
      iexact S8
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases ht : t.val < 8
  · rw [idle4, flush4, decide_eq_true ht, decide_eq_false (by omega : ¬ 8 ≤ t.val)]
    exact triple_restated (sound_first m c t ht) rfl .rfl fun _ => .rfl
  · rw [idle4, decide_eq_false ht]
    by_cases ht' : t.val < 256
    · exact triple_restated (sound_mid m c t (by omega) ht') rfl .rfl fun _ => .rfl
    · exact triple_restated (sound_last m c t (by omega)) rfl .rfl fun _ => .rfl

/-! ## The run -/

theorem hin (c : Dev nD) : Pipeline.ΦA spec0 c ⊢ (dats (F := F) m 0 c).Φ 0 := by
  rw [PhiA0_eq]
  show _ ⊢ PhiAt m c 0
  unfold PhiAt
  iintro ⟨⟨⟨%d7, S7⟩, ⟨%d8, S8⟩⟩, Hg⟩
  isplitl [S7 S8]
  · iexists d7, d8
    isplitr
    · ipureintro; exact ⟨inv_zero _ _, inv_zero _ _⟩
    isplitl [S7]; · iexact S7
    iexact S8
  iexact Hg

theorem hout (c : Dev nD) : (dats (F := F) m 0 c).Φ (Fin.last cfg0.N) ⊢ Pipeline.ΦA spec0 c := by
  rw [PhiA0_eq]
  show PhiAt m c _ ⊢ _
  unfold PhiAt
  iintro ⟨⟨%d7, %d8, %hd, S7, S8⟩, Hg⟩
  isplitl [S7 S8]
  · isplitl [S7]
    · iexists d7; iexact S7
    iexists d8; iexact S8
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ w => by match w with | 0 => rfl | 1 => rfl | 2 => rfl | 3 => rfl | 4 => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).1 0).trans (((dats m 0 c).arrAt_in 0 rfl _).trans (A_eq m c 0)),
     ((h.1 c).1 1).trans (((dats m 0 c).arrAt_in 1 rfl _).trans (A_eq m c 1)),
     ((h.1 c).1 2).trans (((dats m 0 c).arrAt_in 2 rfl _).trans (A_eq m c 2)),
     ((h.1 c).1 3).trans (((dats m 0 c).arrAt_in 3 rfl _).trans (A_eq m c 3))⟩, h.2⟩) (run_main_quiescent m ρ)

end Cert.Proof.Last

end
-- ==== Proof.LastAt.lean ====
/- The last layer's gated up-projection's arithmetic at one entry, over the reals. -/
module

public import proofs.«01_k».proof.Proof.LastFrame
public import Idealize.ShloMosaic.Lib.Pipeline.ValueKit

@[expose] public section

set_option maxRecDepth 16384

noncomputable section

namespace Cert.Proof.Last

open Cert.Kernel4Ideal Cert.Kernel4Ideal.Gen
open Idealize.ShloMosaic Idealize.ShloMosaic.TcCoe Idealize.SL.Sem
open Cert.Kernel4Ideal.Facts

section
variable {F : FTy → Type} [FloatOps F]

/-- The kernel's quotient, rounded down, of a column block's number by four: the expert. -/
def expert (v9 : BitVec 32) : BitVec 32 :=
  Scalar.select (Scalar.andi (Scalar.cmpi .ne (Scalar.subi (Scalar.extui (Scalar.cmpi .sgt v9 0#32) : BitVec 32) (Scalar.extui (Scalar.cmpi .slt v9 0#32)))
      (Scalar.subi (Scalar.extui (Scalar.cmpi .sgt 4#32 0#32)) (Scalar.extui (Scalar.cmpi .slt 4#32 0#32)))) (Scalar.cmpi .ne (Scalar.remsi v9 4#32) 0#32))
    (Scalar.subi (Scalar.divsi v9 4#32) 1#32) (Scalar.divsi v9 4#32)

/-- The rows times the expert's gate. -/
def gated (e : BitVec 32) (a : FVec F S512x512 .f32) (g : Vec F S512x128 .f32) : FVec F S512x512 .bf16 :=
  truncf .bf16 (mulf a (broadcastTo S512x512 (shapeCast S512x1 (multiReduction .add [1] S512
      (select (cmpi .eq (iota .tc S512x128 32 [1] iota_S512x128_d1_w32) (broadcast S512x128 e)) g (broadcast S512x128 (Scalar.ofBits .f32 0x00000000#32 : F .f32)))
      0x00000000#32 reduces_S512x128_S512 (.inl rfl) rfl) shapeCasts_S512_S512x1) broadcasts_S512x1_S512x512)) bitsLt_bf16_f32

theorem pay5_eq (v : BitVec 32) (a : FVec F S512x512 .f32) (g : Vec F S512x128 .f32) :
    k0_pay5 v a g (iota .tc S512x128 32 [1] iota_S512x128_d1_w32) 4#32 (Scalar.divsi v 4#32) = gated (expert v) a g := rfl
theorem pay3_eq (v : BitVec 32) (a : FVec F S512x512 .f32) (g : Vec F S512x128 .f32) : k0_pay3 v a g = gated (expert v) a g := rfl
theorem pay6_eq (x : Vec F S512x4096 .bf16) (g u : Vec F S1x4096x512 .bf16) : k0_pay6 x g u = k0_pay4 x g u := rfl

theorem expert_eq (i : grid0.Coords) (h : 0 < (i 0).val) : expert (stepOf i) = BitVec.ofNat 32 (((i 0).val - 1) / 4) :=
  (by decide +kernel : ∀ a : Fin 33, 0 < a.val → expert (Scalar.subi (BitVec.ofNat 32 a.val) 1#32) = BitVec.ofNat 32 ((a.val - 1) / 4)) (i 0) h
end

theorem pay1_at (x : FVec Ideal S1x1x512x512 .f32) (i j : Fin 512) : k0_pay1 (F := Ideal) x (ix3 0 i j) = x (ix4 0 0 i j) := by
  pointwise [k0_pay1]
theorem pay2_at (x : FVec Ideal S1x1x512x512 .f32) (i j : Fin 512) : k0_pay2 (F := Ideal) x (ix3 0 i j) = x (ix4 0 0 i j) := by
  pointwise [k0_pay2]

theorem pay4_at (x : FVec Ideal S512x4096 .bf16) (g u : FVec Ideal S1x4096x512 .bf16) (r : Fin 512) (q : Fin 512) :
    k0_pay4 (F := Ideal) x g u (ix2 r q) = (∑ k : Fin 4096, x (ix2 r k) * g (ix3 0 k q)) * Ideal.logistic (∑ k : Fin 4096, x (ix2 r k) * g (ix3 0 k q)) * ∑ k : Fin 4096, x (ix2 r k) * u (ix3 0 k q) := by
  pointwise [k0_pay4]

theorem gated_at (e : Fin 8) (a : FVec Ideal S512x512 .f32) (g : FVec Ideal S512x128 .f32) (r : Fin 512) (q : Fin 512) :
    gated (F := Ideal) (BitVec.ofNat 32 e.val) a g (ix2 r q) = a (ix2 r q) * g (ix2 r ⟨e.val, by omega⟩) := by
  pointwise [gated]
  congr 1
  refine (Finset.sum_eq_single (⟨e.val, by omega⟩ : Fin 128) (fun x _ hx => ?_) (fun h => absurd (Finset.mem_univ _) h)).trans ?_
  · have hn : (BitVec.ofNat 32 x.val == BitVec.ofNat 32 e.val) = false := beq_eq_false_iff_ne.mpr fun h => hx (Fin.ext (by
      have h' := congrArg BitVec.toNat h
      rwa [BitVec.toNat_ofNat, BitVec.toNat_ofNat, Nat.mod_eq_of_lt (by omega), Nat.mod_eq_of_lt (by omega)] at h'))
    simp [Scalar.select, IntOp.cmpi, hn]
  · simp [Scalar.select, IntOp.cmpi]

/-- An entry of the first rows of a block. -/
theorem topX_at (x : FVec Ideal S1024x4096 .bf16) (r : Fin 512) (k : Fin 4096) : topX (F := Ideal) x (ix2 r k) = x (ix2 ⟨r.val, by omega⟩ k) := by
  refine congrArg x (funext fun a => ?_)
  match a with
  | 0 => exact Fin.ext (by show 0 + 1 * r.val = r.val; omega)
  | 1 => exact Fin.ext (by show 0 + 1 * k.val = k.val; omega)
theorem botX_at (x : FVec Ideal S1024x4096 .bf16) (r : Fin 512) (k : Fin 4096) : botX (F := Ideal) x (ix2 r k) = x (ix2 ⟨512 + r.val, by omega⟩ k) := by
  refine congrArg x (funext fun a => ?_)
  match a with
  | 0 => exact Fin.ext (by show 512 + 1 * r.val = 512 + r.val; omega)
  | 1 => exact Fin.ext (by show 0 + 1 * k.val = k.val; omega)
/-- An entry of the first rows of the gates. -/
theorem topG_at (x : FVec Ideal S1024x128 .f32) (r : Fin 512) (k : Fin 128) : topG (F := Ideal) x (ix2 r k) = x (ix2 ⟨r.val, by omega⟩ k) := by
  refine congrArg x (funext fun a => ?_)
  match a with
  | 0 => exact Fin.ext (by show 0 + 1 * r.val = r.val; omega)
  | 1 => exact Fin.ext (by show 0 + 1 * k.val = k.val; omega)
theorem botG_at (x : FVec Ideal S1024x128 .f32) (r : Fin 512) (k : Fin 128) : botG (F := Ideal) x (ix2 r k) = x (ix2 ⟨512 + r.val, by omega⟩ k) := by
  refine congrArg x (funext fun a => ?_)
  match a with
  | 0 => exact Fin.ext (by show 512 + 1 * r.val = 512 + r.val; omega)
  | 1 => exact Fin.ext (by show 0 + 1 * k.val = k.val; omega)

/-- An entry of a block stored as two halves. -/
theorem put_halves (d : FVec Ideal S1024x512 .bf16) (w w' : FVec Ideal S512x512 .bf16) (y : Fin 1024) (q : Fin 512) (v : EReal)
    (h : ∀ r : Fin 512, y = ⟨r.val, by omega⟩ → w (ix2 r q) = v) (h' : ∀ r : Fin 512, y = ⟨512 + r.val, by omega⟩ → w' (ix2 r q) = v) :
    VecWindow.put (s := S1024x512) (VecWindow.put (s := S1024x512) d ![0, 0] S512x512.size w) ![512, 0] S512x512.size w' (ix2 y q) = v := by
  unfold VecWindow.put
  by_cases hy : 512 ≤ y.val
  · have hp : ∀ a, (![512, 0] : Fin 2 → ℕ) a ≤ ((ix2 y q : S1024x512.Idx) a).val ∧ ((ix2 y q : S1024x512.Idx) a).val < (![512, 0] : Fin 2 → ℕ) a + S512x512.size a := fun a => by
      match a with
      | 0 => exact ⟨hy, y.isLt⟩
      | 1 => exact ⟨Nat.zero_le _, by show q.val < 0 + 512; omega⟩
    rw [dif_pos hp]
    have el : (Rect.unitLocal (s := S1024x512) (off := ![512, 0]) (size := S512x512.size) (ix2 y q) hp : S512x512.Idx) = ix2 (⟨y.val - 512, by omega⟩ : Fin 512) q := by
      funext a
      match a with
      | 0 => rfl
      | 1 => rfl
    exact (congrArg w' el).trans (h' _ (Fin.ext (by show y.val = 512 + (y.val - 512); omega)))
  · have hp : ¬ ∀ a, (![512, 0] : Fin 2 → ℕ) a ≤ ((ix2 y q : S1024x512.Idx) a).val ∧ ((ix2 y q : S1024x512.Idx) a).val < (![512, 0] : Fin 2 → ℕ) a + S512x512.size a := fun hc => hy (hc 0).1
    have hp0 : ∀ a, (![0, 0] : Fin 2 → ℕ) a ≤ ((ix2 y q : S1024x512.Idx) a).val ∧ ((ix2 y q : S1024x512.Idx) a).val < (![0, 0] : Fin 2 → ℕ) a + S512x512.size a := fun a => by
      match a with
      | 0 => exact ⟨Nat.zero_le _, by show y.val < 0 + 512; omega⟩
      | 1 => exact ⟨Nat.zero_le _, by show q.val < 0 + 512; omega⟩
    rw [dif_neg hp, dif_pos hp0]
    have el : (Rect.unitLocal (s := S1024x512) (off := ![0, 0]) (size := S512x512.size) (ix2 y q) hp0 : S512x512.Idx) = ix2 (⟨y.val, by omega⟩ : Fin 512) q := by
      funext a
      match a with
      | 0 => rfl
      | 1 => rfl
    exact (congrArg w el).trans (h _ rfl)

/-- An entry of the block, from the rows, the weight slabs and the gates. -/
theorem outU_at (i : grid0.Coords) (h : 0 < (i 0).val) (e : Fin 8) (he : ((i 0).val - 1) / 4 = e.val) (x0 : FVec Ideal S1024x4096 .bf16) (g u : FVec Ideal S1x4096x512 .bf16)
    (x3 : FVec Ideal S1024x128 .f32) (y : Fin 1024) (q : Fin 512) :
    (outU (F := Ideal) i x0 g u x3 : FVec Ideal S1024x512 .bf16) (ix2 y q)
      = (∑ k : Fin 4096, x0 (ix2 y k) * g (ix3 0 k q)) * Ideal.logistic (∑ k : Fin 4096, x0 (ix2 y k) * g (ix3 0 k q)) * (∑ k : Fin 4096, x0 (ix2 y k) * u (ix3 0 k q))
        * x3 (ix2 y ⟨e.val, by omega⟩) := by
  unfold outU
  rw [pay5_eq, pay3_eq, pay6_eq, expert_eq i h, he]
  refine put_halves _ _ _ y q _ (fun r hr => ?_) (fun r hr => ?_)
  · rw [hr]
    refine (gated_at e _ _ _ _).trans ?_
    rw [pay4_at, topG_at]
    simp only [topX_at]
  · rw [hr]
    refine (gated_at e _ _ _ _).trans ?_
    rw [pay4_at, botG_at]
    simp only [botX_at]

end Cert.Proof.Last

end
-- ==== Proof.LastValue.lean ====
/- The last layer's gated up-projection's result, entry by entry. -/
module

public import proofs.«01_k».proof.Proof.LastAt

@[expose] public section

set_option maxRecDepth 16384

noncomputable section

namespace Cert.Proof.Last

open Cert.Kernel4Ideal Cert.Kernel4Ideal.Gen
open Idealize.ShloMosaic Idealize.ShloMosaic.TcCoe Idealize.SL.Sem
open Cert.Kernel4Ideal.Facts

/-! ## The value -/

/-- A row of tokens times a column of an expert's weights. -/
def dotW (t : FVec Ideal ⟨2, ![8192, 4096]⟩ .bf16) (w : FVec Ideal ⟨4, ![2, 8, 4096, 2048]⟩ .f32) (r : Fin 8192) (e : Fin 8) (q : Fin 2048) : EReal :=
  ∑ k : Fin 4096, t (ix2 r k) * w (ix4 1 e k q)

/-- A gated hidden entry of an expert. -/
def hid (t : FVec Ideal ⟨2, ![8192, 4096]⟩ .bf16) (g u : FVec Ideal ⟨4, ![2, 8, 4096, 2048]⟩ .f32) (gt : FVec Ideal ⟨2, ![8192, 128]⟩ .f32) (r : Fin 8192) (e : Fin 8) (q : Fin 2048) : EReal :=
  dotW t g r e q * Ideal.logistic (dotW t g r e q) * dotW t u r e q * gt (ix2 r ⟨e.val, by omega⟩)

/-- The result. -/
def G (t : FVec Ideal ⟨2, ![8192, 4096]⟩ .bf16) (g u : FVec Ideal ⟨4, ![2, 8, 4096, 2048]⟩ .f32) (gt : FVec Ideal ⟨2, ![8192, 128]⟩ .f32) : FVec Ideal S8192x16384 .bf16 := fun i =>
  hid t g u gt ⟨(i 0 : ℕ) % 8192, by omega⟩ ⟨(i 1 : ℕ) / 2048 % 8, by omega⟩ ⟨(i 1 : ℕ) % 2048, by omega⟩

/-! ## The blocks -/

theorem idx0 : ∀ t : Fin cfg0.N, 8 ≤ t.val → win0_0.index t = ![t.val % 8, 0] ∧ win0_3.index t = ![t.val % 8, 0] ∧ win0_4.index t = ![t.val % 8, t.val / 8 - 1] :=
  (by decide +kernel : ∀ t : Fin grid0.N, 8 ≤ t.val → win0_0.index t = ![t.val % 8, 0] ∧ win0_3.index t = ![t.val % 8, 0] ∧ win0_4.index t = ![t.val % 8, t.val / 8 - 1])
theorem idx1 : ∀ t : Fin cfg0.N, t.val < 256 → win0_1.index t = ![1, t.val / 32, t.val % 8, t.val / 8 % 4] ∧ win0_2.index t = ![1, t.val / 32, t.val % 8, t.val / 8 % 4] :=
  (by decide +kernel : ∀ t : Fin grid0.N, t.val < 256 → win0_1.index t = ![1, t.val / 32, t.val % 8, t.val / 8 % 4] ∧ win0_2.index t = ![1, t.val / 32, t.val % 8, t.val / 8 % 4])

variable (m : (ℓ : Loc nD τ sig) → Buf (Elt Ideal) ℓ) (c : Dev nD) (t : Fin cfg0.N)

def tok : FVec Ideal S8192x4096 .bf16 := m ((c.tc : Thread nD τ).loc main_arg0)
def wgt : FVec Ideal S2x8x4096x2048 .f32 := m ((c.tc : Thread nD τ).loc main_arg1)
def wup : FVec Ideal S2x8x4096x2048 .f32 := m ((c.tc : Thread nD τ).loc main_arg2)
def gts : FVec Ideal S8192x128 .f32 := m ((c.tc : Thread nD τ).loc main_arg3)

theorem blk0 (ht : 8 ≤ t.val) (y : Fin 1024) (k : Fin 4096) : (iblk (F := Ideal) m c 0 t : FVec Ideal S1024x4096 .bf16) (ix2 y k)
    = tok m c (ix2 ⟨1024 * (t.val % 8) + y, by omega⟩ k) := by
  unfold tok
  blk_ext [iblk, V, (idx0 t ht).1]
theorem blk3 (ht : 8 ≤ t.val) (y : Fin 1024) (k : Fin 128) : (iblk (F := Ideal) m c 3 t : FVec Ideal S1024x128 .f32) (ix2 y k)
    = gts m c (ix2 ⟨1024 * (t.val % 8) + y, by omega⟩ k) := by
  unfold gts
  blk_ext [iblk, V, (idx0 t ht).2.1]
theorem blk1 (ht : t.val < 256) (i j : Fin 512) : (iblk (F := Ideal) m c 1 t : FVec Ideal S1x1x512x512 .f32) (ix4 0 0 i j)
    = wgt m c (ix4 1 ⟨t.val / 32, by omega⟩ ⟨512 * (t.val % 8) + i, by omega⟩ ⟨512 * (t.val / 8 % 4) + j, by omega⟩) := by
  unfold wgt
  blk_ext [iblk, V, (idx1 t ht).1]
theorem blk2 (ht : t.val < 256) (i j : Fin 512) : (iblk (F := Ideal) m c 2 t : FVec Ideal S1x1x512x512 .f32) (ix4 0 0 i j)
    = wup m c (ix4 1 ⟨t.val / 32, by omega⟩ ⟨512 * (t.val % 8) + i, by omega⟩ ⟨512 * (t.val / 8 % 4) + j, by omega⟩) := by
  unfold wup
  blk_ext [iblk, V, (idx1 t ht).2]

/-- The gate's slot holds a column block of an expert's weights. -/
theorem slabG (T : ℕ) (hT : T < 32) (k : Fin 4096) (q : Fin 512) :
    slabOf (F := Ideal) (gB m c) T (ix3 0 k q) = wgt m c (ix4 1 ⟨T / 4, by omega⟩ k ⟨512 * (T % 4) + q, by omega⟩) := by
  show k0_pay1 (F := Ideal) (iblk m c 1 (at_ (8 * T + k.val / 512))) (ix3 (0 : Fin 1) (⟨k.val % 512, Nat.mod_lt _ (by decide)⟩ : Fin 512) q) = _
  have e : (at_ (8 * T + k.val / 512)).val = 8 * T + k.val / 512 := Nat.mod_eq_of_lt (by omega)
  rw [pay1_at, blk1 m c _ (by omega)]
  congr 2 <;> ext <;> simp only [e] <;> omega
theorem slabU (T : ℕ) (hT : T < 32) (k : Fin 4096) (q : Fin 512) :
    slabOf (F := Ideal) (uB m c) T (ix3 0 k q) = wup m c (ix4 1 ⟨T / 4, by omega⟩ k ⟨512 * (T % 4) + q, by omega⟩) := by
  show k0_pay2 (F := Ideal) (iblk m c 2 (at_ (8 * T + k.val / 512))) (ix3 (0 : Fin 1) (⟨k.val % 512, Nat.mod_lt _ (by decide)⟩ : Fin 512) q) = _
  have e : (at_ (8 * T + k.val / 512)).val = 8 * T + k.val / 512 := Nat.mod_eq_of_lt (by omega)
  rw [pay2_at, blk2 m c _ (by omega)]
  congr 2 <;> ext <;> simp only [e] <;> omega

/-- What a point leaves in the output's block. -/
theorem point (ht : 8 ≤ t.val) (y : Fin 1024) (q : Fin 512) :
    (outAt (F := Ideal) m c t : FVec Ideal S1024x512 .bf16) (ix2 y q)
      = hid (tok m c) (wgt m c) (wup m c) (gts m c) ⟨1024 * (t.val % 8) + y, by omega⟩ ⟨(t.val / 8 - 1) / 4, by have := N_lt t; omega⟩ ⟨512 * ((t.val / 8 - 1) % 4) + q, by omega⟩ := by
  have hl := N_lt t
  unfold outAt
  rw [outU_at (grid0.coords t) (by rw [(coords t).1]; omega) ⟨(t.val / 8 - 1) / 4, by omega⟩ (by rw [(coords t).1])]
  simp only [blk0 m c t ht, blk3 m c t ht, slabG m c (t.val / 8 - 1) (by omega), slabU m c (t.val / 8 - 1) (by omega)]
  rfl

/-- The result array, after the run. -/
theorem final (i : S8192x16384.Idx) : (dats m 0 c).arrAt 4 (cfgs 0).N i = G (tok m c) (wgt m c) (wup m c) (gts m c) i := by
  refine ((dats m 0 c).arrAt_apply_of_coversWhere 4 (G (tok m c) (wgt m c) (wup m c) (gts m c)) (P := fun i : S8192x16384.Idx => True) (fun β => True) (by decide +kernel) (fun t hf y => ?_)
    (fun j => by blk_simp [Pipeline.Window.cell_apply]) i).trans (if_pos trivial)
  rw [flush4] at hf
  have ht : 8 ≤ t.val := of_decide_eq_true hf
  blk_simp
  rw [after_4]
  have hl := N_lt t
  have l0 : (y 0 : ℕ) < 1024 := ((cfg0.win 4).xinj (cfg0.grid.coords t) y 0).isLt
  have l1 : (y 1 : ℕ) < 512 := ((cfg0.win 4).xinj (cfg0.grid.coords t) y 1).isLt
  have e : (cfg0.win 4).xinj (cfg0.grid.coords t) y = (ix2 ⟨y 0, l0⟩ ⟨y 1, l1⟩ : S1024x512.Idx) := by
    funext a; fin_cases a <;> rfl
  have g0 : (((win0_4.blk t).view.emb y : S8192x16384.Idx) 0 : ℕ) = 1024 * (t.val % 8) + y 0 := by blk_simp [(idx0 t ht).2.2]; ring
  have g1 : (((win0_4.blk t).view.emb y : S8192x16384.Idx) 1 : ℕ) = 512 * (t.val / 8 - 1) + y 1 := by blk_simp [(idx0 t ht).2.2]; ring
  refine (congrArg (outAt m c t) e).trans ((point m c t ht _ _).trans ?_)
  unfold G
  congr 1 <;> ext <;> simp only [g0, g1] <;> omega

end Cert.Proof.Last

end
-- ==== Proof.LastRef.lean ====
/- The last layer's gated hidden layer of the reference, entry by entry. -/
module

public import proofs.«01_k».proof.Proof.Gen.Reference4Ideal.Run
public import proofs.«01_k».proof.Proof.LastValue
public import proofs.«01_k».proof.Proof.UpRef

@[expose] public section

set_option maxRecDepth 16384

noncomputable section

namespace Cert.Proof.LastRef

open Cert.Reference4Ideal Cert.Reference4Ideal.Gen Cert.Reference4Ideal.Value Idealize.ShloMosaic Idealize.ShloMosaic.TcCoe Idealize.SL.Sem
open Cert.Reference4Ideal.Facts
open Cert.Proof.Last (dotW hid G)
open Cert.Proof.UpRef (one)

section
variable {F : FTy → Type} [FloatOps F]

/-- Every token times every expert's weights. -/
def dots (t : FVec F S8192x4096 .bf16) (w : FVec F S2x8x4096x2048 .f32) : FVec F S8192x8x2048 .f32 :=
  Host.dotGeneral dot_S8192x4096_S8x4096x2048_S8192x8x2048_1_1_0_02_n_n none (extf .f32 t bitsLt_bf16_f32)
    (shapeCast _ (extractStridedSlice S1x8x4096x2048 ![1, 0, 0, 0] w slices_S2x8x4096x2048_S1x8x4096x2048_1_0_0_0) shapeCasts_S1x8x4096x2048_S8x4096x2048)

/-- The gate's activation. -/
def act (g : FVec F S8192x8x2048 .f32) : FVec F S8192x8x2048 .f32 :=
  mulf g (Host.divf (broadcastInDim S8192x8x2048 ![] bcast_S_S8192x8x2048 (constant S_ .f32 0x3F800000#32))
    (addf (broadcastInDim S8192x8x2048 ![] bcast_S_S8192x8x2048 (constant S_ .f32 0x3F800000#32)) (Host.exp (Host.negf g))))

/-- The experts' gates times the hidden entries. -/
def gate (gt : FVec F S8192x128 .f32) (h : FVec F S8192x8x2048 .f32) : FVec F S8192x8x2048 .f32 :=
  mulf (broadcastInDim S8192x8x2048 ![0, 1, 2] bcast_S8192x8x1_S8192x8x2048_0_1_2 (broadcastInDim S8192x8x1 ![0, 1] bcast_S8192x8_S8192x8x1_0_1
    (extractStridedSlice S8192x8 ![0, 0] gt slices_S8192x128_S8192x8_0_0))) h

/-- The experts side by side. -/
def side (h : FVec F S8192x8x2048 .f32) : FVec F S8192x16384 .bf16 :=
  truncf .bf16 (shapeCast _ h shapeCasts_S8192x8x2048_S8192x16384) bitsLt_bf16_f32
end

theorem dots_at (t : FVec Ideal S8192x4096 .bf16) (w : FVec Ideal S2x8x4096x2048 .f32) (r : Fin 8192) (e : Fin 8) (q : Fin 2048) :
    dots (F := Ideal) t w (ix3 r e q) = dotW t w r e q := by
  unfold dotW
  pointwise [dots]

theorem act_at (g : FVec Ideal S8192x8x2048 .f32) (r : Fin 8192) (e : Fin 8) (q : Fin 2048) :
    act (F := Ideal) g (ix3 r e q) = g (ix3 r e q) * Ideal.logistic (g (ix3 r e q)) := by
  unfold Ideal.logistic
  pointwise [act]

theorem gate_at (gt : FVec Ideal S8192x128 .f32) (h : FVec Ideal S8192x8x2048 .f32) (r : Fin 8192) (e : Fin 8) (q : Fin 2048) :
    gate (F := Ideal) gt h (ix3 r e q) = gt (ix2 r ⟨e.val, by omega⟩) * h (ix3 r e q) := by
  pointwise [gate]

theorem side_at (h : FVec Ideal S8192x8x2048 .f32) (i : S8192x16384.Idx) (r : Fin 8192) (e : Fin 8) (q : Fin 2048) (e0 : (i 0 : ℕ) = r) (e1 : (i 1 : ℕ) = e * 2048 + q) :
    side (F := Ideal) h i = h (ix3 r e q) := by
  pointwise [side]
  have a : (⟨(i 1 : ℕ) / 2048, by omega⟩ : Fin 8) = e := Fin.ext (by simp only; omega)
  have b : (⟨(i 1 : ℕ) % 2048, by omega⟩ : Fin 2048) = q := Fin.ext (by simp only; omega)
  have c : (i 0 : Fin 8192) = r := Fin.ext e0
  exact congrArg h (congr (congr (congrArg ix3 c) a) b)

/-- The reference's result is the kernel's. -/
theorem res (t : FVec Ideal S8192x4096 .bf16) (g u : FVec Ideal S2x8x4096x2048 .f32) (gt : FVec Ideal S8192x128 .f32) :
    side (F := Ideal) (gate gt (mulf (act (dots t g)) (dots t u))) = G t g u gt := by
  funext i
  have l0 : (i 0 : ℕ) < 8192 := (i 0).isLt
  have l1 : (i 1 : ℕ) < 16384 := (i 1).isLt
  rw [side_at _ i ⟨(i 0 : ℕ) % 8192, by omega⟩ ⟨(i 1 : ℕ) / 2048 % 8, by omega⟩ ⟨(i 1 : ℕ) % 2048, by omega⟩ (by simp only; omega) (by simp only; omega), gate_at]
  refine (congrArg _ (?_ : _ = dotW t g _ _ _ * Ideal.logistic (dotW t g _ _ _) * dotW t u _ _ _)).trans (mul_comm _ _)
  refine (congrArg₂ (· * ·) (act_at (dots t g) _ _ _) (dots_at t u _ _ _)).trans ?_
  rw [dots_at]

end Cert.Proof.LastRef

end
-- ==== Proof.Last.lean ====
module

public import proofs.«01_k».proof.Defs
public import proofs.«01_k».proof.Proof.LastRef
public import proofs.«01_k».proof.Proof.Gen.Kernel4
public import Idealize.ShloMosaic.Lib.Quiescent

@[expose] public section

set_option maxRecDepth 16384

noncomputable section

/-! # The claims about the last layer's gated up-projection -/

namespace Cert.Proof.LastHidden

open Idealize.ShloMosaic Idealize.ShloMosaic.TcCoe Idealize.SL.Sem

attribute [local instance] Cert.Kernel4.Gen.facts Cert.Kernel4Ideal.Gen.facts Cert.Reference4Ideal.Gen.facts

/-- The two programs' bodies are one text. -/
theorem body_eq : Cert.Kernel4.defs₀ (F := Bits) = Cert.Kernel4Ideal.defs₀ (F := Bits) := by
  unfold Cert.Kernel4.defs₀ Cert.Kernel4Ideal.defs₀
  refine congrArg Defs.onTc ?_
  funext l x
  match l, x with
  | 0, (t, s) => rfl

theorem defs_eq : Cert.Kernel4.defs (F := Bits) = Cert.Kernel4Ideal.defs (F := Bits) := by
  unfold Cert.Kernel4.defs Cert.Kernel4Ideal.defs
  rw [body_eq]
  rfl

theorem frame : Cert.quiescent_Kernel4 := fun m ρ _ => by
  rw [defs_eq]
  exact (θ_run Cert.Kernel4Ideal.defs _ _).mono (fun _ h => h) (Last.frame (F := Bits) m ρ)

theorem frame_ideal : Cert.quiescent_Kernel4Ideal := fun m ρ _ => Last.frame (F := Ideal) m ρ

theorem frame_ref : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

theorem algebraic : Cert.algebraic_Kernel4Ideal_Reference4Ideal := by
  intro m ρ m' ρ' _ hagree
  refine ⟨fun c => Last.G (Last.tok m c) (Last.wgt m c) (Last.wup m c) (Last.gts m c), ?_, ?_⟩
  · exact (θ_run Cert.Kernel4Ideal.defs _ _).mono
      (fun _ h c => ⟨((h.1 c).1 4).trans (funext (Last.final m c)),
        ((h.1 c).1 0).trans (((Last.dats m 0 c).arrAt_in 0 rfl _).trans (Last.A_eq m c 0)),
        ((h.1 c).1 1).trans (((Last.dats m 0 c).arrAt_in 1 rfl _).trans (Last.A_eq m c 1)),
        ((h.1 c).1 2).trans (((Last.dats m 0 c).arrAt_in 2 rfl _).trans (Last.A_eq m c 2)),
        ((h.1 c).1 3).trans (((Last.dats m 0 c).arrAt_in 3 rfl _).trans (Last.A_eq m c 3))⟩)
      (Last.run_main_quiescent (F := Ideal) m ρ)
  · refine (θ_run Cert.Reference4Ideal.defs _ _).mono (fun _ h c => ⟨(h c).1.trans ?_, (h c).2⟩)
      (Cert.Reference4Ideal.Value.run (F := Ideal) m' ρ')
    obtain ⟨e0, e1, e2, e3⟩ := hagree c
    rw [e0, e1, e2, e3]
    exact LastRef.res (Last.tok m c) (Last.wgt m c) (Last.wup m c) (Last.gts m c)

end Cert.Proof.LastHidden

end
-- ==== Proof.QkvBody.lean ====
/- The body of the projection to queries, keys and values, run at any contents of its buffers: what it leaves in the weight
   buffer it fills over the grid and in the output's block. -/
module

public import proofs.«01_k».proof.Proof.Gen.Kernel8Ideal.Launch
public import proofs.«01_k».proof.Proof.Gen.Kernel8Ideal.Skeleton
public import proofs.«01_k».proof.Proof.Gen.Kernel8Ideal.Points
public import proofs.«01_k».proof.Proof.Slots
public import Idealize.ShloMosaic.Lib.Pipeline.FrameBody
public import Idealize.ShloMosaic.Lib.VecWindow
public import Idealize.ShloMosaic.Lib.Tactic

@[expose] public section

set_option maxRecDepth 16384

noncomputable section

namespace Cert.Proof.Qkv

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A grid point from its two coordinates. -/
def pt (a : Fin 13) (b : Fin 8) : grid0.Coords := fun | 0 => a | 1 => b

theorem pt_eq (i : grid0.Coords) : i = pt (i 0) (i 1) := by funext a; match a with | 0 => rfl | 1 => rfl

theorem off1_eq (i : grid0.Coords) : k0_off1 i = ![(i 0).val % 2, 512 * (i 1).val, 0] := by
  have h : ∀ (a : Fin 13) (b : Fin 8), k0_off1 (pt a b) = ![a.val % 2, 512 * b.val, 0] := by decide +kernel
  have e := h (i 0) (i 1)
  rwa [← pt_eq i] at e
theorem off2_eq (i : grid0.Coords) : k0_off2 i = ![((i 0).val + 1) % 2, 0, 0] := by
  have h : ∀ (a : Fin 13) (b : Fin 8), k0_off2 (pt a b) = ![(a.val + 1) % 2, 0, 0] := by decide +kernel
  have e := h (i 0) (i 1)
  rwa [← pt_eq i] at e
theorem off3_eq (i : grid0.Coords) : k0_off3 i = ![((i 0).val + 1) % 2, 0, 0] := off2_eq i

instance (i : grid0.Coords) : ClosedOff (k0_off1 i) := ⟨_, off1_eq i⟩
instance (i : grid0.Coords) : ClosedOff (k0_off2 i) := ⟨_, off2_eq i⟩
instance (i : grid0.Coords) : ClosedOff (k0_off3 i) := ⟨_, off3_eq i⟩

/-- The weight buffer with one block of rows put where the point stores it. -/
def fillW (i : grid0.Coords) (d : Vec F S2x4096x1024 .bf16) (w : FVec F S1x512x1024 .bf16) : Vec F S2x4096x1024 .bf16 :=
  VecWindow.put (s := S2x4096x1024) d (k0_off1 i) S1x512x1024.size w

/-- A slot of the weight buffer. -/
def slab (o : Fin 3 → ℕ) (h : ∀ a, o a + S1x4096x1024.size a ≤ S2x4096x1024.size a) (d : Vec F S2x4096x1024 .bf16) : Vec F S1x4096x1024 .bf16 :=
  VecWindow.window (s := S2x4096x1024) d o S1x4096x1024.size h

/-- One head's lanes, normalised by their mean square and scaled by its gains. -/
def headOf (a : FVec F S272x128 .f32) (g : Vec F S1x128 .f32) : FVec F S272x128 .bf16 :=
  truncf .bf16 (mulf (mulf a (broadcastTo S272x128 (rsqrt (addf (divf (shapeCast S272x1 (multiReduction .add [1] S272 (mulf a a) 0x00000000#32 reduces_S272x128_S272 (.inl rfl) rfl)
    shapeCasts_S272_S272x1) (broadcast S272x1 (Scalar.ofBits .f32 0x43000000#32))) (broadcast S272x1 (Scalar.ofBits .f32 0x358637BD#32)))) broadcasts_S272x1_S272x128))
    (broadcastTo S272x128 (shapeCast S1x128 g shapeCasts_S1x128_S1x128) broadcasts_S1x128_S272x128)) bitsLt_bf16_f32

/-- The gains of one head of the block. -/
abbrev gain (g : Vec F S1x1024 .f32) (o : Fin 2 → ℕ) (h : ∀ a, o a + S1x128.size a ≤ S1x1024.size a) : Vec F S1x128 .f32 := VecWindow.window (s := S1x1024) g o S1x128.size h

/-- A quarter of the block's rows: eight heads, side by side. -/
def quarter (x : Vec F S272x4096 .bf16) (w : Vec F S1x4096x1024 .bf16) (g : Vec F S1x1024 .f32) : FVec F S272x1024 .bf16 :=
  concatenate S272x1024 1 [⟨S272x128, headOf (extractStridedSlice S272x128 ![0, 0] (k0_pay4 x w) slices_S272x1024_o0_0_S272x128) (gain g ![0, 0] inb_S1x1024_S1x128_0_0)⟩,
    ⟨S272x128, headOf (extractStridedSlice S272x128 ![0, 128] (k0_pay4 x w) slices_S272x1024_o0_128_S272x128) (gain g ![0, 128] inb_S1x1024_S1x128_0_128)⟩,
    ⟨S272x128, headOf (extractStridedSlice S272x128 ![0, 256] (k0_pay4 x w) slices_S272x1024_o0_256_S272x128) (gain g ![0, 256] inb_S1x1024_S1x128_0_256)⟩,
    ⟨S272x128, headOf (extractStridedSlice S272x128 ![0, 384] (k0_pay4 x w) slices_S272x1024_o0_384_S272x128) (gain g ![0, 384] inb_S1x1024_S1x128_0_384)⟩,
    ⟨S272x128, headOf (extractStridedSlice S272x128 ![0, 512] (k0_pay4 x w) slices_S272x1024_o0_512_S272x128) (gain g ![0, 512] inb_S1x1024_S1x128_0_512)⟩,
    ⟨S272x128, headOf (extractStridedSlice S272x128 ![0, 640] (k0_pay4 x w) slices_S272x1024_o0_640_S272x128) (gain g ![0, 640] inb_S1x1024_S1x128_0_640)⟩,
    ⟨S272x128, headOf (extractStridedSlice S272x128 ![0, 768] (k0_pay4 x w) slices_S272x1024_o0_768_S272x128) (gain g ![0, 768] inb_S1x1024_S1x128_0_768)⟩,
    ⟨S272x128, headOf (extractStridedSlice S272x128 ![0, 896] (k0_pay4 x w) slices_S272x1024_o0_896_S272x128) (gain g ![0, 896] inb_S1x1024_S1x128_0_896)⟩]
    concatenates_S272x128_S272x128_S272x128_S272x128_S272x128_S272x128_S272x128_S272x128_S272x1024_d1

/-- The rows of one quarter. -/
abbrev rowsX (x : Vec F S1088x4096 .bf16) (o : Fin 2 → ℕ) (h : ∀ a, o a + S272x4096.size a ≤ S1088x4096.size a) : Vec F S272x4096 .bf16 :=
  VecWindow.window (s := S1088x4096) x o S272x4096.size h

/-- A block stored as four quarters. -/
def put4 (d : Vec F S1088x1024 .bf16) (a0 a1 a2 a3 : FVec F S272x1024 .bf16) : Vec F S1088x1024 .bf16 :=
  VecWindow.put (s := S1088x1024) (VecWindow.put (s := S1088x1024) (VecWindow.put (s := S1088x1024) (VecWindow.put (s := S1088x1024) d ![0, 0] S272x1024.size a0)
    ![272, 0] S272x1024.size a1) ![544, 0] S272x1024.size a2) ![816, 0] S272x1024.size a3

/-- What a point of the queries or keys leaves in the output's block. -/
def outN (x : Vec F S1088x4096 .bf16) (w : Vec F S1x4096x1024 .bf16) (g : Vec F S1x1024 .f32) : Vec F S1088x1024 .bf16 :=
  put4 (fun _ => FloatOps.ofBits .bf16 0) (quarter (rowsX x ![0, 0] inb_S1088x4096_S272x4096_0_0) w g) (quarter (rowsX x ![272, 0] inb_S1088x4096_S272x4096_272_0) w g)
    (quarter (rowsX x ![544, 0] inb_S1088x4096_S272x4096_544_0) w g) (quarter (rowsX x ![816, 0] inb_S1088x4096_S272x4096_816_0) w g)

/-- One stored quarter, entry by entry. -/
theorem put_if (d : Vec F S1088x1024 .bf16) (o : ℕ) (w : FVec F S272x1024 .bf16) (y : S1088x1024.Idx) :
    VecWindow.put (s := S1088x1024) d ![o, 0] S272x1024.size w y
      = if h : o ≤ (y 0).val ∧ (y 0).val < o + 272 then w (ix2 (⟨(y 0).val - o, by omega⟩ : Fin 272) (y 1 : Fin 1024)) else d y := by
  have l1 : (y 1).val < 1024 := (y 1).isLt
  unfold VecWindow.put
  by_cases h : o ≤ (y 0).val ∧ (y 0).val < o + 272
  · have hp : ∀ a, (![o, 0] : Fin 2 → ℕ) a ≤ (y a).val ∧ (y a).val < (![o, 0] : Fin 2 → ℕ) a + S272x1024.size a := fun a => by
      match a with
      | 0 => exact h
      | 1 => exact ⟨Nat.zero_le _, by show (y 1).val < 0 + 1024; omega⟩
    rw [dif_pos hp, dif_pos h]
    refine congrArg w (funext fun a => ?_)
    match a with
    | 0 => rfl
    | 1 => rfl
  · rw [dif_neg (fun hc => h (hc 0)), dif_neg h]

theorem put_congr (d d' : Vec F S1088x1024 .bf16) (o : ℕ) (w : FVec F S272x1024 .bf16) (y : S1088x1024.Idx) (h : ¬ (o ≤ (y 0).val ∧ (y 0).val < o + 272) → d y = d' y) :
    VecWindow.put (s := S1088x1024) d ![o, 0] S272x1024.size w y = VecWindow.put (s := S1088x1024) d' ![o, 0] S272x1024.size w y := by
  rw [put_if, put_if]
  by_cases hc : o ≤ (y 0).val ∧ (y 0).val < o + 272
  · rw [dif_pos hc, dif_pos hc]
  · rw [dif_neg hc, dif_neg hc, h hc]

/-- The quarters cover the block, so what it held before is gone. -/
theorem put4_any (d d' : Vec F S1088x1024 .bf16) (a0 a1 a2 a3 : FVec F S272x1024 .bf16) : put4 d a0 a1 a2 a3 = put4 d' a0 a1 a2 a3 := by
  funext y
  have l0 : (y 0).val < 1088 := (y 0).isLt
  exact put_congr _ _ 816 a3 y fun h3 => put_congr _ _ 544 a2 y fun h2 => put_congr _ _ 272 a1 y fun h1 => put_congr _ _ 0 a0 y fun h0 => absurd h0 (by omega)

/-- A block stored whole. -/
theorem put_full (d w : Vec F S1088x1024 .bf16) : VecWindow.put (s := S1088x1024) d ![0, 0] S1088x1024.size w = w := by
  funext y
  unfold VecWindow.put
  have hp : ∀ a, (![0, 0] : Fin 2 → ℕ) a ≤ (y a).val ∧ (y a).val < (![0, 0] : Fin 2 → ℕ) a + S1088x1024.size a := fun a => by
    have l := (y a).isLt
    match a with
    | 0 => exact ⟨Nat.zero_le _, by show (y 0).val < 0 + 1088; rw [Nat.zero_add]; exact l⟩
    | 1 => exact ⟨Nat.zero_le _, by show (y 1).val < 0 + 1024; rw [Nat.zero_add]; exact l⟩
  rw [dif_pos hp]
  refine congrArg w (funext fun a => ?_)
  match a with
  | 0 => rfl
  | 1 => rfl

/-- The body at a point, from buffers at `x0 x1 x2 d3 d6`, leaves the output's block at `e3` and the weight buffer at `e6`. -/
def Runs (i : grid0.Coords) (x0 : Vec F S1088x4096 .bf16) (x1 : Vec F S1x512x1024 .f32) (x2 : Vec F S1x1024 .f32) (d3 e3 : Vec F S1088x1024 .bf16)
    (d6 e6 : Vec F S2x4096x1024 .bf16) : Prop :=
  ∀ (c : Dev nD) (arg2 : Memref sig .tc .vmem S1088x4096 .bf16) (harg2 : arg2.IsWhole) (arg3 : Memref sig .tc .vmem S1x512x1024 .f32) (harg3 : arg3.IsWhole)
    (arg4 : Memref sig .tc .vmem S1x1024 .f32) (harg4 : arg4.IsWhole) (arg5 : Memref sig .tc .vmem S1088x1024 .bf16) (harg5 : arg5.IsWhole)
    (arg6 : Memref sig .tc .vmem S2x4096x1024 .bf16) (harg6 : arg6.IsWhole) (E : Set ℕ) (K : PUnit → sProp 𝕄),
    iprop(owns (c : Thread nD τ) arg2 fullShare x0 ∗ owns (c : Thread nD τ) arg3 fullShare x1 ∗ owns (c : Thread nD τ) arg4 fullShare x2
        ∗ owns (c : Thread nD τ) arg5 fullShare d3 ∗ owns (c : Thread nD τ) arg6 fullShare d6
        ∗ (iprop(owns (c : Thread nD τ) arg2 fullShare x0 ∗ owns (c : Thread nD τ) arg3 fullShare x1 ∗ owns (c : Thread nD τ) arg4 fullShare x2
            ∗ owns (c : Thread nD τ) arg5 fullShare e3 ∗ owns (c : Thread nD τ) arg6 fullShare e6) -∗ K ⟨⟩))
      ⊢ wp frame (wpE (defs₀ (F := F)) Variants.none c none) E (cc0_qkv_proj i arg2 harg2 arg3 harg3 arg4 harg4 arg5 harg5 arg6 harg6) K

end Cert.Proof.Qkv

end
-- ==== Proof.QkvRun.lean ====
/- The run of the projection's body at each kind of grid point. -/
module

public import proofs.«01_k».proof.Proof.QkvBody

@[expose] public section

set_option maxRecDepth 16384

noncomputable section

namespace Cert.Proof.Qkv

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (i : grid0.Coords) (x0 : Vec F S1088x4096 .bf16) (x1 : Vec F S1x512x1024 .f32) (x2 : Vec F S1x1024 .f32) (d3 : Vec F S1088x1024 .bf16) (d6 : Vec F S2x4096x1024 .bf16)

set_option maxHeartbeats 3200000 in
/-- A point of the first step only fills. -/
theorem runA (h1 : k0_cond1 i = 1#1) (h2 : ¬ k0_cond2 i = 1#1) (h3 : ¬ k0_cond3 i = 1#1) :
    Runs i x0 x1 x2 d3 d3 d6 (fillW i d6 (k0_pay1 x1)) := by
  intro c arg2 harg2 arg3 harg3 arg4 harg4 arg5 harg5 arg6 harg6 E K
  simp only [cc0_qkv_proj_eq_skeleton]; unfold cc0_qkv_proj_skel
  unfold owns
  iintro ⟨⟨%f0, %hf0, H0⟩, ⟨%f1, %hf1, H1⟩, ⟨%f2, %hf2, H2⟩, ⟨%f3, %hf3, H3⟩, ⟨%fs, %hs, HS⟩, Hk⟩
  obtain rfl := harg2.eq_unread hf0; obtain rfl := harg3.eq_unread hf1; obtain rfl := harg4.eq_unread hf2
  obtain rfl := harg5.eq_unread hf3; obtain rfl := harg6.eq_unread hs
  sl_exec
  sl_step
  have e1 : View.readAt (Elt F) arg3.view (Rect.unit ![0, 0, 0] S1x512x1024.size inb_S1x512x1024_S1x512x1024_0_0_0).toLoadRect (harg3.unread x1) = x1 :=
    (View.readAt_full (s := S1x512x1024) _ _ _).trans hf1
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact harg5.read_unread _
  iexists _; isplitr
  swap; · iexact HS
  ipureintro
  rw [View.read_writes_cons_put _ _ _ _ _ rfl, View.writes_nil, hs, e1]; rfl

set_option maxHeartbeats 3200000 in
/-- A point of the queries or keys fills and normalises. -/
theorem runB (h1 : k0_cond1 i = 1#1) (h2 : k0_cond2 i = 1#1) (h3 : ¬ k0_cond3 i = 1#1) :
    Runs i x0 x1 x2 d3 (outN x0 (slab (k0_off2 i) (k0_off2_inb i h2) (fillW i d6 (k0_pay1 x1))) x2) d6 (fillW i d6 (k0_pay1 x1)) := by
  intro c arg2 harg2 arg3 harg3 arg4 harg4 arg5 harg5 arg6 harg6 E K
  simp only [cc0_qkv_proj_eq_skeleton]; unfold cc0_qkv_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%fs, %hs, HS⟩, Hk⟩
  obtain rfl := harg2.eq_unread hf0; obtain rfl := harg3.eq_unread hf1; obtain rfl := harg4.eq_unread hf2
  obtain rfl := harg5.eq_unread hf3; obtain rfl := harg6.eq_unread hs
  sl_exec
  sl_step
  have e1 : View.readAt (Elt F) arg3.view (Rect.unit ![0, 0, 0] S1x512x1024.size inb_S1x512x1024_S1x512x1024_0_0_0).toLoadRect (harg3.unread x1) = x1 :=
    (View.readAt_full (s := S1x512x1024) _ _ _).trans hf1
  have e6 : arg6.view.read (Elt F) (arg6.view.writes (Elt F) (harg6.unread d6) (runB.sl.HS_1 i x1 h1 c arg3 harg3)) = fillW i d6 (k0_pay1 x1) := by
    delta runB.sl.HS_1
    rw [View.read_writes_cons_put _ _ _ _ _ rfl, View.writes_nil, hs, e1]; rfl
  have eW : View.readAt (Elt F) arg6.view (Rect.unit (s := S2x4096x1024) (k0_off2 i) S1x4096x1024.size (k0_off2_inb i h2)).toLoadRect
      (arg6.view.writes (Elt F) (harg6.unread d6) (runB.sl.HS_1 i x1 h1 c arg3 harg3)) = slab (k0_off2 i) (k0_off2_inb i h2) (fillW i d6 (k0_pay1 x1)) := by
    rw [View.readAt_unit arg6.view _ _ rfl (k0_off2_inb i h2), e6]; rfl
  have eX : ∀ (o : Fin 2 → ℕ) (h), View.readAt (Elt F) arg2.view (Rect.unit (s := S1088x4096) o S272x4096.size h).toLoadRect (harg2.unread x0) = rowsX x0 o h := fun o h => by
    rw [View.readAt_unit arg2.view _ _ rfl h, hf0]
  have eG : ∀ (o : Fin 2 → ℕ) (h), View.readAt (Elt F) arg4.view (Rect.unit (s := S1x1024) o S1x128.size h).toLoadRect (harg4.unread x2) = gain x2 o h := fun o h => by
    rw [View.readAt_unit arg4.view _ _ rfl h, hf2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_cons_put _ _ _ _ _ rfl, View.read_writes_cons_put _ _ _ _ _ rfl, View.read_writes_cons_put _ _ _ _ _ rfl, View.read_writes_cons_put _ _ _ _ _ rfl]
    refine (put4_any _ (fun _ => FloatOps.ofBits .bf16 0) _ _ _ _).trans ?_
    unfold outN quarter
    rw [← eW, ← eX, ← eX, ← eX, ← eX, ← eG, ← eG, ← eG, ← eG, ← eG, ← eG, ← eG, ← eG]
    rfl
  iexists _; isplitr
  swap; · iexact HS
  ipureintro
  exact e6

set_option maxHeartbeats 3200000 in
/-- A point of the values but the last step fills and multiplies. -/
theorem runC (h1 : k0_cond1 i = 1#1) (h2 : ¬ k0_cond2 i = 1#1) (h3 : k0_cond3 i = 1#1) :
    Runs i x0 x1 x2 d3 (k0_pay3 x0 (slab (k0_off3 i) (k0_off3_inb i h3) (fillW i d6 (k0_pay1 x1)))) d6 (fillW i d6 (k0_pay1 x1)) := by
  intro c arg2 harg2 arg3 harg3 arg4 harg4 arg5 harg5 arg6 harg6 E K
  simp only [cc0_qkv_proj_eq_skeleton]; unfold cc0_qkv_proj_skel
  unfold owns
  iintro ⟨⟨%f0, %hf0, H0⟩, ⟨%f1, %hf1, H1⟩, ⟨%f2, %hf2, H2⟩, ⟨%f3, %hf3, H3⟩, ⟨%fs, %hs, HS⟩, Hk⟩
  obtain rfl := harg2.eq_unread hf0; obtain rfl := harg3.eq_unread hf1; obtain rfl := harg4.eq_unread hf2
  obtain rfl := harg5.eq_unread hf3; obtain rfl := harg6.eq_unread hs
  sl_exec
  sl_step
  have e1 : View.readAt (Elt F) arg3.view (Rect.unit ![0, 0, 0] S1x512x1024.size inb_S1x512x1024_S1x512x1024_0_0_0).toLoadRect (harg3.unread x1) = x1 :=
    (View.readAt_full (s := S1x512x1024) _ _ _).trans hf1
  have e6 : arg6.view.read (Elt F) (arg6.view.writes (Elt F) (harg6.unread d6) (runC.sl.HS_1 i x1 h1 c arg3 harg3)) = fillW i d6 (k0_pay1 x1) := by
    delta runC.sl.HS_1
    rw [View.read_writes_cons_put _ _ _ _ _ rfl, View.writes_nil, hs, e1]; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_cons_put _ _ _ _ _ rfl, put_full, View.readAt_unit arg6.view _ _ rfl (k0_off3_inb i h3), e6]
    refine congrArg (fun x => k0_pay3 x _) ?_
    exact (View.readAt_full (s := S1088x4096) _ _ _).trans hf0
  iexists _; isplitr
  swap; · iexact HS
  ipureintro
  exact e6

set_option maxHeartbeats 3200000 in
/-- A point of the last step multiplies. -/
theorem runD (h1 : ¬ k0_cond1 i = 1#1) (h2 : ¬ k0_cond2 i = 1#1) (h3 : k0_cond3 i = 1#1) :
    Runs i x0 x1 x2 d3 (k0_pay3 x0 (slab (k0_off3 i) (k0_off3_inb i h3) d6)) d6 d6 := by
  intro c arg2 harg2 arg3 harg3 arg4 harg4 arg5 harg5 arg6 harg6 E K
  simp only [cc0_qkv_proj_eq_skeleton]; unfold cc0_qkv_proj_skel
  unfold owns
  iintro ⟨⟨%f0, %hf0, H0⟩, ⟨%f1, %hf1, H1⟩, ⟨%f2, %hf2, H2⟩, ⟨%f3, %hf3, H3⟩, ⟨%fs, %hs, HS⟩, Hk⟩
  obtain rfl := harg2.eq_unread hf0; obtain rfl := harg3.eq_unread hf1; obtain rfl := harg4.eq_unread hf2
  obtain rfl := harg5.eq_unread hf3; obtain rfl := harg6.eq_unread hs
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_cons_put _ _ _ _ _ rfl, put_full, View.readAt_unit arg6.view _ _ rfl (k0_off3_inb i h3), hs]
    refine congrArg (fun x => k0_pay3 x _) ?_
    exact (View.readAt_full (s := S1088x4096) _ _ _).trans hf0
  iexists _; isplitr
  swap; · iexact HS
  ipureintro
  exact harg6.read_unread _

end Cert.Proof.Qkv

end
-- ==== Proof.QkvFrame.lean ====
/- The run of the projection to queries, keys and values over its grid, for any values: what the weight buffer and the output's
   block hold after each point, and that the launch ends with the arguments unchanged. -/
module

public import proofs.«01_k».proof.Proof.QkvRun

@[expose] public section

set_option maxRecDepth 16384

noncomputable section

namespace Cert.Proof.Qkv

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The weight buffer -/

/-- The slot filled over step `T`. -/
abbrev slabOf (B : ℕ → FVec F S1x512x1024 .bf16) (T : ℕ) : Vec F S1x4096x1024 .bf16 := Slots.slabOf 8 B T

/-- Before point `n` each slot holds, of each of the 12 steps, the blocks stored and not yet stored over. -/
abbrev Inv (B : ℕ → FVec F S1x512x1024 .bf16) (n : ℕ) (d : Vec F S2x4096x1024 .bf16) : Prop := Slots.Inv 8 12 B n d

section
variable (B : ℕ → FVec F S1x512x1024 .bf16) (d : Vec F S2x4096x1024 .bf16)

theorem inv_put (i : grid0.Coords) (n : ℕ) (h0 : (i 0).val = n / 8) (h1 : (i 1).val = n % 8) (hd : Inv B n d) : Inv B (n + 1) (fillW i d (B n)) :=
  Slots.inv_put 8 12 (.inl ⟨rfl, rfl⟩) B d n (k0_off1 i) (by rw [off1_eq, h0, h1]) hd

theorem slab_inv (o : Fin 3 → ℕ) (h) (n T : ℕ) (ho : o = ![(T + 2) % 2, 0, 0]) (hT : T < 12) (ha : 8 * (T + 1) ≤ n) (hb : n ≤ 8 * (T + 2)) (hd : Inv B n d) :
    slab o h d = slabOf B T :=
  Slots.slab_inv 8 12 (.inl ⟨rfl, rfl⟩) B d o h T n (by rw [ho, show (T + 2) % 2 = T % 2 by omega]) hT ha hb hd
end

variable (m : (ℓ : Loc nD τ sig) → Buf (Elt F) ℓ) (ρ : Dev nD → PrngReg)

/-! ## The grid -/

theorem coords (t : Fin cfg0.N) : (grid0.coords t 0).val = t.val / 8 ∧ (grid0.coords t 1).val = t.val % 8 :=
  (by decide +kernel : ∀ t : Fin grid0.N, (grid0.coords t 0).val = t.val / 8 ∧ (grid0.coords t 1).val = t.val % 8) t
theorem cond1 (t : Fin cfg0.N) : k0_cond1 (grid0.coords t) = 1#1 ↔ t.val < 96 :=
  (by decide +kernel : ∀ t : Fin grid0.N, k0_cond1 (grid0.coords t) = 1#1 ↔ t.val < 96) t
theorem cond2 (t : Fin cfg0.N) : k0_cond2 (grid0.coords t) = 1#1 ↔ 8 ≤ t.val ∧ t.val < 72 :=
  (by decide +kernel : ∀ t : Fin grid0.N, k0_cond2 (grid0.coords t) = 1#1 ↔ 8 ≤ t.val ∧ t.val < 72) t
theorem cond3 (t : Fin cfg0.N) : k0_cond3 (grid0.coords t) = 1#1 ↔ 72 ≤ t.val :=
  (by decide +kernel : ∀ t : Fin grid0.N, k0_cond3 (grid0.coords t) = 1#1 ↔ 72 ≤ t.val) t
/-- The output's block is written back at every point that stores it, and at no other. -/
theorem flush3 : ∀ t : Fin cfg0.N, (cfg0.win 3).flush t = decide (8 ≤ t.val) :=
  (by decide +kernel : ∀ t : Fin grid0.N, win0_3.flush t = decide (8 ≤ t.val))
theorem idle3 (t : Fin cfg0.N) : cfg0.idle 3 (cfg0.grid.coords t) = decide (t.val < 8) :=
  (by decide +kernel : ∀ t : Fin grid0.N, cfg0.idle 3 (cfg0.grid.coords t) = decide (t.val < 8)) t

/-! ## The memory at the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := ⟨rfl, rfl, rfl, rfl, rfl, rfl, rfl, rfl, rfl, rfl, rfl, rfl, rfl⟩

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An argument is as launched when the region starts: the host's operations write none. -/
theorem V_kept (c : Dev nD) (b : Ref sig .tc) (h : b ∉ [main_cst, main_v0, main_v1, main_v2, main_v3, main_v4, main_v5, main_v6, main_v7, main_cst_0, main_v8, main_v9, main_v10]) :
    V m c b = m ((c : Thread nD τ).loc b) :=
  StableHlo.after_of_forall_not_mem (b := Proc.devRef .tc b) _ _ (List.forall_iff_forall_mem.mp (by
    simp only [List.mem_cons, List.not_mem_nil, or_false, not_or] at h
    simp only [hostOps0, List.Forall, StableHlo.nullary_writes, StableHlo.unary_writes, StableHlo.binary_writes, StableHlo.nary_writes, StableHlo.reshape_writes, Finset.mem_singleton]
    obtain ⟨h0, h1, h2, h3, h4, h5, h6, h7, h8, h9, h10, h11, h12⟩ := h
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12⟩))

/-- A window's block at a point, as the array holds it when the region starts. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 (t : Fin cfg0.N) : Memref sig .tc .vmem S1088x4096 .bf16 := win0_0.stage (cfg0.slots t 0)
abbrev ms1 (t : Fin cfg0.N) : Memref sig .tc .vmem S1x512x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S1088x1024 .bf16 := win0_3.stage (cfg0.slots t 3)
abbrev sc6 : Memref sig .tc .vmem S2x4096x1024 .bf16 := Memref.whole cc0_scratch0

theorem PhiA0_eq (c : Dev nD) :
    (Pipeline.ΦA spec0 c : sProp 𝕄) = iprop((∃ d, owns (c : Thread nD τ) sc6 fullShare d) ∗ (∃ r, prngReg c r)) := by
  unfold Pipeline.ΦA; rw [scopedRest0_eq]; simp only [sc6, owns_whole]; try rfl

/-! ## The proof data -/

/-- The grid point with number `n`. -/
def at_ (n : ℕ) : Fin cfg0.N := ⟨n % 104, Nat.mod_lt _ (by decide)⟩

theorem at_val (t : Fin cfg0.N) : at_ t.val = t := Fin.ext (Nat.mod_eq_of_lt t.isLt)

/-- The blocks of the weights, point by point, rounded. -/
def wB (c : Dev nD) (n : ℕ) : FVec F S1x512x1024 .bf16 := k0_pay1 (iblk m c 1 (at_ n))

/-- What the output's block holds after a point that stores it. -/
def outAt (c : Dev nD) (t : Fin cfg0.N) : Vec F S1088x1024 .bf16 :=
  if t.val < 72 then outN (iblk m c 0 t) (slabOf (wB m c) (t.val / 8 - 1)) (iblk m c 2 t) else k0_pay3 (iblk m c 0 t) (slabOf (wB m c) (t.val / 8 - 1))

/-- The invariant before point `n`: the weight buffer holds the blocks stored so far. -/
def PhiAt (c : Dev nD) (n : ℕ) : sProp 𝕄 :=
  iprop((∃ d6, ⌜Inv (wB m c) n d6⌝ ∗ owns (c : Thread nD τ) sc6 fullShare d6) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiAt m c t.val
  q _ := fullShare
  owed _ := 0

theorem A_eq (c : Dev nD) (w : Fin cfg0.W) : (dats m 0 c).A w = V m c (Pipeline.arrRef spec0 w) := by dsimp only [dats]
theorem after_3 (c : Dev nD) (t : Fin cfg0.N) : (dats m 0 c).after 3 t = outAt m c t := by dsimp only [dats]
theorem bef_0 (c : Dev nD) (t : Fin cfg0.N) (d) : (dats m 0 c).before 0 t d = iblk m c 0 t :=
  (dats m 0 c).before_in_eq_fetched 0 rfl (fun _ => rfl) (fun _ _ _ => rfl) (fun _ => rfl) t d
theorem bef_1 (c : Dev nD) (t : Fin cfg0.N) (d) : (dats m 0 c).before 1 t d = iblk m c 1 t :=
  (dats m 0 c).before_in_eq_fetched 1 rfl (fun _ => rfl) (fun _ _ _ => rfl) (fun _ => rfl) t d
theorem bef_2 (c : Dev nD) (t : Fin cfg0.N) (d) : (dats m 0 c).before 2 t d = iblk m c 2 t :=
  (dats m 0 c).before_in_eq_fetched 2 rfl (fun _ => rfl) (fun _ _ _ => rfl) (fun _ => rfl) t d

/-! ## The body at a point -/

/-- What the body is called with at point `t`. -/
def bodyPre (c : Dev nD) (t : Fin cfg0.N) : sProp 𝕄 :=
  iprop(PhiAt m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What it returns, the output's block at `P`. -/
def bodyPost (c : Dev nD) (t : Fin cfg0.N) (P : sProp 𝕄) : sProp 𝕄 :=
  iprop(PhiAt m c (t.val + 1) ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ P)

theorem N_lt (t : Fin cfg0.N) : t.val < 104 := t.isLt

theorem fill_inv (c : Dev nD) (t : Fin cfg0.N) (d) (h : Inv (wB m c) t.val d) : Inv (wB m c) (t.val + 1) (fillW (grid0.coords t) d (k0_pay1 (iblk m c 1 t))) := by
  have e : wB m c t.val = k0_pay1 (iblk m c 1 t) := by unfold wB; rw [at_val]
  rw [← e]; exact inv_put _ d _ _ (coords t).1 (coords t).2 h

theorem slabs (c : Dev nD) (t : Fin cfg0.N) (ht : 8 ≤ t.val) (d) (o : Fin 3 → ℕ) (h) (ho : o = ![((grid0.coords t 0).val + 1) % 2, 0, 0]) (n : ℕ) (hn : t.val ≤ n) (hn' : n ≤ t.val + 1)
    (hd : Inv (wB m c) n d) : slab o h d = slabOf (wB m c) (t.val / 8 - 1) := by
  have := N_lt t
  refine slab_inv _ d o h n _ ?_ (by omega) (by omega) (by omega) hd
  rw [ho, (coords t).1, show t.val / 8 - 1 + 2 = t.val / 8 + 1 by omega]

set_option maxHeartbeats 1200000 in
/-- The body at a point, from what its run leaves. -/
theorem sound (c : Dev nD) (t : Fin cfg0.N) (P : sProp 𝕄) (out : Vec F S1088x1024 .bf16 → Vec F S1088x1024 .bf16) (wgt : Vec F S2x4096x1024 .bf16 → Vec F S2x4096x1024 .bf16)
    (hw : ∀ d6, Inv (wB m c) t.val d6 → Inv (wB m c) (t.val + 1) (wgt d6))
    (hrun : ∀ d3 d6, Inv (wB m c) t.val d6 → Runs (grid0.coords t) (iblk m c 0 t) (iblk m c 1 t) (iblk m c 2 t) d3 (out d3) d6 (wgt d6))
    (hP : ∀ d, owns (c : Thread nD τ) (ms3 t) fullShare (out ((dats m 0 c).before 3 t d)) ⊢ P) :
    bodyPre m c t ⊢ wp frame (wpE (defs₀ (F := F)) Variants.none c none) Set.univ (bodyAt0 t) (fun _ => bodyPost m c t P) := by
  unfold bodyPre bodyPost bodyAt0 PhiAt
  simp only [bef_0, bef_1, bef_2]
  iintro ⟨⟨⟨%d6, %hd, S6⟩, Hg⟩, Ho, ⟨%d0, H0⟩, ⟨%d1, H1⟩, ⟨%d2, H2⟩, ⟨%d4, H4⟩⟩
  iapply (hrun _ d6 hd c _ _ _ _ _ _ _ _ _ _ Set.univ _)
  isplitl [H0]; · iexact H0
  isplitl [H1]; · iexact H1
  isplitl [H2]; · iexact H2
  isplitl [H4]; · iexact H4
  isplitl [S6]; · iexact S6
  iintro ⟨H0, H1, H2, H4, S6⟩
  isplitl [S6 Hg]
  · isplitl [S6]
    · iexists _
      isplitr
      · ipureintro; exact hw d6 hd
      iexact S6
    iexact Hg
  isplitl [Ho]; · iexact Ho
  isplitl [H0]; · iexact H0
  isplitl [H1]; · iexact H1
  isplitl [H2]; · iexact H2
  iapply (hP d4)
  iexact H4

/-- A point past the first step leaves the output's block at its value. -/
theorem sound_out (c : Dev nD) (t : Fin cfg0.N) (wgt : Vec F S2x4096x1024 .bf16 → Vec F S2x4096x1024 .bf16)
    (hw : ∀ d6, Inv (wB m c) t.val d6 → Inv (wB m c) (t.val + 1) (wgt d6))
    (hrun : ∀ d3 d6, Inv (wB m c) t.val d6 → Runs (grid0.coords t) (iblk m c 0 t) (iblk m c 1 t) (iblk m c 2 t) d3 (outAt m c t) d6 (wgt d6)) :
    bodyPre m c t ⊢ wp frame (wpE (defs₀ (F := F)) Variants.none c none) Set.univ (bodyAt0 t)
      (fun _ => bodyPost m c t (owns (c : Thread nD τ) (ms3 t) fullShare (outAt m c t))) :=
  sound m c t _ (fun _ => outAt m c t) wgt hw hrun fun _ => .rfl

theorem sound_first (c : Dev nD) (t : Fin cfg0.N) (ht : t.val < 8) :
    bodyPre m c t ⊢ wp frame (wpE (defs₀ (F := F)) Variants.none c none) Set.univ (bodyAt0 t)
      (fun _ => bodyPost m c t iprop(∃ d, owns (c : Thread nD τ) (ms3 t) fullShare ((dats m 0 c).before 3 t d))) :=
  sound m c t _ id _ (fun d h => fill_inv m c t d h)
    (fun d3 d6 _ => runA _ _ _ _ d3 d6 ((cond1 t).2 (by omega)) (fun h => absurd ((cond2 t).1 h).1 (by omega)) (fun h => absurd ((cond3 t).1 h) (by omega)))
    fun d => by iintro H; iexists d; iexact H

theorem sound_norm (c : Dev nD) (t : Fin cfg0.N) (ht : 8 ≤ t.val) (ht' : t.val < 72) :
    bodyPre m c t ⊢ wp frame (wpE (defs₀ (F := F)) Variants.none c none) Set.univ (bodyAt0 t)
      (fun _ => bodyPost m c t (owns (c : Thread nD τ) (ms3 t) fullShare (outAt m c t))) :=
  sound_out m c t _ (fun d h => fill_inv m c t d h) fun d3 d6 hd => by
    have e := runB (grid0.coords t) (iblk m c 0 t) (iblk m c 1 t) (iblk m c 2 t) d3 d6 ((cond1 t).2 (by omega)) ((cond2 t).2 ⟨ht, ht'⟩) (fun h => absurd ((cond3 t).1 h) (by omega))
    rw [slabs m c t ht _ _ _ (off2_eq _) _ (Nat.le_succ _) le_rfl (fill_inv m c t d6 hd)] at e
    unfold outAt
    rwa [if_pos ht']

theorem sound_mid (c : Dev nD) (t : Fin cfg0.N) (ht : 72 ≤ t.val) (ht' : t.val < 96) :
    bodyPre m c t ⊢ wp frame (wpE (defs₀ (F := F)) Variants.none c none) Set.univ (bodyAt0 t)
      (fun _ => bodyPost m c t (owns (c : Thread nD τ) (ms3 t) fullShare (outAt m c t))) :=
  sound_out m c t _ (fun d h => fill_inv m c t d h) fun d3 d6 hd => by
    have e := runC (grid0.coords t) (iblk m c 0 t) (iblk m c 1 t) (iblk m c 2 t) d3 d6 ((cond1 t).2 ht') (fun h => absurd ((cond2 t).1 h).2 (by omega)) ((cond3 t).2 ht)
    rw [slabs m c t (by omega) _ _ _ (off3_eq _) _ (Nat.le_succ _) le_rfl (fill_inv m c t d6 hd)] at e
    unfold outAt
    rwa [if_neg (by omega)]

theorem sound_last (c : Dev nD) (t : Fin cfg0.N) (ht : 96 ≤ t.val) :
    bodyPre m c t ⊢ wp frame (wpE (defs₀ (F := F)) Variants.none c none) Set.univ (bodyAt0 t)
      (fun _ => bodyPost m c t (owns (c : Thread nD τ) (ms3 t) fullShare (outAt m c t))) :=
  sound_out m c t id (fun d h => Slots.inv_skip 8 12 (.inl ⟨rfl, rfl⟩) _ d _ ht h) fun d3 d6 hd => by
    have e := runD (grid0.coords t) (iblk m c 0 t) (iblk m c 1 t) (iblk m c 2 t) d3 d6 (fun h => absurd ((cond1 t).1 h) (by omega)) (fun h => absurd ((cond2 t).1 h).2 (by omega))
      ((cond3 t).2 (by omega))
    rw [slabs m c t (by omega) _ _ _ (off3_eq _) _ le_rfl (Nat.le_succ _) hd] at e
    unfold outAt
    rwa [if_neg (by omega)]

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases ht : t.val < 8
  · rw [idle3, flush3, decide_eq_true ht, decide_eq_false (by omega : ¬ 8 ≤ t.val)]
    exact triple_restated (sound_first m c t ht) rfl .rfl fun _ => .rfl
  · rw [idle3, decide_eq_false ht]
    by_cases h1 : t.val < 72
    · exact triple_restated (sound_norm m c t (by omega) h1) rfl .rfl fun _ => .rfl
    by_cases h2 : t.val < 96
    · exact triple_restated (sound_mid m c t (by omega) h2) rfl .rfl fun _ => .rfl
    · exact triple_restated (sound_last m c t (by omega)) rfl .rfl fun _ => .rfl

/-! ## The run -/

theorem hin (c : Dev nD) : Pipeline.ΦA spec0 c ⊢ (dats (F := F) m 0 c).Φ 0 := by
  rw [PhiA0_eq]
  show _ ⊢ PhiAt m c 0
  unfold PhiAt
  iintro ⟨⟨%d6, S6⟩, Hg⟩
  isplitl [S6]
  · iexists d6
    isplitr
    · ipureintro; exact Slots.inv_zero _ _ _ _
    iexact S6
  iexact Hg

theorem hout (c : Dev nD) : (dats (F := F) m 0 c).Φ (Fin.last cfg0.N) ⊢ Pipeline.ΦA spec0 c := by
  rw [PhiA0_eq]
  show PhiAt m c _ ⊢ _
  unfold PhiAt
  iintro ⟨⟨%d6, %hd, S6⟩, Hg⟩
  isplitl [S6]
  · iexists d6; iexact S6
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ w => by match w with | 0 => rfl | 1 => rfl | 2 => rfl | 3 => rfl)
    (howed := fun _ _ => rfl) (V := V m) (hmain := hmain m Variants.none) (hA := A_eq m) (hin := hin m) (hout := hout m)

/-- The arguments are as launched. -/
theorem kept {r} (h : (Pipeline.FramePost cfgs (dats m) 0 (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_kept m c main_arg0 (by decide)))),
    ((h c).1 1).trans (((dats m 0 c).arrAt_in 1 rfl _).trans ((A_eq m c 1).trans (V_kept m c main_arg1 (by decide)))),
    ((h c).2 main_arg2 (Pipeline.mem_restRefs_of main_arg2 (by decide) (by decide))).trans (V_kept m c main_arg2 (by decide)),
    ((h c).2 main_arg3 (Pipeline.mem_restRefs_of main_arg3 (by decide) (by decide))).trans (V_kept m c main_arg3 (by decide))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨kept m h.1, h.2⟩) (run_main_quiescent m ρ)

end Cert.Proof.Qkv

end
-- ==== Proof.QkvAt.lean ====
/- The arithmetic of the projection's body at one entry, over the reals. -/
module

public import proofs.«01_k».proof.Proof.QkvRun
public import proofs.«01_k».proof.Proof.UpAt

@[expose] public section

set_option maxRecDepth 16384

noncomputable section

namespace Cert.Proof.Qkv

open Cert.Kernel8Ideal Cert.Kernel8Ideal.Gen
open Idealize.ShloMosaic Idealize.ShloMosaic.TcCoe Idealize.ShloMosaic.Tactic Idealize.SL.Sem

theorem pay1_at (x : FVec Ideal S1x512x1024 .f32) (i : Fin 512) (j : Fin 1024) : k0_pay1 (F := Ideal) x (ix3 0 i j) = x (ix3 0 i j) := by
  pointwise [k0_pay1]

theorem pay3_at (x : FVec Ideal S1088x4096 .bf16) (w : FVec Ideal S1x4096x1024 .bf16) (r : Fin 1088) (q : Fin 1024) :
    k0_pay3 (F := Ideal) x w (ix2 r q) = ∑ k : Fin 4096, x (ix2 r k) * w (ix3 0 k q) := by
  pointwise [k0_pay3]

theorem pay4_at (x : FVec Ideal S272x4096 .bf16) (w : FVec Ideal S1x4096x1024 .bf16) (r : Fin 272) (q : Fin 1024) :
    k0_pay4 (F := Ideal) x w (ix2 r q) = ∑ k : Fin 4096, x (ix2 r k) * w (ix3 0 k q) := by
  pointwise [k0_pay4]

/-- An entry `s` of a head whose entries are `f`, normalised, with gain `g`. -/
def normed (s : EReal) (f : Fin 128 → EReal) (g : EReal) : EReal :=
  s * Ideal.rsqrt (Ideal.div (∑ x : Fin 128, f x * f x) (Ideal.ofBits FTy.f32 0x43000000#32) + Ideal.ofBits FTy.f32 0x358637BD#32) * g

theorem headOf_at (a : FVec Ideal S272x128 .f32) (g : FVec Ideal S1x128 .f32) (r : Fin 272) (l : Fin 128) :
    headOf (F := Ideal) a g (ix2 r l) = normed (a (ix2 r l)) (fun x => a (ix2 r x)) (g (ix2 0 l)) := by
  unfold normed
  pointwise [headOf]

theorem slice_at (a : FVec Ideal S272x1024 .f32) (o : ℕ) (ho : o + 128 ≤ 1024) (hs : S272x1024.Slices ![0, o] S272x128) (r : Fin 272) (l : Fin 128) :
    (extractStridedSlice S272x128 ![0, o] a hs : FVec Ideal S272x128 .f32) (ix2 r l) = a (ix2 r ⟨o + l.val, by omega⟩) := by
  pointwise

theorem gain_at (g : FVec Ideal S1x1024 .f32) (o : ℕ) (ho : o + 128 ≤ 1024) (hb) (l : Fin 128) :
    gain (F := Ideal) g ![0, o] hb (ix2 0 l) = g (ix2 0 ⟨o + l.val, by omega⟩) := by
  refine congrArg g (funext fun a => ?_)
  match a with
  | 0 => rfl
  | 1 => exact Fin.ext (by show o + 1 * l.val = o + l.val; omega)

theorem rowsX_at (x : FVec Ideal S1088x4096 .bf16) (o : ℕ) (ho : o + 272 ≤ 1088) (hb) (r : Fin 272) (k : Fin 4096) :
    rowsX (F := Ideal) x ![o, 0] hb (ix2 r k) = x (ix2 ⟨o + r.val, by omega⟩ k) := by
  refine congrArg x (funext fun a => ?_)
  match a with
  | 0 => exact Fin.ext (by show o + 1 * r.val = o + r.val; omega)
  | 1 => exact Fin.ext (by show 0 + 1 * k.val = k.val; omega)

theorem head_at (x : FVec Ideal S272x4096 .bf16) (w : FVec Ideal S1x4096x1024 .bf16) (g : FVec Ideal S1x1024 .f32) (o : ℕ) (ho : o + 128 ≤ 1024)
    (hs : S272x1024.Slices ![0, o] S272x128) (hb) (r : Fin 272) (l : Fin 128) :
    headOf (F := Ideal) (extractStridedSlice S272x128 ![0, o] (k0_pay4 x w) hs) (gain g ![0, o] hb) (ix2 r l)
      = normed (∑ k : Fin 4096, x (ix2 r k) * w (ix3 0 k ⟨o + l.val, by omega⟩)) (fun y => ∑ k : Fin 4096, x (ix2 r k) * w (ix3 0 k ⟨o + y.val, by omega⟩)) (g (ix2 0 ⟨o + l.val, by omega⟩)) := by
  rw [headOf_at, gain_at g o ho]
  simp only [slice_at _ o ho, pay4_at]

set_option maxHeartbeats 1600000 in
/-- Eight heads side by side, at an entry of one. -/
theorem eight (a : Fin 8 → FVec Ideal S272x128 .bf16) (r : Fin 272) (h : Fin 8) (l : Fin 128) :
    (concatenate S272x1024 1 [⟨S272x128, a 0⟩, ⟨S272x128, a 1⟩, ⟨S272x128, a 2⟩, ⟨S272x128, a 3⟩, ⟨S272x128, a 4⟩, ⟨S272x128, a 5⟩, ⟨S272x128, a 6⟩, ⟨S272x128, a 7⟩]
      concatenates_S272x128_S272x128_S272x128_S272x128_S272x128_S272x128_S272x128_S272x128_S272x1024_d1 : FVec Ideal S272x1024 .bf16) (ix2 r ⟨128 * h.val + l.val, by omega⟩) = a h (ix2 r l) := by
  fin_cases h <;> pointwise <;> split_ifs <;> first | (exfalso; omega) | exact congrArg (fun z => a _ (ix2 r z)) (Fin.ext (by dsimp only; omega))

theorem quarter_at (x : FVec Ideal S272x4096 .bf16) (w : FVec Ideal S1x4096x1024 .bf16) (g : FVec Ideal S1x1024 .f32) (r : Fin 272) (h : Fin 8) (l : Fin 128) :
    quarter (F := Ideal) x w g (ix2 r ⟨128 * h.val + l.val, by omega⟩)
      = normed (∑ k : Fin 4096, x (ix2 r k) * w (ix3 0 k ⟨128 * h.val + l.val, by omega⟩)) (fun y => ∑ k : Fin 4096, x (ix2 r k) * w (ix3 0 k ⟨128 * h.val + y.val, by omega⟩))
          (g (ix2 0 ⟨128 * h.val + l.val, by omega⟩)) := by
  unfold quarter
  refine (eight ![_, _, _, _, _, _, _, _] r h l).trans ?_
  fin_cases h <;> exact head_at x w g _ (by decide) _ _ r l

/-- An entry of a block stored as four quarters. -/
theorem put4_at (d : FVec Ideal S1088x1024 .bf16) (a0 a1 a2 a3 : FVec Ideal S272x1024 .bf16) (y : Fin 1088) (q : Fin 1024) (v : EReal)
    (h0 : ∀ r : Fin 272, y.val = 0 + r.val → a0 (ix2 r q) = v) (h1 : ∀ r : Fin 272, y.val = 272 + r.val → a1 (ix2 r q) = v)
    (h2 : ∀ r : Fin 272, y.val = 544 + r.val → a2 (ix2 r q) = v) (h3 : ∀ r : Fin 272, y.val = 816 + r.val → a3 (ix2 r q) = v) :
    put4 (F := Ideal) d a0 a1 a2 a3 (ix2 y q) = v := by
  have step : ∀ (o : ℕ) (d : FVec Ideal S1088x1024 .bf16) (w : FVec Ideal S272x1024 .bf16), (∀ r : Fin 272, y.val = o + r.val → w (ix2 r q) = v) →
      (¬ (o ≤ y.val ∧ y.val < o + 272) → d (ix2 y q) = v) → VecWindow.put (s := S1088x1024) d ![o, 0] S272x1024.size w (ix2 y q) = v := fun o d w hw hd => by
    refine (put_if (F := Ideal) d o w (ix2 y q)).trans ?_
    by_cases hc : o ≤ y.val ∧ y.val < o + 272
    · exact (dif_pos hc).trans (hw ⟨y.val - o, by omega⟩ (by dsimp only; omega))
    · exact (dif_neg hc).trans (hd hc)
  exact step 816 _ _ h3 fun n3 => step 544 _ _ h2 fun n2 => step 272 _ _ h1 fun n1 => step 0 _ _ h0 fun n0 => absurd n0 (by omega)

/-- An entry of the queries' or keys' block. -/
theorem outN_at (x : FVec Ideal S1088x4096 .bf16) (w : FVec Ideal S1x4096x1024 .bf16) (g : FVec Ideal S1x1024 .f32) (y : Fin 1088) (h : Fin 8) (l : Fin 128) :
    outN (F := Ideal) x w g (ix2 y ⟨128 * h.val + l.val, by omega⟩)
      = normed (∑ k : Fin 4096, x (ix2 y k) * w (ix3 0 k ⟨128 * h.val + l.val, by omega⟩)) (fun z => ∑ k : Fin 4096, x (ix2 y k) * w (ix3 0 k ⟨128 * h.val + z.val, by omega⟩))
          (g (ix2 0 ⟨128 * h.val + l.val, by omega⟩)) := by
  have one : ∀ (o : ℕ) (ho : o + 272 ≤ 1088) (hb) (r : Fin 272), y.val = o + r.val → quarter (F := Ideal) (rowsX x ![o, 0] hb) w g (ix2 r ⟨128 * h.val + l.val, by omega⟩)
      = normed (∑ k : Fin 4096, x (ix2 y k) * w (ix3 0 k ⟨128 * h.val + l.val, by omega⟩)) (fun z => ∑ k : Fin 4096, x (ix2 y k) * w (ix3 0 k ⟨128 * h.val + z.val, by omega⟩))
          (g (ix2 0 ⟨128 * h.val + l.val, by omega⟩)) := fun o ho hb r hy => by
    have e : y = ⟨o + r.val, by omega⟩ := Fin.ext hy
    rw [quarter_at, e]
    simp only [rowsX_at x o ho hb]
  unfold outN
  exact put4_at _ _ _ _ _ y _ _ (one 0 (by decide) _) (one 272 (by decide) _) (one 544 (by decide) _) (one 816 (by decide) _)

end Cert.Proof.Qkv

end
-- ==== Proof.QkvValue.lean ====
/- The projection's result, entry by entry, over the reals. -/
module

public import proofs.«01_k».proof.Proof.QkvFrame
public import proofs.«01_k».proof.Proof.QkvAt

@[expose] public section

set_option maxRecDepth 16384

noncomputable section

namespace Cert.Proof.Qkv

open Cert.Kernel8Ideal Cert.Kernel8Ideal.Gen
open Idealize.ShloMosaic Idealize.ShloMosaic.TcCoe Idealize.ShloMosaic.Tactic Idealize.SL.Sem

/-! ## The value -/

/-- A row of tokens times a column of the weights. -/
def dotW (t : FVec Ideal ⟨2, ![8704, 4096]⟩ .bf16) (w : FVec Ideal ⟨3, ![2, 4096, 12288]⟩ .f32) (r : Fin 8704) (q : Fin 12288) : EReal :=
  ∑ k : Fin 4096, t (ix2 r k) * w (ix3 0 k q)

/-- The gain of a lane: of the queries, with the scores' factor, or of the keys. -/
def gainOf (qn kn : FVec Ideal ⟨1, ![128]⟩ .f32) (q : ℕ) : EReal :=
  if q < 4096 then qn (ix1 ⟨q % 128, Nat.mod_lt _ (by decide)⟩) * Ideal.ofBits .f32 0x3E0293EE#32 else kn (ix1 ⟨q % 128, Nat.mod_lt _ (by decide)⟩)

/-- An entry: of the queries and keys normalised over its head, of the values the product. -/
def val (t : FVec Ideal ⟨2, ![8704, 4096]⟩ .bf16) (w : FVec Ideal ⟨3, ![2, 4096, 12288]⟩ .f32) (qn kn : FVec Ideal ⟨1, ![128]⟩ .f32) (r : Fin 8704) (q : Fin 12288) : EReal :=
  if h : q.val < 8192 then normed (dotW t w r q) (fun l => dotW t w r ⟨128 * (q.val / 128) + l.val, by omega⟩) (gainOf qn kn q) else dotW t w r q

/-- The result. -/
def G (t : FVec Ideal ⟨2, ![8704, 4096]⟩ .bf16) (w : FVec Ideal ⟨3, ![2, 4096, 12288]⟩ .f32) (qn kn : FVec Ideal ⟨1, ![128]⟩ .f32) : FVec Ideal S8704x12288 .bf16 := fun i =>
  val t w qn kn ⟨(i 0 : ℕ) % 8704, by omega⟩ ⟨(i 1 : ℕ) % 12288, by omega⟩

/-! ## The blocks -/

theorem idx0 : ∀ t : Fin cfg0.N, 8 ≤ t.val → win0_0.index t = ![t.val % 8, 0] ∧ win0_3.index t = ![t.val % 8, t.val / 8 - 1] ∧ win0_2.index t = ![0, t.val / 8 - 1] :=
  (by decide +kernel : ∀ t : Fin grid0.N, 8 ≤ t.val → win0_0.index t = ![t.val % 8, 0] ∧ win0_3.index t = ![t.val % 8, t.val / 8 - 1] ∧ win0_2.index t = ![0, t.val / 8 - 1])
theorem idx1 : ∀ t : Fin cfg0.N, t.val < 96 → win0_1.index t = ![0, t.val % 8, t.val / 8] :=
  (by decide +kernel : ∀ t : Fin grid0.N, t.val < 96 → win0_1.index t = ![0, t.val % 8, t.val / 8])

/-- One head's gains, repeated for every head. -/
def rep (v : FVec Ideal S128 .f32) : FVec Ideal S4096 .f32 :=
  shapeCast S4096 (broadcastInDim S32x128 ![0, 1] bcast_S1x128_S32x128_0_1 (shapeCast S1x128 v shapeCasts_S128_S1x128)) shapeCasts_S32x128_S4096

/-- Three rows of lanes, end to end. -/
def three (u v w : FVec Ideal S4096 .f32) : FVec Ideal S1x12288 .f32 :=
  shapeCast _ (concatenate S12288 0 [⟨S4096, u⟩, ⟨S4096, v⟩, ⟨S4096, w⟩] concatenates_S4096_S4096_S4096_S12288_d0) shapeCasts_S12288_S1x12288

/-- The gains the host lays out, lane by lane. -/
def lanes (qn kn : FVec Ideal S128 .f32) : FVec Ideal S1x12288 .f32 :=
  three (rep (mulf qn (broadcastInDim S128 ![] bcast_S_S128 (constant S_ .f32 0x3E0293EE#32)))) (rep kn) (broadcastInDim S4096 ![] bcast_S_S4096 (constant S_ .f32 0x3F800000#32))

theorem rep_at (v : FVec Ideal S128 .f32) (q : Fin 4096) : rep v (ix1 q) = v (ix1 ⟨q.val % 128, Nat.mod_lt _ (by decide)⟩) := by
  pointwise [rep]

theorem three_at (u v w : FVec Ideal S4096 .f32) (q : Fin 12288) (hq : q.val < 8192) :
    three u v w (ix2 0 q) = if h : q.val < 4096 then u (ix1 ⟨q.val, h⟩) else v (ix1 ⟨q.val - 4096, by omega⟩) := by
  pointwise [three]
  split_ifs <;> first | rfl | (exfalso; omega)

theorem factor_at (v : FVec Ideal S128 .f32) (l : Fin 128) :
    (mulf (F := Ideal) v (broadcastInDim S128 ![] bcast_S_S128 (constant S_ .f32 0x3E0293EE#32)) : FVec Ideal S128 .f32) (ix1 l) = v (ix1 l) * Ideal.ofBits .f32 0x3E0293EE#32 := by
  pointwise

theorem lanes_at (qn kn : FVec Ideal S128 .f32) (q : Fin 12288) (hq : q.val < 8192) : lanes qn kn (ix2 0 q) = gainOf qn kn q := by
  unfold lanes gainOf
  rw [three_at _ _ _ _ hq]
  by_cases h : q.val < 4096
  · rw [dif_pos h, if_pos h, rep_at, factor_at]
  · rw [dif_neg h, if_neg h, rep_at]
    exact congrArg kn (congrArg ix1 (Fin.ext (by show (q.val - 4096) % 128 = q.val % 128; omega)))

variable (m : (ℓ : Loc nD τ sig) → Buf (Elt Ideal) ℓ) (c : Dev nD) (t : Fin cfg0.N)

def tok : FVec Ideal S8704x4096 .bf16 := m ((c.tc : Thread nD τ).loc main_arg0)
def wgt : FVec Ideal S2x4096x12288 .f32 := m ((c.tc : Thread nD τ).loc main_arg1)
def qg : FVec Ideal S128 .f32 := m ((c.tc : Thread nD τ).loc main_arg2)
def kg : FVec Ideal S128 .f32 := m ((c.tc : Thread nD τ).loc main_arg3)

theorem V_v10 : (V m c main_v10 : FVec Ideal S1x12288 .f32) = lanes (qg m c) (kg m c) := by
  unfold V qg kg lanes three rep
  simp only [hostOps0]
  after_results <;> rfl

theorem blk0 (ht : 8 ≤ t.val) (y : Fin 1088) (k : Fin 4096) : (iblk (F := Ideal) m c 0 t : FVec Ideal S1088x4096 .bf16) (ix2 y k)
    = tok m c (ix2 ⟨1088 * (t.val % 8) + y, by omega⟩ k) := by
  have e : (V m c main_arg0 : FVec Ideal S8704x4096 .bf16) = tok m c := V_kept m c main_arg0 (by decide)
  rw [← e]
  blk_ext [iblk, (idx0 t ht).1]
theorem blk1 (ht : t.val < 96) (i : Fin 512) (j : Fin 1024) : (iblk (F := Ideal) m c 1 t : FVec Ideal S1x512x1024 .f32) (ix3 0 i j)
    = wgt m c (ix3 0 ⟨512 * (t.val % 8) + i, by omega⟩ ⟨1024 * (t.val / 8) + j, by omega⟩) := by
  have e : (V m c main_arg1 : FVec Ideal S2x4096x12288 .f32) = wgt m c := V_kept m c main_arg1 (by decide)
  rw [← e]
  blk_ext [iblk, (idx1 t ht)]
theorem blk2 (ht : 8 ≤ t.val) (q : Fin 1024) : (iblk (F := Ideal) m c 2 t : FVec Ideal S1x1024 .f32) (ix2 0 q)
    = lanes (qg m c) (kg m c) (ix2 0 ⟨1024 * (t.val / 8 - 1) + q, by have := N_lt t; omega⟩) := by
  rw [← V_v10]
  blk_ext [iblk, (idx0 t ht).2.2]

/-- A slot holds a column block of the weights. -/
theorem slabW (T : ℕ) (hT : T < 12) (k : Fin 4096) (q : Fin 1024) :
    slabOf (F := Ideal) (wB m c) T (ix3 0 k q) = wgt m c (ix3 0 k ⟨1024 * T + q, by omega⟩) := by
  show k0_pay1 (F := Ideal) (iblk m c 1 (at_ (8 * T + k.val / 512))) (ix3 (0 : Fin 1) (⟨k.val % 512, Nat.mod_lt _ (by decide)⟩ : Fin 512) q) = _
  have e : (at_ (8 * T + k.val / 512)).val = 8 * T + k.val / 512 := Nat.mod_eq_of_lt (by omega)
  rw [pay1_at, blk1 m c _ (by omega)]
  congr 2 <;> ext <;> simp only [e] <;> omega

/-- What a point leaves in the output's block. -/
theorem point (ht : 8 ≤ t.val) (y : Fin 1088) (q : Fin 1024) :
    (outAt (F := Ideal) m c t : FVec Ideal S1088x1024 .bf16) (ix2 y q)
      = val (tok m c) (wgt m c) (qg m c) (kg m c) ⟨1088 * (t.val % 8) + y, by omega⟩ ⟨1024 * (t.val / 8 - 1) + q, by have := N_lt t; omega⟩ := by
  have hl := N_lt t
  unfold outAt val
  by_cases h : t.val < 72
  · rw [if_pos h, dif_pos (show 1024 * (t.val / 8 - 1) + q.val < 8192 by omega)]
    have eq : q = ⟨128 * (q.val / 128) + q.val % 128, by omega⟩ := Fin.ext (by dsimp only; omega)
    have e := outN_at (iblk m c 0 t) (slabOf (wB m c) (t.val / 8 - 1)) (iblk m c 2 t) y ⟨q.val / 128, by omega⟩ ⟨q.val % 128, Nat.mod_lt _ (by decide)⟩
    simp only at e
    rw [← eq] at e
    rw [e, blk2 m c t ht, lanes_at _ _ _ (show 1024 * (t.val / 8 - 1) + q.val < 8192 by omega)]
    simp only [blk0 m c t ht, slabW m c (t.val / 8 - 1) (by omega)]
    unfold dotW
    congr 1
    funext z
    refine Finset.sum_congr rfl fun k _ => ?_
    congr 3
    ext
    dsimp only
    omega
  · rw [if_neg h, dif_neg (show ¬ 1024 * (t.val / 8 - 1) + q.val < 8192 by omega), pay3_at]
    simp only [blk0 m c t ht, slabW m c (t.val / 8 - 1) (by omega)]
    rfl

/-- The result array, after the run. -/
theorem final (i : S8704x12288.Idx) : (dats m 0 c).arrAt 3 (cfgs 0).N i = G (tok m c) (wgt m c) (qg m c) (kg m c) i := by
  refine ((dats m 0 c).arrAt_apply_of_coversWhere 3 (G (tok m c) (wgt m c) (qg m c) (kg m c)) (P := fun i : S8704x12288.Idx => True) (fun β => True) (by decide +kernel) (fun t hf y => ?_)
    (fun j => by blk_simp [Pipeline.Window.cell_apply]) i).trans (if_pos trivial)
  rw [flush3] at hf
  have ht : 8 ≤ t.val := of_decide_eq_true hf
  blk_simp
  rw [after_3]
  have hl := N_lt t
  have l0 : (y 0 : ℕ) < 1088 := ((cfg0.win 3).xinj (cfg0.grid.coords t) y 0).isLt
  have l1 : (y 1 : ℕ) < 1024 := ((cfg0.win 3).xinj (cfg0.grid.coords t) y 1).isLt
  have e : (cfg0.win 3).xinj (cfg0.grid.coords t) y = (ix2 ⟨y 0, l0⟩ ⟨y 1, l1⟩ : S1088x1024.Idx) := by
    funext a; fin_cases a <;> rfl
  have g0 : (((win0_3.blk t).view.emb y : S8704x12288.Idx) 0 : ℕ) = 1088 * (t.val % 8) + y 0 := by blk_simp [(idx0 t ht).2.1]; ring
  have g1 : (((win0_3.blk t).view.emb y : S8704x12288.Idx) 1 : ℕ) = 1024 * (t.val / 8 - 1) + y 1 := by blk_simp [(idx0 t ht).2.1]; ring
  refine (congrArg (outAt m c t) e).trans ((point m c t ht _ _).trans ?_)
  unfold G
  congr 1 <;> ext <;> simp only [g0, g1] <;> omega

end Cert.Proof.Qkv

end
-- ==== Proof.QkvRef.lean ====
/- The reference's projection, entry by entry. -/
module

public import proofs.«01_k».proof.Proof.Gen.Reference8Ideal.Run
public import proofs.«01_k».proof.Proof.QkvValue

@[expose] public section

set_option maxRecDepth 16384

noncomputable section

namespace Cert.Proof.QkvRef

open Cert.Reference8Ideal Cert.Reference8Ideal.Gen Cert.Reference8Ideal.Value Idealize.ShloMosaic Idealize.ShloMosaic.TcCoe Idealize.ShloMosaic.Tactic Idealize.SL.Sem
open Cert.Reference8Ideal.Facts
open Cert.Proof.Qkv (dotW normed gainOf val G)

section
variable {F : FTy → Type} [FloatOps F]

/-- Every token times the layer's weights. -/
def dots (t : FVec F S8704x4096 .bf16) (w : FVec F S2x4096x12288 .f32) : FVec F S8704x12288 .f32 :=
  Host.dotGeneral dot_S8704x4096_S4096x12288_S8704x12288_1_0_0_1_n_n none (extf .f32 t bitsLt_bf16_f32)
    (shapeCast _ (extractStridedSlice S1x4096x12288 ![0, 0, 0] w slices_S2x4096x12288_S1x4096x12288_0_0_0) shapeCasts_S1x4096x12288_S4096x12288)

/-- A third of the lanes, head by head. -/
def cut (o : ℕ) (hs : S8704x12288.Slices ![0, o] S8704x4096) (a : FVec F S8704x12288 .f32) : FVec F S8704x32x128 .f32 :=
  shapeCast _ (extractStridedSlice S8704x4096 ![0, o] a hs) shapeCasts_S8704x4096_S8704x32x128

/-- Heads normalised, with the gains. -/
def nrm (y : FVec F S8704x32x128 .f32) (g : FVec F S128 .f32) : FVec F S8704x4096 .f32 :=
  shapeCast _ (mulf (mulf y (broadcastInDim S8704x32x128 ![0, 1, 2] bcast_S8704x32x1_S8704x32x128_0_1_2 (Host.rsqrt (addf (Host.divf (broadcastInDim S8704x32x1 ![0, 1] bcast_S8704x32_S8704x32x1_0_1 (Host.reduceAdd (mulf y y) (constant S_ .f32 0x00000000#32) reducesTo_S8704x32x128_S8704x32_d2 h_S_)) (broadcastInDim S8704x32x1 ![] bcast_S_S8704x32x1 (constant S_ .f32 0x43000000#32))) (broadcastInDim S8704x32x1 ![] bcast_S_S8704x32x1 (constant S_ .f32 0x358637BD#32)))))) (broadcastInDim S8704x32x128 ![0, 1, 2] bcast_S1x1x128_S8704x32x128_0_1_2 (broadcastInDim S1x1x128 ![2] bcast_S128_S1x1x128_2 g))) shapeCasts_S8704x32x128_S8704x4096

/-- Lanes with the scores' factor. -/
def scaled (y : FVec F S8704x4096 .f32) : FVec F S8704x4096 .f32 := mulf y (broadcastInDim S8704x4096 ![] bcast_S_S8704x4096 (constant S_ .f32 0x3E0293EE#32))

/-- Queries, keys and values side by side. -/
def side (q k v : FVec F S8704x4096 .f32) : FVec F S8704x12288 .bf16 :=
  truncf .bf16 (concatenate S8704x12288 1 [⟨S8704x4096, q⟩, ⟨S8704x4096, k⟩, ⟨S8704x4096, v⟩] concatenates_S8704x4096_S8704x4096_S8704x4096_S8704x12288_d1) bitsLt_bf16_f32

/-- The result. -/
def out (t : FVec F S8704x4096 .bf16) (w : FVec F S2x4096x12288 .f32) (qn kn : FVec F S128 .f32) : FVec F S8704x12288 .bf16 :=
  side (scaled (nrm (cut 0 slices_S8704x12288_S8704x4096_0_0 (dots t w)) qn)) (nrm (cut 4096 slices_S8704x12288_S8704x4096_0_4096 (dots t w)) kn)
    (extractStridedSlice S8704x4096 ![0, 8192] (dots t w) slices_S8704x12288_S8704x4096_0_8192)
end

theorem dots_at (t : FVec Ideal S8704x4096 .bf16) (w : FVec Ideal S2x4096x12288 .f32) (r : Fin 8704) (q : Fin 12288) :
    dots (F := Ideal) t w (ix2 r q) = dotW t w r q := by
  unfold dotW
  pointwise [dots]

theorem slice_at (o : ℕ) (ho : o + 4096 ≤ 12288) (hs : S8704x12288.Slices ![0, o] S8704x4096) (a : FVec Ideal S8704x12288 .f32) (r : Fin 8704) (q : Fin 4096) :
    (extractStridedSlice S8704x4096 ![0, o] a hs : FVec Ideal S8704x4096 .f32) (ix2 r q) = a (ix2 r ⟨o + q.val, by omega⟩) := by
  pointwise

theorem heads_at (a : FVec Ideal S8704x4096 .f32) (r : Fin 8704) (h : Fin 32) (l : Fin 128) :
    (shapeCast S8704x32x128 a shapeCasts_S8704x4096_S8704x32x128 : FVec Ideal S8704x32x128 .f32) (ix3 r h l) = a (ix2 r ⟨128 * h.val + l.val, by omega⟩) := by
  pointwise
  exact congrArg (fun z => a (ix2 r z)) (Fin.ext (by dsimp only; omega))

theorem cut_at (o : ℕ) (ho : o + 4096 ≤ 12288) (hs : S8704x12288.Slices ![0, o] S8704x4096) (a : FVec Ideal S8704x12288 .f32) (r : Fin 8704) (h : Fin 32) (l : Fin 128) :
    cut (F := Ideal) o hs a (ix3 r h l) = a (ix2 r ⟨o + (128 * h.val + l.val), by omega⟩) :=
  (heads_at _ r h l).trans (slice_at o ho hs a r _)

theorem nrm_at (y : FVec Ideal S8704x32x128 .f32) (g : FVec Ideal S128 .f32) (r : Fin 8704) (q : Fin 4096) :
    nrm (F := Ideal) y g (ix2 r q) = normed (y (ix3 r ⟨q.val / 128, by omega⟩ ⟨q.val % 128, Nat.mod_lt _ (by decide)⟩)) (fun l => y (ix3 r ⟨q.val / 128, by omega⟩ l)) (g (ix1 ⟨q.val % 128, Nat.mod_lt _ (by decide)⟩)) := by
  unfold normed
  pointwise [nrm]

theorem scaled_at (y : FVec Ideal S8704x4096 .f32) (r : Fin 8704) (q : Fin 4096) : scaled (F := Ideal) y (ix2 r q) = y (ix2 r q) * Ideal.ofBits .f32 0x3E0293EE#32 := by
  pointwise [scaled]

theorem side_at (a b c : FVec Ideal S8704x4096 .f32) (r : Fin 8704) (q : Fin 12288) :
    side (F := Ideal) a b c (ix2 r q) = if h : q.val < 4096 then a (ix2 r ⟨q.val, h⟩) else if h' : q.val < 8192 then b (ix2 r ⟨q.val - 4096, by omega⟩) else c (ix2 r ⟨q.val - 8192, by omega⟩) := by
  pointwise [side]
  split_ifs with h1 h2 h3 <;> try (first | rfl | (exfalso; omega))
  · rw [dif_pos (by omega)]
  · rw [dif_neg (by omega)]
    exact congrArg (fun z => c (ix2 r z)) (Fin.ext (Nat.sub_sub _ _ _))

/-- A third of the lanes normalised, at a lane of the whole. -/
theorem third_at (t : FVec Ideal S8704x4096 .bf16) (w : FVec Ideal S2x4096x12288 .f32) (g : FVec Ideal S128 .f32) (o : ℕ) (ho : o + 4096 ≤ 12288) (hs) (r : Fin 8704) (q : Fin 12288)
    (hq : q.val < 8192) (h : o ≤ q.val ∧ q.val < o + 4096) (hd : o % 128 = 0) :
    nrm (F := Ideal) (cut o hs (dots t w)) g (ix2 r ⟨q.val - o, by omega⟩)
      = normed (dotW t w r q) (fun l => dotW t w r ⟨128 * (q.val / 128) + l.val, by omega⟩) (g (ix1 ⟨q.val % 128, Nat.mod_lt _ (by decide)⟩)) := by
  rw [nrm_at]
  simp only [cut_at o ho, dots_at]
  have e : ∀ (a b : Fin 12288), a.val = b.val → dotW t w r a = dotW t w r b := fun a b hab => congrArg _ (Fin.ext hab)
  have e1 := e ⟨o + (128 * ((q.val - o) / 128) + (q.val - o) % 128), by omega⟩ q (by dsimp only; omega)
  have e2 : (fun l : Fin 128 => dotW t w r ⟨o + (128 * ((q.val - o) / 128) + l.val), by omega⟩) = fun l : Fin 128 => dotW t w r ⟨128 * (q.val / 128) + l.val, by omega⟩ :=
    funext fun l => e _ _ (by dsimp only; omega)
  have e3 : (⟨(q.val - o) % 128, Nat.mod_lt _ (by decide)⟩ : Fin 128) = ⟨q.val % 128, Nat.mod_lt _ (by decide)⟩ := Fin.ext (by dsimp only; omega)
  exact (congr (congrArg₂ normed e1 e2) (congrArg (fun z => g (ix1 z)) e3))

/-- The reference's result is the kernel's. -/
theorem res (t : FVec Ideal S8704x4096 .bf16) (w : FVec Ideal S2x4096x12288 .f32) (qn kn : FVec Ideal S128 .f32) : out (F := Ideal) t w qn kn = G t w qn kn := by
  funext i
  have l0 : (i 0 : ℕ) < 8704 := (i 0).isLt
  have l1 : (i 1 : ℕ) < 12288 := (i 1).isLt
  have e : i = (ix2 ⟨(i 0 : ℕ) % 8704, by omega⟩ ⟨(i 1 : ℕ) % 12288, by omega⟩ : S8704x12288.Idx) := by
    funext a
    match a with
    | 0 => exact Fin.ext (Nat.mod_eq_of_lt l0).symm
    | 1 => exact Fin.ext (Nat.mod_eq_of_lt l1).symm
  refine (congrArg (out (F := Ideal) t w qn kn) e).trans ?_
  unfold out G val gainOf
  generalize (⟨(i 0 : ℕ) % 8704, _⟩ : Fin 8704) = r
  generalize (⟨(i 1 : ℕ) % 12288, _⟩ : Fin 12288) = q
  rw [side_at]
  by_cases h : q.val < 4096
  · rw [dif_pos h, dif_pos (by omega), if_pos h, scaled_at]
    refine (congrArg (· * _) (third_at t w qn 0 (by decide) _ r q (by omega) (by omega) rfl)).trans ?_
    exact mul_assoc _ _ _
  · rw [dif_neg h, if_neg h]
    by_cases h' : q.val < 8192
    · rw [dif_pos h', dif_pos h']
      exact third_at t w kn 4096 (by decide) _ r q h' (by omega) rfl
    · rw [dif_neg h', dif_neg h', slice_at 8192 (by decide), dots_at]
      exact congrArg _ (Fin.ext (by dsimp only; omega))

end Cert.Proof.QkvRef

end
-- ==== Proof.Qkv.lean ====
module

public import proofs.«01_k».proof.Defs
public import proofs.«01_k».proof.Proof.QkvRef
public import proofs.«01_k».proof.Proof.Gen.Kernel8
public import Idealize.ShloMosaic.Lib.Quiescent

@[expose] public section

set_option maxRecDepth 16384

noncomputable section

/-! # The claims about the projection of queries, keys and values -/

namespace Cert.Proof.QkvHeads

open Idealize.ShloMosaic Idealize.ShloMosaic.TcCoe Idealize.SL.Sem

attribute [local instance] Cert.Kernel8.Gen.facts Cert.Kernel8Ideal.Gen.facts Cert.Reference8Ideal.Gen.facts

/-- The two programs' bodies are one text. -/
theorem body_eq : Cert.Kernel8.defs₀ (F := Bits) = Cert.Kernel8Ideal.defs₀ (F := Bits) := by
  unfold Cert.Kernel8.defs₀ Cert.Kernel8Ideal.defs₀
  refine congrArg Defs.onTc ?_
  funext l x
  match l, x with
  | 0, (t, s) => rfl

theorem defs_eq : Cert.Kernel8.defs (F := Bits) = Cert.Kernel8Ideal.defs (F := Bits) := by
  unfold Cert.Kernel8.defs Cert.Kernel8Ideal.defs
  rw [body_eq]
  rfl

theorem frame : Cert.quiescent_Kernel8 := fun m ρ _ => by
  rw [defs_eq]
  exact (θ_run Cert.Kernel8Ideal.defs _ _).mono (fun _ h => h) (Qkv.frame (F := Bits) m ρ)

theorem frame_ideal : Cert.quiescent_Kernel8Ideal := fun m ρ _ => Qkv.frame (F := Ideal) m ρ

theorem frame_ref : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)

theorem algebraic : Cert.algebraic_Kernel8Ideal_Reference8Ideal := by
  intro m ρ m' ρ' _ hagree
  refine ⟨fun c => Qkv.G (Qkv.tok m c) (Qkv.wgt m c) (Qkv.qg m c) (Qkv.kg m c), ?_, ?_⟩
  · exact (θ_run Cert.Kernel8Ideal.defs _ _).mono
      (fun _ h c => ⟨((h.1 c).1 3).trans (funext (Qkv.final m c)), Qkv.kept m h.1 c⟩)
      (Qkv.run_main_quiescent (F := Ideal) m ρ)
  · refine (θ_run Cert.Reference8Ideal.defs _ _).mono (fun _ h c => ⟨(h c).1.trans ?_, (h c).2⟩)
      (Cert.Reference8Ideal.Value.run (F := Ideal) m' ρ')
    obtain ⟨e0, e1, e2, e3⟩ := hagree c
    unfold Cert.Reference8Ideal.Value.res_main_v40
    rw [e0, e1, e2, e3]
    exact QkvRef.res (Qkv.tok m c) (Qkv.wgt m c) (Qkv.qg m c) (Qkv.kg m c)

end Cert.Proof.QkvHeads

end
-- ==== Proof.ProjRun.lean ====
/- The run of the output projection's body at each kind of grid point: what it leaves in the weight buffer it fills over the
   grid and in the output's block. -/
module

public import proofs.«01_k».proof.Proof.Gen.Kernel9Ideal.Launch
public import proofs.«01_k».proof.Proof.Gen.Kernel9Ideal.Skeleton
public import proofs.«01_k».proof.Proof.Gen.Kernel9Ideal.Points
public import proofs.«01_k».proof.Proof.MidRun
public import proofs.«01_k».proof.Proof.Slots

@[expose] public section

set_option maxRecDepth 16384

noncomputable section

namespace Cert.Proof.Proj

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Mid (topX botX topR botR mod0 mod1 mod2 halves)

variable {F : FTy → Type} [FloatOps F]

local notation "𝕄" => MT nD τ sig Unit (Elt F) ℕ (UR sig nD τ) ℕ

/-- A grid point from its three coordinates. -/
def pt (a : Fin 1) (b : Fin 9) (d : Fin 8) : grid0.Coords := fun | 0 => a | 1 => b | 2 => d

theorem pt_eq (i : grid0.Coords) : i = pt (i 0) (i 1) (i 2) := by funext a; match a with | 0 => rfl | 1 => rfl | 2 => rfl

theorem off1_eq (i : grid0.Coords) : k0_off1 i = ![(i 1).val % 2, 512 * (i 2).val, 0] := by
  have h : ∀ (a : Fin 1) (b : Fin 9) (d : Fin 8), k0_off1 (pt a b d) = ![b.val % 2, 512 * d.val, 0] := by decide +kernel
  have e := h (i 0) (i 1) (i 2)
  rwa [← pt_eq i] at e
theorem off2_eq (i : grid0.Coords) : k0_off2 i = ![((i 1).val + 1) % 2, 0, 0] := by
  have h : ∀ (a : Fin 1) (b : Fin 9) (d : Fin 8), k0_off2 (pt a b d) = ![(b.val + 1) % 2, 0, 0] := by decide +kernel
  have e := h (i 0) (i 1) (i 2)
  rwa [← pt_eq i] at e

instance (i : grid0.Coords) : ClosedOff (k0_off1 i) := ⟨_, off1_eq i⟩
instance (i : grid0.Coords) : ClosedOff (k0_off2 i) := ⟨_, off2_eq i⟩

/-- The weight buffer with one block of rows put where the point stores it. -/
def fillW (i : grid0.Coords) (d : Vec F S2x4096x512 .bf16) (w : FVec F S1x512x512 .bf16) : Vec F S2x4096x512 .bf16 :=
  VecWindow.put (s := S2x4096x512) d (k0_off1 i) S1x512x512.size w

/-- The slot of the weight buffer that the point multiplies by. -/
def slab (i : grid0.Coords) (h : k0_cond2 i = 1#1) (d : Vec F S2x4096x512 .bf16) : Vec F S1x4096x512 .bf16 :=
  VecWindow.window (s := S2x4096x512) d (k0_off2 i) S1x4096x512.size (k0_off2_inb i h)

/-- What a point past the first step leaves in the output's block. -/
def outU (i : grid0.Coords) (x0 : Vec F S1088x4096 .bf16) (x2 : Vec F S1088x512 .f32) (x3 : Vec F S8x512 .f32) (w : Vec F S1x4096x512 .bf16) : Vec F S1088x512 .f32 :=
  VecWindow.put (s := S1088x512) (VecWindow.put (s := S1088x512) (fun _ => FloatOps.ofBits .f32 0) ![0, 0] S544x512.size
      (k0_pay7 (k0_pay3 (topX x0) w) (topR x2) (k0_pay5 (BitVec.ofNat 32 (i 0).val) (BitVec.ofNat 32 (i 2).val) (mod2 x3) (mod1 x3))
        (k0_pay6 (BitVec.ofNat 32 (i 0).val) (BitVec.ofNat 32 (i 2).val)) (mod0 x3)))
    ![544, 0] S544x512.size
    (k0_pay2 (k0_pay8 (botX x0) w) (botR x2) (k0_pay10 (BitVec.ofNat 32 (i 0).val) (BitVec.ofNat 32 (i 2).val) (mod2 x3) (mod1 x3)) (mod0 x3)
      (k0_pay11 (BitVec.ofNat 32 (i 0).val) (BitVec.ofNat 32 (i 2).val)))

/-- The body at a point, from buffers at `x0 x1 x2 x3 d7 d8`, leaves the output's block at `e7` and the weight buffer at `e8`. -/
def Runs (i : grid0.Coords) (x0 : Vec F S1088x4096 .bf16) (x1 : Vec F S1x512x512 .f32) (x2 : Vec F S1088x512 .f32) (x3 : Vec F S8x512 .f32) (d7 e7 : Vec F S1088x512 .f32)
    (d8 e8 : Vec F S2x4096x512 .bf16) : Prop :=
  ∀ (c : Dev nD) (arg3 : Memref sig .tc .vmem S1088x4096 .bf16) (harg3 : arg3.IsWhole) (arg4 : Memref sig .tc .vmem S1x512x512 .f32) (harg4 : arg4.IsWhole)
    (arg5 : Memref sig .tc .vmem S1088x512 .f32) (harg5 : arg5.IsWhole) (arg6 : Memref sig .tc .vmem S8x512 .f32) (harg6 : arg6.IsWhole)
    (arg7 : Memref sig .tc .vmem S1088x512 .f32) (harg7 : arg7.IsWhole) (arg8 : Memref sig .tc .vmem S2x4096x512 .bf16) (harg8 : arg8.IsWhole) (E : Set ℕ) (K : PUnit → sProp 𝕄),
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare d7 ∗ owns (c : Thread nD τ) arg8 fullShare d8
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare e7 ∗ owns (c : Thread nD τ) arg8 fullShare e8) -∗ K ⟨⟩))
      ⊢ wp frame (wpE (defs₀ (F := F)) Variants.none c none) E (cc0_matmul_residual i arg3 harg3 arg4 harg4 arg5 harg5 arg6 harg6 arg7 harg7 arg8 harg8) K

variable (i : grid0.Coords) (x0 : Vec F S1088x4096 .bf16) (x1 : Vec F S1x512x512 .f32) (x2 : Vec F S1088x512 .f32) (x3 : Vec F S8x512 .f32) (d7 : Vec F S1088x512 .f32) (d8 : Vec F S2x4096x512 .bf16)

set_option maxHeartbeats 3200000 in
/-- A point of the first step only fills. -/
theorem runA (h1 : k0_cond1 i = 1#1) (h2 : ¬ k0_cond2 i = 1#1) : Runs i x0 x1 x2 x3 d7 d7 d8 (fillW i d8 (k0_pay1 x1)) := by
  intro c arg3 harg3 arg4 harg4 arg5 harg5 arg6 harg6 arg7 harg7 arg8 harg8 E K
  simp only [cc0_matmul_residual_eq_skeleton]; unfold cc0_matmul_residual_skel
  unfold owns
  iintro ⟨⟨%f0, %hf0, H0⟩, ⟨%f1, %hf1, H1⟩, ⟨%f2, %hf2, H2⟩, ⟨%f3, %hf3, H3⟩, ⟨%f7, %hf7, H7⟩, ⟨%fs, %hs, HS⟩, Hk⟩
  obtain rfl := harg3.eq_unread hf0; obtain rfl := harg4.eq_unread hf1; obtain rfl := harg5.eq_unread hf2
  obtain rfl := harg6.eq_unread hf3; obtain rfl := harg7.eq_unread hf7; obtain rfl := harg8.eq_unread hs
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    exact harg7.read_unread _
  iexists _; isplitr
  swap; · iexact HS
  ipureintro
  rw [View.read_writes_cons_put _ _ _ _ _ rfl, View.writes_nil, hs]
  exact congrArg (fillW i d8) (congrArg k0_pay1 ((View.readAt_full (s := S1x512x512) _ _ _).trans hf1))

set_option maxHeartbeats 3200000 in
/-- A point between fills and multiplies. -/
theorem runB (h1 : k0_cond1 i = 1#1) (h2 : k0_cond2 i = 1#1) :
    Runs i x0 x1 x2 x3 d7 (outU i x0 x2 x3 (slab i h2 (fillW i d8 (k0_pay1 x1)))) d8 (fillW i d8 (k0_pay1 x1)) := by
  intro c arg3 harg3 arg4 harg4 arg5 harg5 arg6 harg6 arg7 harg7 arg8 harg8 E K
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f7, %hf7, H7⟩, ⟨%fs, %hs, HS⟩, Hk⟩
  obtain rfl := harg3.eq_unread hf0; obtain rfl := harg4.eq_unread hf1; obtain rfl := harg5.eq_unread hf2
  obtain rfl := harg6.eq_unread hf3; obtain rfl := harg7.eq_unread hf7; obtain rfl := harg8.eq_unread hs
  sl_exec
  sl_step
  have e8 : arg8.view.read (Elt F) (arg8.view.writes (Elt F) (harg8.unread d8) (runB.sl.HS_1 i x1 h1 c arg4 harg4)) = fillW i d8 (k0_pay1 x1) := by
    delta runB.sl.HS_1; rw [View.read_writes_cons_put _ _ _ _ _ rfl, View.writes_nil, hs]
    exact congrArg (fillW i d8) (congrArg k0_pay1 ((View.readAt_full (s := S1x512x512) _ _ _).trans hf1))
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    delta runB.sl.r runB.sl.r_1 runB.sl.r_2 runB.sl.r_3 runB.sl.r_4 runB.sl.r_5 runB.sl.r_6 runB.sl.r_7 runB.sl.r_8; rw [View.read_writes_cons_put _ _ _ _ _ rfl, View.read_writes_cons_put _ _ _ _ _ rfl, halves _ (fun _ => FloatOps.ofBits .f32 0),
      View.readAt_unit arg3.view _ _ rfl inb_S1088x4096_S544x4096_0_0, View.readAt_unit arg3.view _ _ rfl inb_S1088x4096_S544x4096_544_0, hf0,
      View.readAt_unit arg5.view _ _ rfl inb_S1088x512_S544x512_0_0, View.readAt_unit arg5.view _ _ rfl inb_S1088x512_S544x512_544_0, hf2,
      View.readAt_unit arg6.view _ _ rfl inb_S8x512_S1x512_0_0, View.readAt_unit arg6.view _ _ rfl inb_S8x512_S1x512_1_0,
      View.readAt_unit arg6.view _ _ rfl inb_S8x512_S1x512_2_0, hf3, View.readAt_unit arg8.view _ _ rfl (k0_off2_inb i h2), e8]
    rfl
  iexists _; isplitr
  swap; · iexact HS
  ipureintro
  exact e8

set_option maxHeartbeats 3200000 in
/-- A point of the last step multiplies. -/
theorem runC (h1 : ¬ k0_cond1 i = 1#1) (h2 : k0_cond2 i = 1#1) : Runs i x0 x1 x2 x3 d7 (outU i x0 x2 x3 (slab i h2 d8)) d8 d8 := by
  intro c arg3 harg3 arg4 harg4 arg5 harg5 arg6 harg6 arg7 harg7 arg8 harg8 E K
  simp only [cc0_matmul_residual_eq_skeleton]; unfold cc0_matmul_residual_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f7, %hf7, H7⟩, ⟨%fs, %hs, HS⟩, Hk⟩
  obtain rfl := harg3.eq_unread hf0; obtain rfl := harg4.eq_unread hf1; obtain rfl := harg5.eq_unread hf2
  obtain rfl := harg6.eq_unread hf3; obtain rfl := harg7.eq_unread hf7; obtain rfl := harg8.eq_unread hs
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    delta runC.sl.r runC.sl.r_1 runC.sl.r_2 runC.sl.r_3 runC.sl.r_4 runC.sl.r_5 runC.sl.r_6 runC.sl.r_7 runC.sl.r_8; rw [View.read_writes_cons_put _ _ _ _ _ rfl, View.read_writes_cons_put _ _ _ _ _ rfl, halves _ (fun _ => FloatOps.ofBits .f32 0),
      View.readAt_unit arg3.view _ _ rfl inb_S1088x4096_S544x4096_0_0, View.readAt_unit arg3.view _ _ rfl inb_S1088x4096_S544x4096_544_0, hf0,
      View.readAt_unit arg5.view _ _ rfl inb_S1088x512_S544x512_0_0, View.readAt_unit arg5.view _ _ rfl inb_S1088x512_S544x512_544_0, hf2,
      View.readAt_unit arg6.view _ _ rfl inb_S8x512_S1x512_0_0, View.readAt_unit arg6.view _ _ rfl inb_S8x512_S1x512_1_0,
      View.readAt_unit arg6.view _ _ rfl inb_S8x512_S1x512_2_0, hf3, View.readAt_unit arg8.view _ _ rfl (k0_off2_inb i h2), hs]
    rfl
  iexists _; isplitr
  swap; · iexact HS
  ipureintro
  exact harg8.read_unread _

end Cert.Proof.Proj

end
-- ==== Proof.ProjFrame.lean ====
/- The run of the output projection over its grid, for any values: what the weight buffer and the output's
   block hold after each point, and that the launch ends with the arguments unchanged. -/
module

public import proofs.«01_k».proof.Proof.ProjRun

@[expose] public section

set_option maxRecDepth 16384

noncomputable section

namespace Cert.Proof.Proj

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The weight buffer -/

/-- The slot filled over step `T`. -/
abbrev slabOf (B : ℕ → FVec F S1x512x512 .bf16) (T : ℕ) : Vec F S1x4096x512 .bf16 := Slots.slabOf 8 B T

/-- Before point `n` each slot holds, of each of the 8 steps, the blocks stored and not yet stored over. -/
abbrev Inv (B : ℕ → FVec F S1x512x512 .bf16) (n : ℕ) (d : Vec F S2x4096x512 .bf16) : Prop := Slots.Inv 8 8 B n d

section
variable (B : ℕ → FVec F S1x512x512 .bf16) (d : Vec F S2x4096x512 .bf16)

theorem inv_put (i : grid0.Coords) (n : ℕ) (h0 : (i 1).val = n / 8) (h1 : (i 2).val = n % 8) (hd : Inv B n d) : Inv B (n + 1) (fillW i d (B n)) :=
  Slots.inv_put 8 8 (.inl ⟨rfl, rfl⟩) B d n (k0_off1 i) (by rw [off1_eq, h0, h1]) hd

theorem slab_inv (i : grid0.Coords) (h) (n T : ℕ) (ho : (i 1).val = T + 1) (hT : T < 8) (ha : 8 * (T + 1) ≤ n) (hb : n ≤ 8 * (T + 2)) (hd : Inv B n d) :
    slab i h d = slabOf B T :=
  Slots.slab_inv 8 8 (.inl ⟨rfl, rfl⟩) B d _ (k0_off2_inb i h) T n (by rw [off2_eq, ho, show (T + 1 + 1) % 2 = T % 2 by omega]) hT ha hb hd
end

variable (m : (ℓ : Loc nD τ sig) → Buf (Elt F) ℓ) (ρ : Dev nD → PrngReg)

/-! ## The grid -/

theorem coords (t : Fin cfg0.N) : (grid0.coords t 0).val = 0 ∧ (grid0.coords t 1).val = t.val / 8 ∧ (grid0.coords t 2).val = t.val % 8 :=
  (by decide +kernel : ∀ t : Fin grid0.N, (grid0.coords t 0).val = 0 ∧ (grid0.coords t 1).val = t.val / 8 ∧ (grid0.coords t 2).val = t.val % 8) t
theorem cond1 (t : Fin cfg0.N) : k0_cond1 (grid0.coords t) = 1#1 ↔ t.val < 64 :=
  (by decide +kernel : ∀ t : Fin grid0.N, k0_cond1 (grid0.coords t) = 1#1 ↔ t.val < 64) t
theorem cond2 (t : Fin cfg0.N) : k0_cond2 (grid0.coords t) = 1#1 ↔ 8 ≤ t.val :=
  (by decide +kernel : ∀ t : Fin grid0.N, k0_cond2 (grid0.coords t) = 1#1 ↔ 8 ≤ t.val) t
/-- The output's block is written back at every point that stores it, and at no other. -/
theorem flush4 : ∀ t : Fin cfg0.N, (cfg0.win 4).flush t = decide (8 ≤ t.val) :=
  (by decide +kernel : ∀ t : Fin grid0.N, win0_4.flush t = decide (8 ≤ t.val))
theorem idle4 (t : Fin cfg0.N) : cfg0.idle 4 (cfg0.grid.coords t) = decide (t.val < 8) :=
  (by decide +kernel : ∀ t : Fin grid0.N, idle0 4 (grid0.coords t) = decide (t.val < 8)) t

/-! ## The memory at the region -/

abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => rfl

/-- A window's block at a point, as the array holds it when the region starts. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 (t : Fin cfg0.N) : Memref sig .tc .vmem S1088x4096 .bf16 := win0_0.stage (cfg0.slots t 0)
abbrev ms1 (t : Fin cfg0.N) : Memref sig .tc .vmem S1x512x512 .f32 := win0_1.stage (cfg0.slots t 1)
abbrev ms2 (t : Fin cfg0.N) : Memref sig .tc .vmem S1088x512 .f32 := win0_2.stage (cfg0.slots t 2)
abbrev ms3 (t : Fin cfg0.N) : Memref sig .tc .vmem S8x512 .f32 := win0_3.stage (cfg0.slots t 3)
abbrev ms4 (t : Fin cfg0.N) : Memref sig .tc .vmem S1088x512 .f32 := win0_4.stage (cfg0.slots t 4)
abbrev sc6 : Memref sig .tc .vmem S2x4096x512 .bf16 := Memref.whole cc0_scratch0

theorem PhiA0_eq (c : Dev nD) :
    (Pipeline.ΦA spec0 c : sProp 𝕄) = iprop((∃ d, owns (c : Thread nD τ) sc6 fullShare d) ∗ (∃ r, prngReg c r)) := by
  unfold Pipeline.ΦA; rw [scopedRest0_eq]; simp only [sc6, owns_whole]; try rfl

/-! ## The proof data -/

/-- The grid point with number `n`. -/
def at_ (n : ℕ) : Fin cfg0.N := ⟨n % 72, Nat.mod_lt _ (by decide)⟩

theorem at_val (t : Fin cfg0.N) : at_ t.val = t := Fin.ext (Nat.mod_eq_of_lt t.isLt)

/-- The blocks of the weights, point by point, rounded. -/
def wB (c : Dev nD) (n : ℕ) : FVec F S1x512x512 .bf16 := k0_pay1 (iblk m c 1 (at_ n))

/-- What the output's block holds after a point that stores it. -/
def outAt (c : Dev nD) (t : Fin cfg0.N) : Vec F S1088x512 .f32 :=
  outU (grid0.coords t) (iblk m c 0 t) (iblk m c 2 t) (iblk m c 3 t) (slabOf (wB m c) (t.val / 8 - 1))

/-- The invariant before point `n`: the weight buffer holds the blocks stored so far. -/
def PhiAt (c : Dev nD) (n : ℕ) : sProp 𝕄 :=
  iprop((∃ d6, ⌜Inv (wB m c) n d6⌝ ∗ owns (c : Thread nD τ) sc6 fullShare d6) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiAt m c t.val
  q _ := fullShare
  owed _ := 0

theorem A_eq (c : Dev nD) (w : Fin cfg0.W) : (dats m 0 c).A w = V m c (Pipeline.arrRef spec0 w) := by dsimp only [dats]
theorem after_4 (c : Dev nD) (t : Fin cfg0.N) : (dats m 0 c).after 4 t = outAt m c t := by dsimp only [dats]
theorem bef_0 (c : Dev nD) (t : Fin cfg0.N) (d) : (dats m 0 c).before 0 t d = iblk m c 0 t :=
  (dats m 0 c).before_in_eq_fetched 0 rfl (fun _ => rfl) (fun _ _ _ => rfl) (fun _ => rfl) t d
theorem bef_1 (c : Dev nD) (t : Fin cfg0.N) (d) : (dats m 0 c).before 1 t d = iblk m c 1 t :=
  (dats m 0 c).before_in_eq_fetched 1 rfl (fun _ => rfl) (fun _ _ _ => rfl) (fun _ => rfl) t d
theorem bef_2 (c : Dev nD) (t : Fin cfg0.N) (d) : (dats m 0 c).before 2 t d = iblk m c 2 t :=
  (dats m 0 c).before_in_eq_fetched 2 rfl (fun _ => rfl) (fun _ _ _ => rfl) (fun _ => rfl) t d
theorem bef_3 (c : Dev nD) (t : Fin cfg0.N) (d) : (dats m 0 c).before 3 t d = iblk m c 3 t :=
  (dats m 0 c).before_in_eq_fetched 3 rfl (fun _ => rfl) (fun _ _ _ => rfl) (fun _ => rfl) t d

/-! ## The body at a point -/

/-- What the body is called with at point `t`. -/
def bodyPre (c : Dev nD) (t : Fin cfg0.N) : sProp 𝕄 :=
  iprop(PhiAt m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns, the output's block at `P`. -/
def bodyPost (c : Dev nD) (t : Fin cfg0.N) (P : sProp 𝕄) : sProp 𝕄 :=
  iprop(PhiAt m c (t.val + 1) ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ P)

theorem N_lt (t : Fin cfg0.N) : t.val < 72 := t.isLt

theorem fill_inv (c : Dev nD) (t : Fin cfg0.N) (d) (h : Inv (wB m c) t.val d) : Inv (wB m c) (t.val + 1) (fillW (grid0.coords t) d (k0_pay1 (iblk m c 1 t))) := by
  have e : wB m c t.val = k0_pay1 (iblk m c 1 t) := by unfold wB; rw [at_val]
  rw [← e]; exact inv_put _ d _ _ (coords t).2.1 (coords t).2.2 h

theorem slabs (c : Dev nD) (t : Fin cfg0.N) (ht : 8 ≤ t.val) (d) (h) (n : ℕ) (hn : t.val ≤ n) (hn' : n ≤ t.val + 1) (hd : Inv (wB m c) n d) :
    slab (grid0.coords t) h d = slabOf (wB m c) (t.val / 8 - 1) := by
  have := N_lt t
  exact slab_inv _ d _ h n _ (by rw [(coords t).2.1]; omega) (by omega) (by omega) (by omega) hd

set_option maxHeartbeats 1200000 in
/-- The body at a point, from what its run leaves. -/
theorem sound (c : Dev nD) (t : Fin cfg0.N) (P : sProp 𝕄) (out : Vec F S1088x512 .f32 → Vec F S1088x512 .f32) (wgt : Vec F S2x4096x512 .bf16 → Vec F S2x4096x512 .bf16)
    (hw : ∀ d6, Inv (wB m c) t.val d6 → Inv (wB m c) (t.val + 1) (wgt d6))
    (hrun : ∀ d3 d6, Inv (wB m c) t.val d6 → Runs (grid0.coords t) (iblk m c 0 t) (iblk m c 1 t) (iblk m c 2 t) (iblk m c 3 t) d3 (out d3) d6 (wgt d6))
    (hP : ∀ d, owns (c : Thread nD τ) (ms4 t) fullShare (out ((dats m 0 c).before 4 t d)) ⊢ P) :
    bodyPre m c t ⊢ wp frame (wpE (defs₀ (F := F)) Variants.none c none) Set.univ (bodyAt0 t) (fun _ => bodyPost m c t P) := by
  unfold bodyPre bodyPost bodyAt0 PhiAt
  simp only [bef_0, bef_1, bef_2, bef_3]
  iintro ⟨⟨⟨%d6, %hd, S6⟩, Hg⟩, Ho, ⟨%d0, H0⟩, ⟨%d1, H1⟩, ⟨%d2, H2⟩, ⟨%d3, H3⟩, ⟨%d4, H4⟩⟩
  iapply (hrun _ d6 hd c _ _ _ _ _ _ _ _ _ _ _ _ Set.univ _)
  isplitl [H0]; · iexact H0
  isplitl [H1]; · iexact H1
  isplitl [H2]; · iexact H2
  isplitl [H3]; · iexact H3
  isplitl [H4]; · iexact H4
  isplitl [S6]; · iexact S6
  iintro ⟨H0, H1, H2, H3, H4, S6⟩
  isplitl [S6 Hg]
  · isplitl [S6]
    · iexists _
      isplitr
      · ipureintro; exact hw d6 hd
      iexact S6
    iexact Hg
  isplitl [Ho]; · iexact Ho
  isplitl [H0]; · iexact H0
  isplitl [H1]; · iexact H1
  isplitl [H2]; · iexact H2
  isplitl [H3]; · iexact H3
  iapply (hP d4)
  iexact H4

/-- A point past the first step leaves the output's block at its value. -/
theorem sound_out (c : Dev nD) (t : Fin cfg0.N) (wgt : Vec F S2x4096x512 .bf16 → Vec F S2x4096x512 .bf16)
    (hw : ∀ d6, Inv (wB m c) t.val d6 → Inv (wB m c) (t.val + 1) (wgt d6))
    (hrun : ∀ d3 d6, Inv (wB m c) t.val d6 → Runs (grid0.coords t) (iblk m c 0 t) (iblk m c 1 t) (iblk m c 2 t) (iblk m c 3 t) d3 (outAt m c t) d6 (wgt d6)) :
    bodyPre m c t ⊢ wp frame (wpE (defs₀ (F := F)) Variants.none c none) Set.univ (bodyAt0 t)
      (fun _ => bodyPost m c t (owns (c : Thread nD τ) (ms4 t) fullShare (outAt m c t))) :=
  sound m c t _ (fun _ => outAt m c t) wgt hw hrun fun _ => .rfl

theorem sound_first (c : Dev nD) (t : Fin cfg0.N) (ht : t.val < 8) :
    bodyPre m c t ⊢ wp frame (wpE (defs₀ (F := F)) Variants.none c none) Set.univ (bodyAt0 t)
      (fun _ => bodyPost m c t iprop(∃ d, owns (c : Thread nD τ) (ms4 t) fullShare ((dats m 0 c).before 4 t d))) :=
  sound m c t _ id _ (fun d h => fill_inv m c t d h)
    (fun d3 d6 _ => runA _ _ _ _ _ d3 d6 ((cond1 t).2 (by omega)) fun h => absurd ((cond2 t).1 h) (by omega))
    fun d => by iintro H; iexists d; iexact H

theorem sound_mid (c : Dev nD) (t : Fin cfg0.N) (ht : 8 ≤ t.val) (ht' : t.val < 64) :
    bodyPre m c t ⊢ wp frame (wpE (defs₀ (F := F)) Variants.none c none) Set.univ (bodyAt0 t)
      (fun _ => bodyPost m c t (owns (c : Thread nD τ) (ms4 t) fullShare (outAt m c t))) :=
  sound_out m c t _ (fun d h => fill_inv m c t d h) fun d3 d6 hd => by
    have e := runB (grid0.coords t) (iblk m c 0 t) (iblk m c 1 t) (iblk m c 2 t) (iblk m c 3 t) d3 d6 ((cond1 t).2 ht') ((cond2 t).2 ht)
    rwa [slabs m c t ht _ _ _ (Nat.le_succ _) le_rfl (fill_inv m c t d6 hd)] at e

theorem sound_last (c : Dev nD) (t : Fin cfg0.N) (ht : 64 ≤ t.val) :
    bodyPre m c t ⊢ wp frame (wpE (defs₀ (F := F)) Variants.none c none) Set.univ (bodyAt0 t)
      (fun _ => bodyPost m c t (owns (c : Thread nD τ) (ms4 t) fullShare (outAt m c t))) :=
  sound_out m c t id (fun d h => Slots.inv_skip 8 8 (.inl ⟨rfl, rfl⟩) _ d _ ht h) fun d3 d6 hd => by
    have e := runC (grid0.coords t) (iblk m c 0 t) (iblk m c 1 t) (iblk m c 2 t) (iblk m c 3 t) d3 d6 (fun h => absurd ((cond1 t).1 h) (by omega)) ((cond2 t).2 (by omega))
    rwa [slabs m c t (by omega) _ _ _ le_rfl (Nat.le_succ _) hd] at e

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases ht : t.val < 8
  · rw [idle4, flush4, decide_eq_true ht, decide_eq_false (by omega : ¬ 8 ≤ t.val)]
    exact triple_restated (sound_first m c t ht) rfl .rfl fun _ => .rfl
  · rw [idle4, decide_eq_false ht]
    by_cases h1 : t.val < 64
    · exact triple_restated (sound_mid m c t (by omega) h1) rfl .rfl fun _ => .rfl
    · exact triple_restated (sound_last m c t (by omega)) rfl .rfl fun _ => .rfl

/-! ## The run -/

theorem hin (c : Dev nD) : Pipeline.ΦA spec0 c ⊢ (dats (F := F) m 0 c).Φ 0 := by
  rw [PhiA0_eq]
  show _ ⊢ PhiAt m c 0
  unfold PhiAt
  iintro ⟨⟨%d6, S6⟩, Hg⟩
  isplitl [S6]
  · iexists d6
    isplitr
    · ipureintro; exact Slots.inv_zero _ _ _ _
    iexact S6
  iexact Hg

theorem hout (c : Dev nD) : (dats (F := F) m 0 c).Φ (Fin.last cfg0.N) ⊢ Pipeline.ΦA spec0 c := by
  rw [PhiA0_eq]
  show PhiAt m c _ ⊢ _
  unfold PhiAt
  iintro ⟨⟨%d6, %hd, S6⟩, Hg⟩
  isplitl [S6]
  · iexists d6; iexact S6
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ w => by match w with | 0 => rfl | 1 => rfl | 2 => rfl | 3 => rfl | 4 => rfl)
    (howed := fun _ _ => rfl) (V := V m) (hmain := hmain m Variants.none) (hA := A_eq m) (hin := hin m) (hout := hout m)

/-- The arguments are as launched. -/
theorem kept {r} (h : (Pipeline.FramePost cfgs (dats m) 0 (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2)),
    ((h c).1 3).trans (((dats m 0 c).arrAt_in 3 rfl _).trans (A_eq m c 3))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨kept m h.1, h.2⟩) (run_main_quiescent m ρ)

end Cert.Proof.Proj

end
-- ==== Proof.ProjValue.lean ====
/- The output projection's result, entry by entry, over the reals. -/
module

public import proofs.«01_k».proof.Proof.ProjFrame
public import proofs.«01_k».proof.Proof.MidAt

@[expose] public section

set_option maxRecDepth 16384

noncomputable section

namespace Cert.Proof.Proj

open Cert.Kernel9Ideal Cert.Kernel9Ideal.Gen
open Idealize.ShloMosaic Idealize.ShloMosaic.TcCoe Idealize.ShloMosaic.Tactic Idealize.SL.Sem
open Cert.Proof.Mid (topX botX topR botR mod0 mod1 mod2 prod pick pick_eq put_halves topX_at botX_at topR_at botR_at mod0_at mod1_at mod2_at)

/-! ## The stored payloads -/

theorem pay1_at (x : FVec Ideal S1x512x512 .f32) (i j : Fin 512) : k0_pay1 (F := Ideal) x (ix3 0 i j) = x (ix3 0 i j) := by
  pointwise [k0_pay1]
theorem pay3_at (x : FVec Ideal S544x4096 .bf16) (w : FVec Ideal S1x4096x512 .bf16) (r : Fin 544) (q : Fin 512) : k0_pay3 (F := Ideal) x w (ix2 r q) = prod x w r q := by
  pointwise [k0_pay3, prod]
theorem pay8_at (x : FVec Ideal S544x4096 .bf16) (w : FVec Ideal S1x4096x512 .bf16) (r : Fin 544) (q : Fin 512) : k0_pay8 (F := Ideal) x w (ix2 r q) = prod x w r q := by
  pointwise [k0_pay8, prod]
theorem pay7_at (a b : BitVec 32) (s v : FVec Ideal S544x512 .f32) (m2 m1 m0 : FVec Ideal S1x512 .f32) (r : Fin 544) (q : Fin 512) :
    k0_pay7 (F := Ideal) s v (k0_pay5 a b m2 m1) (k0_pay6 a b) m0 (ix2 r q)
      = v (ix2 r q) + pick (Scalar.addi (Scalar.muli a 8#32) b) 0#32 r (m0 (ix2 0 q)) (m1 (ix2 0 q)) (m2 (ix2 0 q)) * s (ix2 r q) := by
  pointwise [k0_pay7, k0_pay5, k0_pay6, k0_pay4, pick]
theorem pay2_at (a b : BitVec 32) (s v : FVec Ideal S544x512 .f32) (m2 m1 m0 : FVec Ideal S1x512 .f32) (r : Fin 544) (q : Fin 512) :
    k0_pay2 (F := Ideal) s v (k0_pay10 a b m2 m1) m0 (k0_pay11 a b) (ix2 r q)
      = v (ix2 r q) + pick (Scalar.addi (Scalar.muli a 8#32) b) 544#32 r (m0 (ix2 0 q)) (m1 (ix2 0 q)) (m2 (ix2 0 q)) * s (ix2 r q) := by
  pointwise [k0_pay2, k0_pay10, k0_pay11, k0_pay9, pick]

/-- A block's number from the grid's two coordinates. -/
theorem block_no : ∀ (a : Fin 1) (b : Fin 8), b.val < 8 ∧ Scalar.addi (Scalar.muli (BitVec.ofNat 32 a.val) 8#32) (BitVec.ofNat 32 b.val) = BitVec.ofNat 32 b.val := by decide +kernel

/-- An entry of the output's block: the residual and the gated product. -/
theorem outU_at (i : grid0.Coords) (x0 : FVec Ideal S1088x4096 .bf16) (x2 : FVec Ideal S1088x512 .f32) (x3 : FVec Ideal S8x512 .f32) (w : FVec Ideal S1x4096x512 .bf16)
    (y : Fin 1088) (q : Fin 512) (R : Fin 8704) (hR : R.val = 1088 * (i 2).val + y.val) :
    (outU (F := Ideal) i x0 x2 x3 w : FVec Ideal S1088x512 .f32) (ix2 y q)
      = x2 (ix2 y q) + x3 (ix2 ⟨R.val / 4096, by omega⟩ q) * ∑ k : Fin 4096, x0 (ix2 y k) * w (ix3 0 k q) := by
  unfold outU
  refine put_halves _ _ _ y q _ (fun r hr => ?_) (fun r hr => ?_)
  · rw [pay7_at, pay3_at, topR_at, mod0_at, mod1_at, mod2_at]
    unfold prod
    simp only [topX_at, ← hr]
    exact congrArg (fun z => x2 (ix2 y q) + z * _) (pick_eq (block_no (i 0) (i 2)) 0 r R (by rw [hR, hr]; simp only [Fin.val_zero]; omega) (fun k => x3 (ix2 k q)))
  · rw [pay2_at, pay8_at, botR_at, mod0_at, mod1_at, mod2_at]
    unfold prod
    simp only [botX_at, ← hr]
    exact congrArg (fun z => x2 (ix2 y q) + z * _) (pick_eq (block_no (i 0) (i 2)) 1 r R (by rw [hR, hr]; simp only [Fin.val_one]) (fun k => x3 (ix2 k q)))

/-! ## The value -/

/-- An entry of the result: the residual and the gated sum. -/
def val (x : FVec Ideal ⟨2, ![8704, 4096]⟩ .bf16) (w : FVec Ideal ⟨3, ![1, 4096, 4096]⟩ .f32) (h : FVec Ideal ⟨2, ![8704, 4096]⟩ .f32)
    (g : FVec Ideal ⟨2, ![8, 24576]⟩ .f32) (r : Fin 8704) (q : Fin 4096) : EReal :=
  h (ix2 r q) + g (ix2 ⟨r.val / 4096, by omega⟩ ⟨8192 + q.val, by omega⟩) * ∑ k : Fin 4096, x (ix2 r k) * w (ix3 0 k q)

/-- The result. -/
def G (x : FVec Ideal ⟨2, ![8704, 4096]⟩ .bf16) (w : FVec Ideal ⟨3, ![1, 4096, 4096]⟩ .f32) (h : FVec Ideal ⟨2, ![8704, 4096]⟩ .f32)
    (g : FVec Ideal ⟨2, ![8, 24576]⟩ .f32) : FVec Ideal S8704x4096 .f32 := fun i =>
  val x w h g ⟨(i 0 : ℕ) % 8704, by omega⟩ ⟨(i 1 : ℕ) % 4096, by omega⟩

/-! ## The blocks -/

theorem idx0 : ∀ t : Fin cfg0.N, 8 ≤ t.val → win0_0.index t = ![t.val % 8, 0] ∧ win0_2.index t = ![t.val % 8, t.val / 8 - 1] ∧ win0_4.index t = ![t.val % 8, t.val / 8 - 1]
      ∧ win0_3.index t = ![0, 16 + (t.val / 8 - 1)] :=
  (by decide +kernel : ∀ t : Fin grid0.N, 8 ≤ t.val → win0_0.index t = ![t.val % 8, 0] ∧ win0_2.index t = ![t.val % 8, t.val / 8 - 1] ∧ win0_4.index t = ![t.val % 8, t.val / 8 - 1]
      ∧ win0_3.index t = ![0, 16 + (t.val / 8 - 1)])
theorem idx1 : ∀ t : Fin cfg0.N, t.val < 64 → win0_1.index t = ![0, t.val % 8, t.val / 8] :=
  (by decide +kernel : ∀ t : Fin grid0.N, t.val < 64 → win0_1.index t = ![0, t.val % 8, t.val / 8])

variable (m : (ℓ : Loc nD τ sig) → Buf (Elt Ideal) ℓ) (c : Dev nD) (t : Fin cfg0.N)

def att : FVec Ideal S8704x4096 .bf16 := m ((c.tc : Thread nD τ).loc main_arg0)
def wgt : FVec Ideal S1x4096x4096 .f32 := m ((c.tc : Thread nD τ).loc main_arg1)
def res : FVec Ideal S8704x4096 .f32 := m ((c.tc : Thread nD τ).loc main_arg2)
def mod : FVec Ideal S8x24576 .f32 := m ((c.tc : Thread nD τ).loc main_arg3)

theorem blk0 (ht : 8 ≤ t.val) (y : Fin 1088) (k : Fin 4096) :
    (iblk (F := Ideal) m c 0 t : FVec Ideal S1088x4096 .bf16) (ix2 y k) = att m c (ix2 ⟨1088 * (t.val % 8) + y, by omega⟩ k) := by
  show _ = (V m c main_arg0 : FVec Ideal S8704x4096 .bf16) _
  blk_ext [iblk, (idx0 t ht).1]
theorem blk1 (ht : t.val < 64) (i j : Fin 512) : (iblk (F := Ideal) m c 1 t : FVec Ideal S1x512x512 .f32) (ix3 0 i j)
    = wgt m c (ix3 0 ⟨512 * (t.val % 8) + i.val, by omega⟩ ⟨512 * (t.val / 8) + j, by omega⟩) := by
  show _ = (V m c main_arg1 : FVec Ideal S1x4096x4096 .f32) _
  blk_ext [iblk, idx1 t ht]
theorem blk2 (ht : 8 ≤ t.val) (y : Fin 1088) (q : Fin 512) : (iblk (F := Ideal) m c 2 t : FVec Ideal S1088x512 .f32) (ix2 y q)
    = res m c (ix2 ⟨1088 * (t.val % 8) + y, by omega⟩ ⟨512 * (t.val / 8 - 1) + q, by have := N_lt t; omega⟩) := by
  show _ = (V m c main_arg2 : FVec Ideal S8704x4096 .f32) _
  blk_ext [iblk, (idx0 t ht).2.1]
theorem blk3 (ht : 8 ≤ t.val) (y : Fin 8) (q : Fin 512) : (iblk (F := Ideal) m c 3 t : FVec Ideal S8x512 .f32) (ix2 y q)
    = mod m c (ix2 y ⟨8192 + (512 * (t.val / 8 - 1) + q), by have := N_lt t; omega⟩) := by
  show _ = (V m c main_arg3 : FVec Ideal S8x24576 .f32) _
  blk_ext [iblk, (idx0 t ht).2.2.2]

/-- A slot holds a step's columns of the weights. -/
theorem slab_at (T : ℕ) (hT : T < 8) (k : Fin 4096) (q : Fin 512) :
    slabOf (F := Ideal) (wB m c) T (ix3 0 k q) = wgt m c (ix3 0 k ⟨512 * T + q, by omega⟩) := by
  show k0_pay1 (F := Ideal) (iblk m c 1 (at_ (8 * T + k.val / 512))) (ix3 (0 : Fin 1) (⟨k.val % 512, Nat.mod_lt _ (by decide)⟩ : Fin 512) q) = _
  have e : (at_ (8 * T + k.val / 512)).val = 8 * T + k.val / 512 := Nat.mod_eq_of_lt (by omega)
  refine (pay1_at _ _ _).trans ?_
  rw [blk1 m c _ (by omega)]
  congr 2 <;> ext <;> simp only [e] <;> omega

/-- What a storing point leaves in the output's block. -/
theorem point (ht : 8 ≤ t.val) (y : Fin 1088) (q : Fin 512) :
    (outAt (F := Ideal) m c t : FVec Ideal S1088x512 .f32) (ix2 y q)
      = val (att m c) (wgt m c) (res m c) (mod m c) ⟨1088 * (t.val % 8) + y, by omega⟩ ⟨512 * (t.val / 8 - 1) + q, by have := N_lt t; omega⟩ := by
  have hl := N_lt t
  unfold outAt
  rw [outU_at _ _ _ _ _ y q ⟨1088 * (t.val % 8) + y, by omega⟩ (by rw [(coords t).2.2]), blk2 m c t ht, blk3 m c t ht]
  simp only [blk0 m c t ht, slab_at m c _ (by omega : t.val / 8 - 1 < 8)]
  rfl

/-- The result array, after the run. -/
theorem final (i : S8704x4096.Idx) : (dats m 0 c).arrAt 4 (cfgs 0).N i = G (att m c) (wgt m c) (res m c) (mod m c) i := by
  refine ((dats m 0 c).arrAt_apply_of_coversWhere 4 (G (att m c) (wgt m c) (res m c) (mod m c)) (P := fun i : S8704x4096.Idx => True) (fun β => True) (by decide +kernel) (fun t hf y => ?_)
    (fun j => by blk_simp [Pipeline.Window.cell_apply]) i).trans (if_pos trivial)
  rw [flush4] at hf
  have ht : 8 ≤ t.val := of_decide_eq_true hf
  blk_simp
  rw [after_4]
  have hl := N_lt t
  have l0 : (y 0 : ℕ) < 1088 := ((cfg0.win 4).xinj (cfg0.grid.coords t) y 0).isLt
  have l1 : (y 1 : ℕ) < 512 := ((cfg0.win 4).xinj (cfg0.grid.coords t) y 1).isLt
  have e : (cfg0.win 4).xinj (cfg0.grid.coords t) y = (ix2 ⟨y 0, l0⟩ ⟨y 1, l1⟩ : S1088x512.Idx) := by
    funext a; fin_cases a <;> rfl
  have g0 : (((win0_4.blk t).view.emb y : S8704x4096.Idx) 0 : ℕ) = 1088 * (t.val % 8) + y 0 := by blk_simp [(idx0 t ht).2.2.1]; ring
  have g1 : (((win0_4.blk t).view.emb y : S8704x4096.Idx) 1 : ℕ) = 512 * (t.val / 8 - 1) + y 1 := by blk_simp [(idx0 t ht).2.2.1]; ring
  refine (congrArg (outAt m c t) e).trans ((point m c t ht _ _).trans ?_)
  unfold G
  congr 1 <;> ext <;> simp only [g0, g1] <;> omega

end Cert.Proof.Proj

end
-- ==== Proof.ProjRef.lean ====
/- The output projection of the reference, entry by entry. -/
module

public import proofs.«01_k».proof.Proof.Gen.Reference9Ideal.Run
public import proofs.«01_k».proof.Proof.ProjValue
public import proofs.«01_k».proof.Proof.MidRef

@[expose] public section

set_option maxRecDepth 16384

noncomputable section

namespace Cert.Proof.ProjRef

open Cert.Reference9Ideal Cert.Reference9Ideal.Gen Cert.Reference9Ideal.Value Idealize.ShloMosaic Idealize.ShloMosaic.TcCoe Idealize.SL.Sem
open Cert.Reference9Ideal.Facts
open Cert.Proof.Proj (val G)
open Cert.Proof.MidRef (gated gated_at)

section
variable {F : FTy → Type} [FloatOps F]

/-- Every row times the weights. -/
def dots (x : FVec F S8704x4096 .bf16) (w : FVec F S1x4096x4096 .f32) : FVec F S8704x4096 .f32 :=
  Host.dotGeneral dot_S8704x4096_S4096x4096_S8704x4096_1_0_0_1_n_n none (extf .f32 x bitsLt_bf16_f32) (shapeCast _ w shapeCasts_S1x4096x4096_S4096x4096)

/-- All rows, the gates read off the modulation. -/
def both (h d : FVec F S8704x4096 .f32) (g : FVec F S8x24576 .f32) : FVec F S8704x4096 .f32 :=
  gated h d (extractStridedSlice S2x4096 ![0, 8192] g slices_S8x24576_S2x4096_0_8192) (extractStridedSlice S1x4096 ![2, 8192] g slices_S8x24576_S1x4096_2_8192)
end

theorem dots_at (x : FVec Ideal S8704x4096 .bf16) (w : FVec Ideal S1x4096x4096 .f32) (r : Fin 8704) (q : Fin 4096) :
    dots (F := Ideal) x w (ix2 r q) = ∑ k : Fin 4096, x (ix2 r k) * w (ix3 0 k q) := by
  pointwise [dots]

theorem both_at (h d : FVec Ideal S8704x4096 .f32) (g : FVec Ideal S8x24576 .f32) (r : Fin 8704) (q : Fin 4096) :
    both (F := Ideal) h d g (ix2 r q) = h (ix2 r q) + g (ix2 ⟨r.val / 4096, by omega⟩ ⟨8192 + q.val, by omega⟩) * d (ix2 r q) :=
  gated_at h d _ _ (fun s => g (ix2 s ⟨8192 + q.val, by omega⟩)) r q (fun s => by pointwise) (by pointwise)

/-- The reference's result is the kernel's. -/
theorem res (x : FVec Ideal S8704x4096 .bf16) (w : FVec Ideal S1x4096x4096 .f32) (h : FVec Ideal S8704x4096 .f32) (g : FVec Ideal S8x24576 .f32) :
    both (F := Ideal) h (dots x w) g = G x w h g := by
  funext i
  have l0 : (i 0 : ℕ) < 8704 := (i 0).isLt
  have l1 : (i 1 : ℕ) < 4096 := (i 1).isLt
  have e : i = (ix2 ⟨(i 0 : ℕ) % 8704, by omega⟩ ⟨(i 1 : ℕ) % 4096, by omega⟩ : S8704x4096.Idx) := by
    funext a
    match a with
    | 0 => exact Fin.ext (Nat.mod_eq_of_lt l0).symm
    | 1 => exact Fin.ext (Nat.mod_eq_of_lt l1).symm
  refine (congrArg (both (F := Ideal) h (dots x w) g) e).trans ?_
  rw [both_at]
  unfold G val
  simp only [dots_at]

end Cert.Proof.ProjRef

end
-- ==== Proof.Proj.lean ====
module

public import proofs.«01_k».proof.Defs
public import proofs.«01_k».proof.Proof.ProjRef
public import proofs.«01_k».proof.Proof.Gen.Kernel9
public import Idealize.ShloMosaic.Lib.Quiescent

@[expose] public section

set_option maxRecDepth 16384

noncomputable section

/-! # The claims about the output projection -/

namespace Cert.Proof.Outputs

open Idealize.ShloMosaic Idealize.ShloMosaic.TcCoe Idealize.SL.Sem

attribute [local instance] Cert.Kernel9.Gen.facts Cert.Kernel9Ideal.Gen.facts Cert.Reference9Ideal.Gen.facts

/-- The two programs' bodies are one text. -/
theorem body_eq : Cert.Kernel9.defs₀ (F := Bits) = Cert.Kernel9Ideal.defs₀ (F := Bits) := by
  unfold Cert.Kernel9.defs₀ Cert.Kernel9Ideal.defs₀
  refine congrArg Defs.onTc ?_
  funext l x
  match l, x with
  | 0, (t, s) => rfl

theorem defs_eq : Cert.Kernel9.defs (F := Bits) = Cert.Kernel9Ideal.defs (F := Bits) := by
  unfold Cert.Kernel9.defs Cert.Kernel9Ideal.defs
  rw [body_eq]
  rfl

theorem frame : Cert.quiescent_Kernel9 := fun m ρ _ => by
  rw [defs_eq]
  exact (θ_run Cert.Kernel9Ideal.defs _ _).mono (fun _ h => h) (Proj.frame (F := Bits) m ρ)

theorem frame_ideal : Cert.quiescent_Kernel9Ideal := fun m ρ _ => Proj.frame (F := Ideal) m ρ

theorem frame_ref : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)

theorem algebraic : Cert.algebraic_Kernel9Ideal_Reference9Ideal := by
  intro m ρ m' ρ' _ hagree
  refine ⟨fun c => Proj.G (Proj.att m c) (Proj.wgt m c) (Proj.res m c) (Proj.mod m c), ?_, ?_⟩
  · exact (θ_run Cert.Kernel9Ideal.defs _ _).mono
      (fun _ h c => ⟨((h.1 c).1 4).trans (funext (Proj.final m c)), Proj.kept m h.1 c⟩)
      (Proj.run_main_quiescent (F := Ideal) m ρ)
  · refine (θ_run Cert.Reference9Ideal.defs _ _).mono (fun _ h c => ⟨(h c).1.trans ?_, (h c).2⟩)
      (Cert.Reference9Ideal.Value.run (F := Ideal) m' ρ')
    obtain ⟨e0, e1, e2, e3⟩ := hagree c
    rw [e0, e1, e2, e3]
    exact ProjRef.res (Proj.att m c) (Proj.wgt m c) (Proj.res m c) (Proj.mod m c)

end Cert.Proof.Outputs

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_queries_and_keys
public import proofs.«01_k».proof.Proof.Gen.On_latent_rows
public import proofs.«01_k».proof.Proof.Attend
public import proofs.«01_k».proof.Proof.Up
public import proofs.«01_k».proof.Proof.Dense
public import proofs.«01_k».proof.Proof.Down
public import proofs.«01_k».proof.Proof.Mid
public import proofs.«01_k».proof.Proof.Fold
public import proofs.«01_k».proof.Proof.Last
public import proofs.«01_k».proof.Proof.Qkv
public import proofs.«01_k».proof.Proof.Proj
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Reference9Ideal
public import proofs.«01_k».proof.Proof.Gen.Reference9Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts,
  Kernel8.Gen.facts, Kernel8Ideal.Gen.facts, Reference8Ideal.Gen.facts, Kernel9.Gen.facts, Kernel9Ideal.Gen.facts, Reference9Ideal.Gen.facts,
  Cert.Pre_finite_queries_and_keys.Gen.facts, Cert.On_latent_rows.Gen.facts,
  Attend.frame, Attend.frame_ideal, Attend.frame_ideal_pre, Attend.frame_ref, Attend.frame_ref_pre,
  Hidden.frame, Hidden.frame_ideal, Hidden.frame_ref, DenseHidden.frame, DenseHidden.frame_ideal, DenseHidden.frame_ref,
  LastHidden.frame, LastHidden.frame_ideal, LastHidden.frame_ref,
  DownHidden.frame, DownHidden.frame_ideal, DownHidden.frame_ref, MidHidden.frame, MidHidden.frame_ideal, MidHidden.frame_ref, FoldHidden.frame, FoldHidden.frame_ideal, FoldHidden.frame_ref,
  QkvHeads.frame, QkvHeads.frame_ideal, QkvHeads.frame_ref, Outputs.frame, Outputs.frame_ideal, Outputs.frame_ref,
  trivial, Attend.algebraic, trivial, Hidden.algebraic, trivial, DenseHidden.algebraic, trivial, LastHidden.algebraic, trivial, DownHidden.algebraic, trivial, MidHidden.algebraic, trivial, FoldHidden.algebraic,
  trivial, QkvHeads.algebraic, trivial, Outputs.algebraic⟩

end Cert.Proof

end
